-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_CatBwd (m : (ℓ : Loc Cert.CatBwd.nD Cert.CatBwd.τ Cert.CatBwd.sig) → Buf (Elt Bits) ℓ) : Prop :=
  True

def Pre_CatBwdIdeal (m : (ℓ : Loc Cert.CatBwdIdeal.nD Cert.CatBwdIdeal.τ Cert.CatBwdIdeal.sig) → Buf (Elt Ideal) ℓ) : Prop :=
  True

def Pre_CatBwdRefIdeal (m : (ℓ : Loc Cert.CatBwdRefIdeal.nD Cert.CatBwdRefIdeal.τ Cert.CatBwdRefIdeal.sig) → Buf (Elt Ideal) ℓ) : Prop :=
  True

def Pre_MidBwd (m : (ℓ : Loc Cert.MidBwd.nD Cert.MidBwd.τ Cert.MidBwd.sig) → Buf (Elt Bits) ℓ) : Prop :=
  True

def Pre_MidBwdIdeal (m : (ℓ : Loc Cert.MidBwdIdeal.nD Cert.MidBwdIdeal.τ Cert.MidBwdIdeal.sig) → Buf (Elt Ideal) ℓ) : Prop :=
  True

def Pre_MidBwdRefIdeal (m : (ℓ : Loc Cert.MidBwdRefIdeal.nD Cert.MidBwdRefIdeal.τ Cert.MidBwdRefIdeal.sig) → Buf (Elt Ideal) ℓ) : Prop :=
  True

def Pre_FirstBwd (m : (ℓ : Loc Cert.FirstBwd.nD Cert.FirstBwd.τ Cert.FirstBwd.sig) → Buf (Elt Bits) ℓ) : Prop :=
  True

def Pre_FirstBwdIdeal (m : (ℓ : Loc Cert.FirstBwdIdeal.nD Cert.FirstBwdIdeal.τ Cert.FirstBwdIdeal.sig) → Buf (Elt Ideal) ℓ) : Prop :=
  True

def Pre_FirstBwdRefIdeal (m : (ℓ : Loc Cert.FirstBwdRefIdeal.nD Cert.FirstBwdRefIdeal.τ Cert.FirstBwdRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamWide (m : (ℓ : Loc Cert.AdamWide.nD Cert.AdamWide.τ Cert.AdamWide.sig) → Buf (Elt Bits) ℓ) : Prop :=
  True

def Pre_AdamWideIdeal (m : (ℓ : Loc Cert.AdamWideIdeal.nD Cert.AdamWideIdeal.τ Cert.AdamWideIdeal.sig) → Buf (Elt Ideal) ℓ) : Prop :=
  True

def Pre_AdamWideRefIdeal (m : (ℓ : Loc Cert.AdamWideRefIdeal.nD Cert.AdamWideRefIdeal.τ Cert.AdamWideRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_CatNorm (m : (ℓ : Loc Cert.CatNorm.nD Cert.CatNorm.τ Cert.CatNorm.sig) → Buf (Elt Bits) ℓ) : Prop :=
  True

def Pre_CatNormIdeal (m : (ℓ : Loc Cert.CatNormIdeal.nD Cert.CatNormIdeal.τ Cert.CatNormIdeal.sig) → Buf (Elt Ideal) ℓ) : Prop :=
  True

def Pre_CatNormRefIdeal (m : (ℓ : Loc Cert.CatNormRefIdeal.nD Cert.CatNormRefIdeal.τ Cert.CatNormRefIdeal.sig) → Buf (Elt Ideal) ℓ) : Prop :=
  True

def Pre_MidFwd (m : (ℓ : Loc Cert.MidFwd.nD Cert.MidFwd.τ Cert.MidFwd.sig) → Buf (Elt Bits) ℓ) : Prop :=
  True

def Pre_MidFwdIdeal (m : (ℓ : Loc Cert.MidFwdIdeal.nD Cert.MidFwdIdeal.τ Cert.MidFwdIdeal.sig) → Buf (Elt Ideal) ℓ) : Prop :=
  True

def Pre_MidFwdRefIdeal (m : (ℓ : Loc Cert.MidFwdRefIdeal.nD Cert.MidFwdRefIdeal.τ Cert.MidFwdRefIdeal.sig) → Buf (Elt Ideal) ℓ) : Prop :=
  True

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_CatBwd [hCatBwd : Cert.CatBwd.Facts] : Prop :=
  ∀ (m : (ℓ : Loc Cert.CatBwd.nD Cert.CatBwd.τ Cert.CatBwd.sig) → Buf (Elt Bits) ℓ) (g : Dev Cert.CatBwd.nD → PrngReg), Pre_CatBwd m →
    θ_run (Cert.CatBwd.defs (F := Bits)) (onTc (τ := Cert.CatBwd.τ) (Cert.CatBwd.main (F := Bits))) ⟨m, fun _ => 0, g⟩ (fun r => (∀ c : Dev Cert.CatBwd.nD,
      r.2.mem ((c.tc : Thread Cert.CatBwd.nD Cert.CatBwd.τ).loc Cert.CatBwd.main_arg0) = m ((c.tc : Thread Cert.CatBwd.nD Cert.CatBwd.τ).loc Cert.CatBwd.main_arg0)
      ∧ r.2.mem ((c.tc : Thread Cert.CatBwd.nD Cert.CatBwd.τ).loc Cert.CatBwd.main_arg1) = m ((c.tc : Thread Cert.CatBwd.nD Cert.CatBwd.τ).loc Cert.CatBwd.main_arg1)
      ∧ r.2.mem ((c.tc : Thread Cert.CatBwd.nD Cert.CatBwd.τ).loc Cert.CatBwd.main_arg2) = m ((c.tc : Thread Cert.CatBwd.nD Cert.CatBwd.τ).loc Cert.CatBwd.main_arg2)
      ∧ r.2.mem ((c.tc : Thread Cert.CatBwd.nD Cert.CatBwd.τ).loc Cert.CatBwd.main_arg3) = m ((c.tc : Thread Cert.CatBwd.nD Cert.CatBwd.τ).loc Cert.CatBwd.main_arg3)
      ∧ r.2.mem ((c.tc : Thread Cert.CatBwd.nD Cert.CatBwd.τ).loc Cert.CatBwd.main_arg4) = m ((c.tc : Thread Cert.CatBwd.nD Cert.CatBwd.τ).loc Cert.CatBwd.main_arg4))
      ∧ r.2.sem = fun _ => 0)

def quiescent_CatBwdIdeal [hCatBwdIdeal : Cert.CatBwdIdeal.Facts] : Prop :=
  ∀ (m : (ℓ : Loc Cert.CatBwdIdeal.nD Cert.CatBwdIdeal.τ Cert.CatBwdIdeal.sig) → Buf (Elt Ideal) ℓ) (g : Dev Cert.CatBwdIdeal.nD → PrngReg), Pre_CatBwdIdeal m →
    θ_run (Cert.CatBwdIdeal.defs (F := Ideal)) (onTc (τ := Cert.CatBwdIdeal.τ) (Cert.CatBwdIdeal.main (F := Ideal))) ⟨m, fun _ => 0, g⟩ (fun r => (∀ c : Dev Cert.CatBwdIdeal.nD,
      r.2.mem ((c.tc : Thread Cert.CatBwdIdeal.nD Cert.CatBwdIdeal.τ).loc Cert.CatBwdIdeal.main_arg0) = m ((c.tc : Thread Cert.CatBwdIdeal.nD Cert.CatBwdIdeal.τ).loc Cert.CatBwdIdeal.main_arg0)
      ∧ r.2.mem ((c.tc : Thread Cert.CatBwdIdeal.nD Cert.CatBwdIdeal.τ).loc Cert.CatBwdIdeal.main_arg1) = m ((c.tc : Thread Cert.CatBwdIdeal.nD Cert.CatBwdIdeal.τ).loc Cert.CatBwdIdeal.main_arg1)
      ∧ r.2.mem ((c.tc : Thread Cert.CatBwdIdeal.nD Cert.CatBwdIdeal.τ).loc Cert.CatBwdIdeal.main_arg2) = m ((c.tc : Thread Cert.CatBwdIdeal.nD Cert.CatBwdIdeal.τ).loc Cert.CatBwdIdeal.main_arg2)
      ∧ r.2.mem ((c.tc : Thread Cert.CatBwdIdeal.nD Cert.CatBwdIdeal.τ).loc Cert.CatBwdIdeal.main_arg3) = m ((c.tc : Thread Cert.CatBwdIdeal.nD Cert.CatBwdIdeal.τ).loc Cert.CatBwdIdeal.main_arg3)
      ∧ r.2.mem ((c.tc : Thread Cert.CatBwdIdeal.nD Cert.CatBwdIdeal.τ).loc Cert.CatBwdIdeal.main_arg4) = m ((c.tc : Thread Cert.CatBwdIdeal.nD Cert.CatBwdIdeal.τ).loc Cert.CatBwdIdeal.main_arg4))
      ∧ r.2.sem = fun _ => 0)

def quiescent_CatBwdRefIdeal [hCatBwdRefIdeal : Cert.CatBwdRefIdeal.Facts] : Prop :=
  ∀ (m : (ℓ : Loc Cert.CatBwdRefIdeal.nD Cert.CatBwdRefIdeal.τ Cert.CatBwdRefIdeal.sig) → Buf (Elt Ideal) ℓ) (g : Dev Cert.CatBwdRefIdeal.nD → PrngReg), Pre_CatBwdRefIdeal m →
    θ_run (Cert.CatBwdRefIdeal.defs (F := Ideal)) (onTc (τ := Cert.CatBwdRefIdeal.τ) (Cert.CatBwdRefIdeal.main (F := Ideal))) ⟨m, fun _ => 0, g⟩ (fun r => (∀ c : Dev Cert.CatBwdRefIdeal.nD,
      r.2.mem ((c.tc : Thread Cert.CatBwdRefIdeal.nD Cert.CatBwdRefIdeal.τ).loc Cert.CatBwdRefIdeal.main_arg0) = m ((c.tc : Thread Cert.CatBwdRefIdeal.nD Cert.CatBwdRefIdeal.τ).loc Cert.CatBwdRefIdeal.main_arg0)
      ∧ r.2.mem ((c.tc : Thread Cert.CatBwdRefIdeal.nD Cert.CatBwdRefIdeal.τ).loc Cert.CatBwdRefIdeal.main_arg1) = m ((c.tc : Thread Cert.CatBwdRefIdeal.nD Cert.CatBwdRefIdeal.τ).loc Cert.CatBwdRefIdeal.main_arg1)
      ∧ r.2.mem ((c.tc : Thread Cert.CatBwdRefIdeal.nD Cert.CatBwdRefIdeal.τ).loc Cert.CatBwdRefIdeal.main_arg2) = m ((c.tc : Thread Cert.CatBwdRefIdeal.nD Cert.CatBwdRefIdeal.τ).loc Cert.CatBwdRefIdeal.main_arg2)
      ∧ r.2.mem ((c.tc : Thread Cert.CatBwdRefIdeal.nD Cert.CatBwdRefIdeal.τ).loc Cert.CatBwdRefIdeal.main_arg3) = m ((c.tc : Thread Cert.CatBwdRefIdeal.nD Cert.CatBwdRefIdeal.τ).loc Cert.CatBwdRefIdeal.main_arg3)
      ∧ r.2.mem ((c.tc : Thread Cert.CatBwdRefIdeal.nD Cert.CatBwdRefIdeal.τ).loc Cert.CatBwdRefIdeal.main_arg4) = m ((c.tc : Thread Cert.CatBwdRefIdeal.nD Cert.CatBwdRefIdeal.τ).loc Cert.CatBwdRefIdeal.main_arg4))
      ∧ r.2.sem = fun _ => 0)

def quiescent_MidBwd [hMidBwd : Cert.MidBwd.Facts] : Prop :=
  ∀ (m : (ℓ : Loc Cert.MidBwd.nD Cert.MidBwd.τ Cert.MidBwd.sig) → Buf (Elt Bits) ℓ) (g : Dev Cert.MidBwd.nD → PrngReg), Pre_MidBwd m →
    θ_run (Cert.MidBwd.defs (F := Bits)) (onTc (τ := Cert.MidBwd.τ) (Cert.MidBwd.main (F := Bits))) ⟨m, fun _ => 0, g⟩ (fun r => (∀ c : Dev Cert.MidBwd.nD,
      r.2.mem ((c.tc : Thread Cert.MidBwd.nD Cert.MidBwd.τ).loc Cert.MidBwd.main_arg0) = m ((c.tc : Thread Cert.MidBwd.nD Cert.MidBwd.τ).loc Cert.MidBwd.main_arg0)
      ∧ r.2.mem ((c.tc : Thread Cert.MidBwd.nD Cert.MidBwd.τ).loc Cert.MidBwd.main_arg1) = m ((c.tc : Thread Cert.MidBwd.nD Cert.MidBwd.τ).loc Cert.MidBwd.main_arg1)
      ∧ r.2.mem ((c.tc : Thread Cert.MidBwd.nD Cert.MidBwd.τ).loc Cert.MidBwd.main_arg2) = m ((c.tc : Thread Cert.MidBwd.nD Cert.MidBwd.τ).loc Cert.MidBwd.main_arg2)
      ∧ r.2.mem ((c.tc : Thread Cert.MidBwd.nD Cert.MidBwd.τ).loc Cert.MidBwd.main_arg3) = m ((c.tc : Thread Cert.MidBwd.nD Cert.MidBwd.τ).loc Cert.MidBwd.main_arg3)
      ∧ r.2.mem ((c.tc : Thread Cert.MidBwd.nD Cert.MidBwd.τ).loc Cert.MidBwd.main_arg4) = m ((c.tc : Thread Cert.MidBwd.nD Cert.MidBwd.τ).loc Cert.MidBwd.main_arg4)
      ∧ r.2.mem ((c.tc : Thread Cert.MidBwd.nD Cert.MidBwd.τ).loc Cert.MidBwd.main_arg5) = m ((c.tc : Thread Cert.MidBwd.nD Cert.MidBwd.τ).loc Cert.MidBwd.main_arg5)
      ∧ r.2.mem ((c.tc : Thread Cert.MidBwd.nD Cert.MidBwd.τ).loc Cert.MidBwd.main_arg6) = m ((c.tc : Thread Cert.MidBwd.nD Cert.MidBwd.τ).loc Cert.MidBwd.main_arg6)
      ∧ r.2.mem ((c.tc : Thread Cert.MidBwd.nD Cert.MidBwd.τ).loc Cert.MidBwd.main_arg7) = m ((c.tc : Thread Cert.MidBwd.nD Cert.MidBwd.τ).loc Cert.MidBwd.main_arg7)
      ∧ r.2.mem ((c.tc : Thread Cert.MidBwd.nD Cert.MidBwd.τ).loc Cert.MidBwd.main_arg8) = m ((c.tc : Thread Cert.MidBwd.nD Cert.MidBwd.τ).loc Cert.MidBwd.main_arg8))
      ∧ r.2.sem = fun _ => 0)

def quiescent_MidBwdIdeal [hMidBwdIdeal : Cert.MidBwdIdeal.Facts] : Prop :=
  ∀ (m : (ℓ : Loc Cert.MidBwdIdeal.nD Cert.MidBwdIdeal.τ Cert.MidBwdIdeal.sig) → Buf (Elt Ideal) ℓ) (g : Dev Cert.MidBwdIdeal.nD → PrngReg), Pre_MidBwdIdeal m →
    θ_run (Cert.MidBwdIdeal.defs (F := Ideal)) (onTc (τ := Cert.MidBwdIdeal.τ) (Cert.MidBwdIdeal.main (F := Ideal))) ⟨m, fun _ => 0, g⟩ (fun r => (∀ c : Dev Cert.MidBwdIdeal.nD,
      r.2.mem ((c.tc : Thread Cert.MidBwdIdeal.nD Cert.MidBwdIdeal.τ).loc Cert.MidBwdIdeal.main_arg0) = m ((c.tc : Thread Cert.MidBwdIdeal.nD Cert.MidBwdIdeal.τ).loc Cert.MidBwdIdeal.main_arg0)
      ∧ r.2.mem ((c.tc : Thread Cert.MidBwdIdeal.nD Cert.MidBwdIdeal.τ).loc Cert.MidBwdIdeal.main_arg1) = m ((c.tc : Thread Cert.MidBwdIdeal.nD Cert.MidBwdIdeal.τ).loc Cert.MidBwdIdeal.main_arg1)
      ∧ r.2.mem ((c.tc : Thread Cert.MidBwdIdeal.nD Cert.MidBwdIdeal.τ).loc Cert.MidBwdIdeal.main_arg2) = m ((c.tc : Thread Cert.MidBwdIdeal.nD Cert.MidBwdIdeal.τ).loc Cert.MidBwdIdeal.main_arg2)
      ∧ r.2.mem ((c.tc : Thread Cert.MidBwdIdeal.nD Cert.MidBwdIdeal.τ).loc Cert.MidBwdIdeal.main_arg3) = m ((c.tc : Thread Cert.MidBwdIdeal.nD Cert.MidBwdIdeal.τ).loc Cert.MidBwdIdeal.main_arg3)
      ∧ r.2.mem ((c.tc : Thread Cert.MidBwdIdeal.nD Cert.MidBwdIdeal.τ).loc Cert.MidBwdIdeal.main_arg4) = m ((c.tc : Thread Cert.MidBwdIdeal.nD Cert.MidBwdIdeal.τ).loc Cert.MidBwdIdeal.main_arg4)
      ∧ r.2.mem ((c.tc : Thread Cert.MidBwdIdeal.nD Cert.MidBwdIdeal.τ).loc Cert.MidBwdIdeal.main_arg5) = m ((c.tc : Thread Cert.MidBwdIdeal.nD Cert.MidBwdIdeal.τ).loc Cert.MidBwdIdeal.main_arg5)
      ∧ r.2.mem ((c.tc : Thread Cert.MidBwdIdeal.nD Cert.MidBwdIdeal.τ).loc Cert.MidBwdIdeal.main_arg6) = m ((c.tc : Thread Cert.MidBwdIdeal.nD Cert.MidBwdIdeal.τ).loc Cert.MidBwdIdeal.main_arg6)
      ∧ r.2.mem ((c.tc : Thread Cert.MidBwdIdeal.nD Cert.MidBwdIdeal.τ).loc Cert.MidBwdIdeal.main_arg7) = m ((c.tc : Thread Cert.MidBwdIdeal.nD Cert.MidBwdIdeal.τ).loc Cert.MidBwdIdeal.main_arg7)
      ∧ r.2.mem ((c.tc : Thread Cert.MidBwdIdeal.nD Cert.MidBwdIdeal.τ).loc Cert.MidBwdIdeal.main_arg8) = m ((c.tc : Thread Cert.MidBwdIdeal.nD Cert.MidBwdIdeal.τ).loc Cert.MidBwdIdeal.main_arg8))
      ∧ r.2.sem = fun _ => 0)

def quiescent_MidBwdRefIdeal [hMidBwdRefIdeal : Cert.MidBwdRefIdeal.Facts] : Prop :=
  ∀ (m : (ℓ : Loc Cert.MidBwdRefIdeal.nD Cert.MidBwdRefIdeal.τ Cert.MidBwdRefIdeal.sig) → Buf (Elt Ideal) ℓ) (g : Dev Cert.MidBwdRefIdeal.nD → PrngReg), Pre_MidBwdRefIdeal m →
    θ_run (Cert.MidBwdRefIdeal.defs (F := Ideal)) (onTc (τ := Cert.MidBwdRefIdeal.τ) (Cert.MidBwdRefIdeal.main (F := Ideal))) ⟨m, fun _ => 0, g⟩ (fun r => (∀ c : Dev Cert.MidBwdRefIdeal.nD,
      r.2.mem ((c.tc : Thread Cert.MidBwdRefIdeal.nD Cert.MidBwdRefIdeal.τ).loc Cert.MidBwdRefIdeal.main_arg0) = m ((c.tc : Thread Cert.MidBwdRefIdeal.nD Cert.MidBwdRefIdeal.τ).loc Cert.MidBwdRefIdeal.main_arg0)
      ∧ r.2.mem ((c.tc : Thread Cert.MidBwdRefIdeal.nD Cert.MidBwdRefIdeal.τ).loc Cert.MidBwdRefIdeal.main_arg1) = m ((c.tc : Thread Cert.MidBwdRefIdeal.nD Cert.MidBwdRefIdeal.τ).loc Cert.MidBwdRefIdeal.main_arg1)
      ∧ r.2.mem ((c.tc : Thread Cert.MidBwdRefIdeal.nD Cert.MidBwdRefIdeal.τ).loc Cert.MidBwdRefIdeal.main_arg2) = m ((c.tc : Thread Cert.MidBwdRefIdeal.nD Cert.MidBwdRefIdeal.τ).loc Cert.MidBwdRefIdeal.main_arg2)
      ∧ r.2.mem ((c.tc : Thread Cert.MidBwdRefIdeal.nD Cert.MidBwdRefIdeal.τ).loc Cert.MidBwdRefIdeal.main_arg3) = m ((c.tc : Thread Cert.MidBwdRefIdeal.nD Cert.MidBwdRefIdeal.τ).loc Cert.MidBwdRefIdeal.main_arg3)
      ∧ r.2.mem ((c.tc : Thread Cert.MidBwdRefIdeal.nD Cert.MidBwdRefIdeal.τ).loc Cert.MidBwdRefIdeal.main_arg4) = m ((c.tc : Thread Cert.MidBwdRefIdeal.nD Cert.MidBwdRefIdeal.τ).loc Cert.MidBwdRefIdeal.main_arg4)
      ∧ r.2.mem ((c.tc : Thread Cert.MidBwdRefIdeal.nD Cert.MidBwdRefIdeal.τ).loc Cert.MidBwdRefIdeal.main_arg5) = m ((c.tc : Thread Cert.MidBwdRefIdeal.nD Cert.MidBwdRefIdeal.τ).loc Cert.MidBwdRefIdeal.main_arg5)
      ∧ r.2.mem ((c.tc : Thread Cert.MidBwdRefIdeal.nD Cert.MidBwdRefIdeal.τ).loc Cert.MidBwdRefIdeal.main_arg6) = m ((c.tc : Thread Cert.MidBwdRefIdeal.nD Cert.MidBwdRefIdeal.τ).loc Cert.MidBwdRefIdeal.main_arg6)
      ∧ r.2.mem ((c.tc : Thread Cert.MidBwdRefIdeal.nD Cert.MidBwdRefIdeal.τ).loc Cert.MidBwdRefIdeal.main_arg7) = m ((c.tc : Thread Cert.MidBwdRefIdeal.nD Cert.MidBwdRefIdeal.τ).loc Cert.MidBwdRefIdeal.main_arg7)
      ∧ r.2.mem ((c.tc : Thread Cert.MidBwdRefIdeal.nD Cert.MidBwdRefIdeal.τ).loc Cert.MidBwdRefIdeal.main_arg8) = m ((c.tc : Thread Cert.MidBwdRefIdeal.nD Cert.MidBwdRefIdeal.τ).loc Cert.MidBwdRefIdeal.main_arg8))
      ∧ r.2.sem = fun _ => 0)

def quiescent_FirstBwd [hFirstBwd : Cert.FirstBwd.Facts] : Prop :=
  ∀ (m : (ℓ : Loc Cert.FirstBwd.nD Cert.FirstBwd.τ Cert.FirstBwd.sig) → Buf (Elt Bits) ℓ) (g : Dev Cert.FirstBwd.nD → PrngReg), Pre_FirstBwd m →
    θ_run (Cert.FirstBwd.defs (F := Bits)) (onTc (τ := Cert.FirstBwd.τ) (Cert.FirstBwd.main (F := Bits))) ⟨m, fun _ => 0, g⟩ (fun r => (∀ c : Dev Cert.FirstBwd.nD,
      r.2.mem ((c.tc : Thread Cert.FirstBwd.nD Cert.FirstBwd.τ).loc Cert.FirstBwd.main_arg0) = m ((c.tc : Thread Cert.FirstBwd.nD Cert.FirstBwd.τ).loc Cert.FirstBwd.main_arg0)
      ∧ r.2.mem ((c.tc : Thread Cert.FirstBwd.nD Cert.FirstBwd.τ).loc Cert.FirstBwd.main_arg1) = m ((c.tc : Thread Cert.FirstBwd.nD Cert.FirstBwd.τ).loc Cert.FirstBwd.main_arg1)
      ∧ r.2.mem ((c.tc : Thread Cert.FirstBwd.nD Cert.FirstBwd.τ).loc Cert.FirstBwd.main_arg2) = m ((c.tc : Thread Cert.FirstBwd.nD Cert.FirstBwd.τ).loc Cert.FirstBwd.main_arg2)
      ∧ r.2.mem ((c.tc : Thread Cert.FirstBwd.nD Cert.FirstBwd.τ).loc Cert.FirstBwd.main_arg3) = m ((c.tc : Thread Cert.FirstBwd.nD Cert.FirstBwd.τ).loc Cert.FirstBwd.main_arg3)
      ∧ r.2.mem ((c.tc : Thread Cert.FirstBwd.nD Cert.FirstBwd.τ).loc Cert.FirstBwd.main_arg4) = m ((c.tc : Thread Cert.FirstBwd.nD Cert.FirstBwd.τ).loc Cert.FirstBwd.main_arg4)
      ∧ r.2.mem ((c.tc : Thread Cert.FirstBwd.nD Cert.FirstBwd.τ).loc Cert.FirstBwd.main_arg5) = m ((c.tc : Thread Cert.FirstBwd.nD Cert.FirstBwd.τ).loc Cert.FirstBwd.main_arg5))
      ∧ r.2.sem = fun _ => 0)

def quiescent_FirstBwdIdeal [hFirstBwdIdeal : Cert.FirstBwdIdeal.Facts] : Prop :=
  ∀ (m : (ℓ : Loc Cert.FirstBwdIdeal.nD Cert.FirstBwdIdeal.τ Cert.FirstBwdIdeal.sig) → Buf (Elt Ideal) ℓ) (g : Dev Cert.FirstBwdIdeal.nD → PrngReg), Pre_FirstBwdIdeal m →
    θ_run (Cert.FirstBwdIdeal.defs (F := Ideal)) (onTc (τ := Cert.FirstBwdIdeal.τ) (Cert.FirstBwdIdeal.main (F := Ideal))) ⟨m, fun _ => 0, g⟩ (fun r => (∀ c : Dev Cert.FirstBwdIdeal.nD,
      r.2.mem ((c.tc : Thread Cert.FirstBwdIdeal.nD Cert.FirstBwdIdeal.τ).loc Cert.FirstBwdIdeal.main_arg0) = m ((c.tc : Thread Cert.FirstBwdIdeal.nD Cert.FirstBwdIdeal.τ).loc Cert.FirstBwdIdeal.main_arg0)
      ∧ r.2.mem ((c.tc : Thread Cert.FirstBwdIdeal.nD Cert.FirstBwdIdeal.τ).loc Cert.FirstBwdIdeal.main_arg1) = m ((c.tc : Thread Cert.FirstBwdIdeal.nD Cert.FirstBwdIdeal.τ).loc Cert.FirstBwdIdeal.main_arg1)
      ∧ r.2.mem ((c.tc : Thread Cert.FirstBwdIdeal.nD Cert.FirstBwdIdeal.τ).loc Cert.FirstBwdIdeal.main_arg2) = m ((c.tc : Thread Cert.FirstBwdIdeal.nD Cert.FirstBwdIdeal.τ).loc Cert.FirstBwdIdeal.main_arg2)
      ∧ r.2.mem ((c.tc : Thread Cert.FirstBwdIdeal.nD Cert.FirstBwdIdeal.τ).loc Cert.FirstBwdIdeal.main_arg3) = m ((c.tc : Thread Cert.FirstBwdIdeal.nD Cert.FirstBwdIdeal.τ).loc Cert.FirstBwdIdeal.main_arg3)
      ∧ r.2.mem ((c.tc : Thread Cert.FirstBwdIdeal.nD Cert.FirstBwdIdeal.τ).loc Cert.FirstBwdIdeal.main_arg4) = m ((c.tc : Thread Cert.FirstBwdIdeal.nD Cert.FirstBwdIdeal.τ).loc Cert.FirstBwdIdeal.main_arg4)
      ∧ r.2.mem ((c.tc : Thread Cert.FirstBwdIdeal.nD Cert.FirstBwdIdeal.τ).loc Cert.FirstBwdIdeal.main_arg5) = m ((c.tc : Thread Cert.FirstBwdIdeal.nD Cert.FirstBwdIdeal.τ).loc Cert.FirstBwdIdeal.main_arg5))
      ∧ r.2.sem = fun _ => 0)

def quiescent_FirstBwdRefIdeal [hFirstBwdRefIdeal : Cert.FirstBwdRefIdeal.Facts] : Prop :=
  ∀ (m : (ℓ : Loc Cert.FirstBwdRefIdeal.nD Cert.FirstBwdRefIdeal.τ Cert.FirstBwdRefIdeal.sig) → Buf (Elt Ideal) ℓ) (g : Dev Cert.FirstBwdRefIdeal.nD → PrngReg), Pre_FirstBwdRefIdeal m →
    θ_run (Cert.FirstBwdRefIdeal.defs (F := Ideal)) (onTc (τ := Cert.FirstBwdRefIdeal.τ) (Cert.FirstBwdRefIdeal.main (F := Ideal))) ⟨m, fun _ => 0, g⟩ (fun r => (∀ c : Dev Cert.FirstBwdRefIdeal.nD,
      r.2.mem ((c.tc : Thread Cert.FirstBwdRefIdeal.nD Cert.FirstBwdRefIdeal.τ).loc Cert.FirstBwdRefIdeal.main_arg0) = m ((c.tc : Thread Cert.FirstBwdRefIdeal.nD Cert.FirstBwdRefIdeal.τ).loc Cert.FirstBwdRefIdeal.main_arg0)
      ∧ r.2.mem ((c.tc : Thread Cert.FirstBwdRefIdeal.nD Cert.FirstBwdRefIdeal.τ).loc Cert.FirstBwdRefIdeal.main_arg1) = m ((c.tc : Thread Cert.FirstBwdRefIdeal.nD Cert.FirstBwdRefIdeal.τ).loc Cert.FirstBwdRefIdeal.main_arg1)
      ∧ r.2.mem ((c.tc : Thread Cert.FirstBwdRefIdeal.nD Cert.FirstBwdRefIdeal.τ).loc Cert.FirstBwdRefIdeal.main_arg2) = m ((c.tc : Thread Cert.FirstBwdRefIdeal.nD Cert.FirstBwdRefIdeal.τ).loc Cert.FirstBwdRefIdeal.main_arg2)
      ∧ r.2.mem ((c.tc : Thread Cert.FirstBwdRefIdeal.nD Cert.FirstBwdRefIdeal.τ).loc Cert.FirstBwdRefIdeal.main_arg3) = m ((c.tc : Thread Cert.FirstBwdRefIdeal.nD Cert.FirstBwdRefIdeal.τ).loc Cert.FirstBwdRefIdeal.main_arg3)
      ∧ r.2.mem ((c.tc : Thread Cert.FirstBwdRefIdeal.nD Cert.FirstBwdRefIdeal.τ).loc Cert.FirstBwdRefIdeal.main_arg4) = m ((c.tc : Thread Cert.FirstBwdRefIdeal.nD Cert.FirstBwdRefIdeal.τ).loc Cert.FirstBwdRefIdeal.main_arg4)
      ∧ r.2.mem ((c.tc : Thread Cert.FirstBwdRefIdeal.nD Cert.FirstBwdRefIdeal.τ).loc Cert.FirstBwdRefIdeal.main_arg5) = m ((c.tc : Thread Cert.FirstBwdRefIdeal.nD Cert.FirstBwdRefIdeal.τ).loc Cert.FirstBwdRefIdeal.main_arg5))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamWide [hAdamWide : Cert.AdamWide.Facts] : Prop :=
  ∀ (m : (ℓ : Loc Cert.AdamWide.nD Cert.AdamWide.τ Cert.AdamWide.sig) → Buf (Elt Bits) ℓ) (g : Dev Cert.AdamWide.nD → PrngReg), Pre_AdamWide m →
    θ_run (Cert.AdamWide.defs (F := Bits)) (onTc (τ := Cert.AdamWide.τ) (Cert.AdamWide.main (F := Bits))) ⟨m, fun _ => 0, g⟩ (fun r => (∀ c : Dev Cert.AdamWide.nD,
      r.2.mem ((c.tc : Thread Cert.AdamWide.nD Cert.AdamWide.τ).loc Cert.AdamWide.main_arg0) = m ((c.tc : Thread Cert.AdamWide.nD Cert.AdamWide.τ).loc Cert.AdamWide.main_arg0)
      ∧ r.2.mem ((c.tc : Thread Cert.AdamWide.nD Cert.AdamWide.τ).loc Cert.AdamWide.main_arg1) = m ((c.tc : Thread Cert.AdamWide.nD Cert.AdamWide.τ).loc Cert.AdamWide.main_arg1)
      ∧ r.2.mem ((c.tc : Thread Cert.AdamWide.nD Cert.AdamWide.τ).loc Cert.AdamWide.main_arg2) = m ((c.tc : Thread Cert.AdamWide.nD Cert.AdamWide.τ).loc Cert.AdamWide.main_arg2)
      ∧ r.2.mem ((c.tc : Thread Cert.AdamWide.nD Cert.AdamWide.τ).loc Cert.AdamWide.main_arg3) = m ((c.tc : Thread Cert.AdamWide.nD Cert.AdamWide.τ).loc Cert.AdamWide.main_arg3))
      ∧ r.2.sem = fun _ => 0)

def quiescent_AdamWideIdeal [hAdamWideIdeal : Cert.AdamWideIdeal.Facts] : Prop :=
  ∀ (m : (ℓ : Loc Cert.AdamWideIdeal.nD Cert.AdamWideIdeal.τ Cert.AdamWideIdeal.sig) → Buf (Elt Ideal) ℓ) (g : Dev Cert.AdamWideIdeal.nD → PrngReg), Pre_AdamWideIdeal m →
    θ_run (Cert.AdamWideIdeal.defs (F := Ideal)) (onTc (τ := Cert.AdamWideIdeal.τ) (Cert.AdamWideIdeal.main (F := Ideal))) ⟨m, fun _ => 0, g⟩ (fun r => (∀ c : Dev Cert.AdamWideIdeal.nD,
      r.2.mem ((c.tc : Thread Cert.AdamWideIdeal.nD Cert.AdamWideIdeal.τ).loc Cert.AdamWideIdeal.main_arg0) = m ((c.tc : Thread Cert.AdamWideIdeal.nD Cert.AdamWideIdeal.τ).loc Cert.AdamWideIdeal.main_arg0)
      ∧ r.2.mem ((c.tc : Thread Cert.AdamWideIdeal.nD Cert.AdamWideIdeal.τ).loc Cert.AdamWideIdeal.main_arg1) = m ((c.tc : Thread Cert.AdamWideIdeal.nD Cert.AdamWideIdeal.τ).loc Cert.AdamWideIdeal.main_arg1)
      ∧ r.2.mem ((c.tc : Thread Cert.AdamWideIdeal.nD Cert.AdamWideIdeal.τ).loc Cert.AdamWideIdeal.main_arg2) = m ((c.tc : Thread Cert.AdamWideIdeal.nD Cert.AdamWideIdeal.τ).loc Cert.AdamWideIdeal.main_arg2)
      ∧ r.2.mem ((c.tc : Thread Cert.AdamWideIdeal.nD Cert.AdamWideIdeal.τ).loc Cert.AdamWideIdeal.main_arg3) = m ((c.tc : Thread Cert.AdamWideIdeal.nD Cert.AdamWideIdeal.τ).loc Cert.AdamWideIdeal.main_arg3))
      ∧ r.2.sem = fun _ => 0)

def quiescent_AdamWideRefIdeal [hAdamWideRefIdeal : Cert.AdamWideRefIdeal.Facts] : Prop :=
  ∀ (m : (ℓ : Loc Cert.AdamWideRefIdeal.nD Cert.AdamWideRefIdeal.τ Cert.AdamWideRefIdeal.sig) → Buf (Elt Ideal) ℓ) (g : Dev Cert.AdamWideRefIdeal.nD → PrngReg), Pre_AdamWideRefIdeal m →
    θ_run (Cert.AdamWideRefIdeal.defs (F := Ideal)) (onTc (τ := Cert.AdamWideRefIdeal.τ) (Cert.AdamWideRefIdeal.main (F := Ideal))) ⟨m, fun _ => 0, g⟩ (fun r => (∀ c : Dev Cert.AdamWideRefIdeal.nD,
      r.2.mem ((c.tc : Thread Cert.AdamWideRefIdeal.nD Cert.AdamWideRefIdeal.τ).loc Cert.AdamWideRefIdeal.main_arg0) = m ((c.tc : Thread Cert.AdamWideRefIdeal.nD Cert.AdamWideRefIdeal.τ).loc Cert.AdamWideRefIdeal.main_arg0)
      ∧ r.2.mem ((c.tc : Thread Cert.AdamWideRefIdeal.nD Cert.AdamWideRefIdeal.τ).loc Cert.AdamWideRefIdeal.main_arg1) = m ((c.tc : Thread Cert.AdamWideRefIdeal.nD Cert.AdamWideRefIdeal.τ).loc Cert.AdamWideRefIdeal.main_arg1)
      ∧ r.2.mem ((c.tc : Thread Cert.AdamWideRefIdeal.nD Cert.AdamWideRefIdeal.τ).loc Cert.AdamWideRefIdeal.main_arg2) = m ((c.tc : Thread Cert.AdamWideRefIdeal.nD Cert.AdamWideRefIdeal.τ).loc Cert.AdamWideRefIdeal.main_arg2)
      ∧ r.2.mem ((c.tc : Thread Cert.AdamWideRefIdeal.nD Cert.AdamWideRefIdeal.τ).loc Cert.AdamWideRefIdeal.main_arg3) = m ((c.tc : Thread Cert.AdamWideRefIdeal.nD Cert.AdamWideRefIdeal.τ).loc Cert.AdamWideRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1)
      ∧ r.2.mem ((c.tc : Thread Cert.PreNorm.nD Cert.PreNorm.τ).loc Cert.PreNorm.main_arg2) = m ((c.tc : Thread Cert.PreNorm.nD Cert.PreNorm.τ).loc Cert.PreNorm.main_arg2)
      ∧ r.2.mem ((c.tc : Thread Cert.PreNorm.nD Cert.PreNorm.τ).loc Cert.PreNorm.main_arg3) = m ((c.tc : Thread Cert.PreNorm.nD Cert.PreNorm.τ).loc Cert.PreNorm.main_arg3))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
      ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2)
      ∧ r.2.mem ((c.tc : Thread Cert.PreNormIdeal.nD Cert.PreNormIdeal.τ).loc Cert.PreNormIdeal.main_arg3) = m ((c.tc : Thread Cert.PreNormIdeal.nD Cert.PreNormIdeal.τ).loc Cert.PreNormIdeal.main_arg3))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1)
      ∧ r.2.mem ((c.tc : Thread Cert.PreNormRefIdeal.nD Cert.PreNormRefIdeal.τ).loc Cert.PreNormRefIdeal.main_arg2) = m ((c.tc : Thread Cert.PreNormRefIdeal.nD Cert.PreNormRefIdeal.τ).loc Cert.PreNormRefIdeal.main_arg2)
      ∧ r.2.mem ((c.tc : Thread Cert.PreNormRefIdeal.nD Cert.PreNormRefIdeal.τ).loc Cert.PreNormRefIdeal.main_arg3) = m ((c.tc : Thread Cert.PreNormRefIdeal.nD Cert.PreNormRefIdeal.τ).loc Cert.PreNormRefIdeal.main_arg3))
      ∧ r.2.sem = fun _ => 0)

def quiescent_CatNorm [hCatNorm : Cert.CatNorm.Facts] : Prop :=
  ∀ (m : (ℓ : Loc Cert.CatNorm.nD Cert.CatNorm.τ Cert.CatNorm.sig) → Buf (Elt Bits) ℓ) (g : Dev Cert.CatNorm.nD → PrngReg), Pre_CatNorm m →
    θ_run (Cert.CatNorm.defs (F := Bits)) (onTc (τ := Cert.CatNorm.τ) (Cert.CatNorm.main (F := Bits))) ⟨m, fun _ => 0, g⟩ (fun r => (∀ c : Dev Cert.CatNorm.nD,
      r.2.mem ((c.tc : Thread Cert.CatNorm.nD Cert.CatNorm.τ).loc Cert.CatNorm.main_arg0) = m ((c.tc : Thread Cert.CatNorm.nD Cert.CatNorm.τ).loc Cert.CatNorm.main_arg0)
      ∧ r.2.mem ((c.tc : Thread Cert.CatNorm.nD Cert.CatNorm.τ).loc Cert.CatNorm.main_arg1) = m ((c.tc : Thread Cert.CatNorm.nD Cert.CatNorm.τ).loc Cert.CatNorm.main_arg1)
      ∧ r.2.mem ((c.tc : Thread Cert.CatNorm.nD Cert.CatNorm.τ).loc Cert.CatNorm.main_arg2) = m ((c.tc : Thread Cert.CatNorm.nD Cert.CatNorm.τ).loc Cert.CatNorm.main_arg2)
      ∧ r.2.mem ((c.tc : Thread Cert.CatNorm.nD Cert.CatNorm.τ).loc Cert.CatNorm.main_arg3) = m ((c.tc : Thread Cert.CatNorm.nD Cert.CatNorm.τ).loc Cert.CatNorm.main_arg3))
      ∧ r.2.sem = fun _ => 0)

def quiescent_CatNormIdeal [hCatNormIdeal : Cert.CatNormIdeal.Facts] : Prop :=
  ∀ (m : (ℓ : Loc Cert.CatNormIdeal.nD Cert.CatNormIdeal.τ Cert.CatNormIdeal.sig) → Buf (Elt Ideal) ℓ) (g : Dev Cert.CatNormIdeal.nD → PrngReg), Pre_CatNormIdeal m →
    θ_run (Cert.CatNormIdeal.defs (F := Ideal)) (onTc (τ := Cert.CatNormIdeal.τ) (Cert.CatNormIdeal.main (F := Ideal))) ⟨m, fun _ => 0, g⟩ (fun r => (∀ c : Dev Cert.CatNormIdeal.nD,
      r.2.mem ((c.tc : Thread Cert.CatNormIdeal.nD Cert.CatNormIdeal.τ).loc Cert.CatNormIdeal.main_arg0) = m ((c.tc : Thread Cert.CatNormIdeal.nD Cert.CatNormIdeal.τ).loc Cert.CatNormIdeal.main_arg0)
      ∧ r.2.mem ((c.tc : Thread Cert.CatNormIdeal.nD Cert.CatNormIdeal.τ).loc Cert.CatNormIdeal.main_arg1) = m ((c.tc : Thread Cert.CatNormIdeal.nD Cert.CatNormIdeal.τ).loc Cert.CatNormIdeal.main_arg1)
      ∧ r.2.mem ((c.tc : Thread Cert.CatNormIdeal.nD Cert.CatNormIdeal.τ).loc Cert.CatNormIdeal.main_arg2) = m ((c.tc : Thread Cert.CatNormIdeal.nD Cert.CatNormIdeal.τ).loc Cert.CatNormIdeal.main_arg2)
      ∧ r.2.mem ((c.tc : Thread Cert.CatNormIdeal.nD Cert.CatNormIdeal.τ).loc Cert.CatNormIdeal.main_arg3) = m ((c.tc : Thread Cert.CatNormIdeal.nD Cert.CatNormIdeal.τ).loc Cert.CatNormIdeal.main_arg3))
      ∧ r.2.sem = fun _ => 0)

def quiescent_CatNormRefIdeal [hCatNormRefIdeal : Cert.CatNormRefIdeal.Facts] : Prop :=
  ∀ (m : (ℓ : Loc Cert.CatNormRefIdeal.nD Cert.CatNormRefIdeal.τ Cert.CatNormRefIdeal.sig) → Buf (Elt Ideal) ℓ) (g : Dev Cert.CatNormRefIdeal.nD → PrngReg), Pre_CatNormRefIdeal m →
    θ_run (Cert.CatNormRefIdeal.defs (F := Ideal)) (onTc (τ := Cert.CatNormRefIdeal.τ) (Cert.CatNormRefIdeal.main (F := Ideal))) ⟨m, fun _ => 0, g⟩ (fun r => (∀ c : Dev Cert.CatNormRefIdeal.nD,
      r.2.mem ((c.tc : Thread Cert.CatNormRefIdeal.nD Cert.CatNormRefIdeal.τ).loc Cert.CatNormRefIdeal.main_arg0) = m ((c.tc : Thread Cert.CatNormRefIdeal.nD Cert.CatNormRefIdeal.τ).loc Cert.CatNormRefIdeal.main_arg0)
      ∧ r.2.mem ((c.tc : Thread Cert.CatNormRefIdeal.nD Cert.CatNormRefIdeal.τ).loc Cert.CatNormRefIdeal.main_arg1) = m ((c.tc : Thread Cert.CatNormRefIdeal.nD Cert.CatNormRefIdeal.τ).loc Cert.CatNormRefIdeal.main_arg1)
      ∧ r.2.mem ((c.tc : Thread Cert.CatNormRefIdeal.nD Cert.CatNormRefIdeal.τ).loc Cert.CatNormRefIdeal.main_arg2) = m ((c.tc : Thread Cert.CatNormRefIdeal.nD Cert.CatNormRefIdeal.τ).loc Cert.CatNormRefIdeal.main_arg2)
      ∧ r.2.mem ((c.tc : Thread Cert.CatNormRefIdeal.nD Cert.CatNormRefIdeal.τ).loc Cert.CatNormRefIdeal.main_arg3) = m ((c.tc : Thread Cert.CatNormRefIdeal.nD Cert.CatNormRefIdeal.τ).loc Cert.CatNormRefIdeal.main_arg3))
      ∧ r.2.sem = fun _ => 0)

def quiescent_MidFwd [hMidFwd : Cert.MidFwd.Facts] : Prop :=
  ∀ (m : (ℓ : Loc Cert.MidFwd.nD Cert.MidFwd.τ Cert.MidFwd.sig) → Buf (Elt Bits) ℓ) (g : Dev Cert.MidFwd.nD → PrngReg), Pre_MidFwd m →
    θ_run (Cert.MidFwd.defs (F := Bits)) (onTc (τ := Cert.MidFwd.τ) (Cert.MidFwd.main (F := Bits))) ⟨m, fun _ => 0, g⟩ (fun r => (∀ c : Dev Cert.MidFwd.nD,
      r.2.mem ((c.tc : Thread Cert.MidFwd.nD Cert.MidFwd.τ).loc Cert.MidFwd.main_arg0) = m ((c.tc : Thread Cert.MidFwd.nD Cert.MidFwd.τ).loc Cert.MidFwd.main_arg0)
      ∧ r.2.mem ((c.tc : Thread Cert.MidFwd.nD Cert.MidFwd.τ).loc Cert.MidFwd.main_arg1) = m ((c.tc : Thread Cert.MidFwd.nD Cert.MidFwd.τ).loc Cert.MidFwd.main_arg1)
      ∧ r.2.mem ((c.tc : Thread Cert.MidFwd.nD Cert.MidFwd.τ).loc Cert.MidFwd.main_arg2) = m ((c.tc : Thread Cert.MidFwd.nD Cert.MidFwd.τ).loc Cert.MidFwd.main_arg2)
      ∧ r.2.mem ((c.tc : Thread Cert.MidFwd.nD Cert.MidFwd.τ).loc Cert.MidFwd.main_arg3) = m ((c.tc : Thread Cert.MidFwd.nD Cert.MidFwd.τ).loc Cert.MidFwd.main_arg3)
      ∧ r.2.mem ((c.tc : Thread Cert.MidFwd.nD Cert.MidFwd.τ).loc Cert.MidFwd.main_arg4) = m ((c.tc : Thread Cert.MidFwd.nD Cert.MidFwd.τ).loc Cert.MidFwd.main_arg4)
      ∧ r.2.mem ((c.tc : Thread Cert.MidFwd.nD Cert.MidFwd.τ).loc Cert.MidFwd.main_arg5) = m ((c.tc : Thread Cert.MidFwd.nD Cert.MidFwd.τ).loc Cert.MidFwd.main_arg5)
      ∧ r.2.mem ((c.tc : Thread Cert.MidFwd.nD Cert.MidFwd.τ).loc Cert.MidFwd.main_arg6) = m ((c.tc : Thread Cert.MidFwd.nD Cert.MidFwd.τ).loc Cert.MidFwd.main_arg6))
      ∧ r.2.sem = fun _ => 0)

def quiescent_MidFwdIdeal [hMidFwdIdeal : Cert.MidFwdIdeal.Facts] : Prop :=
  ∀ (m : (ℓ : Loc Cert.MidFwdIdeal.nD Cert.MidFwdIdeal.τ Cert.MidFwdIdeal.sig) → Buf (Elt Ideal) ℓ) (g : Dev Cert.MidFwdIdeal.nD → PrngReg), Pre_MidFwdIdeal m →
    θ_run (Cert.MidFwdIdeal.defs (F := Ideal)) (onTc (τ := Cert.MidFwdIdeal.τ) (Cert.MidFwdIdeal.main (F := Ideal))) ⟨m, fun _ => 0, g⟩ (fun r => (∀ c : Dev Cert.MidFwdIdeal.nD,
      r.2.mem ((c.tc : Thread Cert.MidFwdIdeal.nD Cert.MidFwdIdeal.τ).loc Cert.MidFwdIdeal.main_arg0) = m ((c.tc : Thread Cert.MidFwdIdeal.nD Cert.MidFwdIdeal.τ).loc Cert.MidFwdIdeal.main_arg0)
      ∧ r.2.mem ((c.tc : Thread Cert.MidFwdIdeal.nD Cert.MidFwdIdeal.τ).loc Cert.MidFwdIdeal.main_arg1) = m ((c.tc : Thread Cert.MidFwdIdeal.nD Cert.MidFwdIdeal.τ).loc Cert.MidFwdIdeal.main_arg1)
      ∧ r.2.mem ((c.tc : Thread Cert.MidFwdIdeal.nD Cert.MidFwdIdeal.τ).loc Cert.MidFwdIdeal.main_arg2) = m ((c.tc : Thread Cert.MidFwdIdeal.nD Cert.MidFwdIdeal.τ).loc Cert.MidFwdIdeal.main_arg2)
      ∧ r.2.mem ((c.tc : Thread Cert.MidFwdIdeal.nD Cert.MidFwdIdeal.τ).loc Cert.MidFwdIdeal.main_arg3) = m ((c.tc : Thread Cert.MidFwdIdeal.nD Cert.MidFwdIdeal.τ).loc Cert.MidFwdIdeal.main_arg3)
      ∧ r.2.mem ((c.tc : Thread Cert.MidFwdIdeal.nD Cert.MidFwdIdeal.τ).loc Cert.MidFwdIdeal.main_arg4) = m ((c.tc : Thread Cert.MidFwdIdeal.nD Cert.MidFwdIdeal.τ).loc Cert.MidFwdIdeal.main_arg4)
      ∧ r.2.mem ((c.tc : Thread Cert.MidFwdIdeal.nD Cert.MidFwdIdeal.τ).loc Cert.MidFwdIdeal.main_arg5) = m ((c.tc : Thread Cert.MidFwdIdeal.nD Cert.MidFwdIdeal.τ).loc Cert.MidFwdIdeal.main_arg5)
      ∧ r.2.mem ((c.tc : Thread Cert.MidFwdIdeal.nD Cert.MidFwdIdeal.τ).loc Cert.MidFwdIdeal.main_arg6) = m ((c.tc : Thread Cert.MidFwdIdeal.nD Cert.MidFwdIdeal.τ).loc Cert.MidFwdIdeal.main_arg6))
      ∧ r.2.sem = fun _ => 0)

def quiescent_MidFwdRefIdeal [hMidFwdRefIdeal : Cert.MidFwdRefIdeal.Facts] : Prop :=
  ∀ (m : (ℓ : Loc Cert.MidFwdRefIdeal.nD Cert.MidFwdRefIdeal.τ Cert.MidFwdRefIdeal.sig) → Buf (Elt Ideal) ℓ) (g : Dev Cert.MidFwdRefIdeal.nD → PrngReg), Pre_MidFwdRefIdeal m →
    θ_run (Cert.MidFwdRefIdeal.defs (F := Ideal)) (onTc (τ := Cert.MidFwdRefIdeal.τ) (Cert.MidFwdRefIdeal.main (F := Ideal))) ⟨m, fun _ => 0, g⟩ (fun r => (∀ c : Dev Cert.MidFwdRefIdeal.nD,
      r.2.mem ((c.tc : Thread Cert.MidFwdRefIdeal.nD Cert.MidFwdRefIdeal.τ).loc Cert.MidFwdRefIdeal.main_arg0) = m ((c.tc : Thread Cert.MidFwdRefIdeal.nD Cert.MidFwdRefIdeal.τ).loc Cert.MidFwdRefIdeal.main_arg0)
      ∧ r.2.mem ((c.tc : Thread Cert.MidFwdRefIdeal.nD Cert.MidFwdRefIdeal.τ).loc Cert.MidFwdRefIdeal.main_arg1) = m ((c.tc : Thread Cert.MidFwdRefIdeal.nD Cert.MidFwdRefIdeal.τ).loc Cert.MidFwdRefIdeal.main_arg1)
      ∧ r.2.mem ((c.tc : Thread Cert.MidFwdRefIdeal.nD Cert.MidFwdRefIdeal.τ).loc Cert.MidFwdRefIdeal.main_arg2) = m ((c.tc : Thread Cert.MidFwdRefIdeal.nD Cert.MidFwdRefIdeal.τ).loc Cert.MidFwdRefIdeal.main_arg2)
      ∧ r.2.mem ((c.tc : Thread Cert.MidFwdRefIdeal.nD Cert.MidFwdRefIdeal.τ).loc Cert.MidFwdRefIdeal.main_arg3) = m ((c.tc : Thread Cert.MidFwdRefIdeal.nD Cert.MidFwdRefIdeal.τ).loc Cert.MidFwdRefIdeal.main_arg3)
      ∧ r.2.mem ((c.tc : Thread Cert.MidFwdRefIdeal.nD Cert.MidFwdRefIdeal.τ).loc Cert.MidFwdRefIdeal.main_arg4) = m ((c.tc : Thread Cert.MidFwdRefIdeal.nD Cert.MidFwdRefIdeal.τ).loc Cert.MidFwdRefIdeal.main_arg4)
      ∧ r.2.mem ((c.tc : Thread Cert.MidFwdRefIdeal.nD Cert.MidFwdRefIdeal.τ).loc Cert.MidFwdRefIdeal.main_arg5) = m ((c.tc : Thread Cert.MidFwdRefIdeal.nD Cert.MidFwdRefIdeal.τ).loc Cert.MidFwdRefIdeal.main_arg5)
      ∧ r.2.mem ((c.tc : Thread Cert.MidFwdRefIdeal.nD Cert.MidFwdRefIdeal.τ).loc Cert.MidFwdRefIdeal.main_arg6) = m ((c.tc : Thread Cert.MidFwdRefIdeal.nD Cert.MidFwdRefIdeal.τ).loc Cert.MidFwdRefIdeal.main_arg6))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v10) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v6) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v10) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v6) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v10) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v6) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v10) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v6) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v4) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)) →
    ∃ (v0 : (c : Dev Cert.SguIdeal.nD) → Buf (Elt Ideal) ((c.tc : Thread Cert.SguIdeal.nD Cert.SguIdeal.τ).loc Cert.SguIdeal.main_v3_0)) (v1 : (c : Dev Cert.SguIdeal.nD) → Buf (Elt Ideal) ((c.tc : Thread Cert.SguIdeal.nD Cert.SguIdeal.τ).loc Cert.SguIdeal.main_v3_1)) (v2 : (c : Dev Cert.SguIdeal.nD) → Buf (Elt Ideal) ((c.tc : Thread Cert.SguIdeal.nD Cert.SguIdeal.τ).loc Cert.SguIdeal.main_v3_2)) (v3 : (c : Dev Cert.SguIdeal.nD) → Buf (Elt Ideal) ((c.tc : Thread Cert.SguIdeal.nD Cert.SguIdeal.τ).loc Cert.SguIdeal.main_v3_3)) (v4 : (c : Dev Cert.SguIdeal.nD) → Buf (Elt Ideal) ((c.tc : Thread Cert.SguIdeal.nD Cert.SguIdeal.τ).loc Cert.SguIdeal.main_v3_5)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v3_0) = v0 c
          ∧ r.2.mem ((c.tc : Thread Cert.SguIdeal.nD Cert.SguIdeal.τ).loc Cert.SguIdeal.main_v3_1) = v1 c
          ∧ r.2.mem ((c.tc : Thread Cert.SguIdeal.nD Cert.SguIdeal.τ).loc Cert.SguIdeal.main_v3_2) = v2 c
          ∧ r.2.mem ((c.tc : Thread Cert.SguIdeal.nD Cert.SguIdeal.τ).loc Cert.SguIdeal.main_v3_3) = v3 c
          ∧ r.2.mem ((c.tc : Thread Cert.SguIdeal.nD Cert.SguIdeal.τ).loc Cert.SguIdeal.main_v3_5) = v4 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v157) = v0 c
          ∧ r.2.mem ((c.tc : Thread Cert.SguRefIdeal.nD Cert.SguRefIdeal.τ).loc Cert.SguRefIdeal.main_v154) = v1 c
          ∧ r.2.mem ((c.tc : Thread Cert.SguRefIdeal.nD Cert.SguRefIdeal.τ).loc Cert.SguRefIdeal.main_v153) = v2 c
          ∧ r.2.mem ((c.tc : Thread Cert.SguRefIdeal.nD Cert.SguRefIdeal.τ).loc Cert.SguRefIdeal.main_v96) = v3 c
          ∧ r.2.mem ((c.tc : Thread Cert.SguRefIdeal.nD Cert.SguRefIdeal.τ).loc Cert.SguRefIdeal.main_v159) = v4 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5))

def preserves_CatBwd_CatBwdIdeal : Prop :=
  True

def algebraic_CatBwdIdeal_CatBwdRefIdeal [hCatBwdIdeal : Cert.CatBwdIdeal.Facts] [hCatBwdRefIdeal : Cert.CatBwdRefIdeal.Facts] : Prop :=
  ∀ (m : (ℓ : Loc Cert.CatBwdIdeal.nD Cert.CatBwdIdeal.τ Cert.CatBwdIdeal.sig) → Buf (Elt Ideal) ℓ) (g : Dev Cert.CatBwdIdeal.nD → PrngReg)
    (m' : (ℓ : Loc Cert.CatBwdRefIdeal.nD Cert.CatBwdRefIdeal.τ Cert.CatBwdRefIdeal.sig) → Buf (Elt Ideal) ℓ) (g' : Dev Cert.CatBwdRefIdeal.nD → PrngReg), Pre_CatBwdIdeal m →
    (∀ c : Dev Cert.CatBwdIdeal.nD,
      m' ((c.tc : Thread Cert.CatBwdRefIdeal.nD Cert.CatBwdRefIdeal.τ).loc Cert.CatBwdRefIdeal.main_arg0) = m ((c.tc : Thread Cert.CatBwdIdeal.nD Cert.CatBwdIdeal.τ).loc Cert.CatBwdIdeal.main_arg0)
      ∧ m' ((c.tc : Thread Cert.CatBwdRefIdeal.nD Cert.CatBwdRefIdeal.τ).loc Cert.CatBwdRefIdeal.main_arg1) = m ((c.tc : Thread Cert.CatBwdIdeal.nD Cert.CatBwdIdeal.τ).loc Cert.CatBwdIdeal.main_arg1)
      ∧ m' ((c.tc : Thread Cert.CatBwdRefIdeal.nD Cert.CatBwdRefIdeal.τ).loc Cert.CatBwdRefIdeal.main_arg2) = m ((c.tc : Thread Cert.CatBwdIdeal.nD Cert.CatBwdIdeal.τ).loc Cert.CatBwdIdeal.main_arg2)
      ∧ m' ((c.tc : Thread Cert.CatBwdRefIdeal.nD Cert.CatBwdRefIdeal.τ).loc Cert.CatBwdRefIdeal.main_arg3) = m ((c.tc : Thread Cert.CatBwdIdeal.nD Cert.CatBwdIdeal.τ).loc Cert.CatBwdIdeal.main_arg3)
      ∧ m' ((c.tc : Thread Cert.CatBwdRefIdeal.nD Cert.CatBwdRefIdeal.τ).loc Cert.CatBwdRefIdeal.main_arg4) = m ((c.tc : Thread Cert.CatBwdIdeal.nD Cert.CatBwdIdeal.τ).loc Cert.CatBwdIdeal.main_arg4)) →
    ∃ (v0 : (c : Dev Cert.CatBwdIdeal.nD) → Buf (Elt Ideal) ((c.tc : Thread Cert.CatBwdIdeal.nD Cert.CatBwdIdeal.τ).loc Cert.CatBwdIdeal.main_v0_0)) (v1 : (c : Dev Cert.CatBwdIdeal.nD) → Buf (Elt Ideal) ((c.tc : Thread Cert.CatBwdIdeal.nD Cert.CatBwdIdeal.τ).loc Cert.CatBwdIdeal.main_v0_1)) (v2 : (c : Dev Cert.CatBwdIdeal.nD) → Buf (Elt Ideal) ((c.tc : Thread Cert.CatBwdIdeal.nD Cert.CatBwdIdeal.τ).loc Cert.CatBwdIdeal.main_v0_2)) (v3 : (c : Dev Cert.CatBwdIdeal.nD) → Buf (Elt Ideal) ((c.tc : Thread Cert.CatBwdIdeal.nD Cert.CatBwdIdeal.τ).loc Cert.CatBwdIdeal.main_v0_3)),
      θ_run (Cert.CatBwdIdeal.defs (F := Ideal)) (onTc (τ := Cert.CatBwdIdeal.τ) (Cert.CatBwdIdeal.main (F := Ideal))) ⟨m, fun _ => 0, g⟩ (fun r => ∀ c : Dev Cert.CatBwdIdeal.nD,
          r.2.mem ((c.tc : Thread Cert.CatBwdIdeal.nD Cert.CatBwdIdeal.τ).loc Cert.CatBwdIdeal.main_v0_0) = v0 c
          ∧ r.2.mem ((c.tc : Thread Cert.CatBwdIdeal.nD Cert.CatBwdIdeal.τ).loc Cert.CatBwdIdeal.main_v0_1) = v1 c
          ∧ r.2.mem ((c.tc : Thread Cert.CatBwdIdeal.nD Cert.CatBwdIdeal.τ).loc Cert.CatBwdIdeal.main_v0_2) = v2 c
          ∧ r.2.mem ((c.tc : Thread Cert.CatBwdIdeal.nD Cert.CatBwdIdeal.τ).loc Cert.CatBwdIdeal.main_v0_3) = v3 c
          ∧ r.2.mem ((c.tc : Thread Cert.CatBwdIdeal.nD Cert.CatBwdIdeal.τ).loc Cert.CatBwdIdeal.main_arg0) = m ((c.tc : Thread Cert.CatBwdIdeal.nD Cert.CatBwdIdeal.τ).loc Cert.CatBwdIdeal.main_arg0)
          ∧ r.2.mem ((c.tc : Thread Cert.CatBwdIdeal.nD Cert.CatBwdIdeal.τ).loc Cert.CatBwdIdeal.main_arg1) = m ((c.tc : Thread Cert.CatBwdIdeal.nD Cert.CatBwdIdeal.τ).loc Cert.CatBwdIdeal.main_arg1)
          ∧ r.2.mem ((c.tc : Thread Cert.CatBwdIdeal.nD Cert.CatBwdIdeal.τ).loc Cert.CatBwdIdeal.main_arg2) = m ((c.tc : Thread Cert.CatBwdIdeal.nD Cert.CatBwdIdeal.τ).loc Cert.CatBwdIdeal.main_arg2)
          ∧ r.2.mem ((c.tc : Thread Cert.CatBwdIdeal.nD Cert.CatBwdIdeal.τ).loc Cert.CatBwdIdeal.main_arg3) = m ((c.tc : Thread Cert.CatBwdIdeal.nD Cert.CatBwdIdeal.τ).loc Cert.CatBwdIdeal.main_arg3)
          ∧ r.2.mem ((c.tc : Thread Cert.CatBwdIdeal.nD Cert.CatBwdIdeal.τ).loc Cert.CatBwdIdeal.main_arg4) = m ((c.tc : Thread Cert.CatBwdIdeal.nD Cert.CatBwdIdeal.τ).loc Cert.CatBwdIdeal.main_arg4))
      ∧ θ_run (Cert.CatBwdRefIdeal.defs (F := Ideal)) (onTc (τ := Cert.CatBwdRefIdeal.τ) (Cert.CatBwdRefIdeal.main (F := Ideal))) ⟨m', fun _ => 0, g'⟩ (fun r => ∀ c : Dev Cert.CatBwdRefIdeal.nD,
          r.2.mem ((c.tc : Thread Cert.CatBwdRefIdeal.nD Cert.CatBwdRefIdeal.τ).loc Cert.CatBwdRefIdeal.main_v70) = v0 c
          ∧ r.2.mem ((c.tc : Thread Cert.CatBwdRefIdeal.nD Cert.CatBwdRefIdeal.τ).loc Cert.CatBwdRefIdeal.main_v51) = v1 c
          ∧ r.2.mem ((c.tc : Thread Cert.CatBwdRefIdeal.nD Cert.CatBwdRefIdeal.τ).loc Cert.CatBwdRefIdeal.main_v54) = v2 c
          ∧ r.2.mem ((c.tc : Thread Cert.CatBwdRefIdeal.nD Cert.CatBwdRefIdeal.τ).loc Cert.CatBwdRefIdeal.main_v35) = v3 c
          ∧ r.2.mem ((c.tc : Thread Cert.CatBwdRefIdeal.nD Cert.CatBwdRefIdeal.τ).loc Cert.CatBwdRefIdeal.main_arg0) = m' ((c.tc : Thread Cert.CatBwdRefIdeal.nD Cert.CatBwdRefIdeal.τ).loc Cert.CatBwdRefIdeal.main_arg0)
          ∧ r.2.mem ((c.tc : Thread Cert.CatBwdRefIdeal.nD Cert.CatBwdRefIdeal.τ).loc Cert.CatBwdRefIdeal.main_arg1) = m' ((c.tc : Thread Cert.CatBwdRefIdeal.nD Cert.CatBwdRefIdeal.τ).loc Cert.CatBwdRefIdeal.main_arg1)
          ∧ r.2.mem ((c.tc : Thread Cert.CatBwdRefIdeal.nD Cert.CatBwdRefIdeal.τ).loc Cert.CatBwdRefIdeal.main_arg2) = m' ((c.tc : Thread Cert.CatBwdRefIdeal.nD Cert.CatBwdRefIdeal.τ).loc Cert.CatBwdRefIdeal.main_arg2)
          ∧ r.2.mem ((c.tc : Thread Cert.CatBwdRefIdeal.nD Cert.CatBwdRefIdeal.τ).loc Cert.CatBwdRefIdeal.main_arg3) = m' ((c.tc : Thread Cert.CatBwdRefIdeal.nD Cert.CatBwdRefIdeal.τ).loc Cert.CatBwdRefIdeal.main_arg3)
          ∧ r.2.mem ((c.tc : Thread Cert.CatBwdRefIdeal.nD Cert.CatBwdRefIdeal.τ).loc Cert.CatBwdRefIdeal.main_arg4) = m' ((c.tc : Thread Cert.CatBwdRefIdeal.nD Cert.CatBwdRefIdeal.τ).loc Cert.CatBwdRefIdeal.main_arg4))

def preserves_MidBwd_MidBwdIdeal : Prop :=
  True

def algebraic_MidBwdIdeal_MidBwdRefIdeal [hMidBwdIdeal : Cert.MidBwdIdeal.Facts] [hMidBwdRefIdeal : Cert.MidBwdRefIdeal.Facts] : Prop :=
  ∀ (m : (ℓ : Loc Cert.MidBwdIdeal.nD Cert.MidBwdIdeal.τ Cert.MidBwdIdeal.sig) → Buf (Elt Ideal) ℓ) (g : Dev Cert.MidBwdIdeal.nD → PrngReg)
    (m' : (ℓ : Loc Cert.MidBwdRefIdeal.nD Cert.MidBwdRefIdeal.τ Cert.MidBwdRefIdeal.sig) → Buf (Elt Ideal) ℓ) (g' : Dev Cert.MidBwdRefIdeal.nD → PrngReg), Pre_MidBwdIdeal m →
    (∀ c : Dev Cert.MidBwdIdeal.nD,
      m' ((c.tc : Thread Cert.MidBwdRefIdeal.nD Cert.MidBwdRefIdeal.τ).loc Cert.MidBwdRefIdeal.main_arg0) = m ((c.tc : Thread Cert.MidBwdIdeal.nD Cert.MidBwdIdeal.τ).loc Cert.MidBwdIdeal.main_arg0)
      ∧ m' ((c.tc : Thread Cert.MidBwdRefIdeal.nD Cert.MidBwdRefIdeal.τ).loc Cert.MidBwdRefIdeal.main_arg1) = m ((c.tc : Thread Cert.MidBwdIdeal.nD Cert.MidBwdIdeal.τ).loc Cert.MidBwdIdeal.main_arg1)
      ∧ m' ((c.tc : Thread Cert.MidBwdRefIdeal.nD Cert.MidBwdRefIdeal.τ).loc Cert.MidBwdRefIdeal.main_arg2) = m ((c.tc : Thread Cert.MidBwdIdeal.nD Cert.MidBwdIdeal.τ).loc Cert.MidBwdIdeal.main_arg2)
      ∧ m' ((c.tc : Thread Cert.MidBwdRefIdeal.nD Cert.MidBwdRefIdeal.τ).loc Cert.MidBwdRefIdeal.main_arg3) = m ((c.tc : Thread Cert.MidBwdIdeal.nD Cert.MidBwdIdeal.τ).loc Cert.MidBwdIdeal.main_arg3)
      ∧ m' ((c.tc : Thread Cert.MidBwdRefIdeal.nD Cert.MidBwdRefIdeal.τ).loc Cert.MidBwdRefIdeal.main_arg4) = m ((c.tc : Thread Cert.MidBwdIdeal.nD Cert.MidBwdIdeal.τ).loc Cert.MidBwdIdeal.main_arg4)
      ∧ m' ((c.tc : Thread Cert.MidBwdRefIdeal.nD Cert.MidBwdRefIdeal.τ).loc Cert.MidBwdRefIdeal.main_arg5) = m ((c.tc : Thread Cert.MidBwdIdeal.nD Cert.MidBwdIdeal.τ).loc Cert.MidBwdIdeal.main_arg5)
      ∧ m' ((c.tc : Thread Cert.MidBwdRefIdeal.nD Cert.MidBwdRefIdeal.τ).loc Cert.MidBwdRefIdeal.main_arg6) = m ((c.tc : Thread Cert.MidBwdIdeal.nD Cert.MidBwdIdeal.τ).loc Cert.MidBwdIdeal.main_arg6)
      ∧ m' ((c.tc : Thread Cert.MidBwdRefIdeal.nD Cert.MidBwdRefIdeal.τ).loc Cert.MidBwdRefIdeal.main_arg7) = m ((c.tc : Thread Cert.MidBwdIdeal.nD Cert.MidBwdIdeal.τ).loc Cert.MidBwdIdeal.main_arg7)
      ∧ m' ((c.tc : Thread Cert.MidBwdRefIdeal.nD Cert.MidBwdRefIdeal.τ).loc Cert.MidBwdRefIdeal.main_arg8) = m ((c.tc : Thread Cert.MidBwdIdeal.nD Cert.MidBwdIdeal.τ).loc Cert.MidBwdIdeal.main_arg8)) →
    ∃ (v0 : (c : Dev Cert.MidBwdIdeal.nD) → Buf (Elt Ideal) ((c.tc : Thread Cert.MidBwdIdeal.nD Cert.MidBwdIdeal.τ).loc Cert.MidBwdIdeal.main_v0_0)) (v1 : (c : Dev Cert.MidBwdIdeal.nD) → Buf (Elt Ideal) ((c.tc : Thread Cert.MidBwdIdeal.nD Cert.MidBwdIdeal.τ).loc Cert.MidBwdIdeal.main_v0_1)) (v2 : (c : Dev Cert.MidBwdIdeal.nD) → Buf (Elt Ideal) ((c.tc : Thread Cert.MidBwdIdeal.nD Cert.MidBwdIdeal.τ).loc Cert.MidBwdIdeal.main_v0_2)) (v3 : (c : Dev Cert.MidBwdIdeal.nD) → Buf (Elt Ideal) ((c.tc : Thread Cert.MidBwdIdeal.nD Cert.MidBwdIdeal.τ).loc Cert.MidBwdIdeal.main_v0_3)) (v4 : (c : Dev Cert.MidBwdIdeal.nD) → Buf (Elt Ideal) ((c.tc : Thread Cert.MidBwdIdeal.nD Cert.MidBwdIdeal.τ).loc Cert.MidBwdIdeal.main_v0_4)) (v5 : (c : Dev Cert.MidBwdIdeal.nD) → Buf (Elt Ideal) ((c.tc : Thread Cert.MidBwdIdeal.nD Cert.MidBwdIdeal.τ).loc Cert.MidBwdIdeal.main_v0_5)) (v6 : (c : Dev Cert.MidBwdIdeal.nD) → Buf (Elt Ideal) ((c.tc : Thread Cert.MidBwdIdeal.nD Cert.MidBwdIdeal.τ).loc Cert.MidBwdIdeal.main_v0_6)),
      θ_run (Cert.MidBwdIdeal.defs (F := Ideal)) (onTc (τ := Cert.MidBwdIdeal.τ) (Cert.MidBwdIdeal.main (F := Ideal))) ⟨m, fun _ => 0, g⟩ (fun r => ∀ c : Dev Cert.MidBwdIdeal.nD,
          r.2.mem ((c.tc : Thread Cert.MidBwdIdeal.nD Cert.MidBwdIdeal.τ).loc Cert.MidBwdIdeal.main_v0_0) = v0 c
          ∧ r.2.mem ((c.tc : Thread Cert.MidBwdIdeal.nD Cert.MidBwdIdeal.τ).loc Cert.MidBwdIdeal.main_v0_1) = v1 c
          ∧ r.2.mem ((c.tc : Thread Cert.MidBwdIdeal.nD Cert.MidBwdIdeal.τ).loc Cert.MidBwdIdeal.main_v0_2) = v2 c
          ∧ r.2.mem ((c.tc : Thread Cert.MidBwdIdeal.nD Cert.MidBwdIdeal.τ).loc Cert.MidBwdIdeal.main_v0_3) = v3 c
          ∧ r.2.mem ((c.tc : Thread Cert.MidBwdIdeal.nD Cert.MidBwdIdeal.τ).loc Cert.MidBwdIdeal.main_v0_4) = v4 c
          ∧ r.2.mem ((c.tc : Thread Cert.MidBwdIdeal.nD Cert.MidBwdIdeal.τ).loc Cert.MidBwdIdeal.main_v0_5) = v5 c
          ∧ r.2.mem ((c.tc : Thread Cert.MidBwdIdeal.nD Cert.MidBwdIdeal.τ).loc Cert.MidBwdIdeal.main_v0_6) = v6 c
          ∧ r.2.mem ((c.tc : Thread Cert.MidBwdIdeal.nD Cert.MidBwdIdeal.τ).loc Cert.MidBwdIdeal.main_arg0) = m ((c.tc : Thread Cert.MidBwdIdeal.nD Cert.MidBwdIdeal.τ).loc Cert.MidBwdIdeal.main_arg0)
          ∧ r.2.mem ((c.tc : Thread Cert.MidBwdIdeal.nD Cert.MidBwdIdeal.τ).loc Cert.MidBwdIdeal.main_arg1) = m ((c.tc : Thread Cert.MidBwdIdeal.nD Cert.MidBwdIdeal.τ).loc Cert.MidBwdIdeal.main_arg1)
          ∧ r.2.mem ((c.tc : Thread Cert.MidBwdIdeal.nD Cert.MidBwdIdeal.τ).loc Cert.MidBwdIdeal.main_arg2) = m ((c.tc : Thread Cert.MidBwdIdeal.nD Cert.MidBwdIdeal.τ).loc Cert.MidBwdIdeal.main_arg2)
          ∧ r.2.mem ((c.tc : Thread Cert.MidBwdIdeal.nD Cert.MidBwdIdeal.τ).loc Cert.MidBwdIdeal.main_arg3) = m ((c.tc : Thread Cert.MidBwdIdeal.nD Cert.MidBwdIdeal.τ).loc Cert.MidBwdIdeal.main_arg3)
          ∧ r.2.mem ((c.tc : Thread Cert.MidBwdIdeal.nD Cert.MidBwdIdeal.τ).loc Cert.MidBwdIdeal.main_arg4) = m ((c.tc : Thread Cert.MidBwdIdeal.nD Cert.MidBwdIdeal.τ).loc Cert.MidBwdIdeal.main_arg4)
          ∧ r.2.mem ((c.tc : Thread Cert.MidBwdIdeal.nD Cert.MidBwdIdeal.τ).loc Cert.MidBwdIdeal.main_arg5) = m ((c.tc : Thread Cert.MidBwdIdeal.nD Cert.MidBwdIdeal.τ).loc Cert.MidBwdIdeal.main_arg5)
          ∧ r.2.mem ((c.tc : Thread Cert.MidBwdIdeal.nD Cert.MidBwdIdeal.τ).loc Cert.MidBwdIdeal.main_arg6) = m ((c.tc : Thread Cert.MidBwdIdeal.nD Cert.MidBwdIdeal.τ).loc Cert.MidBwdIdeal.main_arg6)
          ∧ r.2.mem ((c.tc : Thread Cert.MidBwdIdeal.nD Cert.MidBwdIdeal.τ).loc Cert.MidBwdIdeal.main_arg7) = m ((c.tc : Thread Cert.MidBwdIdeal.nD Cert.MidBwdIdeal.τ).loc Cert.MidBwdIdeal.main_arg7)
          ∧ r.2.mem ((c.tc : Thread Cert.MidBwdIdeal.nD Cert.MidBwdIdeal.τ).loc Cert.MidBwdIdeal.main_arg8) = m ((c.tc : Thread Cert.MidBwdIdeal.nD Cert.MidBwdIdeal.τ).loc Cert.MidBwdIdeal.main_arg8))
      ∧ θ_run (Cert.MidBwdRefIdeal.defs (F := Ideal)) (onTc (τ := Cert.MidBwdRefIdeal.τ) (Cert.MidBwdRefIdeal.main (F := Ideal))) ⟨m', fun _ => 0, g'⟩ (fun r => ∀ c : Dev Cert.MidBwdRefIdeal.nD,
          r.2.mem ((c.tc : Thread Cert.MidBwdRefIdeal.nD Cert.MidBwdRefIdeal.τ).loc Cert.MidBwdRefIdeal.main_v48) = v0 c
          ∧ r.2.mem ((c.tc : Thread Cert.MidBwdRefIdeal.nD Cert.MidBwdRefIdeal.τ).loc Cert.MidBwdRefIdeal.main_v90) = v1 c
          ∧ r.2.mem ((c.tc : Thread Cert.MidBwdRefIdeal.nD Cert.MidBwdRefIdeal.τ).loc Cert.MidBwdRefIdeal.main_v31) = v2 c
          ∧ r.2.mem ((c.tc : Thread Cert.MidBwdRefIdeal.nD Cert.MidBwdRefIdeal.τ).loc Cert.MidBwdRefIdeal.main_v26) = v3 c
          ∧ r.2.mem ((c.tc : Thread Cert.MidBwdRefIdeal.nD Cert.MidBwdRefIdeal.τ).loc Cert.MidBwdRefIdeal.main_v23) = v4 c
          ∧ r.2.mem ((c.tc : Thread Cert.MidBwdRefIdeal.nD Cert.MidBwdRefIdeal.τ).loc Cert.MidBwdRefIdeal.main_v73) = v5 c
          ∧ r.2.mem ((c.tc : Thread Cert.MidBwdRefIdeal.nD Cert.MidBwdRefIdeal.τ).loc Cert.MidBwdRefIdeal.main_v70) = v6 c
          ∧ r.2.mem ((c.tc : Thread Cert.MidBwdRefIdeal.nD Cert.MidBwdRefIdeal.τ).loc Cert.MidBwdRefIdeal.main_arg0) = m' ((c.tc : Thread Cert.MidBwdRefIdeal.nD Cert.MidBwdRefIdeal.τ).loc Cert.MidBwdRefIdeal.main_arg0)
          ∧ r.2.mem ((c.tc : Thread Cert.MidBwdRefIdeal.nD Cert.MidBwdRefIdeal.τ).loc Cert.MidBwdRefIdeal.main_arg1) = m' ((c.tc : Thread Cert.MidBwdRefIdeal.nD Cert.MidBwdRefIdeal.τ).loc Cert.MidBwdRefIdeal.main_arg1)
          ∧ r.2.mem ((c.tc : Thread Cert.MidBwdRefIdeal.nD Cert.MidBwdRefIdeal.τ).loc Cert.MidBwdRefIdeal.main_arg2) = m' ((c.tc : Thread Cert.MidBwdRefIdeal.nD Cert.MidBwdRefIdeal.τ).loc Cert.MidBwdRefIdeal.main_arg2)
          ∧ r.2.mem ((c.tc : Thread Cert.MidBwdRefIdeal.nD Cert.MidBwdRefIdeal.τ).loc Cert.MidBwdRefIdeal.main_arg3) = m' ((c.tc : Thread Cert.MidBwdRefIdeal.nD Cert.MidBwdRefIdeal.τ).loc Cert.MidBwdRefIdeal.main_arg3)
          ∧ r.2.mem ((c.tc : Thread Cert.MidBwdRefIdeal.nD Cert.MidBwdRefIdeal.τ).loc Cert.MidBwdRefIdeal.main_arg4) = m' ((c.tc : Thread Cert.MidBwdRefIdeal.nD Cert.MidBwdRefIdeal.τ).loc Cert.MidBwdRefIdeal.main_arg4)
          ∧ r.2.mem ((c.tc : Thread Cert.MidBwdRefIdeal.nD Cert.MidBwdRefIdeal.τ).loc Cert.MidBwdRefIdeal.main_arg5) = m' ((c.tc : Thread Cert.MidBwdRefIdeal.nD Cert.MidBwdRefIdeal.τ).loc Cert.MidBwdRefIdeal.main_arg5)
          ∧ r.2.mem ((c.tc : Thread Cert.MidBwdRefIdeal.nD Cert.MidBwdRefIdeal.τ).loc Cert.MidBwdRefIdeal.main_arg6) = m' ((c.tc : Thread Cert.MidBwdRefIdeal.nD Cert.MidBwdRefIdeal.τ).loc Cert.MidBwdRefIdeal.main_arg6)
          ∧ r.2.mem ((c.tc : Thread Cert.MidBwdRefIdeal.nD Cert.MidBwdRefIdeal.τ).loc Cert.MidBwdRefIdeal.main_arg7) = m' ((c.tc : Thread Cert.MidBwdRefIdeal.nD Cert.MidBwdRefIdeal.τ).loc Cert.MidBwdRefIdeal.main_arg7)
          ∧ r.2.mem ((c.tc : Thread Cert.MidBwdRefIdeal.nD Cert.MidBwdRefIdeal.τ).loc Cert.MidBwdRefIdeal.main_arg8) = m' ((c.tc : Thread Cert.MidBwdRefIdeal.nD Cert.MidBwdRefIdeal.τ).loc Cert.MidBwdRefIdeal.main_arg8))

def preserves_FirstBwd_FirstBwdIdeal : Prop :=
  True

def algebraic_FirstBwdIdeal_FirstBwdRefIdeal [hFirstBwdIdeal : Cert.FirstBwdIdeal.Facts] [hFirstBwdRefIdeal : Cert.FirstBwdRefIdeal.Facts] : Prop :=
  ∀ (m : (ℓ : Loc Cert.FirstBwdIdeal.nD Cert.FirstBwdIdeal.τ Cert.FirstBwdIdeal.sig) → Buf (Elt Ideal) ℓ) (g : Dev Cert.FirstBwdIdeal.nD → PrngReg)
    (m' : (ℓ : Loc Cert.FirstBwdRefIdeal.nD Cert.FirstBwdRefIdeal.τ Cert.FirstBwdRefIdeal.sig) → Buf (Elt Ideal) ℓ) (g' : Dev Cert.FirstBwdRefIdeal.nD → PrngReg), Pre_FirstBwdIdeal m →
    (∀ c : Dev Cert.FirstBwdIdeal.nD,
      m' ((c.tc : Thread Cert.FirstBwdRefIdeal.nD Cert.FirstBwdRefIdeal.τ).loc Cert.FirstBwdRefIdeal.main_arg0) = m ((c.tc : Thread Cert.FirstBwdIdeal.nD Cert.FirstBwdIdeal.τ).loc Cert.FirstBwdIdeal.main_arg0)
      ∧ m' ((c.tc : Thread Cert.FirstBwdRefIdeal.nD Cert.FirstBwdRefIdeal.τ).loc Cert.FirstBwdRefIdeal.main_arg1) = m ((c.tc : Thread Cert.FirstBwdIdeal.nD Cert.FirstBwdIdeal.τ).loc Cert.FirstBwdIdeal.main_arg1)
      ∧ m' ((c.tc : Thread Cert.FirstBwdRefIdeal.nD Cert.FirstBwdRefIdeal.τ).loc Cert.FirstBwdRefIdeal.main_arg2) = m ((c.tc : Thread Cert.FirstBwdIdeal.nD Cert.FirstBwdIdeal.τ).loc Cert.FirstBwdIdeal.main_arg2)
      ∧ m' ((c.tc : Thread Cert.FirstBwdRefIdeal.nD Cert.FirstBwdRefIdeal.τ).loc Cert.FirstBwdRefIdeal.main_arg3) = m ((c.tc : Thread Cert.FirstBwdIdeal.nD Cert.FirstBwdIdeal.τ).loc Cert.FirstBwdIdeal.main_arg3)
      ∧ m' ((c.tc : Thread Cert.FirstBwdRefIdeal.nD Cert.FirstBwdRefIdeal.τ).loc Cert.FirstBwdRefIdeal.main_arg4) = m ((c.tc : Thread Cert.FirstBwdIdeal.nD Cert.FirstBwdIdeal.τ).loc Cert.FirstBwdIdeal.main_arg4)
      ∧ m' ((c.tc : Thread Cert.FirstBwdRefIdeal.nD Cert.FirstBwdRefIdeal.τ).loc Cert.FirstBwdRefIdeal.main_arg5) = m ((c.tc : Thread Cert.FirstBwdIdeal.nD Cert.FirstBwdIdeal.τ).loc Cert.FirstBwdIdeal.main_arg5)) →
    ∃ (v0 : (c : Dev Cert.FirstBwdIdeal.nD) → Buf (Elt Ideal) ((c.tc : Thread Cert.FirstBwdIdeal.nD Cert.FirstBwdIdeal.τ).loc Cert.FirstBwdIdeal.main_v0_0)) (v1 : (c : Dev Cert.FirstBwdIdeal.nD) → Buf (Elt Ideal) ((c.tc : Thread Cert.FirstBwdIdeal.nD Cert.FirstBwdIdeal.τ).loc Cert.FirstBwdIdeal.main_v0_1)) (v2 : (c : Dev Cert.FirstBwdIdeal.nD) → Buf (Elt Ideal) ((c.tc : Thread Cert.FirstBwdIdeal.nD Cert.FirstBwdIdeal.τ).loc Cert.FirstBwdIdeal.main_v0_2)) (v3 : (c : Dev Cert.FirstBwdIdeal.nD) → Buf (Elt Ideal) ((c.tc : Thread Cert.FirstBwdIdeal.nD Cert.FirstBwdIdeal.τ).loc Cert.FirstBwdIdeal.main_v0_3)),
      θ_run (Cert.FirstBwdIdeal.defs (F := Ideal)) (onTc (τ := Cert.FirstBwdIdeal.τ) (Cert.FirstBwdIdeal.main (F := Ideal))) ⟨m, fun _ => 0, g⟩ (fun r => ∀ c : Dev Cert.FirstBwdIdeal.nD,
          r.2.mem ((c.tc : Thread Cert.FirstBwdIdeal.nD Cert.FirstBwdIdeal.τ).loc Cert.FirstBwdIdeal.main_v0_0) = v0 c
          ∧ r.2.mem ((c.tc : Thread Cert.FirstBwdIdeal.nD Cert.FirstBwdIdeal.τ).loc Cert.FirstBwdIdeal.main_v0_1) = v1 c
          ∧ r.2.mem ((c.tc : Thread Cert.FirstBwdIdeal.nD Cert.FirstBwdIdeal.τ).loc Cert.FirstBwdIdeal.main_v0_2) = v2 c
          ∧ r.2.mem ((c.tc : Thread Cert.FirstBwdIdeal.nD Cert.FirstBwdIdeal.τ).loc Cert.FirstBwdIdeal.main_v0_3) = v3 c
          ∧ r.2.mem ((c.tc : Thread Cert.FirstBwdIdeal.nD Cert.FirstBwdIdeal.τ).loc Cert.FirstBwdIdeal.main_arg0) = m ((c.tc : Thread Cert.FirstBwdIdeal.nD Cert.FirstBwdIdeal.τ).loc Cert.FirstBwdIdeal.main_arg0)
          ∧ r.2.mem ((c.tc : Thread Cert.FirstBwdIdeal.nD Cert.FirstBwdIdeal.τ).loc Cert.FirstBwdIdeal.main_arg1) = m ((c.tc : Thread Cert.FirstBwdIdeal.nD Cert.FirstBwdIdeal.τ).loc Cert.FirstBwdIdeal.main_arg1)
          ∧ r.2.mem ((c.tc : Thread Cert.FirstBwdIdeal.nD Cert.FirstBwdIdeal.τ).loc Cert.FirstBwdIdeal.main_arg2) = m ((c.tc : Thread Cert.FirstBwdIdeal.nD Cert.FirstBwdIdeal.τ).loc Cert.FirstBwdIdeal.main_arg2)
          ∧ r.2.mem ((c.tc : Thread Cert.FirstBwdIdeal.nD Cert.FirstBwdIdeal.τ).loc Cert.FirstBwdIdeal.main_arg3) = m ((c.tc : Thread Cert.FirstBwdIdeal.nD Cert.FirstBwdIdeal.τ).loc Cert.FirstBwdIdeal.main_arg3)
          ∧ r.2.mem ((c.tc : Thread Cert.FirstBwdIdeal.nD Cert.FirstBwdIdeal.τ).loc Cert.FirstBwdIdeal.main_arg4) = m ((c.tc : Thread Cert.FirstBwdIdeal.nD Cert.FirstBwdIdeal.τ).loc Cert.FirstBwdIdeal.main_arg4)
          ∧ r.2.mem ((c.tc : Thread Cert.FirstBwdIdeal.nD Cert.FirstBwdIdeal.τ).loc Cert.FirstBwdIdeal.main_arg5) = m ((c.tc : Thread Cert.FirstBwdIdeal.nD Cert.FirstBwdIdeal.τ).loc Cert.FirstBwdIdeal.main_arg5))
      ∧ θ_run (Cert.FirstBwdRefIdeal.defs (F := Ideal)) (onTc (τ := Cert.FirstBwdRefIdeal.τ) (Cert.FirstBwdRefIdeal.main (F := Ideal))) ⟨m', fun _ => 0, g'⟩ (fun r => ∀ c : Dev Cert.FirstBwdRefIdeal.nD,
          r.2.mem ((c.tc : Thread Cert.FirstBwdRefIdeal.nD Cert.FirstBwdRefIdeal.τ).loc Cert.FirstBwdRefIdeal.main_v48) = v0 c
          ∧ r.2.mem ((c.tc : Thread Cert.FirstBwdRefIdeal.nD Cert.FirstBwdRefIdeal.τ).loc Cert.FirstBwdRefIdeal.main_v31) = v1 c
          ∧ r.2.mem ((c.tc : Thread Cert.FirstBwdRefIdeal.nD Cert.FirstBwdRefIdeal.τ).loc Cert.FirstBwdRefIdeal.main_v26) = v2 c
          ∧ r.2.mem ((c.tc : Thread Cert.FirstBwdRefIdeal.nD Cert.FirstBwdRefIdeal.τ).loc Cert.FirstBwdRefIdeal.main_v23) = v3 c
          ∧ r.2.mem ((c.tc : Thread Cert.FirstBwdRefIdeal.nD Cert.FirstBwdRefIdeal.τ).loc Cert.FirstBwdRefIdeal.main_arg0) = m' ((c.tc : Thread Cert.FirstBwdRefIdeal.nD Cert.FirstBwdRefIdeal.τ).loc Cert.FirstBwdRefIdeal.main_arg0)
          ∧ r.2.mem ((c.tc : Thread Cert.FirstBwdRefIdeal.nD Cert.FirstBwdRefIdeal.τ).loc Cert.FirstBwdRefIdeal.main_arg1) = m' ((c.tc : Thread Cert.FirstBwdRefIdeal.nD Cert.FirstBwdRefIdeal.τ).loc Cert.FirstBwdRefIdeal.main_arg1)
          ∧ r.2.mem ((c.tc : Thread Cert.FirstBwdRefIdeal.nD Cert.FirstBwdRefIdeal.τ).loc Cert.FirstBwdRefIdeal.main_arg2) = m' ((c.tc : Thread Cert.FirstBwdRefIdeal.nD Cert.FirstBwdRefIdeal.τ).loc Cert.FirstBwdRefIdeal.main_arg2)
          ∧ r.2.mem ((c.tc : Thread Cert.FirstBwdRefIdeal.nD Cert.FirstBwdRefIdeal.τ).loc Cert.FirstBwdRefIdeal.main_arg3) = m' ((c.tc : Thread Cert.FirstBwdRefIdeal.nD Cert.FirstBwdRefIdeal.τ).loc Cert.FirstBwdRefIdeal.main_arg3)
          ∧ r.2.mem ((c.tc : Thread Cert.FirstBwdRefIdeal.nD Cert.FirstBwdRefIdeal.τ).loc Cert.FirstBwdRefIdeal.main_arg4) = m' ((c.tc : Thread Cert.FirstBwdRefIdeal.nD Cert.FirstBwdRefIdeal.τ).loc Cert.FirstBwdRefIdeal.main_arg4)
          ∧ r.2.mem ((c.tc : Thread Cert.FirstBwdRefIdeal.nD Cert.FirstBwdRefIdeal.τ).loc Cert.FirstBwdRefIdeal.main_arg5) = m' ((c.tc : Thread Cert.FirstBwdRefIdeal.nD Cert.FirstBwdRefIdeal.τ).loc Cert.FirstBwdRefIdeal.main_arg5))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_arg0) = v0 c
          ∧ r.2.mem ((c.tc : Thread Cert.AdamAdaRefIdeal.nD Cert.AdamAdaRefIdeal.τ).loc Cert.AdamAdaRefIdeal.main_v23) = v1 c
          ∧ r.2.mem ((c.tc : Thread Cert.AdamAdaRefIdeal.nD Cert.AdamAdaRefIdeal.τ).loc Cert.AdamAdaRefIdeal.main_v4) = v2 c
          ∧ r.2.mem ((c.tc : Thread Cert.AdamAdaRefIdeal.nD Cert.AdamAdaRefIdeal.τ).loc Cert.AdamAdaRefIdeal.main_v10) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v5) = v0 c
          ∧ r.2.mem ((c.tc : Thread Cert.AdamInRefIdeal.nD Cert.AdamInRefIdeal.τ).loc Cert.AdamInRefIdeal.main_v29) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_v16) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v5) = v0 c
          ∧ r.2.mem ((c.tc : Thread Cert.AdamUpRefIdeal.nD Cert.AdamUpRefIdeal.τ).loc Cert.AdamUpRefIdeal.main_v29) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_v16) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v5) = v0 c
          ∧ r.2.mem ((c.tc : Thread Cert.AdamOutRefIdeal.nD Cert.AdamOutRefIdeal.τ).loc Cert.AdamOutRefIdeal.main_v29) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_v16) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v5) = v0 c
          ∧ r.2.mem ((c.tc : Thread Cert.AdamDownRefIdeal.nD Cert.AdamDownRefIdeal.τ).loc Cert.AdamDownRefIdeal.main_v29) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_v16) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamWide_AdamWideIdeal : Prop :=
  True

def algebraic_AdamWideIdeal_AdamWideRefIdeal [hAdamWideIdeal : Cert.AdamWideIdeal.Facts] [hAdamWideRefIdeal : Cert.AdamWideRefIdeal.Facts] : Prop :=
  ∀ (m : (ℓ : Loc Cert.AdamWideIdeal.nD Cert.AdamWideIdeal.τ Cert.AdamWideIdeal.sig) → Buf (Elt Ideal) ℓ) (g : Dev Cert.AdamWideIdeal.nD → PrngReg)
    (m' : (ℓ : Loc Cert.AdamWideRefIdeal.nD Cert.AdamWideRefIdeal.τ Cert.AdamWideRefIdeal.sig) → Buf (Elt Ideal) ℓ) (g' : Dev Cert.AdamWideRefIdeal.nD → PrngReg), Pre_AdamWideIdeal m →
    (∀ c : Dev Cert.AdamWideIdeal.nD,
      m' ((c.tc : Thread Cert.AdamWideRefIdeal.nD Cert.AdamWideRefIdeal.τ).loc Cert.AdamWideRefIdeal.main_arg0) = m ((c.tc : Thread Cert.AdamWideIdeal.nD Cert.AdamWideIdeal.τ).loc Cert.AdamWideIdeal.main_arg0)
      ∧ m' ((c.tc : Thread Cert.AdamWideRefIdeal.nD Cert.AdamWideRefIdeal.τ).loc Cert.AdamWideRefIdeal.main_arg1) = m ((c.tc : Thread Cert.AdamWideIdeal.nD Cert.AdamWideIdeal.τ).loc Cert.AdamWideIdeal.main_arg1)
      ∧ m' ((c.tc : Thread Cert.AdamWideRefIdeal.nD Cert.AdamWideRefIdeal.τ).loc Cert.AdamWideRefIdeal.main_arg2) = m ((c.tc : Thread Cert.AdamWideIdeal.nD Cert.AdamWideIdeal.τ).loc Cert.AdamWideIdeal.main_arg2)
      ∧ m' ((c.tc : Thread Cert.AdamWideRefIdeal.nD Cert.AdamWideRefIdeal.τ).loc Cert.AdamWideRefIdeal.main_arg3) = m ((c.tc : Thread Cert.AdamWideIdeal.nD Cert.AdamWideIdeal.τ).loc Cert.AdamWideIdeal.main_arg3)) →
    ∃ (v0 : (c : Dev Cert.AdamWideIdeal.nD) → Buf (Elt Ideal) ((c.tc : Thread Cert.AdamWideIdeal.nD Cert.AdamWideIdeal.τ).loc Cert.AdamWideIdeal.main_v0_0)) (v1 : (c : Dev Cert.AdamWideIdeal.nD) → Buf (Elt Ideal) ((c.tc : Thread Cert.AdamWideIdeal.nD Cert.AdamWideIdeal.τ).loc Cert.AdamWideIdeal.main_v0_1)) (v2 : (c : Dev Cert.AdamWideIdeal.nD) → Buf (Elt Ideal) ((c.tc : Thread Cert.AdamWideIdeal.nD Cert.AdamWideIdeal.τ).loc Cert.AdamWideIdeal.main_v0_2)) (v3 : (c : Dev Cert.AdamWideIdeal.nD) → Buf (Elt Ideal) ((c.tc : Thread Cert.AdamWideIdeal.nD Cert.AdamWideIdeal.τ).loc Cert.AdamWideIdeal.main_v0_3)),
      θ_run (Cert.AdamWideIdeal.defs (F := Ideal)) (onTc (τ := Cert.AdamWideIdeal.τ) (Cert.AdamWideIdeal.main (F := Ideal))) ⟨m, fun _ => 0, g⟩ (fun r => ∀ c : Dev Cert.AdamWideIdeal.nD,
          r.2.mem ((c.tc : Thread Cert.AdamWideIdeal.nD Cert.AdamWideIdeal.τ).loc Cert.AdamWideIdeal.main_v0_0) = v0 c
          ∧ r.2.mem ((c.tc : Thread Cert.AdamWideIdeal.nD Cert.AdamWideIdeal.τ).loc Cert.AdamWideIdeal.main_v0_1) = v1 c
          ∧ r.2.mem ((c.tc : Thread Cert.AdamWideIdeal.nD Cert.AdamWideIdeal.τ).loc Cert.AdamWideIdeal.main_v0_2) = v2 c
          ∧ r.2.mem ((c.tc : Thread Cert.AdamWideIdeal.nD Cert.AdamWideIdeal.τ).loc Cert.AdamWideIdeal.main_v0_3) = v3 c
          ∧ r.2.mem ((c.tc : Thread Cert.AdamWideIdeal.nD Cert.AdamWideIdeal.τ).loc Cert.AdamWideIdeal.main_arg0) = m ((c.tc : Thread Cert.AdamWideIdeal.nD Cert.AdamWideIdeal.τ).loc Cert.AdamWideIdeal.main_arg0)
          ∧ r.2.mem ((c.tc : Thread Cert.AdamWideIdeal.nD Cert.AdamWideIdeal.τ).loc Cert.AdamWideIdeal.main_arg1) = m ((c.tc : Thread Cert.AdamWideIdeal.nD Cert.AdamWideIdeal.τ).loc Cert.AdamWideIdeal.main_arg1)
          ∧ r.2.mem ((c.tc : Thread Cert.AdamWideIdeal.nD Cert.AdamWideIdeal.τ).loc Cert.AdamWideIdeal.main_arg2) = m ((c.tc : Thread Cert.AdamWideIdeal.nD Cert.AdamWideIdeal.τ).loc Cert.AdamWideIdeal.main_arg2)
          ∧ r.2.mem ((c.tc : Thread Cert.AdamWideIdeal.nD Cert.AdamWideIdeal.τ).loc Cert.AdamWideIdeal.main_arg3) = m ((c.tc : Thread Cert.AdamWideIdeal.nD Cert.AdamWideIdeal.τ).loc Cert.AdamWideIdeal.main_arg3))
      ∧ θ_run (Cert.AdamWideRefIdeal.defs (F := Ideal)) (onTc (τ := Cert.AdamWideRefIdeal.τ) (Cert.AdamWideRefIdeal.main (F := Ideal))) ⟨m', fun _ => 0, g'⟩ (fun r => ∀ c : Dev Cert.AdamWideRefIdeal.nD,
          r.2.mem ((c.tc : Thread Cert.AdamWideRefIdeal.nD Cert.AdamWideRefIdeal.τ).loc Cert.AdamWideRefIdeal.main_arg0) = v0 c
          ∧ r.2.mem ((c.tc : Thread Cert.AdamWideRefIdeal.nD Cert.AdamWideRefIdeal.τ).loc Cert.AdamWideRefIdeal.main_v23) = v1 c
          ∧ r.2.mem ((c.tc : Thread Cert.AdamWideRefIdeal.nD Cert.AdamWideRefIdeal.τ).loc Cert.AdamWideRefIdeal.main_v4) = v2 c
          ∧ r.2.mem ((c.tc : Thread Cert.AdamWideRefIdeal.nD Cert.AdamWideRefIdeal.τ).loc Cert.AdamWideRefIdeal.main_v10) = v3 c
          ∧ r.2.mem ((c.tc : Thread Cert.AdamWideRefIdeal.nD Cert.AdamWideRefIdeal.τ).loc Cert.AdamWideRefIdeal.main_arg0) = m' ((c.tc : Thread Cert.AdamWideRefIdeal.nD Cert.AdamWideRefIdeal.τ).loc Cert.AdamWideRefIdeal.main_arg0)
          ∧ r.2.mem ((c.tc : Thread Cert.AdamWideRefIdeal.nD Cert.AdamWideRefIdeal.τ).loc Cert.AdamWideRefIdeal.main_arg1) = m' ((c.tc : Thread Cert.AdamWideRefIdeal.nD Cert.AdamWideRefIdeal.τ).loc Cert.AdamWideRefIdeal.main_arg1)
          ∧ r.2.mem ((c.tc : Thread Cert.AdamWideRefIdeal.nD Cert.AdamWideRefIdeal.τ).loc Cert.AdamWideRefIdeal.main_arg2) = m' ((c.tc : Thread Cert.AdamWideRefIdeal.nD Cert.AdamWideRefIdeal.τ).loc Cert.AdamWideRefIdeal.main_arg2)
          ∧ r.2.mem ((c.tc : Thread Cert.AdamWideRefIdeal.nD Cert.AdamWideRefIdeal.τ).loc Cert.AdamWideRefIdeal.main_arg3) = m' ((c.tc : Thread Cert.AdamWideRefIdeal.nD Cert.AdamWideRefIdeal.τ).loc Cert.AdamWideRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v0_0)) (v1 : (c : Dev Cert.FinalIdeal.nD) → Buf (Elt Ideal) ((c.tc : Thread Cert.FinalIdeal.nD Cert.FinalIdeal.τ).loc Cert.FinalIdeal.main_v0_1)) (v2 : (c : Dev Cert.FinalIdeal.nD) → Buf (Elt Ideal) ((c.tc : Thread Cert.FinalIdeal.nD Cert.FinalIdeal.τ).loc Cert.FinalIdeal.main_v0_2)) (v3 : (c : Dev Cert.FinalIdeal.nD) → Buf (Elt Ideal) ((c.tc : Thread Cert.FinalIdeal.nD Cert.FinalIdeal.τ).loc Cert.FinalIdeal.main_v0_3)) (v4 : (c : Dev Cert.FinalIdeal.nD) → Buf (Elt Ideal) ((c.tc : Thread Cert.FinalIdeal.nD Cert.FinalIdeal.τ).loc Cert.FinalIdeal.main_v0_4)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0_0) = v0 c
          ∧ r.2.mem ((c.tc : Thread Cert.FinalIdeal.nD Cert.FinalIdeal.τ).loc Cert.FinalIdeal.main_v0_1) = v1 c
          ∧ r.2.mem ((c.tc : Thread Cert.FinalIdeal.nD Cert.FinalIdeal.τ).loc Cert.FinalIdeal.main_v0_2) = v2 c
          ∧ r.2.mem ((c.tc : Thread Cert.FinalIdeal.nD Cert.FinalIdeal.τ).loc Cert.FinalIdeal.main_v0_3) = v3 c
          ∧ r.2.mem ((c.tc : Thread Cert.FinalIdeal.nD Cert.FinalIdeal.τ).loc Cert.FinalIdeal.main_v0_4) = v4 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v57) = v0 c
          ∧ r.2.mem ((c.tc : Thread Cert.FinalRefIdeal.nD Cert.FinalRefIdeal.τ).loc Cert.FinalRefIdeal.main_v32) = v1 c
          ∧ r.2.mem ((c.tc : Thread Cert.FinalRefIdeal.nD Cert.FinalRefIdeal.τ).loc Cert.FinalRefIdeal.main_v58) = v2 c
          ∧ r.2.mem ((c.tc : Thread Cert.FinalRefIdeal.nD Cert.FinalRefIdeal.τ).loc Cert.FinalRefIdeal.main_v40) = v3 c
          ∧ r.2.mem ((c.tc : Thread Cert.FinalRefIdeal.nD Cert.FinalRefIdeal.τ).loc Cert.FinalRefIdeal.main_v37) = v4 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)
      ∧ m' ((c.tc : Thread Cert.PreNormRefIdeal.nD Cert.PreNormRefIdeal.τ).loc Cert.PreNormRefIdeal.main_arg2) = m ((c.tc : Thread Cert.PreNormIdeal.nD Cert.PreNormIdeal.τ).loc Cert.PreNormIdeal.main_arg2)
      ∧ m' ((c.tc : Thread Cert.PreNormRefIdeal.nD Cert.PreNormRefIdeal.τ).loc Cert.PreNormRefIdeal.main_arg3) = m ((c.tc : Thread Cert.PreNormIdeal.nD Cert.PreNormIdeal.τ).loc Cert.PreNormIdeal.main_arg3)) →
    ∃ (v0 : (c : Dev Cert.PreNormIdeal.nD) → Buf (Elt Ideal) ((c.tc : Thread Cert.PreNormIdeal.nD Cert.PreNormIdeal.τ).loc Cert.PreNormIdeal.main_v0)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v0) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
          ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2)
          ∧ r.2.mem ((c.tc : Thread Cert.PreNormIdeal.nD Cert.PreNormIdeal.τ).loc Cert.PreNormIdeal.main_arg3) = m ((c.tc : Thread Cert.PreNormIdeal.nD Cert.PreNormIdeal.τ).loc Cert.PreNormIdeal.main_arg3))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v18) = v0 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1)
          ∧ r.2.mem ((c.tc : Thread Cert.PreNormRefIdeal.nD Cert.PreNormRefIdeal.τ).loc Cert.PreNormRefIdeal.main_arg2) = m' ((c.tc : Thread Cert.PreNormRefIdeal.nD Cert.PreNormRefIdeal.τ).loc Cert.PreNormRefIdeal.main_arg2)
          ∧ r.2.mem ((c.tc : Thread Cert.PreNormRefIdeal.nD Cert.PreNormRefIdeal.τ).loc Cert.PreNormRefIdeal.main_arg3) = m' ((c.tc : Thread Cert.PreNormRefIdeal.nD Cert.PreNormRefIdeal.τ).loc Cert.PreNormRefIdeal.main_arg3))

def preserves_CatNorm_CatNormIdeal : Prop :=
  True

def algebraic_CatNormIdeal_CatNormRefIdeal [hCatNormIdeal : Cert.CatNormIdeal.Facts] [hCatNormRefIdeal : Cert.CatNormRefIdeal.Facts] : Prop :=
  ∀ (m : (ℓ : Loc Cert.CatNormIdeal.nD Cert.CatNormIdeal.τ Cert.CatNormIdeal.sig) → Buf (Elt Ideal) ℓ) (g : Dev Cert.CatNormIdeal.nD → PrngReg)
    (m' : (ℓ : Loc Cert.CatNormRefIdeal.nD Cert.CatNormRefIdeal.τ Cert.CatNormRefIdeal.sig) → Buf (Elt Ideal) ℓ) (g' : Dev Cert.CatNormRefIdeal.nD → PrngReg), Pre_CatNormIdeal m →
    (∀ c : Dev Cert.CatNormIdeal.nD,
      m' ((c.tc : Thread Cert.CatNormRefIdeal.nD Cert.CatNormRefIdeal.τ).loc Cert.CatNormRefIdeal.main_arg0) = m ((c.tc : Thread Cert.CatNormIdeal.nD Cert.CatNormIdeal.τ).loc Cert.CatNormIdeal.main_arg0)
      ∧ m' ((c.tc : Thread Cert.CatNormRefIdeal.nD Cert.CatNormRefIdeal.τ).loc Cert.CatNormRefIdeal.main_arg1) = m ((c.tc : Thread Cert.CatNormIdeal.nD Cert.CatNormIdeal.τ).loc Cert.CatNormIdeal.main_arg1)
      ∧ m' ((c.tc : Thread Cert.CatNormRefIdeal.nD Cert.CatNormRefIdeal.τ).loc Cert.CatNormRefIdeal.main_arg2) = m ((c.tc : Thread Cert.CatNormIdeal.nD Cert.CatNormIdeal.τ).loc Cert.CatNormIdeal.main_arg2)
      ∧ m' ((c.tc : Thread Cert.CatNormRefIdeal.nD Cert.CatNormRefIdeal.τ).loc Cert.CatNormRefIdeal.main_arg3) = m ((c.tc : Thread Cert.CatNormIdeal.nD Cert.CatNormIdeal.τ).loc Cert.CatNormIdeal.main_arg3)) →
    ∃ (v0 : (c : Dev Cert.CatNormIdeal.nD) → Buf (Elt Ideal) ((c.tc : Thread Cert.CatNormIdeal.nD Cert.CatNormIdeal.τ).loc Cert.CatNormIdeal.main_v0)),
      θ_run (Cert.CatNormIdeal.defs (F := Ideal)) (onTc (τ := Cert.CatNormIdeal.τ) (Cert.CatNormIdeal.main (F := Ideal))) ⟨m, fun _ => 0, g⟩ (fun r => ∀ c : Dev Cert.CatNormIdeal.nD,
          r.2.mem ((c.tc : Thread Cert.CatNormIdeal.nD Cert.CatNormIdeal.τ).loc Cert.CatNormIdeal.main_v0) = v0 c
          ∧ r.2.mem ((c.tc : Thread Cert.CatNormIdeal.nD Cert.CatNormIdeal.τ).loc Cert.CatNormIdeal.main_arg0) = m ((c.tc : Thread Cert.CatNormIdeal.nD Cert.CatNormIdeal.τ).loc Cert.CatNormIdeal.main_arg0)
          ∧ r.2.mem ((c.tc : Thread Cert.CatNormIdeal.nD Cert.CatNormIdeal.τ).loc Cert.CatNormIdeal.main_arg1) = m ((c.tc : Thread Cert.CatNormIdeal.nD Cert.CatNormIdeal.τ).loc Cert.CatNormIdeal.main_arg1)
          ∧ r.2.mem ((c.tc : Thread Cert.CatNormIdeal.nD Cert.CatNormIdeal.τ).loc Cert.CatNormIdeal.main_arg2) = m ((c.tc : Thread Cert.CatNormIdeal.nD Cert.CatNormIdeal.τ).loc Cert.CatNormIdeal.main_arg2)
          ∧ r.2.mem ((c.tc : Thread Cert.CatNormIdeal.nD Cert.CatNormIdeal.τ).loc Cert.CatNormIdeal.main_arg3) = m ((c.tc : Thread Cert.CatNormIdeal.nD Cert.CatNormIdeal.τ).loc Cert.CatNormIdeal.main_arg3))
      ∧ θ_run (Cert.CatNormRefIdeal.defs (F := Ideal)) (onTc (τ := Cert.CatNormRefIdeal.τ) (Cert.CatNormRefIdeal.main (F := Ideal))) ⟨m', fun _ => 0, g'⟩ (fun r => ∀ c : Dev Cert.CatNormRefIdeal.nD,
          r.2.mem ((c.tc : Thread Cert.CatNormRefIdeal.nD Cert.CatNormRefIdeal.τ).loc Cert.CatNormRefIdeal.main_v25) = v0 c
          ∧ r.2.mem ((c.tc : Thread Cert.CatNormRefIdeal.nD Cert.CatNormRefIdeal.τ).loc Cert.CatNormRefIdeal.main_arg0) = m' ((c.tc : Thread Cert.CatNormRefIdeal.nD Cert.CatNormRefIdeal.τ).loc Cert.CatNormRefIdeal.main_arg0)
          ∧ r.2.mem ((c.tc : Thread Cert.CatNormRefIdeal.nD Cert.CatNormRefIdeal.τ).loc Cert.CatNormRefIdeal.main_arg1) = m' ((c.tc : Thread Cert.CatNormRefIdeal.nD Cert.CatNormRefIdeal.τ).loc Cert.CatNormRefIdeal.main_arg1)
          ∧ r.2.mem ((c.tc : Thread Cert.CatNormRefIdeal.nD Cert.CatNormRefIdeal.τ).loc Cert.CatNormRefIdeal.main_arg2) = m' ((c.tc : Thread Cert.CatNormRefIdeal.nD Cert.CatNormRefIdeal.τ).loc Cert.CatNormRefIdeal.main_arg2)
          ∧ r.2.mem ((c.tc : Thread Cert.CatNormRefIdeal.nD Cert.CatNormRefIdeal.τ).loc Cert.CatNormRefIdeal.main_arg3) = m' ((c.tc : Thread Cert.CatNormRefIdeal.nD Cert.CatNormRefIdeal.τ).loc Cert.CatNormRefIdeal.main_arg3))

def preserves_MidFwd_MidFwdIdeal : Prop :=
  True

def algebraic_MidFwdIdeal_MidFwdRefIdeal [hMidFwdIdeal : Cert.MidFwdIdeal.Facts] [hMidFwdRefIdeal : Cert.MidFwdRefIdeal.Facts] : Prop :=
  ∀ (m : (ℓ : Loc Cert.MidFwdIdeal.nD Cert.MidFwdIdeal.τ Cert.MidFwdIdeal.sig) → Buf (Elt Ideal) ℓ) (g : Dev Cert.MidFwdIdeal.nD → PrngReg)
    (m' : (ℓ : Loc Cert.MidFwdRefIdeal.nD Cert.MidFwdRefIdeal.τ Cert.MidFwdRefIdeal.sig) → Buf (Elt Ideal) ℓ) (g' : Dev Cert.MidFwdRefIdeal.nD → PrngReg), Pre_MidFwdIdeal m →
    (∀ c : Dev Cert.MidFwdIdeal.nD,
      m' ((c.tc : Thread Cert.MidFwdRefIdeal.nD Cert.MidFwdRefIdeal.τ).loc Cert.MidFwdRefIdeal.main_arg0) = m ((c.tc : Thread Cert.MidFwdIdeal.nD Cert.MidFwdIdeal.τ).loc Cert.MidFwdIdeal.main_arg0)
      ∧ m' ((c.tc : Thread Cert.MidFwdRefIdeal.nD Cert.MidFwdRefIdeal.τ).loc Cert.MidFwdRefIdeal.main_arg1) = m ((c.tc : Thread Cert.MidFwdIdeal.nD Cert.MidFwdIdeal.τ).loc Cert.MidFwdIdeal.main_arg1)
      ∧ m' ((c.tc : Thread Cert.MidFwdRefIdeal.nD Cert.MidFwdRefIdeal.τ).loc Cert.MidFwdRefIdeal.main_arg2) = m ((c.tc : Thread Cert.MidFwdIdeal.nD Cert.MidFwdIdeal.τ).loc Cert.MidFwdIdeal.main_arg2)
      ∧ m' ((c.tc : Thread Cert.MidFwdRefIdeal.nD Cert.MidFwdRefIdeal.τ).loc Cert.MidFwdRefIdeal.main_arg3) = m ((c.tc : Thread Cert.MidFwdIdeal.nD Cert.MidFwdIdeal.τ).loc Cert.MidFwdIdeal.main_arg3)
      ∧ m' ((c.tc : Thread Cert.MidFwdRefIdeal.nD Cert.MidFwdRefIdeal.τ).loc Cert.MidFwdRefIdeal.main_arg4) = m ((c.tc : Thread Cert.MidFwdIdeal.nD Cert.MidFwdIdeal.τ).loc Cert.MidFwdIdeal.main_arg4)
      ∧ m' ((c.tc : Thread Cert.MidFwdRefIdeal.nD Cert.MidFwdRefIdeal.τ).loc Cert.MidFwdRefIdeal.main_arg5) = m ((c.tc : Thread Cert.MidFwdIdeal.nD Cert.MidFwdIdeal.τ).loc Cert.MidFwdIdeal.main_arg5)
      ∧ m' ((c.tc : Thread Cert.MidFwdRefIdeal.nD Cert.MidFwdRefIdeal.τ).loc Cert.MidFwdRefIdeal.main_arg6) = m ((c.tc : Thread Cert.MidFwdIdeal.nD Cert.MidFwdIdeal.τ).loc Cert.MidFwdIdeal.main_arg6)) →
    ∃ (v0 : (c : Dev Cert.MidFwdIdeal.nD) → Buf (Elt Ideal) ((c.tc : Thread Cert.MidFwdIdeal.nD Cert.MidFwdIdeal.τ).loc Cert.MidFwdIdeal.main_v0_0)) (v1 : (c : Dev Cert.MidFwdIdeal.nD) → Buf (Elt Ideal) ((c.tc : Thread Cert.MidFwdIdeal.nD Cert.MidFwdIdeal.τ).loc Cert.MidFwdIdeal.main_v0_1)),
      θ_run (Cert.MidFwdIdeal.defs (F := Ideal)) (onTc (τ := Cert.MidFwdIdeal.τ) (Cert.MidFwdIdeal.main (F := Ideal))) ⟨m, fun _ => 0, g⟩ (fun r => ∀ c : Dev Cert.MidFwdIdeal.nD,
          r.2.mem ((c.tc : Thread Cert.MidFwdIdeal.nD Cert.MidFwdIdeal.τ).loc Cert.MidFwdIdeal.main_v0_0) = v0 c
          ∧ r.2.mem ((c.tc : Thread Cert.MidFwdIdeal.nD Cert.MidFwdIdeal.τ).loc Cert.MidFwdIdeal.main_v0_1) = v1 c
          ∧ r.2.mem ((c.tc : Thread Cert.MidFwdIdeal.nD Cert.MidFwdIdeal.τ).loc Cert.MidFwdIdeal.main_arg0) = m ((c.tc : Thread Cert.MidFwdIdeal.nD Cert.MidFwdIdeal.τ).loc Cert.MidFwdIdeal.main_arg0)
          ∧ r.2.mem ((c.tc : Thread Cert.MidFwdIdeal.nD Cert.MidFwdIdeal.τ).loc Cert.MidFwdIdeal.main_arg1) = m ((c.tc : Thread Cert.MidFwdIdeal.nD Cert.MidFwdIdeal.τ).loc Cert.MidFwdIdeal.main_arg1)
          ∧ r.2.mem ((c.tc : Thread Cert.MidFwdIdeal.nD Cert.MidFwdIdeal.τ).loc Cert.MidFwdIdeal.main_arg2) = m ((c.tc : Thread Cert.MidFwdIdeal.nD Cert.MidFwdIdeal.τ).loc Cert.MidFwdIdeal.main_arg2)
          ∧ r.2.mem ((c.tc : Thread Cert.MidFwdIdeal.nD Cert.MidFwdIdeal.τ).loc Cert.MidFwdIdeal.main_arg3) = m ((c.tc : Thread Cert.MidFwdIdeal.nD Cert.MidFwdIdeal.τ).loc Cert.MidFwdIdeal.main_arg3)
          ∧ r.2.mem ((c.tc : Thread Cert.MidFwdIdeal.nD Cert.MidFwdIdeal.τ).loc Cert.MidFwdIdeal.main_arg4) = m ((c.tc : Thread Cert.MidFwdIdeal.nD Cert.MidFwdIdeal.τ).loc Cert.MidFwdIdeal.main_arg4)
          ∧ r.2.mem ((c.tc : Thread Cert.MidFwdIdeal.nD Cert.MidFwdIdeal.τ).loc Cert.MidFwdIdeal.main_arg5) = m ((c.tc : Thread Cert.MidFwdIdeal.nD Cert.MidFwdIdeal.τ).loc Cert.MidFwdIdeal.main_arg5)
          ∧ r.2.mem ((c.tc : Thread Cert.MidFwdIdeal.nD Cert.MidFwdIdeal.τ).loc Cert.MidFwdIdeal.main_arg6) = m ((c.tc : Thread Cert.MidFwdIdeal.nD Cert.MidFwdIdeal.τ).loc Cert.MidFwdIdeal.main_arg6))
      ∧ θ_run (Cert.MidFwdRefIdeal.defs (F := Ideal)) (onTc (τ := Cert.MidFwdRefIdeal.τ) (Cert.MidFwdRefIdeal.main (F := Ideal))) ⟨m', fun _ => 0, g'⟩ (fun r => ∀ c : Dev Cert.MidFwdRefIdeal.nD,
          r.2.mem ((c.tc : Thread Cert.MidFwdRefIdeal.nD Cert.MidFwdRefIdeal.τ).loc Cert.MidFwdRefIdeal.main_v14) = v0 c
          ∧ r.2.mem ((c.tc : Thread Cert.MidFwdRefIdeal.nD Cert.MidFwdRefIdeal.τ).loc Cert.MidFwdRefIdeal.main_v33) = v1 c
          ∧ r.2.mem ((c.tc : Thread Cert.MidFwdRefIdeal.nD Cert.MidFwdRefIdeal.τ).loc Cert.MidFwdRefIdeal.main_arg0) = m' ((c.tc : Thread Cert.MidFwdRefIdeal.nD Cert.MidFwdRefIdeal.τ).loc Cert.MidFwdRefIdeal.main_arg0)
          ∧ r.2.mem ((c.tc : Thread Cert.MidFwdRefIdeal.nD Cert.MidFwdRefIdeal.τ).loc Cert.MidFwdRefIdeal.main_arg1) = m' ((c.tc : Thread Cert.MidFwdRefIdeal.nD Cert.MidFwdRefIdeal.τ).loc Cert.MidFwdRefIdeal.main_arg1)
          ∧ r.2.mem ((c.tc : Thread Cert.MidFwdRefIdeal.nD Cert.MidFwdRefIdeal.τ).loc Cert.MidFwdRefIdeal.main_arg2) = m' ((c.tc : Thread Cert.MidFwdRefIdeal.nD Cert.MidFwdRefIdeal.τ).loc Cert.MidFwdRefIdeal.main_arg2)
          ∧ r.2.mem ((c.tc : Thread Cert.MidFwdRefIdeal.nD Cert.MidFwdRefIdeal.τ).loc Cert.MidFwdRefIdeal.main_arg3) = m' ((c.tc : Thread Cert.MidFwdRefIdeal.nD Cert.MidFwdRefIdeal.τ).loc Cert.MidFwdRefIdeal.main_arg3)
          ∧ r.2.mem ((c.tc : Thread Cert.MidFwdRefIdeal.nD Cert.MidFwdRefIdeal.τ).loc Cert.MidFwdRefIdeal.main_arg4) = m' ((c.tc : Thread Cert.MidFwdRefIdeal.nD Cert.MidFwdRefIdeal.τ).loc Cert.MidFwdRefIdeal.main_arg4)
          ∧ r.2.mem ((c.tc : Thread Cert.MidFwdRefIdeal.nD Cert.MidFwdRefIdeal.τ).loc Cert.MidFwdRefIdeal.main_arg5) = m' ((c.tc : Thread Cert.MidFwdRefIdeal.nD Cert.MidFwdRefIdeal.τ).loc Cert.MidFwdRefIdeal.main_arg5)
          ∧ r.2.mem ((c.tc : Thread Cert.MidFwdRefIdeal.nD Cert.MidFwdRefIdeal.τ).loc Cert.MidFwdRefIdeal.main_arg6) = m' ((c.tc : Thread Cert.MidFwdRefIdeal.nD Cert.MidFwdRefIdeal.τ).loc Cert.MidFwdRefIdeal.main_arg6))

def preserves_SguFwd_SguFwdIdeal : Prop :=
  True

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v3)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v3) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v65) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4))

def Claim : Prop :=
  ∃ (hKernel : Cert.Kernel.Facts) (hKernelIdeal : Cert.KernelIdeal.Facts) (hReferenceIdeal : Cert.ReferenceIdeal.Facts) (hDownDw : Cert.DownDw.Facts) (hDownDwIdeal : Cert.DownDwIdeal.Facts) (hDownDwRefIdeal : Cert.DownDwRefIdeal.Facts) (hDownDx : Cert.DownDx.Facts) (hDownDxIdeal : Cert.DownDxIdeal.Facts) (hDownDxRefIdeal : Cert.DownDxRefIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hSgu : Cert.Sgu.Facts) (hSguIdeal : Cert.SguIdeal.Facts) (hSguRefIdeal : Cert.SguRefIdeal.Facts) (hCatBwd : Cert.CatBwd.Facts) (hCatBwdIdeal : Cert.CatBwdIdeal.Facts) (hCatBwdRefIdeal : Cert.CatBwdRefIdeal.Facts) (hMidBwd : Cert.MidBwd.Facts) (hMidBwdIdeal : Cert.MidBwdIdeal.Facts) (hMidBwdRefIdeal : Cert.MidBwdRefIdeal.Facts) (hFirstBwd : Cert.FirstBwd.Facts) (hFirstBwdIdeal : Cert.FirstBwdIdeal.Facts) (hFirstBwdRefIdeal : Cert.FirstBwdRefIdeal.Facts) (hAdamAda : Cert.AdamAda.Facts) (hAdamAdaIdeal : Cert.AdamAdaIdeal.Facts) (hAdamAdaRefIdeal : Cert.AdamAdaRefIdeal.Facts) (hAdamIn : Cert.AdamIn.Facts) (hAdamInIdeal : Cert.AdamInIdeal.Facts) (hAdamInRefIdeal : Cert.AdamInRefIdeal.Facts) (hAdamUp : Cert.AdamUp.Facts) (hAdamUpIdeal : Cert.AdamUpIdeal.Facts) (hAdamUpRefIdeal : Cert.AdamUpRefIdeal.Facts) (hAdamOut : Cert.AdamOut.Facts) (hAdamOutIdeal : Cert.AdamOutIdeal.Facts) (hAdamOutRefIdeal : Cert.AdamOutRefIdeal.Facts) (hAdamDown : Cert.AdamDown.Facts) (hAdamDownIdeal : Cert.AdamDownIdeal.Facts) (hAdamDownRefIdeal : Cert.AdamDownRefIdeal.Facts) (hAdamWide : Cert.AdamWide.Facts) (hAdamWideIdeal : Cert.AdamWideIdeal.Facts) (hAdamWideRefIdeal : Cert.AdamWideRefIdeal.Facts) (hFinal : Cert.Final.Facts) (hFinalIdeal : Cert.FinalIdeal.Facts) (hFinalRefIdeal : Cert.FinalRefIdeal.Facts) (hPreNorm : Cert.PreNorm.Facts) (hPreNormIdeal : Cert.PreNormIdeal.Facts) (hPreNormRefIdeal : Cert.PreNormRefIdeal.Facts) (hCatNorm : Cert.CatNorm.Facts) (hCatNormIdeal : Cert.CatNormIdeal.Facts) (hCatNormRefIdeal : Cert.CatNormRefIdeal.Facts) (hMidFwd : Cert.MidFwd.Facts) (hMidFwdIdeal : Cert.MidFwdIdeal.Facts) (hMidFwdRefIdeal : Cert.MidFwdRefIdeal.Facts) (hSguFwd : Cert.SguFwd.Facts) (hSguFwdIdeal : Cert.SguFwdIdeal.Facts) (hSguFwdRefIdeal : Cert.SguFwdRefIdeal.Facts),
    quiescent_Kernel (hKernel := hKernel)
    ∧ quiescent_KernelIdeal (hKernelIdeal := hKernelIdeal)
    ∧ quiescent_ReferenceIdeal (hReferenceIdeal := hReferenceIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_In (hIn := hIn)
    ∧ quiescent_InIdeal (hInIdeal := hInIdeal)
    ∧ quiescent_InRefIdeal (hInRefIdeal := hInRefIdeal)
    ∧ quiescent_Out (hOut := hOut)
    ∧ quiescent_OutIdeal (hOutIdeal := hOutIdeal)
    ∧ quiescent_OutRefIdeal (hOutRefIdeal := hOutRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Sgu (hSgu := hSgu)
    ∧ quiescent_SguIdeal (hSguIdeal := hSguIdeal)
    ∧ quiescent_SguRefIdeal (hSguRefIdeal := hSguRefIdeal)
    ∧ quiescent_CatBwd (hCatBwd := hCatBwd)
    ∧ quiescent_CatBwdIdeal (hCatBwdIdeal := hCatBwdIdeal)
    ∧ quiescent_CatBwdRefIdeal (hCatBwdRefIdeal := hCatBwdRefIdeal)
    ∧ quiescent_MidBwd (hMidBwd := hMidBwd)
    ∧ quiescent_MidBwdIdeal (hMidBwdIdeal := hMidBwdIdeal)
    ∧ quiescent_MidBwdRefIdeal (hMidBwdRefIdeal := hMidBwdRefIdeal)
    ∧ quiescent_FirstBwd (hFirstBwd := hFirstBwd)
    ∧ quiescent_FirstBwdIdeal (hFirstBwdIdeal := hFirstBwdIdeal)
    ∧ quiescent_FirstBwdRefIdeal (hFirstBwdRefIdeal := hFirstBwdRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamWide (hAdamWide := hAdamWide)
    ∧ quiescent_AdamWideIdeal (hAdamWideIdeal := hAdamWideIdeal)
    ∧ quiescent_AdamWideRefIdeal (hAdamWideRefIdeal := hAdamWideRefIdeal)
    ∧ quiescent_Final (hFinal := hFinal)
    ∧ quiescent_FinalIdeal (hFinalIdeal := hFinalIdeal)
    ∧ quiescent_FinalRefIdeal (hFinalRefIdeal := hFinalRefIdeal)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_CatNorm (hCatNorm := hCatNorm)
    ∧ quiescent_CatNormIdeal (hCatNormIdeal := hCatNormIdeal)
    ∧ quiescent_CatNormRefIdeal (hCatNormRefIdeal := hCatNormRefIdeal)
    ∧ quiescent_MidFwd (hMidFwd := hMidFwd)
    ∧ quiescent_MidFwdIdeal (hMidFwdIdeal := hMidFwdIdeal)
    ∧ quiescent_MidFwdRefIdeal (hMidFwdRefIdeal := hMidFwdRefIdeal)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ preserves_Kernel_KernelIdeal
    ∧ algebraic_KernelIdeal_ReferenceIdeal (hKernelIdeal := hKernelIdeal) (hReferenceIdeal := hReferenceIdeal)
    ∧ preserves_DownDw_DownDwIdeal
    ∧ algebraic_DownDwIdeal_DownDwRefIdeal (hDownDwIdeal := hDownDwIdeal) (hDownDwRefIdeal := hDownDwRefIdeal)
    ∧ preserves_DownDx_DownDxIdeal
    ∧ algebraic_DownDxIdeal_DownDxRefIdeal (hDownDxIdeal := hDownDxIdeal) (hDownDxRefIdeal := hDownDxRefIdeal)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal (hOutDxIdeal := hOutDxIdeal) (hOutDxRefIdeal := hOutDxRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_In_InIdeal
    ∧ algebraic_InIdeal_InRefIdeal (hInIdeal := hInIdeal) (hInRefIdeal := hInRefIdeal)
    ∧ preserves_Out_OutIdeal
    ∧ algebraic_OutIdeal_OutRefIdeal (hOutIdeal := hOutIdeal) (hOutRefIdeal := hOutRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Sgu_SguIdeal
    ∧ algebraic_SguIdeal_SguRefIdeal (hSguIdeal := hSguIdeal) (hSguRefIdeal := hSguRefIdeal)
    ∧ preserves_CatBwd_CatBwdIdeal
    ∧ algebraic_CatBwdIdeal_CatBwdRefIdeal (hCatBwdIdeal := hCatBwdIdeal) (hCatBwdRefIdeal := hCatBwdRefIdeal)
    ∧ preserves_MidBwd_MidBwdIdeal
    ∧ algebraic_MidBwdIdeal_MidBwdRefIdeal (hMidBwdIdeal := hMidBwdIdeal) (hMidBwdRefIdeal := hMidBwdRefIdeal)
    ∧ preserves_FirstBwd_FirstBwdIdeal
    ∧ algebraic_FirstBwdIdeal_FirstBwdRefIdeal (hFirstBwdIdeal := hFirstBwdIdeal) (hFirstBwdRefIdeal := hFirstBwdRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamIn_AdamInIdeal
    ∧ algebraic_AdamInIdeal_AdamInRefIdeal (hAdamInIdeal := hAdamInIdeal) (hAdamInRefIdeal := hAdamInRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamWide_AdamWideIdeal
    ∧ algebraic_AdamWideIdeal_AdamWideRefIdeal (hAdamWideIdeal := hAdamWideIdeal) (hAdamWideRefIdeal := hAdamWideRefIdeal)
    ∧ preserves_Final_FinalIdeal
    ∧ algebraic_FinalIdeal_FinalRefIdeal (hFinalIdeal := hFinalIdeal) (hFinalRefIdeal := hFinalRefIdeal)
    ∧ preserves_PreNorm_PreNormIdeal
    ∧ algebraic_PreNormIdeal_PreNormRefIdeal (hPreNormIdeal := hPreNormIdeal) (hPreNormRefIdeal := hPreNormRefIdeal)
    ∧ preserves_CatNorm_CatNormIdeal
    ∧ algebraic_CatNormIdeal_CatNormRefIdeal (hCatNormIdeal := hCatNormIdeal) (hCatNormRefIdeal := hCatNormRefIdeal)
    ∧ preserves_MidFwd_MidFwdIdeal
    ∧ algebraic_MidFwdIdeal_MidFwdRefIdeal (hMidFwdIdeal := hMidFwdIdeal) (hMidFwdRefIdeal := hMidFwdRefIdeal)
    ∧ preserves_SguFwd_SguFwdIdeal
    ∧ algebraic_SguFwdIdeal_SguFwdRefIdeal (hSguFwdIdeal := hSguFwdIdeal) (hSguFwdRefIdeal := hSguFwdRefIdeal)
-- ==== Kernel.lean ====
abbrev S2048x11264 : Shape := ⟨2, ![2048, 11264]⟩
abbrev S2048x5632 : Shape := ⟨2, ![2048, 5632]⟩
abbrev S3x11264 : Shape := ⟨2, ![3, 11264]⟩
abbrev S1x11264 : Shape := ⟨2, ![1, 11264]⟩
abbrev S256x2816 : Shape := ⟨2, ![256, 2816]⟩
abbrev S8x2816 : Shape := ⟨2, ![8, 2816]⟩
abbrev S256x1408 : Shape := ⟨2, ![256, 1408]⟩
abbrev S3x2816 : Shape := ⟨2, ![3, 2816]⟩
abbrev S1x2816 : Shape := ⟨2, ![1, 2816]⟩
abbrev S2816 : Shape := ⟨1, ![2816]⟩

abbrev nBuf : Space → Nat
  | .hbm => 7
  | .vmem => 17
  | .smem => 0
  | _ => 0

abbrev bufTy : (tb : Table) → Fin (tcTables nBuf tb) → BufTy
  | .hbm, ⟨0, _⟩ => ⟨S2048x11264, .f32⟩
  | .hbm, ⟨1, _⟩ => ⟨S2048x5632, .f32⟩
  | .hbm, ⟨2, _⟩ => ⟨S3x11264, .f32⟩
  | .hbm, ⟨3, _⟩ => ⟨S1x11264, .f32⟩
  | .hbm, ⟨4, _⟩ => ⟨S2048x11264, .bf16⟩
  | .hbm, ⟨5, _⟩ => ⟨S3x11264, .f32⟩
  | .hbm, ⟨6, _⟩ => ⟨S1x11264, .f32⟩
  | .local _ .vmem, ⟨0, _⟩ => ⟨S256x2816, .f32⟩
  | .local _ .vmem, ⟨1, _⟩ => ⟨S256x2816, .f32⟩
  | .local _ .vmem, ⟨2, _⟩ => ⟨S8x2816, .f32⟩
  | .local _ .vmem, ⟨3, _⟩ => ⟨S8x2816, .f32⟩
  | .local _ .vmem, ⟨4, _⟩ => ⟨S256x1408, .f32⟩
  | .local _ .vmem, ⟨5, _⟩ => ⟨S256x1408, .f32⟩
  | .local _ .vmem, ⟨6, _⟩ => ⟨S3x2816, .f32⟩
  | .local _ .vmem, ⟨7, _⟩ => ⟨S3x2816, .f32⟩
  | .local _ .vmem, ⟨8, _⟩ => ⟨S1x2816, .f32⟩
  | .local _ .vmem, ⟨9, _⟩ => ⟨S1x2816, .f32⟩
  | .local _ .vmem, ⟨10, _⟩ => ⟨S256x2816, .bf16⟩
  | .local _ .vmem, ⟨11, _⟩ => ⟨S256x2816, .bf16⟩
  | .local _ .vmem, ⟨12, _⟩ => ⟨S3x2816, .f32⟩
  | .local _ .vmem, ⟨13, _⟩ => ⟨S3x2816, .f32⟩
  | .local _ .vmem, ⟨14, _⟩ => ⟨S1x2816, .f32⟩
  | .local _ .vmem, ⟨15, _⟩ => ⟨S1x2816, .f32⟩
  | .local _ .vmem, ⟨16, _⟩ => ⟨S8x2816, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2048x11264 : Shape := ⟨2, ![2048, 11264]⟩
abbrev S2048x5632 : Shape := ⟨2, ![2048, 5632]⟩
abbrev S3x11264 : Shape := ⟨2, ![3, 11264]⟩
abbrev S1x11264 : Shape := ⟨2, ![1, 11264]⟩
abbrev S1x2048x11264 : Shape := ⟨3, ![1, 2048, 11264]⟩
abbrev S11264 : Shape := ⟨1, ![11264]⟩
abbrev S_ : Shape := ⟨0, ![]⟩
abbrev S1x2x11264 : Shape := ⟨3, ![1, 2, 11264]⟩
abbrev S1x2050x11264 : Shape := ⟨3, ![1, 2050, 11264]⟩
abbrev S1x1x11264 : Shape := ⟨3, ![1, 1, 11264]⟩
abbrev S1x2048x4x2x1408 : Shape := ⟨5, ![1, 2048, 4, 2, 1408]⟩
abbrev S1x2048x4x1x1408 : Shape := ⟨5, ![1, 2048, 4, 1, 1408]⟩
abbrev S1x2048x4x1408 : Shape := ⟨4, ![1, 2048, 4, 1408]⟩
abbrev S1x2048x5632 : Shape := ⟨3, ![1, 2048, 5632]⟩

abbrev nBuf : Space → Nat
  | .hbm => 126
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S2048x5632, .f32⟩
  | .hbm, ⟨2, _⟩ => ⟨S3x11264, .f32⟩
  | .hbm, ⟨3, _⟩ => ⟨S1x11264, .f32⟩
  | .hbm, ⟨4, _⟩ => ⟨S1x2048x11264, .f32⟩
  | .hbm, ⟨5, _⟩ => ⟨S11264, .f32⟩
  | .hbm, ⟨6, _⟩ => ⟨S_, .f32⟩
  | .hbm, ⟨7, _⟩ => ⟨S1x2x11264, .f32⟩
  | .hbm, ⟨8, _⟩ => ⟨S1x2050x11264, .f32⟩
  | .hbm, ⟨9, _⟩ => ⟨S_, .f32⟩
  | .hbm, ⟨10, _⟩ => ⟨S1x2x11264, .f32⟩
  | .hbm, ⟨11, _⟩ => ⟨S1x11264, .f32⟩
  | .hbm, ⟨12, _⟩ => ⟨S11264, .f32⟩
  | .hbm, ⟨13, _⟩ => ⟨S1x2048x11264, .f32⟩
  | .hbm, ⟨14, _⟩ => ⟨S1x1x11264, .f32⟩
  | .hbm, ⟨15, _⟩ => ⟨S1x2048x11264, .f32⟩
  | .hbm, ⟨16, _⟩ => ⟨S1x2048x11264, .f32⟩
  | .hbm, ⟨17, _⟩ => ⟨S1x11264, .f32⟩
  | .hbm, ⟨18, _⟩ => ⟨S11264, .f32⟩
  | .hbm, ⟨19, _⟩ => ⟨S1x2048x11264, .f32⟩
  | .hbm, ⟨20, _⟩ => ⟨S1x1x11264, .f32⟩
  | .hbm, ⟨21, _⟩ => ⟨S1x2048x11264, .f32⟩
  | .hbm, ⟨22, _⟩ => ⟨S1x2048x11264, .f32⟩
  | .hbm, ⟨23, _⟩ => ⟨S1x2048x11264, .f32⟩
  | .hbm, ⟨24, _⟩ => ⟨S1x11264, .f32⟩
  | .hbm, ⟨25, _⟩ => ⟨S11264, .f32⟩
  | .hbm, ⟨26, _⟩ => ⟨S1x2048x11264, .f32⟩
  | .hbm, ⟨27, _⟩ => ⟨S1x1x11264, .f32⟩
  | .hbm, ⟨28, _⟩ => ⟨S1x2048x11264, .f32⟩
  | .hbm, ⟨29, _⟩ => ⟨S1x2048x11264, .f32⟩
  | .hbm, ⟨30, _⟩ => ⟨S1x2048x11264, .f32⟩
  | .hbm, ⟨31, _⟩ => ⟨S1x1x11264, .f32⟩
  | .hbm, ⟨32, _⟩ => ⟨S1x2048x11264, .f32⟩
  | .hbm, ⟨33, _⟩ => ⟨S1x2048x11264, .f32⟩
  | .hbm, ⟨34, _⟩ => ⟨S1x2048x4x2x1408, .f32⟩
  | .hbm, ⟨35, _⟩ => ⟨S1x2048x4x1x1408, .f32⟩
  | .hbm, ⟨36, _⟩ => ⟨S1x2048x4x1408, .f32⟩
  | .hbm, ⟨37, _⟩ => ⟨S1x2048x5632, .f32⟩
  | .hbm, ⟨38, _⟩ => ⟨S1x2048x4x1x1408, .f32⟩
  | .hbm, ⟨39, _⟩ => ⟨S1x2048x4x1408, .f32⟩
  | .hbm, ⟨40, _⟩ => ⟨S1x2048x5632, .f32⟩
  | .hbm, ⟨41, _⟩ => ⟨S1x2048x5632, .f32⟩
  | .hbm, ⟨42, _⟩ => ⟨S1x2048x5632, .f32⟩
  | .hbm, ⟨43, _⟩ => ⟨S_, .f32⟩
  | .hbm, ⟨44, _⟩ => ⟨S1x2048x5632, .f32⟩
  | .hbm, ⟨45, _⟩ => ⟨S1x2048x5632, .f32⟩
  | .hbm, ⟨46, _⟩ => ⟨S_, .f32⟩
  | .hbm, ⟨47, _⟩ => ⟨S1x2048x5632, .f32⟩
  | .hbm, ⟨48, _⟩ => ⟨S1x2048x5632, .f32⟩
  | .hbm, ⟨49, _⟩ => ⟨S_, .f32⟩
  | .hbm, ⟨50, _⟩ => ⟨S1x2048x5632, .f32⟩
  | .hbm, ⟨51, _⟩ => ⟨S1x2048x5632, .f32⟩
  | .hbm, ⟨52, _⟩ => ⟨S1x2048x5632, .f32⟩
  | .hbm, ⟨53, _⟩ => ⟨S1x2048x5632, .f32⟩
  | .hbm, ⟨54, _⟩ => ⟨S1x2048x5632, .f32⟩
  | .hbm, ⟨55, _⟩ => ⟨S1x2048x5632, .f32⟩
  | .hbm, ⟨56, _⟩ => ⟨S1x2048x5632, .f32⟩
  | .hbm, ⟨57, _⟩ => ⟨S1x2048x5632, .f32⟩
  | .hbm, ⟨58, _⟩ => ⟨S1x2048x5632, .f32⟩
  | .hbm, ⟨59, _⟩ => ⟨S1x2048x5632, .f32⟩
  | .hbm, ⟨60, _⟩ => ⟨S1x2048x5632, .f32⟩
  | .hbm, ⟨61, _⟩ => ⟨S1x2048x5632, .f32⟩
  | .hbm, ⟨62, _⟩ => ⟨S1x2048x4x1408, .f32⟩
  | .hbm, ⟨63, _⟩ => ⟨S1x2048x4x1x1408, .f32⟩
  | .hbm, ⟨64, _⟩ => ⟨S_, .f32⟩
  | .hbm, ⟨65, _⟩ => ⟨S1x2048x4x2x1408, .f32⟩
  | .hbm, ⟨66, _⟩ => ⟨S1x2048x4x1408, .f32⟩
  | .hbm, ⟨67, _⟩ => ⟨S1x2048x4x1x1408, .f32⟩
  | .hbm, ⟨68, _⟩ => ⟨S_, .f32⟩
  | .hbm, ⟨69, _⟩ => ⟨S1x2048x4x2x1408, .f32⟩
  | .hbm, ⟨70, _⟩ => ⟨S1x2048x4x2x1408, .f32⟩
  | .hbm, ⟨71, _⟩ => ⟨S1x2048x11264, .f32⟩
  | .hbm, ⟨72, _⟩ => ⟨S_, .f32⟩
  | .hbm, ⟨73, _⟩ => ⟨S1x11264, .f32⟩
  | .hbm, ⟨74, _⟩ => ⟨S1x1x11264, .f32⟩
  | .hbm, ⟨75, _⟩ => ⟨S_, .f32⟩
  | .hbm, ⟨76, _⟩ => ⟨S11264, .f32⟩
  | .hbm, ⟨77, _⟩ => ⟨S1x2048x11264, .f32⟩
  | .hbm, ⟨78, _⟩ => ⟨S1x2048x11264, .f32⟩
  | .hbm, ⟨79, _⟩ => ⟨S1x2048x11264, .f32⟩
  | .hbm, ⟨80, _⟩ => ⟨S_, .f32⟩
  | .hbm, ⟨81, _⟩ => ⟨S1x11264, .f32⟩
  | .hbm, ⟨82, _⟩ => ⟨S1x1x11264, .f32⟩
  | .hbm, ⟨83, _⟩ => ⟨S_, .f32⟩
  | .hbm, ⟨84, _⟩ => ⟨S11264, .f32⟩
  | .hbm, ⟨85, _⟩ => ⟨S_, .f32⟩
  | .hbm, ⟨86, _⟩ => ⟨S1x2050x11264, .f32⟩
  | .hbm, ⟨87, _⟩ => ⟨S1x11264, .f32⟩
  | .hbm, ⟨88, _⟩ => ⟨S_, .f32⟩
  | .hbm, ⟨89, _⟩ => ⟨S3x11264, .f32⟩
  | .hbm, ⟨90, _⟩ => ⟨S1x2048x11264, .f32⟩
  | .hbm, ⟨91, _⟩ => ⟨S1x2048x11264, .f32⟩
  | .hbm, ⟨92, _⟩ => ⟨S1x2048x11264, .f32⟩
  | .hbm, ⟨93, _⟩ => ⟨S_, .f32⟩
  | .hbm, ⟨94, _⟩ => ⟨S1x11264, .f32⟩
  | .hbm, ⟨95, _⟩ => ⟨S1x1x11264, .f32⟩
  | .hbm, ⟨96, _⟩ => ⟨S_, .f32⟩
  | .hbm, ⟨97, _⟩ => ⟨S11264, .f32⟩
  | .hbm, ⟨98, _⟩ => ⟨S_, .f32⟩
  | .hbm, ⟨99, _⟩ => ⟨S1x2050x11264, .f32⟩
  | .hbm, ⟨100, _⟩ => ⟨S1x2050x11264, .f32⟩
  | .hbm, ⟨101, _⟩ => ⟨S1x11264, .f32⟩
  | .hbm, ⟨102, _⟩ => ⟨S_, .f32⟩
  | .hbm, ⟨103, _⟩ => ⟨S3x11264, .f32⟩
  | .hbm, ⟨104, _⟩ => ⟨S3x11264, .f32⟩
  | .hbm, ⟨105, _⟩ => ⟨S1x2048x11264, .f32⟩
  | .hbm, ⟨106, _⟩ => ⟨S1x2048x11264, .f32⟩
  | .hbm, ⟨107, _⟩ => ⟨S1x2048x11264, .f32⟩
  | .hbm, ⟨108, _⟩ => ⟨S_, .f32⟩
  | .hbm, ⟨109, _⟩ => ⟨S1x11264, .f32⟩
  | .hbm, ⟨110, _⟩ => ⟨S1x1x11264, .f32⟩
  | .hbm, ⟨111, _⟩ => ⟨S_, .f32⟩
  | .hbm, ⟨112, _⟩ => ⟨S11264, .f32⟩
  | .hbm, ⟨113, _⟩ => ⟨S_, .f32⟩
  | .hbm, ⟨114, _⟩ => ⟨S1x2050x11264, .f32⟩
  | .hbm, ⟨115, _⟩ => ⟨S1x2050x11264, .f32⟩
  | .hbm, ⟨116, _⟩ => ⟨S1x11264, .f32⟩
  | .hbm, ⟨117, _⟩ => ⟨S_, .f32⟩
  | .hbm, ⟨118, _⟩ => ⟨S3x11264, .f32⟩
  | .hbm, ⟨119, _⟩ => ⟨S3x11264, .f32⟩
  | .hbm, ⟨120, _⟩ => ⟨S1x2x11264, .f32⟩
  | .hbm, ⟨121, _⟩ => ⟨S1x2048x11264, .f32⟩
  | .hbm, ⟨122, _⟩ => ⟨S1x11264, .f32⟩
  | .hbm, ⟨123, _⟩ => ⟨S_, .f32⟩
  | .hbm, ⟨124, _⟩ => ⟨S2048x11264, .f32⟩
  | .hbm, ⟨125, _⟩ => ⟨S2048x11264, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v35_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v35_1 : Ref sig .tc := ⟨.hbm, 52, rfl⟩
abbrev main_v35_0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_1 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_2 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_3 : Ref sig .tc := ⟨.hbm, 72, rfl⟩
abbrev main_v49 : Ref sig .tc := ⟨.hbm, 73, rfl⟩
abbrev main_v50 : Ref sig .tc := ⟨.hbm, 74, rfl⟩
abbrev main_cst_4 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_5 : Ref sig .tc := ⟨.hbm, 80, rfl⟩
abbrev main_v55 : Ref sig .tc := ⟨.hbm, 81, rfl⟩
abbrev main_v56 : Ref sig .tc := ⟨.hbm, 82, rfl⟩
abbrev main_cst_6 : Ref sig .tc := ⟨.hbm, 83, rfl⟩
abbrev main_v57 : Ref sig .tc := ⟨.hbm, 84, rfl⟩
abbrev main_cst_7 : Ref sig .tc := ⟨.hbm, 85, rfl⟩
abbrev main_v58 : Ref sig .tc := ⟨.hbm, 86, rfl⟩
abbrev main_v59 : Ref sig .tc := ⟨.hbm, 87, rfl⟩
abbrev main_cst_8 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_9 : Ref sig .tc := ⟨.hbm, 93, rfl⟩
abbrev main_v64 : Ref sig .tc := ⟨.hbm, 94, rfl⟩
abbrev main_v65 : Ref sig .tc := ⟨.hbm, 95, rfl⟩
abbrev main_cst_10 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_13 : Ref sig .tc := ⟨.hbm, 108, rfl⟩
abbrev main_v75 : Ref sig .tc := ⟨.hbm, 109, rfl⟩
abbrev main_v76 : Ref sig .tc := ⟨.hbm, 110, rfl⟩
abbrev main_cst_14 : Ref sig .tc := ⟨.hbm, 111, rfl⟩
abbrev main_v77 : Ref sig .tc := ⟨.hbm, 112, rfl⟩
abbrev main_cst_15 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_16 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_17 : Ref sig .tc := ⟨.hbm, 123, rfl⟩
abbrev main_v86 : Ref sig .tc := ⟨.hbm, 124, rfl⟩
abbrev main_v87 : Ref sig .tc := ⟨.hbm, 125, rfl⟩

abbrev nD : Nat := 1
abbrev τ : Topo := Topo.v7x

variable {F : FTy → Type} [FloatOps F]
-- ==== DownDw.lean ====
abbrev S2048x5632 : Shape := ⟨2, ![2048, 5632]⟩
abbrev S2048x2048 : Shape := ⟨2, ![2048, 2048]⟩
abbrev S1x5632x2048 : Shape := ⟨3, ![1, 5632, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x2048 : Shape := ⟨2, ![1408, 2048]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S1x5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x2048, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== DownDwRefIdeal.lean ====
abbrev S2048x5632 : Shape := ⟨2, ![2048, 5632]⟩
abbrev S2048x2048 : Shape := ⟨2, ![2048, 2048]⟩
abbrev S_ : Shape := ⟨0, ![]⟩
abbrev S1x5632x2048 : Shape := ⟨3, ![1, 5632, 2048]⟩
abbrev S5632x1x2048 : Shape := ⟨3, ![5632, 1, 2048]⟩
abbrev S5632x2048 : Shape := ⟨2, ![5632, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S1x5632x2048, .f32⟩
  | .hbm, ⟨4, _⟩ => ⟨S2048x5632, .f32⟩
  | .hbm, ⟨5, _⟩ => ⟨S5632x1x2048, .f32⟩
  | .hbm, ⟨6, _⟩ => ⟨S5632x2048, .f32⟩
  | .hbm, ⟨7, _⟩ => ⟨S2048x2048, .f32⟩
  | .hbm, ⟨8, _⟩ => ⟨S2048x2048, .f32⟩
  | .hbm, ⟨9, _⟩ => ⟨S2048x5632, .f32⟩
  | .hbm, ⟨10, _⟩ => ⟨S5632x2048, .f32⟩
  | .hbm, ⟨11, _⟩ => ⟨S5632x1x2048, .f32⟩
  | .hbm, ⟨12, _⟩ => ⟨S1x5632x2048, .f32⟩
  | .hbm, ⟨13, _⟩ => ⟨S1x5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DownDx.lean ====
abbrev S2048x2048 : Shape := ⟨2, ![2048, 2048]⟩
abbrev S1x5632x2048 : Shape := ⟨3, ![1, 5632, 2048]⟩
abbrev S2048x5632 : Shape := ⟨2, ![2048, 5632]⟩
abbrev S1024x2048 : Shape := ⟨2, ![1024, 2048]⟩
abbrev S1x1408x2048 : Shape := ⟨3, ![1, 1408, 2048]⟩
abbrev S1024x1408 : Shape := ⟨2, ![1024, 1408]⟩
abbrev S1408x2048 : Shape := ⟨2, ![1408, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x5632x2048, .bf16⟩
  | .hbm, ⟨2, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S2048x2048 : Shape := ⟨2, ![2048, 2048]⟩
abbrev S1x5632x2048 : Shape := ⟨3, ![1, 5632, 2048]⟩
abbrev S_ : Shape := ⟨0, ![]⟩
abbrev S2048x5632 : Shape := ⟨2, ![2048, 5632]⟩
abbrev S5632x1x2048 : Shape := ⟨3, ![5632, 1, 2048]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x5632x2048, .bf16⟩
  | .hbm, ⟨2, _⟩ => ⟨S_, .f32⟩
  | .hbm, ⟨3, _⟩ => ⟨S2048x5632, .f32⟩
  | .hbm, ⟨4, _⟩ => ⟨S1x5632x2048, .f32⟩
  | .hbm, ⟨5, _⟩ => ⟨S5632x1x2048, .f32⟩
  | .hbm, ⟨6, _⟩ => ⟨S5632x2048, .f32⟩
  | .hbm, ⟨7, _⟩ => ⟨S2048x2048, .f32⟩
  | .hbm, ⟨8, _⟩ => ⟨S2048x2048, .f32⟩
  | .hbm, ⟨9, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDw.lean ====
abbrev S2048x2048 : Shape := ⟨2, ![2048, 2048]⟩
abbrev S2048x11264 : Shape := ⟨2, ![2048, 11264]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x2048 : Shape := ⟨2, ![1024, 2048]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== UpDwRefIdeal.lean ====
abbrev S2048x2048 : Shape := ⟨2, ![2048, 2048]⟩
abbrev S2048x11264 : Shape := ⟨2, ![2048, 11264]⟩
abbrev S_ : Shape := ⟨0, ![]⟩
abbrev S8x2048x1408 : Shape := ⟨3, ![8, 2048, 1408]⟩
abbrev S2048x8x1408 : Shape := ⟨3, ![2048, 8, 1408]⟩
abbrev S11264x2048 : Shape := ⟨2, ![11264, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S_, .f32⟩
  | .hbm, ⟨3, _⟩ => ⟨S8x2048x1408, .f32⟩
  | .hbm, ⟨4, _⟩ => ⟨S2048x2048, .f32⟩
  | .hbm, ⟨5, _⟩ => ⟨S2048x8x1408, .f32⟩
  | .hbm, ⟨6, _⟩ => ⟨S2048x11264, .f32⟩
  | .hbm, ⟨7, _⟩ => ⟨S2048x11264, .f32⟩
  | .hbm, ⟨8, _⟩ => ⟨S2048x11264, .f32⟩
  | .hbm, ⟨9, _⟩ => ⟨S11264x2048, .f32⟩
  | .hbm, ⟨10, _⟩ => ⟨S2048x11264, .f32⟩
  | .hbm, ⟨11, _⟩ => ⟨S2048x8x1408, .f32⟩
  | .hbm, ⟨12, _⟩ => ⟨S8x2048x1408, .f32⟩
  | .hbm, ⟨13, _⟩ => ⟨S8x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== UpDx.lean ====
abbrev S2048x11264 : Shape := ⟨2, ![2048, 11264]⟩
abbrev S8x2048x1408 : Shape := ⟨3, ![8, 2048, 1408]⟩
abbrev S2048x2048 : Shape := ⟨2, ![2048, 2048]⟩
abbrev S1024x2816 : Shape := ⟨2, ![1024, 2816]⟩
abbrev S2x1024x1408 : Shape := ⟨3, ![2, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S8x2048x1408, .bf16⟩
  | .hbm, ⟨2, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2x1024x1408, .bf16⟩
  | .local _ .vmem, ⟨3, _⟩ => ⟨S2x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S2048x11264 : Shape := ⟨2, ![2048, 11264]⟩
abbrev S8x2048x1408 : Shape := ⟨3, ![8, 2048, 1408]⟩
abbrev S_ : Shape := ⟨0, ![]⟩
abbrev S2048x2048 : Shape := ⟨2, ![2048, 2048]⟩
abbrev S2048x8x1408 : Shape := ⟨3, ![2048, 8, 1408]⟩

abbrev nBuf : Space → Nat
  | .hbm => 10
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S8x2048x1408, .bf16⟩
  | .hbm, ⟨2, _⟩ => ⟨S_, .f32⟩
  | .hbm, ⟨3, _⟩ => ⟨S2048x2048, .f32⟩
  | .hbm, ⟨4, _⟩ => ⟨S8x2048x1408, .f32⟩
  | .hbm, ⟨5, _⟩ => ⟨S2048x8x1408, .f32⟩
  | .hbm, ⟨6, _⟩ => ⟨S2048x11264, .f32⟩
  | .hbm, ⟨7, _⟩ => ⟨S2048x11264, .f32⟩
  | .hbm, ⟨8, _⟩ => ⟨S2048x11264, .f32⟩
  | .hbm, ⟨9, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDw.lean ====
abbrev S2048x2048 : Shape := ⟨2, ![2048, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== OutDwRefIdeal.lean ====
abbrev S2048x2048 : Shape := ⟨2, ![2048, 2048]⟩
abbrev S_ : Shape := ⟨0, ![]⟩
abbrev S1x2048x2048 : Shape := ⟨3, ![1, 2048, 2048]⟩
abbrev S2048x1x2048 : Shape := ⟨3, ![2048, 1, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S1x2048x2048, .f32⟩
  | .hbm, ⟨4, _⟩ => ⟨S2048x2048, .f32⟩
  | .hbm, ⟨5, _⟩ => ⟨S2048x1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x1x2048, .f32⟩
  | .hbm, ⟨12, _⟩ => ⟨S1x2048x2048, .f32⟩
  | .hbm, ⟨13, _⟩ => ⟨S1x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== OutDx.lean ====
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S2048x2048 : Shape := ⟨2, ![2048, 2048]⟩
abbrev S1x2048x2048 : Shape := ⟨3, ![1, 2048, 2048]⟩
abbrev S_ : Shape := ⟨0, ![]⟩
abbrev S2048x1x2048 : Shape := ⟨3, ![2048, 1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S_, .f32⟩
  | .hbm, ⟨3, _⟩ => ⟨S2048x2048, .f32⟩
  | .hbm, ⟨4, _⟩ => ⟨S1x2048x2048, .f32⟩
  | .hbm, ⟨5, _⟩ => ⟨S2048x1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDw.lean ====
abbrev S2048x2048 : Shape := ⟨2, ![2048, 2048]⟩
abbrev S2048x3072 : Shape := ⟨2, ![2048, 3072]⟩
abbrev S8x2048x384 : Shape := ⟨3, ![8, 2048, 384]⟩
abbrev S2048x1024 : Shape := ⟨2, ![2048, 1024]⟩
abbrev S2048x1536 : Shape := ⟨2, ![2048, 1536]⟩
abbrev S4x1024x384 : Shape := ⟨3, ![4, 1024, 384]⟩
abbrev S1024x2048 : Shape := ⟨2, ![1024, 2048]⟩
abbrev S2048x384 : Shape := ⟨2, ![2048, 384]⟩
abbrev S1024x384 : Shape := ⟨2, ![1024, 384]⟩
abbrev S1x1024x384 : Shape := ⟨3, ![1, 1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S8x2048x384, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S4x1024x384, .bf16⟩
  | .local _ .vmem, ⟨5, _⟩ => ⟨S4x1024x384, .bf16⟩
  | .local _ .vmem, ⟨6, _⟩ => ⟨S1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== InDwRefIdeal.lean ====
abbrev S2048x2048 : Shape := ⟨2, ![2048, 2048]⟩
abbrev S2048x3072 : Shape := ⟨2, ![2048, 3072]⟩
abbrev S_ : Shape := ⟨0, ![]⟩
abbrev S8x2048x384 : Shape := ⟨3, ![8, 2048, 384]⟩
abbrev S2048x8x384 : Shape := ⟨3, ![2048, 8, 384]⟩
abbrev S3072x2048 : Shape := ⟨2, ![3072, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S_, .f32⟩
  | .hbm, ⟨3, _⟩ => ⟨S8x2048x384, .f32⟩
  | .hbm, ⟨4, _⟩ => ⟨S2048x2048, .f32⟩
  | .hbm, ⟨5, _⟩ => ⟨S2048x8x384, .f32⟩
  | .hbm, ⟨6, _⟩ => ⟨S2048x3072, .f32⟩
  | .hbm, ⟨7, _⟩ => ⟨S2048x3072, .f32⟩
  | .hbm, ⟨8, _⟩ => ⟨S2048x3072, .f32⟩
  | .hbm, ⟨9, _⟩ => ⟨S3072x2048, .f32⟩
  | .hbm, ⟨10, _⟩ => ⟨S2048x3072, .f32⟩
  | .hbm, ⟨11, _⟩ => ⟨S2048x8x384, .f32⟩
  | .hbm, ⟨12, _⟩ => ⟨S8x2048x384, .f32⟩
  | .hbm, ⟨13, _⟩ => ⟨S8x2048x384, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== InDx.lean ====
abbrev S2048x3072 : Shape := ⟨2, ![2048, 3072]⟩
abbrev S8x2048x384 : Shape := ⟨3, ![8, 2048, 384]⟩
abbrev S2048x2048 : Shape := ⟨2, ![2048, 2048]⟩
abbrev S1024x3072 : Shape := ⟨2, ![1024, 3072]⟩
abbrev S8x1024x384 : Shape := ⟨3, ![8, 1024, 384]⟩
abbrev S1024x1024 : Shape := ⟨2, ![1024, 1024]⟩
abbrev S1024x384 : Shape := ⟨2, ![1024, 384]⟩
abbrev S1x1024x384 : Shape := ⟨3, ![1, 1024, 384]⟩

abbrev nBuf : Space → Nat
  | .hbm => 3
  | .vmem => 6
  | .smem => 0
  | _ => 0

abbrev bufTy : (tb : Table) → Fin (tcTables nBuf tb) → BufTy
  | .hbm, ⟨0, _⟩ => ⟨S2048x3072, .bf16⟩
  | .hbm, ⟨1, _⟩ => ⟨S8x2048x384, .bf16⟩
  | .hbm, ⟨2, _⟩ => ⟨S2048x2048, .f32⟩
  | .local _ .vmem, ⟨0, _⟩ => ⟨S1024x3072, .bf16⟩
  | .local _ .vmem, ⟨1, _⟩ => ⟨S1024x3072, .bf16⟩
  | .local _ .vmem, ⟨2, _⟩ => ⟨S8x1024x384, .bf16⟩
  | .local _ .vmem, ⟨3, _⟩ => ⟨S8x1024x384, .bf16⟩
  | .local _ .vmem, ⟨4, _⟩ => ⟨S1024x1024, .f32⟩
  | .local _ .vmem, ⟨5, _⟩ => ⟨S1024x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S2048x3072 : Shape := ⟨2, ![2048, 3072]⟩
abbrev S8x2048x384 : Shape := ⟨3, ![8, 2048, 384]⟩
abbrev S_ : Shape := ⟨0, ![]⟩
abbrev S2048x2048 : Shape := ⟨2, ![2048, 2048]⟩
abbrev S2048x8x384 : Shape := ⟨3, ![2048, 8, 384]⟩

abbrev nBuf : Space → Nat
  | .hbm => 10
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S8x2048x384, .bf16⟩
  | .hbm, ⟨2, _⟩ => ⟨S_, .f32⟩
  | .hbm, ⟨3, _⟩ => ⟨S2048x2048, .f32⟩
  | .hbm, ⟨4, _⟩ => ⟨S8x2048x384, .f32⟩
  | .hbm, ⟨5, _⟩ => ⟨S2048x8x384, .f32⟩
  | .hbm, ⟨6, _⟩ => ⟨S2048x3072, .f32⟩
  | .hbm, ⟨7, _⟩ => ⟨S2048x3072, .f32⟩
  | .hbm, ⟨8, _⟩ => ⟨S2048x3072, .f32⟩
  | .hbm, ⟨9, _⟩ => ⟨S2048x2048, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== In.lean ====
abbrev S2048x2048 : Shape := ⟨2, ![2048, 2048]⟩
abbrev S8x2048x384 : Shape := ⟨3, ![8, 2048, 384]⟩
abbrev S2048x3072 : Shape := ⟨2, ![2048, 3072]⟩
abbrev S1024x2048 : Shape := ⟨2, ![1024, 2048]⟩
abbrev S4x2048x384 : Shape := ⟨3, ![4, 2048, 384]⟩
abbrev S1024x1536 : Shape := ⟨2, ![1024, 1536]⟩
abbrev S1x2048x384 : Shape := ⟨3, ![1, 2048, 384]⟩
abbrev S2048x384 : Shape := ⟨2, ![2048, 384]⟩
abbrev S1024x384 : Shape := ⟨2, ![1024, 384]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x384, .bf16⟩
  | .hbm, ⟨2, _⟩ => ⟨S2048x3072, .f32⟩
  | .local _ .vmem, ⟨0, _⟩ => ⟨S1024x2048, .bf16⟩
  | .local _ .vmem, ⟨1, _⟩ => ⟨S1024x2048, .bf16⟩
  | .local _ .vmem, ⟨2, _⟩ => ⟨S4x2048x384, .bf16⟩
  | .local _ .vmem, ⟨3, _⟩ => ⟨S4x2048x384, .bf16⟩
  | .local _ .vmem, ⟨4, _⟩ => ⟨S1024x1536, .f32⟩
  | .local _ .vmem, ⟨5, _⟩ => ⟨S1024x1536, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== InRefIdeal.lean ====
abbrev S2048x2048 : Shape := ⟨2, ![2048, 2048]⟩
abbrev S8x2048x384 : Shape := ⟨3, ![8, 2048, 384]⟩
abbrev S2048x8x384 : Shape := ⟨3, ![2048, 8, 384]⟩
abbrev S2048x3072 : Shape := ⟨2, ![2048, 3072]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x384, .bf16⟩
  | .hbm, ⟨2, _⟩ => ⟨S2048x2048, .f32⟩
  | .hbm, ⟨3, _⟩ => ⟨S8x2048x384, .f32⟩
  | .hbm, ⟨4, _⟩ => ⟨S2048x8x384, .f32⟩
  | .hbm, ⟨5, _⟩ => ⟨S2048x3072, .f32⟩
  | .hbm, ⟨6, _⟩ => ⟨S2048x3072, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Out.lean ====
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== OutRefIdeal.lean ====
abbrev S2048x2048 : Shape := ⟨2, ![2048, 2048]⟩
abbrev S1x2048x2048 : Shape := ⟨3, ![1, 2048, 2048]⟩
abbrev S2048x1x2048 : Shape := ⟨3, ![2048, 1, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .hbm, ⟨3, _⟩ => ⟨S1x2048x2048, .f32⟩
  | .hbm, ⟨4, _⟩ => ⟨S2048x1x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Up.lean ====
abbrev S2048x2048 : Shape := ⟨2, ![2048, 2048]⟩
abbrev S8x2048x1408 : Shape := ⟨3, ![8, 2048, 1408]⟩
abbrev S2048x11264 : Shape := ⟨2, ![2048, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== UpRefIdeal.lean ====
abbrev S2048x2048 : Shape := ⟨2, ![2048, 2048]⟩
abbrev S8x2048x1408 : Shape := ⟨3, ![8, 2048, 1408]⟩
abbrev S2048x8x1408 : Shape := ⟨3, ![2048, 8, 1408]⟩
abbrev S2048x11264 : Shape := ⟨2, ![2048, 11264]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2048x2048, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Down.lean ====
abbrev S2048x5632 : Shape := ⟨2, ![2048, 5632]⟩
abbrev S1x5632x2048 : Shape := ⟨3, ![1, 5632, 2048]⟩
abbrev S2048x2048 : Shape := ⟨2, ![2048, 2048]⟩
abbrev S1024x5632 : Shape := ⟨2, ![1024, 5632]⟩
abbrev S1x5632x512 : Shape := ⟨3, ![1, 5632, 512]⟩
abbrev S1024x512 : Shape := ⟨2, ![1024, 512]⟩
abbrev S5632x512 : Shape := ⟨2, ![5632, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S1024x512, .f32⟩
  | .local _ .vmem, ⟨5, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![arg0.toNat, v1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== DownRefIdeal.lean ====
abbrev S2048x5632 : Shape := ⟨2, ![2048, 5632]⟩
abbrev S1x5632x2048 : Shape := ⟨3, ![1, 5632, 2048]⟩
abbrev S5632x1x2048 : Shape := ⟨3, ![5632, 1, 2048]⟩
abbrev S5632x2048 : Shape := ⟨2, ![5632, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x5632, .f32⟩
  | .hbm, ⟨3, _⟩ => ⟨S1x5632x2048, .f32⟩
  | .hbm, ⟨4, _⟩ => ⟨S5632x1x2048, .f32⟩
  | .hbm, ⟨5, _⟩ => ⟨S5632x2048, .f32⟩
  | .hbm, ⟨6, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Sgu.lean ====
abbrev S2048x3072 : Shape := ⟨2, ![2048, 3072]⟩
abbrev S2048x1024 : Shape := ⟨2, ![2048, 1024]⟩
abbrev S1x1024 : Shape := ⟨2, ![1, 1024]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S128x128 : Shape := ⟨2, ![128, 128]⟩
abbrev S128x3072 : Shape := ⟨2, ![128, 3072]⟩
abbrev S128 : Shape := ⟨1, ![128]⟩
abbrev S128x1 : Shape := ⟨2, ![128, 1]⟩
abbrev S1x128x128 : Shape := ⟨3, ![1, 128, 128]⟩
abbrev S1024 : Shape := ⟨1, ![1024]⟩
abbrev S1024x128 : Shape := ⟨2, ![1024, 128]⟩

abbrev nBuf : Space → Nat
  | .hbm => 15
  | .vmem => 17
  | .smem => 0
  | _ => 0

abbrev bufTy : (tb : Table) → Fin (tcTables nBuf tb) → BufTy
  | .hbm, ⟨0, _⟩ => ⟨S2048x3072, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S128x8, .f32⟩
  | .hbm, ⟨7, _⟩ => ⟨S128x8x128, .f32⟩
  | .hbm, ⟨8, _⟩ => ⟨S128x1024, .f32⟩
  | .hbm, ⟨9, _⟩ => ⟨S2048x3072, .bf16⟩
  | .hbm, ⟨10, _⟩ => ⟨S1x1024, .f32⟩
  | .hbm, ⟨11, _⟩ => ⟨S1x1024, .f32⟩
  | .hbm, ⟨12, _⟩ => ⟨S8x128x128, .f32⟩
  | .hbm, ⟨13, _⟩ => ⟨S128x1024, .f32⟩
  | .hbm, ⟨14, _⟩ => ⟨S128x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x1024, .f32⟩
  | .local _ .vmem, ⟨10, _⟩ => ⟨S128x3072, .bf16⟩
  | .local _ .vmem, ⟨11, _⟩ => ⟨S128x3072, .bf16⟩
  | .local _ .vmem, ⟨12, _⟩ => ⟨S1x1024, .f32⟩
  | .local _ .vmem, ⟨13, _⟩ => ⟨S1x1024, .f32⟩
  | .local _ .vmem, ⟨14, _⟩ => ⟨S8x128x128, .f32⟩
  | .local _ .vmem, ⟨15, _⟩ => ⟨S128x1024, .f32⟩
  | .local _ .vmem, ⟨16, _⟩ => ⟨S128x128, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c15_i32 : BitVec 32 := 15#32
  let v350 : BitVec 1 := Scalar.cmpi .eq arg0 c15_i32
  let v351 : BitVec 32 := Scalar.extui v350
  let c0_i32_190 : BitVec 32 := 0#32
  let v352 : BitVec 1 := Scalar.cmpi .ne v351 c0_i32_190
  v352

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== SguRefIdeal.lean ====
abbrev S2048x3072 : Shape := ⟨2, ![2048, 3072]⟩
abbrev S2048x1024 : Shape := ⟨2, ![2048, 1024]⟩
abbrev S1x1024 : Shape := ⟨2, ![1, 1024]⟩
abbrev S8x128x128 : Shape := ⟨3, ![8, 128, 128]⟩
abbrev S8x128 : Shape := ⟨2, ![8, 128]⟩
abbrev S1024 : Shape := ⟨1, ![1024]⟩
abbrev S_ : Shape := ⟨0, ![]⟩
abbrev S2048 : Shape := ⟨1, ![2048]⟩
abbrev S2048x1 : Shape := ⟨2, ![2048, 1]⟩
abbrev S16x128x8x128 : Shape := ⟨4, ![16, 128, 8, 128]⟩
abbrev S128x128 : Shape := ⟨2, ![128, 128]⟩
abbrev S1x128x128 : Shape := ⟨3, ![1, 128, 128]⟩
abbrev S8x16x128x128 : Shape := ⟨4, ![8, 16, 128, 128]⟩
abbrev S128x8 : Shape := ⟨2, ![128, 8]⟩
abbrev S1x128x8x1 : Shape := ⟨4, ![1, 128, 8, 1]⟩

abbrev nBuf : Space → Nat
  | .hbm => 224
  | .vmem => 0
  | .smem => 0
  | _ => 0

abbrev hbmTy0_0 (i : Nat) : BufTy := match i % 128 with
  | 0 => ⟨S2048x3072, .f32⟩
  | 1 => ⟨S2048x1024, .f32⟩
  | 2 => ⟨S1x1024, .f32⟩
  | 3 => ⟨S1x1024, .f32⟩
  | 4 => ⟨S8x128x128, .f32⟩
  | 5 => ⟨S8x128, .f32⟩
  | 6 => ⟨S2048x1024, .f32⟩
  | 7 => ⟨S2048x1024, .f32⟩
  | 8 => ⟨S2048x1024, .f32⟩
  | 9 => ⟨S1024, .f32⟩
  | 10 => ⟨S1024, .f32⟩
  | 11 => ⟨S2048x1024, .f32⟩
  | 12 => ⟨S2048x1024, .f32⟩
  | 13 => ⟨S2048x1024, .f32⟩
  | 14 => ⟨S_, .f32⟩
  | 15 => ⟨S2048x1024, .f32⟩
  | 16 => ⟨S2048x1024, .f32⟩
  | 17 => ⟨S_, .f32⟩
  | 18 => ⟨S2048x1024, .f32⟩
  | 19 => ⟨S2048x1024, .f32⟩
  | 20 => ⟨S2048x1024, .f32⟩
  | 21 => ⟨S_, .f32⟩
  | 22 => ⟨S2048x1024, .f32⟩
  | 23 => ⟨S2048x1024, .f32⟩
  | 24 => ⟨S2048x1024, .f32⟩
  | 25 => ⟨S_, .f32⟩
  | 26 => ⟨S2048x1024, .f32⟩
  | 27 => ⟨S2048x1024, .f32⟩
  | 28 => ⟨S_, .f32⟩
  | 29 => ⟨S2048x1024, .f32⟩
  | 30 => ⟨S2048x1024, .f32⟩
  | 31 => ⟨S2048x1024, .f32⟩
  | 32 => ⟨S_, .f32⟩
  | 33 => ⟨S2048x1024, .f32⟩
  | 34 => ⟨S2048x1024, .f32⟩
  | 35 => ⟨S_, .f32⟩
  | 36 => ⟨S2048x1024, .f32⟩
  | 37 => ⟨S2048x1024, .f32⟩
  | 38 => ⟨S2048x1024, .f32⟩
  | 39 => ⟨S2048x1024, .f32⟩
  | 40 => ⟨S2048x1024, .f32⟩
  | 41 => ⟨S2048x1024, .f32⟩
  | 42 => ⟨S_, .f32⟩
  | 43 => ⟨S2048x1024, .f32⟩
  | 44 => ⟨S2048x1024, .f32⟩
  | 45 => ⟨S_, .f32⟩
  | 46 => ⟨S2048x1024, .f32⟩
  | 47 => ⟨S2048x1024, .f32⟩
  | 48 => ⟨S2048x1024, .f32⟩
  | 49 => ⟨S_, .f32⟩
  | 50 => ⟨S2048x1024, .f32⟩
  | 51 => ⟨S2048x1024, .f32⟩
  | 52 => ⟨S2048x1024, .f32⟩
  | 53 => ⟨S_, .f32⟩
  | 54 => ⟨S2048x1024, .f32⟩
  | 55 => ⟨S2048x1024, .f32⟩
  | 56 => ⟨S_, .f32⟩
  | 57 => ⟨S2048x1024, .f32⟩
  | 58 => ⟨S2048x1024, .f32⟩
  | 59 => ⟨S2048x1024, .f32⟩
  | 60 => ⟨S_, .f32⟩
  | 61 => ⟨S2048x1024, .f32⟩
  | 62 => ⟨S2048x1024, .f32⟩
  | 63 => ⟨S_, .f32⟩
  | 64 => ⟨S2048x1024, .f32⟩
  | 65 => ⟨S2048x1024, .f32⟩
  | 66 => ⟨S2048x1024, .f32⟩
  | 67 => ⟨S_, .f32⟩
  | 68 => ⟨S2048, .f32⟩
  | 69 => ⟨S2048x1, .f32⟩
  | 70 => ⟨S_, .f32⟩
  | 71 => ⟨S2048x1, .f32⟩
  | 72 => ⟨S2048x1, .f32⟩
  | 73 => ⟨S2048x1024, .f32⟩
  | 74 => ⟨S2048x1024, .f32⟩
  | 75 => ⟨S2048x1024, .f32⟩
  | 76 => ⟨S_, .f32⟩
  | 77 => ⟨S2048, .f32⟩
  | 78 => ⟨S2048x1, .f32⟩
  | 79 => ⟨S_, .f32⟩
  | 80 => ⟨S2048x1, .f32⟩
  | 81 => ⟨S2048x1, .f32⟩
  | 82 => ⟨S_, .f32⟩
  | 83 => ⟨S2048x1, .f32⟩
  | 84 => ⟨S2048x1, .f32⟩
  | 85 => ⟨S2048x1, .f32⟩
  | 86 => ⟨S2048x1, .f32⟩
  | 87 => ⟨S_, .f32⟩
  | 88 => ⟨S2048x1, .f32⟩
  | 89 => ⟨S2048x1, .f32⟩
  | 90 => ⟨S2048x1024, .f32⟩
  | 91 => ⟨S2048x1024, .f32⟩
  | 92 => ⟨S1x1024, .f32⟩
  | 93 => ⟨S2048x1024, .f32⟩
  | 94 => ⟨S2048x1024, .f32⟩
  | 95 => ⟨S1x1024, .f32⟩
  | 96 => ⟨S2048x1024, .f32⟩
  | 97 => ⟨S2048x1024, .f32⟩
  | 98 => ⟨S16x128x8x128, .f32⟩
  | 99 => ⟨S_, .i1⟩
  | 100 => ⟨S128x128, .i1⟩
  | 101 => ⟨S128x128, .i32⟩
  | 102 => ⟨S_, .i32⟩
  | 103 => ⟨S128x128, .i32⟩
  | 104 => ⟨S128x128, .i32⟩
  | 105 => ⟨S128x128, .i32⟩
  | 106 => ⟨S128x128, .i1⟩
  | 107 => ⟨S_, .i1⟩
  | 108 => ⟨S128x128, .i1⟩
  | 109 => ⟨S128x128, .i1⟩
  | 110 => ⟨S1x128x128, .i1⟩
  | 111 => ⟨S_, .f32⟩
  | 112 => ⟨S_, .f32⟩
  | 113 => ⟨S8x128x128, .i1⟩
  | 114 => ⟨S8x128x128, .f32⟩
  | 115 => ⟨S8x128x128, .f32⟩
  | 116 => ⟨S_, .f32⟩
  | 117 => ⟨S8x128x128, .f32⟩
  | 118 => ⟨S8x16x128x128, .f32⟩
  | 119 => ⟨S16x128x8x128, .f32⟩
  | 120 => ⟨S128x8, .f32⟩
  | 121 => ⟨S1x128x8x1, .f32⟩
  | 122 => ⟨S16x128x8x128, .f32⟩
  | 123 => ⟨S16x128x8x128, .f32⟩
  | 124 => ⟨S2048x1024, .f32⟩
  | 125 => ⟨S2048x1024, .f32⟩
  | 126 => ⟨S2048x1024, .f32⟩
  | 127 => ⟨S2048x1024, .f32⟩
  | _ => ⟨S2048x3072, .f32⟩

abbrev hbmTy0_1 (i : Nat) : BufTy := match i % 128 with
  | 0 => ⟨S16x128x8x128, .f32⟩
  | 1 => ⟨S_, .f32⟩
  | 2 => ⟨S128x8, .f32⟩
  | 3 => ⟨S1x128x8x1, .f32⟩
  | 4 => ⟨S_, .f32⟩
  | 5 => ⟨S128x8, .f32⟩
  | 6 => ⟨S8x128, .f32⟩
  | 7 => ⟨S8x16x128x128, .f32⟩
  | 8 => ⟨S8x128x128, .f32⟩
  | 9 => ⟨S8x16x128x128, .f32⟩
  | 10 => ⟨S16x128x8x128, .f32⟩
  | 11 => ⟨S_, .f32⟩
  | 12 => ⟨S8x128x128, .f32⟩
  | 13 => ⟨S8x128x128, .f32⟩
  | 14 => ⟨S2048x1024, .f32⟩
  | 15 => ⟨S_, .f32⟩
  | 16 => ⟨S1024, .f32⟩
  | 17 => ⟨S1x1024, .f32⟩
  | 18 => ⟨S_, .f32⟩
  | 19 => ⟨S1024, .f32⟩
  | 20 => ⟨S2048x1024, .f32⟩
  | 21 => ⟨S_, .f32⟩
  | 22 => ⟨S1024, .f32⟩
  | 23 => ⟨S1x1024, .f32⟩
  | 24 => ⟨S2048x1024, .f32⟩
  | 25 => ⟨S2048x1024, .f32⟩
  | 26 => ⟨S_, .f32⟩
  | 27 => ⟨S1024, .f32⟩
  | 28 => ⟨S2048x1024, .f32⟩
  | 29 => ⟨S_, .f32⟩
  | 30 => ⟨S2048, .f32⟩
  | 31 => ⟨S2048x1, .f32⟩
  | 32 => ⟨S2048x1024, .f32⟩
  | 33 => ⟨S2048x1024, .f32⟩
  | 34 => ⟨S2048x1, .f32⟩
  | 35 => ⟨S_, .f32⟩
  | 36 => ⟨S2048x1, .f32⟩
  | 37 => ⟨S2048x1, .f32⟩
  | 38 => ⟨S_, .f32⟩
  | 39 => ⟨S2048, .f32⟩
  | 40 => ⟨S2048x1024, .f32⟩
  | 41 => ⟨S2048x1024, .f32⟩
  | 42 => ⟨S2048x1024, .f32⟩
  | 43 => ⟨S2048x1024, .f32⟩
  | 44 => ⟨S2048x1024, .f32⟩
  | 45 => ⟨S2048x1024, .f32⟩
  | 46 => ⟨S_, .f32⟩
  | 47 => ⟨S2048, .f32⟩
  | 48 => ⟨S2048x1, .f32⟩
  | 49 => ⟨S_, .f32⟩
  | 50 => ⟨S2048x1, .f32⟩
  | 51 => ⟨S2048x1, .f32⟩
  | 52 => ⟨S_, .f32⟩
  | 53 => ⟨S2048, .f32⟩
  | 54 => ⟨S2048x1024, .f32⟩
  | 55 => ⟨S2048x1024, .f32⟩
  | 56 => ⟨S2048x1024, .f32⟩
  | 57 => ⟨S2048x1024, .f32⟩
  | 58 => ⟨S_, .f32⟩
  | 59 => ⟨S2048x1024, .f32⟩
  | 60 => ⟨S2048x1024, .f32⟩
  | 61 => ⟨S2048x1024, .f32⟩
  | 62 => ⟨S_, .f32⟩
  | 63 => ⟨S2048x1024, .f32⟩
  | 64 => ⟨S2048x1024, .f32⟩
  | 65 => ⟨S2048x1024, .f32⟩
  | 66 => ⟨S_, .f32⟩
  | 67 => ⟨S2048x1024, .f32⟩
  | 68 => ⟨S2048x1024, .f32⟩
  | 69 => ⟨S2048x1024, .f32⟩
  | 70 => ⟨S2048x1024, .f32⟩
  | 71 => ⟨S2048x1024, .f32⟩
  | 72 => ⟨S2048x1024, .f32⟩
  | 73 => ⟨S_, .f32⟩
  | 74 => ⟨S2048x1024, .f32⟩
  | 75 => ⟨S2048x1024, .f32⟩
  | 76 => ⟨S2048x1024, .f32⟩
  | 77 => ⟨S_, .f32⟩
  | 78 => ⟨S2048x1024, .f32⟩
  | 79 => ⟨S2048x1024, .f32⟩
  | 80 => ⟨S2048x1024, .f32⟩
  | 81 => ⟨S_, .f32⟩
  | 82 => ⟨S2048x1024, .f32⟩
  | 83 => ⟨S2048x1024, .f32⟩
  | 84 => ⟨S2048x1024, .f32⟩
  | 85 => ⟨S2048x1024, .f32⟩
  | 86 => ⟨S1x1024, .f32⟩
  | 87 => ⟨S1x1024, .f32⟩
  | 88 => ⟨S_, .f32⟩
  | 89 => ⟨S2048x1024, .f32⟩
  | 90 => ⟨S2048x3072, .f32⟩
  | 91 => ⟨S2048x3072, .bf16⟩
  | 92 => ⟨S128x8, .f32⟩
  | 93 => ⟨S_, .i32⟩
  | 94 => ⟨S_, .f32⟩
  | 95 => ⟨S128x128, .f32⟩
  | _ => ⟨S2048x3072, .f32⟩

abbrev hbmTy (i : Nat) : BufTy := match i / 128 with
  | 0 => hbmTy0_0 i
  | 1 => hbmTy0_1 i
  | _ => ⟨S2048x3072, .f32⟩

abbrev bufTy : (tb : Table) → Fin (tcTables nBuf tb) → BufTy
  | .hbm, ⟨i, _⟩ => hbmTy i
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_15 : Ref sig .tc := ⟨.hbm, 76, rfl⟩
abbrev main_v54 : Ref sig .tc := ⟨.hbm, 77, rfl⟩
abbrev main_v55 : Ref sig .tc := ⟨.hbm, 78, rfl⟩
abbrev main_cst_16 : Ref sig .tc := ⟨.hbm, 79, rfl⟩
abbrev main_v56 : Ref sig .tc := ⟨.hbm, 80, rfl⟩
abbrev main_v57 : Ref sig .tc := ⟨.hbm, 81, rfl⟩
abbrev main_cst_17 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_18 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c : Ref sig .tc := ⟨.hbm, 99, rfl⟩
abbrev main_v73 : Ref sig .tc := ⟨.hbm, 100, rfl⟩
abbrev main_call0_v0 : Ref sig .tc := ⟨.hbm, 101, rfl⟩
abbrev main_call0_c : Ref sig .tc := ⟨.hbm, 102, rfl⟩
abbrev main_call0_v1 : Ref sig .tc := ⟨.hbm, 103, rfl⟩
abbrev main_call0_v2 : Ref sig .tc := ⟨.hbm, 104, rfl⟩
abbrev main_call0_v3 : Ref sig .tc := ⟨.hbm, 105, rfl⟩
abbrev main_call0_v4 : Ref sig .tc := ⟨.hbm, 106, rfl⟩
abbrev main_call0_c_0 : Ref sig .tc := ⟨.hbm, 107, rfl⟩
abbrev main_call0_v5 : Ref sig .tc := ⟨.hbm, 108, rfl⟩
abbrev main_v74 : Ref sig .tc := ⟨.hbm, 109, rfl⟩
abbrev main_v75 : Ref sig .tc := ⟨.hbm, 110, rfl⟩
abbrev main_cst_19 : Ref sig .tc := ⟨.hbm, 111, rfl⟩
abbrev main_call1_v0 : Ref sig .tc := ⟨.hbm, 112, rfl⟩
abbrev main_v76_1 : Ref sig .tc := ⟨.hbm, 113, rfl⟩
abbrev main_call1_v2 : Ref sig .tc := ⟨.hbm, 114, rfl⟩
abbrev main_v76_0 : Ref sig .tc := ⟨.hbm, 115, rfl⟩
abbrev main_call1_cst : Ref sig .tc := ⟨.hbm, 116, rfl⟩
abbrev main_v76_2 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_20 : Ref sig .tc := ⟨.hbm, 129, rfl⟩
abbrev main_v88 : Ref sig .tc := ⟨.hbm, 130, rfl⟩
abbrev main_v89 : Ref sig .tc := ⟨.hbm, 131, rfl⟩
abbrev main_cst_21 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_call2_cst : Ref sig .tc := ⟨.hbm, 139, rfl⟩
abbrev main_call2_v0 : Ref sig .tc := ⟨.hbm, 140, rfl⟩
abbrev main_v96 : Ref sig .tc := ⟨.hbm, 141, rfl⟩
abbrev main_v97 : Ref sig .tc := ⟨.hbm, 142, rfl⟩
abbrev main_cst_22 : Ref sig .tc := ⟨.hbm, 143, rfl⟩
abbrev main_v98 : Ref sig .tc := ⟨.hbm, 144, rfl⟩
abbrev main_v99 : Ref sig .tc := ⟨.hbm, 145, rfl⟩
abbrev main_cst_23 : Ref sig .tc := ⟨.hbm, 146, rfl⟩
abbrev main_v100 : Ref sig .tc := ⟨.hbm, 147, rfl⟩
abbrev main_v101 : Ref sig .tc := ⟨.hbm, 148, rfl⟩
abbrev main_cst_24 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_25 : Ref sig .tc := ⟨.hbm, 154, rfl⟩
abbrev main_v106 : Ref sig .tc := ⟨.hbm, 155, rfl⟩
abbrev main_v107 : Ref sig .tc := ⟨.hbm, 156, rfl⟩
abbrev main_cst_26 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_27 : Ref sig .tc := ⟨.hbm, 163, rfl⟩
abbrev main_v113 : Ref sig .tc := ⟨.hbm, 164, rfl⟩
abbrev main_v114 : Ref sig .tc := ⟨.hbm, 165, rfl⟩
abbrev main_cst_28 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_cst_29 : Ref sig .tc := ⟨.hbm, 174, rfl⟩
abbrev main_v122 : Ref sig .tc := ⟨.hbm, 175, rfl⟩
abbrev main_v123 : Ref sig .tc := ⟨.hbm, 176, rfl⟩
abbrev main_cst_30 : Ref sig .tc := ⟨.hbm, 177, rfl⟩
abbrev main_v124 : Ref sig .tc := ⟨.hbm, 178, rfl⟩
abbrev main_v125 : Ref sig .tc := ⟨.hbm, 179, rfl⟩
abbrev main_cst_31 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_cst_32 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_cst_33 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_cst_34 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_cst_35 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_cst_36 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_cst_37 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_cst_38 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_c_39 : Ref sig .tc := ⟨.hbm, 221, rfl⟩
abbrev main_call3_v0 : Ref sig .tc := ⟨.hbm, 222, rfl⟩
abbrev main_v159 : Ref sig .tc := ⟨.hbm, 223, rfl⟩

abbrev nD : Nat := 1
abbrev τ : Topo := Topo.v7x

variable {F : FTy → Type} [FloatOps F]
-- ==== CatBwd.lean ====
abbrev S2048x2048 : Shape := ⟨2, ![2048, 2048]⟩
abbrev S2048x1024 : Shape := ⟨2, ![2048, 1024]⟩
abbrev S1x1024 : Shape := ⟨2, ![1, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S1x1024, .f32⟩
  | .hbm, ⟨8, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== CatBwdRefIdeal.lean ====
abbrev S2048x2048 : Shape := ⟨2, ![2048, 2048]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S2048x1024, .f32⟩
  | .hbm, ⟨57, _⟩ => ⟨S2048x1024, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S2048, .f32⟩
  | .hbm, ⟨78, _⟩ => ⟨S2048x1, .f32⟩
  | .hbm, ⟨79, _⟩ => ⟨S2048x1024, .f32⟩
  | .hbm, ⟨80, _⟩ => ⟨S2048x1024, .f32⟩
  | .hbm, ⟨81, _⟩ => ⟨S2048x1, .f32⟩
  | .hbm, ⟨82, _⟩ => ⟨S_, .f32⟩
  | .hbm, ⟨83, _⟩ => ⟨S2048x1, .f32⟩
  | .hbm, ⟨84, _⟩ => ⟨S2048x1, .f32⟩
  | .hbm, ⟨85, _⟩ => ⟨S_, .f32⟩
  | .hbm, ⟨86, _⟩ => ⟨S2048, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_13 : Ref sig .tc := ⟨.hbm, 82, rfl⟩
abbrev main_v63 : Ref sig .tc := ⟨.hbm, 83, rfl⟩
abbrev main_v64 : Ref sig .tc := ⟨.hbm, 84, rfl⟩
abbrev main_cst_14 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== MidBwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 16
  | .vmem => 22
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S2048x2048, .f32⟩
  | .hbm, ⟨10, _⟩ => ⟨S2048x2048, .bf16⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S256x2048, .bf16⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MidBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 120
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S2048x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S_, .f32⟩
  | .hbm, ⟨71, _⟩ => ⟨S2048, .f32⟩
  | .hbm, ⟨72, _⟩ => ⟨S2048x1, .f32⟩
  | .hbm, ⟨73, _⟩ => ⟨S_, .f32⟩
  | .hbm, ⟨74, _⟩ => ⟨S2048x1, .f32⟩
  | .hbm, ⟨75, _⟩ => ⟨S2048x1, .f32⟩
  | .hbm, ⟨76, _⟩ => ⟨S_, .f32⟩
  | .hbm, ⟨77, _⟩ => ⟨S2048x1, .f32⟩
  | .hbm, ⟨78, _⟩ => ⟨S2048x1, .f32⟩
  | .hbm, ⟨79, _⟩ => ⟨S2048x1, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S2048x2048, .f32⟩
  | .hbm, ⟨85, _⟩ => ⟨S2048x2048, .f32⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S2048x2048, .f32⟩
  | .hbm, ⟨91, _⟩ => ⟨S2048x2048, .f32⟩
  | .hbm, ⟨92, _⟩ => ⟨S2048x2048, .f32⟩
  | .hbm, ⟨93, _⟩ => ⟨S_, .f32⟩
  | .hbm, ⟨94, _⟩ => ⟨S2048, .f32⟩
  | .hbm, ⟨95, _⟩ => ⟨S1x2048, .f32⟩
  | .hbm, ⟨96, _⟩ => ⟨S2048x2048, .f32⟩
  | .hbm, ⟨97, _⟩ => ⟨S_, .f32⟩
  | .hbm, ⟨98, _⟩ => ⟨S2048, .f32⟩
  | .hbm, ⟨99, _⟩ => ⟨S1x2048, .f32⟩
  | .hbm, ⟨100, _⟩ => ⟨S2048x2048, .f32⟩
  | .hbm, ⟨101, _⟩ => ⟨S2048x2048, .f32⟩
  | .hbm, ⟨102, _⟩ => ⟨S2048x2048, .f32⟩
  | .hbm, ⟨103, _⟩ => ⟨S_, .f32⟩
  | .hbm, ⟨104, _⟩ => ⟨S2048, .f32⟩
  | .hbm, ⟨105, _⟩ => ⟨S2048x1, .f32⟩
  | .hbm, ⟨106, _⟩ => ⟨S2048x2048, .f32⟩
  | .hbm, ⟨107, _⟩ => ⟨S2048x2048, .f32⟩
  | .hbm, ⟨108, _⟩ => ⟨S2048x1, .f32⟩
  | .hbm, ⟨109, _⟩ => ⟨S_, .f32⟩
  | .hbm, ⟨110, _⟩ => ⟨S2048x1, .f32⟩
  | .hbm, ⟨111, _⟩ => ⟨S2048x1, .f32⟩
  | .hbm, ⟨112, _⟩ => ⟨S_, .f32⟩
  | .hbm, ⟨113, _⟩ => ⟨S2048, .f32⟩
  | .hbm, ⟨114, _⟩ => ⟨S2048x2048, .f32⟩
  | .hbm, ⟨115, _⟩ => ⟨S2048x2048, .f32⟩
  | .hbm, ⟨116, _⟩ => ⟨S2048x2048, .f32⟩
  | .hbm, ⟨117, _⟩ => ⟨S2048x2048, .f32⟩
  | .hbm, ⟨118, _⟩ => ⟨S2048x2048, .f32⟩
  | .hbm, ⟨119, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_16 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_cst_18 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]
-- ==== FirstBwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FirstBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 66
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== AdamAda.lean ====
abbrev S2048x1536 : Shape := ⟨2, ![2048, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaRefIdeal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S4x2048x384 : Shape := ⟨3, ![4, 2048, 384]⟩
abbrev S3x2048x384 : Shape := ⟨3, ![3, 2048, 384]⟩
abbrev S2048x384 : Shape := ⟨2, ![2048, 384]⟩
abbrev S1x256x384 : Shape := ⟨3, ![1, 256, 384]⟩
abbrev S3x256x384 : Shape := ⟨3, ![3, 256, 384]⟩
abbrev S256x384 : Shape := ⟨2, ![256, 384]⟩

abbrev nBuf : Space → Nat
  | .hbm => 9
  | .vmem => 18
  | .smem => 0
  | _ => 0

abbrev bufTy : (tb : Table) → Fin (tcTables nBuf tb) → BufTy
  | .hbm, ⟨0, _⟩ => ⟨S4x2048x384, .bf16⟩
  | .hbm, ⟨1, _⟩ => ⟨S3x2048x384, .bf16⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .local _ .vmem, ⟨0, _⟩ => ⟨S1x256x384, .bf16⟩
  | .local _ .vmem, ⟨1, _⟩ => ⟨S1x256x384, .bf16⟩
  | .local _ .vmem, ⟨2, _⟩ => ⟨S3x256x384, .bf16⟩
  | .local _ .vmem, ⟨3, _⟩ => ⟨S3x256x384, .bf16⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | .local _ .vmem, ⟨16, _⟩ => ⟨S256x384, .f32⟩
  | .local _ .vmem, ⟨17, _⟩ => ⟨S256x384, .f32⟩
  | _, _ => ⟨S4x2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInIdeal.lean ====
abbrev S4x2048x384 : Shape := ⟨3, ![4, 2048, 384]⟩
abbrev S3x2048x384 : Shape := ⟨3, ![3, 2048, 384]⟩
abbrev S2048x384 : Shape := ⟨2, ![2048, 384]⟩
abbrev S1x256x384 : Shape := ⟨3, ![1, 256, 384]⟩
abbrev S3x256x384 : Shape := ⟨3, ![3, 256, 384]⟩
abbrev S256x384 : Shape := ⟨2, ![256, 384]⟩

abbrev nBuf : Space → Nat
  | .hbm => 9
  | .vmem => 18
  | .smem => 0
  | _ => 0

abbrev bufTy : (tb : Table) → Fin (tcTables nBuf tb) → BufTy
  | .hbm, ⟨0, _⟩ => ⟨S4x2048x384, .bf16⟩
  | .hbm, ⟨1, _⟩ => ⟨S3x2048x384, .bf16⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .local _ .vmem, ⟨0, _⟩ => ⟨S1x256x384, .bf16⟩
  | .local _ .vmem, ⟨1, _⟩ => ⟨S1x256x384, .bf16⟩
  | .local _ .vmem, ⟨2, _⟩ => ⟨S3x256x384, .bf16⟩
  | .local _ .vmem, ⟨3, _⟩ => ⟨S3x256x384, .bf16⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | .local _ .vmem, ⟨16, _⟩ => ⟨S256x384, .f32⟩
  | .local _ .vmem, ⟨17, _⟩ => ⟨S256x384, .f32⟩
  | _, _ => ⟨S4x2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInRefIdeal.lean ====
abbrev S4x2048x384 : Shape := ⟨3, ![4, 2048, 384]⟩
abbrev S3x2048x384 : Shape := ⟨3, ![3, 2048, 384]⟩
abbrev S2048x384 : Shape := ⟨2, ![2048, 384]⟩
abbrev S1x2048x384 : Shape := ⟨3, ![1, 2048, 384]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x384, .bf16⟩
  | .hbm, ⟨1, _⟩ => ⟨S3x2048x384, .bf16⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S1x2048x384, .bf16⟩
  | .hbm, ⟨6, _⟩ => ⟨S2048x384, .bf16⟩
  | .hbm, ⟨7, _⟩ => ⟨S2048x384, .f32⟩
  | .hbm, ⟨8, _⟩ => ⟨S3x2048x384, .f32⟩
  | .hbm, ⟨9, _⟩ => ⟨S_, .f32⟩
  | .hbm, ⟨10, _⟩ => ⟨S2048x384, .f32⟩
  | .hbm, ⟨11, _⟩ => ⟨S2048x384, .f32⟩
  | .hbm, ⟨12, _⟩ => ⟨S_, .f32⟩
  | .hbm, ⟨13, _⟩ => ⟨S2048x384, .f32⟩
  | .hbm, ⟨14, _⟩ => ⟨S2048x384, .f32⟩
  | .hbm, ⟨15, _⟩ => ⟨S_, .f32⟩
  | .hbm, ⟨16, _⟩ => ⟨S2048x384, .f32⟩
  | .hbm, ⟨17, _⟩ => ⟨S2048x384, .f32⟩
  | .hbm, ⟨18, _⟩ => ⟨S2048x384, .f32⟩
  | .hbm, ⟨19, _⟩ => ⟨S_, .f32⟩
  | .hbm, ⟨20, _⟩ => ⟨S2048x384, .f32⟩
  | .hbm, ⟨21, _⟩ => ⟨S2048x384, .f32⟩
  | .hbm, ⟨22, _⟩ => ⟨S2048x384, .f32⟩
  | .hbm, ⟨23, _⟩ => ⟨S_, .f32⟩
  | .hbm, ⟨24, _⟩ => ⟨S2048x384, .f32⟩
  | .hbm, ⟨25, _⟩ => ⟨S2048x384, .f32⟩
  | .hbm, ⟨26, _⟩ => ⟨S2048x384, .f32⟩
  | .hbm, ⟨27, _⟩ => ⟨S_, .f32⟩
  | .hbm, ⟨28, _⟩ => ⟨S2048x384, .f32⟩
  | .hbm, ⟨29, _⟩ => ⟨S2048x384, .f32⟩
  | .hbm, ⟨30, _⟩ => ⟨S_, .f32⟩
  | .hbm, ⟨31, _⟩ => ⟨S2048x384, .f32⟩
  | .hbm, ⟨32, _⟩ => ⟨S2048x384, .f32⟩
  | .hbm, ⟨33, _⟩ => ⟨S2048x384, .f32⟩
  | .hbm, ⟨34, _⟩ => ⟨S_, .f32⟩
  | .hbm, ⟨35, _⟩ => ⟨S2048x384, .f32⟩
  | .hbm, ⟨36, _⟩ => ⟨S2048x384, .f32⟩
  | .hbm, ⟨37, _⟩ => ⟨S2048x384, .f32⟩
  | .hbm, ⟨38, _⟩ => ⟨S_, .f32⟩
  | .hbm, ⟨39, _⟩ => ⟨S2048x384, .f32⟩
  | .hbm, ⟨40, _⟩ => ⟨S2048x384, .f32⟩
  | .hbm, ⟨41, _⟩ => ⟨S2048x384, .f32⟩
  | .hbm, ⟨42, _⟩ => ⟨S_, .f32⟩
  | .hbm, ⟨43, _⟩ => ⟨S2048x384, .f32⟩
  | .hbm, ⟨44, _⟩ => ⟨S2048x384, .f32⟩
  | _, _ => ⟨S4x2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamUp.lean ====
abbrev S4x2048x1408 : Shape := ⟨3, ![4, 2048, 1408]⟩
abbrev S3x2048x1408 : Shape := ⟨3, ![3, 2048, 1408]⟩
abbrev S2048x1408 : Shape := ⟨2, ![2048, 1408]⟩
abbrev S1x256x1408 : Shape := ⟨3, ![1, 256, 1408]⟩
abbrev S3x256x1408 : Shape := ⟨3, ![3, 256, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S4x2048x1408, .bf16⟩
  | .hbm, ⟨1, _⟩ => ⟨S3x2048x1408, .bf16⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S1x256x1408, .bf16⟩
  | .local _ .vmem, ⟨1, _⟩ => ⟨S1x256x1408, .bf16⟩
  | .local _ .vmem, ⟨2, _⟩ => ⟨S3x256x1408, .bf16⟩
  | .local _ .vmem, ⟨3, _⟩ => ⟨S3x256x1408, .bf16⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S4x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpIdeal.lean ====
abbrev S4x2048x1408 : Shape := ⟨3, ![4, 2048, 1408]⟩
abbrev S3x2048x1408 : Shape := ⟨3, ![3, 2048, 1408]⟩
abbrev S2048x1408 : Shape := ⟨2, ![2048, 1408]⟩
abbrev S1x256x1408 : Shape := ⟨3, ![1, 256, 1408]⟩
abbrev S3x256x1408 : Shape := ⟨3, ![3, 256, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S4x2048x1408, .bf16⟩
  | .hbm, ⟨1, _⟩ => ⟨S3x2048x1408, .bf16⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S1x256x1408, .bf16⟩
  | .local _ .vmem, ⟨1, _⟩ => ⟨S1x256x1408, .bf16⟩
  | .local _ .vmem, ⟨2, _⟩ => ⟨S3x256x1408, .bf16⟩
  | .local _ .vmem, ⟨3, _⟩ => ⟨S3x256x1408, .bf16⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S4x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpRefIdeal.lean ====
abbrev S4x2048x1408 : Shape := ⟨3, ![4, 2048, 1408]⟩
abbrev S3x2048x1408 : Shape := ⟨3, ![3, 2048, 1408]⟩
abbrev S2048x1408 : Shape := ⟨2, ![2048, 1408]⟩
abbrev S1x2048x1408 : Shape := ⟨3, ![1, 2048, 1408]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x1408, .bf16⟩
  | .hbm, ⟨1, _⟩ => ⟨S3x2048x1408, .bf16⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S1x2048x1408, .bf16⟩
  | .hbm, ⟨6, _⟩ => ⟨S2048x1408, .bf16⟩
  | .hbm, ⟨7, _⟩ => ⟨S2048x1408, .f32⟩
  | .hbm, ⟨8, _⟩ => ⟨S3x2048x1408, .f32⟩
  | .hbm, ⟨9, _⟩ => ⟨S_, .f32⟩
  | .hbm, ⟨10, _⟩ => ⟨S2048x1408, .f32⟩
  | .hbm, ⟨11, _⟩ => ⟨S2048x1408, .f32⟩
  | .hbm, ⟨12, _⟩ => ⟨S_, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S2048x1408, .f32⟩
  | .hbm, ⟨23, _⟩ => ⟨S_, .f32⟩
  | .hbm, ⟨24, _⟩ => ⟨S2048x1408, .f32⟩
  | .hbm, ⟨25, _⟩ => ⟨S2048x1408, .f32⟩
  | .hbm, ⟨26, _⟩ => ⟨S2048x1408, .f32⟩
  | .hbm, ⟨27, _⟩ => ⟨S_, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | .hbm, ⟨37, _⟩ => ⟨S2048x1408, .f32⟩
  | .hbm, ⟨38, _⟩ => ⟨S_, .f32⟩
  | .hbm, ⟨39, _⟩ => ⟨S2048x1408, .f32⟩
  | .hbm, ⟨40, _⟩ => ⟨S2048x1408, .f32⟩
  | .hbm, ⟨41, _⟩ => ⟨S2048x1408, .f32⟩
  | .hbm, ⟨42, _⟩ => ⟨S_, .f32⟩
  | .hbm, ⟨43, _⟩ => ⟨S2048x1408, .f32⟩
  | .hbm, ⟨44, _⟩ => ⟨S2048x1408, .f32⟩
  | _, _ => ⟨S4x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamOut.lean ====
abbrev S4x256x2048 : Shape := ⟨3, ![4, 256, 2048]⟩
abbrev S3x256x2048 : Shape := ⟨3, ![3, 256, 2048]⟩
abbrev S256x2048 : Shape := ⟨2, ![256, 2048]⟩
abbrev S1x256x2048 : Shape := ⟨3, ![1, 256, 2048]⟩

abbrev nBuf : Space → Nat
  | .hbm => 9
  | .vmem => 9
  | .smem => 0
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S1x256x2048, .bf16⟩
  | .local _ .vmem, ⟨1, _⟩ => ⟨S3x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutIdeal.lean ====
abbrev S4x256x2048 : Shape := ⟨3, ![4, 256, 2048]⟩
abbrev S3x256x2048 : Shape := ⟨3, ![3, 256, 2048]⟩
abbrev S256x2048 : Shape := ⟨2, ![256, 2048]⟩
abbrev S1x256x2048 : Shape := ⟨3, ![1, 256, 2048]⟩

abbrev nBuf : Space → Nat
  | .hbm => 9
  | .vmem => 9
  | .smem => 0
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S1x256x2048, .bf16⟩
  | .local _ .vmem, ⟨1, _⟩ => ⟨S3x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutRefIdeal.lean ====
abbrev S4x256x2048 : Shape := ⟨3, ![4, 256, 2048]⟩
abbrev S3x256x2048 : Shape := ⟨3, ![3, 256, 2048]⟩
abbrev S256x2048 : Shape := ⟨2, ![256, 2048]⟩
abbrev S1x256x2048 : Shape := ⟨3, ![1, 256, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S1x256x2048, .bf16⟩
  | .hbm, ⟨6, _⟩ => ⟨S256x2048, .bf16⟩
  | .hbm, ⟨7, _⟩ => ⟨S256x2048, .f32⟩
  | .hbm, ⟨8, _⟩ => ⟨S3x256x2048, .f32⟩
  | .hbm, ⟨9, _⟩ => ⟨S_, .f32⟩
  | .hbm, ⟨10, _⟩ => ⟨S256x2048, .f32⟩
  | .hbm, ⟨11, _⟩ => ⟨S256x2048, .f32⟩
  | .hbm, ⟨12, _⟩ => ⟨S_, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S_, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | .hbm, ⟨41, _⟩ => ⟨S256x2048, .f32⟩
  | .hbm, ⟨42, _⟩ => ⟨S_, .f32⟩
  | .hbm, ⟨43, _⟩ => ⟨S256x2048, .f32⟩
  | .hbm, ⟨44, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamDown.lean ====
abbrev S4x704x2048 : Shape := ⟨3, ![4, 704, 2048]⟩
abbrev S3x704x2048 : Shape := ⟨3, ![3, 704, 2048]⟩
abbrev S704x2048 : Shape := ⟨2, ![704, 2048]⟩
abbrev S1x176x2048 : Shape := ⟨3, ![1, 176, 2048]⟩
abbrev S3x176x2048 : Shape := ⟨3, ![3, 176, 2048]⟩
abbrev S176x2048 : Shape := ⟨2, ![176, 2048]⟩

abbrev nBuf : Space → Nat
  | .hbm => 9
  | .vmem => 18
  | .smem => 0
  | _ => 0

abbrev bufTy : (tb : Table) → Fin (tcTables nBuf tb) → BufTy
  | .hbm, ⟨0, _⟩ => ⟨S4x704x2048, .bf16⟩
  | .hbm, ⟨1, _⟩ => ⟨S3x704x2048, .bf16⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .hbm, ⟨8, _⟩ => ⟨S704x2048, .f32⟩
  | .local _ .vmem, ⟨0, _⟩ => ⟨S1x176x2048, .bf16⟩
  | .local _ .vmem, ⟨1, _⟩ => ⟨S1x176x2048, .bf16⟩
  | .local _ .vmem, ⟨2, _⟩ => ⟨S3x176x2048, .bf16⟩
  | .local _ .vmem, ⟨3, _⟩ => ⟨S3x176x2048, .bf16⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | .local _ .vmem, ⟨17, _⟩ => ⟨S176x2048, .f32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownRefIdeal.lean ====
abbrev S4x704x2048 : Shape := ⟨3, ![4, 704, 2048]⟩
abbrev S3x704x2048 : Shape := ⟨3, ![3, 704, 2048]⟩
abbrev S704x2048 : Shape := ⟨2, ![704, 2048]⟩
abbrev S1x704x2048 : Shape := ⟨3, ![1, 704, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x704x2048, .bf16⟩
  | .hbm, ⟨1, _⟩ => ⟨S3x704x2048, .bf16⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S1x704x2048, .bf16⟩
  | .hbm, ⟨6, _⟩ => ⟨S704x2048, .bf16⟩
  | .hbm, ⟨7, _⟩ => ⟨S704x2048, .f32⟩
  | .hbm, ⟨8, _⟩ => ⟨S3x704x2048, .f32⟩
  | .hbm, ⟨9, _⟩ => ⟨S_, .f32⟩
  | .hbm, ⟨10, _⟩ => ⟨S704x2048, .f32⟩
  | .hbm, ⟨11, _⟩ => ⟨S704x2048, .f32⟩
  | .hbm, ⟨12, _⟩ => ⟨S_, .f32⟩
  | .hbm, ⟨13, _⟩ => ⟨S704x2048, .f32⟩
  | .hbm, ⟨14, _⟩ => ⟨S704x2048, .f32⟩
  | .hbm, ⟨15, _⟩ => ⟨S_, .f32⟩
  | .hbm, ⟨16, _⟩ => ⟨S704x2048, .f32⟩
  | .hbm, ⟨17, _⟩ => ⟨S704x2048, .f32⟩
  | .hbm, ⟨18, _⟩ => ⟨S704x2048, .f32⟩
  | .hbm, ⟨19, _⟩ => ⟨S_, .f32⟩
  | .hbm, ⟨20, _⟩ => ⟨S704x2048, .f32⟩
  | .hbm, ⟨21, _⟩ => ⟨S704x2048, .f32⟩
  | .hbm, ⟨22, _⟩ => ⟨S704x2048, .f32⟩
  | .hbm, ⟨23, _⟩ => ⟨S_, .f32⟩
  | .hbm, ⟨24, _⟩ => ⟨S704x2048, .f32⟩
  | .hbm, ⟨25, _⟩ => ⟨S704x2048, .f32⟩
  | .hbm, ⟨26, _⟩ => ⟨S704x2048, .f32⟩
  | .hbm, ⟨27, _⟩ => ⟨S_, .f32⟩
  | .hbm, ⟨28, _⟩ => ⟨S704x2048, .f32⟩
  | .hbm, ⟨29, _⟩ => ⟨S704x2048, .f32⟩
  | .hbm, ⟨30, _⟩ => ⟨S_, .f32⟩
  | .hbm, ⟨31, _⟩ => ⟨S704x2048, .f32⟩
  | .hbm, ⟨32, _⟩ => ⟨S704x2048, .f32⟩
  | .hbm, ⟨33, _⟩ => ⟨S704x2048, .f32⟩
  | .hbm, ⟨34, _⟩ => ⟨S_, .f32⟩
  | .hbm, ⟨35, _⟩ => ⟨S704x2048, .f32⟩
  | .hbm, ⟨36, _⟩ => ⟨S704x2048, .f32⟩
  | .hbm, ⟨37, _⟩ => ⟨S704x2048, .f32⟩
  | .hbm, ⟨38, _⟩ => ⟨S_, .f32⟩
  | .hbm, ⟨39, _⟩ => ⟨S704x2048, .f32⟩
  | .hbm, ⟨40, _⟩ => ⟨S704x2048, .f32⟩
  | .hbm, ⟨41, _⟩ => ⟨S704x2048, .f32⟩
  | .hbm, ⟨42, _⟩ => ⟨S_, .f32⟩
  | .hbm, ⟨43, _⟩ => ⟨S704x2048, .f32⟩
  | .hbm, ⟨44, _⟩ => ⟨S704x2048, .f32⟩
  | _, _ => ⟨S4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamWide.lean ====
abbrev S4096x16 : Shape := ⟨2, ![4096, 16]⟩

abbrev nBuf : Space → Nat
  | .hbm => 8
  | .vmem => 8
  | .smem => 0
  | _ => 0

abbrev bufTy : (tb : Table) → Fin (tcTables nBuf tb) → BufTy
  | .hbm, ⟨0, _⟩ => ⟨S4096x16, .f32⟩
  | .hbm, ⟨1, _⟩ => ⟨S4096x16, .f32⟩
  | .hbm, ⟨2, _⟩ => ⟨S4096x16, .f32⟩
  | .hbm, ⟨3, _⟩ => ⟨S4096x16, .f32⟩
  | .hbm, ⟨4, _⟩ => ⟨S4096x16, .f32⟩
  | .hbm, ⟨5, _⟩ => ⟨S4096x16, .f32⟩
  | .hbm, ⟨6, _⟩ => ⟨S4096x16, .f32⟩
  | .hbm, ⟨7, _⟩ => ⟨S4096x16, .f32⟩
  | .local _ .vmem, ⟨0, _⟩ => ⟨S4096x16, .f32⟩
  | .local _ .vmem, ⟨1, _⟩ => ⟨S4096x16, .f32⟩
  | .local _ .vmem, ⟨2, _⟩ => ⟨S4096x16, .f32⟩
  | .local _ .vmem, ⟨3, _⟩ => ⟨S4096x16, .f32⟩
  | .local _ .vmem, ⟨4, _⟩ => ⟨S4096x16, .f32⟩
  | .local _ .vmem, ⟨5, _⟩ => ⟨S4096x16, .f32⟩
  | .local _ .vmem, ⟨6, _⟩ => ⟨S4096x16, .f32⟩
  | .local _ .vmem, ⟨7, _⟩ => ⟨S4096x16, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4096x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== AdamWideRefIdeal.lean ====
abbrev S4096x16 : Shape := ⟨2, ![4096, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S4096x16, .f32⟩
  | .hbm, ⟨2, _⟩ => ⟨S4096x16, .f32⟩
  | .hbm, ⟨3, _⟩ => ⟨S4096x16, .f32⟩
  | .hbm, ⟨4, _⟩ => ⟨S_, .f32⟩
  | .hbm, ⟨5, _⟩ => ⟨S4096x16, .f32⟩
  | .hbm, ⟨6, _⟩ => ⟨S4096x16, .f32⟩
  | .hbm, ⟨7, _⟩ => ⟨S_, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S_, .f32⟩
  | .hbm, ⟨12, _⟩ => ⟨S4096x16, .f32⟩
  | .hbm, ⟨13, _⟩ => ⟨S4096x16, .f32⟩
  | .hbm, ⟨14, _⟩ => ⟨S4096x16, .f32⟩
  | .hbm, ⟨15, _⟩ => ⟨S_, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S_, .f32⟩
  | .hbm, ⟨20, _⟩ => ⟨S4096x16, .f32⟩
  | .hbm, ⟨21, _⟩ => ⟨S4096x16, .f32⟩
  | .hbm, ⟨22, _⟩ => ⟨S_, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S_, .f32⟩
  | .hbm, ⟨27, _⟩ => ⟨S4096x16, .f32⟩
  | .hbm, ⟨28, _⟩ => ⟨S4096x16, .f32⟩
  | .hbm, ⟨29, _⟩ => ⟨S4096x16, .f32⟩
  | .hbm, ⟨30, _⟩ => ⟨S_, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S_, .f32⟩
  | .hbm, ⟨35, _⟩ => ⟨S4096x16, .f32⟩
  | .hbm, ⟨36, _⟩ => ⟨S4096x16, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Final.lean ====
abbrev S2048x2048 : Shape := ⟨2, ![2048, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S1x1, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S1x1, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FinalRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x1 : Shape := ⟨2, ![1, 1]⟩

abbrev nBuf : Space → Nat
  | .hbm => 81
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S_, .f32⟩
  | .hbm, ⟨64, _⟩ => ⟨S2048, .f32⟩
  | .hbm, ⟨65, _⟩ => ⟨S2048x1, .f32⟩
  | .hbm, ⟨66, _⟩ => ⟨S2048x2048, .f32⟩
  | .hbm, ⟨67, _⟩ => ⟨S2048x2048, .f32⟩
  | .hbm, ⟨68, _⟩ => ⟨S2048x1, .f32⟩
  | .hbm, ⟨69, _⟩ => ⟨S_, .f32⟩
  | .hbm, ⟨70, _⟩ => ⟨S2048x1, .f32⟩
  | .hbm, ⟨71, _⟩ => ⟨S2048x1, .f32⟩
  | .hbm, ⟨72, _⟩ => ⟨S_, .f32⟩
  | .hbm, ⟨73, _⟩ => ⟨S2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S1x1, .f32⟩
  | .hbm, ⟨80, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== PreNorm.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PreNormRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== CatNorm.lean ====
abbrev S2048x1024 : Shape := ⟨2, ![2048, 1024]⟩
abbrev S1x1024 : Shape := ⟨2, ![1, 1024]⟩
abbrev S2048x2048 : Shape := ⟨2, ![2048, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x2048, .bf16⟩
  | .local _ .vmem, ⟨7, _⟩ => ⟨S256x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CatNormRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩

abbrev nBuf : Space → Nat
  | .hbm => 36
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x2048, .f32⟩
  | .hbm, ⟨35, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== MidFwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MidFwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S1x2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== SguFwd.lean ====
abbrev S2048x3072 : Shape := ⟨2, ![2048, 3072]⟩
abbrev S1x1024 : Shape := ⟨2, ![1, 1024]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S2048x1024 : Shape := ⟨2, ![2048, 1024]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 9
  | .vmem => 10
  | .smem => 0
  | _ => 0

abbrev bufTy : (tb : Table) → Fin (tcTables nBuf tb) → BufTy
  | .hbm, ⟨0, _⟩ => ⟨S2048x3072, .f32⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S128x8x128, .f32⟩
  | .hbm, ⟨7, _⟩ => ⟨S128x1024, .f32⟩
  | .hbm, ⟨8, _⟩ => ⟨S2048x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguFwdRefIdeal.lean ====
abbrev S2048x3072 : Shape := ⟨2, ![2048, 3072]⟩
abbrev S1x1024 : Shape := ⟨2, ![1, 1024]⟩
abbrev S8x128x128 : Shape := ⟨3, ![8, 128, 128]⟩
abbrev S8x128 : Shape := ⟨2, ![8, 128]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S16x128x8x128 : Shape := ⟨4, ![16, 128, 8, 128]⟩
abbrev S128x128 : Shape := ⟨2, ![128, 128]⟩
abbrev S1x128x128 : Shape := ⟨3, ![1, 128, 128]⟩
abbrev S8x16x128x128 : Shape := ⟨4, ![8, 16, 128, 128]⟩
abbrev S128x8 : Shape := ⟨2, ![128, 8]⟩
abbrev S1x128x8x1 : Shape := ⟨4, ![1, 128, 8, 1]⟩

abbrev nBuf : Space → Nat
  | .hbm => 97
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1024, .f32⟩
  | .hbm, ⟨9, _⟩ => ⟨S1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S1x1024, .f32⟩
  | .hbm, ⟨66, _⟩ => ⟨S2048x1024, .f32⟩
  | .hbm, ⟨67, _⟩ => ⟨S2048x1024, .f32⟩
  | .hbm, ⟨68, _⟩ => ⟨S1x1024, .f32⟩
  | .hbm, ⟨69, _⟩ => ⟨S2048x1024, .f32⟩
  | .hbm, ⟨70, _⟩ => ⟨S2048x1024, .f32⟩
  | .hbm, ⟨71, _⟩ => ⟨S16x128x8x128, .f32⟩
  | .hbm, ⟨72, _⟩ => ⟨S_, .i1⟩
  | .hbm, ⟨73, _⟩ => ⟨S128x128, .i1⟩
  | .hbm, ⟨74, _⟩ => ⟨S128x128, .i32⟩
  | .hbm, ⟨75, _⟩ => ⟨S_, .i32⟩
  | .hbm, ⟨76, _⟩ => ⟨S128x128, .i32⟩
  | .hbm, ⟨77, _⟩ => ⟨S128x128, .i32⟩
  | .hbm, ⟨78, _⟩ => ⟨S128x128, .i32⟩
  | .hbm, ⟨79, _⟩ => ⟨S128x128, .i1⟩
  | .hbm, ⟨80, _⟩ => ⟨S_, .i1⟩
  | .hbm, ⟨81, _⟩ => ⟨S128x128, .i1⟩
  | .hbm, ⟨82, _⟩ => ⟨S128x128, .i1⟩
  | .hbm, ⟨83, _⟩ => ⟨S1x128x128, .i1⟩
  | .hbm, ⟨84, _⟩ => ⟨S_, .f32⟩
  | .hbm, ⟨85, _⟩ => ⟨S_, .f32⟩
  | .hbm, ⟨86, _⟩ => ⟨S8x128x128, .i1⟩
  | .hbm, ⟨87, _⟩ => ⟨S8x128x128, .f32⟩
  | .hbm, ⟨88, _⟩ => ⟨S8x128x128, .f32⟩
  | .hbm, ⟨89, _⟩ => ⟨S8x16x128x128, .f32⟩
  | .hbm, ⟨90, _⟩ => ⟨S16x128x8x128, .f32⟩
  | .hbm, ⟨91, _⟩ => ⟨S128x8, .f32⟩
  | .hbm, ⟨92, _⟩ => ⟨S1x128x8x1, .f32⟩
  | .hbm, ⟨93, _⟩ => ⟨S16x128x8x128, .f32⟩
  | .hbm, ⟨94, _⟩ => ⟨S16x128x8x128, .f32⟩
  | .hbm, ⟨95, _⟩ => ⟨S2048x1024, .f32⟩
  | .hbm, ⟨96, _⟩ => ⟨S2048x1024, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c : Ref sig .tc := ⟨.hbm, 72, rfl⟩
abbrev main_v54 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩

abbrev nD : Nat := 1
abbrev τ : Topo := Topo.v7x

variable {F : FTy → Type} [FloatOps F]
-- ==== Proof.Index.lean ====
module

public import Idealize.ShloMosaic.Lib.Pointwise

@[expose] public section

/-! An index is its coordinates. -/

namespace Cert

open Idealize.ShloMosaic

theorem idx2 {a b : Nat} (i : (⟨2, ![a, b]⟩ : Shape).Idx) : i = ix2 (i 0) (i 1) := funext fun k => match k with
  | ⟨0, _⟩ => rfl
  | ⟨1, _⟩ => rfl

/-- Of an array of one row. -/
theorem idx1 {b : Nat} (i : (⟨2, ![1, b]⟩ : Shape).Idx) : i = ix2 0 (i 1) :=
  (idx2 i).trans (congrArg (fun k => ix2 k (i 1)) (Fin.eq_zero (i 0)))

theorem idx3 {a b c : Nat} (i : (⟨3, ![a, b, c]⟩ : Shape).Idx) : i = ix3 (i 0) (i 1) (i 2) := funext fun k => match k with
  | ⟨0, _⟩ => rfl
  | ⟨1, _⟩ => rfl
  | ⟨2, _⟩ => rfl

end Cert
-- ==== Proof.Blocks.lean ====
module

public import proofs.«01_k».proof.Proof.Gen.KernelIdeal.Value
public import Idealize.ShloMosaic.Lib.Pipeline.ReadBack
public import Idealize.ShloMosaic.Lib.Pointwise

@[expose] public section

set_option maxRecDepth 16384

noncomputable section

namespace Cert.KernelIdeal.Conv

open Cert.KernelIdeal Cert.KernelIdeal.Gen Idealize.ShloMosaic Idealize.ShloMosaic.TcCoe Idealize.ShloMosaic.Tactic Idealize.SL.Sem

variable {F : FTy → Type} [FloatOps F]

/-! What one grid point of the convolution's backward kernel leaves in each output block, as a term over the blocks it
    loaded: `x0` the row block of the pre-activations, `x1` the eight rows before it, `x2` the gradient's row block, `x3` the
    three filter rows, `x4` the bias; for the points after the first of a column block also the accumulators `xo6` (filter
    gradient), `xo7` (bias gradient) and `xs0` (the first rows of the point before's gradient). -/

theorem hz : (![0, 0] : Fin 2 → Nat) = fun _ => 0 := funext fun a => by fin_cases a <;> rfl

/-- Filter row `k` of a block of three, as the kernel loads it. -/
def wr0 (x3 : Vec F S3x2816 .f32) : Vec F S1x2816 .f32 := View.ld x3 (Rect.unit (s := S3x2816) ![0, 0] S1x2816.size inb_S3x2816_S1x2816_0_0)
@[inherit_doc wr0] def wr1 (x3 : Vec F S3x2816 .f32) : Vec F S1x2816 .f32 := View.ld x3 (Rect.unit (s := S3x2816) ![1, 0] S1x2816.size inb_S3x2816_S1x2816_1_0)
@[inherit_doc wr0] def wr2 (x3 : Vec F S3x2816 .f32) : Vec F S1x2816 .f32 := View.ld x3 (Rect.unit (s := S3x2816) ![2, 0] S1x2816.size inb_S3x2816_S1x2816_2_0)

/-- The gradient at the convolution's result, over one row block. -/
def dupB (i : grid0.Coords) (x0 : Vec F S256x2816 .f32) (x1 : Vec F S8x2816 .f32) (x2 : Vec F S256x1408 .f32) (x3 : Vec F S3x2816 .f32)
    (x4 : Vec F S1x2816 .f32) : FVec F S256x2816 .f32 :=
  k0_pay10 x0 (k0_pay7 i x0 x1) (k0_pay9 i x0 x1 x4 (wr0 x3)) (wr1 x3) (wr2 x3) x2

/-- The gradient at the convolution's operand, over one row block, `xs0` the first rows of the block below. -/
def dxB (i : grid0.Coords) (x0 : Vec F S256x2816 .f32) (x1 : Vec F S8x2816 .f32) (x2 : Vec F S256x1408 .f32) (x3 : Vec F S3x2816 .f32)
    (x4 : Vec F S1x2816 .f32) (xs0 : Vec F S8x2816 .f32) : FVec F S256x2816 .bf16 :=
  k0_pay14 xs0 (k0_pay11 x0 (k0_pay7 i x0 x1) (k0_pay9 i x0 x1 x4 (wr0 x3)) (wr1 x3) (wr2 x3) x2 xs0 (wr2 x3) (wr1 x3)) (wr0 x3)
    (iota .tc S256x2816 32 [0] iota_S256x2816_d0_w32)
    (k0_pay12 x0 (k0_pay7 i x0 x1) (k0_pay9 i x0 x1 x4 (wr0 x3)) (wr1 x3) (wr2 x3) x2) k0_pay13

/-- Three rows as one block. -/
def rows3 (p0 p1 p2 : Vec F S1x2816 .f32) : Vec F S3x2816 .f32 := fun j =>
  if (j 0).val = 0 then p0 (ix2 (0 : Fin 1) (j 1)) else if (j 0).val = 1 then p1 (ix2 (0 : Fin 1) (j 1)) else p2 (ix2 (0 : Fin 1) (j 1))

/-- Three stores of one row each, over anything stored before, leave the three rows. -/
theorem canon_rows3 (p0 p1 p2 : Vec F S1x2816 .f32) (L : List (View.Piece (Elt F) S3x2816 .f32)) :
    View.canon ((⟨Rect.unit (s := S3x2816) ![2, 0] S1x2816.size inb_S3x2816_S1x2816_2_0, p2⟩ : View.Piece (Elt F) S3x2816 .f32)
      :: ⟨Rect.unit (s := S3x2816) ![1, 0] S1x2816.size inb_S3x2816_S1x2816_1_0, p1⟩
      :: ⟨Rect.unit (s := S3x2816) ![0, 0] S1x2816.size inb_S3x2816_S1x2816_0_0, p0⟩ :: L) = rows3 p0 p1 p2 := by
  funext y
  refine View.canon_append_of_piecesOf (rows3 p0 p1 p2) L
    [⟨Rect.unit (s := S3x2816) ![2, 0] S1x2816.size inb_S3x2816_S1x2816_2_0, p2⟩,
      ⟨Rect.unit (s := S3x2816) ![1, 0] S1x2816.size inb_S3x2816_S1x2816_1_0, p1⟩,
      ⟨Rect.unit (s := S3x2816) ![0, 0] S1x2816.size inb_S3x2816_S1x2816_0_0, p0⟩] ⟨?_, ?_, ?_, trivial⟩ y ?_
  iterate 3
    · intro x
      have h0 : (x 0).val = 0 := by have := (x 0).isLt; change (x 0).val < 1 at this; omega
      have h1 (k : Nat) (h : ∀ a, (![k, 0] : Fin 2 → Nat) a + S1x2816.size a ≤ S3x2816.size a) :
        (((Rect.unit (s := S3x2816) ![k, 0] S1x2816.size h).emb x 0).val = k) := by
          show k + 1 * (x 0).val = k; omega
      have h2 (k : Nat) (h : ∀ a, (![k, 0] : Fin 2 → Nat) a + S1x2816.size a ≤ S3x2816.size a) :
        (((Rect.unit (s := S3x2816) ![k, 0] S1x2816.size h).emb x 1) = x 1) := by
          apply Fin.ext; show 0 + 1 * (x 1).val = (x 1).val; omega
      have h3 : ix2 (0 : Fin 1) (x 1) = x := by
        funext a; match a with
        | 0 => exact Fin.ext h0.symm
        | 1 => rfl
      simp only [rows3, h1, h2]
      exact congrArg _ h3.symm
  · have h0 : (y 0).val < 3 := (y 0).isLt
    have h1 : (y 1).val < 2816 := (y 1).isLt
    have key (k : Nat) (h : ∀ a, (![k, 0] : Fin 2 → Nat) a + S1x2816.size a ≤ S3x2816.size a) (hk : (y 0).val = k) :
        y ∈ (Rect.unit (s := S3x2816) ![k, 0] S1x2816.size h).set := by
      rw [Rect.mem_set_unit]
      intro a; match a with
      | 0 => show k ≤ (y 0).val ∧ (y 0).val < k + 1; omega
      | 1 => show 0 ≤ (y 1).val ∧ (y 1).val < 0 + 2816; omega
    rcases (by omega : (y 0).val = 2 ∨ (y 0).val = 1 ∨ (y 0).val = 0) with h | h | h
    · exact ⟨_, List.mem_cons_self, key 2 inb_S3x2816_S1x2816_2_0 h⟩
    · exact ⟨_, List.mem_cons_of_mem _ List.mem_cons_self, key 1 inb_S3x2816_S1x2816_1_0 h⟩
    · exact ⟨_, List.mem_cons_of_mem _ (List.mem_cons_of_mem _ List.mem_cons_self), key 0 inb_S3x2816_S1x2816_0_0 h⟩

variable (c : Dev nD) (i : grid0.Coords) (a2 : Memref sig .tc .vmem S256x2816 .f32) (h2 : a2.IsWhole)
  (a3 : Memref sig .tc .vmem S8x2816 .f32) (h3 : a3.IsWhole) (a4 : Memref sig .tc .vmem S256x1408 .f32) (h4 : a4.IsWhole)
  (a5 : Memref sig .tc .vmem S3x2816 .f32) (h5 : a5.IsWhole) (a6 : Memref sig .tc .vmem S1x2816 .f32) (h6 : a6.IsWhole)
  (a7 : Memref sig .tc .vmem S256x2816 .bf16) (h7 : a7.IsWhole) (a8 : Memref sig .tc .vmem S3x2816 .f32) (h8 : a8.IsWhole)
  (a9 : Memref sig .tc .vmem S1x2816 .f32) (h9 : a9.IsWhole) (a10 : Memref sig .tc .vmem S8x2816 .f32) (h10 : a10.IsWhole)
  (x0 : Vec F S256x2816 .f32) (x1 : Vec F S8x2816 .f32) (x2 : Vec F S256x1408 .f32) (x3 : Vec F S3x2816 .f32) (x4 : Vec F S1x2816 .f32)
  (xo6 : Vec F S3x2816 .f32) (xo7 : Vec F S1x2816 .f32) (xs0 : Vec F S8x2816 .f32)

/-- The operand gradient block at the first point of a column block. -/
theorem out5_A (hc : cond0_0 i) :
    out0_A_5 c i a2 h2 a3 h3 a4 h4 a5 h5 a6 h6 a7 h7 a8 h8 a9 h9 a10 h10 hc x0 x1 x2 x3 x4 = dxB i x0 x1 x2 x3 x4 (k0_pay3 (F := F)) := by
  unfold out0_A_5
  rw [View.read_writes_eq_canon _ _ _ (cover0_A_5 c i a2 h2 a3 h3 a4 h4 a5 h5 a6 h6 a7 h7 a8 h8 a9 h9 a10 h10 hc x0 x1 x2 x3 x4)]
  unfold kernelRun0_A
  dsimp only
  sl_unfold_words
  simp only [View.readAt_eq_ld, h2.read_unread, h3.read_unread, h4.read_unread, h5.read_unread,
    h6.read_unread, h8.read_unread, h9.read_unread, h10.read_unread, View.ld_unit_zero (S := S256x2816) hz,
    View.ld_unit_zero (S := S256x1408) hz, View.ld_unit_zero (S := S8x2816) hz, View.ld_unit_zero (S := S1x2816) hz, shapeCast_self]
  rw [View.canon_unit_zero hz]
  simp only [View.readCov_unit_zero (S := S8x2816) _ hz]
  rfl

/-- The filter gradient block at the first point of a column block. -/
theorem out6_A (hc : cond0_0 i) :
    out0_A_6 c i a2 h2 a3 h3 a4 h4 a5 h5 a6 h6 a7 h7 a8 h8 a9 h9 a10 h10 hc x0 x1 x2 x3 x4 = rows3 (k0_pay15 (k0_pay8 i x0 x1) (dupB i x0 x1 x2 x3 x4) (wr0 (k0_pay4 (F := F)))) (k0_pay16 (k0_pay7 i x0 x1) (dupB i x0 x1 x2 x3 x4) (wr1 (k0_pay4 (F := F)))) (k0_pay17 x0 (dupB i x0 x1 x2 x3 x4) (wr2 (k0_pay4 (F := F)))) := by
  unfold out0_A_6
  rw [View.read_writes_eq_canon _ _ _ (cover0_A_6 c i a2 h2 a3 h3 a4 h4 a5 h5 a6 h6 a7 h7 a8 h8 a9 h9 a10 h10 hc x0 x1 x2 x3 x4)]
  unfold kernelRun0_A
  dsimp only
  sl_unfold_words
  simp only [View.readAt_eq_ld, h2.read_unread, h3.read_unread, h4.read_unread, h5.read_unread,
    h6.read_unread, h8.read_unread, h9.read_unread, h10.read_unread, View.ld_unit_zero (S := S256x2816) hz,
    View.ld_unit_zero (S := S256x1408) hz, View.ld_unit_zero (S := S8x2816) hz, View.ld_unit_zero (S := S1x2816) hz, shapeCast_self]
  rw [canon_rows3 (F := F)]
  simp (disch := decide) only [↓View.readCov_skip, ↓View.readCov_fill]
  rfl

/-- The bias gradient block at the first point of a column block. -/
theorem out7_A (hc : cond0_0 i) :
    out0_A_7 c i a2 h2 a3 h3 a4 h4 a5 h5 a6 h6 a7 h7 a8 h8 a9 h9 a10 h10 hc x0 x1 x2 x3 x4 = k0_pay1 (dupB i x0 x1 x2 x3 x4) (k0_pay5 (F := F)) := by
  unfold out0_A_7
  rw [View.read_writes_eq_canon _ _ _ (cover0_A_7 c i a2 h2 a3 h3 a4 h4 a5 h5 a6 h6 a7 h7 a8 h8 a9 h9 a10 h10 hc x0 x1 x2 x3 x4)]
  unfold kernelRun0_A
  dsimp only
  sl_unfold_words
  simp only [View.readAt_eq_ld, h2.read_unread, h3.read_unread, h4.read_unread, h5.read_unread,
    h6.read_unread, h8.read_unread, h9.read_unread, h10.read_unread, View.ld_unit_zero (S := S256x2816) hz,
    View.ld_unit_zero (S := S256x1408) hz, View.ld_unit_zero (S := S8x2816) hz, View.ld_unit_zero (S := S1x2816) hz, shapeCast_self]
  rw [View.canon_cons_unit_zero (S := S1x2816) hz]
  simp only [View.readCov_unit_zero (S := S1x2816) _ hz]
  rfl

/-- The rows carried to the next point at the first point of a column block. -/
theorem out0_A (hc : cond0_0 i) :
    sout0_A_0 c i a2 h2 a3 h3 a4 h4 a5 h5 a6 h6 a7 h7 a8 h8 a9 h9 a10 h10 hc x0 x1 x2 x3 x4 = k0_pay2 (dupB i x0 x1 x2 x3 x4) := by
  unfold sout0_A_0
  rw [View.read_writes_eq_canon _ _ _ (scover0_A_0 c i a2 h2 a3 h3 a4 h4 a5 h5 a6 h6 a7 h7 a8 h8 a9 h9 a10 h10 hc x0 x1 x2 x3 x4)]
  unfold kernelRun0_A
  dsimp only
  sl_unfold_words
  simp only [View.readAt_eq_ld, h2.read_unread, h3.read_unread, h4.read_unread, h5.read_unread,
    h6.read_unread, h8.read_unread, h9.read_unread, h10.read_unread, View.ld_unit_zero (S := S256x2816) hz,
    View.ld_unit_zero (S := S256x1408) hz, View.ld_unit_zero (S := S8x2816) hz, View.ld_unit_zero (S := S1x2816) hz, shapeCast_self]
  rw [View.canon_cons_unit_zero (S := S8x2816) hz]
  rfl

/-- The operand gradient block at a later point of a column block. -/
theorem out5_B (hc : ¬cond0_0 i) :
    out0_B_5 c i a2 h2 a3 h3 a4 h4 a5 h5 a6 h6 a7 h7 a8 h8 a9 h9 a10 h10 hc x0 x1 x2 x3 x4 xo6 xo7 xs0 = dxB i x0 x1 x2 x3 x4 xs0 := by
  unfold out0_B_5
  rw [View.read_writes_eq_canon _ _ _ (cover0_B_5 c i a2 h2 a3 h3 a4 h4 a5 h5 a6 h6 a7 h7 a8 h8 a9 h9 a10 h10 hc x0 x1 x2 x3 x4 xo6 xo7 xs0)]
  unfold kernelRun0_B
  dsimp only
  sl_unfold_words
  simp only [View.readAt_eq_ld, h2.read_unread, h3.read_unread, h4.read_unread, h5.read_unread,
    h6.read_unread, h8.read_unread, h9.read_unread, h10.read_unread, View.ld_unit_zero (S := S256x2816) hz,
    View.ld_unit_zero (S := S256x1408) hz, View.ld_unit_zero (S := S8x2816) hz, View.ld_unit_zero (S := S1x2816) hz, shapeCast_self]
  rw [View.canon_unit_zero hz]
  rfl

/-- The filter gradient block at a later point of a column block. -/
theorem out6_B (hc : ¬cond0_0 i) :
    out0_B_6 c i a2 h2 a3 h3 a4 h4 a5 h5 a6 h6 a7 h7 a8 h8 a9 h9 a10 h10 hc x0 x1 x2 x3 x4 xo6 xo7 xs0 = rows3 (k0_pay15 (k0_pay8 i x0 x1) (dupB i x0 x1 x2 x3 x4) (wr0 xo6)) (k0_pay16 (k0_pay7 i x0 x1) (dupB i x0 x1 x2 x3 x4) (wr1 xo6)) (k0_pay17 x0 (dupB i x0 x1 x2 x3 x4) (wr2 xo6)) := by
  unfold out0_B_6
  rw [View.read_writes_eq_canon _ _ _ (cover0_B_6 c i a2 h2 a3 h3 a4 h4 a5 h5 a6 h6 a7 h7 a8 h8 a9 h9 a10 h10 hc x0 x1 x2 x3 x4 xo6 xo7 xs0)]
  unfold kernelRun0_B
  dsimp only
  sl_unfold_words
  simp only [View.readAt_eq_ld, h2.read_unread, h3.read_unread, h4.read_unread, h5.read_unread,
    h6.read_unread, h8.read_unread, h9.read_unread, h10.read_unread, View.ld_unit_zero (S := S256x2816) hz,
    View.ld_unit_zero (S := S256x1408) hz, View.ld_unit_zero (S := S8x2816) hz, View.ld_unit_zero (S := S1x2816) hz, shapeCast_self]
  rw [canon_rows3 (F := F)]
  rfl

/-- The bias gradient block at a later point of a column block. -/
theorem out7_B (hc : ¬cond0_0 i) :
    out0_B_7 c i a2 h2 a3 h3 a4 h4 a5 h5 a6 h6 a7 h7 a8 h8 a9 h9 a10 h10 hc x0 x1 x2 x3 x4 xo6 xo7 xs0 = k0_pay1 (dupB i x0 x1 x2 x3 x4) xo7 := by
  unfold out0_B_7
  rw [View.read_writes_eq_canon _ _ _ (cover0_B_7 c i a2 h2 a3 h3 a4 h4 a5 h5 a6 h6 a7 h7 a8 h8 a9 h9 a10 h10 hc x0 x1 x2 x3 x4 xo6 xo7 xs0)]
  unfold kernelRun0_B
  dsimp only
  sl_unfold_words
  simp only [View.readAt_eq_ld, h2.read_unread, h3.read_unread, h4.read_unread, h5.read_unread,
    h6.read_unread, h8.read_unread, h9.read_unread, h10.read_unread, View.ld_unit_zero (S := S256x2816) hz,
    View.ld_unit_zero (S := S256x1408) hz, View.ld_unit_zero (S := S8x2816) hz, View.ld_unit_zero (S := S1x2816) hz, shapeCast_self]
  rw [View.canon_unit_zero hz]
  rfl

/-- The rows carried to the next point at a later point of a column block. -/
theorem out0_B (hc : ¬cond0_0 i) :
    sout0_B_0 c i a2 h2 a3 h3 a4 h4 a5 h5 a6 h6 a7 h7 a8 h8 a9 h9 a10 h10 hc x0 x1 x2 x3 x4 xo6 xo7 xs0 = k0_pay2 (dupB i x0 x1 x2 x3 x4) := by
  unfold sout0_B_0
  rw [View.read_writes_eq_canon _ _ _ (scover0_B_0 c i a2 h2 a3 h3 a4 h4 a5 h5 a6 h6 a7 h7 a8 h8 a9 h9 a10 h10 hc x0 x1 x2 x3 x4 xo6 xo7 xs0)]
  unfold kernelRun0_B
  dsimp only
  sl_unfold_words
  simp only [View.readAt_eq_ld, h2.read_unread, h3.read_unread, h4.read_unread, h5.read_unread,
    h6.read_unread, h8.read_unread, h9.read_unread, h10.read_unread, View.ld_unit_zero (S := S256x2816) hz,
    View.ld_unit_zero (S := S256x1408) hz, View.ld_unit_zero (S := S8x2816) hz, View.ld_unit_zero (S := S1x2816) hz, shapeCast_self]
  rw [View.canon_unit_zero hz]
  rfl

end Cert.KernelIdeal.Conv
-- ==== Proof.Spec.lean ====
module

public import Idealize.ShloMosaic.Lib.Pointwise

@[expose] public section

noncomputable section

/-! The backward pass of the causal depthwise convolution with its gate, in plain terms over the extended reals. Rows and
    columns are natural numbers; a matrix is continued by zeros outside its bounds. The 11264 columns are four groups `p` of
    2816, each the gate half (columns `q < 1408` of the group) and the value half (the other 1408). -/

namespace Cert.Conv

open Idealize.ShloMosaic
open scoped BigOperators

/-- A matrix continued by zeros. -/
def ext {a b : Nat} (X : (⟨2, ![a, b]⟩ : Shape).Idx → EReal) (t c : Nat) : EReal :=
  if h : t < a ∧ c < b then X (ix2 ⟨t, h.1⟩ ⟨c, h.2⟩) else 0

theorem ext_apply {a b : Nat} (X : (⟨2, ![a, b]⟩ : Shape).Idx → EReal) (t : Fin a) (c : Fin b) : ext X t.val c.val = X (ix2 t c) :=
  dif_pos ⟨t.isLt, c.isLt⟩

theorem ext_of_lt {a b : Nat} (X : (⟨2, ![a, b]⟩ : Shape).Idx → EReal) (t c : Nat) (ht : t < a) (hc : c < b) :
    ext X t c = X (ix2 ⟨t, ht⟩ ⟨c, hc⟩) := dif_pos ⟨ht, hc⟩

variable (X : (⟨2, ![2048, 11264]⟩ : Shape).Idx → EReal) (D : (⟨2, ![2048, 5632]⟩ : Shape).Idx → EReal)
  (W : (⟨2, ![3, 11264]⟩ : Shape).Idx → EReal) (B : (⟨2, ![1, 11264]⟩ : Shape).Idx → EReal)

/-- The operand under two rows of zeros. -/
def hp (s c : Nat) : EReal := if s < 2 then 0 else ext X (s - 2) c

/-- The convolution at row `t`, column `c`: the bias and three taps. -/
def pre (t c : Nat) : EReal :=
  ((ext B 0 c + ext W 0 c * hp X t c) + ext W 1 c * hp X (t + 1) c) + ext W 2 c * hp X (t + 2) c

/-- The gradient at a gate `a`, its value `b`, the gradient `d` at their gated product. -/
def gateGrad (a b d : EReal) : EReal := (d * b) * Ideal.logistic a + (a * (d * b)) * (Ideal.logistic a * (1 - Ideal.logistic a))

/-- The gradient at the value of a gate `a`. -/
def valueGrad (a d : EReal) : EReal := (a * Ideal.logistic a) * d

/-- The gradient at the convolution's result, at row `t` and column `q` of group `p`; zero below the last row. -/
def dup (p t q : Nat) : EReal :=
  if t < 2048 then
    if q < 1408 then gateGrad (pre X W B t (2816 * p + q)) (pre X W B t (2816 * p + (1408 + q))) (ext D t (1408 * p + q))
    else valueGrad (pre X W B t (2816 * p + (q - 1408))) (ext D t (1408 * p + (q - 1408)))
  else 0

/-- The gradient at the convolution's operand. -/
def dx (p t q : Nat) : EReal :=
  (ext W 2 (2816 * p + q) * dup X D W B p t q + ext W 1 (2816 * p + q) * dup X D W B p (t + 1) q)
    + ext W 0 (2816 * p + q) * dup X D W B p (t + 2) q

/-- The gradient at filter row `k`. -/
def dw (k p q : Nat) : EReal := ∑ t ∈ Finset.range 2048, dup X D W B p t q * hp X (t + k) (2816 * p + q)

/-- The gradient at the bias. -/
def db (p q : Nat) : EReal := ∑ t ∈ Finset.range 2048, dup X D W B p t q

/-- A sum over `256 n` rows, block of 256 by block. -/
theorem sum_blocks (f : Nat → EReal) (n : Nat) :
    ∑ t ∈ Finset.range (256 * n), f t = ∑ j ∈ Finset.range n, ∑ r ∈ Finset.range 256, f (256 * j + r) := by
  induction n with
  | zero => simp
  | succ n ih => rw [Nat.mul_succ, Finset.sum_range_add, ih, Finset.sum_range_succ (n := n)]

/-- The sum over 2048 rows is the sum over the eight blocks taken from the last to the first. -/
theorem sum_blocks_reflect (f : Nat → EReal) :
    ∑ j ∈ Finset.range 8, ∑ r ∈ Finset.range 256, f (256 * (7 - j) + r) = ∑ t ∈ Finset.range 2048, f t := by
  rw [show (2048 : Nat) = 256 * 8 from rfl, sum_blocks, ← Finset.sum_range_reflect (fun j => ∑ r ∈ Finset.range 256, f (256 * j + r))]

end Cert.Conv
-- ==== Proof.BlockValue.lean ====
module

public import proofs.«01_k».proof.Proof.Blocks
public import proofs.«01_k».proof.Proof.Spec
public import Idealize.ShloMosaic.Lib.Pointwise

@[expose] public section

set_option maxRecDepth 16384

noncomputable section

namespace Cert.KernelIdeal.Conv

open Cert.KernelIdeal Cert.KernelIdeal.Gen Idealize.ShloMosaic Idealize.ShloMosaic.TcCoe Idealize.ShloMosaic.Tactic Idealize.SL.Sem
open Cert.Conv

variable (i : grid0.Coords) (x0 : Vec Ideal S256x2816 .f32) (x1 : Vec Ideal S8x2816 .f32)

/-- A choice on the equality of two words below 2³². -/
theorem select_eq (n k : Nat) (hn : n < 2 ^ 32) (hk : k < 2 ^ 32) (a b : EReal) :
    Scalar.select (IntOp.cmpi .eq (BitVec.ofNat 32 n) (BitVec.ofNat 32 k)) a b = if n = k then a else b := by
  rw [show ∀ c : BitVec 1, Scalar.select c a b = if c = 1#1 then a else b from fun _ => rfl]
  have h : IntOp.cmpi .eq (BitVec.ofNat 32 n) (BitVec.ofNat 32 k) = 1#1 ↔ n = k := by
    unfold IntOp.cmpi
    by_cases e : n = k
    · subst e; simp
    · have : BitVec.ofNat 32 n ≠ BitVec.ofNat 32 k := fun h => e (by
        have := congrArg BitVec.toNat h
        rwa [BitVec.toNat_ofNat, BitVec.toNat_ofNat, Nat.mod_eq_of_lt hn, Nat.mod_eq_of_lt hk] at this)
      have hb : (BitVec.ofNat 32 n == BitVec.ofNat 32 k) = false := beq_false_of_ne this
      simp only [hb, e, iff_false]
      decide
  simp only [h]

/-- The eight rows above the block, zeros above the first block (point 7 of a column block). -/
theorem pay6_apply (r : Fin 8) (q : Fin 2816) : k0_pay6 (F := Ideal) i x1 (ix2 r q) = if (i 1).val < 7 then x1 (ix2 r q) else 0 := by
  unfold k0_pay6
  pointwise
  generalize x1 (ix2 r q) = a
  have h : ∀ n : Fin 8, Scalar.cmpi CmpIPredicate.sgt (Scalar.subi (7#32) (BitVec.ofNat 32 n.val)) 0#32 = if n.val < 7 then 1#1 else 0#1 := by
    decide +kernel
  have h' := h (i 1)
  rw [show ∀ c : BitVec 1, Scalar.select c a 0 = if c = 1#1 then a else 0 from fun _ => rfl]
  rw [h']
  split <;> simp

/-- Two halves side by side. -/
theorem halves_apply (u v : FVec Ideal S256x1408 .f32) (r : Fin 256) (q : Fin 2816) :
    concatenate S256x2816 1 [⟨S256x1408, u⟩, ⟨S256x1408, v⟩] concatenates_S256x1408_S256x1408_S256x2816_d1 (ix2 r q)
      = if h : q.val < 1408 then u (ix2 r ⟨q.val, h⟩) else v (ix2 r ⟨q.val - 1408, by omega⟩) := by
  pointwise

theorem wr0_apply (x : Vec Ideal S3x2816 .f32) (q : Fin 2816) : wr0 x (ix2 0 q) = x (ix2 0 q) := by
  unfold wr0
  pointwise

theorem wr1_apply (x : Vec Ideal S3x2816 .f32) (q : Fin 2816) : wr1 x (ix2 0 q) = x (ix2 1 q) := by
  unfold wr1
  pointwise

theorem wr2_apply (x : Vec Ideal S3x2816 .f32) (q : Fin 2816) : wr2 x (ix2 0 q) = x (ix2 2 q) := by
  unfold wr2
  pointwise

variable (X : (⟨2, ![2048, 11264]⟩ : Shape).Idx → EReal) (D : (⟨2, ![2048, 5632]⟩ : Shape).Idx → EReal)
  (W : (⟨2, ![3, 11264]⟩ : Shape).Idx → EReal) (B : (⟨2, ![1, 11264]⟩ : Shape).Idx → EReal)
variable (x2 : Vec Ideal S256x1408 .f32) (x3 : Vec Ideal S3x2816 .f32) (x4 : Vec Ideal S1x2816 .f32) (R p : Nat)

/-- The blocks of the point that handles rows `R … R + 255` of column group `p`, as entries of the arguments. -/
structure Blk : Prop where
  hR : R + 256 ≤ 2048
  h0 : ∀ (r : Fin 256) (q : Fin 2816), x0 (ix2 r q) = hp X (R + r.val + 2) (2816 * p + q.val)
  h6 : ∀ q : Fin 2816, k0_pay6 (F := Ideal) i x1 (ix2 6 q) = hp X R (2816 * p + q.val)
  h7 : ∀ q : Fin 2816, k0_pay6 (F := Ideal) i x1 (ix2 7 q) = hp X (R + 1) (2816 * p + q.val)
  h2 : ∀ (r : Fin 256) (q : Fin 1408), x2 (ix2 r q) = ext D (R + r.val) (1408 * p + q.val)
  h3 : ∀ (k : Fin 3) (q : Fin 2816), x3 (ix2 k q) = ext W k.val (2816 * p + q.val)
  h4 : ∀ q : Fin 2816, x4 (ix2 0 q) = ext B 0 (2816 * p + q.val)

variable {i x0 x1 X D W B x2 x3 x4 R p} (H : Blk i x0 x1 X D W B x2 x3 x4 R p)
include H

/-- The block moved down by one row. -/
theorem pay7_apply (r : Fin 256) (q : Fin 2816) : k0_pay7 (F := Ideal) i x0 x1 (ix2 r q) = hp X (R + r.val + 1) (2816 * p + q.val) := by
  unfold k0_pay7
  pointwise
  rw [select_eq r.val 0 (by omega) (by omega), H.h7, H.h0]
  split <;> congr 1 <;> first | omega | (dsimp only; omega)

/-- The block moved down by two rows. -/
theorem pay8_apply (r : Fin 256) (q : Fin 2816) : k0_pay8 (F := Ideal) i x0 x1 (ix2 r q) = hp X (R + r.val) (2816 * p + q.val) := by
  unfold k0_pay8
  pointwise
  rw [select_eq r.val 1 (by omega) (by omega), select_eq r.val 0 (by omega) (by omega), H.h7, H.h6, H.h0]
  split
  · congr 1; omega
  · split <;> congr 1 <;> first | omega | (dsimp only; omega)

theorem wr_apply (q : Fin 2816) : wr0 x3 (ix2 0 q) = ext W 0 (2816 * p + q.val) ∧ wr1 x3 (ix2 0 q) = ext W 1 (2816 * p + q.val)
    ∧ wr2 x3 (ix2 0 q) = ext W 2 (2816 * p + q.val) := by
  rw [wr0_apply, wr1_apply, wr2_apply]
  exact ⟨H.h3 0 q, H.h3 1 q, H.h3 2 q⟩

/-- The bias and the first tap. -/
theorem pay9_apply (r : Fin 256) (q : Fin 2816) : k0_pay9 (F := Ideal) i x0 x1 x4 (wr0 x3) (ix2 r q) =
    ext B 0 (2816 * p + q.val) + ext W 0 (2816 * p + q.val) * hp X (R + r.val) (2816 * p + q.val) := by
  unfold k0_pay9
  pointwise
  rw [pay8_apply H, (wr_apply H q).1, H.h4]

/-- The gradient at the convolution's result over the block. -/
theorem dupB_apply (r : Fin 256) (q : Fin 2816) : dupB (F := Ideal) i x0 x1 x2 x3 x4 (ix2 r q) = dup X D W B p (R + r.val) q.val := by
  have hR := H.hR
  unfold dupB k0_pay10
  rw [halves_apply, dup, if_pos (by omega)]
  split
  · rename_i h
    pointwise
    simp only [pay7_apply H, pay9_apply H, wr_apply H, H.h0, H.h2, gateGrad, pre]
  · rename_i h
    pointwise
    simp only [pay7_apply H, pay9_apply H, wr_apply H, H.h0, H.h2, valueGrad, pre]

/-- The rows a point hands on: the first rows of its gradient. -/
theorem pay2_apply (r : Fin 8) (q : Fin 2816) : k0_pay2 (dupB (F := Ideal) i x0 x1 x2 x3 x4) (ix2 r q) = dup X D W B p (R + r.val) q.val := by
  unfold k0_pay2
  pointwise
  rw [dupB_apply H]

/-- The gradient at the operand over the block, the first two rows below it being `xs0`'s. -/
theorem dxB_apply (xs0 : Vec Ideal S8x2816 .f32) (hs0 : ∀ q : Fin 2816, xs0 (ix2 0 q) = dup X D W B p (R + 256) q.val)
    (hs1 : ∀ q : Fin 2816, xs0 (ix2 1 q) = dup X D W B p (R + 257) q.val) (r : Fin 256) (q : Fin 2816) :
    dxB (F := Ideal) i x0 x1 x2 x3 x4 xs0 (ix2 r q) = dx X D W B p (R + r.val) q.val := by
  have hd : k0_pay10 x0 (k0_pay7 i x0 x1) (k0_pay9 i x0 x1 x4 (wr0 x3)) (wr1 x3) (wr2 x3) x2 = dupB (F := Ideal) i x0 x1 x2 x3 x4 := rfl
  unfold dxB k0_pay14 k0_pay11 k0_pay12 k0_pay13
  rw [hd]
  pointwise
  simp only [wr_apply H, hs0, hs1, dupB_apply H]
  rw [select_eq r.val 255 (by omega) (by omega), select_eq r.val 255 (by omega) (by omega), select_eq r.val 254 (by omega) (by omega)]
  have e1 : (if r.val = 255 then dup X D W B p (R + 256) q.val else dup X D W B p (R + (r.val + 256 - 255) % 256) q.val)
      = dup X D W B p (R + r.val + 1) q.val := by
    split <;> congr 1 <;> omega
  have e2 : (if r.val = 255 then dup X D W B p (R + 257) q.val
      else if r.val = 254 then dup X D W B p (R + 256) q.val else dup X D W B p (R + (r.val + 256 - 254) % 256) q.val)
      = dup X D W B p (R + r.val + 2) q.val := by
    split
    · congr 1; omega
    · split <;> congr 1 <;> omega
  unfold dx
  rw [← e1, ← e2]

/-- One block's contribution to the bias gradient. -/
theorem pay1_apply (o : Vec Ideal S1x2816 .f32) (q : Fin 2816) : k0_pay1 (dupB (F := Ideal) i x0 x1 x2 x3 x4) o (ix2 0 q) =
    o (ix2 0 q) + ∑ r ∈ Finset.range 256, dup X D W B p (R + r) q.val := by
  unfold k0_pay1
  pointwise
  rw [Finset.sum_range]
  simp only [dupB_apply H]

/-- One block's contribution to filter row 0's gradient. -/
theorem pay15_apply (o : Vec Ideal S1x2816 .f32) (q : Fin 2816) : k0_pay15 (k0_pay8 i x0 x1) (dupB (F := Ideal) i x0 x1 x2 x3 x4) o (ix2 0 q) =
    o (ix2 0 q) + ∑ r ∈ Finset.range 256, dup X D W B p (R + r) q.val * hp X (R + r) (2816 * p + q.val) := by
  unfold k0_pay15
  pointwise
  rw [Finset.sum_range]
  simp only [dupB_apply H, pay8_apply H]

/-- One block's contribution to filter row 1's gradient. -/
theorem pay16_apply (o : Vec Ideal S1x2816 .f32) (q : Fin 2816) : k0_pay16 (k0_pay7 i x0 x1) (dupB (F := Ideal) i x0 x1 x2 x3 x4) o (ix2 0 q) =
    o (ix2 0 q) + ∑ r ∈ Finset.range 256, dup X D W B p (R + r) q.val * hp X (R + r + 1) (2816 * p + q.val) := by
  unfold k0_pay16
  pointwise
  rw [Finset.sum_range]
  simp only [dupB_apply H, pay7_apply H]

/-- One block's contribution to filter row 2's gradient. -/
theorem pay17_apply (o : Vec Ideal S1x2816 .f32) (q : Fin 2816) : k0_pay17 x0 (dupB (F := Ideal) i x0 x1 x2 x3 x4) o (ix2 0 q) =
    o (ix2 0 q) + ∑ r ∈ Finset.range 256, dup X D W B p (R + r) q.val * hp X (R + r + 2) (2816 * p + q.val) := by
  unfold k0_pay17
  pointwise
  rw [Finset.sum_range]
  simp only [dupB_apply H, H.h0]

end Cert.KernelIdeal.Conv
-- ==== Proof.Arrays.lean ====
module

public import proofs.«01_k».proof.Proof.BlockValue

@[expose] public section

set_option maxRecDepth 16384

noncomputable section

namespace Cert.KernelIdeal.Conv

open Cert.KernelIdeal Cert.KernelIdeal.Gen Idealize.ShloMosaic Idealize.ShloMosaic.TcCoe Idealize.ShloMosaic.Tactic Idealize.SL.Sem
open Cert.Conv
open Idealize.ShloMosaic.Pipeline (Dat)

variable (m : (ℓ : Loc nD τ sig) → Buf (Elt Ideal) ℓ) (c : Dev nD)

/-! The four arguments as matrices. -/

abbrev argX : (⟨2, ![2048, 11264]⟩ : Shape).Idx → EReal := m (c.tc.loc main_arg0)
abbrev argD : (⟨2, ![2048, 5632]⟩ : Shape).Idx → EReal := m (c.tc.loc main_arg1)
abbrev argW : (⟨2, ![3, 11264]⟩ : Shape).Idx → EReal := m (c.tc.loc main_arg2)
abbrev argB : (⟨2, ![1, 11264]⟩ : Shape).Idx → EReal := m (c.tc.loc main_arg3)

/-- Point `8 p + j` works on column group `p` and on row block `7 − j`. -/
theorem idx_eq : ∀ t : Fin grid0.N, ((grid0.coords t) 1).val = t.val % 8
    ∧ (win0_0.index t 0 = 7 - t.val % 8 ∧ win0_0.index t 1 = t.val / 8)
    ∧ (win0_1.index t 0 = 32 * (7 - t.val % 8) - 1 ∧ win0_1.index t 1 = t.val / 8)
    ∧ (win0_2.index t 0 = 7 - t.val % 8 ∧ win0_2.index t 1 = t.val / 8)
    ∧ (win0_3.index t 0 = 0 ∧ win0_3.index t 1 = t.val / 8)
    ∧ (win0_4.index t 0 = 0 ∧ win0_4.index t 1 = t.val / 8)
    ∧ (win0_5.index t 0 = 7 - t.val % 8 ∧ win0_5.index t 1 = t.val / 8)
    ∧ (win0_6.index t 0 = 0 ∧ win0_6.index t 1 = t.val / 8)
    ∧ (win0_7.index t 0 = 0 ∧ win0_7.index t 1 = t.val / 8) := by
  decide +kernel

theorem t_lt (t : Fin cfg0.N) : t.val < 32 := lt_of_lt_of_eq t.isLt N_0

theorem iblk0 (t : Fin cfg0.N) (r : Fin 256) (q : Fin 2816) :
    (iblk m c 0 t : Vec Ideal S256x2816 .f32) (ix2 r q) = ext (argX m c) (256 * (7 - t.val % 8) + r.val) (2816 * (t.val / 8) + q.val) := by
  have ht := t_lt t
  have e := (idx_eq t).2.1
  rw [ext_of_lt _ _ _ (by omega) (by omega)]
  unfold iblk
  rw [View.read_apply]
  show V m c main_arg0 _ = m (c.tc.loc main_arg0) _
  unfold V
  congr 1
  funext a
  apply Fin.ext
  match a with
  | 0 => show win0_0.index t 0 * 256 + 1 * r.val = 256 * (7 - t.val % 8) + r.val; omega
  | 1 => show win0_0.index t 1 * 2816 + 1 * q.val = 2816 * (t.val / 8) + q.val; omega

theorem iblk1 (t : Fin cfg0.N) (r : Fin 8) (q : Fin 2816) :
    (iblk m c 1 t : Vec Ideal S8x2816 .f32) (ix2 r q) = ext (argX m c) (8 * (32 * (7 - t.val % 8) - 1) + r.val) (2816 * (t.val / 8) + q.val) := by
  have ht := t_lt t
  have e := (idx_eq t).2.2.1
  rw [ext_of_lt _ _ _ (by omega) (by omega)]
  unfold iblk
  rw [View.read_apply]
  show V m c main_arg0 _ = m (c.tc.loc main_arg0) _
  unfold V
  congr 1
  funext a
  apply Fin.ext
  match a with
  | 0 => show win0_1.index t 0 * 8 + 1 * r.val = 8 * (32 * (7 - t.val % 8) - 1) + r.val; omega
  | 1 => show win0_1.index t 1 * 2816 + 1 * q.val = 2816 * (t.val / 8) + q.val; omega

theorem iblk2 (t : Fin cfg0.N) (r : Fin 256) (q : Fin 1408) :
    (iblk m c 2 t : Vec Ideal S256x1408 .f32) (ix2 r q) = ext (argD m c) (256 * (7 - t.val % 8) + r.val) (1408 * (t.val / 8) + q.val) := by
  have ht := t_lt t
  have e := (idx_eq t).2.2.2.1
  rw [ext_of_lt _ _ _ (by omega) (by omega)]
  unfold iblk
  rw [View.read_apply]
  show V m c main_arg1 _ = m (c.tc.loc main_arg1) _
  unfold V
  congr 1
  funext a
  apply Fin.ext
  match a with
  | 0 => show win0_2.index t 0 * 256 + 1 * r.val = 256 * (7 - t.val % 8) + r.val; omega
  | 1 => show win0_2.index t 1 * 1408 + 1 * q.val = 1408 * (t.val / 8) + q.val; omega

theorem iblk3 (t : Fin cfg0.N) (k : Fin 3) (q : Fin 2816) :
    (iblk m c 3 t : Vec Ideal S3x2816 .f32) (ix2 k q) = ext (argW m c) k.val (2816 * (t.val / 8) + q.val) := by
  have ht := t_lt t
  have e := (idx_eq t).2.2.2.2.1
  rw [ext_of_lt _ _ _ (by omega) (by omega)]
  unfold iblk
  rw [View.read_apply]
  show V m c main_arg2 _ = m (c.tc.loc main_arg2) _
  unfold V
  congr 1
  funext a
  apply Fin.ext
  match a with
  | 0 => show win0_3.index t 0 * 3 + 1 * k.val = k.val; omega
  | 1 => show win0_3.index t 1 * 2816 + 1 * q.val = 2816 * (t.val / 8) + q.val; omega

theorem iblk4 (t : Fin cfg0.N) (q : Fin 2816) :
    (iblk m c 4 t : Vec Ideal S1x2816 .f32) (ix2 0 q) = ext (argB m c) 0 (2816 * (t.val / 8) + q.val) := by
  have ht := t_lt t
  have e := (idx_eq t).2.2.2.2.2.1
  rw [ext_of_lt _ _ _ (by omega) (by omega)]
  unfold iblk
  rw [View.read_apply]
  show V m c main_arg3 _ = m (c.tc.loc main_arg3) _
  unfold V
  congr 1
  funext a
  apply Fin.ext
  match a with
  | 0 => show win0_4.index t 0 * 1 + 1 * 0 = 0; omega
  | 1 => show win0_4.index t 1 * 2816 + 1 * q.val = 2816 * (t.val / 8) + q.val; omega

/-- Each point's blocks are the rows and columns of the arguments it works on. -/
theorem blk (t : Fin cfg0.N) : Blk (grid0.coords t) (iblk m c 0 t) (iblk m c 1 t) (argX m c) (argD m c) (argW m c) (argB m c)
    (iblk m c 2 t) (iblk m c 3 t) (iblk m c 4 t) (256 * (7 - t.val % 8)) (t.val / 8) where
  hR := by omega
  h0 r q := by
    rw [iblk0, hp, if_neg (by omega)]
    rfl
  h6 q := by
    rw [pay6_apply, (idx_eq t).1, iblk1]
    unfold hp
    split
    · rw [if_neg (by omega)]; congr 1; show 8 * _ + 6 = _; omega
    · rw [if_pos (by omega)]
  h7 q := by
    rw [pay6_apply, (idx_eq t).1, iblk1]
    unfold hp
    split
    · rw [if_neg (by omega)]; congr 1; show 8 * _ + 7 = _; omega
    · rw [if_pos (by omega)]
  h2 r q := iblk2 m c t r q
  h3 k q := iblk3 m c t k q
  h4 q := iblk4 m c t q

/-- What point `n` leaves: the filter and bias gradients summed over the row blocks so far, and the first rows of its gradient. -/
structure After (n : Nat) (o6 : Vec Ideal S3x2816 .f32) (o7 : Vec Ideal S1x2816 .f32) (s0 : Vec Ideal S8x2816 .f32) : Prop where
  a6 : ∀ (k : Fin 3) (q : Fin 2816), o6 (ix2 k q) = ∑ j ∈ Finset.range (n % 8 + 1), ∑ r ∈ Finset.range 256,
    dup (argX m c) (argD m c) (argW m c) (argB m c) (n / 8) (256 * (7 - j) + r) q.val * hp (argX m c) (256 * (7 - j) + r + k.val) (2816 * (n / 8) + q.val)
  a7 : ∀ q : Fin 2816, o7 (ix2 0 q) = ∑ j ∈ Finset.range (n % 8 + 1), ∑ r ∈ Finset.range 256,
    dup (argX m c) (argD m c) (argW m c) (argB m c) (n / 8) (256 * (7 - j) + r) q.val
  a0 : ∀ (r : Fin 8) (q : Fin 2816), s0 (ix2 r q) = dup (argX m c) (argD m c) (argW m c) (argB m c) (n / 8) (256 * (7 - n % 8) + r.val) q.val

theorem pay3_apply (j : S8x2816.Idx) : k0_pay3 (F := Ideal) j = 0 := by unfold k0_pay3; pointwise
theorem pay4_apply (j : S3x2816.Idx) : k0_pay4 (F := Ideal) j = 0 := by unfold k0_pay4; pointwise
theorem pay5_apply (j : S1x2816.Idx) : k0_pay5 (F := Ideal) j = 0 := by unfold k0_pay5; pointwise

theorem rows3_apply (p0 p1 p2 : Vec Ideal S1x2816 .f32) (q : Fin 2816) : rows3 p0 p1 p2 (ix2 0 q) = p0 (ix2 0 q)
    ∧ rows3 p0 p1 p2 (ix2 1 q) = p1 (ix2 0 q) ∧ rows3 p0 p1 p2 (ix2 2 q) = p2 (ix2 0 q) := ⟨rfl, rfl, rfl⟩

/-- Every point leaves the sums so far, by induction along its column group. -/
theorem after_eq (n : Nat) : ∀ h : n < cfg0.N, After m c n (outsAt0 m c n h).2.1 (outsAt0 m c n h).2.2.1 (outsAt0 m c n h).2.2.2 := by
  induction n using Nat.strong_induction_on with
  | _ n ih =>
    intro h
    have H := blk m c ⟨n, h⟩
    by_cases h0 : n % 8 = 0
    · rw [outsAt0_A m c ⟨n, h⟩ h0]
      dsimp only
      rw [out6_A, out7_A, out0_A]
      refine ⟨fun k q => ?_, fun q => ?_, fun r q => pay2_apply H r q⟩
      · rw [h0, Finset.sum_range_one]
        match k with
        | 0 => rw [(rows3_apply _ _ _ q).1, pay15_apply H, wr0_apply, pay4_apply, zero_add, h0]; rfl
        | 1 => rw [(rows3_apply _ _ _ q).2.1, pay16_apply H, wr1_apply, pay4_apply, zero_add, h0]; rfl
        | 2 => rw [(rows3_apply _ _ _ q).2.2, pay17_apply H, wr2_apply, pay4_apply, zero_add, h0]; rfl
      · rw [h0, Finset.sum_range_one, pay1_apply H, pay5_apply, zero_add, h0]
    · rw [outsAt0_B m c ⟨n, h⟩ h0]
      dsimp only
      rw [out6_B, out7_B, out0_B]
      have I := ih (n - 1) (by omega) (by omega)
      have e1 : (n - 1) % 8 + 1 = n % 8 := by omega
      have e2 : (n - 1) / 8 = n / 8 := by omega
      refine ⟨fun k q => ?_, fun q => ?_, fun r q => pay2_apply H r q⟩
      · have I6 := I.a6 k q
        rw [e1, e2] at I6
        rw [Finset.sum_range_succ, ← I6]
        match k with
        | 0 => rw [(rows3_apply _ _ _ q).1, pay15_apply H, wr0_apply]; rfl
        | 1 => rw [(rows3_apply _ _ _ q).2.1, pay16_apply H, wr1_apply]; rfl
        | 2 => rw [(rows3_apply _ _ _ q).2.2, pay17_apply H, wr2_apply]; rfl
      · have I7 := I.a7 q
        rw [e1, e2] at I7
        rw [Finset.sum_range_succ, ← I7, pay1_apply H]

/-- Every point leaves its block of the operand's gradient. -/
theorem dx_eq (t : Fin cfg0.N) (r : Fin 256) (q : Fin 2816) : ((outsAt0 m c t.val t.isLt).1 : Vec Ideal S256x2816 .bf16) (ix2 r q)
    = dx (argX m c) (argD m c) (argW m c) (argB m c) (t.val / 8) (256 * (7 - t.val % 8) + r.val) q.val := by
  have H := blk m c t
  by_cases h0 : t.val % 8 = 0
  · rw [outsAt0_A m c t h0]
    dsimp only
    rw [out5_A]
    refine dxB_apply H _ (fun q => ?_) (fun q => ?_) r q
    · rw [pay3_apply, dup, if_neg (by omega)]
    · rw [pay3_apply, dup, if_neg (by omega)]
  · rw [outsAt0_B m c t h0]
    dsimp only
    rw [out5_B]
    have I := (after_eq m c (t.val - 1) (by omega)).a0
    rw [show (t.val - 1) / 8 = t.val / 8 by omega, show 7 - (t.val - 1) % 8 = 7 - t.val % 8 + 1 by omega, Nat.mul_succ] at I
    exact dxB_apply H _ (fun q => I 0 q) (fun q => I 1 q) r q

end Cert.KernelIdeal.Conv
-- ==== Proof.Final.lean ====
module

public import proofs.«01_k».proof.Proof.Arrays

@[expose] public section

set_option maxRecDepth 16384

noncomputable section

namespace Cert.KernelIdeal.Conv

open Cert.KernelIdeal Cert.KernelIdeal.Gen Cert.KernelIdeal.Value Idealize.ShloMosaic Idealize.ShloMosaic.TcCoe Idealize.ShloMosaic.Tactic Idealize.SL.Sem
open Cert.Conv
open Idealize.ShloMosaic.Pipeline (Dat)

variable (m : (ℓ : Loc nD τ sig) → Buf (Elt Ideal) ℓ) (c : Dev nD)

/-! What the three result arrays end holding. -/

abbrev resDx : Buf (Elt Ideal) ((c : Thread nD τ).loc main_v0_0) := fun i : S2048x11264.Idx =>
  dx (argX m c) (argD m c) (argW m c) (argB m c) ((i 1).val / 2816) (i 0).val ((i 1).val % 2816)
abbrev resDw : Buf (Elt Ideal) ((c : Thread nD τ).loc main_v0_1) := fun i : S3x11264.Idx =>
  dw (argX m c) (argD m c) (argW m c) (argB m c) (i 0).val ((i 1).val / 2816) ((i 1).val % 2816)
abbrev resDb : Buf (Elt Ideal) ((c : Thread nD τ).loc main_v0_2) := fun i : S1x11264.Idx =>
  db (argX m c) (argD m c) (argW m c) (argB m c) ((i 1).val / 2816) ((i 1).val % 2816)

theorem flushed_dx (t : Fin cfg0.N) : (dats m 0 c).flushed 5 t = ((cfg0.win 5).blk t).view.read (Elt Ideal) (resDx m c) := by
  rw [flushed5]
  funext j
  rw [View.read_apply]
  have e := (idx_eq t).2.2.2.2.2.2.1
  have h0 : (j 0).val < 256 := (j 0).isLt
  have h1 : (j 1).val < 2816 := (j 1).isLt
  have k0 : ((((cfg0.win 5).blk t).view.emb j : S2048x11264.Idx) 0).val = 256 * (7 - t.val % 8) + (j 0).val := by
    show win0_5.index t 0 * 256 + 1 * (j 0).val = _; omega
  have k1 : ((((cfg0.win 5).blk t).view.emb j : S2048x11264.Idx) 1).val = 2816 * (t.val / 8) + (j 1).val := by
    show win0_5.index t 1 * 2816 + 1 * (j 1).val = _; omega
  refine Eq.trans ?_ ((dx_eq m c t ⟨(j 0).val, h0⟩ ⟨(j 1).val, h1⟩).trans ?_)
  · exact congrArg (outsAt0 m c t.val t.isLt).1 (funext fun a => match a with | 0 => rfl | 1 => rfl)
  · show _ = dx _ _ _ _ (_ / 2816) _ (_ % 2816)
    rw [k0, k1, Nat.mul_add_div (by omega), Nat.mul_add_mod, Nat.div_eq_of_lt h1, Nat.mod_eq_of_lt h1, Nat.add_zero]

theorem cover_dx (i : S2048x11264.Idx) : ∃ t : Fin cfg0.N, (cfg0.win 5).flush t = true ∧ i ∈ ((cfg0.win 5).blk t).view.set := by
  have h0 : (i 0).val < 2048 := (i 0).isLt
  have h1 : (i 1).val < 11264 := (i 1).isLt
  have ht : 8 * ((i 1).val / 2816) + (7 - (i 0).val / 256) < cfg0.N := by rw [show cfg0.N = 32 from N_0]; omega
  refine ⟨⟨8 * ((i 1).val / 2816) + (7 - (i 0).val / 256), ht⟩, flush0_5 _, ?_⟩
  have e := (idx_eq ⟨8 * ((i 1).val / 2816) + (7 - (i 0).val / 256), ht⟩).2.2.2.2.2.2.1
  generalize ht' : (⟨8 * ((i 1).val / 2816) + (7 - (i 0).val / 256), ht⟩ : Fin cfg0.N) = t at e ⊢
  have hv : t.val = 8 * ((i 1).val / 2816) + (7 - (i 0).val / 256) := by rw [← ht']
  show i ∈ ((View.whole main_v0_0).slice (win0_5.rect t)).set
  rw [View.set_slice_whole, Rect.mem_set_unit]
  intro a
  match a with
  | 0 => show win0_5.index t 0 * 256 ≤ (i 0).val ∧ (i 0).val < win0_5.index t 0 * 256 + 256; omega
  | 1 => show win0_5.index t 1 * 2816 ≤ (i 1).val ∧ (i 1).val < win0_5.index t 1 * 2816 + 2816; omega

/-- The operand gradient's array. -/
theorem final_dx : (dats m 0 c).arrAt 5 cfg0.N = resDx m c :=
  (dats m 0 c).arrAt_eq_of_cover 5 (resDx m c) (fun t _ => flushed_dx m c t) (cover_dx)

theorem flushed_dw (t : Fin cfg0.N) (hf : t.val % 8 = 7) : (dats m 0 c).flushed 6 t = ((cfg0.win 6).blk t).view.read (Elt Ideal) (resDw m c) := by
  rw [flushed6]
  funext j
  rw [View.read_apply]
  have e := (idx_eq t).2.2.2.2.2.2.2.1
  have h0 : (j 0).val < 3 := (j 0).isLt
  have h1 : (j 1).val < 2816 := (j 1).isLt
  have k0 : ((((cfg0.win 6).blk t).view.emb j : S3x11264.Idx) 0).val = (j 0).val := by
    show win0_6.index t 0 * 3 + 1 * (j 0).val = _; omega
  have k1 : ((((cfg0.win 6).blk t).view.emb j : S3x11264.Idx) 1).val = 2816 * (t.val / 8) + (j 1).val := by
    show win0_6.index t 1 * 2816 + 1 * (j 1).val = _; omega
  refine Eq.trans (b := (outsAt0 m c t.val t.isLt).2.1 (ix2 ⟨(j 0).val, h0⟩ ⟨(j 1).val, h1⟩)) ?_ ?_
  · exact congrArg (outsAt0 m c t.val t.isLt).2.1 (funext fun a => match a with | 0 => rfl | 1 => rfl)
  · have A := (after_eq m c t.val t.isLt).a6 ⟨(j 0).val, h0⟩ ⟨(j 1).val, h1⟩
    rw [hf, show 7 + 1 = 8 from rfl, sum_blocks_reflect (fun s => dup _ _ _ _ (t.val / 8) s (j 1).val * hp _ (s + (j 0).val) (2816 * (t.val / 8) + (j 1).val))] at A
    refine A.trans ?_
    show _ = dw _ _ _ _ _ (_ / 2816) (_ % 2816)
    rw [k0, k1, Nat.mul_add_div (by omega), Nat.mul_add_mod, Nat.div_eq_of_lt h1, Nat.mod_eq_of_lt h1, Nat.add_zero]
    rfl

theorem cover_dw (i : S3x11264.Idx) : ∃ t : Fin cfg0.N, (cfg0.win 6).flush t = true ∧ i ∈ ((cfg0.win 6).blk t).view.set := by
  have h0 : (i 0).val < 3 := (i 0).isLt
  have h1 : (i 1).val < 11264 := (i 1).isLt
  have ht : 8 * ((i 1).val / 2816) + 7 < cfg0.N := by rw [show cfg0.N = 32 from N_0]; omega
  generalize ht' : (⟨8 * ((i 1).val / 2816) + 7, ht⟩ : Fin cfg0.N) = t
  have hv : t.val = 8 * ((i 1).val / 2816) + 7 := by rw [← ht']
  have e := (idx_eq t).2.2.2.2.2.2.2.1
  refine ⟨t, (flush0_6 t).mpr (by omega), ?_⟩
  show i ∈ ((View.whole main_v0_1).slice (win0_6.rect t)).set
  rw [View.set_slice_whole, Rect.mem_set_unit]
  intro a
  match a with
  | 0 => show win0_6.index t 0 * 3 ≤ (i 0).val ∧ (i 0).val < win0_6.index t 0 * 3 + 3; omega
  | 1 => show win0_6.index t 1 * 2816 ≤ (i 1).val ∧ (i 1).val < win0_6.index t 1 * 2816 + 2816; omega

/-- The filter gradient's array. -/
theorem final_dw : (dats m 0 c).arrAt 6 cfg0.N = resDw m c :=
  (dats m 0 c).arrAt_eq_of_cover 6 (resDw m c) (fun t hf => flushed_dw m c t ((flush0_6 t).mp hf)) cover_dw

theorem flushed_db (t : Fin cfg0.N) (hf : t.val % 8 = 7) : (dats m 0 c).flushed 7 t = ((cfg0.win 7).blk t).view.read (Elt Ideal) (resDb m c) := by
  rw [flushed7]
  funext j
  rw [View.read_apply]
  have e := (idx_eq t).2.2.2.2.2.2.2.2
  have h0 : (j 0).val < 1 := (j 0).isLt
  have h1 : (j 1).val < 2816 := (j 1).isLt
  have k0 : ((((cfg0.win 7).blk t).view.emb j : S1x11264.Idx) 0).val = (j 0).val := by
    show win0_7.index t 0 * 1 + 1 * (j 0).val = _; omega
  have k1 : ((((cfg0.win 7).blk t).view.emb j : S1x11264.Idx) 1).val = 2816 * (t.val / 8) + (j 1).val := by
    show win0_7.index t 1 * 2816 + 1 * (j 1).val = _; omega
  refine Eq.trans (b := (outsAt0 m c t.val t.isLt).2.2.1 (ix2 ⟨(j 0).val, h0⟩ ⟨(j 1).val, h1⟩)) ?_ ?_
  · exact congrArg (outsAt0 m c t.val t.isLt).2.2.1 (funext fun a => match a with | 0 => rfl | 1 => rfl)
  · have A := (after_eq m c t.val t.isLt).a7 ⟨(j 1).val, h1⟩
    rw [show (⟨(j 0).val, h0⟩ : Fin 1) = 0 from Subsingleton.elim _ _]
    rw [hf, show 7 + 1 = 8 from rfl, sum_blocks_reflect (fun s => dup _ _ _ _ (t.val / 8) s (j 1).val)] at A
    refine A.trans ?_
    show _ = db _ _ _ _ (_ / 2816) (_ % 2816)
    rw [k1, Nat.mul_add_div (by omega), Nat.mul_add_mod, Nat.div_eq_of_lt h1, Nat.mod_eq_of_lt h1, Nat.add_zero]
    rfl

theorem cover_db (i : S1x11264.Idx) : ∃ t : Fin cfg0.N, (cfg0.win 7).flush t = true ∧ i ∈ ((cfg0.win 7).blk t).view.set := by
  have h0 : (i 0).val < 1 := (i 0).isLt
  have h1 : (i 1).val < 11264 := (i 1).isLt
  have ht : 8 * ((i 1).val / 2816) + 7 < cfg0.N := by rw [show cfg0.N = 32 from N_0]; omega
  generalize ht' : (⟨8 * ((i 1).val / 2816) + 7, ht⟩ : Fin cfg0.N) = t
  have hv : t.val = 8 * ((i 1).val / 2816) + 7 := by rw [← ht']
  have e := (idx_eq t).2.2.2.2.2.2.2.2
  refine ⟨t, (flush0_7 t).mpr (by omega), ?_⟩
  show i ∈ ((View.whole main_v0_2).slice (win0_7.rect t)).set
  rw [View.set_slice_whole, Rect.mem_set_unit]
  intro a
  match a with
  | 0 => show win0_7.index t 0 * 1 ≤ (i 0).val ∧ (i 0).val < win0_7.index t 0 * 1 + 1; omega
  | 1 => show win0_7.index t 1 * 2816 ≤ (i 1).val ∧ (i 1).val < win0_7.index t 1 * 2816 + 2816; omega

/-- The bias gradient's array. -/
theorem final_db : (dats m 0 c).arrAt 7 cfg0.N = resDb m c :=
  (dats m 0 c).arrAt_eq_of_cover 7 (resDb m c) (fun t hf => flushed_db m c t ((flush0_7 t).mp hf)) cover_db

end Cert.KernelIdeal.Conv
-- ==== Proof.RefValue.lean ====
module

public import proofs.«01_k».proof.Proof.Spec
public import proofs.«01_k».proof.Proof.Gen.ReferenceIdeal.Read
public import Idealize.ShloMosaic.Lib.Pointwise
public import Idealize.ShloMosaic.Lib.IdealHost

@[expose] public section

set_option maxRecDepth 16384

noncomputable section

namespace Cert.ReferenceIdeal.Conv

open Cert.ReferenceIdeal Cert.ReferenceIdeal.Read Idealize.ShloMosaic Idealize.ShloMosaic.Tactic Idealize.SL.Sem
open Cert.Conv

variable (X : (⟨2, ![2048, 11264]⟩ : Shape).Idx → EReal) (D : (⟨2, ![2048, 5632]⟩ : Shape).Idx → EReal)
  (W : (⟨2, ![3, 11264]⟩ : Shape).Idx → EReal) (B : (⟨2, ![1, 11264]⟩ : Shape).Idx → EReal)

/-- The operand under two rows of zeros. -/
theorem v3_apply (s : Fin 2050) (c : Fin 11264) : val_main_v3 (F := Ideal) X (ix3 0 s c) = hp X s.val c.val := by
  unfold val_main_v3 val_main_v2 val_main_v0 val_main_cst
  pointwise
  unfold hp
  split
  · rfl
  · rw [ext_of_lt _ _ _ (by omega) c.isLt]

/-- The convolution's result. -/
theorem v27_apply (t : Fin 2048) (c : Fin 11264) : val_main_v27 (F := Ideal) X W B (ix3 0 t c) = pre X W B t.val c.val := by
  unfold val_main_v27 val_main_v26 val_main_v25 val_main_v24 val_main_v23 val_main_v22 val_main_v21 val_main_v20 val_main_v19 val_main_v18
    val_main_v17 val_main_v16 val_main_v15 val_main_v14 val_main_v13 val_main_v12 val_main_v11 val_main_v10 val_main_v9 val_main_v8
    val_main_v7 val_main_v6 val_main_v5 val_main_v1
  pointwise
  rw [v3_apply, v3_apply, v3_apply]
  show W (ix2 0 c) * hp X t.val c.val + W (ix2 1 c) * hp X (1 + t.val) c.val + W (ix2 2 c) * hp X (2 + t.val) c.val + B (ix2 0 c)
    = ((ext B (0 : Fin 1).val c.val + ext W (0 : Fin 3).val c.val * hp X t.val c.val) + ext W (1 : Fin 3).val c.val * hp X (t.val + 1) c.val)
      + ext W (2 : Fin 3).val c.val * hp X (t.val + 2) c.val
  rw [ext_apply, ext_apply, ext_apply, ext_apply, Nat.add_comm 1 t.val, Nat.add_comm 2 t.val, add_comm, ← add_assoc, ← add_assoc]

/-- The gates, column `1408 p + q` from column `q` of group `p`. -/
theorem v31_apply (t : Fin 2048) (u : Fin 5632) : val_main_v31 (F := Ideal) X W B (ix3 0 t u) = pre X W B t.val (2816 * (u.val / 1408) + u.val % 1408) := by
  unfold val_main_v31 val_main_v30 val_main_v29 val_main_v28
  pointwise
  rw [v27_apply, Nat.mul_comm 2816]

/-- The values the gates multiply, from the second half of each group. -/
theorem v34_apply (t : Fin 2048) (u : Fin 5632) : val_main_v34 (F := Ideal) X W B (ix3 0 t u) = pre X W B t.val (2816 * (u.val / 1408) + (1408 + u.val % 1408)) := by
  unfold val_main_v34 val_main_v33 val_main_v32 val_main_v28
  pointwise
  rw [v27_apply]
  congr 1
  dsimp only
  omega

/-- The gate's logistic function. -/
theorem v35_2_apply (t : Fin 2048) (u : Fin 5632) :
    val_main_v35_2 (F := Ideal) X W B (ix3 0 t u) = Ideal.logistic (pre X W B t.val (2816 * (u.val / 1408) + u.val % 1408)) := by
  unfold val_main_v35_2 val_main_call0_v4 val_main_call0_cst_0 val_main_call0_v3 val_main_call0_v2 val_main_call0_cst val_main_call0_v1 val_main_call0_v0
  pointwise
  rw [v31_apply]
  rfl

/-- The gradient at the values. -/
theorem v38_apply (t : Fin 2048) (u : Fin 5632) : val_main_v38 (F := Ideal) X D W B (ix3 0 t u)
    = valueGrad (pre X W B t.val (2816 * (u.val / 1408) + u.val % 1408)) (ext D t.val u.val) := by
  unfold val_main_v38 val_main_v35_0 val_main_v37
  pointwise
  rw [v31_apply, v35_2_apply, ext_apply]
  rfl

/-- The gradient at the gates. -/
theorem v40_apply (t : Fin 2048) (u : Fin 5632) : val_main_v40 (F := Ideal) X D W B (ix3 0 t u)
    = gateGrad (pre X W B t.val (2816 * (u.val / 1408) + u.val % 1408)) (pre X W B t.val (2816 * (u.val / 1408) + (1408 + u.val % 1408))) (ext D t.val u.val) := by
  unfold val_main_v40 val_main_call1_v2 val_main_call1_v1 val_main_call1_v0 val_main_v39 val_main_v37 val_main_v35_1 val_main_call0_v7 val_main_call0_v6 val_main_call0_cst_1
  pointwise
  rw [v31_apply, v34_apply, v35_2_apply, ext_apply]
  rfl

/-- The gradient at the convolution's result. -/
theorem v48_apply (t : Fin 2048) (c : Fin 11264) : val_main_v48 (F := Ideal) X D W B (ix3 0 t c) = dup X D W B (c.val / 2816) t.val (c.val % 2816) := by
  have hc := c.isLt
  unfold val_main_v48 val_main_v47 val_main_v46 val_main_v45 val_main_v44 val_main_v43 val_main_v42 val_main_v41 val_main_cst_1 val_main_cst_2
  pointwise
  rw [v38_apply, v40_apply]
  unfold dup
  rw [if_pos t.isLt]
  by_cases hq : c.val % 2816 < 1408
  · rw [if_pos hq, dif_neg (by omega), dif_pos (by omega), zero_add]
    congr 2 <;> dsimp only <;> omega
  · rw [if_neg hq, dif_pos (by omega), dif_neg (by omega), add_zero]
    congr 2 <;> dsimp only <;> omega

/-- A sum over two axes of extent one is the one element. -/
theorem sum_unit_axes (h : (⟨3, ![1, 1, 11264]⟩ : Shape).ReducesTo [0, 1] ⟨1, ![11264]⟩) (v : (⟨3, ![1, 1, 11264]⟩ : Shape).Idx → EReal)
    (z : EReal) (c : Fin 11264) : Ideal.hostReduceAdd h v z (ix1 c) = z + v (ix3 0 0 c) := by
  unfold Ideal.hostReduceAdd
  have hd : ∀ i : (⟨3, ![1, 1, 11264]⟩ : Shape).Idx, (h.drop i 0).val = (i 2).val := fun i => rfl
  congr 1
  refine (Finset.sum_eq_single (ix3 0 0 c) (fun i hi hn => absurd ?_ hn) (fun hn => absurd ?_ hn)).trans rfl
  · have e := hd i
    rw [(Finset.mem_filter.1 hi).2] at e
    funext a; apply Fin.ext
    match a with
    | ⟨0, _⟩ => exact Nat.lt_one_iff.1 (i 0).isLt
    | ⟨1, _⟩ => exact Nat.lt_one_iff.1 (i 1).isLt
    | ⟨2, _⟩ => exact e.symm
  · refine Finset.mem_filter.2 ⟨Finset.mem_univ _, funext fun a => Fin.ext ?_⟩
    match a with
    | ⟨0, _⟩ => exact hd _

/-- The sum over the rows, then over the two unit axes. -/
theorem rowSum_apply (Y : FVec Ideal S1x2048x11264 .f32) (h1 : S1x2048x11264.ReducesTo [1] S1x11264) (hu : 0 < S_.numel)
    (hs : S1x11264.ShapeCasts S1x1x11264) (h2 : S1x1x11264.ReducesTo [0, 1] S11264) (c : Fin 11264) :
    Host.reduceAdd (shapeCast S1x1x11264 (Host.reduceAdd Y (constant S_ FTy.f32 0#32) h1 hu) hs) (constant S_ FTy.f32 0#32) h2 hu (ix1 c)
      = ∑ t : Fin 2048, Y (ix3 0 t c) := by
  rw [ValueIdx.hostReduceAdd_apply, sum_unit_axes]
  pointwise

/-- The gradient at the bias. -/
theorem v85_apply (c : Fin 11264) : val_main_v85 (F := Ideal) X D W B (ix2 0 c) = db X D W B (c.val / 2816) (c.val % 2816) := by
  unfold val_main_v85
  rw [show ∀ Y : S11264.Idx → EReal, ∀ h, broadcastInDim S1x11264 ![1] h Y (ix2 0 c) = Y (ix1 c) from fun Y h => by pointwise]
  unfold val_main_v51 val_main_v50 val_main_v49
  refine (rowSum_apply (val_main_v48 (F := Ideal) X D W B) _ _ _ _ c).trans ?_
  simp only [v48_apply]
  unfold db
  rw [Finset.sum_range]

/-- The filter's gradient, one row each of the three. -/
theorem v57_apply (c : Fin 11264) : val_main_v57 (F := Ideal) X D W B (ix1 c) = dw X D W B 2 (c.val / 2816) (c.val % 2816) := by
  unfold val_main_v57 val_main_v56 val_main_v55
  refine (rowSum_apply (val_main_v54 (F := Ideal) X D W B) _ _ _ _ c).trans ?_
  unfold dw
  rw [Finset.sum_range, Nat.div_add_mod]
  refine Finset.sum_congr rfl fun t _ => ?_
  unfold val_main_v54 val_main_v20
  pointwise
  rw [v48_apply, v3_apply, Nat.add_comm t.val 2]

theorem v66_apply (c : Fin 11264) : val_main_v66 (F := Ideal) X D W B (ix1 c) = dw X D W B 1 (c.val / 2816) (c.val % 2816) := by
  unfold val_main_v66 val_main_v65 val_main_v64
  refine (rowSum_apply (val_main_v63 (F := Ideal) X D W B) _ _ _ _ c).trans ?_
  unfold dw
  rw [Finset.sum_range, Nat.div_add_mod]
  refine Finset.sum_congr rfl fun t _ => ?_
  unfold val_main_v63 val_main_v13
  pointwise
  rw [v48_apply, v3_apply, Nat.add_comm t.val 1]

theorem v77_apply (c : Fin 11264) : val_main_v77 (F := Ideal) X D W B (ix1 c) = dw X D W B 0 (c.val / 2816) (c.val % 2816) := by
  unfold val_main_v77 val_main_v76 val_main_v75
  refine (rowSum_apply (val_main_v74 (F := Ideal) X D W B) _ _ _ _ c).trans ?_
  unfold dw
  rw [Finset.sum_range, Nat.div_add_mod]
  refine Finset.sum_congr rfl fun t _ => ?_
  unfold val_main_v74 val_main_v7
  pointwise
  rw [v48_apply, v3_apply]

/-- A broadcast filter row. -/
theorem v21_apply (c : Fin 11264) : val_main_v21 (F := Ideal) W (ix3 0 0 c) = ext W 2 c.val := by
  unfold val_main_v21 val_main_v19 val_main_v18
  pointwise
  exact (ext_apply W 2 c).symm

theorem v14_apply (c : Fin 11264) : val_main_v14 (F := Ideal) W (ix3 0 0 c) = ext W 1 c.val := by
  unfold val_main_v14 val_main_v12 val_main_v11
  pointwise
  exact (ext_apply W 1 c).symm

theorem v8_apply (c : Fin 11264) : val_main_v8 (F := Ideal) W (ix3 0 0 c) = ext W 0 c.val := by
  unfold val_main_v8 val_main_v6 val_main_v5
  pointwise
  exact (ext_apply W 0 c).symm

/-- The filter's gradient. -/
theorem v82_apply (k : Fin 3) (c : Fin 11264) : val_main_v82 (F := Ideal) X D W B (ix2 k c) = dw X D W B k.val (c.val / 2816) (c.val % 2816) := by
  unfold val_main_v82 val_main_v81 val_main_v80 val_main_v71 val_main_v70 val_main_v69 val_main_v60 val_main_v59 val_main_cst_8 val_main_cst_12 val_main_cst_16
  pointwise
  rw [v57_apply, v66_apply, v77_apply]
  match k with
  | ⟨0, _⟩ => simp
  | ⟨1, _⟩ => simp
  | ⟨2, _⟩ => simp

/-- The operand's gradient. -/
theorem v87_apply (t : Fin 2048) (c : Fin 11264) : val_main_v87 (F := Ideal) X D W B (ix2 t c) = dx X D W B (c.val / 2816) t.val (c.val % 2816) := by
  unfold val_main_v87 val_main_v86 val_main_v84 val_main_v79 val_main_v78 val_main_v73 val_main_v72 val_main_v68 val_main_v67 val_main_v62 val_main_v61 val_main_v58 val_main_v53 val_main_v52 val_main_cst_17 val_main_cst_15 val_main_cst_11 val_main_cst_7
  pointwise
  rw [Fin.sum_univ_one, v21_apply, v14_apply, v8_apply, v48_apply]
  simp only [v48_apply]
  unfold dx
  have hc : 2816 * (c.val / 2816) + c.val % 2816 = c.val := Nat.div_add_mod _ _
  have e1 : ∀ s : Nat, 2 + s - 1 = s + 1 := fun s => by omega
  have hz : ∀ s : Nat, ¬ s < 2048 → dup X D W B (c.val / 2816) s (c.val % 2816) = 0 := fun s hs => if_neg hs
  rw [hc, e1, Nat.add_comm 2]
  by_cases h1 : t.val + 1 < 2048
  · by_cases h2 : t.val + 2 < 2048
    · rw [dif_pos ⟨by omega, h1⟩, dif_pos h2]
    · rw [dif_pos ⟨by omega, h1⟩, dif_neg h2, hz _ h2, mul_zero]
  · rw [dif_neg (fun h => h1 h.2), dif_neg (by omega), hz _ h1, hz (t.val + 2) (by omega), mul_zero, mul_zero]

end Cert.ReferenceIdeal.Conv
-- ==== Proof.ConvClaim.lean ====
module

public import proofs.«01_k».proof.Defs
public import proofs.«01_k».proof.Proof.Gen.Kernel.Frame
public import proofs.«01_k».proof.Proof.Gen.ReferenceIdeal.Run
public import proofs.«01_k».proof.Proof.Index
public import proofs.«01_k».proof.Proof.Final
public import proofs.«01_k».proof.Proof.RefValue

@[expose] public section

set_option maxRecDepth 16384

noncomputable section

/-! The five claims about the backward pass of the gated causal depthwise convolution. -/

namespace Cert.Conv

open Idealize.ShloMosaic Idealize.ShloMosaic.Tactic Idealize.SL.Sem
open Cert.KernelIdeal.Conv (resDx resDw resDb)

attribute [local instance] Cert.Kernel.Gen.facts Cert.KernelIdeal.Gen.facts Cert.ReferenceIdeal.Gen.facts

/-- The kernel, in its own arithmetic, ends with its arguments unchanged and every counter at zero. -/
theorem frame_kernel : Cert.quiescent_Kernel := fun m ρ _ => Cert.Kernel.Gen.frame m ρ

/-- The same of the kernel over the extended reals. -/
theorem frame_kernelIdeal : Cert.quiescent_KernelIdeal := fun m ρ _ => Cert.KernelIdeal.Gen.frame m ρ

/-- The same of the reference over the extended reals. -/
theorem frame_referenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- From equal arguments the kernel and the reference end with equal operand gradients, equal filter gradients and equal bias
    gradients, over the extended reals, whatever the arguments. -/
theorem value : Cert.algebraic_KernelIdeal_ReferenceIdeal := by
  intro m g m' g' _ ha
  refine ⟨resDx m, resDw m, resDb m, ?_, ?_⟩
  · refine (θ_run Cert.KernelIdeal.defs _ _).mono (fun r h c => ?_) (Cert.KernelIdeal.Value.run_blocks (F := Ideal) m g)
    obtain ⟨h0, h1, h2, hk⟩ := h c
    exact ⟨h0.trans (Cert.KernelIdeal.Conv.final_dx m c), h1.trans (Cert.KernelIdeal.Conv.final_dw m c), h2.trans (Cert.KernelIdeal.Conv.final_db m c), hk⟩
  · refine (θ_run Cert.ReferenceIdeal.defs _ _).mono (fun r h c => ?_) (Cert.ReferenceIdeal.Value.run (F := Ideal) m' g')
    obtain ⟨h0, h1, h2, hk⟩ := h c
    obtain ⟨a0, a1, a2, a3⟩ := ha c
    refine ⟨h0.trans ?_, h1.trans ?_, h2.trans ?_, hk⟩
    · rw [Cert.ReferenceIdeal.Read.val_main_v87_eq, a0, a1, a2, a3]
      funext i
      exact (congrArg _ (idx2 i)).trans (Cert.ReferenceIdeal.Conv.v87_apply _ _ _ _ (i 0) (i 1))
    · rw [Cert.ReferenceIdeal.Read.val_main_v82_eq, a0, a1, a2, a3]
      funext i
      exact (congrArg _ (idx2 i)).trans (Cert.ReferenceIdeal.Conv.v82_apply _ _ _ _ (i 0) (i 1))
    · rw [Cert.ReferenceIdeal.Read.val_main_v85_eq, a0, a1, a2, a3]
      funext i
      exact (congrArg _ (idx1 i)).trans (Cert.ReferenceIdeal.Conv.v85_apply _ _ _ _ (i 1))

end Cert.Conv
-- ==== Proof.Product.lean ====
module

public import proofs.«01_k».proof.Proof.Index

@[expose] public section

noncomputable section

/-! The products of a projection and its two gradients, in plain terms over the extended reals. The weight `W` of a projection
    from `K` to `J * n` columns is stored as `J` blocks of `n` columns. Rows and columns are natural numbers; a matrix, or a row
    of matrices, is continued by zeros outside its bounds. -/

namespace Cert.Product

open Idealize.ShloMosaic
open scoped BigOperators

/-- A matrix of `a` rows and `b` columns. -/
abbrev Mat (a b : Nat) := (⟨2, ![a, b]⟩ : Shape).Idx → EReal

/-- A row of `a` matrices of `b` rows and `c` columns. -/
abbrev Cube (a b c : Nat) := (⟨3, ![a, b, c]⟩ : Shape).Idx → EReal

/-- The entry of a matrix at row `s`, column `c`; zero outside it. -/
def mat {a b : Nat} (X : Mat a b) (s c : Nat) : EReal := if h : s < a ∧ c < b then X (ix2 ⟨s, h.1⟩ ⟨c, h.2⟩) else 0

/-- The entry of the `j`th matrix at row `k`, column `q`; zero outside it. -/
def cube {a b c : Nat} (W : Cube a b c) (j k q : Nat) : EReal :=
  if h : j < a ∧ k < b ∧ q < c then W (ix3 ⟨j, h.1⟩ ⟨k, h.2.1⟩ ⟨q, h.2.2⟩) else 0

/-- A matrix at an index is its entry at the index's coordinates. -/
theorem mat_at {a b : Nat} (X : Mat a b) (i : (⟨2, ![a, b]⟩ : Shape).Idx) {s c : Nat} (hs : (i 0).val = s) (hc : (i 1).val = c) :
    X i = mat X s c := by
  subst hs hc
  rw [mat, dif_pos (show (i 0).val < a ∧ (i 1).val < b from ⟨(i 0).isLt, (i 1).isLt⟩)]
  refine congrArg X ?_
  funext k
  match k with
  | ⟨0, _⟩ => rfl
  | ⟨1, _⟩ => rfl

/-- A row of matrices at an index is its entry at the index's coordinates. -/
theorem cube_at {a b c : Nat} (W : Cube a b c) (i : (⟨3, ![a, b, c]⟩ : Shape).Idx) {j k q : Nat} (hj : (i 0).val = j)
    (hk : (i 1).val = k) (hq : (i 2).val = q) : W i = cube W j k q := by
  subst hj hk hq
  rw [cube, dif_pos (show (i 0).val < a ∧ (i 1).val < b ∧ (i 2).val < c from ⟨(i 0).isLt, (i 1).isLt, (i 2).isLt⟩)]
  refine congrArg W ?_
  funext k
  match k with
  | ⟨0, _⟩ => rfl
  | ⟨1, _⟩ => rfl
  | ⟨2, _⟩ => rfl

/-- The entry of a matrix inside it. -/
theorem mat_in {a b : Nat} (X : Mat a b) {s c : Nat} (hs : s < a) (hc : c < b) : mat X s c = X (ix2 ⟨s, hs⟩ ⟨c, hc⟩) :=
  (mat_at X (ix2 ⟨s, hs⟩ ⟨c, hc⟩) rfl rfl).symm

/-- The entry of a row of matrices inside it. -/
theorem cube_in {a b c : Nat} (W : Cube a b c) {j k q : Nat} (hj : j < a) (hk : k < b) (hq : q < c) :
    cube W j k q = W (ix3 ⟨j, hj⟩ ⟨k, hk⟩ ⟨q, hq⟩) := (cube_at W (ix3 ⟨j, hj⟩ ⟨k, hk⟩ ⟨q, hq⟩) rfl rfl rfl).symm

variable {S K J n : Nat} (X : Mat S K) (W : Cube J K n) {N : Nat} (D : Mat S N)

/-- The projection of row `s` at column `q` of block `j`. -/
def out (s j q : Nat) : EReal := ∑ k ∈ Finset.range K, mat X s k * cube W j k q

/-- The projection's result: the `J` blocks of `n` columns side by side. -/
def forward (N : Nat) : Mat S N := fun i => out X W (i 0).val ((i 1).val / n) ((i 1).val % n)

/-- The part of the operand's gradient at row `s`, column `k` due to block `j`: the gradient `D` at the result against the weight. -/
def back (s k j : Nat) : EReal := ∑ q ∈ Finset.range n, mat D s (n * j + q) * cube W j k q

/-- The operand's gradient: the sum over all the blocks. -/
def operandGrad : Mat S K := fun i => ∑ j ∈ Finset.range J, back W D (i 0).val (i 1).val j

/-- The weight's gradient at row `k`, column `c`: the sum over the rows of the operand. -/
def grad (k c : Nat) : EReal := ∑ s ∈ Finset.range S, mat X s k * mat D s c

/-- The weight's gradient, stored as the weight. -/
def weightGrad (J n : Nat) : Cube J K n := fun i => grad X D (i 1).val (n * (i 0).val + (i 2).val)

/-- The projection's result at row `s`, column `q` of block `j`. -/
theorem forward_at (i : (⟨2, ![S, N]⟩ : Shape).Idx) {s j q : Nat} (hs : (i 0).val = s) (hc : (i 1).val = n * j + q) (hq : q < n) :
    out X W s j q = forward X W N i := by
  rw [forward, hs, hc, Nat.mul_add_div (by omega), Nat.mul_add_mod, Nat.div_eq_of_lt hq, Nat.mod_eq_of_lt hq, Nat.add_zero]

/-- The operand's gradient at row `s`, column `k`. -/
theorem operandGrad_at (i : (⟨2, ![S, K]⟩ : Shape).Idx) {s k : Nat} (hs : (i 0).val = s) (hk : (i 1).val = k) :
    ∑ j ∈ Finset.range J, back W D s k j = operandGrad W D i := by rw [operandGrad, hs, hk]

/-- The operand's gradient at row `s`, column `k`, where the weight is one block. -/
theorem operandGrad_one (W : Cube 1 K n) (i : (⟨2, ![S, K]⟩ : Shape).Idx) {s k : Nat} (hs : (i 0).val = s) (hk : (i 1).val = k) :
    back W D s k 0 = operandGrad W D i := by rw [operandGrad, hs, hk, Finset.sum_range_one]

/-- The weight's gradient in block `j` at row `k`, column `q`. -/
theorem weightGrad_at (i : (⟨3, ![J, K, n]⟩ : Shape).Idx) {k c : Nat} (hk : (i 1).val = k) (hc : n * (i 0).val + (i 2).val = c) :
    grad X D k c = weightGrad X D J n i := by rw [weightGrad, hk, hc]

/-- A sum over `n * J` columns, block by block. -/
theorem sum_blocks (f : Nat → EReal) (n J : Nat) :
    ∑ c ∈ Finset.range (n * J), f c = ∑ j ∈ Finset.range J, ∑ q ∈ Finset.range n, f (n * j + q) := by
  induction J with
  | zero => simp
  | succ J ih => rw [Nat.mul_succ, Finset.sum_range_add, ih, Finset.sum_range_succ (n := J)]

/-- The projection from blocks of its operands: rows of `x` are rows of `X`, columns of `w` are columns of a block of `W`. -/
theorem out_of_blocks (x w : Fin K → EReal) {s j q : Nat} (hx : ∀ k : Fin K, x k = mat X s k.val)
    (hw : ∀ k : Fin K, w k = cube W j k.val q) : ∑ k : Fin K, x k * w k = out X W s j q := by
  rw [out, Finset.sum_range]
  exact Finset.sum_congr rfl fun k _ => by rw [hx, hw]

/-- The projection at places of two matrices with equal rows and two weights with equal columns. -/
theorem out_congr {S' J' n' : Nat} {X : Mat S K} {W : Cube J K n} (x : Mat S' K) (w : Cube J' K n') {s j q s' j' q' : Nat}
    (hx : ∀ k, k < K → mat x s' k = mat X s k) (hw : ∀ k, k < K → cube w j' k q' = cube W j k q) : out x w s' j' q' = out X W s j q :=
  Finset.sum_congr rfl fun k h => by rw [hx k (Finset.mem_range.mp h), hw k (Finset.mem_range.mp h)]

/-- One block's part of the operand's gradient at places of two gradients with equal rows and two weights with equal rows. -/
theorem back_congr {S' J' K' N' : Nat} {W : Cube J K n} {D : Mat S N} (w : Cube J' K' n) (d : Mat S' N') {s k j s' k' j' : Nat}
    (hd : ∀ q, q < n → mat d s' (n * j' + q) = mat D s (n * j + q)) (hw : ∀ q, q < n → cube w j' k' q = cube W j k q) :
    back w d s' k' j' = back W D s k j :=
  Finset.sum_congr rfl fun q h => by rw [hd q (Finset.mem_range.mp h), hw q (Finset.mem_range.mp h)]

/-- One block's part of the operand's gradient, from rows of `D` and of the weight's block. -/
theorem back_of_blocks (d w : Fin n → EReal) {s k j : Nat} (hd : ∀ q : Fin n, d q = mat D s (n * j + q.val))
    (hw : ∀ q : Fin n, w q = cube W j k q.val) : ∑ q : Fin n, d q * w q = back W D s k j := by
  rw [back, Finset.sum_range]
  exact Finset.sum_congr rfl fun q _ => by rw [hd, hw]

/-- The operand's gradient, from whole rows of `D` and of the weight's blocks side by side. -/
theorem back_of_rows (d w : Fin N → EReal) {s k : Nat} (hN : N = n * J) (hd : ∀ c : Fin N, d c = mat D s c.val)
    (hw : ∀ c : Fin N, w c = cube W (c.val / n) k (c.val % n)) : ∑ c : Fin N, d c * w c = ∑ j ∈ Finset.range J, back W D s k j := by
  subst hN
  rw [Finset.sum_congr rfl fun c _ => congrArg₂ (· * ·) (hd c) (hw c),
    ← Finset.sum_range (fun c => mat D s c * cube W (c / n) k (c % n)), sum_blocks]
  refine Finset.sum_congr rfl fun j _ => Finset.sum_congr rfl fun q h => ?_
  have hq : q < n := Finset.mem_range.mp h
  rw [Nat.mul_add_div (by omega), Nat.mul_add_mod, Nat.div_eq_of_lt hq, Nat.mod_eq_of_lt hq, Nat.add_zero]

/-- The weight's gradient, from columns of `X` and of `D`. -/
theorem grad_of_blocks (x d : Fin S → EReal) {k c : Nat} (hx : ∀ s : Fin S, x s = mat X s.val k)
    (hd : ∀ s : Fin S, d s = mat D s.val c) : ∑ s : Fin S, x s * d s = grad X D k c := by
  rw [grad, Finset.sum_range]
  exact Finset.sum_congr rfl fun s _ => by rw [hx, hd]

end Cert.Product
-- ==== Proof.DownDw.lean ====
module

public import proofs.«01_k».proof.Proof.Product
public import proofs.«01_k».proof.Proof.Gen.DownDwIdeal.Value
public import proofs.«01_k».proof.Proof.Gen.DownDwRefIdeal.Read

@[expose] public section

set_option maxRecDepth 16384

noncomputable section

/- The gradient at the weight of the projection of the gated columns back to the
    model's width: what the kernel's result array and the
    reference's hold. The kernel keeps the transposed columns of the operand in a scratch buffer. -/

namespace Cert.DownDwIdeal.Product

open Cert.DownDwIdeal Cert.DownDwIdeal.Gen Cert.DownDwIdeal.Value Idealize.ShloMosaic Idealize.ShloMosaic.TcCoe Idealize.ShloMosaic.Tactic Idealize.SL.Sem
open Cert.Product
open Idealize.ShloMosaic.Pipeline (Dat)
open scoped BigOperators

variable (m : (ℓ : Loc nD τ sig) → Buf (Elt Ideal) ℓ) (c : Dev nD)

abbrev argX : Mat 2048 5632 := m ((c : Thread nD τ).loc main_arg0)
abbrev argD : Mat 2048 2048 := m ((c : Thread nD τ).loc main_arg1)
abbrev res : Buf (Elt Ideal) ((c : Thread nD τ).loc main_v0) := weightGrad (argX m c) (argD m c) 1 2048

/-- Which block of each array a grid point works on. -/
theorem idx_eq : ∀ t : Fin grid0.N,
    (win0_0.index t 0 = 0 ∧ win0_0.index t 1 = t.val / 2) ∧
    (win0_1.index t 0 = 0 ∧ win0_1.index t 1 = t.val % 2) ∧
    win0_2.index t 0 = 0 ∧ win0_2.index t 1 = t.val / 2 ∧ win0_2.index t 2 = t.val % 2 := by decide +kernel

theorem blk0 (t : Fin cfg0.N) (s : Fin 2048) (k : Fin 1408) :
    iblk m c 0 t (ix2 s k) = mat (argX m c) s.val (1408 * (t.val / 2) + k.val) := by
  have e := (idx_eq t).1
  refine mat_at (argX m c) (((cfg0.win 0).blk t).view.emb (ix2 s k)) ?_ ?_
  · show win0_0.index t 0 * 2048 + 1 * s.val = _; omega
  · show win0_0.index t 1 * 1408 + 1 * k.val = _; omega

theorem blk1 (t : Fin cfg0.N) (s : Fin 2048) (q : Fin 1024) :
    iblk m c 1 t (ix2 s q) = mat (argD m c) s.val (1024 * (t.val % 2) + q.val) := by
  have e := (idx_eq t).2.1
  refine mat_at (argD m c) (((cfg0.win 1).blk t).view.emb (ix2 s q)) ?_ ?_
  · show win0_1.index t 0 * 2048 + 1 * s.val = _; omega
  · show win0_1.index t 1 * 1024 + 1 * q.val = _; omega

section block
variable {i : grid0.Coords}
  {a3 : Memref sig .tc .vmem S2048x1408 .bf16} {h3 : a3.IsWhole} {a4 : Memref sig .tc .vmem S2048x1024 .bf16} {h4 : a4.IsWhole}
  {a5 : Memref sig .tc .vmem S1x1408x1024 .bf16} {h5 : a5.IsWhole} {a6 : Memref sig .tc .vmem S1408x2048 .bf16} {h6 : a6.IsWhole}
  {x : Vec Ideal S2048x1408 .bf16} {d : Vec Ideal S2048x1024 .bf16} {xt : Vec Ideal S1408x2048 .bf16}

theorem hz2 : (![0, 0] : Fin 2 → Nat) = fun _ => 0 := by decide

theorem hz3 : (![0, 0, 0] : Fin 3 → Nat) = fun _ => 0 := by decide

/-- The first point of a run keeps the operand's columns as rows. -/
theorem kept (g) (k : Fin 1408) (s : Fin 2048) : sout0_A_0 c i a3 h3 a4 h4 a5 h5 a6 h6 g x d (ix2 k s) = x (ix2 s k) := by
  unfold sout0_A_0
  rw [View.read_writes_eq_canon _ _ _ (scover0_A_0 c i a3 h3 a4 h4 a5 h5 a6 h6 g x d)]
  unfold kernelRun0_A
  dsimp only
  sl_unfold_words
  simp only [View.readAt_eq_ld, h3.read_unread, h4.read_unread, h6.read_unread]
  rw [View.canon_unit_zero (S := S1408x2048) hz2]
  unfold k0_pay1
  pointwise

/-- It writes the product of these rows with the gradient's columns; -/
theorem written_first (g) (k : Fin 1408) (q : Fin 1024) :
    out0_A_2 c i a3 h3 a4 h4 a5 h5 a6 h6 g x d (ix3 0 k q) = ∑ s : Fin 2048, x (ix2 s k) * d (ix2 s q) := by
  unfold out0_A_2
  rw [View.read_writes_eq_canon _ _ _ (cover0_A_2 c i a3 h3 a4 h4 a5 h5 a6 h6 g x d)]
  unfold kernelRun0_A
  dsimp only
  sl_unfold_words
  simp only [View.readAt_eq_ld, h3.read_unread, h4.read_unread, h6.read_unread]
  rw [View.canon_unit_zero (S := S1x1408x1024) hz3, View.readCov_unit_zero (S := S1408x2048) _ hz2]
  unfold k0_pay2 k0_pay1
  pointwise

/-- so does a later point, with the rows kept. -/
theorem written_later (g) (k : Fin 1408) (q : Fin 1024) :
    out0_B_2 c i a3 h3 a4 h4 a5 h5 a6 h6 g x d xt (ix3 0 k q) = ∑ s : Fin 2048, xt (ix2 k s) * d (ix2 s q) := by
  unfold out0_B_2
  rw [View.read_writes_eq_canon _ _ _ (cover0_B_2 c i a3 h3 a4 h4 a5 h5 a6 h6 g x d xt)]
  unfold kernelRun0_B
  dsimp only
  sl_unfold_words
  simp only [View.readAt_eq_ld, h3.read_unread, h4.read_unread, h6.read_unread]
  rw [View.canon_unit_zero (S := S1x1408x1024) hz3]
  unfold k0_pay2
  pointwise

end block

/-- Every point finds in the scratch buffer, or leaves there, its columns of the operand as rows. -/
theorem rows_eq (n : Nat) : ∀ (h : n < cfg0.N) (k : Fin 1408) (s : Fin 2048),
    (outsAt0 m c n h).2 (ix2 k s) = mat (argX m c) s.val (1408 * (n / 2) + k.val) := by
  induction n using Nat.strong_induction_on with
  | _ n ih =>
    intro h k s
    by_cases h0 : n % 2 = 0
    · rw [outsAt0_A m c ⟨n, h⟩ h0]
      dsimp only
      rw [kept, blk0]
    · rw [outsAt0_B m c ⟨n, h⟩ h0]
      dsimp only
      unfold sout0_B_0
      rw [ih (n - 1) (by omega), show (n - 1) / 2 = n / 2 by omega]

/-- What a grid point writes is its block of the weight's gradient. -/
theorem written (t : Fin cfg0.N) (k : Fin 1408) (q : Fin 1024) :
    (outsAt0 m c t.val t.isLt).1 (ix3 0 k q) = grad (argX m c) (argD m c) (1408 * (t.val / 2) + k.val) (1024 * (t.val % 2) + q.val) := by
  by_cases h0 : t.val % 2 = 0
  · rw [outsAt0_A m c t h0]
    dsimp only
    rw [written_first]
    exact grad_of_blocks _ _ _ _ (fun s => blk0 m c t s k) fun s => blk1 m c t s q
  · rw [outsAt0_B m c t h0]
    dsimp only
    rw [written_later]
    refine grad_of_blocks _ _ _ _ (fun s => ?_) fun s => blk1 m c t s q
    rw [rows_eq, show (t.val - 1) / 2 = t.val / 2 by omega]

theorem flushed (t : Fin cfg0.N) : (dats m 0 c).flushed 2 t = ((cfg0.win 2).blk t).view.read (Elt Ideal) (res m c) := by
  rw [flushed2]
  funext j
  rw [View.read_apply]
  have e := (idx_eq t).2.2
  have h0 : (j 0).val < 1 := (j 0).isLt
  have h1 : (j 1).val < 1408 := (j 1).isLt
  have h2 : (j 2).val < 1024 := (j 2).isLt
  refine Eq.trans (b := (outsAt0 m c t.val t.isLt).1 (ix3 0 ⟨(j 1).val, h1⟩ ⟨(j 2).val, h2⟩)) ?_ ?_
  · exact congrArg (outsAt0 m c t.val t.isLt).1 (funext fun a => match a with
      | 0 => Fin.ext (by show (j 0).val = 0; omega)
      | 1 => rfl
      | 2 => rfl)
  · rw [written]
    dsimp only
    refine weightGrad_at (argX m c) (argD m c) (((cfg0.win 2).blk t).view.emb j) ?_ ?_
    · show win0_2.index t 1 * 1408 + 1 * (j 1).val = _; omega
    · show 2048 * (win0_2.index t 0 * 1 + 1 * (j 0).val) + (win0_2.index t 2 * 1024 + 1 * (j 2).val) = _; omega

/-- The kernel's result array is the weight's gradient. -/
theorem final : (dats m 0 c).arrAt 2 cfg0.N = res m c :=
  (dats m 0 c).arrAt_eq_of_cover 2 (res m c) (fun t _ => flushed m c t) fun i => (covered_iff2 i).2 (by
    have h0 : (i 0).val < 1 := (i 0).isLt
    have h1 : (i 1).val < 5632 := (i 1).isLt
    have h2 : (i 2).val < 2048 := (i 2).isLt
    omega)

end Cert.DownDwIdeal.Product

namespace Cert.DownDwRefIdeal.Product

open Cert.DownDwRefIdeal Cert.DownDwRefIdeal.Gen Cert.DownDwRefIdeal.Read Idealize.ShloMosaic Idealize.ShloMosaic.Tactic
open Cert.Product

/-- The reference's result is the weight's gradient. -/
theorem final (x : Vec Ideal S2048x5632 .bf16) (d : Vec Ideal S2048x2048 .bf16) : val_main_v10 x d = weightGrad x d 1 2048 := by
  funext i
  refine (congrArg _ (idx3 i)).trans ?_
  unfold val_main_v10 val_main_v9 val_main_v8 val_main_v7 val_main_v6 val_main_v5 val_main_v1
  pointwise
  exact (Finset.sum_congr rfl fun _ _ => mul_comm _ _).trans (grad_of_blocks x d _ _ (fun s => mat_at x _ rfl rfl)
    fun s => mat_at d _ rfl (by
      have h : (i 0).val < 1 := (i 0).isLt
      show (i 2).val = 2048 * (i 0).val + (i 2).val
      omega))

end Cert.DownDwRefIdeal.Product
-- ==== Proof.DownDx.lean ====
module

public import proofs.«01_k».proof.Proof.Product
public import proofs.«01_k».proof.Proof.Gen.DownDxIdeal.Value
public import proofs.«01_k».proof.Proof.Gen.DownDxRefIdeal.Read

@[expose] public section

set_option maxRecDepth 16384

noncomputable section

/-! The gradient at the operand of the projection of the gated columns back to the model's width: what the kernel's result
    array and the reference's hold. -/

namespace Cert.DownDxIdeal.Product

open Cert.DownDxIdeal Cert.DownDxIdeal.Gen Cert.DownDxIdeal.Value Idealize.ShloMosaic Idealize.ShloMosaic.TcCoe Idealize.ShloMosaic.Tactic Idealize.SL.Sem
open Cert.Product
open Idealize.ShloMosaic.Pipeline (Dat)

variable (m : (ℓ : Loc nD τ sig) → Buf (Elt Ideal) ℓ) (c : Dev nD)

abbrev argD : Mat 2048 2048 := m ((c : Thread nD τ).loc main_arg0)
abbrev argW : Cube 1 5632 2048 := m ((c : Thread nD τ).loc main_arg1)
abbrev res : Buf (Elt Ideal) ((c : Thread nD τ).loc main_v0) := operandGrad (argW m c) (argD m c)

/-- Which block of each array a grid point works on. -/
theorem idx_eq : ∀ t : Fin grid0.N,
    (win0_0.index t 0 = t.val / 4 ∧ win0_0.index t 1 = 0) ∧
    (win0_1.index t 0 = 0 ∧ win0_1.index t 1 = t.val % 4 ∧ win0_1.index t 2 = 0) ∧
    win0_2.index t 0 = t.val / 4 ∧ win0_2.index t 1 = t.val % 4 := by decide +kernel

theorem blk0 (t : Fin cfg0.N) (r : Fin 1024) (q : Fin 2048) :
    iblk m c 0 t (ix2 r q) = mat (argD m c) (1024 * (t.val / 4) + r.val) (2048 * 0 + q.val) := by
  have e := (idx_eq t).1
  refine mat_at (argD m c) (((cfg0.win 0).blk t).view.emb (ix2 r q)) ?_ ?_
  · show win0_0.index t 0 * 1024 + 1 * r.val = _; omega
  · show win0_0.index t 1 * 2048 + 1 * q.val = _; omega

theorem blk1 (t : Fin cfg0.N) (k : Fin 1408) (q : Fin 2048) :
    iblk m c 1 t (ix3 0 k q) = cube (argW m c) 0 (1408 * (t.val % 4) + k.val) q.val := by
  have e := (idx_eq t).2.1
  refine cube_at (argW m c) (((cfg0.win 1).blk t).view.emb (ix3 0 k q)) ?_ ?_ ?_
  · show win0_1.index t 0 * 1 + 1 * 0 = _; omega
  · show win0_1.index t 1 * 1408 + 1 * k.val = _; omega
  · show win0_1.index t 2 * 2048 + 1 * q.val = _; omega

theorem pay (d : Vec Ideal S1024x2048 .bf16) (w : Vec Ideal S1x1408x2048 .bf16) (r : Fin 1024) (k : Fin 1408) :
    out0_2 d w (ix2 r k) = ∑ q : Fin 2048, d (ix2 r q) * w (ix3 0 k q) := by
  unfold out0_2
  rw [View.canon_unit_zero (by decide)]
  unfold k0_pay1
  pointwise

/-- What a grid point writes is its block of the operand's gradient. -/
theorem flushed (t : Fin cfg0.N) : (dats m 0 c).flushed 2 t = ((cfg0.win 2).blk t).view.read (Elt Ideal) (res m c) := by
  rw [flushed2]
  funext j
  rw [View.read_apply]
  have e := (idx_eq t).2.2
  have h0 : (j 0).val < 1024 := (j 0).isLt
  have h1 : (j 1).val < 1408 := (j 1).isLt
  have k0 : ((((cfg0.win 2).blk t).view.emb j : S2048x5632.Idx) 0).val = 1024 * (t.val / 4) + (j 0).val := by
    show win0_2.index t 0 * 1024 + 1 * (j 0).val = _; omega
  have k1 : ((((cfg0.win 2).blk t).view.emb j : S2048x5632.Idx) 1).val = 1408 * (t.val % 4) + (j 1).val := by
    show win0_2.index t 1 * 1408 + 1 * (j 1).val = _; omega
  refine Eq.trans (b := out0_2 (iblk m c 0 t) (iblk m c 1 t) (ix2 ⟨(j 0).val, h0⟩ ⟨(j 1).val, h1⟩)) ?_ ?_
  · exact congrArg (out0_2 (iblk m c 0 t) (iblk m c 1 t)) (funext fun a => match a with | 0 => rfl | 1 => rfl)
  · rw [pay]
    exact (back_of_blocks (argW m c) (argD m c) _ _ (fun q => blk0 m c t _ q) fun q => blk1 m c t _ q).trans (operandGrad_one _ _ _ k0 k1)

theorem cover (i : S2048x5632.Idx) : ∃ t : Fin cfg0.N, (cfg0.win 2).flush t = true ∧ i ∈ ((cfg0.win 2).blk t).view.set := by
  have h0 : (i 0).val < 2048 := (i 0).isLt
  have h1 : (i 1).val < 5632 := (i 1).isLt
  have ht : 4 * ((i 0).val / 1024) + (i 1).val / 1408 < cfg0.N := by rw [show cfg0.N = 8 from N_0]; omega
  generalize ht' : (⟨4 * ((i 0).val / 1024) + (i 1).val / 1408, ht⟩ : Fin cfg0.N) = t
  have hv : t.val = 4 * ((i 0).val / 1024) + (i 1).val / 1408 := by rw [← ht']
  have e := (idx_eq t).2.2
  refine ⟨t, flush0_2 t, ?_⟩
  show i ∈ ((View.whole main_v0).slice (win0_2.rect t)).set
  rw [View.set_slice_whole, Rect.mem_set_unit]
  intro a
  match a with
  | 0 => show win0_2.index t 0 * 1024 ≤ (i 0).val ∧ (i 0).val < win0_2.index t 0 * 1024 + 1024; omega
  | 1 => show win0_2.index t 1 * 1408 ≤ (i 1).val ∧ (i 1).val < win0_2.index t 1 * 1408 + 1408; omega

/-- The kernel's result array is the operand's gradient. -/
theorem final : (dats m 0 c).arrAt 2 cfg0.N = res m c :=
  (dats m 0 c).arrAt_eq_of_cover 2 (res m c) (fun t _ => flushed m c t) cover

end Cert.DownDxIdeal.Product

namespace Cert.DownDxRefIdeal.Product

open Cert.DownDxRefIdeal Cert.DownDxRefIdeal.Gen Cert.DownDxRefIdeal.Read Idealize.ShloMosaic Idealize.ShloMosaic.Tactic
open Cert.Product

/-- The reference's result is the operand's gradient. -/
theorem final (d : Vec Ideal S2048x2048 .bf16) (w : Vec Ideal S1x5632x2048 .bf16) : val_main_v6 d w = operandGrad w d := by
  funext i
  refine (congrArg _ (idx2 i)).trans ?_
  unfold val_main_v6 val_main_v5 val_main_v3 val_main_v2 val_main_v1
  pointwise
  exact (back_of_blocks w d _ _ (fun q => mat_at d _ rfl (Nat.zero_add _).symm) fun q => cube_at w _ rfl rfl rfl).trans
    (operandGrad_one d w i rfl rfl)

end Cert.DownDxRefIdeal.Product
-- ==== Proof.UpDw.lean ====
module

public import proofs.«01_k».proof.Proof.Product
public import proofs.«01_k».proof.Proof.Gen.UpDwIdeal.Value
public import proofs.«01_k».proof.Proof.Gen.UpDwRefIdeal.Read

@[expose] public section

set_option maxRecDepth 16384

noncomputable section

/-! The gradient at the weight of the projection onto the gate and value columns: what the kernel's result array and the
    reference's hold. The kernel keeps the transposed columns of the operand in a scratch buffer. -/

namespace Cert.UpDwIdeal.Product

open Cert.UpDwIdeal Cert.UpDwIdeal.Gen Cert.UpDwIdeal.Value Idealize.ShloMosaic Idealize.ShloMosaic.TcCoe Idealize.ShloMosaic.Tactic Idealize.SL.Sem
open Cert.Product
open Idealize.ShloMosaic.Pipeline (Dat)
open scoped BigOperators

variable (m : (ℓ : Loc nD τ sig) → Buf (Elt Ideal) ℓ) (c : Dev nD)

abbrev argX : Mat 2048 2048 := m ((c : Thread nD τ).loc main_arg0)
abbrev argD : Mat 2048 11264 := m ((c : Thread nD τ).loc main_arg1)
abbrev res : Buf (Elt Ideal) ((c : Thread nD τ).loc main_v0) := weightGrad (argX m c) (argD m c) 8 1408

/-- Which block of each array a grid point works on. -/
theorem idx_eq : ∀ t : Fin grid0.N,
    (win0_0.index t 0 = 0 ∧ win0_0.index t 1 = t.val / 8) ∧
    (win0_1.index t 0 = 0 ∧ win0_1.index t 1 = t.val % 8) ∧
    win0_2.index t 0 = t.val % 8 ∧ win0_2.index t 1 = t.val / 8 ∧ win0_2.index t 2 = 0 := by decide +kernel

theorem blk0 (t : Fin cfg0.N) (s : Fin 2048) (k : Fin 1024) :
    iblk m c 0 t (ix2 s k) = mat (argX m c) s.val (1024 * (t.val / 8) + k.val) := by
  have e := (idx_eq t).1
  refine mat_at (argX m c) (((cfg0.win 0).blk t).view.emb (ix2 s k)) ?_ ?_
  · show win0_0.index t 0 * 2048 + 1 * s.val = _; omega
  · show win0_0.index t 1 * 1024 + 1 * k.val = _; omega

theorem blk1 (t : Fin cfg0.N) (s : Fin 2048) (q : Fin 1408) :
    iblk m c 1 t (ix2 s q) = mat (argD m c) s.val (1408 * (t.val % 8) + q.val) := by
  have e := (idx_eq t).2.1
  refine mat_at (argD m c) (((cfg0.win 1).blk t).view.emb (ix2 s q)) ?_ ?_
  · show win0_1.index t 0 * 2048 + 1 * s.val = _; omega
  · show win0_1.index t 1 * 1408 + 1 * q.val = _; omega

section block
variable {i : grid0.Coords}
  {a3 : Memref sig .tc .vmem S2048x1024 .bf16} {h3 : a3.IsWhole} {a4 : Memref sig .tc .vmem S2048x1408 .bf16} {h4 : a4.IsWhole}
  {a5 : Memref sig .tc .vmem S1x1024x1408 .bf16} {h5 : a5.IsWhole} {a6 : Memref sig .tc .vmem S1024x2048 .bf16} {h6 : a6.IsWhole}
  {x : Vec Ideal S2048x1024 .bf16} {d : Vec Ideal S2048x1408 .bf16} {xt : Vec Ideal S1024x2048 .bf16}

theorem hz2 : (![0, 0] : Fin 2 → Nat) = fun _ => 0 := by decide

theorem hz3 : (![0, 0, 0] : Fin 3 → Nat) = fun _ => 0 := by decide

/-- The first point of a run keeps the operand's columns as rows. -/
theorem kept (g) (k : Fin 1024) (s : Fin 2048) : sout0_A_0 c i a3 h3 a4 h4 a5 h5 a6 h6 g x d (ix2 k s) = x (ix2 s k) := by
  unfold sout0_A_0
  rw [View.read_writes_eq_canon _ _ _ (scover0_A_0 c i a3 h3 a4 h4 a5 h5 a6 h6 g x d)]
  unfold kernelRun0_A
  dsimp only
  sl_unfold_words
  simp only [View.readAt_eq_ld, h3.read_unread, h4.read_unread, h6.read_unread]
  rw [View.canon_unit_zero (S := S1024x2048) hz2]
  unfold k0_pay1
  pointwise

/-- It writes the product of these rows with the gradient's columns; -/
theorem written_first (g) (k : Fin 1024) (q : Fin 1408) :
    out0_A_2 c i a3 h3 a4 h4 a5 h5 a6 h6 g x d (ix3 0 k q) = ∑ s : Fin 2048, x (ix2 s k) * d (ix2 s q) := by
  unfold out0_A_2
  rw [View.read_writes_eq_canon _ _ _ (cover0_A_2 c i a3 h3 a4 h4 a5 h5 a6 h6 g x d)]
  unfold kernelRun0_A
  dsimp only
  sl_unfold_words
  simp only [View.readAt_eq_ld, h3.read_unread, h4.read_unread, h6.read_unread]
  rw [View.canon_unit_zero (S := S1x1024x1408) hz3, View.readCov_unit_zero (S := S1024x2048) _ hz2]
  unfold k0_pay2 k0_pay1
  pointwise

/-- so does a later point, with the rows kept. -/
theorem written_later (g) (k : Fin 1024) (q : Fin 1408) :
    out0_B_2 c i a3 h3 a4 h4 a5 h5 a6 h6 g x d xt (ix3 0 k q) = ∑ s : Fin 2048, xt (ix2 k s) * d (ix2 s q) := by
  unfold out0_B_2
  rw [View.read_writes_eq_canon _ _ _ (cover0_B_2 c i a3 h3 a4 h4 a5 h5 a6 h6 g x d xt)]
  unfold kernelRun0_B
  dsimp only
  sl_unfold_words
  simp only [View.readAt_eq_ld, h3.read_unread, h4.read_unread, h6.read_unread]
  rw [View.canon_unit_zero (S := S1x1024x1408) hz3]
  unfold k0_pay2
  pointwise

end block

/-- Every point finds in the scratch buffer, or leaves there, its columns of the operand as rows. -/
theorem rows_eq (n : Nat) : ∀ (h : n < cfg0.N) (k : Fin 1024) (s : Fin 2048),
    (outsAt0 m c n h).2 (ix2 k s) = mat (argX m c) s.val (1024 * (n / 8) + k.val) := by
  induction n using Nat.strong_induction_on with
  | _ n ih =>
    intro h k s
    by_cases h0 : n % 8 = 0
    · rw [outsAt0_A m c ⟨n, h⟩ h0]
      dsimp only
      rw [kept, blk0]
    · rw [outsAt0_B m c ⟨n, h⟩ h0]
      dsimp only
      unfold sout0_B_0
      rw [ih (n - 1) (by omega), show (n - 1) / 8 = n / 8 by omega]

/-- What a grid point writes is its block of the weight's gradient. -/
theorem written (t : Fin cfg0.N) (k : Fin 1024) (q : Fin 1408) :
    (outsAt0 m c t.val t.isLt).1 (ix3 0 k q) = grad (argX m c) (argD m c) (1024 * (t.val / 8) + k.val) (1408 * (t.val % 8) + q.val) := by
  by_cases h0 : t.val % 8 = 0
  · rw [outsAt0_A m c t h0]
    dsimp only
    rw [written_first]
    exact grad_of_blocks _ _ _ _ (fun s => blk0 m c t s k) fun s => blk1 m c t s q
  · rw [outsAt0_B m c t h0]
    dsimp only
    rw [written_later]
    refine grad_of_blocks _ _ _ _ (fun s => ?_) fun s => blk1 m c t s q
    rw [rows_eq, show (t.val - 1) / 8 = t.val / 8 by omega]

theorem flushed (t : Fin cfg0.N) : (dats m 0 c).flushed 2 t = ((cfg0.win 2).blk t).view.read (Elt Ideal) (res m c) := by
  rw [flushed2]
  funext j
  rw [View.read_apply]
  have e := (idx_eq t).2.2
  have h0 : (j 0).val < 1 := (j 0).isLt
  have h1 : (j 1).val < 1024 := (j 1).isLt
  have h2 : (j 2).val < 1408 := (j 2).isLt
  refine Eq.trans (b := (outsAt0 m c t.val t.isLt).1 (ix3 0 ⟨(j 1).val, h1⟩ ⟨(j 2).val, h2⟩)) ?_ ?_
  · exact congrArg (outsAt0 m c t.val t.isLt).1 (funext fun a => match a with
      | 0 => Fin.ext (by show (j 0).val = 0; omega)
      | 1 => rfl
      | 2 => rfl)
  · rw [written]
    dsimp only
    refine weightGrad_at (argX m c) (argD m c) (((cfg0.win 2).blk t).view.emb j) ?_ ?_
    · show win0_2.index t 1 * 1024 + 1 * (j 1).val = _; omega
    · show 1408 * (win0_2.index t 0 * 1 + 1 * (j 0).val) + (win0_2.index t 2 * 1408 + 1 * (j 2).val) = _; omega

/-- The kernel's result array is the weight's gradient. -/
theorem final : (dats m 0 c).arrAt 2 cfg0.N = res m c :=
  (dats m 0 c).arrAt_eq_of_cover 2 (res m c) (fun t _ => flushed m c t) fun i => (covered_iff2 i).2 (by
    have h0 : (i 0).val < 8 := (i 0).isLt
    have h1 : (i 1).val < 2048 := (i 1).isLt
    have h2 : (i 2).val < 1408 := (i 2).isLt
    omega)

end Cert.UpDwIdeal.Product

namespace Cert.UpDwRefIdeal.Product

open Cert.UpDwRefIdeal Cert.UpDwRefIdeal.Gen Cert.UpDwRefIdeal.Read Idealize.ShloMosaic Idealize.ShloMosaic.Tactic
open Cert.Product

/-- The reference's result is the weight's gradient. -/
theorem final (x : Vec Ideal S2048x2048 .bf16) (d : Vec Ideal S2048x11264 .bf16) : val_main_v10 x d = weightGrad x d 8 1408 := by
  funext i
  refine (congrArg _ (idx3 i)).trans ?_
  unfold val_main_v10 val_main_v9 val_main_v8 val_main_v7 val_main_v6 val_main_v5 val_main_v1
  pointwise
  exact (Finset.sum_congr rfl fun _ _ => mul_comm _ _).trans (grad_of_blocks x d _ _ (fun s => mat_at x _ rfl rfl)
    fun s => mat_at d _ rfl (congrArg (· + (i 2).val) (Nat.mul_comm _ _)))

end Cert.UpDwRefIdeal.Product
-- ==== Proof.UpDx.lean ====
module

public import proofs.«01_k».proof.Proof.Product
public import proofs.«01_k».proof.Proof.Gen.UpDxIdeal.Value
public import proofs.«01_k».proof.Proof.Gen.UpDxRefIdeal.Read

@[expose] public section

set_option maxRecDepth 16384

noncomputable section

/-! The gradient at the operand of the projection onto the gate and value columns: what the kernel's result array and the
    reference's hold. The kernel adds up the eight blocks of columns two by two in a scratch buffer. -/

namespace Cert.UpDxIdeal.Product

open Cert.UpDxIdeal Cert.UpDxIdeal.Gen Cert.UpDxIdeal.Value Idealize.ShloMosaic Idealize.ShloMosaic.TcCoe Idealize.ShloMosaic.Tactic Idealize.SL.Sem
open Cert.Product
open Idealize.ShloMosaic.Pipeline (Dat)
open scoped BigOperators

variable (m : (ℓ : Loc nD τ sig) → Buf (Elt Ideal) ℓ) (c : Dev nD)

abbrev argD : Mat 2048 11264 := m ((c : Thread nD τ).loc main_arg0)
abbrev argW : Cube 8 2048 1408 := m ((c : Thread nD τ).loc main_arg1)
abbrev res : Buf (Elt Ideal) ((c : Thread nD τ).loc main_v0) := operandGrad (argW m c) (argD m c)

/-- Which block of each array a grid point works on. -/
theorem idx_eq : ∀ t : Fin grid0.N,
    (win0_0.index t 0 = t.val / 8 ∧ win0_0.index t 1 = t.val % 4) ∧
    (win0_1.index t 0 = t.val % 4 ∧ win0_1.index t 1 = t.val / 4 % 2 ∧ win0_1.index t 2 = 0) ∧
    win0_2.index t 0 = t.val / 8 ∧ win0_2.index t 1 = t.val / 4 % 2 := by decide +kernel

theorem blk0 (t : Fin cfg0.N) (r : Fin 1024) (q : Fin 2816) :
    iblk m c 0 t (ix2 r q) = mat (argD m c) (1024 * (t.val / 8) + r.val) (2816 * (t.val % 4) + q.val) := by
  have e := (idx_eq t).1
  refine mat_at (argD m c) (((cfg0.win 0).blk t).view.emb (ix2 r q)) ?_ ?_
  · show win0_0.index t 0 * 1024 + 1 * r.val = _; omega
  · show win0_0.index t 1 * 2816 + 1 * q.val = _; omega

theorem blk1 (t : Fin cfg0.N) (j : Fin 2) (k : Fin 1024) (q : Fin 1408) :
    iblk m c 1 t (ix3 j k q) = cube (argW m c) (2 * (t.val % 4) + j.val) (1024 * (t.val / 4 % 2) + k.val) q.val := by
  have e := (idx_eq t).2.1
  refine cube_at (argW m c) (((cfg0.win 1).blk t).view.emb (ix3 j k q)) ?_ ?_ ?_
  · show win0_1.index t 0 * 2 + 1 * j.val = _; omega
  · show win0_1.index t 1 * 1024 + 1 * k.val = _; omega
  · show win0_1.index t 2 * 1408 + 1 * q.val = _; omega

section block
variable {i : grid0.Coords}
  {a3 : Memref sig .tc .vmem S1024x2816 .bf16} {h3 : a3.IsWhole} {a4 : Memref sig .tc .vmem S2x1024x1408 .bf16} {h4 : a4.IsWhole}
  {a5 : Memref sig .tc .vmem S1024x1024 .f32} {h5 : a5.IsWhole} {a6 : Memref sig .tc .vmem S1024x1024 .f32} {h6 : a6.IsWhole}
  {x : Vec Ideal S1024x2816 .bf16} {w : Vec Ideal S2x1024x1408 .bf16} {acc : Vec Ideal S1024x1024 .f32}

theorem hz : (![0, 0] : Fin 2 → Nat) = fun _ => 0 := by decide

/-- The two blocks' part at a row and column. -/
def two (x : Vec Ideal S1024x2816 .bf16) (w : Vec Ideal S2x1024x1408 .bf16) (r k : Fin 1024) : EReal :=
  (∑ q : Fin 1408, x (ix2 r ⟨q.val, by omega⟩) * w (ix3 0 k q)) + ∑ q : Fin 1408, x (ix2 r ⟨1408 + q.val, by omega⟩) * w (ix3 1 k q)

/-- The first point of a run stores the two blocks' part. -/
theorem first (g0) (g1) (g2) (r k : Fin 1024) : sout0_A_0 c i a3 h3 a4 h4 a5 h5 a6 h6 g0 g1 g2 x w (ix2 r k) = two x w r k := by
  unfold sout0_A_0
  rw [View.read_writes_eq_canon _ _ _ (scover0_A_0 c i a3 h3 a4 h4 a5 h5 a6 h6 g0 g1 g2 x w)]
  unfold kernelRun0_A
  dsimp only
  sl_unfold_words
  simp only [View.readAt_eq_ld, h3.read_unread, h4.read_unread, h6.read_unread]
  rw [View.canon_unit_zero (S := S1024x1024) hz]
  unfold k0_pay1 two
  pointwise

/-- A later point adds them to what the scratch buffer holds. -/
theorem later (g0) (g1) (g2) (r k : Fin 1024) :
    sout0_B_0 c i a3 h3 a4 h4 a5 h5 a6 h6 g0 g1 g2 x w acc (ix2 r k) = acc (ix2 r k) + two x w r k := by
  unfold sout0_B_0
  rw [View.read_writes_eq_canon _ _ _ (scover0_B_0 c i a3 h3 a4 h4 a5 h5 a6 h6 g0 g1 g2 x w acc)]
  unfold kernelRun0_B
  dsimp only
  sl_unfold_words
  simp only [View.readAt_eq_ld, h3.read_unread, h4.read_unread, h6.read_unread]
  rw [View.canon_unit_zero (S := S1024x1024) hz]
  unfold k0_pay2 two
  pointwise

/-- So does the last point, -/
theorem last (g0) (g1) (g2) (r k : Fin 1024) :
    sout0_C_0 c i a3 h3 a4 h4 a5 h5 a6 h6 g0 g1 g2 x w acc (ix2 r k) = acc (ix2 r k) + two x w r k := by
  unfold sout0_C_0
  rw [View.read_writes_eq_canon _ _ _ (scover0_C_0 c i a3 h3 a4 h4 a5 h5 a6 h6 g0 g1 g2 x w acc)]
  unfold kernelRun0_C
  dsimp only
  sl_unfold_words
  simp only [View.readAt_eq_ld, h3.read_unread, h4.read_unread, h6.read_unread]
  rw [View.canon_unit_zero (S := S1024x1024) hz]
  unfold k0_pay2 two
  pointwise

/-- and it writes the sum to the result's block. -/
theorem written (g0) (g1) (g2) (r k : Fin 1024) :
    out0_C_2 c i a3 h3 a4 h4 a5 h5 a6 h6 g0 g1 g2 x w acc (ix2 r k) = acc (ix2 r k) + two x w r k := by
  unfold out0_C_2
  rw [View.read_writes_eq_canon _ _ _ (cover0_C_2 c i a3 h3 a4 h4 a5 h5 a6 h6 g0 g1 g2 x w acc)]
  unfold kernelRun0_C
  dsimp only
  sl_unfold_words
  simp only [View.readAt_eq_ld, h3.read_unread, h4.read_unread, h6.read_unread]
  rw [View.canon_unit_zero (S := S1024x1024) hz, View.readCov_unit_zero (S := S1024x1024) _ hz]
  unfold k0_pay2 two
  pointwise

end block

/-- The two blocks' part at a grid point. -/
theorem two_eq (t : Fin cfg0.N) (r k : Fin 1024) : two (iblk m c 0 t) (iblk m c 1 t) r k
    = back (argW m c) (argD m c) (1024 * (t.val / 8) + r.val) (1024 * (t.val / 4 % 2) + k.val) (2 * (t.val % 4))
      + back (argW m c) (argD m c) (1024 * (t.val / 8) + r.val) (1024 * (t.val / 4 % 2) + k.val) (2 * (t.val % 4) + 1) := by
  refine congrArg₂ (· + ·) (back_of_blocks _ _ _ _ (fun q => ?_) fun q => blk1 m c t 0 k q)
    (back_of_blocks _ _ _ _ (fun q => ?_) fun q => blk1 m c t 1 k q)
  · rw [blk0]; exact congrArg _ (by show 2816 * _ + q.val = _; omega)
  · rw [blk0]; exact congrArg _ (by show 2816 * _ + (1408 + q.val) = _; omega)

/-- After a grid point the scratch buffer, and after the last of its run the result's block, holds the sum over the blocks so far. -/
theorem after_eq (n : Nat) : ∀ (h : n < cfg0.N) (r k : Fin 1024), ((outsAt0 m c n h).2 (ix2 r k)
    = ∑ j ∈ Finset.range (2 * (n % 4) + 2), back (argW m c) (argD m c) (1024 * (n / 8) + r.val) (1024 * (n / 4 % 2) + k.val) j)
    ∧ (n % 4 = 3 → (outsAt0 m c n h).1 (ix2 r k) = (outsAt0 m c n h).2 (ix2 r k)) := by
  induction n using Nat.strong_induction_on with
  | _ n ih =>
    intro h r k
    rw [Finset.sum_range_succ, Finset.sum_range_succ, add_assoc]
    have T := two_eq m c ⟨n, h⟩ r k
    dsimp only at T
    rw [← T]
    by_cases h0 : n % 4 = 0
    · rw [outsAt0_A m c ⟨n, h⟩ h0 (show ¬1 ≤ n % 4 by omega) (show ¬n % 4 = 3 by omega)]
      dsimp only
      refine ⟨?_, fun h3 => by omega⟩
      rw [first, h0, Finset.sum_range_zero, zero_add]
    · have I := (ih (n - 1) (by omega) (by omega) r k).1
      rw [show 2 * ((n - 1) % 4) + 2 = 2 * (n % 4) by omega, show (n - 1) / 8 = n / 8 by omega, show (n - 1) / 4 = n / 4 by omega] at I
      rw [← I]
      by_cases h3 : n % 4 = 3
      · rw [outsAt0_C m c ⟨n, h⟩ h0 (show 1 ≤ n % 4 by omega) h3]
        dsimp only
        rw [last, written]
        exact ⟨rfl, fun _ => rfl⟩
      · rw [outsAt0_B m c ⟨n, h⟩ h0 (show 1 ≤ n % 4 by omega) h3]
        dsimp only
        rw [later]
        exact ⟨rfl, fun h => absurd h h3⟩

/-- What the last point of a run writes is its block of the operand's gradient. -/
theorem flushed (t : Fin cfg0.N) (hf : t.val % 4 = 3) : (dats m 0 c).flushed 2 t = ((cfg0.win 2).blk t).view.read (Elt Ideal) (res m c) := by
  rw [flushed2]
  funext j
  rw [View.read_apply]
  have e := (idx_eq t).2.2
  have h0 : (j 0).val < 1024 := (j 0).isLt
  have h1 : (j 1).val < 1024 := (j 1).isLt
  refine Eq.trans (b := (outsAt0 m c t.val t.isLt).1 (ix2 ⟨(j 0).val, h0⟩ ⟨(j 1).val, h1⟩)) ?_ ?_
  · exact congrArg (outsAt0 m c t.val t.isLt).1 (funext fun a => match a with | 0 => rfl | 1 => rfl)
  · have A := after_eq m c t.val t.isLt ⟨(j 0).val, h0⟩ ⟨(j 1).val, h1⟩
    rw [A.2 hf, A.1, hf]
    dsimp only
    refine operandGrad_at (argW m c) (argD m c) (((cfg0.win 2).blk t).view.emb j) ?_ ?_
    · show win0_2.index t 0 * 1024 + 1 * (j 0).val = _; omega
    · show win0_2.index t 1 * 1024 + 1 * (j 1).val = _; omega

/-- The kernel's result array is the operand's gradient. -/
theorem final : (dats m 0 c).arrAt 2 cfg0.N = res m c :=
  (dats m 0 c).arrAt_eq_of_cover 2 (res m c) (fun t hf => flushed m c t ((flush0_2 t).mp hf)) fun i => (covered_iff2 i).2 (by
    have h0 : (i 0).val < 2048 := (i 0).isLt; have h1 : (i 1).val < 2048 := (i 1).isLt; omega)

end Cert.UpDxIdeal.Product

namespace Cert.UpDxRefIdeal.Product

open Cert.UpDxRefIdeal Cert.UpDxRefIdeal.Gen Cert.UpDxRefIdeal.Read Idealize.ShloMosaic Idealize.ShloMosaic.Tactic
open Cert.Product

/-- The reference's result is the operand's gradient. -/
theorem final (d : Vec Ideal S2048x11264 .bf16) (w : Vec Ideal S8x2048x1408 .bf16) : val_main_v6 d w = operandGrad w d := by
  funext i
  refine (congrArg _ (idx2 i)).trans ?_
  unfold val_main_v6 val_main_v5 val_main_v3 val_main_v2 val_main_v1
  pointwise
  exact back_of_rows w d _ _ rfl (fun c => mat_at d _ rfl rfl) fun c => cube_at w _ rfl rfl rfl

end Cert.UpDxRefIdeal.Product
-- ==== Proof.OutDw.lean ====
module

public import proofs.«01_k».proof.Proof.Product
public import proofs.«01_k».proof.Proof.Gen.OutDwIdeal.Value
public import proofs.«01_k».proof.Proof.Gen.OutDwRefIdeal.Read

@[expose] public section

set_option maxRecDepth 16384

noncomputable section

/- The gradient at the weight of the projection of the mixed columns back to the
    model's width: what the kernel's result array and the
    reference's hold. The kernel keeps the transposed columns of the operand in a scratch buffer. -/

namespace Cert.OutDwIdeal.Product

open Cert.OutDwIdeal Cert.OutDwIdeal.Gen Cert.OutDwIdeal.Value Idealize.ShloMosaic Idealize.ShloMosaic.TcCoe Idealize.ShloMosaic.Tactic Idealize.SL.Sem
open Cert.Product
open Idealize.ShloMosaic.Pipeline (Dat)
open scoped BigOperators

variable (m : (ℓ : Loc nD τ sig) → Buf (Elt Ideal) ℓ) (c : Dev nD)

abbrev argX : Mat 2048 2048 := m ((c : Thread nD τ).loc main_arg0)
abbrev argD : Mat 2048 2048 := m ((c : Thread nD τ).loc main_arg1)
abbrev res : Buf (Elt Ideal) ((c : Thread nD τ).loc main_v0) := weightGrad (argX m c) (argD m c) 1 2048

/-- Which block of each array a grid point works on. -/
theorem idx_eq : ∀ t : Fin grid0.N,
    (win0_0.index t 0 = 0 ∧ win0_0.index t 1 = t.val / 2) ∧
    (win0_1.index t 0 = 0 ∧ win0_1.index t 1 = t.val % 2) ∧
    win0_2.index t 0 = 0 ∧ win0_2.index t 1 = t.val / 2 ∧ win0_2.index t 2 = t.val % 2 := by decide +kernel

theorem blk0 (t : Fin cfg0.N) (s : Fin 2048) (k : Fin 1024) :
    iblk m c 0 t (ix2 s k) = mat (argX m c) s.val (1024 * (t.val / 2) + k.val) := by
  have e := (idx_eq t).1
  refine mat_at (argX m c) (((cfg0.win 0).blk t).view.emb (ix2 s k)) ?_ ?_
  · show win0_0.index t 0 * 2048 + 1 * s.val = _; omega
  · show win0_0.index t 1 * 1024 + 1 * k.val = _; omega

theorem blk1 (t : Fin cfg0.N) (s : Fin 2048) (q : Fin 1024) :
    iblk m c 1 t (ix2 s q) = mat (argD m c) s.val (1024 * (t.val % 2) + q.val) := by
  have e := (idx_eq t).2.1
  refine mat_at (argD m c) (((cfg0.win 1).blk t).view.emb (ix2 s q)) ?_ ?_
  · show win0_1.index t 0 * 2048 + 1 * s.val = _; omega
  · show win0_1.index t 1 * 1024 + 1 * q.val = _; omega

section block
variable {i : grid0.Coords}
  {a3 : Memref sig .tc .vmem S2048x1024 .bf16} {h3 : a3.IsWhole} {a4 : Memref sig .tc .vmem S2048x1024 .bf16} {h4 : a4.IsWhole}
  {a5 : Memref sig .tc .vmem S1x1024x1024 .bf16} {h5 : a5.IsWhole} {a6 : Memref sig .tc .vmem S1024x2048 .bf16} {h6 : a6.IsWhole}
  {x : Vec Ideal S2048x1024 .bf16} {d : Vec Ideal S2048x1024 .bf16} {xt : Vec Ideal S1024x2048 .bf16}

theorem hz2 : (![0, 0] : Fin 2 → Nat) = fun _ => 0 := by decide

theorem hz3 : (![0, 0, 0] : Fin 3 → Nat) = fun _ => 0 := by decide

/-- The first point of a run keeps the operand's columns as rows. -/
theorem kept (g) (k : Fin 1024) (s : Fin 2048) : sout0_A_0 c i a3 h3 a4 h4 a5 h5 a6 h6 g x d (ix2 k s) = x (ix2 s k) := by
  unfold sout0_A_0
  rw [View.read_writes_eq_canon _ _ _ (scover0_A_0 c i a3 h3 a4 h4 a5 h5 a6 h6 g x d)]
  unfold kernelRun0_A
  dsimp only
  sl_unfold_words
  simp only [View.readAt_eq_ld, h3.read_unread, h4.read_unread, h6.read_unread]
  rw [View.canon_unit_zero (S := S1024x2048) hz2]
  unfold k0_pay1
  pointwise

/-- It writes the product of these rows with the gradient's columns; -/
theorem written_first (g) (k : Fin 1024) (q : Fin 1024) :
    out0_A_2 c i a3 h3 a4 h4 a5 h5 a6 h6 g x d (ix3 0 k q) = ∑ s : Fin 2048, x (ix2 s k) * d (ix2 s q) := by
  unfold out0_A_2
  rw [View.read_writes_eq_canon _ _ _ (cover0_A_2 c i a3 h3 a4 h4 a5 h5 a6 h6 g x d)]
  unfold kernelRun0_A
  dsimp only
  sl_unfold_words
  simp only [View.readAt_eq_ld, h3.read_unread, h4.read_unread, h6.read_unread]
  rw [View.canon_unit_zero (S := S1x1024x1024) hz3, View.readCov_unit_zero (S := S1024x2048) _ hz2]
  unfold k0_pay2 k0_pay1
  pointwise

/-- so does a later point, with the rows kept. -/
theorem written_later (g) (k : Fin 1024) (q : Fin 1024) :
    out0_B_2 c i a3 h3 a4 h4 a5 h5 a6 h6 g x d xt (ix3 0 k q) = ∑ s : Fin 2048, xt (ix2 k s) * d (ix2 s q) := by
  unfold out0_B_2
  rw [View.read_writes_eq_canon _ _ _ (cover0_B_2 c i a3 h3 a4 h4 a5 h5 a6 h6 g x d xt)]
  unfold kernelRun0_B
  dsimp only
  sl_unfold_words
  simp only [View.readAt_eq_ld, h3.read_unread, h4.read_unread, h6.read_unread]
  rw [View.canon_unit_zero (S := S1x1024x1024) hz3]
  unfold k0_pay2
  pointwise

end block

/-- Every point finds in the scratch buffer, or leaves there, its columns of the operand as rows. -/
theorem rows_eq (n : Nat) : ∀ (h : n < cfg0.N) (k : Fin 1024) (s : Fin 2048),
    (outsAt0 m c n h).2 (ix2 k s) = mat (argX m c) s.val (1024 * (n / 2) + k.val) := by
  induction n using Nat.strong_induction_on with
  | _ n ih =>
    intro h k s
    by_cases h0 : n % 2 = 0
    · rw [outsAt0_A m c ⟨n, h⟩ h0]
      dsimp only
      rw [kept, blk0]
    · rw [outsAt0_B m c ⟨n, h⟩ h0]
      dsimp only
      unfold sout0_B_0
      rw [ih (n - 1) (by omega), show (n - 1) / 2 = n / 2 by omega]

/-- What a grid point writes is its block of the weight's gradient. -/
theorem written (t : Fin cfg0.N) (k : Fin 1024) (q : Fin 1024) :
    (outsAt0 m c t.val t.isLt).1 (ix3 0 k q) = grad (argX m c) (argD m c) (1024 * (t.val / 2) + k.val) (1024 * (t.val % 2) + q.val) := by
  by_cases h0 : t.val % 2 = 0
  · rw [outsAt0_A m c t h0]
    dsimp only
    rw [written_first]
    exact grad_of_blocks _ _ _ _ (fun s => blk0 m c t s k) fun s => blk1 m c t s q
  · rw [outsAt0_B m c t h0]
    dsimp only
    rw [written_later]
    refine grad_of_blocks _ _ _ _ (fun s => ?_) fun s => blk1 m c t s q
    rw [rows_eq, show (t.val - 1) / 2 = t.val / 2 by omega]

theorem flushed (t : Fin cfg0.N) : (dats m 0 c).flushed 2 t = ((cfg0.win 2).blk t).view.read (Elt Ideal) (res m c) := by
  rw [flushed2]
  funext j
  rw [View.read_apply]
  have e := (idx_eq t).2.2
  have h0 : (j 0).val < 1 := (j 0).isLt
  have h1 : (j 1).val < 1024 := (j 1).isLt
  have h2 : (j 2).val < 1024 := (j 2).isLt
  refine Eq.trans (b := (outsAt0 m c t.val t.isLt).1 (ix3 0 ⟨(j 1).val, h1⟩ ⟨(j 2).val, h2⟩)) ?_ ?_
  · exact congrArg (outsAt0 m c t.val t.isLt).1 (funext fun a => match a with
      | 0 => Fin.ext (by show (j 0).val = 0; omega)
      | 1 => rfl
      | 2 => rfl)
  · rw [written]
    dsimp only
    refine weightGrad_at (argX m c) (argD m c) (((cfg0.win 2).blk t).view.emb j) ?_ ?_
    · show win0_2.index t 1 * 1024 + 1 * (j 1).val = _; omega
    · show 2048 * (win0_2.index t 0 * 1 + 1 * (j 0).val) + (win0_2.index t 2 * 1024 + 1 * (j 2).val) = _; omega

/-- The kernel's result array is the weight's gradient. -/
theorem final : (dats m 0 c).arrAt 2 cfg0.N = res m c :=
  (dats m 0 c).arrAt_eq_of_cover 2 (res m c) (fun t _ => flushed m c t) fun i => (covered_iff2 i).2 (by
    have h0 : (i 0).val < 1 := (i 0).isLt
    have h1 : (i 1).val < 2048 := (i 1).isLt
    have h2 : (i 2).val < 2048 := (i 2).isLt
    omega)

end Cert.OutDwIdeal.Product

namespace Cert.OutDwRefIdeal.Product

open Cert.OutDwRefIdeal Cert.OutDwRefIdeal.Gen Cert.OutDwRefIdeal.Read Idealize.ShloMosaic Idealize.ShloMosaic.Tactic
open Cert.Product

/-- The reference's result is the weight's gradient. -/
theorem final (x : Vec Ideal S2048x2048 .bf16) (d : Vec Ideal S2048x2048 .bf16) : val_main_v10 x d = weightGrad x d 1 2048 := by
  funext i
  refine (congrArg _ (idx3 i)).trans ?_
  unfold val_main_v10 val_main_v9 val_main_v8 val_main_v7 val_main_v6 val_main_v5 val_main_v1
  pointwise
  exact (Finset.sum_congr rfl fun _ _ => mul_comm _ _).trans (grad_of_blocks x d _ _ (fun s => mat_at x _ rfl rfl)
    fun s => mat_at d _ rfl (by
      have h : (i 0).val < 1 := (i 0).isLt
      show (i 2).val = 2048 * (i 0).val + (i 2).val
      omega))

end Cert.OutDwRefIdeal.Product
-- ==== Proof.OutDx.lean ====
module

public import proofs.«01_k».proof.Proof.Product
public import proofs.«01_k».proof.Proof.Gen.OutDxIdeal.Value
public import proofs.«01_k».proof.Proof.Gen.OutDxRefIdeal.Read

@[expose] public section

set_option maxRecDepth 16384

noncomputable section

/-! The gradient at the operand of the projection of the mixed columns back to the model's width: what the kernel's result
    array and the reference's hold. -/

namespace Cert.OutDxIdeal.Product

open Cert.OutDxIdeal Cert.OutDxIdeal.Gen Cert.OutDxIdeal.Value Idealize.ShloMosaic Idealize.ShloMosaic.TcCoe Idealize.ShloMosaic.Tactic Idealize.SL.Sem
open Cert.Product
open Idealize.ShloMosaic.Pipeline (Dat)

variable (m : (ℓ : Loc nD τ sig) → Buf (Elt Ideal) ℓ) (c : Dev nD)

abbrev argD : Mat 2048 2048 := m ((c : Thread nD τ).loc main_arg0)
abbrev argW : Cube 1 2048 2048 := m ((c : Thread nD τ).loc main_arg1)
abbrev res : Buf (Elt Ideal) ((c : Thread nD τ).loc main_v0) := operandGrad (argW m c) (argD m c)

/-- Which block of each array a grid point works on. -/
theorem idx_eq : ∀ t : Fin grid0.N,
    (win0_0.index t 0 = t.val / 2 ∧ win0_0.index t 1 = 0) ∧
    (win0_1.index t 0 = 0 ∧ win0_1.index t 1 = t.val % 2 ∧ win0_1.index t 2 = 0) ∧
    win0_2.index t 0 = t.val / 2 ∧ win0_2.index t 1 = t.val % 2 := by decide +kernel

theorem blk0 (t : Fin cfg0.N) (r : Fin 1024) (q : Fin 2048) :
    iblk m c 0 t (ix2 r q) = mat (argD m c) (1024 * (t.val / 2) + r.val) (2048 * 0 + q.val) := by
  have e := (idx_eq t).1
  refine mat_at (argD m c) (((cfg0.win 0).blk t).view.emb (ix2 r q)) ?_ ?_
  · show win0_0.index t 0 * 1024 + 1 * r.val = _; omega
  · show win0_0.index t 1 * 2048 + 1 * q.val = _; omega

theorem blk1 (t : Fin cfg0.N) (k : Fin 1024) (q : Fin 2048) :
    iblk m c 1 t (ix3 0 k q) = cube (argW m c) 0 (1024 * (t.val % 2) + k.val) q.val := by
  have e := (idx_eq t).2.1
  refine cube_at (argW m c) (((cfg0.win 1).blk t).view.emb (ix3 0 k q)) ?_ ?_ ?_
  · show win0_1.index t 0 * 1 + 1 * 0 = _; omega
  · show win0_1.index t 1 * 1024 + 1 * k.val = _; omega
  · show win0_1.index t 2 * 2048 + 1 * q.val = _; omega

theorem pay (d : Vec Ideal S1024x2048 .bf16) (w : Vec Ideal S1x1024x2048 .bf16) (r : Fin 1024) (k : Fin 1024) :
    out0_2 d w (ix2 r k) = ∑ q : Fin 2048, d (ix2 r q) * w (ix3 0 k q) := by
  unfold out0_2
  rw [View.canon_unit_zero (by decide)]
  unfold k0_pay1
  pointwise

/-- What a grid point writes is its block of the operand's gradient. -/
theorem flushed (t : Fin cfg0.N) : (dats m 0 c).flushed 2 t = ((cfg0.win 2).blk t).view.read (Elt Ideal) (res m c) := by
  rw [flushed2]
  funext j
  rw [View.read_apply]
  have e := (idx_eq t).2.2
  have h0 : (j 0).val < 1024 := (j 0).isLt
  have h1 : (j 1).val < 1024 := (j 1).isLt
  have k0 : ((((cfg0.win 2).blk t).view.emb j : S2048x2048.Idx) 0).val = 1024 * (t.val / 2) + (j 0).val := by
    show win0_2.index t 0 * 1024 + 1 * (j 0).val = _; omega
  have k1 : ((((cfg0.win 2).blk t).view.emb j : S2048x2048.Idx) 1).val = 1024 * (t.val % 2) + (j 1).val := by
    show win0_2.index t 1 * 1024 + 1 * (j 1).val = _; omega
  refine Eq.trans (b := out0_2 (iblk m c 0 t) (iblk m c 1 t) (ix2 ⟨(j 0).val, h0⟩ ⟨(j 1).val, h1⟩)) ?_ ?_
  · exact congrArg (out0_2 (iblk m c 0 t) (iblk m c 1 t)) (funext fun a => match a with | 0 => rfl | 1 => rfl)
  · rw [pay]
    exact (back_of_blocks (argW m c) (argD m c) _ _ (fun q => blk0 m c t _ q) fun q => blk1 m c t _ q).trans (operandGrad_one _ _ _ k0 k1)

theorem cover (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  have ht : 2 * ((i 0).val / 1024) + (i 1).val / 1024 < cfg0.N := by rw [show cfg0.N = 4 from N_0]; omega
  generalize ht' : (⟨2 * ((i 0).val / 1024) + (i 1).val / 1024, ht⟩ : Fin cfg0.N) = t
  have hv : t.val = 2 * ((i 0).val / 1024) + (i 1).val / 1024 := by rw [← ht']
  have e := (idx_eq t).2.2
  refine ⟨t, flush0_2 t, ?_⟩
  show i ∈ ((View.whole main_v0).slice (win0_2.rect t)).set
  rw [View.set_slice_whole, Rect.mem_set_unit]
  intro a
  match a with
  | 0 => show win0_2.index t 0 * 1024 ≤ (i 0).val ∧ (i 0).val < win0_2.index t 0 * 1024 + 1024; omega
  | 1 => show win0_2.index t 1 * 1024 ≤ (i 1).val ∧ (i 1).val < win0_2.index t 1 * 1024 + 1024; omega

/-- The kernel's result array is the operand's gradient. -/
theorem final : (dats m 0 c).arrAt 2 cfg0.N = res m c :=
  (dats m 0 c).arrAt_eq_of_cover 2 (res m c) (fun t _ => flushed m c t) cover

end Cert.OutDxIdeal.Product

namespace Cert.OutDxRefIdeal.Product

open Cert.OutDxRefIdeal Cert.OutDxRefIdeal.Gen Cert.OutDxRefIdeal.Read Idealize.ShloMosaic Idealize.ShloMosaic.Tactic
open Cert.Product

/-- The reference's result is the operand's gradient. -/
theorem final (d : Vec Ideal S2048x2048 .bf16) (w : Vec Ideal S1x2048x2048 .bf16) : val_main_v6 d w = operandGrad w d := by
  funext i
  refine (congrArg _ (idx2 i)).trans ?_
  unfold val_main_v6 val_main_v5 val_main_v3 val_main_v2 val_main_v1
  pointwise
  exact (back_of_blocks w d _ _ (fun q => mat_at d _ rfl (Nat.zero_add _).symm) fun q => cube_at w _ rfl rfl rfl).trans
    (operandGrad_one d w i rfl rfl)

end Cert.OutDxRefIdeal.Product
-- ==== Proof.InDw.lean ====
module

public import proofs.«01_k».proof.Proof.Product
public import proofs.«01_k».proof.Proof.Gen.InDwIdeal.Value
public import proofs.«01_k».proof.Proof.Gen.InDwRefIdeal.Read

@[expose] public section

set_option maxRecDepth 16384

noncomputable section

/-! The gradient at the weight of the projection into the columns to be mixed: what the kernel's result array and the
    reference's hold. The kernel keeps the transposed columns of the operand in a scratch buffer. -/

namespace Cert.InDwIdeal.Product

open Cert.InDwIdeal Cert.InDwIdeal.Gen Cert.InDwIdeal.Value Idealize.ShloMosaic Idealize.ShloMosaic.TcCoe Idealize.ShloMosaic.Tactic Idealize.SL.Sem
open Cert.Product
open Idealize.ShloMosaic.Pipeline (Dat)
open scoped BigOperators

variable (m : (ℓ : Loc nD τ sig) → Buf (Elt Ideal) ℓ) (c : Dev nD)

abbrev argX : Mat 2048 2048 := m ((c : Thread nD τ).loc main_arg0)
abbrev argD : Mat 2048 3072 := m ((c : Thread nD τ).loc main_arg1)
abbrev res : Buf (Elt Ideal) ((c : Thread nD τ).loc main_v0) := weightGrad (argX m c) (argD m c) 8 384

/-- Which block of each array a grid point works on. -/
theorem idx_eq : ∀ t : Fin grid0.N,
    (win0_0.index t 0 = 0 ∧ win0_0.index t 1 = t.val / 2) ∧
    (win0_1.index t 0 = 0 ∧ win0_1.index t 1 = t.val % 2) ∧
    win0_2.index t 0 = t.val % 2 ∧ win0_2.index t 1 = t.val / 2 ∧ win0_2.index t 2 = 0 := by decide +kernel

theorem blk0 (t : Fin cfg0.N) (s : Fin 2048) (k : Fin 1024) :
    iblk m c 0 t (ix2 s k) = mat (argX m c) s.val (1024 * (t.val / 2) + k.val) := by
  have e := (idx_eq t).1
  refine mat_at (argX m c) (((cfg0.win 0).blk t).view.emb (ix2 s k)) ?_ ?_
  · show win0_0.index t 0 * 2048 + 1 * s.val = _; omega
  · show win0_0.index t 1 * 1024 + 1 * k.val = _; omega

theorem blk1 (t : Fin cfg0.N) (s : Fin 2048) (q : Fin 1536) :
    iblk m c 1 t (ix2 s q) = mat (argD m c) s.val (1536 * (t.val % 2) + q.val) := by
  have e := (idx_eq t).2.1
  refine mat_at (argD m c) (((cfg0.win 1).blk t).view.emb (ix2 s q)) ?_ ?_
  · show win0_1.index t 0 * 2048 + 1 * s.val = _; omega
  · show win0_1.index t 1 * 1536 + 1 * q.val = _; omega

section block
variable {i : grid0.Coords}
  {a3 : Memref sig .tc .vmem S2048x1024 .bf16} {h3 : a3.IsWhole} {a4 : Memref sig .tc .vmem S2048x1536 .bf16} {h4 : a4.IsWhole}
  {a5 : Memref sig .tc .vmem S4x1024x384 .bf16} {h5 : a5.IsWhole} {a6 : Memref sig .tc .vmem S1024x2048 .bf16} {h6 : a6.IsWhole}
  {x : Vec Ideal S2048x1024 .bf16} {d : Vec Ideal S2048x1536 .bf16} {xt : Vec Ideal S1024x2048 .bf16}

theorem hz2 : (![0, 0] : Fin 2 → Nat) = fun _ => 0 := by decide

theorem hz3 : (![0, 0, 0] : Fin 3 → Nat) = fun _ => 0 := by decide

/-- The operand's columns as rows. -/
theorem turned (k : Fin 1024) (s : Fin 2048) : k0_pay2 (F := Ideal) x (ix2 k s) = x (ix2 s k) := by
  unfold k0_pay2
  pointwise

/-- The first point of a run keeps the operand's columns as rows. -/
theorem kept (g) (k : Fin 1024) (s : Fin 2048) : sout0_A_0 c i a3 h3 a4 h4 a5 h5 a6 h6 g x d (ix2 k s) = x (ix2 s k) := by
  unfold sout0_A_0
  rw [View.read_writes_eq_canon _ _ _ (scover0_A_0 c i a3 h3 a4 h4 a5 h5 a6 h6 g x d)]
  unfold kernelRun0_A
  dsimp only
  sl_unfold_words
  simp only [View.readAt_eq_ld, h3.read_unread, h4.read_unread, h6.read_unread, View.ld_unit_zero (S := S2048x1024) hz2]
  rw [View.canon_unit_zero (S := S1024x2048) hz2, turned]

/-- Four blocks of the product of rows `xt` with the columns of `d`. -/
def four (xt : Vec Ideal S1024x2048 .bf16) (d : Vec Ideal S2048x1536 .bf16) : Vec Ideal S4x1024x384 .bf16 := fun i =>
  ∑ s : Fin 2048, xt (ix2 (i 1) s) * d (ix2 s ⟨384 * (i 0).val + (i 2).val, by
    have h0 : (i 0).val < 4 := (i 0).isLt
    have h2 : (i 2).val < 384 := (i 2).isLt
    omega⟩)

theorem four_at (xt : Vec Ideal S1024x2048 .bf16) (d : Vec Ideal S2048x1536 .bf16) (k : Fin 1024) (i : S4x1024x384.Idx)
    (f : Fin 2048 → Fin 1536) (h1 : (i 1).val = 0 + 1 * k.val) (hf : ∀ s, (f s).val = 384 * (i 0).val + (i 2).val) :
    ∑ s : Fin 2048, xt (ix2 k s) * d (ix2 s (f s)) = four xt d i := by
  refine Finset.sum_congr rfl fun s _ => congrArg₂ (· * ·) (congrArg xt (congrArg (fun k => ix2 k s) (Fin.ext ?_)))
    (congrArg d (congrArg (fun q => ix2 s q) (Fin.ext (hf s))))
  omega

/-- The four stores of a grid point, in any contents of the result's buffer. -/
theorem stores (xt : Vec Ideal S1024x2048 .bf16) (d : Vec Ideal S2048x1536 .bf16) : View.canon
    [(⟨Rect.unit (s := S4x1024x384) ![3, 0, 0] S1x1024x384.size inb_S4x1024x384_S1x1024x384_3_0_0,
        k0_pay1 xt (View.ld d (Rect.unit (s := S2048x1536) ![0, 1152] S2048x384.size inb_S2048x1536_S2048x384_0_1152))⟩ : View.Piece (Elt Ideal) S4x1024x384 .bf16),
      ⟨Rect.unit (s := S4x1024x384) ![2, 0, 0] S1x1024x384.size inb_S4x1024x384_S1x1024x384_2_0_0,
        k0_pay5 xt (View.ld d (Rect.unit (s := S2048x1536) ![0, 768] S2048x384.size inb_S2048x1536_S2048x384_0_768))⟩,
      ⟨Rect.unit (s := S4x1024x384) ![1, 0, 0] S1x1024x384.size inb_S4x1024x384_S1x1024x384_1_0_0,
        k0_pay4 xt (View.ld d (Rect.unit (s := S2048x1536) ![0, 384] S2048x384.size inb_S2048x1536_S2048x384_0_384))⟩,
      ⟨Rect.unit (s := S4x1024x384) ![0, 0, 0] S1x1024x384.size inb_S4x1024x384_S1x1024x384_0_0_0,
        k0_pay3 xt (View.ld d (Rect.unit (s := S2048x1536) ![0, 0] S2048x384.size inb_S2048x1536_S2048x384_0_0))⟩] = four xt d := by
  funext y
  refine View.canon_apply_of_pieces (Val := Elt Ideal) (e := .bf16) (four xt d) _ (fun p hp => ?_) y ?_
  rotate_left
  · exact View.cover_of_tiled (s := S4x1024x384) _ S1x1024x384.size (by rfl) y
  simp only [List.mem_cons, List.not_mem_nil, or_false] at hp
  rcases hp with rfl | rfl | rfl | rfl
  all_goals
    intro z
    have z0 : (z 0).val < 1 := (z 0).isLt
    refine (congrArg _ (idx3 z)).trans ?_
  · unfold k0_pay1; pointwise
    exact four_at xt d (z 1) _ _ rfl fun s => by show 1152 + (z 2).val = 384 * (3 + 1 * (z 0).val) + (0 + 1 * (z 2).val); omega
  · unfold k0_pay5; pointwise
    exact four_at xt d (z 1) _ _ rfl fun s => by show 768 + (z 2).val = 384 * (2 + 1 * (z 0).val) + (0 + 1 * (z 2).val); omega
  · unfold k0_pay4; pointwise
    exact four_at xt d (z 1) _ _ rfl fun s => by show 384 + (z 2).val = 384 * (1 + 1 * (z 0).val) + (0 + 1 * (z 2).val); omega
  · unfold k0_pay3; pointwise
    exact four_at xt d (z 1) _ _ rfl fun s => by show (z 2).val = 384 * (0 + 1 * (z 0).val) + (0 + 1 * (z 2).val); omega

/-- The first point of a run writes four blocks of the product of these rows with the gradient's columns; -/
theorem written_first (g) : out0_A_2 c i a3 h3 a4 h4 a5 h5 a6 h6 g x d = four (k0_pay2 (F := Ideal) x) d := by
  unfold out0_A_2
  rw [View.read_writes_eq_canon _ _ _ (cover0_A_2 c i a3 h3 a4 h4 a5 h5 a6 h6 g x d)]
  unfold kernelRun0_A
  dsimp only
  sl_unfold_words
  simp only [View.readAt_eq_ld, h3.read_unread, h4.read_unread, h6.read_unread, View.ld_unit_zero (S := S2048x1024) hz2]
  rw [View.readCov_unit_zero (S := S1024x2048) _ hz2]
  exact stores _ d

/-- so does a later point, with the rows kept. -/
theorem written_later (g) : out0_B_2 c i a3 h3 a4 h4 a5 h5 a6 h6 g x d xt = four xt d := by
  unfold out0_B_2
  rw [View.read_writes_eq_canon _ _ _ (cover0_B_2 c i a3 h3 a4 h4 a5 h5 a6 h6 g x d xt)]
  unfold kernelRun0_B
  dsimp only
  sl_unfold_words
  simp only [View.readAt_eq_ld, h3.read_unread, h4.read_unread, h6.read_unread, View.ld_unit_zero (S := S1024x2048) hz2]
  exact stores xt d

end block

/-- Every point finds in the scratch buffer, or leaves there, its columns of the operand as rows. -/
theorem rows_eq (n : Nat) : ∀ (h : n < cfg0.N) (k : Fin 1024) (s : Fin 2048),
    (outsAt0 m c n h).2 (ix2 k s) = mat (argX m c) s.val (1024 * (n / 2) + k.val) := by
  induction n using Nat.strong_induction_on with
  | _ n ih =>
    intro h k s
    by_cases h0 : n % 2 = 0
    · rw [outsAt0_A m c ⟨n, h⟩ h0]
      dsimp only
      rw [kept, blk0]
    · rw [outsAt0_B m c ⟨n, h⟩ h0]
      dsimp only
      unfold sout0_B_0
      rw [ih (n - 1) (by omega), show (n - 1) / 2 = n / 2 by omega]

/-- What a grid point writes is its blocks of the weight's gradient. -/
theorem written (t : Fin cfg0.N) (j : Fin 4) (k : Fin 1024) (q : Fin 384) : (outsAt0 m c t.val t.isLt).1 (ix3 j k q)
    = grad (argX m c) (argD m c) (1024 * (t.val / 2) + k.val) (1536 * (t.val % 2) + (384 * j.val + q.val)) := by
  by_cases h0 : t.val % 2 = 0
  · rw [outsAt0_A m c t h0]
    dsimp only
    rw [written_first]
    exact grad_of_blocks _ _ _ _ (fun s => (turned k s).trans (blk0 m c t s k)) fun s => blk1 m c t s ⟨_, _⟩
  · rw [outsAt0_B m c t h0]
    dsimp only
    rw [written_later]
    refine grad_of_blocks _ _ _ _ (fun s => ?_) fun s => blk1 m c t s ⟨_, _⟩
    refine (rows_eq m c (t.val - 1) _ k s).trans ?_
    rw [show (t.val - 1) / 2 = t.val / 2 by omega]

theorem flushed (t : Fin cfg0.N) : (dats m 0 c).flushed 2 t = ((cfg0.win 2).blk t).view.read (Elt Ideal) (res m c) := by
  rw [flushed2]
  funext j
  rw [View.read_apply]
  have e := (idx_eq t).2.2
  have h0 : (j 0).val < 4 := (j 0).isLt
  have h1 : (j 1).val < 1024 := (j 1).isLt
  have h2 : (j 2).val < 384 := (j 2).isLt
  refine Eq.trans (b := (outsAt0 m c t.val t.isLt).1 (ix3 ⟨(j 0).val, h0⟩ ⟨(j 1).val, h1⟩ ⟨(j 2).val, h2⟩)) ?_ ?_
  · exact congrArg (outsAt0 m c t.val t.isLt).1 (funext fun a => match a with | 0 => rfl | 1 => rfl | 2 => rfl)
  · rw [written]
    dsimp only
    refine weightGrad_at (argX m c) (argD m c) (((cfg0.win 2).blk t).view.emb j) ?_ ?_
    · show win0_2.index t 1 * 1024 + 1 * (j 1).val = _; omega
    · show 384 * (win0_2.index t 0 * 4 + 1 * (j 0).val) + (win0_2.index t 2 * 384 + 1 * (j 2).val) = _; omega

/-- The kernel's result array is the weight's gradient. -/
theorem final : (dats m 0 c).arrAt 2 cfg0.N = res m c :=
  (dats m 0 c).arrAt_eq_of_cover 2 (res m c) (fun t _ => flushed m c t) fun i => (covered_iff2 i).2 (by
    have h0 : (i 0).val < 8 := (i 0).isLt
    have h1 : (i 1).val < 2048 := (i 1).isLt
    have h2 : (i 2).val < 384 := (i 2).isLt
    omega)

end Cert.InDwIdeal.Product

namespace Cert.InDwRefIdeal.Product

open Cert.InDwRefIdeal Cert.InDwRefIdeal.Gen Cert.InDwRefIdeal.Read Idealize.ShloMosaic Idealize.ShloMosaic.Tactic
open Cert.Product

/-- The reference's result is the weight's gradient. -/
theorem final (x : Vec Ideal S2048x2048 .bf16) (d : Vec Ideal S2048x3072 .bf16) : val_main_v10 x d = weightGrad x d 8 384 := by
  funext i
  refine (congrArg _ (idx3 i)).trans ?_
  unfold val_main_v10 val_main_v9 val_main_v8 val_main_v7 val_main_v6 val_main_v5 val_main_v1
  pointwise
  exact (Finset.sum_congr rfl fun _ _ => mul_comm _ _).trans (grad_of_blocks x d _ _ (fun s => mat_at x _ rfl rfl)
    fun s => mat_at d _ rfl (congrArg (· + (i 2).val) (Nat.mul_comm _ _)))

end Cert.InDwRefIdeal.Product
-- ==== Proof.InDx.lean ====
module

public import proofs.«01_k».proof.Proof.Product
public import proofs.«01_k».proof.Proof.Gen.InDxIdeal.Value
public import proofs.«01_k».proof.Proof.Gen.InDxRefIdeal.Read

@[expose] public section

set_option maxRecDepth 16384

noncomputable section

/-! The gradient at the operand of the projection into the columns to be mixed: what the kernel's result
    array and the reference's hold. The kernel adds up the eight blocks of columns at each grid point. -/

namespace Cert.InDxIdeal.Product

open Cert.InDxIdeal Cert.InDxIdeal.Gen Cert.InDxIdeal.Value Idealize.ShloMosaic Idealize.ShloMosaic.TcCoe Idealize.ShloMosaic.Tactic Idealize.SL.Sem
open Cert.Product
open Idealize.ShloMosaic.Pipeline (Dat)

variable (m : (ℓ : Loc nD τ sig) → Buf (Elt Ideal) ℓ) (c : Dev nD)

abbrev argD : Mat 2048 3072 := m ((c : Thread nD τ).loc main_arg0)
abbrev argW : Cube 8 2048 384 := m ((c : Thread nD τ).loc main_arg1)
abbrev res : Buf (Elt Ideal) ((c : Thread nD τ).loc main_v0) := operandGrad (argW m c) (argD m c)

/-- Which block of each array a grid point works on. -/
theorem idx_eq : ∀ t : Fin grid0.N,
    (win0_0.index t 0 = t.val / 2 ∧ win0_0.index t 1 = 0) ∧
    (win0_1.index t 0 = 0 ∧ win0_1.index t 1 = t.val % 2 ∧ win0_1.index t 2 = 0) ∧
    win0_2.index t 0 = t.val / 2 ∧ win0_2.index t 1 = t.val % 2 := by decide +kernel

theorem blk0 (t : Fin cfg0.N) (r : Fin 1024) (q : Fin 3072) :
    iblk m c 0 t (ix2 r q) = mat (argD m c) (1024 * (t.val / 2) + r.val) q.val := by
  have e := (idx_eq t).1
  refine mat_at (argD m c) (((cfg0.win 0).blk t).view.emb (ix2 r q)) ?_ ?_
  · show win0_0.index t 0 * 1024 + 1 * r.val = _; omega
  · show win0_0.index t 1 * 3072 + 1 * q.val = _; omega

theorem blk1 (t : Fin cfg0.N) (j : Fin 8) (k : Fin 1024) (q : Fin 384) :
    iblk m c 1 t (ix3 j k q) = cube (argW m c) j.val (1024 * (t.val % 2) + k.val) q.val := by
  have e := (idx_eq t).2.1
  refine cube_at (argW m c) (((cfg0.win 1).blk t).view.emb (ix3 j k q)) ?_ ?_ ?_
  · show win0_1.index t 0 * 8 + 1 * j.val = _; omega
  · show win0_1.index t 1 * 1024 + 1 * k.val = _; omega
  · show win0_1.index t 2 * 384 + 1 * q.val = _; omega

/-- The part due to block `j` at a row and column of the kernel's blocks. -/
theorem part (d : Vec Ideal S1024x3072 .bf16) (w : Vec Ideal S8x1024x384 .bf16) (r k : Fin 1024) (j : Fin 8) (f : Fin 384 → Fin 3072)
    (hf : ∀ q, (f q).val = 384 * j.val + q.val) : ∑ q : Fin 384, d (ix2 r (f q)) * w (ix3 j k q) = back w d r.val k.val j.val :=
  back_of_blocks w d _ _ (fun q => mat_at d _ rfl (hf q)) fun q => cube_at w _ rfl rfl rfl

theorem pay (d : Vec Ideal S1024x3072 .bf16) (w : Vec Ideal S8x1024x384 .bf16) (r k : Fin 1024) :
    out0_2 d w (ix2 r k) = ∑ j : Fin 8, back w d r.val k.val j.val := by
  unfold out0_2
  rw [View.canon_unit_zero (by decide)]
  unfold k0_pay1 k0_pay2
  pointwise
  rw [Fin.sum_univ_eight]
  have P := part d w r k
  refine congrArg₂ (· + ·) (congrArg₂ (· + ·) (congrArg₂ (· + ·) (congrArg₂ (· + ·) (congrArg₂ (· + ·) (congrArg₂ (· + ·)
    (congrArg₂ (· + ·) (P 0 _ fun q => (Nat.zero_add _).symm) (P 1 _ fun q => rfl)) (P 2 _ fun q => rfl)) (P 3 _ fun q => rfl))
    (P 4 _ fun q => rfl)) (P 5 _ fun q => rfl)) (P 6 _ fun q => rfl)) (P 7 _ fun q => rfl)

/-- What a grid point writes is its block of the operand's gradient. -/
theorem flushed (t : Fin cfg0.N) : (dats m 0 c).flushed 2 t = ((cfg0.win 2).blk t).view.read (Elt Ideal) (res m c) := by
  rw [flushed2]
  funext j
  rw [View.read_apply]
  have e := (idx_eq t).2.2
  have h0 : (j 0).val < 1024 := (j 0).isLt
  have h1 : (j 1).val < 1024 := (j 1).isLt
  have k0 : ((((cfg0.win 2).blk t).view.emb j : S2048x2048.Idx) 0).val = 1024 * (t.val / 2) + (j 0).val := by
    show win0_2.index t 0 * 1024 + 1 * (j 0).val = _; omega
  have k1 : ((((cfg0.win 2).blk t).view.emb j : S2048x2048.Idx) 1).val = 1024 * (t.val % 2) + (j 1).val := by
    show win0_2.index t 1 * 1024 + 1 * (j 1).val = _; omega
  refine Eq.trans (b := out0_2 (iblk m c 0 t) (iblk m c 1 t) (ix2 ⟨(j 0).val, h0⟩ ⟨(j 1).val, h1⟩)) ?_ ?_
  · exact congrArg (out0_2 (iblk m c 0 t) (iblk m c 1 t)) (funext fun a => match a with | 0 => rfl | 1 => rfl)
  · rw [pay]
    rw [← Finset.sum_range (fun j => back _ _ _ _ j)]
    refine (Finset.sum_congr rfl fun j hj => back_congr _ _ (fun q hq => ?_) fun q hq => ?_).trans (operandGrad_at (argW m c) (argD m c) _ k0 k1)
    · have hj : j < 8 := Finset.mem_range.mp hj
      exact (mat_in _ h0 (show 384 * j + q < 3072 by omega)).trans (blk0 m c t _ ⟨_, _⟩)
    · exact (cube_in _ (Finset.mem_range.mp hj) h1 hq).trans (blk1 m c t ⟨j, _⟩ _ ⟨q, hq⟩)

theorem cover (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  have ht : 2 * ((i 0).val / 1024) + (i 1).val / 1024 < cfg0.N := by rw [show cfg0.N = 4 from N_0]; omega
  generalize ht' : (⟨2 * ((i 0).val / 1024) + (i 1).val / 1024, ht⟩ : Fin cfg0.N) = t
  have hv : t.val = 2 * ((i 0).val / 1024) + (i 1).val / 1024 := by rw [← ht']
  have e := (idx_eq t).2.2
  refine ⟨t, flush0_2 t, ?_⟩
  show i ∈ ((View.whole main_v0).slice (win0_2.rect t)).set
  rw [View.set_slice_whole, Rect.mem_set_unit]
  intro a
  match a with
  | 0 => show win0_2.index t 0 * 1024 ≤ (i 0).val ∧ (i 0).val < win0_2.index t 0 * 1024 + 1024; omega
  | 1 => show win0_2.index t 1 * 1024 ≤ (i 1).val ∧ (i 1).val < win0_2.index t 1 * 1024 + 1024; omega

/-- The kernel's result array is the operand's gradient. -/
theorem final : (dats m 0 c).arrAt 2 cfg0.N = res m c :=
  (dats m 0 c).arrAt_eq_of_cover 2 (res m c) (fun t _ => flushed m c t) cover

end Cert.InDxIdeal.Product

namespace Cert.InDxRefIdeal.Product

open Cert.InDxRefIdeal Cert.InDxRefIdeal.Gen Cert.InDxRefIdeal.Read Idealize.ShloMosaic Idealize.ShloMosaic.Tactic
open Cert.Product

/-- The reference's result is the operand's gradient. -/
theorem final (d : Vec Ideal S2048x3072 .bf16) (w : Vec Ideal S8x2048x384 .bf16) : val_main_v6 d w = operandGrad w d := by
  funext i
  refine (congrArg _ (idx2 i)).trans ?_
  unfold val_main_v6 val_main_v5 val_main_v3 val_main_v2 val_main_v1
  pointwise
  exact back_of_rows w d _ _ rfl (fun c => mat_at d _ rfl rfl) fun c => cube_at w _ rfl rfl rfl

end Cert.InDxRefIdeal.Product
-- ==== Proof.In.lean ====
module

public import proofs.«01_k».proof.Proof.Product
public import proofs.«01_k».proof.Proof.Gen.InIdeal.Value
public import proofs.«01_k».proof.Proof.Gen.InRefIdeal.Read

@[expose] public section

set_option maxRecDepth 16384

noncomputable section

/-! The projection into the columns to be mixed: what the kernel's result array and the reference's hold. -/

namespace Cert.InIdeal.Product

open Cert.InIdeal Cert.InIdeal.Gen Cert.InIdeal.Value Idealize.ShloMosaic Idealize.ShloMosaic.TcCoe Idealize.ShloMosaic.Tactic Idealize.SL.Sem
open Cert.Product
open Idealize.ShloMosaic.Pipeline (Dat)

variable (m : (ℓ : Loc nD τ sig) → Buf (Elt Ideal) ℓ) (c : Dev nD)

abbrev argX : Mat 2048 2048 := m ((c : Thread nD τ).loc main_arg0)
abbrev argW : Cube 8 2048 384 := m ((c : Thread nD τ).loc main_arg1)
abbrev res : Buf (Elt Ideal) ((c : Thread nD τ).loc main_v0) := forward (argX m c) (argW m c) 3072

/-- Which block of each array a grid point works on. -/
theorem idx_eq : ∀ t : Fin grid0.N,
    (win0_0.index t 0 = t.val / 2 ∧ win0_0.index t 1 = 0) ∧
    (win0_1.index t 0 = t.val % 2 ∧ win0_1.index t 1 = 0 ∧ win0_1.index t 2 = 0) ∧
    win0_2.index t 0 = t.val / 2 ∧ win0_2.index t 1 = t.val % 2 := by decide +kernel

theorem blk0 (t : Fin cfg0.N) (r : Fin 1024) (k : Fin 2048) :
    iblk m c 0 t (ix2 r k) = mat (argX m c) (1024 * (t.val / 2) + r.val) k.val := by
  have e := (idx_eq t).1
  refine mat_at (argX m c) (((cfg0.win 0).blk t).view.emb (ix2 r k)) ?_ ?_
  · show win0_0.index t 0 * 1024 + 1 * r.val = _; omega
  · show win0_0.index t 1 * 2048 + 1 * k.val = _; omega

theorem blk1 (t : Fin cfg0.N) (j : Fin 4) (k : Fin 2048) (q : Fin 384) :
    iblk m c 1 t (ix3 j k q) = cube (argW m c) (4 * (t.val % 2) + j.val) k.val q.val := by
  have e := (idx_eq t).2.1
  refine cube_at (argW m c) (((cfg0.win 1).blk t).view.emb (ix3 j k q)) ?_ ?_ ?_
  · show win0_1.index t 0 * 4 + 1 * j.val = _; omega
  · show win0_1.index t 1 * 2048 + 1 * k.val = _; omega
  · show win0_1.index t 2 * 384 + 1 * q.val = _; omega

/-- The projection at a place of block `s` of four. -/
theorem piece (x : Vec Ideal S1024x2048 .bf16) (w : Vec Ideal S4x2048x384 .bf16) (s : Fin 4) (r : Fin 1024) (q : Fin 384) (i : S1024x1536.Idx)
    (h0 : (i 0).val = 0 + 1 * r.val) (h1 : (i 1).val = 384 * s.val + 1 * q.val) :
    ∑ k : Fin 2048, x (ix2 r k) * w (ix3 s k q) = forward x w 1536 i :=
  (out_of_blocks x w _ _ (s := r.val) (fun k => mat_at x _ rfl rfl) fun k => cube_at w _ rfl rfl rfl).trans
    (forward_at x w i (by omega) (by rw [h1, Nat.one_mul]) q.isLt)

/-- A grid point stores four blocks of columns side by side: the projection of its rows. -/
theorem pay (x : Vec Ideal S1024x2048 .bf16) (w : Vec Ideal S4x2048x384 .bf16) : out0_2 x w = forward x w 1536 := by
  funext i
  refine View.canon_apply_of_pieces (Val := Elt Ideal) (e := .f32) (forward x w 1536) _ (fun p hp => ?_) i (cover0_2 _ _ _ _ i)
  simp only [List.mem_cons, List.not_mem_nil, or_false] at hp
  rcases hp with rfl | rfl | rfl | rfl
  all_goals
    intro z
    refine (congrArg _ (idx2 z)).trans ?_
  · unfold k0_pay4; pointwise; exact piece x w 3 (z 0) (z 1) _ rfl rfl
  · unfold k0_pay3; pointwise; exact piece x w 2 (z 0) (z 1) _ rfl rfl
  · unfold k0_pay2; pointwise; exact piece x w 1 (z 0) (z 1) _ rfl rfl
  · unfold k0_pay1; pointwise; exact piece x w 0 (z 0) (z 1) _ rfl rfl

/-- What a grid point writes is the projection's block. -/
theorem flushed (t : Fin cfg0.N) : (dats m 0 c).flushed 2 t = ((cfg0.win 2).blk t).view.read (Elt Ideal) (res m c) := by
  rw [flushed2]
  funext j
  rw [View.read_apply]
  have e := (idx_eq t).2.2
  have h0 : (j 0).val < 1024 := (j 0).isLt
  have h1 : (j 1).val < 1536 := (j 1).isLt
  have k0 : ((((cfg0.win 2).blk t).view.emb j : S2048x3072.Idx) 0).val = 1024 * (t.val / 2) + (j 0).val := by
    show win0_2.index t 0 * 1024 + 1 * (j 0).val = _; omega
  have k1 : ((((cfg0.win 2).blk t).view.emb j : S2048x3072.Idx) 1).val = 1536 * (t.val % 2) + (j 1).val := by
    show win0_2.index t 1 * 1536 + 1 * (j 1).val = _; omega
  refine Eq.trans (b := out0_2 (iblk m c 0 t) (iblk m c 1 t) (ix2 ⟨(j 0).val, h0⟩ ⟨(j 1).val, h1⟩)) ?_ ?_
  · exact congrArg (out0_2 (iblk m c 0 t) (iblk m c 1 t)) (funext fun a => match a with | 0 => rfl | 1 => rfl)
  · rw [pay]
    refine ((out_congr _ _ (fun k hk => ?_) fun k hk => ?_).trans (forward_at (argX m c) (argW m c) _ (j := 4 * (t.val % 2) + (j 1).val / 384)
      (q := (j 1).val % 384) k0 (by rw [k1]; omega) (by omega)))
    · exact (mat_in _ h0 hk).trans (blk0 m c t _ ⟨k, hk⟩)
    · exact (cube_in _ (show (j 1).val / 384 < 4 by omega) hk (show (j 1).val % 384 < 384 by omega)).trans (blk1 m c t ⟨_, _⟩ ⟨k, hk⟩ ⟨_, _⟩)

theorem cover (i : S2048x3072.Idx) : ∃ t : Fin cfg0.N, (cfg0.win 2).flush t = true ∧ i ∈ ((cfg0.win 2).blk t).view.set := by
  have h0 : (i 0).val < 2048 := (i 0).isLt
  have h1 : (i 1).val < 3072 := (i 1).isLt
  have ht : 2 * ((i 0).val / 1024) + (i 1).val / 1536 < cfg0.N := by rw [show cfg0.N = 4 from N_0]; omega
  generalize ht' : (⟨2 * ((i 0).val / 1024) + (i 1).val / 1536, ht⟩ : Fin cfg0.N) = t
  have hv : t.val = 2 * ((i 0).val / 1024) + (i 1).val / 1536 := by rw [← ht']
  have e := (idx_eq t).2.2
  refine ⟨t, flush0_2 t, ?_⟩
  show i ∈ ((View.whole main_v0).slice (win0_2.rect t)).set
  rw [View.set_slice_whole, Rect.mem_set_unit]
  intro a
  match a with
  | 0 => show win0_2.index t 0 * 1024 ≤ (i 0).val ∧ (i 0).val < win0_2.index t 0 * 1024 + 1024; omega
  | 1 => show win0_2.index t 1 * 1536 ≤ (i 1).val ∧ (i 1).val < win0_2.index t 1 * 1536 + 1536; omega

/-- The kernel's result array is the projection. -/
theorem final : (dats m 0 c).arrAt 2 cfg0.N = res m c :=
  (dats m 0 c).arrAt_eq_of_cover 2 (res m c) (fun t _ => flushed m c t) cover

end Cert.InIdeal.Product

namespace Cert.InRefIdeal.Product

open Cert.InRefIdeal Cert.InRefIdeal.Gen Cert.InRefIdeal.Read Idealize.ShloMosaic Idealize.ShloMosaic.Tactic
open Cert.Product

/-- The reference's result is the projection. -/
theorem final (x : Vec Ideal S2048x2048 .bf16) (w : Vec Ideal S8x2048x384 .bf16) : val_main_v4 x w = forward x w 3072 := by
  funext i
  refine (congrArg _ (idx2 i)).trans ?_
  unfold val_main_v4 val_main_v3 val_main_v2 val_main_v1 val_main_v0
  pointwise
  exact out_of_blocks x w _ _ (fun k => mat_at x _ rfl rfl) (fun k => cube_at w _ rfl rfl rfl)

end Cert.InRefIdeal.Product
-- ==== Proof.Out.lean ====
module

public import proofs.«01_k».proof.Proof.Product
public import proofs.«01_k».proof.Proof.Gen.OutIdeal.Value
public import proofs.«01_k».proof.Proof.Gen.OutRefIdeal.Read

@[expose] public section

set_option maxRecDepth 16384

noncomputable section

/-! The projection of the mixed columns back to the model's width: what the kernel's result array and the reference's hold. -/

namespace Cert.OutIdeal.Product

open Cert.OutIdeal Cert.OutIdeal.Gen Cert.OutIdeal.Value Idealize.ShloMosaic Idealize.ShloMosaic.TcCoe Idealize.ShloMosaic.Tactic Idealize.SL.Sem
open Cert.Product
open Idealize.ShloMosaic.Pipeline (Dat)

variable (m : (ℓ : Loc nD τ sig) → Buf (Elt Ideal) ℓ) (c : Dev nD)

abbrev argX : Mat 2048 2048 := m ((c : Thread nD τ).loc main_arg0)
abbrev argW : Cube 1 2048 2048 := m ((c : Thread nD τ).loc main_arg1)
abbrev res : Buf (Elt Ideal) ((c : Thread nD τ).loc main_v0) := forward (argX m c) (argW m c) 2048

/-- Which block of each array a grid point works on. -/
theorem idx_eq : ∀ t : Fin grid0.N,
    (win0_0.index t 0 = t.val / 2 ∧ win0_0.index t 1 = 0) ∧
    (win0_1.index t 0 = 0 ∧ win0_1.index t 1 = 0 ∧ win0_1.index t 2 = t.val % 2) ∧
    win0_2.index t 0 = t.val / 2 ∧ win0_2.index t 1 = t.val % 2 := by decide +kernel

theorem blk0 (t : Fin cfg0.N) (r : Fin 1024) (k : Fin 2048) :
    iblk m c 0 t (ix2 r k) = mat (argX m c) (1024 * (t.val / 2) + r.val) k.val := by
  have e := (idx_eq t).1
  refine mat_at (argX m c) (((cfg0.win 0).blk t).view.emb (ix2 r k)) ?_ ?_
  · show win0_0.index t 0 * 1024 + 1 * r.val = _; omega
  · show win0_0.index t 1 * 2048 + 1 * k.val = _; omega

theorem blk1 (t : Fin cfg0.N) (k : Fin 2048) (q : Fin 1024) :
    iblk m c 1 t (ix3 0 k q) = cube (argW m c) 0 k.val (1024 * (t.val % 2) + q.val) := by
  have e := (idx_eq t).2.1
  refine cube_at (argW m c) (((cfg0.win 1).blk t).view.emb (ix3 0 k q)) ?_ ?_ ?_
  · show win0_1.index t 0 * 1 + 1 * 0 = _; omega
  · show win0_1.index t 1 * 2048 + 1 * k.val = _; omega
  · show win0_1.index t 2 * 1024 + 1 * q.val = _; omega

theorem pay (x : Vec Ideal S1024x2048 .bf16) (w : Vec Ideal S1x2048x1024 .bf16) (r : Fin 1024) (q : Fin 1024) :
    out0_2 x w (ix2 r q) = ∑ k : Fin 2048, x (ix2 r k) * w (ix3 0 k q) := by
  unfold out0_2
  rw [View.canon_unit_zero (by decide)]
  unfold k0_pay1
  pointwise

/-- What a grid point writes is the projection's block. -/
theorem flushed (t : Fin cfg0.N) : (dats m 0 c).flushed 2 t = ((cfg0.win 2).blk t).view.read (Elt Ideal) (res m c) := by
  rw [flushed2]
  funext j
  rw [View.read_apply]
  have e := (idx_eq t).2.2
  have h0 : (j 0).val < 1024 := (j 0).isLt
  have h1 : (j 1).val < 1024 := (j 1).isLt
  have k0 : ((((cfg0.win 2).blk t).view.emb j : S2048x2048.Idx) 0).val = 1024 * (t.val / 2) + (j 0).val := by
    show win0_2.index t 0 * 1024 + 1 * (j 0).val = _; omega
  have k1 : ((((cfg0.win 2).blk t).view.emb j : S2048x2048.Idx) 1).val = 1024 * (t.val % 2) + (j 1).val := by
    show win0_2.index t 1 * 1024 + 1 * (j 1).val = _; omega
  refine Eq.trans (b := out0_2 (iblk m c 0 t) (iblk m c 1 t) (ix2 ⟨(j 0).val, h0⟩ ⟨(j 1).val, h1⟩)) ?_ ?_
  · exact congrArg (out0_2 (iblk m c 0 t) (iblk m c 1 t)) (funext fun a => match a with | 0 => rfl | 1 => rfl)
  · rw [pay]
    exact (out_of_blocks (argX m c) (argW m c) _ _ (fun k => blk0 m c t _ k) (fun k => blk1 m c t k _)).trans (forward_at _ _ _ k0 (k1.trans (Nat.zero_add _).symm) (by omega))

theorem cover (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  have ht : 2 * ((i 0).val / 1024) + (i 1).val / 1024 < cfg0.N := by rw [show cfg0.N = 4 from N_0]; omega
  generalize ht' : (⟨2 * ((i 0).val / 1024) + (i 1).val / 1024, ht⟩ : Fin cfg0.N) = t
  have hv : t.val = 2 * ((i 0).val / 1024) + (i 1).val / 1024 := by rw [← ht']
  have e := (idx_eq t).2.2
  refine ⟨t, flush0_2 t, ?_⟩
  show i ∈ ((View.whole main_v0).slice (win0_2.rect t)).set
  rw [View.set_slice_whole, Rect.mem_set_unit]
  intro a
  match a with
  | 0 => show win0_2.index t 0 * 1024 ≤ (i 0).val ∧ (i 0).val < win0_2.index t 0 * 1024 + 1024; omega
  | 1 => show win0_2.index t 1 * 1024 ≤ (i 1).val ∧ (i 1).val < win0_2.index t 1 * 1024 + 1024; omega

/-- The kernel's result array is the projection. -/
theorem final : (dats m 0 c).arrAt 2 cfg0.N = res m c :=
  (dats m 0 c).arrAt_eq_of_cover 2 (res m c) (fun t _ => flushed m c t) cover

end Cert.OutIdeal.Product

namespace Cert.OutRefIdeal.Product

open Cert.OutRefIdeal Cert.OutRefIdeal.Gen Cert.OutRefIdeal.Read Idealize.ShloMosaic Idealize.ShloMosaic.Tactic
open Cert.Product

/-- The reference's result is the projection. -/
theorem final (x : Vec Ideal S2048x2048 .bf16) (w : Vec Ideal S1x2048x2048 .bf16) : val_main_v4 x w = forward x w 2048 := by
  funext i
  refine (congrArg _ (idx2 i)).trans ?_
  unfold val_main_v4 val_main_v3 val_main_v2 val_main_v1 val_main_v0
  pointwise
  exact (out_of_blocks x w _ _ (fun k => mat_at x _ rfl rfl) fun k => cube_at w _ rfl rfl rfl).trans
    (forward_at x w i rfl (Nat.zero_add _).symm (i 1).isLt)

end Cert.OutRefIdeal.Product
-- ==== Proof.Up.lean ====
module

public import proofs.«01_k».proof.Proof.Product
public import proofs.«01_k».proof.Proof.Gen.UpIdeal.Value
public import proofs.«01_k».proof.Proof.Gen.UpRefIdeal.Read

@[expose] public section

set_option maxRecDepth 16384

noncomputable section

/-! The projection onto the gate and value columns: what the kernel's result array and the reference's hold. -/

namespace Cert.UpIdeal.Product

open Cert.UpIdeal Cert.UpIdeal.Gen Cert.UpIdeal.Value Idealize.ShloMosaic Idealize.ShloMosaic.TcCoe Idealize.ShloMosaic.Tactic Idealize.SL.Sem
open Cert.Product
open Idealize.ShloMosaic.Pipeline (Dat)

variable (m : (ℓ : Loc nD τ sig) → Buf (Elt Ideal) ℓ) (c : Dev nD)

abbrev argX : Mat 2048 2048 := m ((c : Thread nD τ).loc main_arg0)
abbrev argW : Cube 8 2048 1408 := m ((c : Thread nD τ).loc main_arg1)
abbrev res : Buf (Elt Ideal) ((c : Thread nD τ).loc main_v0) := forward (argX m c) (argW m c) 11264

/-- Which block of each array a grid point works on. -/
theorem idx_eq : ∀ t : Fin grid0.N,
    (win0_0.index t 0 = t.val / 8 ∧ win0_0.index t 1 = 0) ∧
    (win0_1.index t 0 = t.val % 8 ∧ win0_1.index t 1 = 0 ∧ win0_1.index t 2 = 0) ∧
    win0_2.index t 0 = t.val / 8 ∧ win0_2.index t 1 = t.val % 8 := by decide +kernel

theorem blk0 (t : Fin cfg0.N) (r : Fin 1024) (k : Fin 2048) :
    iblk m c 0 t (ix2 r k) = mat (argX m c) (1024 * (t.val / 8) + r.val) k.val := by
  have e := (idx_eq t).1
  refine mat_at (argX m c) (((cfg0.win 0).blk t).view.emb (ix2 r k)) ?_ ?_
  · show win0_0.index t 0 * 1024 + 1 * r.val = _; omega
  · show win0_0.index t 1 * 2048 + 1 * k.val = _; omega

theorem blk1 (t : Fin cfg0.N) (k : Fin 2048) (q : Fin 1408) :
    iblk m c 1 t (ix3 0 k q) = cube (argW m c) (t.val % 8) k.val q.val := by
  have e := (idx_eq t).2.1
  refine cube_at (argW m c) (((cfg0.win 1).blk t).view.emb (ix3 0 k q)) ?_ ?_ ?_
  · show win0_1.index t 0 * 1 + 1 * 0 = _; omega
  · show win0_1.index t 1 * 2048 + 1 * k.val = _; omega
  · show win0_1.index t 2 * 1408 + 1 * q.val = _; omega

theorem pay (x : Vec Ideal S1024x2048 .bf16) (w : Vec Ideal S1x2048x1408 .bf16) (r : Fin 1024) (q : Fin 1408) :
    out0_2 x w (ix2 r q) = ∑ k : Fin 2048, x (ix2 r k) * w (ix3 0 k q) := by
  unfold out0_2
  rw [View.canon_unit_zero (by decide)]
  unfold k0_pay1
  pointwise

/-- What a grid point writes is the projection's block. -/
theorem flushed (t : Fin cfg0.N) : (dats m 0 c).flushed 2 t = ((cfg0.win 2).blk t).view.read (Elt Ideal) (res m c) := by
  rw [flushed2]
  funext j
  rw [View.read_apply]
  have e := (idx_eq t).2.2
  have h0 : (j 0).val < 1024 := (j 0).isLt
  have h1 : (j 1).val < 1408 := (j 1).isLt
  have k0 : ((((cfg0.win 2).blk t).view.emb j : S2048x11264.Idx) 0).val = 1024 * (t.val / 8) + (j 0).val := by
    show win0_2.index t 0 * 1024 + 1 * (j 0).val = _; omega
  have k1 : ((((cfg0.win 2).blk t).view.emb j : S2048x11264.Idx) 1).val = 1408 * (t.val % 8) + (j 1).val := by
    show win0_2.index t 1 * 1408 + 1 * (j 1).val = _; omega
  refine Eq.trans (b := out0_2 (iblk m c 0 t) (iblk m c 1 t) (ix2 ⟨(j 0).val, h0⟩ ⟨(j 1).val, h1⟩)) ?_ ?_
  · exact congrArg (out0_2 (iblk m c 0 t) (iblk m c 1 t)) (funext fun a => match a with | 0 => rfl | 1 => rfl)
  · rw [pay]
    exact (out_of_blocks (argX m c) (argW m c) _ _ (fun k => blk0 m c t _ k) (fun k => blk1 m c t k _)).trans (forward_at _ _ _ k0 k1 h1)

theorem cover (i : S2048x11264.Idx) : ∃ t : Fin cfg0.N, (cfg0.win 2).flush t = true ∧ i ∈ ((cfg0.win 2).blk t).view.set := by
  have h0 : (i 0).val < 2048 := (i 0).isLt
  have h1 : (i 1).val < 11264 := (i 1).isLt
  have ht : 8 * ((i 0).val / 1024) + (i 1).val / 1408 < cfg0.N := by rw [show cfg0.N = 16 from N_0]; omega
  generalize ht' : (⟨8 * ((i 0).val / 1024) + (i 1).val / 1408, ht⟩ : Fin cfg0.N) = t
  have hv : t.val = 8 * ((i 0).val / 1024) + (i 1).val / 1408 := by rw [← ht']
  have e := (idx_eq t).2.2
  refine ⟨t, flush0_2 t, ?_⟩
  show i ∈ ((View.whole main_v0).slice (win0_2.rect t)).set
  rw [View.set_slice_whole, Rect.mem_set_unit]
  intro a
  match a with
  | 0 => show win0_2.index t 0 * 1024 ≤ (i 0).val ∧ (i 0).val < win0_2.index t 0 * 1024 + 1024; omega
  | 1 => show win0_2.index t 1 * 1408 ≤ (i 1).val ∧ (i 1).val < win0_2.index t 1 * 1408 + 1408; omega

/-- The kernel's result array is the projection. -/
theorem final : (dats m 0 c).arrAt 2 cfg0.N = res m c :=
  (dats m 0 c).arrAt_eq_of_cover 2 (res m c) (fun t _ => flushed m c t) cover

end Cert.UpIdeal.Product

namespace Cert.UpRefIdeal.Product

open Cert.UpRefIdeal Cert.UpRefIdeal.Gen Cert.UpRefIdeal.Read Idealize.ShloMosaic Idealize.ShloMosaic.Tactic
open Cert.Product

/-- The reference's result is the projection. -/
theorem final (x : Vec Ideal S2048x2048 .bf16) (w : Vec Ideal S8x2048x1408 .bf16) : val_main_v4 x w = forward x w 11264 := by
  funext i
  refine (congrArg _ (idx2 i)).trans ?_
  unfold val_main_v4 val_main_v3 val_main_v2 val_main_v1 val_main_v0
  pointwise
  exact out_of_blocks x w _ _ (fun k => mat_at x _ rfl rfl) (fun k => cube_at w _ rfl rfl rfl)

end Cert.UpRefIdeal.Product
-- ==== Proof.Down.lean ====
module

public import proofs.«01_k».proof.Proof.Product
public import proofs.«01_k».proof.Proof.Gen.DownIdeal.Value
public import proofs.«01_k».proof.Proof.Gen.DownRefIdeal.Read

@[expose] public section

set_option maxRecDepth 16384

noncomputable section

/-! The projection of the gated columns back to the model's width: what the kernel's result array and the reference's hold. -/

namespace Cert.DownIdeal.Product

open Cert.DownIdeal Cert.DownIdeal.Gen Cert.DownIdeal.Value Idealize.ShloMosaic Idealize.ShloMosaic.TcCoe Idealize.ShloMosaic.Tactic Idealize.SL.Sem
open Cert.Product
open Idealize.ShloMosaic.Pipeline (Dat)

variable (m : (ℓ : Loc nD τ sig) → Buf (Elt Ideal) ℓ) (c : Dev nD)

abbrev argX : Mat 2048 5632 := m ((c : Thread nD τ).loc main_arg0)
abbrev argW : Cube 1 5632 2048 := m ((c : Thread nD τ).loc main_arg1)
abbrev res : Buf (Elt Ideal) ((c : Thread nD τ).loc main_v0) := forward (argX m c) (argW m c) 2048

/-- Which block of each array a grid point works on. -/
theorem idx_eq : ∀ t : Fin grid0.N,
    (win0_0.index t 0 = t.val / 4 ∧ win0_0.index t 1 = 0) ∧
    (win0_1.index t 0 = 0 ∧ win0_1.index t 1 = 0 ∧ win0_1.index t 2 = t.val % 4) ∧
    win0_2.index t 0 = t.val / 4 ∧ win0_2.index t 1 = t.val % 4 := by decide +kernel

theorem blk0 (t : Fin cfg0.N) (r : Fin 1024) (k : Fin 5632) :
    iblk m c 0 t (ix2 r k) = mat (argX m c) (1024 * (t.val / 4) + r.val) k.val := by
  have e := (idx_eq t).1
  refine mat_at (argX m c) (((cfg0.win 0).blk t).view.emb (ix2 r k)) ?_ ?_
  · show win0_0.index t 0 * 1024 + 1 * r.val = _; omega
  · show win0_0.index t 1 * 5632 + 1 * k.val = _; omega

theorem blk1 (t : Fin cfg0.N) (k : Fin 5632) (q : Fin 512) :
    iblk m c 1 t (ix3 0 k q) = cube (argW m c) 0 k.val (512 * (t.val % 4) + q.val) := by
  have e := (idx_eq t).2.1
  refine cube_at (argW m c) (((cfg0.win 1).blk t).view.emb (ix3 0 k q)) ?_ ?_ ?_
  · show win0_1.index t 0 * 1 + 1 * 0 = _; omega
  · show win0_1.index t 1 * 5632 + 1 * k.val = _; omega
  · show win0_1.index t 2 * 512 + 1 * q.val = _; omega

theorem pay (x : Vec Ideal S1024x5632 .bf16) (w : Vec Ideal S1x5632x512 .bf16) (r : Fin 1024) (q : Fin 512) :
    out0_2 x w (ix2 r q) = ∑ k : Fin 5632, x (ix2 r k) * w (ix3 0 k q) := by
  unfold out0_2
  rw [View.canon_unit_zero (by decide)]
  unfold k0_pay1
  pointwise

/-- What a grid point writes is the projection's block. -/
theorem flushed (t : Fin cfg0.N) : (dats m 0 c).flushed 2 t = ((cfg0.win 2).blk t).view.read (Elt Ideal) (res m c) := by
  rw [flushed2]
  funext j
  rw [View.read_apply]
  have e := (idx_eq t).2.2
  have h0 : (j 0).val < 1024 := (j 0).isLt
  have h1 : (j 1).val < 512 := (j 1).isLt
  have k0 : ((((cfg0.win 2).blk t).view.emb j : S2048x2048.Idx) 0).val = 1024 * (t.val / 4) + (j 0).val := by
    show win0_2.index t 0 * 1024 + 1 * (j 0).val = _; omega
  have k1 : ((((cfg0.win 2).blk t).view.emb j : S2048x2048.Idx) 1).val = 512 * (t.val % 4) + (j 1).val := by
    show win0_2.index t 1 * 512 + 1 * (j 1).val = _; omega
  refine Eq.trans (b := out0_2 (iblk m c 0 t) (iblk m c 1 t) (ix2 ⟨(j 0).val, h0⟩ ⟨(j 1).val, h1⟩)) ?_ ?_
  · exact congrArg (out0_2 (iblk m c 0 t) (iblk m c 1 t)) (funext fun a => match a with | 0 => rfl | 1 => rfl)
  · rw [pay]
    exact (out_of_blocks (argX m c) (argW m c) _ _ (fun k => blk0 m c t _ k) (fun k => blk1 m c t k _)).trans (forward_at _ _ _ k0 (k1.trans (Nat.zero_add _).symm) (by omega))

theorem cover (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  have ht : 4 * ((i 0).val / 1024) + (i 1).val / 512 < cfg0.N := by rw [show cfg0.N = 8 from N_0]; omega
  generalize ht' : (⟨4 * ((i 0).val / 1024) + (i 1).val / 512, ht⟩ : Fin cfg0.N) = t
  have hv : t.val = 4 * ((i 0).val / 1024) + (i 1).val / 512 := by rw [← ht']
  have e := (idx_eq t).2.2
  refine ⟨t, flush0_2 t, ?_⟩
  show i ∈ ((View.whole main_v0).slice (win0_2.rect t)).set
  rw [View.set_slice_whole, Rect.mem_set_unit]
  intro a
  match a with
  | 0 => show win0_2.index t 0 * 1024 ≤ (i 0).val ∧ (i 0).val < win0_2.index t 0 * 1024 + 1024; omega
  | 1 => show win0_2.index t 1 * 512 ≤ (i 1).val ∧ (i 1).val < win0_2.index t 1 * 512 + 512; omega

/-- The kernel's result array is the projection. -/
theorem final : (dats m 0 c).arrAt 2 cfg0.N = res m c :=
  (dats m 0 c).arrAt_eq_of_cover 2 (res m c) (fun t _ => flushed m c t) cover

end Cert.DownIdeal.Product

namespace Cert.DownRefIdeal.Product

open Cert.DownRefIdeal Cert.DownRefIdeal.Gen Cert.DownRefIdeal.Read Idealize.ShloMosaic Idealize.ShloMosaic.Tactic
open Cert.Product

/-- The reference's result is the projection. -/
theorem final (x : Vec Ideal S2048x5632 .bf16) (w : Vec Ideal S1x5632x2048 .bf16) : val_main_v4 x w = forward x w 2048 := by
  funext i
  refine (congrArg _ (idx2 i)).trans ?_
  unfold val_main_v4 val_main_v3 val_main_v2 val_main_v1 val_main_v0
  pointwise
  exact (out_of_blocks x w _ _ (fun k => mat_at x _ rfl rfl) fun k => cube_at w _ rfl rfl rfl).trans
    (forward_at x w i rfl (Nat.zero_add _).symm (i 1).isLt)

end Cert.DownRefIdeal.Product
-- ==== Proof.ProductClaims.lean ====
module

public import proofs.«01_k».proof.Defs
public import proofs.«01_k».proof.Proof.Gen.DownDw.Frame
public import proofs.«01_k».proof.Proof.Gen.DownDwRefIdeal.Run
public import proofs.«01_k».proof.Proof.DownDw
public import proofs.«01_k».proof.Proof.Gen.DownDx.Frame
public import proofs.«01_k».proof.Proof.Gen.DownDxRefIdeal.Run
public import proofs.«01_k».proof.Proof.DownDx
public import proofs.«01_k».proof.Proof.Gen.UpDw.Frame
public import proofs.«01_k».proof.Proof.Gen.UpDwRefIdeal.Run
public import proofs.«01_k».proof.Proof.UpDw
public import proofs.«01_k».proof.Proof.Gen.UpDx.Frame
public import proofs.«01_k».proof.Proof.Gen.UpDxRefIdeal.Run
public import proofs.«01_k».proof.Proof.UpDx
public import proofs.«01_k».proof.Proof.Gen.OutDw.Frame
public import proofs.«01_k».proof.Proof.Gen.OutDwRefIdeal.Run
public import proofs.«01_k».proof.Proof.OutDw
public import proofs.«01_k».proof.Proof.Gen.OutDx.Frame
public import proofs.«01_k».proof.Proof.Gen.OutDxRefIdeal.Run
public import proofs.«01_k».proof.Proof.OutDx
public import proofs.«01_k».proof.Proof.Gen.InDw.Frame
public import proofs.«01_k».proof.Proof.Gen.InDwRefIdeal.Run
public import proofs.«01_k».proof.Proof.InDw
public import proofs.«01_k».proof.Proof.Gen.InDx.Frame
public import proofs.«01_k».proof.Proof.Gen.InDxRefIdeal.Run
public import proofs.«01_k».proof.Proof.InDx
public import proofs.«01_k».proof.Proof.Gen.In.Frame
public import proofs.«01_k».proof.Proof.Gen.InRefIdeal.Run
public import proofs.«01_k».proof.Proof.In
public import proofs.«01_k».proof.Proof.Gen.Out.Frame
public import proofs.«01_k».proof.Proof.Gen.OutRefIdeal.Run
public import proofs.«01_k».proof.Proof.Out
public import proofs.«01_k».proof.Proof.Gen.Up.Frame
public import proofs.«01_k».proof.Proof.Gen.UpRefIdeal.Run
public import proofs.«01_k».proof.Proof.Up
public import proofs.«01_k».proof.Proof.Gen.Down.Frame
public import proofs.«01_k».proof.Proof.Gen.DownRefIdeal.Run
public import proofs.«01_k».proof.Proof.Down

@[expose] public section

set_option maxRecDepth 16384

noncomputable section

/-! The claims about the twelve products: the references' frames, and the values. From equal arguments each kernel and its
    reference end with equal results over the extended reals, whatever the arguments. -/

namespace Cert.Product

open Idealize.ShloMosaic Idealize.ShloMosaic.Tactic Idealize.SL.Sem

attribute [local instance]
  Cert.DownDw.Gen.facts Cert.DownDwIdeal.Gen.facts Cert.DownDwRefIdeal.Gen.facts
  Cert.DownDx.Gen.facts Cert.DownDxIdeal.Gen.facts Cert.DownDxRefIdeal.Gen.facts
  Cert.UpDw.Gen.facts Cert.UpDwIdeal.Gen.facts Cert.UpDwRefIdeal.Gen.facts
  Cert.UpDx.Gen.facts Cert.UpDxIdeal.Gen.facts Cert.UpDxRefIdeal.Gen.facts
  Cert.OutDw.Gen.facts Cert.OutDwIdeal.Gen.facts Cert.OutDwRefIdeal.Gen.facts
  Cert.OutDx.Gen.facts Cert.OutDxIdeal.Gen.facts Cert.OutDxRefIdeal.Gen.facts
  Cert.InDw.Gen.facts Cert.InDwIdeal.Gen.facts Cert.InDwRefIdeal.Gen.facts
  Cert.InDx.Gen.facts Cert.InDxIdeal.Gen.facts Cert.InDxRefIdeal.Gen.facts
  Cert.In.Gen.facts Cert.InIdeal.Gen.facts Cert.InRefIdeal.Gen.facts
  Cert.Out.Gen.facts Cert.OutIdeal.Gen.facts Cert.OutRefIdeal.Gen.facts
  Cert.Up.Gen.facts Cert.UpIdeal.Gen.facts Cert.UpRefIdeal.Gen.facts
  Cert.Down.Gen.facts Cert.DownIdeal.Gen.facts Cert.DownRefIdeal.Gen.facts

/-- The reference for the weight gradient of the down projection ends with its arguments unchanged. -/
theorem frameDownDwRef : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

/-- Kernel and reference agree on the weight gradient of the down projection. -/
theorem valueDownDw : Cert.algebraic_DownDwIdeal_DownDwRefIdeal := fun m g m' g' _ ha =>
  ⟨Cert.DownDwIdeal.Product.res m,
    (θ_run Cert.DownDwIdeal.defs _ _).mono (fun r h c => ⟨(h c).1.trans (Cert.DownDwIdeal.Product.final m c), (h c).2⟩)
      (Cert.DownDwIdeal.Value.run_blocks (F := Ideal) m g),
    (θ_run Cert.DownDwRefIdeal.defs _ _).mono (fun r h c => ⟨(h c).1.trans (by
        rw [Cert.DownDwRefIdeal.Read.val_main_v10_eq, (ha c).1, (ha c).2]; exact Cert.DownDwRefIdeal.Product.final _ _), (h c).2⟩)
      (Cert.DownDwRefIdeal.Value.run (F := Ideal) m' g')⟩

/-- The reference for the operand gradient of the down projection ends with its arguments unchanged. -/
theorem frameDownDxRef : Cert.quiescent_DownDxRefIdeal := fun m ρ _ =>
  (θ_run Cert.DownDxRefIdeal.defs _ _).mono (fun r h => ⟨fun c => (h c).2, sem_eq_zero_of_no_sems (by decide) r.2⟩)
    (Cert.DownDxRefIdeal.Value.run (F := Ideal) m ρ)

/-- Kernel and reference agree on the operand gradient of the down projection. -/
theorem valueDownDx : Cert.algebraic_DownDxIdeal_DownDxRefIdeal := fun m g m' g' _ ha =>
  ⟨Cert.DownDxIdeal.Product.res m,
    (θ_run Cert.DownDxIdeal.defs _ _).mono (fun r h c => ⟨(h c).1.trans (Cert.DownDxIdeal.Product.final m c), (h c).2⟩)
      (Cert.DownDxIdeal.Value.run_blocks (F := Ideal) m g),
    (θ_run Cert.DownDxRefIdeal.defs _ _).mono (fun r h c => ⟨(h c).1.trans (by
        rw [Cert.DownDxRefIdeal.Read.val_main_v6_eq, (ha c).1, (ha c).2]; exact Cert.DownDxRefIdeal.Product.final _ _), (h c).2⟩)
      (Cert.DownDxRefIdeal.Value.run (F := Ideal) m' g')⟩

/-- The reference for the weight gradient of the up projection ends with its arguments unchanged. -/
theorem frameUpDwRef : Cert.quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run (F := Ideal) m ρ)

/-- Kernel and reference agree on the weight gradient of the up projection. -/
theorem valueUpDw : Cert.algebraic_UpDwIdeal_UpDwRefIdeal := fun m g m' g' _ ha =>
  ⟨Cert.UpDwIdeal.Product.res m,
    (θ_run Cert.UpDwIdeal.defs _ _).mono (fun r h c => ⟨(h c).1.trans (Cert.UpDwIdeal.Product.final m c), (h c).2⟩)
      (Cert.UpDwIdeal.Value.run_blocks (F := Ideal) m g),
    (θ_run Cert.UpDwRefIdeal.defs _ _).mono (fun r h c => ⟨(h c).1.trans (by
        rw [Cert.UpDwRefIdeal.Read.val_main_v10_eq, (ha c).1, (ha c).2]; exact Cert.UpDwRefIdeal.Product.final _ _), (h c).2⟩)
      (Cert.UpDwRefIdeal.Value.run (F := Ideal) m' g')⟩

/-- The reference for the operand gradient of the up projection ends with its arguments unchanged. -/
theorem frameUpDxRef : Cert.quiescent_UpDxRefIdeal := fun m ρ _ =>
  (θ_run Cert.UpDxRefIdeal.defs _ _).mono (fun r h => ⟨fun c => (h c).2, sem_eq_zero_of_no_sems (by decide) r.2⟩)
    (Cert.UpDxRefIdeal.Value.run (F := Ideal) m ρ)

/-- Kernel and reference agree on the operand gradient of the up projection. -/
theorem valueUpDx : Cert.algebraic_UpDxIdeal_UpDxRefIdeal := fun m g m' g' _ ha =>
  ⟨Cert.UpDxIdeal.Product.res m,
    (θ_run Cert.UpDxIdeal.defs _ _).mono (fun r h c => ⟨(h c).1.trans (Cert.UpDxIdeal.Product.final m c), (h c).2⟩)
      (Cert.UpDxIdeal.Value.run_blocks (F := Ideal) m g),
    (θ_run Cert.UpDxRefIdeal.defs _ _).mono (fun r h c => ⟨(h c).1.trans (by
        rw [Cert.UpDxRefIdeal.Read.val_main_v6_eq, (ha c).1, (ha c).2]; exact Cert.UpDxRefIdeal.Product.final _ _), (h c).2⟩)
      (Cert.UpDxRefIdeal.Value.run (F := Ideal) m' g')⟩

/-- The reference for the weight gradient of the output projection ends with its arguments unchanged. -/
theorem frameOutDwRef : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

/-- Kernel and reference agree on the weight gradient of the output projection. -/
theorem valueOutDw : Cert.algebraic_OutDwIdeal_OutDwRefIdeal := fun m g m' g' _ ha =>
  ⟨Cert.OutDwIdeal.Product.res m,
    (θ_run Cert.OutDwIdeal.defs _ _).mono (fun r h c => ⟨(h c).1.trans (Cert.OutDwIdeal.Product.final m c), (h c).2⟩)
      (Cert.OutDwIdeal.Value.run_blocks (F := Ideal) m g),
    (θ_run Cert.OutDwRefIdeal.defs _ _).mono (fun r h c => ⟨(h c).1.trans (by
        rw [Cert.OutDwRefIdeal.Read.val_main_v10_eq, (ha c).1, (ha c).2]; exact Cert.OutDwRefIdeal.Product.final _ _), (h c).2⟩)
      (Cert.OutDwRefIdeal.Value.run (F := Ideal) m' g')⟩

/-- The reference for the operand gradient of the output projection ends with its arguments unchanged. -/
theorem frameOutDxRef : Cert.quiescent_OutDxRefIdeal := fun m ρ _ =>
  (θ_run Cert.OutDxRefIdeal.defs _ _).mono (fun r h => ⟨fun c => (h c).2, sem_eq_zero_of_no_sems (by decide) r.2⟩)
    (Cert.OutDxRefIdeal.Value.run (F := Ideal) m ρ)

/-- Kernel and reference agree on the operand gradient of the output projection. -/
theorem valueOutDx : Cert.algebraic_OutDxIdeal_OutDxRefIdeal := fun m g m' g' _ ha =>
  ⟨Cert.OutDxIdeal.Product.res m,
    (θ_run Cert.OutDxIdeal.defs _ _).mono (fun r h c => ⟨(h c).1.trans (Cert.OutDxIdeal.Product.final m c), (h c).2⟩)
      (Cert.OutDxIdeal.Value.run_blocks (F := Ideal) m g),
    (θ_run Cert.OutDxRefIdeal.defs _ _).mono (fun r h c => ⟨(h c).1.trans (by
        rw [Cert.OutDxRefIdeal.Read.val_main_v6_eq, (ha c).1, (ha c).2]; exact Cert.OutDxRefIdeal.Product.final _ _), (h c).2⟩)
      (Cert.OutDxRefIdeal.Value.run (F := Ideal) m' g')⟩

/-- The reference for the weight gradient of the input projection ends with its arguments unchanged. -/
theorem frameInDwRef : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run (F := Ideal) m ρ)

/-- Kernel and reference agree on the weight gradient of the input projection. -/
theorem valueInDw : Cert.algebraic_InDwIdeal_InDwRefIdeal := fun m g m' g' _ ha =>
  ⟨Cert.InDwIdeal.Product.res m,
    (θ_run Cert.InDwIdeal.defs _ _).mono (fun r h c => ⟨(h c).1.trans (Cert.InDwIdeal.Product.final m c), (h c).2⟩)
      (Cert.InDwIdeal.Value.run_blocks (F := Ideal) m g),
    (θ_run Cert.InDwRefIdeal.defs _ _).mono (fun r h c => ⟨(h c).1.trans (by
        rw [Cert.InDwRefIdeal.Read.val_main_v10_eq, (ha c).1, (ha c).2]; exact Cert.InDwRefIdeal.Product.final _ _), (h c).2⟩)
      (Cert.InDwRefIdeal.Value.run (F := Ideal) m' g')⟩

/-- The reference for the operand gradient of the input projection ends with its arguments unchanged. -/
theorem frameInDxRef : Cert.quiescent_InDxRefIdeal := fun m ρ _ =>
  (θ_run Cert.InDxRefIdeal.defs _ _).mono (fun r h => ⟨fun c => (h c).2, sem_eq_zero_of_no_sems (by decide) r.2⟩)
    (Cert.InDxRefIdeal.Value.run (F := Ideal) m ρ)

/-- Kernel and reference agree on the operand gradient of the input projection. -/
theorem valueInDx : Cert.algebraic_InDxIdeal_InDxRefIdeal := fun m g m' g' _ ha =>
  ⟨Cert.InDxIdeal.Product.res m,
    (θ_run Cert.InDxIdeal.defs _ _).mono (fun r h c => ⟨(h c).1.trans (Cert.InDxIdeal.Product.final m c), (h c).2⟩)
      (Cert.InDxIdeal.Value.run_blocks (F := Ideal) m g),
    (θ_run Cert.InDxRefIdeal.defs _ _).mono (fun r h c => ⟨(h c).1.trans (by
        rw [Cert.InDxRefIdeal.Read.val_main_v6_eq, (ha c).1, (ha c).2]; exact Cert.InDxRefIdeal.Product.final _ _), (h c).2⟩)
      (Cert.InDxRefIdeal.Value.run (F := Ideal) m' g')⟩

/-- The reference for the input projection ends with its arguments unchanged. -/
theorem frameInRef : Cert.quiescent_InRefIdeal := fun m ρ _ =>
  (θ_run Cert.InRefIdeal.defs _ _).mono (fun r h => ⟨fun c => (h c).2, sem_eq_zero_of_no_sems (by decide) r.2⟩)
    (Cert.InRefIdeal.Value.run (F := Ideal) m ρ)

/-- Kernel and reference agree on the input projection. -/
theorem valueIn : Cert.algebraic_InIdeal_InRefIdeal := fun m g m' g' _ ha =>
  ⟨Cert.InIdeal.Product.res m,
    (θ_run Cert.InIdeal.defs _ _).mono (fun r h c => ⟨(h c).1.trans (Cert.InIdeal.Product.final m c), (h c).2⟩)
      (Cert.InIdeal.Value.run_blocks (F := Ideal) m g),
    (θ_run Cert.InRefIdeal.defs _ _).mono (fun r h c => ⟨(h c).1.trans (by
        rw [Cert.InRefIdeal.Read.val_main_v4_eq, (ha c).1, (ha c).2]; exact Cert.InRefIdeal.Product.final _ _), (h c).2⟩)
      (Cert.InRefIdeal.Value.run (F := Ideal) m' g')⟩

/-- The reference for the output projection ends with its arguments unchanged. -/
theorem frameOutRef : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- Kernel and reference agree on the output projection. -/
theorem valueOut : Cert.algebraic_OutIdeal_OutRefIdeal := fun m g m' g' _ ha =>
  ⟨Cert.OutIdeal.Product.res m,
    (θ_run Cert.OutIdeal.defs _ _).mono (fun r h c => ⟨(h c).1.trans (Cert.OutIdeal.Product.final m c), (h c).2⟩)
      (Cert.OutIdeal.Value.run_blocks (F := Ideal) m g),
    (θ_run Cert.OutRefIdeal.defs _ _).mono (fun r h c => ⟨(h c).1.trans (by
        rw [Cert.OutRefIdeal.Read.val_main_v4_eq, (ha c).1, (ha c).2]; exact Cert.OutRefIdeal.Product.final _ _), (h c).2⟩)
      (Cert.OutRefIdeal.Value.run (F := Ideal) m' g')⟩

/-- The reference for the up projection ends with its arguments unchanged. -/
theorem frameUpRef : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

/-- Kernel and reference agree on the up projection. -/
theorem valueUp : Cert.algebraic_UpIdeal_UpRefIdeal := fun m g m' g' _ ha =>
  ⟨Cert.UpIdeal.Product.res m,
    (θ_run Cert.UpIdeal.defs _ _).mono (fun r h c => ⟨(h c).1.trans (Cert.UpIdeal.Product.final m c), (h c).2⟩)
      (Cert.UpIdeal.Value.run_blocks (F := Ideal) m g),
    (θ_run Cert.UpRefIdeal.defs _ _).mono (fun r h c => ⟨(h c).1.trans (by
        rw [Cert.UpRefIdeal.Read.val_main_v4_eq, (ha c).1, (ha c).2]; exact Cert.UpRefIdeal.Product.final _ _), (h c).2⟩)
      (Cert.UpRefIdeal.Value.run (F := Ideal) m' g')⟩

/-- The reference for the down projection ends with its arguments unchanged. -/
theorem frameDownRef : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- Kernel and reference agree on the down projection. -/
theorem valueDown : Cert.algebraic_DownIdeal_DownRefIdeal := fun m g m' g' _ ha =>
  ⟨Cert.DownIdeal.Product.res m,
    (θ_run Cert.DownIdeal.defs _ _).mono (fun r h c => ⟨(h c).1.trans (Cert.DownIdeal.Product.final m c), (h c).2⟩)
      (Cert.DownIdeal.Value.run_blocks (F := Ideal) m g),
    (θ_run Cert.DownRefIdeal.defs _ _).mono (fun r h c => ⟨(h c).1.trans (by
        rw [Cert.DownRefIdeal.Read.val_main_v4_eq, (ha c).1, (ha c).2]; exact Cert.DownRefIdeal.Product.final _ _), (h c).2⟩)
      (Cert.DownRefIdeal.Value.run (F := Ideal) m' g')⟩

end Cert.Product
-- ==== Proof.Gating.lean ====
module

public import Idealize.ShloMosaic.Lib.Pointwise
public import Idealize.ShloMosaic.PureOps.Ideal.Laws

@[expose] public section

noncomputable section

/-! The spatial gating unit over the extended reals, and its gradient: `u · (W v + s)`, where `u` is the gelu of one half of
    the columns, `v` the layer norm of the gelu of the other half, and `W` mixes, head by head, the rows of a chunk of 128. -/

namespace Cert.Gating

open Idealize.ShloMosaic

/-- `√(2/π)`, as the program's constant. -/
abbrev cRoot : EReal := Ideal.ofBits .f32 1061962282#32
/-- `0.044715`. -/
abbrev cCube : EReal := Ideal.ofBits .f32 1027024659#32
/-- `0.5`. -/
abbrev cHalf : EReal := Ideal.ofBits .f32 1056964608#32
/-- `-0.5`. -/
abbrev cNegHalf : EReal := Ideal.ofBits .f32 3204448256#32
/-- `1024`. -/
abbrev cWidth : EReal := Ideal.ofBits .f32 1149239296#32
/-- `10⁻⁶`. -/
abbrev cEps : EReal := Ideal.ofBits .f32 897988541#32
/-- `3`. -/
abbrev cThree : EReal := Ideal.ofBits .f32 1077936128#32

theorem cThree_eq : cThree = 3 := by
  have h : cThree = ((3 : ℝ) : EReal) := by
    simp [Ideal.ofBits, Ideal.ieee, -EReal.coe_mul]; norm_num
  exact h

theorem mul_three (y : EReal) : y * 3 = y + y + y := by
  have h3 : (3 : EReal) = ((3 : ℝ) : EReal) := rfl
  induction y with
  | bot => rw [h3, EReal.bot_mul_coe_of_pos (by norm_num)]; rfl
  | top => rw [h3, EReal.top_mul_coe_of_pos (by norm_num)]; rfl
  | coe y => rw [h3]; norm_cast; ring

/-- The bounded part of gelu. -/
def th (x : EReal) : EReal := Ideal.tanh (cRoot * (x + cCube * (x * x * x)))

/-- gelu, in its form with `tanh`. -/
def gelu (x : EReal) : EReal := x * (cHalf * (1 + th x))

/-- The gradient at gelu's argument `x` from the gradient `d` at its result. -/
def dgelu (x d : EReal) : EReal :=
  d * (cHalf * (1 + th x)) + cRoot * (cHalf * (x * d) * ((1 + th x) * (1 - th x)))
    + cCube * (cRoot * (cHalf * (x * d) * ((1 + th x) * (1 - th x)))) * (cThree * (x * x))

/-- The cube taken as a product of three factors, differentiated factor by factor, gives the same gradient. -/
theorem dgelu_factors (x d a b : EReal) (ha : a = cRoot * (cHalf * x * d * ((1 + th x) * (1 - th x)))) (hb : b = cCube * a) :
    a + x * x * b + x * (b * x) + b * x * x + cHalf * (d * (1 + th x)) = dgelu x d := by
  have e : a = cRoot * (cHalf * (x * d) * ((1 + th x) * (1 - th x))) := by rw [ha, mul_assoc cHalf x d]
  have h : cCube * a * (cThree * (x * x)) = x * x * b + x * (b * x) + b * x * x := by
    rw [← hb, cThree_eq, mul_left_comm, ← mul_comm (b * (x * x)), mul_three]
    congr 1
    · congr 1 <;> ac_rfl
    · ac_rfl
  rw [dgelu, ← e, h]
  ac_rfl

theorem gelu_eq (x : EReal) : cHalf * x * (1 + th x) = gelu x := by
  rw [gelu]; ac_rfl

/-! A row of 1024 and its layer norm. -/

abbrev Row := Fin 1024 → EReal

def mean (f : Row) : EReal := Ideal.div (∑ x, f x) cWidth

/-- The row's gelu less its mean. -/
def cen (f : Row) : Row := fun q => gelu (f q) - mean fun x => gelu (f x)
/-- The variance, with the small constant. -/
def var (f : Row) : EReal := mean (fun x => cen f x * cen f x) + cEps
def inv (f : Row) : EReal := Ideal.rsqrt (var f)
/-- The layer norm of the row's gelu, with gain `g` and shift `b`. -/
def norm (f g b : Row) : Row := fun q => cen f q * inv f * g q + b q

/-- The gradient at the norm's argument less its mean, from the gradient `e` at the norm. -/
def dcen (f g e : Row) : Row := fun q =>
  e q * g q * inv f
    + cen f q * Ideal.div ((∑ x, cen f x * (e x * g x)) * (cNegHalf * Ideal.div (inv f) (var f))) cWidth
    + Ideal.div ((∑ x, cen f x * (e x * g x)) * (cNegHalf * Ideal.div (inv f) (var f))) cWidth * cen f q

/-- The gradient at the row. -/
def dnorm (f g e : Row) : Row := fun q => dgelu (f q) (dcen f g e q + mean fun x => -dcen f g e x)

/-! A chunk: 128 rows, eight heads of 128 columns. -/

abbrev Rows := Fin 128 → Row

/-- The head of a column. -/
abbrev head (q : Fin 1024) : Fin 8 := ⟨q.val / 128, by omega⟩
/-- A column's place in its head. -/
abbrev lane (q : Fin 1024) : Fin 128 := ⟨q.val % 128, by omega⟩
/-- Column `x` of head `h`. -/
abbrev col (h : Fin 8) (x : Fin 128) : Fin 1024 := ⟨128 * h.val + x.val, by omega⟩

theorem col_head_lane (q : Fin 1024) : col (head q) (lane q) = q := Fin.ext (by show 128 * (q.val / 128) + q.val % 128 = q.val; omega)

/-- A choice among eight heads, made by comparing the column with 128, 256, and so on. -/
theorem pick_head (f : Fin 8 → Fin 128 → EReal) (q : Fin 1024) :
    (if h : q.val < 128 then f 0 ⟨q.val, h⟩
      else if h : q.val - 128 < 128 then f 1 ⟨q.val - 128, h⟩
      else if h : q.val - 128 - 128 < 128 then f 2 ⟨q.val - 128 - 128, h⟩
      else if h : q.val - 128 - 128 - 128 < 128 then f 3 ⟨q.val - 128 - 128 - 128, h⟩
      else if h : q.val - 128 - 128 - 128 - 128 < 128 then f 4 ⟨q.val - 128 - 128 - 128 - 128, h⟩
      else if h : q.val - 128 - 128 - 128 - 128 - 128 < 128 then f 5 ⟨q.val - 128 - 128 - 128 - 128 - 128, h⟩
      else if h : q.val - 128 - 128 - 128 - 128 - 128 - 128 < 128 then f 6 ⟨q.val - 128 - 128 - 128 - 128 - 128 - 128, h⟩
      else f 7 ⟨q.val - 128 - 128 - 128 - 128 - 128 - 128 - 128, by omega⟩) = f (head q) (lane q) := by
  have key (h : Fin 8) (x : Fin 128) (hq : q.val = 128 * h.val + x.val) : f h x = f (head q) (lane q) := by
    rw [show head q = h from Fin.ext (by show q.val / 128 = h.val; omega), show lane q = x from Fin.ext (by show q.val % 128 = x.val; omega)]
  split_ifs <;> apply key <;> simp only [Fin.val_zero, Fin.val_one, Fin.val_two, Fin.reduceFinMk, Fin.val_ofNat] <;> omega

abbrev Mix := Fin 8 → Fin 128 → Fin 128 → EReal

/-- The mixing weights, causal: row `i` takes from the rows up to `i`. -/
def low (w : Mix) : Mix := fun h i j => if j.val ≤ i.val then w h i j else 0

structure Chunk where
  /-- The gating half, before its gelu. -/
  u : Rows
  /-- The gated half, before its gelu and its norm. -/
  v : Rows
  /-- The gradient at the unit's result. -/
  d : Rows

variable (k : Chunk) (g b : Row) (w : Mix) (s : Rows)

/-- Head `h` of the mixed rows, at column `x` of the head. -/
def mixHead (h : Fin 8) (r x : Fin 128) : EReal := ∑ y, low w h r y * norm (k.v y) g b (col h x)
def mixed (r : Fin 128) (q : Fin 1024) : EReal := mixHead k g b w (head q) r (lane q) + s r q
/-- The gradient at the mixed rows. -/
def dmix (r : Fin 128) (q : Fin 1024) : EReal := k.d r q * gelu (k.u r q)
/-- Head `h` of the gradient at the norm. -/
def dvalHead (h : Fin 8) (r x : Fin 128) : EReal := ∑ y, low w h y r * dmix k y (col h x)
/-- The gradient at the norm. -/
def dval (r : Fin 128) : Row := fun q => dvalHead k w (head q) r (lane q)

def dU (r : Fin 128) (q : Fin 1024) : EReal := dgelu (k.u r q) (k.d r q * mixed k g b w s r q)
def dV (r : Fin 128) (q : Fin 1024) : EReal := dnorm (k.v r) g (dval k w r) q
/-- The chunk's part of the gradients at the gain, the shift and the weights (before the causal mask). -/
def dgain (q : Fin 1024) : EReal := ∑ r, cen (k.v r) q * inv (k.v r) * dval k w r q
@[inherit_doc dgain] def dshift (q : Fin 1024) : EReal := ∑ r, dval k w r q
@[inherit_doc dgain] def dweight (h : Fin 8) (i j : Fin 128) : EReal := ∑ x, dmix k i (col h x) * norm (k.v j) g b (col h x)

/-- A row of the operand's gradient: nothing in the first third, the gate's gradient, the value's. -/
def dzRow (r : Fin 128) (q : Fin 3072) : EReal :=
  if q.val < 1024 then 0 else if h : q.val - 1024 < 1024 then dU k g b w s r ⟨q.val - 1024, h⟩ else dV k g w r ⟨q.val - 2048, by have := q.isLt; omega⟩

/-! The whole arrays: sixteen chunks of 128 rows, the operand's columns in thirds of which the unit reads the last two. -/

/-- Row `r` of chunk `t`. -/
abbrev rowAt (t : Nat) (r : Fin 128) : Fin 2048 := ⟨(128 * t + r.val) % 2048, Nat.mod_lt _ (by omega)⟩

/-- Chunk `t` of the operand and of the gradient at the result. -/
def chunkAt (z : Fin 2048 → Fin 3072 → EReal) (d : Fin 2048 → Fin 1024 → EReal) (t : Nat) : Chunk where
  u r q := z (rowAt t r) ⟨1024 + q.val, by omega⟩
  v r q := z (rowAt t r) ⟨2048 + q.val, by omega⟩
  d r q := d (rowAt t r) q

/-- The mixer's bias, one number for each head and row of a chunk, along the head's columns. -/
def spread (s : Fin 8 → Fin 128 → EReal) : Rows := fun r q => s (head q) r

/-- A sum over the columns, head by head. -/
theorem sum_heads {M : Type} [AddCommMonoid M] (f : Fin 1024 → M) : ∑ x, f x = ∑ h : Fin 8, ∑ y : Fin 128, f (col h y) := by
  rw [← Fintype.sum_prod_type' (f := fun h y => f (col h y))]
  refine (Fintype.sum_equiv (finProdFinEquiv (m := 8) (n := 128)) _ _ fun p => ?_).symm
  exact congrArg f (Fin.ext (by show 128 * p.1.val + p.2.val = p.2.val + 128 * p.1.val; omega))

/-- A sum over the rows, chunk by chunk. -/
theorem sum_chunks {M : Type} [AddCommMonoid M] (f : Fin 2048 → M) : ∑ x, f x = ∑ t ∈ Finset.range 16, ∑ r : Fin 128, f (rowAt t r) := by
  rw [Finset.sum_range (n := 16) fun t => ∑ r : Fin 128, f (rowAt t r), ← Fintype.sum_prod_type' (f := fun (t : Fin 16) r => f (rowAt t.val r))]
  refine (Fintype.sum_equiv (finProdFinEquiv (m := 16) (n := 128)) _ _ fun p => ?_).symm
  exact congrArg f (Fin.ext (by
    have := p.1.isLt; have := p.2.isLt
    show (128 * p.1.val + p.2.val) % 2048 = p.2.val + 128 * p.1.val; omega))

/-! The parameters' gradients, summed over the chunks. -/

variable (K : Nat → Chunk)

abbrev gainSum (q : Fin 1024) : EReal := ∑ t ∈ Finset.range 16, dgain (K t) w q
abbrev shiftSum (q : Fin 1024) : EReal := ∑ t ∈ Finset.range 16, dshift (K t) w q
/-- Nothing above the diagonal. -/
abbrev weightSum (h : Fin 8) (i j : Fin 128) : EReal := if j.val ≤ i.val then ∑ t ∈ Finset.range 16, dweight (K t) g b h i j else 0
abbrev mixSum (r : Fin 128) (q : Fin 1024) : EReal := ∑ t ∈ Finset.range 16, dmix (K t) r q

/-- The sum of each head's columns, in the first eight of 128 columns. -/
def headSums (v : Fin 128 → Fin 1024 → EReal) (i h : Fin 128) : EReal :=
  if hh : h.val < 8 then ∑ x : Fin 128, v i (col ⟨h.val, hh⟩ x) else 0

end Cert.Gating
-- ==== Proof.GatingBlock.lean ====
module

public import proofs.«01_k».proof.Proof.Gen.SguIdeal.Skeleton
public import proofs.«01_k».proof.Proof.Gating
public import Idealize.ShloMosaic.Lib.WordCmp

@[expose] public section

set_option maxRecDepth 16384

noncomputable section

/-! The values that the gating unit's backward kernel forms at one grid point, at an index. -/

namespace Cert.SguIdeal.Gating

open Cert.SguIdeal Cert.SguIdeal.Gen Idealize.ShloMosaic Idealize.ShloMosaic.TcCoe Idealize.ShloMosaic.Tactic Idealize.SL.Sem
open Cert.Gating

/-- A block's rows. -/
def rows (x : Vec Ideal S128x1024 .f32) : Rows := fun r q => x (ix2 r q)
/-- A block of one row. -/
def row1 (x : Vec Ideal S1x1024 .f32) : Row := fun q => x (ix2 0 q)
def mix (x : Vec Ideal S8x128x128 .f32) : Mix := fun h i j => x (ix3 h i j)
/-- The chunk of a point. -/
def chunk (x0 x1 x2 : Vec Ideal S128x1024 .f32) : Chunk := ⟨rows x0, rows x1, rows x2⟩

/-- The causal mask on a product. -/
theorem select_low (i j : Fin 128) (a y : EReal) :
    Scalar.select (IntOp.cmpi CmpIPredicate.sle (BitVec.ofNat 32 j.val) (BitVec.ofNat 32 i.val)) (a * y) 0 = (if j.val ≤ i.val then a else 0) * y := by
  rw [WordCmp.cmpi_sle_ofNat (by have := j.isLt; omega) (by have := i.isLt; omega), show ∀ c : BitVec 1, Scalar.select c (a * y) 0 = if c = 1#1 then a * y else 0 from fun _ => rfl]
  by_cases h : j.val ≤ i.val <;> simp [h]

theorem pay20 (x : Vec Ideal S128x1024 .f32) (r : Fin 128) (q : Fin 1024) : k0_pay20 x (ix2 r q) = th (x (ix2 r q)) := by
  unfold k0_pay20 k0_pay19; pointwise; rfl
theorem pay31 (x : Vec Ideal S128x1024 .f32) (r : Fin 128) (q : Fin 1024) : k0_pay31 x (ix2 r q) = th (x (ix2 r q)) := by
  unfold k0_pay31 k0_pay30; pointwise; rfl
theorem pay34 (x : Vec Ideal S128x1024 .f32) (r : Fin 128) (q : Fin 1024) : k0_pay34 x (ix2 r q) = gelu (x (ix2 r q)) := by
  unfold k0_pay34 k0_pay29 k0_pay33; pointwise; rw [pay31]; exact gelu_eq _
theorem pay18_22 (x : Vec Ideal S128x1024 .f32) (r : Fin 128) (q : Fin 1024) : k0_pay18 x (ix2 r q) * k0_pay22 x (ix2 r q) = gelu (x (ix2 r q)) := by
  unfold k0_pay18 k0_pay22; pointwise; rw [pay20]; exact gelu_eq _
theorem pay23 (x : Vec Ideal S128x1024 .f32) (r : Fin 128) (q : Fin 1024) : k0_pay23 x (ix2 r q) = cen (rows x r) q := by
  unfold k0_pay23; pointwise; simp only [pay18_22]; rfl
theorem pay24 (x : Vec Ideal S128x1024 .f32) (r : Fin 128) : k0_pay24 x (ix2 r 0) = var (rows x r) := by
  unfold k0_pay24; pointwise; simp only [pay23]; rfl
theorem pay25 (x : Vec Ideal S128x1024 .f32) (r : Fin 128) : k0_pay25 x (ix2 r 0) = inv (rows x r) := by
  unfold k0_pay25; pointwise; rw [pay24]; rfl
theorem pay35 (x : Vec Ideal S128x1024 .f32) (g b : Vec Ideal S1x1024 .f32) (r : Fin 128) (q : Fin 1024) :
    k0_pay35 g b (k0_pay23 x) (k0_pay25 x) (ix2 r q) = norm (rows x r) (row1 g) (row1 b) q := by
  unfold k0_pay35 k0_pay28; pointwise; rw [pay23, pay25]; rfl
theorem pay46 (x0 x2 : Vec Ideal S128x1024 .f32) (x1 : Vec Ideal S128x1024 .f32) (r : Fin 128) (q : Fin 1024) :
    k0_pay46 (k0_pay34 x0) x2 (ix2 r q) = dmix (chunk x0 x1 x2) r q := by
  unfold k0_pay46; pointwise; rw [pay34]; rfl
theorem pay47 (x0 x2 : Vec Ideal S128x1024 .f32) (x1 : Vec Ideal S128x1024 .f32) (r : Fin 128) (q : Fin 1024) :
    k0_pay47 (k0_pay34 x0) x2 (ix2 r q) = dmix (chunk x0 x1 x2) r q := by
  unfold k0_pay47; pointwise; rw [pay46 x0 x2 x1]

/-- Head `h` of the weights, as the kernel loads it. -/
abbrev wh (x : Vec Ideal S8x128x128 .f32) (h : Fin 8) : Vec Ideal S1x128x128 .f32 := fun j => x (ix3 h (j 1) (j 2))

variable (x0 x1 x2 x6 : Vec Ideal S128x1024 .f32) (x3 x4 : Vec Ideal S1x1024 .f32) (x5 : Vec Ideal S8x128x128 .f32)

/-- The norm as the kernel rounds it. -/
abbrev vB : FVec Ideal S128x1024 .bf16 := k0_pay35 x3 x4 (k0_pay23 x1) (k0_pay25 x1)
/-- The gradient at the mixed rows as the kernel rounds it. -/
abbrev mB : FVec Ideal S128x1024 .bf16 := k0_pay47 (k0_pay34 x0) x2

theorem pay36 (r x : Fin 128) : k0_pay36 (ix2 r x) = IntOp.cmpi CmpIPredicate.sle (BitVec.ofNat 32 x.val) (BitVec.ofNat 32 r.val) := by
  unfold k0_pay36; pointwise
theorem pay48 (r x : Fin 128) : k0_pay48 (ix2 r x) = IntOp.cmpi CmpIPredicate.sle (BitVec.ofNat 32 x.val) (BitVec.ofNat 32 r.val) := by
  unfold k0_pay48; pointwise

theorem col_zero (x : Fin 128) (h : x.val < 1024) : (⟨x.val, h⟩ : Fin 1024) = col 0 x := Fin.ext (by show x.val = 128 * 0 + x.val; omega)

/-! The eight heads of the mixed rows, one payload each but for the last two, which the concatenation's payload forms itself. -/

theorem mix0 (r x : Fin 128) : k0_pay37 x3 x4 (k0_pay23 x1) (k0_pay25 x1) (wh x5 0) (ix2 r x) = mixHead (chunk x0 x1 x2) (row1 x3) (row1 x4) (mix x5) 0 r x := by
  unfold k0_pay37; pointwise; simp only [pay35, pay36, select_low, col_zero]; rfl
theorem mix1 (r x : Fin 128) : k0_pay39 (vB x1 x3 x4) (k0_pay38 (wh x5 1)) (ix2 r x) = mixHead (chunk x0 x1 x2) (row1 x3) (row1 x4) (mix x5) 1 r x := by
  unfold k0_pay39 k0_pay38; pointwise; simp only [pay35, pay36, select_low]; rfl
theorem mix2 (r x : Fin 128) : k0_pay40 (vB x1 x3 x4) k0_pay36 (wh x5 2) (ix2 r x) = mixHead (chunk x0 x1 x2) (row1 x3) (row1 x4) (mix x5) 2 r x := by
  unfold k0_pay40; pointwise; simp only [pay35, pay36, select_low]; rfl
theorem mix3 (r x : Fin 128) : k0_pay41 (vB x1 x3 x4) k0_pay36 (wh x5 3) (ix2 r x) = mixHead (chunk x0 x1 x2) (row1 x3) (row1 x4) (mix x5) 3 r x := by
  unfold k0_pay41; pointwise; simp only [pay35, pay36, select_low]; rfl
theorem mix4 (r x : Fin 128) : k0_pay42 (vB x1 x3 x4) k0_pay36 (wh x5 4) (ix2 r x) = mixHead (chunk x0 x1 x2) (row1 x3) (row1 x4) (mix x5) 4 r x := by
  unfold k0_pay42; pointwise; simp only [pay35, pay36, select_low]; rfl
theorem mix5 (r x : Fin 128) : k0_pay43 (vB x1 x3 x4) k0_pay36 (wh x5 5) (ix2 r x) = mixHead (chunk x0 x1 x2) (row1 x3) (row1 x4) (mix x5) 5 r x := by
  unfold k0_pay43; pointwise; simp only [pay35, pay36, select_low]; rfl

/-- The mixed rows with the bias. -/
abbrev mixB : FVec Ideal S128x1024 .f32 :=
  k0_pay45 (vB x1 x3 x4) k0_pay36 (k0_pay37 x3 x4 (k0_pay23 x1) (k0_pay25 x1) (wh x5 0)) (k0_pay39 (vB x1 x3 x4) (k0_pay38 (wh x5 1)))
    (k0_pay40 (vB x1 x3 x4) k0_pay36 (wh x5 2)) (k0_pay41 (vB x1 x3 x4) k0_pay36 (wh x5 3)) (k0_pay42 (vB x1 x3 x4) k0_pay36 (wh x5 4))
    (k0_pay43 (vB x1 x3 x4) k0_pay36 (wh x5 5)) (k0_pay44 k0_pay36 (wh x5 6)) (wh x5 7) x6

theorem mixB_apply (r : Fin 128) (q : Fin 1024) :
    mixB x1 x6 x3 x4 x5 (ix2 r q) = mixed (chunk x0 x1 x2) (row1 x3) (row1 x4) (mix x5) (rows x6) r q := by
  unfold mixB k0_pay45 k0_pay44
  pointwise
  simp only [mix0 x0 x1 x2, mix1 x0 x1 x2, mix2 x0 x1 x2, mix3 x0 x1 x2, mix4 x0 x1 x2, mix5 x0 x1 x2, pay35, pay36, select_low]
  exact congrArg (· + x6 (ix2 r q)) (pick_head (fun h => mixHead (chunk x0 x1 x2) (row1 x3) (row1 x4) (mix x5) h r) q)

/-! The heads of the gradient at the norm. -/

theorem dmix0 (r x : Fin 128) : k0_pay49 (k0_pay34 x0) x2 (wh x5 0) (ix2 r x) = dvalHead (chunk x0 x1 x2) (mix x5) 0 r x := by
  unfold k0_pay49; pointwise; simp only [pay47 x0 x2 x1, pay48, select_low, col_zero]; rfl
theorem dmix1 (r x : Fin 128) : k0_pay51 (mB x0 x2) k0_pay48 (wh x5 1) (ix2 r x) = dvalHead (chunk x0 x1 x2) (mix x5) 1 r x := by
  unfold k0_pay51; pointwise; simp only [pay47 x0 x2 x1, pay48, select_low]; rfl
theorem dmix2 (r x : Fin 128) : k0_pay53 (mB x0 x2) k0_pay48 (wh x5 2) (ix2 r x) = dvalHead (chunk x0 x1 x2) (mix x5) 2 r x := by
  unfold k0_pay53; pointwise; simp only [pay47 x0 x2 x1, pay48, select_low]; rfl
theorem dmix3 (r x : Fin 128) : k0_pay55 (mB x0 x2) k0_pay48 (wh x5 3) (ix2 r x) = dvalHead (chunk x0 x1 x2) (mix x5) 3 r x := by
  unfold k0_pay55; pointwise; simp only [pay47 x0 x2 x1, pay48, select_low]; rfl
theorem dmix4 (r x : Fin 128) : k0_pay57 (mB x0 x2) k0_pay48 (wh x5 4) (ix2 r x) = dvalHead (chunk x0 x1 x2) (mix x5) 4 r x := by
  unfold k0_pay57; pointwise; simp only [pay47 x0 x2 x1, pay48, select_low]; rfl
theorem dmix5 (r x : Fin 128) : k0_pay60 (mB x0 x2) k0_pay48 (k0_pay59 (wh x5 5)) (ix2 r x) = dvalHead (chunk x0 x1 x2) (mix x5) 5 r x := by
  unfold k0_pay60 k0_pay59; pointwise; simp only [pay47 x0 x2 x1, pay48, select_low]; rfl
theorem dmix6 (r x : Fin 128) : k0_pay62 (mB x0 x2) k0_pay48 (wh x5 6) (ix2 r x) = dvalHead (chunk x0 x1 x2) (mix x5) 6 r x := by
  unfold k0_pay62; pointwise; simp only [pay47 x0 x2 x1, pay48, select_low]; rfl

/-- The gradient at the norm. -/
abbrev dvB : FVec Ideal S128x1024 .f32 :=
  k0_pay67 (mB x0 x2) k0_pay48 (k0_pay49 (k0_pay34 x0) x2 (wh x5 0)) (k0_pay51 (mB x0 x2) k0_pay48 (wh x5 1)) (k0_pay53 (mB x0 x2) k0_pay48 (wh x5 2))
    (k0_pay55 (mB x0 x2) k0_pay48 (wh x5 3)) (k0_pay57 (mB x0 x2) k0_pay48 (wh x5 4)) (k0_pay60 (mB x0 x2) k0_pay48 (k0_pay59 (wh x5 5)))
    (k0_pay62 (mB x0 x2) k0_pay48 (wh x5 6)) (k0_pay64 (wh x5 7)) k0_pay65

theorem dvB_apply (r : Fin 128) (q : Fin 1024) : dvB x0 x2 x5 (ix2 r q) = dval (chunk x0 x1 x2) (mix x5) r q := by
  unfold dvB k0_pay67 k0_pay64 k0_pay65
  pointwise
  simp only [dmix0 x0 x1 x2, dmix1 x0 x1 x2, dmix2 x0 x1 x2, dmix3 x0 x1 x2, dmix4 x0 x1 x2, dmix5 x0 x1 x2, dmix6 x0 x1 x2, pay47 x0 x2 x1, pay48, select_low]
  exact pick_head (fun h => dvalHead (chunk x0 x1 x2) (mix x5) h r) q

/-! What the point adds to the sums. -/

abbrev dshiftB : FVec Ideal S1x1024 .f32 :=
  k0_pay68 (mB x0 x2) k0_pay48 (k0_pay49 (k0_pay34 x0) x2 (wh x5 0)) (k0_pay51 (mB x0 x2) k0_pay48 (wh x5 1)) (k0_pay53 (mB x0 x2) k0_pay48 (wh x5 2))
    (k0_pay55 (mB x0 x2) k0_pay48 (wh x5 3)) (k0_pay57 (mB x0 x2) k0_pay48 (wh x5 4)) (k0_pay60 (mB x0 x2) k0_pay48 (k0_pay59 (wh x5 5)))
    (k0_pay62 (mB x0 x2) k0_pay48 (wh x5 6)) (k0_pay64 (wh x5 7)) k0_pay65
abbrev dgainB : FVec Ideal S1x1024 .f32 :=
  k0_pay69 (k0_pay28 (k0_pay23 x1) (k0_pay25 x1)) (mB x0 x2) k0_pay48 (k0_pay49 (k0_pay34 x0) x2 (wh x5 0)) (k0_pay51 (mB x0 x2) k0_pay48 (wh x5 1)) (k0_pay53 (mB x0 x2) k0_pay48 (wh x5 2))
    (k0_pay55 (mB x0 x2) k0_pay48 (wh x5 3)) (k0_pay57 (mB x0 x2) k0_pay48 (wh x5 4)) (k0_pay60 (mB x0 x2) k0_pay48 (k0_pay59 (wh x5 5)))
    (k0_pay62 (mB x0 x2) k0_pay48 (wh x5 6)) (k0_pay64 (wh x5 7)) k0_pay65

theorem dshiftB_apply (q : Fin 1024) : dshiftB x0 x2 x5 (ix2 0 q) = dshift (chunk x0 x1 x2) (mix x5) q := by
  unfold dshiftB k0_pay68
  pointwise
  simp only [dvB_apply x0 x1 x2]
  rfl
theorem dgainB_apply (q : Fin 1024) : dgainB x0 x1 x2 x5 (ix2 0 q) = dgain (chunk x0 x1 x2) (mix x5) q := by
  unfold dgainB k0_pay69 k0_pay28
  pointwise
  simp only [dvB_apply x0 x1 x2, pay23, pay25]
  rfl

/-! What the point stores of the operand's gradient. -/

abbrev dcenB : FVec Ideal S128x1024 .f32 :=
  k0_pay70 x3 (k0_pay23 x1) (k0_pay25 x1) (k0_pay27 (k0_pay26 x1)) (mB x0 x2) k0_pay48 (k0_pay49 (k0_pay34 x0) x2 (wh x5 0)) (k0_pay51 (mB x0 x2) k0_pay48 (wh x5 1)) (k0_pay53 (mB x0 x2) k0_pay48 (wh x5 2))
    (k0_pay55 (mB x0 x2) k0_pay48 (wh x5 3)) (k0_pay57 (mB x0 x2) k0_pay48 (wh x5 4)) (k0_pay60 (mB x0 x2) k0_pay48 (k0_pay59 (wh x5 5)))
    (k0_pay62 (mB x0 x2) k0_pay48 (wh x5 6)) (k0_pay64 (wh x5 7)) k0_pay65
abbrev dmeanB : FVec Ideal S128x1 .f32 :=
  k0_pay71 x3 (k0_pay23 x1) (k0_pay25 x1) (k0_pay27 (k0_pay26 x1)) (mB x0 x2) k0_pay48 (k0_pay49 (k0_pay34 x0) x2 (wh x5 0)) (k0_pay51 (mB x0 x2) k0_pay48 (wh x5 1)) (k0_pay53 (mB x0 x2) k0_pay48 (wh x5 2))
    (k0_pay55 (mB x0 x2) k0_pay48 (wh x5 3)) (k0_pay57 (mB x0 x2) k0_pay48 (wh x5 4)) (k0_pay60 (mB x0 x2) k0_pay48 (k0_pay59 (wh x5 5)))
    (k0_pay62 (mB x0 x2) k0_pay48 (wh x5 6)) (k0_pay64 (wh x5 7)) k0_pay65
abbrev dvOut : FVec Ideal S128x1024 .bf16 :=
  k0_pay74 x1 (k0_pay18 x1) (k0_pay19 x1) (k0_pay21 x1) (k0_pay22 x1) (dcenB x0 x1 x2 x3 x5) (dmeanB x0 x1 x2 x3 x5)
abbrev duOut : FVec Ideal S128x1024 .bf16 :=
  k0_pay73 x0 (k0_pay29 x0) (k0_pay30 x0) (k0_pay32 x0) (k0_pay33 x0) (mixB x1 x6 x3 x4 x5) x2

theorem dcenB_apply (r : Fin 128) (q : Fin 1024) :
    dcenB x0 x1 x2 x3 x5 (ix2 r q) = dcen (rows x1 r) (row1 x3) (dval (chunk x0 x1 x2) (mix x5) r) q := by
  unfold dcenB k0_pay70 k0_pay27 k0_pay26
  pointwise
  simp only [dvB_apply x0 x1 x2, Finset.univ_unique, Fin.default_eq_zero, Finset.sum_singleton, pay23, pay24, pay25]
  rfl
theorem dmeanB_apply (r : Fin 128) :
    dmeanB x0 x1 x2 x3 x5 (ix2 r 0) = mean fun x => -dcen (rows x1 r) (row1 x3) (dval (chunk x0 x1 x2) (mix x5) r) x := by
  unfold dmeanB k0_pay71
  pointwise
  simp only [dcenB_apply x0 x1 x2, zero_sub]
  rfl
theorem dvOut_apply (r : Fin 128) (q : Fin 1024) : dvOut x0 x1 x2 x3 x5 (ix2 r q) = dV (chunk x0 x1 x2) (row1 x3) (mix x5) r q := by
  unfold dvOut k0_pay74 k0_pay18 k0_pay19 k0_pay21 k0_pay22
  pointwise
  simp only [Finset.univ_unique, Fin.default_eq_zero, Finset.sum_singleton, dcenB_apply x0 x1 x2, dmeanB_apply x0 x1 x2, pay20]
  exact dgelu_factors (rows x1 r q) (dcen (rows x1 r) (row1 x3) (dval (chunk x0 x1 x2) (mix x5) r) q + mean fun x => -dcen (rows x1 r) (row1 x3) (dval (chunk x0 x1 x2) (mix x5) r) x)
    _ _ rfl rfl
theorem duOut_apply (r : Fin 128) (q : Fin 1024) : duOut x0 x1 x2 x6 x3 x4 x5 (ix2 r q) = dU (chunk x0 x1 x2) (row1 x3) (row1 x4) (mix x5) (rows x6) r q := by
  unfold duOut k0_pay73 k0_pay29 k0_pay30 k0_pay32 k0_pay33
  pointwise
  simp only [mixB_apply x0 x1 x2, pay31]
  exact dgelu_factors (rows x0 r q) _ _ _ rfl rfl

/-! The weights' gradient, head by head: each payload adds the point's part to what it has loaded. -/

theorem weight0 (y : Vec Ideal S1x128x128 .f32) (i j : Fin 128) : k0_pay50 (k0_pay34 x0) (vB x1 x3 x4) x2 y (ix3 0 i j) = y (ix3 0 i j) + dweight (chunk x0 x1 x2) (row1 x3) (row1 x4) 0 i j := by
  unfold k0_pay50; pointwise; simp only [pay35, pay47 x0 x2 x1, col_zero]; rfl
theorem weight1 (y : Vec Ideal S1x128x128 .f32) (i j : Fin 128) : k0_pay52 (vB x1 x3 x4) (mB x0 x2) y (ix3 0 i j) = y (ix3 0 i j) + dweight (chunk x0 x1 x2) (row1 x3) (row1 x4) 1 i j := by
  unfold k0_pay52; pointwise; simp only [pay35, pay47 x0 x2 x1]; rfl
theorem weight2 (y : Vec Ideal S1x128x128 .f32) (i j : Fin 128) : k0_pay54 (vB x1 x3 x4) (mB x0 x2) y (ix3 0 i j) = y (ix3 0 i j) + dweight (chunk x0 x1 x2) (row1 x3) (row1 x4) 2 i j := by
  unfold k0_pay54; pointwise; simp only [pay35, pay47 x0 x2 x1]; rfl
theorem weight3 (y : Vec Ideal S1x128x128 .f32) (i j : Fin 128) : k0_pay56 (vB x1 x3 x4) (mB x0 x2) y (ix3 0 i j) = y (ix3 0 i j) + dweight (chunk x0 x1 x2) (row1 x3) (row1 x4) 3 i j := by
  unfold k0_pay56; pointwise; simp only [pay35, pay47 x0 x2 x1]; rfl
theorem weight4 (y : Vec Ideal S1x128x128 .f32) (i j : Fin 128) : k0_pay58 (vB x1 x3 x4) (mB x0 x2) y (ix3 0 i j) = y (ix3 0 i j) + dweight (chunk x0 x1 x2) (row1 x3) (row1 x4) 4 i j := by
  unfold k0_pay58; pointwise; simp only [pay35, pay47 x0 x2 x1]; rfl
theorem weight5 (y : Vec Ideal S1x128x128 .f32) (i j : Fin 128) : k0_pay61 (vB x1 x3 x4) (mB x0 x2) y (ix3 0 i j) = y (ix3 0 i j) + dweight (chunk x0 x1 x2) (row1 x3) (row1 x4) 5 i j := by
  unfold k0_pay61; pointwise; simp only [pay35, pay47 x0 x2 x1]; rfl
theorem weight6 (y : Vec Ideal S1x128x128 .f32) (i j : Fin 128) : k0_pay63 (vB x1 x3 x4) (mB x0 x2) y (ix3 0 i j) = y (ix3 0 i j) + dweight (chunk x0 x1 x2) (row1 x3) (row1 x4) 6 i j := by
  unfold k0_pay63; pointwise; simp only [pay35, pay47 x0 x2 x1]; rfl
theorem weight7 (y : Vec Ideal S1x128x128 .f32) (i j : Fin 128) : k0_pay66 (vB x1 x3 x4) (mB x0 x2) y (ix3 0 i j) = y (ix3 0 i j) + dweight (chunk x0 x1 x2) (row1 x3) (row1 x4) 7 i j := by
  unfold k0_pay66; pointwise; simp only [pay35, pay47 x0 x2 x1]; rfl

end Cert.SguIdeal.Gating
-- ==== Proof.GatingRuns.lean ====
module

public import proofs.«01_k».proof.Proof.GatingBlock
public import proofs.«01_k».proof.Proof.Gen.SguIdeal.Value
public import Idealize.ShloMosaic.Lib.Pipeline.ReadBack

@[expose] public section

set_option maxRecDepth 16384

noncomputable section

namespace Cert.SguIdeal.Gating

open Cert.Gating Cert.SguIdeal Cert.SguIdeal.Gen Idealize.ShloMosaic Idealize.ShloMosaic.TcCoe Idealize.ShloMosaic.Tactic Idealize.SL.Sem

/-! What one grid point of the gating unit's backward kernel leaves in each output block, as a term over the blocks it loaded: `x0`
    and `x1` the chunk's two operands, `x2` the gradient at its result, `x3` and `x4` the norm's gain and shift, `x5` the mixer's
    weights, `x6` its bias; after the first point also what the sums held before: `xo8` (gain), `xo9` (shift), `xo10` (weights),
    `xo11` (bias). -/

theorem hz : (![0, 0] : Fin 2 → Nat) = fun _ => 0 := funext fun a => by fin_cases a <;> rfl
theorem hz3 : (![0, 0, 0] : Fin 3 → Nat) = fun _ => 0 := funext fun a => by fin_cases a <;> rfl

/-- Loading one head's block of a stack of eight. -/
theorem ld_head (x : Vec Ideal S8x128x128 .f32) (k : Nat) (hk : ∀ a, (![k, 0, 0] : Fin 3 → Nat) a + S1x128x128.size a ≤ S8x128x128.size a) :
    View.ld x (Rect.unit (s := S8x128x128) ![k, 0, 0] ![1, 128, 128] hk) = wh x ⟨k, Nat.lt_of_succ_le (hk 0)⟩ := by
  funext j
  show x _ = x _
  congr 1
  funext a
  apply Fin.ext
  have h0 : (j 0).val < 1 := (j 0).isLt
  match a with
  | 0 => show k + 1 * (j 0).val = k; omega
  | 1 => show 0 + 1 * (j 1).val = (j 1).val; omega
  | 2 => show 0 + 1 * (j 2).val = (j 2).val; omega

/-- Loading the rectangle stored last gives what was stored. -/
theorem readCov_same {κ : Kind} {sp : Space} {s : Shape} {e : EltTy} (v : View sig κ sp s e) (r : Rect s) (w : r.shape.Idx → Elt Ideal e)
    (L : List (View.Piece (Elt Ideal) s e)) : v.readCov (⟨r, w⟩ :: L) r.toLoadRect = w := by
  rw [View.readCov_eq_canon']
  funext j
  exact View.canon_cons_emb r w L j

/-- Eight heads' blocks as one stack. -/
def heads8 (p : Fin 8 → Vec Ideal S1x128x128 .f32) : Vec Ideal S8x128x128 .f32 := fun j => p (j 0) (ix3 (0 : Fin 1) (j 1) (j 2))

theorem wh_heads8 (p : Fin 8 → Vec Ideal S1x128x128 .f32) (h : Fin 8) : wh (heads8 p) h = p h := by
  funext j
  show p h (ix3 (0 : Fin 1) (j 1) (j 2)) = p h j
  congr 1
  funext a
  match a with
  | 0 => exact Subsingleton.elim (α := Fin 1) _ _
  | 1 => rfl
  | 2 => rfl

/-- The store of one head's block puts that head of the stack in its place. -/
theorem heads8_piece (p : Fin 8 → Vec Ideal S1x128x128 .f32) (k : Nat) (hk : ∀ a, (![k, 0, 0] : Fin 3 → Nat) a + S1x128x128.size a ≤ S8x128x128.size a)
    (x : S1x128x128.Idx) : p ⟨k, Nat.lt_of_succ_le (hk 0)⟩ x = heads8 p ((Rect.unit (s := S8x128x128) ![k, 0, 0] S1x128x128.size hk).emb x) := by
  have h := congrFun (ld_head (heads8 p) k hk) x
  rw [wh_heads8] at h
  exact h.symm

/-- Eight stores of one head each, over anything stored before, leave the stack of them. -/
theorem canon_heads8 (p0 p1 p2 p3 p4 p5 p6 p7 : Vec Ideal S1x128x128 .f32) (L : List (View.Piece (Elt Ideal) S8x128x128 .f32)) :
    View.canon (([⟨Rect.unit (s := S8x128x128) ![7, 0, 0] S1x128x128.size inb_S8x128x128_S1x128x128_7_0_0, p7⟩, ⟨Rect.unit (s := S8x128x128) ![6, 0, 0] S1x128x128.size inb_S8x128x128_S1x128x128_6_0_0, p6⟩, ⟨Rect.unit (s := S8x128x128) ![5, 0, 0] S1x128x128.size inb_S8x128x128_S1x128x128_5_0_0, p5⟩, ⟨Rect.unit (s := S8x128x128) ![4, 0, 0] S1x128x128.size inb_S8x128x128_S1x128x128_4_0_0, p4⟩, ⟨Rect.unit (s := S8x128x128) ![3, 0, 0] S1x128x128.size inb_S8x128x128_S1x128x128_3_0_0, p3⟩, ⟨Rect.unit (s := S8x128x128) ![2, 0, 0] S1x128x128.size inb_S8x128x128_S1x128x128_2_0_0, p2⟩, ⟨Rect.unit (s := S8x128x128) ![1, 0, 0] S1x128x128.size inb_S8x128x128_S1x128x128_1_0_0, p1⟩, ⟨Rect.unit (s := S8x128x128) ![0, 0, 0] S1x128x128.size inb_S8x128x128_S1x128x128_0_0_0, p0⟩] : List (View.Piece (Elt Ideal) S8x128x128 .f32)) ++ L) = heads8 ![p0, p1, p2, p3, p4, p5, p6, p7] := by
  funext y
  refine View.canon_append_of_piecesOf (heads8 ![p0, p1, p2, p3, p4, p5, p6, p7]) L [⟨Rect.unit (s := S8x128x128) ![7, 0, 0] S1x128x128.size inb_S8x128x128_S1x128x128_7_0_0, p7⟩, ⟨Rect.unit (s := S8x128x128) ![6, 0, 0] S1x128x128.size inb_S8x128x128_S1x128x128_6_0_0, p6⟩, ⟨Rect.unit (s := S8x128x128) ![5, 0, 0] S1x128x128.size inb_S8x128x128_S1x128x128_5_0_0, p5⟩, ⟨Rect.unit (s := S8x128x128) ![4, 0, 0] S1x128x128.size inb_S8x128x128_S1x128x128_4_0_0, p4⟩, ⟨Rect.unit (s := S8x128x128) ![3, 0, 0] S1x128x128.size inb_S8x128x128_S1x128x128_3_0_0, p3⟩, ⟨Rect.unit (s := S8x128x128) ![2, 0, 0] S1x128x128.size inb_S8x128x128_S1x128x128_2_0_0, p2⟩, ⟨Rect.unit (s := S8x128x128) ![1, 0, 0] S1x128x128.size inb_S8x128x128_S1x128x128_1_0_0, p1⟩, ⟨Rect.unit (s := S8x128x128) ![0, 0, 0] S1x128x128.size inb_S8x128x128_S1x128x128_0_0_0, p0⟩] ⟨?_, ?_, ?_, ?_, ?_, ?_, ?_, ?_, trivial⟩ y ?_
  · exact fun x => heads8_piece ![p0, p1, p2, p3, p4, p5, p6, p7] 7 inb_S8x128x128_S1x128x128_7_0_0 x
  · exact fun x => heads8_piece ![p0, p1, p2, p3, p4, p5, p6, p7] 6 inb_S8x128x128_S1x128x128_6_0_0 x
  · exact fun x => heads8_piece ![p0, p1, p2, p3, p4, p5, p6, p7] 5 inb_S8x128x128_S1x128x128_5_0_0 x
  · exact fun x => heads8_piece ![p0, p1, p2, p3, p4, p5, p6, p7] 4 inb_S8x128x128_S1x128x128_4_0_0 x
  · exact fun x => heads8_piece ![p0, p1, p2, p3, p4, p5, p6, p7] 3 inb_S8x128x128_S1x128x128_3_0_0 x
  · exact fun x => heads8_piece ![p0, p1, p2, p3, p4, p5, p6, p7] 2 inb_S8x128x128_S1x128x128_2_0_0 x
  · exact fun x => heads8_piece ![p0, p1, p2, p3, p4, p5, p6, p7] 1 inb_S8x128x128_S1x128x128_1_0_0 x
  · exact fun x => heads8_piece ![p0, p1, p2, p3, p4, p5, p6, p7] 0 inb_S8x128x128_S1x128x128_0_0_0 x
  have key (k : Nat) (h : ∀ a, (![k, 0, 0] : Fin 3 → Nat) a + S1x128x128.size a ≤ S8x128x128.size a) (hk : (y 0).val = k) :
      y ∈ (Rect.unit (s := S8x128x128) ![k, 0, 0] S1x128x128.size h).set := by
    rw [Rect.mem_set_unit]
    have h1 : (y 1).val < 128 := (y 1).isLt
    have h2 : (y 2).val < 128 := (y 2).isLt
    intro a; match a with
    | 0 => show k ≤ (y 0).val ∧ (y 0).val < k + 1; omega
    | 1 => show 0 ≤ (y 1).val ∧ (y 1).val < 0 + 128; omega
    | 2 => show 0 ≤ (y 2).val ∧ (y 2).val < 0 + 128; omega
  have h0 : (y 0).val < 8 := (y 0).isLt
  rcases (by omega : (y 0).val = 7 ∨ (y 0).val = 6 ∨ (y 0).val = 5 ∨ (y 0).val = 4 ∨ (y 0).val = 3 ∨ (y 0).val = 2 ∨ (y 0).val = 1 ∨ (y 0).val = 0) with
    h | h | h | h | h | h | h | h
  · exact ⟨_, List.Mem.head _, key 7 inb_S8x128x128_S1x128x128_7_0_0 h⟩
  · exact ⟨_, List.Mem.tail _ (List.Mem.head _), key 6 inb_S8x128x128_S1x128x128_6_0_0 h⟩
  · exact ⟨_, List.Mem.tail _ (List.Mem.tail _ (List.Mem.head _)), key 5 inb_S8x128x128_S1x128x128_5_0_0 h⟩
  · exact ⟨_, List.Mem.tail _ (List.Mem.tail _ (List.Mem.tail _ (List.Mem.head _))), key 4 inb_S8x128x128_S1x128x128_4_0_0 h⟩
  · exact ⟨_, List.Mem.tail _ (List.Mem.tail _ (List.Mem.tail _ (List.Mem.tail _ (List.Mem.head _)))), key 3 inb_S8x128x128_S1x128x128_3_0_0 h⟩
  · exact ⟨_, List.Mem.tail _ (List.Mem.tail _ (List.Mem.tail _ (List.Mem.tail _ (List.Mem.tail _ (List.Mem.head _))))), key 2 inb_S8x128x128_S1x128x128_2_0_0 h⟩
  · exact ⟨_, List.Mem.tail _ (List.Mem.tail _ (List.Mem.tail _ (List.Mem.tail _ (List.Mem.tail _ (List.Mem.tail _ (List.Mem.head _)))))), key 1 inb_S8x128x128_S1x128x128_1_0_0 h⟩
  · exact ⟨_, List.Mem.tail _ (List.Mem.tail _ (List.Mem.tail _ (List.Mem.tail _ (List.Mem.tail _ (List.Mem.tail _ (List.Mem.tail _ (List.Mem.head _))))))), key 0 inb_S8x128x128_S1x128x128_0_0_0 h⟩

/-- Three blocks of 1024 columns side by side. -/
def thirds (p q r : Vec Ideal S128x1024 .bf16) : Vec Ideal S128x3072 .bf16 := fun j =>
  if h : (j 1).val < 1024 then p (ix2 (j 0) ⟨(j 1).val, h⟩) else if h : (j 1).val - 1024 < 1024 then q (ix2 (j 0) ⟨(j 1).val - 1024, h⟩)
  else r (ix2 (j 0) ⟨(j 1).val - 2048, by have : (j 1).val < 3072 := (j 1).isLt; omega⟩)

/-- Three stores of 1024 columns each leave the three blocks side by side. -/
theorem canon_thirds (p q r : Vec Ideal S128x1024 .bf16) :
    View.canon ([⟨Rect.unit (s := S128x3072) ![0, 2048] S128x1024.size inb_S128x3072_S128x1024_0_2048, r⟩, ⟨Rect.unit (s := S128x3072) ![0, 1024] S128x1024.size inb_S128x3072_S128x1024_0_1024, q⟩, ⟨Rect.unit (s := S128x3072) ![0, 0] S128x1024.size inb_S128x3072_S128x1024_0_0, p⟩] : List (View.Piece (Elt Ideal) S128x3072 .bf16)) = thirds p q r := by
  funext y
  have e0 (k : Nat) (h : ∀ a, (![0, k] : Fin 2 → Nat) a + S128x1024.size a ≤ S128x3072.size a) (x : S128x1024.Idx) :
      (Rect.unit (s := S128x3072) ![0, k] S128x1024.size h).emb x 0 = x 0 := by apply Fin.ext; show 0 + 1 * (x 0).val = (x 0).val; omega
  have e1 (k : Nat) (h : ∀ a, (![0, k] : Fin 2 → Nat) a + S128x1024.size a ≤ S128x3072.size a) (x : S128x1024.Idx) :
      ((Rect.unit (s := S128x3072) ![0, k] S128x1024.size h).emb x 1).val = k + (x 1).val := by show k + 1 * (x 1).val = k + (x 1).val; omega
  refine View.canon_append_of_piecesOf (thirds p q r) [] [⟨Rect.unit (s := S128x3072) ![0, 2048] S128x1024.size inb_S128x3072_S128x1024_0_2048, r⟩, ⟨Rect.unit (s := S128x3072) ![0, 1024] S128x1024.size inb_S128x3072_S128x1024_0_1024, q⟩, ⟨Rect.unit (s := S128x3072) ![0, 0] S128x1024.size inb_S128x3072_S128x1024_0_0, p⟩] ⟨?_, ?_, ?_, trivial⟩ y ?_
  · intro x
    have hx : (x 1).val < 1024 := (x 1).isLt
    simp only [thirds, e0, e1]
    rw [dif_neg (by omega), dif_neg (by omega)]
    congr 1; funext a; match a with
    | 0 => rfl
    | 1 => apply Fin.ext; show (x 1).val = 2048 + (x 1).val - 2048; omega
  · intro x
    have hx : (x 1).val < 1024 := (x 1).isLt
    simp only [thirds, e0, e1]
    rw [dif_neg (by omega), dif_pos (by omega)]
    congr 1; funext a; match a with
    | 0 => rfl
    | 1 => apply Fin.ext; show (x 1).val = 1024 + (x 1).val - 1024; omega
  · intro x
    have hx : (x 1).val < 1024 := (x 1).isLt
    simp only [thirds, e0, e1]
    rw [dif_pos (by omega)]
    congr 1; funext a; match a with
    | 0 => rfl
    | 1 => apply Fin.ext; show (x 1).val = 0 + (x 1).val; omega
  · have h0 : (y 0).val < 128 := (y 0).isLt
    have h1 : (y 1).val < 3072 := (y 1).isLt
    have key (k : Nat) (h : ∀ a, (![0, k] : Fin 2 → Nat) a + S128x1024.size a ≤ S128x3072.size a) (hk : k ≤ (y 1).val ∧ (y 1).val < k + 1024) :
        y ∈ (Rect.unit (s := S128x3072) ![0, k] S128x1024.size h).set := by
      rw [Rect.mem_set_unit]
      intro a; match a with
      | 0 => show 0 ≤ (y 0).val ∧ (y 0).val < 0 + 128; omega
      | 1 => exact hk
    rcases (by omega : 2048 ≤ (y 1).val ∨ 1024 ≤ (y 1).val ∧ (y 1).val < 2048 ∨ (y 1).val < 1024) with h | h | h
    · exact ⟨_, List.mem_cons_self, key 2048 (by decide) (by omega)⟩
    · exact ⟨_, List.mem_cons_of_mem _ List.mem_cons_self, key 1024 (by decide) (by omega)⟩
    · exact ⟨_, List.mem_cons_of_mem _ (List.mem_cons_of_mem _ List.mem_cons_self), key 0 (by decide) (by omega)⟩

section Terms
variable (x0 x1 x2 : Vec Ideal S128x1024 .f32) (x3 x4 : Vec Ideal S1x1024 .f32) (x5 y : Vec Ideal S8x128x128 .f32) (x6 : Vec Ideal S128x1024 .f32)

/-- The weights' gradient the point stores, head by head, over what it has loaded of the sum. -/
def weightsB : Fin 8 → Vec Ideal S1x128x128 .f32 :=
  ![k0_pay50 (k0_pay34 x0) (vB x1 x3 x4) x2 (wh y 0), k0_pay52 (vB x1 x3 x4) (mB x0 x2) (wh y 1), k0_pay54 (vB x1 x3 x4) (mB x0 x2) (wh y 2),
    k0_pay56 (vB x1 x3 x4) (mB x0 x2) (wh y 3), k0_pay58 (vB x1 x3 x4) (mB x0 x2) (wh y 4), k0_pay61 (vB x1 x3 x4) (mB x0 x2) (wh y 5),
    k0_pay63 (vB x1 x3 x4) (mB x0 x2) (wh y 6), k0_pay66 (vB x1 x3 x4) (mB x0 x2) (wh y 7)]

/-- The same under the causal mask, as the last point stores it. -/
def weightsC : Fin 8 → Vec Ideal S1x128x128 .f32 :=
  let p := weightsB x0 x1 x2 x3 x4 y
  ![k0_pay5 k0_pay48 (p 0), k0_pay6 k0_pay48 (p 1), k0_pay7 k0_pay48 (p 2), k0_pay8 k0_pay48 (p 3), k0_pay9 k0_pay48 (p 4), k0_pay10 k0_pay48 (p 5),
    k0_pay11 k0_pay48 (p 6), k0_pay12 k0_pay48 (p 7)]

/-- The block of the operand's gradient: nothing, the gate's third, the value's third. -/
def dzB : Vec Ideal S128x3072 .bf16 := thirds (k0_pay72 (F := Ideal)) (duOut x0 x1 x2 x6 x3 x4 x5) (dvOut x0 x1 x2 x3 x5)

end Terms

variable (c : Dev nD) (i : grid0.Coords)
  (a1 : Memref sig .tc .vmem S128x1024 .f32) (h1 : a1.IsWhole) (a2 : Memref sig .tc .vmem S128x1024 .f32) (h2 : a2.IsWhole)
  (a3 : Memref sig .tc .vmem S128x1024 .f32) (h3 : a3.IsWhole) (a4 : Memref sig .tc .vmem S1x1024 .f32) (h4 : a4.IsWhole)
  (a5 : Memref sig .tc .vmem S1x1024 .f32) (h5 : a5.IsWhole) (a6 : Memref sig .tc .vmem S8x128x128 .f32) (h6 : a6.IsWhole)
  (a7 : Memref sig .tc .vmem S128x1024 .f32) (h7 : a7.IsWhole) (a8 : Memref sig .tc .vmem S128x3072 .bf16) (h8 : a8.IsWhole)
  (a9 : Memref sig .tc .vmem S1x1024 .f32) (h9 : a9.IsWhole) (a10 : Memref sig .tc .vmem S1x1024 .f32) (h10 : a10.IsWhole)
  (a11 : Memref sig .tc .vmem S8x128x128 .f32) (h11 : a11.IsWhole) (a12 : Memref sig .tc .vmem S128x1024 .f32) (h12 : a12.IsWhole)
  (a13 : Memref sig .tc .vmem S128x128 .f32) (h13 : a13.IsWhole)
  (x0 x1 x2 : Vec Ideal S128x1024 .f32) (x3 x4 : Vec Ideal S1x1024 .f32) (x5 : Vec Ideal S8x128x128 .f32) (x6 : Vec Ideal S128x1024 .f32)
  (xo8 xo9 : Vec Ideal S1x1024 .f32) (xo10 : Vec Ideal S8x128x128 .f32) (xo11 : Vec Ideal S128x1024 .f32)

/-- The output blocks at the first point. -/
theorem outs_A (hc : cond0_0 i) (hd : ¬cond0_1 i) :
    out0_A_7 (F := Ideal) c i a1 h1 a2 h2 a3 h3 a4 h4 a5 h5 a6 h6 a7 h7 a8 h8 a9 h9 a10 h10 a11 h11 a12 h12 a13 h13 hc hd x0 x1 x2 x3 x4 x5 x6 = dzB x0 x1 x2 x3 x4 x5 x6 ∧
    out0_A_8 (F := Ideal) c i a1 h1 a2 h2 a3 h3 a4 h4 a5 h5 a6 h6 a7 h7 a8 h8 a9 h9 a10 h10 a11 h11 a12 h12 a13 h13 hc hd x0 x1 x2 x3 x4 x5 x6 = k0_pay1 (dgainB x0 x1 x2 x5) (k0_pay13 (F := Ideal)) ∧
    out0_A_9 (F := Ideal) c i a1 h1 a2 h2 a3 h3 a4 h4 a5 h5 a6 h6 a7 h7 a8 h8 a9 h9 a10 h10 a11 h11 a12 h12 a13 h13 hc hd x0 x1 x2 x3 x4 x5 x6 = k0_pay2 (dshiftB x0 x2 x5) (k0_pay14 (F := Ideal)) ∧
    out0_A_10 (F := Ideal) c i a1 h1 a2 h2 a3 h3 a4 h4 a5 h5 a6 h6 a7 h7 a8 h8 a9 h9 a10 h10 a11 h11 a12 h12 a13 h13 hc hd x0 x1 x2 x3 x4 x5 x6 = heads8 (weightsB x0 x1 x2 x3 x4 (k0_pay15 (F := Ideal))) ∧
    out0_A_11 (F := Ideal) c i a1 h1 a2 h2 a3 h3 a4 h4 a5 h5 a6 h6 a7 h7 a8 h8 a9 h9 a10 h10 a11 h11 a12 h12 a13 h13 hc hd x0 x1 x2 x3 x4 x5 x6 = k0_pay3 (k0_pay46 (k0_pay34 x0) x2) (k0_pay16 (F := Ideal)) ∧
    out0_A_12 (F := Ideal) c i a1 h1 a2 h2 a3 h3 a4 h4 a5 h5 a6 h6 a7 h7 a8 h8 a9 h9 a10 h10 a11 h11 a12 h12 a13 h13 hc hd x0 x1 x2 x3 x4 x5 x6 = k0_pay17 (F := Ideal) := by
  refine ⟨(View.read_writes_eq_canon _ _ _ (cover0_A_7 c i a1 h1 a2 h2 a3 h3 a4 h4 a5 h5 a6 h6 a7 h7 a8 h8 a9 h9 a10 h10 a11 h11 a12 h12 a13 h13 hc hd x0 x1 x2 x3 x4 x5 x6)).trans ?_,
    (View.read_writes_eq_canon _ _ _ (cover0_A_8 c i a1 h1 a2 h2 a3 h3 a4 h4 a5 h5 a6 h6 a7 h7 a8 h8 a9 h9 a10 h10 a11 h11 a12 h12 a13 h13 hc hd x0 x1 x2 x3 x4 x5 x6)).trans ?_,
    (View.read_writes_eq_canon _ _ _ (cover0_A_9 c i a1 h1 a2 h2 a3 h3 a4 h4 a5 h5 a6 h6 a7 h7 a8 h8 a9 h9 a10 h10 a11 h11 a12 h12 a13 h13 hc hd x0 x1 x2 x3 x4 x5 x6)).trans ?_,
    (View.read_writes_eq_canon _ _ _ (cover0_A_10 c i a1 h1 a2 h2 a3 h3 a4 h4 a5 h5 a6 h6 a7 h7 a8 h8 a9 h9 a10 h10 a11 h11 a12 h12 a13 h13 hc hd x0 x1 x2 x3 x4 x5 x6)).trans ?_,
    (View.read_writes_eq_canon _ _ _ (cover0_A_11 c i a1 h1 a2 h2 a3 h3 a4 h4 a5 h5 a6 h6 a7 h7 a8 h8 a9 h9 a10 h10 a11 h11 a12 h12 a13 h13 hc hd x0 x1 x2 x3 x4 x5 x6)).trans ?_,
    (View.read_writes_eq_canon _ _ _ (cover0_A_12 c i a1 h1 a2 h2 a3 h3 a4 h4 a5 h5 a6 h6 a7 h7 a8 h8 a9 h9 a10 h10 a11 h11 a12 h12 a13 h13 hc hd x0 x1 x2 x3 x4 x5 x6)).trans ?_⟩
  all_goals
    unfold kernelRun0_A
    dsimp only
    sl_unfold_words
    try simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S128x1024) hz,
      View.ld_unit_zero (S := S1x1024) hz, View.ld_unit_zero (S := S8x128x128) hz3, shapeCast_self]
  · rw [canon_thirds]
    simp only [ld_head]
    rfl
  · rw [View.canon_cons_unit_zero (S := S1x1024) hz]
    simp only [View.readCov_unit_zero (S := S1x1024) _ hz]
    simp only [ld_head]
    rfl
  · rw [View.canon_cons_unit_zero (S := S1x1024) hz]
    simp only [View.readCov_unit_zero (S := S1x1024) _ hz]
    simp only [ld_head]
    rfl
  · refine (canon_heads8 _ _ _ _ _ _ _ _ _).trans ?_
    simp (disch := decide) only [↓View.readCov_skip, ↓View.readCov_fill]
    simp only [ld_head]
    rfl
  · rw [View.canon_cons_unit_zero (S := S128x1024) hz]
    simp only [View.readCov_unit_zero (S := S128x1024) _ hz]
  · rw [View.canon_unit_zero hz]

/-- The output blocks at the points between. -/
theorem outs_B (hc : ¬cond0_0 i) (hd : ¬cond0_1 i) :
    out0_B_7 (F := Ideal) c i a1 h1 a2 h2 a3 h3 a4 h4 a5 h5 a6 h6 a7 h7 a8 h8 a9 h9 a10 h10 a11 h11 a12 h12 a13 h13 hc hd x0 x1 x2 x3 x4 x5 x6 xo8 xo9 xo10 xo11 = dzB x0 x1 x2 x3 x4 x5 x6 ∧
    out0_B_8 (F := Ideal) c i a1 h1 a2 h2 a3 h3 a4 h4 a5 h5 a6 h6 a7 h7 a8 h8 a9 h9 a10 h10 a11 h11 a12 h12 a13 h13 hc hd x0 x1 x2 x3 x4 x5 x6 xo8 xo9 xo10 xo11 = k0_pay1 (dgainB x0 x1 x2 x5) xo8 ∧
    out0_B_9 (F := Ideal) c i a1 h1 a2 h2 a3 h3 a4 h4 a5 h5 a6 h6 a7 h7 a8 h8 a9 h9 a10 h10 a11 h11 a12 h12 a13 h13 hc hd x0 x1 x2 x3 x4 x5 x6 xo8 xo9 xo10 xo11 = k0_pay2 (dshiftB x0 x2 x5) xo9 ∧
    out0_B_10 (F := Ideal) c i a1 h1 a2 h2 a3 h3 a4 h4 a5 h5 a6 h6 a7 h7 a8 h8 a9 h9 a10 h10 a11 h11 a12 h12 a13 h13 hc hd x0 x1 x2 x3 x4 x5 x6 xo8 xo9 xo10 xo11 = heads8 (weightsB x0 x1 x2 x3 x4 xo10) ∧
    out0_B_11 (F := Ideal) c i a1 h1 a2 h2 a3 h3 a4 h4 a5 h5 a6 h6 a7 h7 a8 h8 a9 h9 a10 h10 a11 h11 a12 h12 a13 h13 hc hd x0 x1 x2 x3 x4 x5 x6 xo8 xo9 xo10 xo11 = k0_pay3 (k0_pay46 (k0_pay34 x0) x2) xo11 := by
  refine ⟨(View.read_writes_eq_canon _ _ _ (cover0_B_7 c i a1 h1 a2 h2 a3 h3 a4 h4 a5 h5 a6 h6 a7 h7 a8 h8 a9 h9 a10 h10 a11 h11 a12 h12 a13 h13 hc hd x0 x1 x2 x3 x4 x5 x6 xo8 xo9 xo10 xo11)).trans ?_,
    (View.read_writes_eq_canon _ _ _ (cover0_B_8 c i a1 h1 a2 h2 a3 h3 a4 h4 a5 h5 a6 h6 a7 h7 a8 h8 a9 h9 a10 h10 a11 h11 a12 h12 a13 h13 hc hd x0 x1 x2 x3 x4 x5 x6 xo8 xo9 xo10 xo11)).trans ?_,
    (View.read_writes_eq_canon _ _ _ (cover0_B_9 c i a1 h1 a2 h2 a3 h3 a4 h4 a5 h5 a6 h6 a7 h7 a8 h8 a9 h9 a10 h10 a11 h11 a12 h12 a13 h13 hc hd x0 x1 x2 x3 x4 x5 x6 xo8 xo9 xo10 xo11)).trans ?_,
    (View.read_writes_eq_canon _ _ _ (cover0_B_10 c i a1 h1 a2 h2 a3 h3 a4 h4 a5 h5 a6 h6 a7 h7 a8 h8 a9 h9 a10 h10 a11 h11 a12 h12 a13 h13 hc hd x0 x1 x2 x3 x4 x5 x6 xo8 xo9 xo10 xo11)).trans ?_,
    (View.read_writes_eq_canon _ _ _ (cover0_B_11 c i a1 h1 a2 h2 a3 h3 a4 h4 a5 h5 a6 h6 a7 h7 a8 h8 a9 h9 a10 h10 a11 h11 a12 h12 a13 h13 hc hd x0 x1 x2 x3 x4 x5 x6 xo8 xo9 xo10 xo11)).trans ?_⟩
  all_goals
    unfold kernelRun0_B
    dsimp only
    sl_unfold_words
    try simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S128x1024) hz,
      View.ld_unit_zero (S := S1x1024) hz, View.ld_unit_zero (S := S8x128x128) hz3, shapeCast_self]
  · rw [canon_thirds]
    simp only [ld_head]
    rfl
  · rw [View.canon_unit_zero hz]
    simp only [ld_head]
    rfl
  · rw [View.canon_unit_zero hz]
    simp only [ld_head]
    rfl
  · refine (canon_heads8 _ _ _ _ _ _ _ _ _).trans ?_
    simp only [ld_head]
    rfl
  · rw [View.canon_unit_zero hz]

/-- The output blocks at the last point. -/
theorem outs_C (hc : ¬cond0_0 i) (hd : cond0_1 i) :
    out0_C_7 (F := Ideal) c i a1 h1 a2 h2 a3 h3 a4 h4 a5 h5 a6 h6 a7 h7 a8 h8 a9 h9 a10 h10 a11 h11 a12 h12 a13 h13 hc hd x0 x1 x2 x3 x4 x5 x6 xo8 xo9 xo10 xo11 = dzB x0 x1 x2 x3 x4 x5 x6 ∧
    out0_C_8 (F := Ideal) c i a1 h1 a2 h2 a3 h3 a4 h4 a5 h5 a6 h6 a7 h7 a8 h8 a9 h9 a10 h10 a11 h11 a12 h12 a13 h13 hc hd x0 x1 x2 x3 x4 x5 x6 xo8 xo9 xo10 xo11 = k0_pay1 (dgainB x0 x1 x2 x5) xo8 ∧
    out0_C_9 (F := Ideal) c i a1 h1 a2 h2 a3 h3 a4 h4 a5 h5 a6 h6 a7 h7 a8 h8 a9 h9 a10 h10 a11 h11 a12 h12 a13 h13 hc hd x0 x1 x2 x3 x4 x5 x6 xo8 xo9 xo10 xo11 = k0_pay2 (dshiftB x0 x2 x5) xo9 ∧
    out0_C_10 (F := Ideal) c i a1 h1 a2 h2 a3 h3 a4 h4 a5 h5 a6 h6 a7 h7 a8 h8 a9 h9 a10 h10 a11 h11 a12 h12 a13 h13 hc hd x0 x1 x2 x3 x4 x5 x6 xo8 xo9 xo10 xo11 = heads8 (weightsC x0 x1 x2 x3 x4 xo10) ∧
    out0_C_11 (F := Ideal) c i a1 h1 a2 h2 a3 h3 a4 h4 a5 h5 a6 h6 a7 h7 a8 h8 a9 h9 a10 h10 a11 h11 a12 h12 a13 h13 hc hd x0 x1 x2 x3 x4 x5 x6 xo8 xo9 xo10 xo11 = k0_pay3 (k0_pay46 (k0_pay34 x0) x2) xo11 ∧
    out0_C_12 (F := Ideal) c i a1 h1 a2 h2 a3 h3 a4 h4 a5 h5 a6 h6 a7 h7 a8 h8 a9 h9 a10 h10 a11 h11 a12 h12 a13 h13 hc hd x0 x1 x2 x3 x4 x5 x6 xo8 xo9 xo10 xo11 = k0_pay4 (k0_pay3 (k0_pay46 (k0_pay34 x0) x2) xo11) := by
  refine ⟨(View.read_writes_eq_canon _ _ _ (cover0_C_7 c i a1 h1 a2 h2 a3 h3 a4 h4 a5 h5 a6 h6 a7 h7 a8 h8 a9 h9 a10 h10 a11 h11 a12 h12 a13 h13 hc hd x0 x1 x2 x3 x4 x5 x6 xo8 xo9 xo10 xo11)).trans ?_,
    (View.read_writes_eq_canon _ _ _ (cover0_C_8 c i a1 h1 a2 h2 a3 h3 a4 h4 a5 h5 a6 h6 a7 h7 a8 h8 a9 h9 a10 h10 a11 h11 a12 h12 a13 h13 hc hd x0 x1 x2 x3 x4 x5 x6 xo8 xo9 xo10 xo11)).trans ?_,
    (View.read_writes_eq_canon _ _ _ (cover0_C_9 c i a1 h1 a2 h2 a3 h3 a4 h4 a5 h5 a6 h6 a7 h7 a8 h8 a9 h9 a10 h10 a11 h11 a12 h12 a13 h13 hc hd x0 x1 x2 x3 x4 x5 x6 xo8 xo9 xo10 xo11)).trans ?_,
    (View.read_writes_eq_canon _ _ _ (cover0_C_10 c i a1 h1 a2 h2 a3 h3 a4 h4 a5 h5 a6 h6 a7 h7 a8 h8 a9 h9 a10 h10 a11 h11 a12 h12 a13 h13 hc hd x0 x1 x2 x3 x4 x5 x6 xo8 xo9 xo10 xo11)).trans ?_,
    (View.read_writes_eq_canon _ _ _ (cover0_C_11 c i a1 h1 a2 h2 a3 h3 a4 h4 a5 h5 a6 h6 a7 h7 a8 h8 a9 h9 a10 h10 a11 h11 a12 h12 a13 h13 hc hd x0 x1 x2 x3 x4 x5 x6 xo8 xo9 xo10 xo11)).trans ?_,
    (View.read_writes_eq_canon _ _ _ (cover0_C_12 c i a1 h1 a2 h2 a3 h3 a4 h4 a5 h5 a6 h6 a7 h7 a8 h8 a9 h9 a10 h10 a11 h11 a12 h12 a13 h13 hc hd x0 x1 x2 x3 x4 x5 x6 xo8 xo9 xo10 xo11)).trans ?_⟩
  all_goals
    unfold kernelRun0_C
    dsimp only
    sl_unfold_words
    try simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S128x1024) hz,
      View.ld_unit_zero (S := S1x1024) hz, View.ld_unit_zero (S := S8x128x128) hz3, shapeCast_self]
  · rw [canon_thirds]
    simp only [ld_head]
    rfl
  · rw [View.canon_unit_zero hz]
    simp only [ld_head]
    rfl
  · rw [View.canon_unit_zero hz]
    simp only [ld_head]
    rfl
  · refine (canon_heads8 _ _ _ _ _ _ _ _ _).trans ?_
    simp (disch := decide) only [↓View.readCov_skip, ↓readCov_same]
    simp only [ld_head]
    rfl
  · rw [View.canon_unit_zero hz]
  · rw [View.canon_unit_zero hz]
    simp only [View.readCov_unit_zero (S := S128x1024) _ hz]

end Cert.SguIdeal.Gating
-- ==== Proof.GatingArrays.lean ====
module

public import proofs.«01_k».proof.Proof.GatingRuns

@[expose] public section

set_option maxRecDepth 16384

noncomputable section

namespace Cert.SguIdeal.Gating

open Cert.SguIdeal Cert.SguIdeal.Gen Idealize.ShloMosaic Idealize.ShloMosaic.TcCoe Idealize.ShloMosaic.Tactic Idealize.SL.Sem
open Cert.Gating
open Idealize.ShloMosaic.Pipeline (Dat)

/-! The stored blocks at an index. -/

theorem select_mask (i j : Fin 128) (a : EReal) : Scalar.select (k0_pay48 (ix2 i j)) a 0 = if j.val ≤ i.val then a else 0 := by
  have h := select_low i j a 1
  rw [mul_one, mul_one] at h
  rw [pay48]
  exact h

theorem pay1_apply (a b : Vec Ideal S1x1024 .f32) (q : Fin 1024) : k0_pay1 a b (ix2 0 q) = b (ix2 0 q) + a (ix2 0 q) := by
  unfold k0_pay1; pointwise
theorem pay2_apply (a b : Vec Ideal S1x1024 .f32) (q : Fin 1024) : k0_pay2 a b (ix2 0 q) = b (ix2 0 q) + a (ix2 0 q) := by
  unfold k0_pay2; pointwise
theorem pay3_apply (a b : Vec Ideal S128x1024 .f32) (r : Fin 128) (q : Fin 1024) : k0_pay3 a b (ix2 r q) = b (ix2 r q) + a (ix2 r q) := by
  unfold k0_pay3; pointwise
theorem pay13_apply (j : S1x1024.Idx) : k0_pay13 (F := Ideal) j = 0 := by unfold k0_pay13; pointwise
theorem pay14_apply (j : S1x1024.Idx) : k0_pay14 (F := Ideal) j = 0 := by unfold k0_pay14; pointwise
theorem pay15_apply (j : S8x128x128.Idx) : k0_pay15 (F := Ideal) j = 0 := by unfold k0_pay15; pointwise
theorem pay16_apply (j : S128x1024.Idx) : k0_pay16 (F := Ideal) j = 0 := by unfold k0_pay16; pointwise
theorem pay72_apply (j : S128x1024.Idx) : k0_pay72 (F := Ideal) j = 0 := by unfold k0_pay72; pointwise

/-- The floor division of a column by 128, as the kernel computes it on words. -/
theorem head_word : ∀ x : Fin 1024, Scalar.select
    (IntOp.andi
      (IntOp.cmpi CmpIPredicate.ne
        (IntOp.subi (BitVec.setWidth 32 (IntOp.cmpi CmpIPredicate.sgt (BitVec.ofNat 32 x.val) 0#32))
          (BitVec.setWidth 32 (IntOp.cmpi CmpIPredicate.slt (BitVec.ofNat 32 x.val) 0#32)))
        (Scalar.subi (Scalar.extui (Scalar.cmpi CmpIPredicate.sgt 128#32 0#32)) (Scalar.extui (Scalar.cmpi CmpIPredicate.slt 128#32 0#32))))
      (IntOp.cmpi CmpIPredicate.ne (IntOp.remsi ArithUnit.vector (BitVec.ofNat 32 x.val) 128#32) 0#32))
    (IntOp.subi (IntOp.divsi ArithUnit.vector (BitVec.ofNat 32 x.val) 128#32) 1#32)
    (IntOp.divsi ArithUnit.vector (BitVec.ofNat 32 x.val) 128#32) = BitVec.ofNat 32 (x.val / 128) := by
  decide +kernel

theorem pay4_apply (v : Vec Ideal S128x1024 .f32) (i h : Fin 128) : k0_pay4 v (ix2 i h) = headSums (rows v) i h := by
  unfold k0_pay4; pointwise
  have e (x : Fin 1024) (a : EReal) : Scalar.select (IntOp.cmpi CmpIPredicate.eq (BitVec.ofNat 32 h.val) (BitVec.ofNat 32 (x.val / 128))) a 0
      = if h.val = x.val / 128 then a else 0 := by
    rw [WordCmp.cmpi_eq_ofNat (by have := h.isLt; omega) (by have := x.isLt; omega), show ∀ c : BitVec 1, Scalar.select c a 0 = if c = 1#1 then a else 0 from fun _ => rfl]
    by_cases hh : h.val = x.val / 128 <;> simp [hh]
  simp only [head_word, e]
  rw [sum_heads, headSums]
  have e2 (k : Fin 8) (x : Fin 128) : (col k x).val / 128 = k.val := by show (128 * k.val + x.val) / 128 = k.val; omega
  simp only [e2]
  split
  · next hh =>
    rw [Finset.sum_eq_single (⟨h.val, hh⟩ : Fin 8)]
    · exact Finset.sum_congr rfl fun x _ => if_pos rfl
    · intro k _ hk
      exact Finset.sum_eq_zero fun x _ => if_neg fun hc => hk (Fin.ext hc.symm)
    · exact fun hc => absurd (Finset.mem_univ _) hc
  · next hh =>
    exact Finset.sum_eq_zero fun k _ => Finset.sum_eq_zero fun x _ => if_neg fun hc => hh (by have := k.isLt; omega)

theorem weightsB_apply (x0 x1 x2 : Vec Ideal S128x1024 .f32) (x3 x4 : Vec Ideal S1x1024 .f32) (y : Vec Ideal S8x128x128 .f32) (h : Fin 8) (i j : Fin 128) :
    heads8 (weightsB x0 x1 x2 x3 x4 y) (ix3 h i j) = y (ix3 h i j) + dweight (chunk x0 x1 x2) (row1 x3) (row1 x4) h i j := by
  show weightsB x0 x1 x2 x3 x4 y h (ix3 0 i j) = _
  match h with
  | 0 => exact weight0 x0 x1 x2 x3 x4 (wh y 0) i j
  | 1 => exact weight1 x0 x1 x2 x3 x4 (wh y 1) i j
  | 2 => exact weight2 x0 x1 x2 x3 x4 (wh y 2) i j
  | 3 => exact weight3 x0 x1 x2 x3 x4 (wh y 3) i j
  | 4 => exact weight4 x0 x1 x2 x3 x4 (wh y 4) i j
  | 5 => exact weight5 x0 x1 x2 x3 x4 (wh y 5) i j
  | 6 => exact weight6 x0 x1 x2 x3 x4 (wh y 6) i j
  | 7 => exact weight7 x0 x1 x2 x3 x4 (wh y 7) i j

theorem weightsC_apply (x0 x1 x2 : Vec Ideal S128x1024 .f32) (x3 x4 : Vec Ideal S1x1024 .f32) (y : Vec Ideal S8x128x128 .f32) (h : Fin 8) (i j : Fin 128) :
    heads8 (weightsC x0 x1 x2 x3 x4 y) (ix3 h i j) = if j.val ≤ i.val then y (ix3 h i j) + dweight (chunk x0 x1 x2) (row1 x3) (row1 x4) h i j else 0 := by
  rw [← weightsB_apply, ← select_mask]
  show weightsC x0 x1 x2 x3 x4 y h (ix3 0 i j) = Scalar.select _ (weightsB x0 x1 x2 x3 x4 y h (ix3 0 i j)) 0
  unfold weightsC
  generalize weightsB x0 x1 x2 x3 x4 y = p
  match h with
  | 0 => show k0_pay5 k0_pay48 (p 0) (ix3 0 i j) = _; unfold k0_pay5; pointwise
  | 1 => show k0_pay6 k0_pay48 (p 1) (ix3 0 i j) = _; unfold k0_pay6; pointwise
  | 2 => show k0_pay7 k0_pay48 (p 2) (ix3 0 i j) = _; unfold k0_pay7; pointwise
  | 3 => show k0_pay8 k0_pay48 (p 3) (ix3 0 i j) = _; unfold k0_pay8; pointwise
  | 4 => show k0_pay9 k0_pay48 (p 4) (ix3 0 i j) = _; unfold k0_pay9; pointwise
  | 5 => show k0_pay10 k0_pay48 (p 5) (ix3 0 i j) = _; unfold k0_pay10; pointwise
  | 6 => show k0_pay11 k0_pay48 (p 6) (ix3 0 i j) = _; unfold k0_pay11; pointwise
  | 7 => show k0_pay12 k0_pay48 (p 7) (ix3 0 i j) = _; unfold k0_pay12; pointwise

variable (m : (ℓ : Loc nD τ sig) → Buf (Elt Ideal) ℓ) (c : Dev nD)

/-! The six arguments. -/

abbrev argZ (i : Fin 2048) (j : Fin 3072) : EReal := (m (c.tc.loc main_arg0) : Vec Ideal S2048x3072 .f32) (ix2 i j)
abbrev argD (i : Fin 2048) (j : Fin 1024) : EReal := (m (c.tc.loc main_arg1) : Vec Ideal S2048x1024 .f32) (ix2 i j)
abbrev argG : Row := row1 (m (c.tc.loc main_arg2))
abbrev argB : Row := row1 (m (c.tc.loc main_arg3))
abbrev argW : Mix := mix (m (c.tc.loc main_arg4))
abbrev argS (h : Fin 8) (i : Fin 128) : EReal := (m (c.tc.loc main_arg5) : Vec Ideal S8x128 .f32) (ix2 h i)
/-- The chunk that point `t` works on. -/
abbrev at_ (t : Nat) : Chunk := chunkAt (argZ m c) (argD m c) t

theorem idx_eq : ∀ t : Fin grid0.N, (win0_0.index t 0 = t.val ∧ win0_0.index t 1 = 1)
    ∧ (win0_1.index t 0 = t.val ∧ win0_1.index t 1 = 2)
    ∧ (win0_2.index t 0 = t.val ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0 ∧ win0_5.index t 2 = 0)
    ∧ (win0_6.index t 0 = 0 ∧ win0_6.index t 1 = 0)
    ∧ (win0_7.index t 0 = t.val ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0 ∧ win0_10.index t 2 = 0)
    ∧ (win0_12.index t 0 = 0 ∧ win0_12.index t 1 = 0) := by
  decide +kernel

theorem t_lt (t : Fin cfg0.N) : t.val < 16 := lt_of_lt_of_eq t.isLt N_0

theorem V_bias (r : Fin 128) (q : Fin 1024) : (V m c main_v2 : Vec Ideal S128x1024 .f32) (ix2 r q) = spread (argS m c) r q := by
  show StableHlo.after hostOps0 _ (Proc.devRef .tc main_v2) _ = _
  after_results
  pointwise
  rfl

theorem iblk0 (t : Fin cfg0.N) (r : Fin 128) (q : Fin 1024) :
    (iblk m c 0 t : Vec Ideal S128x1024 .f32) (ix2 r q) = (at_ m c t.val).u r q := by
  have ht := t_lt t
  have e := (idx_eq t).1
  unfold iblk
  rw [View.read_apply]
  show V m c main_arg0 _ = _
  rw [V_main_arg0]
  show m (c.tc.loc main_arg0) _ = m (c.tc.loc main_arg0) _
  congr 1
  funext a
  apply Fin.ext
  match a with
  | 0 => show win0_0.index t 0 * 128 + 1 * r.val = (128 * t.val + r.val) % 2048; omega
  | 1 => show win0_0.index t 1 * 1024 + 1 * q.val = 1024 + q.val; omega

theorem iblk1 (t : Fin cfg0.N) (r : Fin 128) (q : Fin 1024) :
    (iblk m c 1 t : Vec Ideal S128x1024 .f32) (ix2 r q) = (at_ m c t.val).v r q := by
  have ht := t_lt t
  have e := (idx_eq t).2.1
  unfold iblk
  rw [View.read_apply]
  show V m c main_arg0 _ = _
  rw [V_main_arg0]
  show m (c.tc.loc main_arg0) _ = m (c.tc.loc main_arg0) _
  congr 1
  funext a
  apply Fin.ext
  match a with
  | 0 => show win0_1.index t 0 * 128 + 1 * r.val = (128 * t.val + r.val) % 2048; omega
  | 1 => show win0_1.index t 1 * 1024 + 1 * q.val = 2048 + q.val; omega

theorem iblk2 (t : Fin cfg0.N) (r : Fin 128) (q : Fin 1024) :
    (iblk m c 2 t : Vec Ideal S128x1024 .f32) (ix2 r q) = (at_ m c t.val).d r q := by
  have ht := t_lt t
  have e := (idx_eq t).2.2.1
  unfold iblk
  rw [View.read_apply]
  show V m c main_arg1 _ = _
  rw [V_main_arg1]
  show m (c.tc.loc main_arg1) _ = m (c.tc.loc main_arg1) _
  congr 1
  funext a
  apply Fin.ext
  match a with
  | 0 => show win0_2.index t 0 * 128 + 1 * r.val = (128 * t.val + r.val) % 2048; omega
  | 1 => show win0_2.index t 1 * 1024 + 1 * q.val = q.val; omega

theorem iblk3 (t : Fin cfg0.N) (q : Fin 1024) :
    (iblk m c 3 t : Vec Ideal S1x1024 .f32) (ix2 0 q) = argG m c q := by
  have ht := t_lt t
  have e := (idx_eq t).2.2.2.1
  unfold iblk
  rw [View.read_apply]
  show V m c main_arg2 _ = _
  rw [V_main_arg2]
  show m (c.tc.loc main_arg2) _ = m (c.tc.loc main_arg2) _
  congr 1
  funext a
  apply Fin.ext
  match a with
  | 0 => show win0_3.index t 0 * 1 + 1 * 0 = 0; omega
  | 1 => show win0_3.index t 1 * 1024 + 1 * q.val = q.val; omega

theorem iblk4 (t : Fin cfg0.N) (q : Fin 1024) :
    (iblk m c 4 t : Vec Ideal S1x1024 .f32) (ix2 0 q) = argB m c q := by
  have ht := t_lt t
  have e := (idx_eq t).2.2.2.2.1
  unfold iblk
  rw [View.read_apply]
  show V m c main_arg3 _ = _
  rw [V_main_arg3]
  show m (c.tc.loc main_arg3) _ = m (c.tc.loc main_arg3) _
  congr 1
  funext a
  apply Fin.ext
  match a with
  | 0 => show win0_4.index t 0 * 1 + 1 * 0 = 0; omega
  | 1 => show win0_4.index t 1 * 1024 + 1 * q.val = q.val; omega

theorem iblk5 (t : Fin cfg0.N) (h : Fin 8) (i j : Fin 128) :
    (iblk m c 5 t : Vec Ideal S8x128x128 .f32) (ix3 h i j) = argW m c h i j := by
  have ht := t_lt t
  have e := (idx_eq t).2.2.2.2.2.1
  unfold iblk
  rw [View.read_apply]
  show V m c main_arg4 _ = _
  rw [V_main_arg4]
  show m (c.tc.loc main_arg4) _ = m (c.tc.loc main_arg4) _
  congr 1
  funext a
  apply Fin.ext
  match a with
  | 0 => show win0_5.index t 0 * 8 + 1 * h.val = h.val; omega
  | 1 => show win0_5.index t 1 * 128 + 1 * i.val = i.val; omega
  | 2 => show win0_5.index t 2 * 128 + 1 * j.val = j.val; omega

theorem iblk6 (t : Fin cfg0.N) (r : Fin 128) (q : Fin 1024) :
    (iblk m c 6 t : Vec Ideal S128x1024 .f32) (ix2 r q) = spread (argS m c) r q := by
  have e := (idx_eq t).2.2.2.2.2.2.1
  rw [← V_bias]
  unfold iblk
  rw [View.read_apply]
  show V m c main_v2 _ = V m c main_v2 _
  congr 1
  funext a
  apply Fin.ext
  match a with
  | 0 => show win0_6.index t 0 * 128 + 1 * r.val = r.val; omega
  | 1 => show win0_6.index t 1 * 1024 + 1 * q.val = q.val; omega

/-! Each point's blocks are the chunk it works on and the whole of the parameters. -/

theorem chunk_eq (t : Fin cfg0.N) : chunk (iblk m c 0 t) (iblk m c 1 t) (iblk m c 2 t) = at_ m c t.val := by
  have h0 : rows (iblk m c 0 t) = (at_ m c t.val).u := funext fun r => funext fun q => iblk0 m c t r q
  have h1 : rows (iblk m c 1 t) = (at_ m c t.val).v := funext fun r => funext fun q => iblk1 m c t r q
  have h2 : rows (iblk m c 2 t) = (at_ m c t.val).d := funext fun r => funext fun q => iblk2 m c t r q
  rw [chunk, h0, h1, h2]
theorem gain_eq (t : Fin cfg0.N) : row1 (iblk m c 3 t) = argG m c := funext fun q => iblk3 m c t q
theorem shift_eq (t : Fin cfg0.N) : row1 (iblk m c 4 t) = argB m c := funext fun q => iblk4 m c t q
theorem mix_eq (t : Fin cfg0.N) : mix (iblk m c 5 t) = argW m c := funext fun h => funext fun i => funext fun j => iblk5 m c t h i j
theorem bias_eq (t : Fin cfg0.N) : rows (iblk m c 6 t) = spread (argS m c) := funext fun r => funext fun q => iblk6 m c t r q

/-- What point `n` leaves in the sums: each over the chunks so far, the weights' under the causal mask at the last point. -/
structure After (n : Nat) (o8 o9 : Vec Ideal S1x1024 .f32) (o10 : Vec Ideal S8x128x128 .f32) (o11 : Vec Ideal S128x1024 .f32) : Prop where
  a8 : ∀ q, o8 (ix2 0 q) = ∑ t ∈ Finset.range (n + 1), dgain (at_ m c t) (argW m c) q
  a9 : ∀ q, o9 (ix2 0 q) = ∑ t ∈ Finset.range (n + 1), dshift (at_ m c t) (argW m c) q
  a10 : ∀ h i j, o10 (ix3 h i j) = if n = 15 → j.val ≤ i.val then ∑ t ∈ Finset.range (n + 1), dweight (at_ m c t) (argG m c) (argB m c) h i j else 0
  a11 : ∀ r q, o11 (ix2 r q) = ∑ t ∈ Finset.range (n + 1), dmix (at_ m c t) r q

/-- Every point leaves the sums so far. -/
theorem after_eq (n : Nat) : ∀ h : n < cfg0.N,
    After m c n (outsAt0 m c n h).2.1 (outsAt0 m c n h).2.2.1 (outsAt0 m c n h).2.2.2.1 (outsAt0 m c n h).2.2.2.2.1 := by
  induction n using Nat.strong_induction_on with
  | _ n ih =>
    intro h
    have hn : n < 16 := t_lt ⟨n, h⟩
    have d8 (q : Fin 1024) := dgainB_apply (iblk m c 0 ⟨n, h⟩) (iblk m c 1 ⟨n, h⟩) (iblk m c 2 ⟨n, h⟩) (iblk m c 5 ⟨n, h⟩) q
    have d9 (q : Fin 1024) := dshiftB_apply (iblk m c 0 ⟨n, h⟩) (iblk m c 1 ⟨n, h⟩) (iblk m c 2 ⟨n, h⟩) (iblk m c 5 ⟨n, h⟩) q
    have d11 (r : Fin 128) (q : Fin 1024) := pay46 (iblk m c 0 ⟨n, h⟩) (iblk m c 2 ⟨n, h⟩) (iblk m c 1 ⟨n, h⟩) r q
    rw [chunk_eq] at d8 d9 d11
    rw [mix_eq] at d8 d9
    by_cases h0 : n % 16 = 0
    · obtain rfl : n = 0 := by omega
      rw [outsAt0_A m c ⟨0, h⟩ h0 (by dsimp only; omega)]
      dsimp only
      obtain ⟨-, e8, e9, e10, e11, -⟩ := outs_A c _ _ _ _ _ _ _ _ _ _ _ _ _ _ _ _ _ _ _ _ _ _ _ _ _ _ _ _ _ _ _ _ _ _ _ _
      rw [e8, e9, e10, e11]
      refine ⟨fun q => ?_, fun q => ?_, fun k i j => ?_, fun r q => ?_⟩
      · rw [pay1_apply, pay13_apply, zero_add, d8, Finset.sum_range_one]
      · rw [pay2_apply, pay14_apply, zero_add, d9, Finset.sum_range_one]
      · rw [weightsB_apply, pay15_apply, zero_add, chunk_eq, gain_eq, shift_eq, Finset.sum_range_one, if_pos (by omega)]
      · rw [pay3_apply, pay16_apply, zero_add, d11, Finset.sum_range_one]
    · have I := ih (n - 1) (by omega) (by omega)
      have e1 : n - 1 + 1 = n := by omega
      have I8 := I.a8; have I9 := I.a9; have I10 := I.a10; have I11 := I.a11
      rw [e1] at I8 I9 I10 I11
      by_cases h1 : n % 16 = 15
      · rw [outsAt0_C m c ⟨n, h⟩ h0 h1]
        dsimp only
        obtain ⟨-, e8, e9, e10, e11, -⟩ := outs_C c _ _ _ _ _ _ _ _ _ _ _ _ _ _ _ _ _ _ _ _ _ _ _ _ _ _ _ _ _ _ _ _ _ _ _ _ _ _ _ _
        rw [e8, e9, e10, e11]
        refine ⟨fun q => ?_, fun q => ?_, fun k i j => ?_, fun r q => ?_⟩
        · rw [pay1_apply, I8, d8, Finset.sum_range_succ]
        · rw [pay2_apply, I9, d9, Finset.sum_range_succ]
        · rw [weightsC_apply, I10, if_pos (c := n - 1 = 15 → j.val ≤ i.val) (by omega), chunk_eq, gain_eq, shift_eq, Finset.sum_range_succ]
          exact if_congr ⟨fun hc _ => hc, fun hc => hc (by omega)⟩ rfl rfl
        · rw [pay3_apply, I11, d11, Finset.sum_range_succ]
      · rw [outsAt0_B m c ⟨n, h⟩ h0 h1]
        dsimp only
        obtain ⟨-, e8, e9, e10, e11⟩ := outs_B c _ _ _ _ _ _ _ _ _ _ _ _ _ _ _ _ _ _ _ _ _ _ _ _ _ _ _ _ _ _ _ _ _ _ _ _ _ _ _ _
        rw [e8, e9, e10, e11]
        refine ⟨fun q => ?_, fun q => ?_, fun k i j => ?_, fun r q => ?_⟩
        · rw [pay1_apply, I8, d8, Finset.sum_range_succ]
        · rw [pay2_apply, I9, d9, Finset.sum_range_succ]
        · rw [weightsB_apply, I10, if_pos (by omega), if_pos (by omega), chunk_eq, gain_eq, shift_eq, Finset.sum_range_succ]
        · rw [pay3_apply, I11, d11, Finset.sum_range_succ]

/-- A point's block of the operand's gradient. -/
theorem dzB_apply (x0 x1 x2 : Vec Ideal S128x1024 .f32) (x3 x4 : Vec Ideal S1x1024 .f32) (x5 : Vec Ideal S8x128x128 .f32) (x6 : Vec Ideal S128x1024 .f32)
    (r : Fin 128) (q : Fin 3072) : dzB x0 x1 x2 x3 x4 x5 x6 (ix2 r q)
      = dzRow (chunk x0 x1 x2) (row1 x3) (row1 x4) (mix x5) (rows x6) r q := by
  show (if h : q.val < 1024 then k0_pay72 (F := Ideal) (ix2 r ⟨q.val, h⟩) else if h : q.val - 1024 < 1024 then _ else _) = _
  unfold dzRow
  split
  · exact pay72_apply _
  · split
    · exact duOut_apply x0 x1 x2 x6 x3 x4 x5 r _
    · exact dvOut_apply x0 x1 x2 x3 x5 r _

/-- Every point leaves its block of the operand's gradient. -/
theorem dz_eq (t : Fin cfg0.N) (r : Fin 128) (q : Fin 3072) : ((outsAt0 m c t.val t.isLt).1 : Vec Ideal S128x3072 .bf16) (ix2 r q)
    = dzRow (at_ m c t.val) (argG m c) (argB m c) (argW m c) (spread (argS m c)) r q := by
  have ht := t_lt t
  rw [← chunk_eq, ← gain_eq m c t, ← shift_eq m c t, ← mix_eq m c t, ← bias_eq m c t, ← dzB_apply]
  by_cases h0 : t.val % 16 = 0
  · rw [outsAt0_A m c t h0 (by omega)]
    dsimp only
    rw [(outs_A c _ _ _ _ _ _ _ _ _ _ _ _ _ _ _ _ _ _ _ _ _ _ _ _ _ _ _ _ _ _ _ _ _ _ _ _).1]
  · by_cases h1 : t.val % 16 = 15
    · rw [outsAt0_C m c t h0 h1]
      dsimp only
      rw [(outs_C c _ _ _ _ _ _ _ _ _ _ _ _ _ _ _ _ _ _ _ _ _ _ _ _ _ _ _ _ _ _ _ _ _ _ _ _ _ _ _ _).1]
    · rw [outsAt0_B m c t h0 h1]
      dsimp only
      rw [(outs_B c _ _ _ _ _ _ _ _ _ _ _ _ _ _ _ _ _ _ _ _ _ _ _ _ _ _ _ _ _ _ _ _ _ _ _ _ _ _ _ _).1]

/-- The last point leaves the bias's gradient, head by head. -/
theorem dbs_eq (t : Fin cfg0.N) (h1 : t.val % 16 = 15) (i h : Fin 128) : ((outsAt0 m c t.val t.isLt).2.2.2.2.2 : Vec Ideal S128x128 .f32) (ix2 i h)
    = headSums (fun r q => ∑ t ∈ Finset.range 16, dmix (at_ m c t) r q) i h := by
  have ht := t_lt t
  have A := (after_eq m c t.val t.isLt).a11
  rw [outsAt0_C m c t (by omega) h1] at A ⊢
  dsimp only at A ⊢
  obtain ⟨-, -, -, -, e11, e12⟩ := outs_C c _ _ _ _ _ _ _ _ _ _ _ _ _ _ _ _ _ _ _ _ _ _ _ _ _ _ _ _ _ _ _ _ _ _ _ _ _ _ _ _
  rw [e11] at A
  rw [e12, pay4_apply]
  refine congrArg (fun v => headSums v i h) (funext fun r => funext fun q => ?_)
  rw [show (16 : Nat) = t.val + 1 by omega]
  exact A r q

end Cert.SguIdeal.Gating
-- ==== Proof.GatingFinal.lean ====
module

public import proofs.«01_k».proof.Proof.GatingArrays

@[expose] public section

set_option maxRecDepth 16384

noncomputable section

namespace Cert.SguIdeal.Gating

open Cert.SguIdeal Cert.SguIdeal.Gen Cert.SguIdeal.Value Idealize.ShloMosaic Idealize.ShloMosaic.TcCoe Idealize.ShloMosaic.Tactic Idealize.SL.Sem
open Cert.Gating
open Idealize.ShloMosaic.Pipeline (Dat)

variable (m : (ℓ : Loc nD τ sig) → Buf (Elt Ideal) ℓ) (c : Dev nD)

/-! What the five result arrays end holding. -/

abbrev resDz : Buf (Elt Ideal) ((c : Thread nD τ).loc main_v3_0) := fun i : S2048x3072.Idx =>
  dzRow (at_ m c ((i 0).val / 128)) (argG m c) (argB m c) (argW m c) (spread (argS m c)) ⟨(i 0).val % 128, Nat.mod_lt _ (by omega)⟩ (i 1)
abbrev resDg : Buf (Elt Ideal) ((c : Thread nD τ).loc main_v3_1) := fun i : S1x1024.Idx =>
  gainSum (argW m c) (at_ m c) (i 1)
abbrev resDb : Buf (Elt Ideal) ((c : Thread nD τ).loc main_v3_2) := fun i : S1x1024.Idx =>
  shiftSum (argW m c) (at_ m c) (i 1)
abbrev resDw : Buf (Elt Ideal) ((c : Thread nD τ).loc main_v3_3) := fun i : S8x128x128.Idx =>
  weightSum (argG m c) (argB m c) (at_ m c) (i 0) (i 1) (i 2)
abbrev resDs : Buf (Elt Ideal) ((c : Thread nD τ).loc main_v3_5) := fun i : S128x128.Idx =>
  headSums (mixSum (at_ m c)) (i 0) (i 1)

theorem flushed_dz (t : Fin cfg0.N) : (dats m 0 c).flushed 7 t = ((cfg0.win 7).blk t).view.read (Elt Ideal) (resDz m c) := by
  rw [flushed7]
  funext j
  rw [View.read_apply]
  have e := (idx_eq t).2.2.2.2.2.2.2.1
  have ht := t_lt t
  have h0 : (j 0).val < 128 := (j 0).isLt
  have h1 : (j 1).val < 3072 := (j 1).isLt
  have k0 : ((((cfg0.win 7).blk t).view.emb j : S2048x3072.Idx) 0).val = 128 * t.val + (j 0).val := by
    show win0_7.index t 0 * 128 + 1 * (j 0).val = _; omega
  have k1 : (((cfg0.win 7).blk t).view.emb j : S2048x3072.Idx) 1 = ⟨(j 1).val, h1⟩ := by
    apply Fin.ext; show win0_7.index t 1 * 3072 + 1 * (j 1).val = (j 1).val; omega
  refine Eq.trans ?_ ((dz_eq m c t ⟨(j 0).val, h0⟩ ⟨(j 1).val, h1⟩).trans ?_)
  · exact congrArg (outsAt0 m c t.val t.isLt).1 (funext fun a => match a with | 0 => rfl | 1 => rfl)
  · show _ = dzRow (at_ m c (_ / 128)) _ _ _ _ ⟨_ % 128, _⟩ _
    rw [k1]
    congr 1
    · rw [k0]; congr 1; omega
    · apply Fin.ext; show (j 0).val = _ % 128; rw [k0]; omega

theorem cover_dz (i : S2048x3072.Idx) : ∃ t : Fin cfg0.N, (cfg0.win 7).flush t = true ∧ i ∈ ((cfg0.win 7).blk t).view.set := by
  have h0 : (i 0).val < 2048 := (i 0).isLt
  have h1 : (i 1).val < 3072 := (i 1).isLt
  have ht : (i 0).val / 128 < cfg0.N := by rw [show cfg0.N = 16 from N_0]; omega
  generalize ht' : (⟨(i 0).val / 128, ht⟩ : Fin cfg0.N) = t
  have hv : t.val = (i 0).val / 128 := by rw [← ht']
  have e := (idx_eq t).2.2.2.2.2.2.2.1
  refine ⟨t, flush0_7 t, ?_⟩
  show i ∈ ((View.whole main_v3_0).slice (win0_7.rect t)).set
  rw [View.set_slice_whole, Rect.mem_set_unit]
  intro a
  match a with
  | 0 => show win0_7.index t 0 * 128 ≤ (i 0).val ∧ (i 0).val < win0_7.index t 0 * 128 + 128; omega
  | 1 => show win0_7.index t 1 * 3072 ≤ (i 1).val ∧ (i 1).val < win0_7.index t 1 * 3072 + 3072; omega

/-- The operand gradient's array. -/
theorem final_dz : (dats m 0 c).arrAt 7 cfg0.N = resDz m c :=
  (dats m 0 c).arrAt_eq_of_cover 7 (resDz m c) (fun t _ => flushed_dz m c t) cover_dz

/-- The last point. -/
abbrev lastPoint : Fin cfg0.N := ⟨15, by rw [show cfg0.N = 16 from N_0]; omega⟩

theorem flushed_dg (t : Fin cfg0.N) (hf : t.val % 16 = 15) : (dats m 0 c).flushed 8 t = ((cfg0.win 8).blk t).view.read (Elt Ideal) (resDg m c) := by
  rw [flushed8]
  funext j
  rw [View.read_apply]
  have ht := t_lt t
  have e := (idx_eq t).2.2.2.2.2.2.2.2.1
  have k : ((cfg0.win 8).blk t).view.emb j = (j : S1x1024.Idx) := by
    funext a
    apply Fin.ext
    match a with
    | 0 => show win0_8.index t 0 * 1 + 1 * (j 0).val = (j 0).val; omega
    | 1 => show win0_8.index t 1 * 1024 + 1 * (j 1).val = (j 1).val; omega
  rw [k]
  have A := (after_eq m c t.val t.isLt).a8 (j 1)
  rw [show t.val + 1 = 16 by omega] at A
  refine Eq.trans ?_ A
  exact congrArg (outsAt0 m c t.val t.isLt).2.1 (funext fun a => match a with | 0 => Subsingleton.elim (α := Fin 1) _ _ | 1 => rfl)

theorem cover_dg (i : S1x1024.Idx) : ∃ t : Fin cfg0.N, (cfg0.win 8).flush t = true ∧ i ∈ ((cfg0.win 8).blk t).view.set := by
  have e := (idx_eq lastPoint).2.2.2.2.2.2.2.2.1
  refine ⟨lastPoint, (flush0_8 lastPoint).mpr rfl, ?_⟩
  show i ∈ ((View.whole main_v3_1).slice (win0_8.rect lastPoint)).set
  rw [View.set_slice_whole, Rect.mem_set_unit]
  intro a
  match a with
  | 0 => show win0_8.index lastPoint 0 * 1 ≤ (i 0).val ∧ (i 0).val < win0_8.index lastPoint 0 * 1 + 1; have : (i 0).val < 1 := (i 0).isLt; omega
  | 1 => show win0_8.index lastPoint 1 * 1024 ≤ (i 1).val ∧ (i 1).val < win0_8.index lastPoint 1 * 1024 + 1024; have : (i 1).val < 1024 := (i 1).isLt; omega

/-- The gain gradient's array. -/
theorem final_dg : (dats m 0 c).arrAt 8 cfg0.N = resDg m c :=
  (dats m 0 c).arrAt_eq_of_cover 8 (resDg m c) (fun t hf => flushed_dg m c t ((flush0_8 t).mp hf)) cover_dg

theorem flushed_db (t : Fin cfg0.N) (hf : t.val % 16 = 15) : (dats m 0 c).flushed 9 t = ((cfg0.win 9).blk t).view.read (Elt Ideal) (resDb m c) := by
  rw [flushed9]
  funext j
  rw [View.read_apply]
  have ht := t_lt t
  have e := (idx_eq t).2.2.2.2.2.2.2.2.2.1
  have k : ((cfg0.win 9).blk t).view.emb j = (j : S1x1024.Idx) := by
    funext a
    apply Fin.ext
    match a with
    | 0 => show win0_9.index t 0 * 1 + 1 * (j 0).val = (j 0).val; omega
    | 1 => show win0_9.index t 1 * 1024 + 1 * (j 1).val = (j 1).val; omega
  rw [k]
  have A := (after_eq m c t.val t.isLt).a9 (j 1)
  rw [show t.val + 1 = 16 by omega] at A
  refine Eq.trans ?_ A
  exact congrArg (outsAt0 m c t.val t.isLt).2.2.1 (funext fun a => match a with | 0 => Subsingleton.elim (α := Fin 1) _ _ | 1 => rfl)

theorem cover_db (i : S1x1024.Idx) : ∃ t : Fin cfg0.N, (cfg0.win 9).flush t = true ∧ i ∈ ((cfg0.win 9).blk t).view.set := by
  have e := (idx_eq lastPoint).2.2.2.2.2.2.2.2.2.1
  refine ⟨lastPoint, (flush0_9 lastPoint).mpr rfl, ?_⟩
  show i ∈ ((View.whole main_v3_2).slice (win0_9.rect lastPoint)).set
  rw [View.set_slice_whole, Rect.mem_set_unit]
  intro a
  match a with
  | 0 => show win0_9.index lastPoint 0 * 1 ≤ (i 0).val ∧ (i 0).val < win0_9.index lastPoint 0 * 1 + 1; have : (i 0).val < 1 := (i 0).isLt; omega
  | 1 => show win0_9.index lastPoint 1 * 1024 ≤ (i 1).val ∧ (i 1).val < win0_9.index lastPoint 1 * 1024 + 1024; have : (i 1).val < 1024 := (i 1).isLt; omega

/-- The shift gradient's array. -/
theorem final_db : (dats m 0 c).arrAt 9 cfg0.N = resDb m c :=
  (dats m 0 c).arrAt_eq_of_cover 9 (resDb m c) (fun t hf => flushed_db m c t ((flush0_9 t).mp hf)) cover_db

theorem flushed_dw (t : Fin cfg0.N) (hf : t.val % 16 = 15) : (dats m 0 c).flushed 10 t = ((cfg0.win 10).blk t).view.read (Elt Ideal) (resDw m c) := by
  rw [flushed10]
  funext j
  rw [View.read_apply]
  have ht := t_lt t
  have e := (idx_eq t).2.2.2.2.2.2.2.2.2.2.1
  have k : ((cfg0.win 10).blk t).view.emb j = (j : S8x128x128.Idx) := by
    funext a
    apply Fin.ext
    match a with
    | 0 => show win0_10.index t 0 * 8 + 1 * (j 0).val = (j 0).val; omega
    | 1 => show win0_10.index t 1 * 128 + 1 * (j 1).val = (j 1).val; omega
    | 2 => show win0_10.index t 2 * 128 + 1 * (j 2).val = (j 2).val; omega
  rw [k]
  have A := (after_eq m c t.val t.isLt).a10 (j 0) (j 1) (j 2)
  rw [show t.val + 1 = 16 by omega] at A
  refine Eq.trans ?_ (A.trans (if_congr ⟨fun hc => hc (by omega), fun hc _ => hc⟩ rfl rfl))
  exact congrArg (outsAt0 m c t.val t.isLt).2.2.2.1 (funext fun a => match a with | 0 => rfl | 1 => rfl | 2 => rfl)

theorem cover_dw (i : S8x128x128.Idx) : ∃ t : Fin cfg0.N, (cfg0.win 10).flush t = true ∧ i ∈ ((cfg0.win 10).blk t).view.set := by
  have e := (idx_eq lastPoint).2.2.2.2.2.2.2.2.2.2.1
  refine ⟨lastPoint, (flush0_10 lastPoint).mpr rfl, ?_⟩
  show i ∈ ((View.whole main_v3_3).slice (win0_10.rect lastPoint)).set
  rw [View.set_slice_whole, Rect.mem_set_unit]
  intro a
  match a with
  | 0 => show win0_10.index lastPoint 0 * 8 ≤ (i 0).val ∧ (i 0).val < win0_10.index lastPoint 0 * 8 + 8; have : (i 0).val < 8 := (i 0).isLt; omega
  | 1 => show win0_10.index lastPoint 1 * 128 ≤ (i 1).val ∧ (i 1).val < win0_10.index lastPoint 1 * 128 + 128; have : (i 1).val < 128 := (i 1).isLt; omega
  | 2 => show win0_10.index lastPoint 2 * 128 ≤ (i 2).val ∧ (i 2).val < win0_10.index lastPoint 2 * 128 + 128; have : (i 2).val < 128 := (i 2).isLt; omega

/-- The weights' gradient's array. -/
theorem final_dw : (dats m 0 c).arrAt 10 cfg0.N = resDw m c :=
  (dats m 0 c).arrAt_eq_of_cover 10 (resDw m c) (fun t hf => flushed_dw m c t ((flush0_10 t).mp hf)) cover_dw

theorem flushed_ds (t : Fin cfg0.N) (hf : t.val % 16 = 15) : (dats m 0 c).flushed 12 t = ((cfg0.win 12).blk t).view.read (Elt Ideal) (resDs m c) := by
  rw [flushed12]
  funext j
  rw [View.read_apply]
  have ht := t_lt t
  have e := (idx_eq t).2.2.2.2.2.2.2.2.2.2.2
  have k : ((cfg0.win 12).blk t).view.emb j = (j : S128x128.Idx) := by
    funext a
    apply Fin.ext
    match a with
    | 0 => show win0_12.index t 0 * 128 + 1 * (j 0).val = (j 0).val; omega
    | 1 => show win0_12.index t 1 * 128 + 1 * (j 1).val = (j 1).val; omega
  rw [k]
  refine Eq.trans ?_ (dbs_eq m c t hf (j 0) (j 1))
  exact congrArg (outsAt0 m c t.val t.isLt).2.2.2.2.2 (funext fun a => match a with | 0 => rfl | 1 => rfl)

theorem cover_ds (i : S128x128.Idx) : ∃ t : Fin cfg0.N, (cfg0.win 12).flush t = true ∧ i ∈ ((cfg0.win 12).blk t).view.set := by
  have e := (idx_eq lastPoint).2.2.2.2.2.2.2.2.2.2.2
  refine ⟨lastPoint, (flush0_12 lastPoint).mpr rfl, ?_⟩
  show i ∈ ((View.whole main_v3_5).slice (win0_12.rect lastPoint)).set
  rw [View.set_slice_whole, Rect.mem_set_unit]
  intro a
  match a with
  | 0 => show win0_12.index lastPoint 0 * 128 ≤ (i 0).val ∧ (i 0).val < win0_12.index lastPoint 0 * 128 + 128; have : (i 0).val < 128 := (i 0).isLt; omega
  | 1 => show win0_12.index lastPoint 1 * 128 ≤ (i 1).val ∧ (i 1).val < win0_12.index lastPoint 1 * 128 + 128; have : (i 1).val < 128 := (i 1).isLt; omega

/-- The bias's gradient's array. -/
theorem final_ds : (dats m 0 c).arrAt 12 cfg0.N = resDs m c :=
  (dats m 0 c).arrAt_eq_of_cover 12 (resDs m c) (fun t hf => flushed_ds m c t ((flush0_12 t).mp hf)) cover_ds

end Cert.SguIdeal.Gating
-- ==== Proof.GatingRef.lean ====
module

public import proofs.«01_k».proof.Proof.Gating
public import proofs.«01_k».proof.Proof.Gen.SguRefIdeal.Read
public import Idealize.ShloMosaic.Lib.Pointwise
public import Idealize.ShloMosaic.Lib.IdealHost
public import Idealize.ShloMosaic.Lib.WordCmp
public import Idealize.ShloMosaic.Lib.TwoAxisContraction

@[expose] public section

set_option maxRecDepth 16384

noncomputable section

/-! The reference's values at an index: the gating unit's forward pass and its gradient, row by row. -/

namespace Cert.SguRefIdeal.Gating

open Cert.SguRefIdeal Cert.SguRefIdeal.Read Idealize.ShloMosaic Idealize.ShloMosaic.Tactic Idealize.SL.Sem
open Cert.Gating

variable (X : S2048x3072.Idx → EReal) (D : S2048x1024.Idx → EReal) (G B : S1x1024.Idx → EReal) (W : S8x128x128.Idx → EReal) (S : S8x128.Idx → EReal)

/-- The gating half of row `i` of the operand. -/
abbrev uRow (i : Fin 2048) : Row := fun q => X (ix2 i ⟨1024 + q.val, by omega⟩)
/-- The gated half. -/
abbrev vRow (i : Fin 2048) : Row := fun q => X (ix2 i ⟨2048 + q.val, by omega⟩)
abbrev one (g : S1x1024.Idx → EReal) : Row := fun q => g (ix2 0 q)
abbrev mix : Mix := fun h i j => W (ix3 h i j)
abbrev bias : Rows := spread fun h i => S (ix2 h i)
abbrev chunks (t : Nat) : Chunk := chunkAt (fun i q => X (ix2 i q)) (fun i q => D (ix2 i q)) t

/-- Row `r` of chunk `t`, counted from the array's first. -/
theorem row_eq (t : Fin 16) (r : Fin 128) (h : t.val * 128 + r.val < 2048) : (⟨t.val * 128 + r.val, h⟩ : Fin 2048) = rowAt t.val r :=
  Fin.ext (by show t.val * 128 + r.val = (128 * t.val + r.val) % 2048; omega)

theorem col_eq (h : Fin 8) (x : Fin 128) (hh : h.val * 128 + x.val < 1024) : (⟨h.val * 128 + x.val, hh⟩ : Fin 1024) = col h x :=
  Fin.ext (by show h.val * 128 + x.val = 128 * h.val + x.val; omega)

/-- A row's place in its chunk. -/
abbrev place (i : Fin 2048) : Fin 128 := ⟨i.val % 128, Nat.mod_lt _ (by omega)⟩

theorem row_place (i : Fin 2048) : rowAt (i.val / 128) (place i) = i :=
  Fin.ext (by show (128 * (i.val / 128) + i.val % 128) % 2048 = i.val; omega)

/-- What is stated of a row's chunk and place, at row `r` of chunk `t`. -/
theorem at_row {α : Type} (f : Nat → Fin 128 → α) (t : Nat) (ht : t < 16) (r : Fin 128) : f ((rowAt t r).val / 128) (place (rowAt t r)) = f t r := by
  have e : (128 * t + r.val) % 2048 = 128 * t + r.val := by omega
  rw [show (rowAt t r).val / 128 = t by dsimp only; omega, show place (rowAt t r) = r from Fin.ext (by show (128 * t + r.val) % 2048 % 128 = r.val; omega)]

theorem v1_apply (i : Fin 2048) (q : Fin 1024) : val_main_v1 (F := Ideal) X (ix2 i q) = uRow X i q := by
  unfold val_main_v1
  pointwise

theorem v2_apply (i : Fin 2048) (q : Fin 1024) : val_main_v2 (F := Ideal) X (ix2 i q) = vRow X i q := by
  unfold val_main_v2
  pointwise

theorem v15_apply (i : Fin 2048) (q : Fin 1024) : val_main_v15 (F := Ideal) X (ix2 i q) = th (uRow X i q) := by
  unfold val_main_v15 val_main_v14 val_main_v13 val_main_v12 val_main_v11 val_main_v10 val_main_v6 val_main_v5 val_main_cst_0 val_main_cst_1
  pointwise
  rw [v1_apply]
  rfl

theorem v36_apply (i : Fin 2048) (q : Fin 1024) : val_main_v36 (F := Ideal) X (ix2 i q) = th (vRow X i q) := by
  unfold val_main_v36 val_main_v35 val_main_v34 val_main_v33 val_main_v32 val_main_v31 val_main_v27 val_main_v26 val_main_cst_7 val_main_cst_8
  pointwise
  rw [v2_apply]
  rfl

/-- The gate. -/
theorem v25_apply (i : Fin 2048) (q : Fin 1024) : val_main_v25 (F := Ideal) X (ix2 i q) = gelu (uRow X i q) := by
  unfold val_main_v25 val_main_v24 val_main_v23 val_main_v22 val_main_v21 val_main_cst_4 val_main_cst_5
  pointwise
  rw [v1_apply, v15_apply]
  rfl

theorem v46_apply (i : Fin 2048) (q : Fin 1024) : val_main_v46 (F := Ideal) X (ix2 i q) = gelu (vRow X i q) := by
  unfold val_main_v46 val_main_v45 val_main_v44 val_main_v43 val_main_v42 val_main_cst_11 val_main_cst_12
  pointwise
  rw [v2_apply, v36_apply]
  rfl

theorem v52_apply (i : Fin 2048) (q : Fin 1024) : val_main_v52 (F := Ideal) X (ix2 i q) = cen (vRow X i) q := by
  unfold val_main_v52 val_main_v51 val_main_v50 val_main_v49 val_main_v48 val_main_v47 val_main_cst_13 val_main_cst_14
  pointwise
  simp only [v46_apply]
  rfl

theorem v59_apply (i : Fin 2048) : val_main_v59 (F := Ideal) X (ix2 i 0) = var (vRow X i) := by
  unfold val_main_v59 val_main_v58 val_main_v57 val_main_v56 val_main_v55 val_main_v54 val_main_v53 val_main_cst_15 val_main_cst_16 val_main_cst_17
  pointwise
  simp only [v52_apply]
  rfl

theorem v60_apply (i : Fin 2048) : val_main_v60 (F := Ideal) X (ix2 i 0) = inv (vRow X i) := by
  unfold val_main_v60
  pointwise
  rw [v59_apply]
  rfl

theorem v63_apply (i : Fin 2048) : val_main_v63 (F := Ideal) X (ix2 i 0) = cNegHalf * Ideal.div (inv (vRow X i)) (var (vRow X i)) := by
  unfold val_main_v63 val_main_v62 val_main_v61 val_main_cst_18
  pointwise
  rw [v59_apply, v60_apply]

theorem v65_apply (i : Fin 2048) (q : Fin 1024) : val_main_v65 (F := Ideal) X (ix2 i q) = cen (vRow X i) q * inv (vRow X i) := by
  unfold val_main_v65 val_main_v64
  pointwise
  rw [v52_apply, v60_apply]

/-- The layer norm. -/
theorem v71_apply (i : Fin 2048) (q : Fin 1024) : val_main_v71 (F := Ideal) X G B (ix2 i q) = norm (vRow X i) (one G) (one B) q := by
  unfold val_main_v71 val_main_v70 val_main_v69 val_main_v68 val_main_v67 val_main_v66 val_main_v4 val_main_v3
  pointwise
  rw [v65_apply]
  rfl

/-- The layer norm, by chunk, row of the chunk, head and column of the head. -/
theorem v72_apply (t : Fin 16) (r : Fin 128) (h : Fin 8) (x : Fin 128) :
    val_main_v72 (F := Ideal) X G B (ix4 t r h x) = norm (vRow X (rowAt t r)) (one G) (one B) (col h x) := by
  unfold val_main_v72
  pointwise
  rw [v71_apply, row_eq, col_eq]

/-- The causal mask. -/
theorem v76_1_apply (h : Fin 8) (i j : Fin 128) : val_main_v76_1 (F := Ideal) (ix3 h i j) = BitVec.ofBool (decide (j.val ≤ i.val)) := by
  unfold val_main_v76_1 val_main_v75 val_main_v74 val_main_v73 val_main_call0_v5 val_main_call0_c_0 val_main_call0_v4 val_main_call0_v3 val_main_call0_v2 val_main_call0_v1
    val_main_call0_c val_main_call0_v0 val_main_c
  pointwise
  rw [show IntOp.addi (BitVec.ofNat 32 i.val) 0#32 = BitVec.ofNat 32 i.val from BitVec.add_zero _,
    show IntOp.cmpi CmpIPredicate.sge (BitVec.ofNat 32 i.val) (BitVec.ofNat 32 j.val) = IntOp.cmpi CmpIPredicate.sle (BitVec.ofNat 32 j.val) (BitVec.ofNat 32 i.val) from rfl,
    WordCmp.cmpi_sle_ofNat (by omega) (by omega)]
  by_cases h : j.val ≤ i.val <;> simp [h, Scalar.select]

theorem v76_0_apply (h : Fin 8) (i j : Fin 128) : val_main_v76_0 (F := Ideal) W (ix3 h i j) = low (mix W) h i j := by
  unfold val_main_v76_0 val_main_call1_v2 val_main_call1_v0 val_main_cst_19
  pointwise
  rw [v76_1_apply]
  rw [show id (constant (F := Ideal) S_ FTy.f32 0#32) ix0 = 0 by show constant (F := Ideal) S_ FTy.f32 0#32 ix0 = 0; pointwise]
  by_cases h : j.val ≤ i.val <;> simp [h, Scalar.select, low, mix]

theorem v77_apply (h : Fin 8) (t : Fin 16) (x i : Fin 128) :
    val_main_v77 (F := Ideal) X G B W (ix4 h t x i) = mixHead (chunks X D t) (one G) (one B) (mix W) h i x := by
  unfold val_main_v77
  pointwise
  refine Finset.sum_congr rfl fun y _ => ?_
  rw [v72_apply, v76_0_apply, mul_comm]
  rfl

theorem v94_apply (h : Fin 8) (t : Fin 16) (x i : Fin 128) :
    val_main_v94 (F := Ideal) X D W (ix4 h t x i) = dvalHead (chunks X D t) (mix W) h i x := by
  unfold val_main_v94 val_main_v92 val_main_v87 val_main_v85
  pointwise
  refine Finset.sum_congr rfl fun y _ => ?_
  rw [v25_apply, v76_0_apply, row_eq, col_eq, mul_comm, mul_comm (gelu _)]
  rfl

theorem v83_apply (i : Fin 2048) (q : Fin 1024) :
    val_main_v83 (F := Ideal) X G B W S (ix2 i q) = mixed (chunks X D (i.val / 128)) (one G) (one B) (mix W) (bias S) (place i) q := by
  unfold val_main_v83 val_main_v82 val_main_v81 val_main_v80 val_main_v79 val_main_v78
  pointwise
  exact congrArg (· + S _) (v77_apply X D G B W (head q) ⟨i.val / 128, by omega⟩ (lane q) (place i))

theorem v86_apply (i : Fin 2048) (q : Fin 1024) : val_main_v86 (F := Ideal) X D G B W S (ix2 i q)
    = D (ix2 i q) * mixed (chunks X D (i.val / 128)) (one G) (one B) (mix W) (bias S) (place i) q := by
  unfold val_main_v86
  pointwise
  rw [v83_apply X D]

/-- The gradient at the norm. -/
theorem v97_apply (i : Fin 2048) (q : Fin 1024) : val_main_v97 (F := Ideal) X D W (ix2 i q) = dval (chunks X D (i.val / 128)) (mix W) (place i) q := by
  unfold val_main_v97 val_main_v95
  pointwise
  exact v94_apply X D W (head q) ⟨i.val / 128, by omega⟩ (lane q) (place i)

theorem v105_apply (i : Fin 2048) (q : Fin 1024) :
    val_main_v105 (F := Ideal) X D G W (ix2 i q) = dval (chunks X D (i.val / 128)) (mix W) (place i) q * one G q := by
  unfold val_main_v105 val_main_v104 val_main_v66 val_main_v3
  pointwise
  rw [v97_apply]

/-- The gradient at the norm's argument less its mean. -/
theorem v120_apply (i : Fin 2048) (q : Fin 1024) :
    val_main_v120 (F := Ideal) X D G W (ix2 i q) = dcen (vRow X i) (one G) (dval (chunks X D (i.val / 128)) (mix W) (place i)) q := by
  unfold val_main_v120 val_main_v119 val_main_v118 val_main_v117 val_main_v116 val_main_v115 val_main_v114 val_main_v113 val_main_v112 val_main_v111 val_main_v110
    val_main_v109 val_main_v108 val_main_v107 val_main_cst_26 val_main_cst_27 val_main_cst_28
  pointwise
  simp only [v52_apply, v60_apply, v63_apply, v105_apply, Finset.univ_unique, Fin.default_eq_zero, Finset.sum_singleton]
  rfl

theorem v128_apply (i : Fin 2048) (q : Fin 1024) : val_main_v128 (F := Ideal) X D G W (ix2 i q)
    = dcen (vRow X i) (one G) (dval (chunks X D (i.val / 128)) (mix W) (place i)) q
      + mean fun x => -dcen (vRow X i) (one G) (dval (chunks X D (i.val / 128)) (mix W) (place i)) x := by
  unfold val_main_v128 val_main_v127 val_main_v126 val_main_v125 val_main_v124 val_main_v123 val_main_v122 val_main_v121 val_main_cst_29 val_main_cst_30 val_main_cst_31
  pointwise
  simp only [v120_apply, Finset.univ_unique, Fin.default_eq_zero, Finset.sum_singleton]
  rfl

/-- The gradient at the gated half. -/
theorem v140_apply (i : Fin 2048) (q : Fin 1024) :
    val_main_v140 (F := Ideal) X D G W (ix2 i q) = dV (chunks X D (i.val / 128)) (one G) (mix W) (place i) q := by
  unfold val_main_v140 val_main_v139 val_main_v138 val_main_v137 val_main_v136 val_main_v135 val_main_v134 val_main_v133 val_main_v132 val_main_v131 val_main_v130 val_main_v129
    val_main_v45 val_main_v44 val_main_v43 val_main_v42 val_main_v41 val_main_v40 val_main_v39 val_main_v38 val_main_v37 val_main_v30 val_main_v29 val_main_v28
    val_main_cst_32 val_main_cst_33 val_main_cst_34 val_main_cst_6 val_main_cst_9 val_main_cst_10 val_main_cst_11 val_main_cst_12
  pointwise
  rw [v2_apply, v36_apply, v128_apply]
  unfold dV dnorm dgelu
  rw [show (chunks X D (i.val / 128)).v (place i) = vRow X i from congrArg (vRow X) (row_place i)]

/-- The gradient at the gating half. -/
theorem v152_apply (i : Fin 2048) (q : Fin 1024) : val_main_v152 (F := Ideal) X D G B W S (ix2 i q)
    = dU (chunks X D (i.val / 128)) (one G) (one B) (mix W) (bias S) (place i) q := by
  unfold val_main_v152 val_main_v151 val_main_v150 val_main_v149 val_main_v148 val_main_v147 val_main_v146 val_main_v145 val_main_v144 val_main_v143 val_main_v142 val_main_v141
    val_main_v24 val_main_v23 val_main_v22 val_main_v21 val_main_v20 val_main_v19 val_main_v18 val_main_v17 val_main_v16 val_main_v9 val_main_v8 val_main_v7
    val_main_cst val_main_cst_2 val_main_cst_3 val_main_cst_4 val_main_cst_5 val_main_cst_35 val_main_cst_36 val_main_cst_37
  pointwise
  rw [v1_apply, v15_apply, v86_apply]
  unfold dU dgelu
  rw [show (chunks X D (i.val / 128)).u (place i) = uRow X i from congrArg (uRow X) (row_place i),
    show (chunks X D (i.val / 128)).d (place i) q = D (ix2 i q) from congrArg (fun i => D (ix2 i q)) (row_place i)]

/-- The operand's gradient. -/
theorem v157_apply (i : Fin 2048) (q : Fin 3072) : val_main_v157 (F := Ideal) X D G B W S (ix2 i q)
    = dzRow (chunks X D (i.val / 128)) (one G) (one B) (mix W) (bias S) (place i) q := by
  unfold val_main_v157 val_main_v156 val_main_v155 val_main_cst_38
  pointwise
  unfold dzRow
  by_cases h0 : q.val < 1024
  · rw [dif_pos h0, if_pos h0]
  · rw [dif_neg h0, if_neg h0]
    by_cases h1 : q.val - 1024 < 1024
    · rw [dif_pos h1, dif_pos h1]
      exact v152_apply X D G B W S i _
    · rw [dif_neg h1, dif_neg h1]
      exact (v140_apply X D G W i _).trans (congrArg _ (Fin.ext (by show q.val - 1024 - 1024 = q.val - 2048; omega)))

/-- The gain's gradient. -/
theorem v154_apply (q : Fin 1024) : val_main_v154 (F := Ideal) X D W (ix2 0 q) = gainSum (mix W) (chunks X D) q := by
  unfold val_main_v154 val_main_v106 val_main_v103 val_main_v102 val_main_v101 val_main_cst_24 val_main_cst_25
  pointwise
  rw [Finset.univ_unique, Finset.sum_singleton, sum_chunks]
  refine Finset.sum_congr rfl fun t ht => Finset.sum_congr rfl fun r _ => ?_
  rw [v65_apply, v97_apply, at_row (fun t r => dval (chunks X D t) (mix W) r q) t (Finset.mem_range.1 ht) r]
  rfl

/-- The shift's gradient. -/
theorem v153_apply (q : Fin 1024) : val_main_v153 (F := Ideal) X D W (ix2 0 q) = shiftSum (mix W) (chunks X D) q := by
  unfold val_main_v153 val_main_v100 val_main_v99 val_main_v98 val_main_cst_22 val_main_cst_23
  pointwise
  rw [Finset.univ_unique, Finset.sum_singleton, sum_chunks]
  refine Finset.sum_congr rfl fun t ht => Finset.sum_congr rfl fun r _ => ?_
  rw [v97_apply, at_row (fun t r => dval (chunks X D t) (mix W) r q) t (Finset.mem_range.1 ht) r]

theorem v93_apply (h : Fin 8) (i j : Fin 128) : val_main_v93 (F := Ideal) X D G B (ix3 h i j)
    = ∑ t ∈ Finset.range 16, dweight (chunks X D t) (one G) (one B) h i j := by
  unfold val_main_v93 val_main_v92
  simp only [Host.dotGeneral]
  rw [Ideal.dotGeneral_apply, ValueIdx.sum_contr2 dot_S8x16x128x128_S16x128x8x128_S8x128x128_12_03_3_1_0_2 16 128 rfl rfl rfl, Finset.sum_range]
  refine Finset.sum_congr rfl fun t _ => Finset.sum_congr rfl fun x _ => ?_
  generalize hl : DotDims.lhsIdx _ _ _ = l
  generalize hr : DotDims.rhsIdx _ _ _ = r
  have el : l = ix4 h t x i := by
    rw [← hl]; funext a; apply Fin.ext
    match a with
    | 0 => rfl
    | 1 => rfl
    | 2 => rfl
    | 3 => rfl
  have er : r = ix4 t j h x := by
    rw [← hr]; funext a; apply Fin.ext
    match a with
    | 0 => rfl
    | 1 => rfl
    | 2 => rfl
    | 3 => rfl
  rw [el, er, v72_apply]
  unfold val_main_v87 val_main_v85
  pointwise
  rw [v25_apply, row_eq, col_eq, mul_comm (gelu _)]
  rfl

/-- The mixing weights' gradient. -/
theorem v96_apply (h : Fin 8) (i j : Fin 128) : val_main_v96 (F := Ideal) X D G B (ix3 h i j)
    = weightSum (one G) (one B) (chunks X D) h i j := by
  unfold val_main_v96 val_main_call2_v0 val_main_call2_cst
  pointwise
  rw [v76_1_apply, v93_apply]
  by_cases h : j.val ≤ i.val <;> simp [h, Scalar.select]

/-- A sum over the first and the last of four axes. -/
theorem sum_outer {a b c d : Nat} (h : (⟨4, ![a, b, c, d]⟩ : Shape).ReducesTo [0, 3] ⟨2, ![b, c]⟩) (v : (⟨4, ![a, b, c, d]⟩ : Shape).Idx → EReal)
    (z : EReal) (r : Fin b) (k : Fin c) : Ideal.hostReduceAdd h v z (ix2 r k) = z + ∑ t, ∑ x, v (ix4 t r k x) := by
  unfold Ideal.hostReduceAdd
  have hd0 : ∀ i : (⟨4, ![a, b, c, d]⟩ : Shape).Idx, (h.drop i 0).val = (i 1).val := fun i => rfl
  have hd1 : ∀ i : (⟨4, ![a, b, c, d]⟩ : Shape).Idx, (h.drop i 1).val = (i 2).val := fun i => rfl
  congr 1
  rw [← Fintype.sum_prod_type' (f := fun t x => v (ix4 t r k x))]
  refine Finset.sum_nbij' (fun i => ((i 0 : Fin a), (i 3 : Fin d))) (fun p => ix4 p.1 r k p.2) (fun _ _ => Finset.mem_univ _) ?_ ?_ (fun _ _ => rfl) ?_
  · intro p _
    refine Finset.mem_filter.2 ⟨Finset.mem_univ _, funext fun e => Fin.ext ?_⟩
    match e with
    | ⟨0, _⟩ => exact hd0 _
    | ⟨1, _⟩ => exact hd1 _
  · intro i hi
    have e := (Finset.mem_filter.1 hi).2
    have e0 := hd0 i
    have e1 := hd1 i
    rw [e] at e0 e1
    funext x; apply Fin.ext
    match x with
    | ⟨0, _⟩ => rfl
    | ⟨1, _⟩ => exact e0
    | ⟨2, _⟩ => exact e1
    | ⟨3, _⟩ => rfl
  · intro i hi
    have e := (Finset.mem_filter.1 hi).2
    have e0 := hd0 i
    have e1 := hd1 i
    rw [e] at e0 e1
    refine congrArg v (funext fun x => Fin.ext ?_)
    match x with
    | ⟨0, _⟩ => rfl
    | ⟨1, _⟩ => exact e0.symm
    | ⟨2, _⟩ => exact e1.symm
    | ⟨3, _⟩ => rfl

/-- The mixer bias's gradient, in the first eight of 128 columns. -/
theorem v159_apply (r h : Fin 128) : val_main_v159 (F := Ideal) X D (ix2 r h) = headSums (mixSum (chunks X D)) r h := by
  unfold val_main_v159 val_main_v158 val_main_v91 val_main_call3_v0 val_main_c_39
  pointwise
  unfold headSums
  by_cases hh : h.val < 8
  · rw [dif_pos hh, dif_pos hh]
    unfold val_main_v90 val_main_v89 val_main_v88
    rw [ValueIdx.hostReduceAdd_apply, sum_outer]
    rw [Fin.sum_univ_one, Fin.sum_univ_one, show ∀ Y : S128x8.Idx → EReal, ∀ e k, shapeCast S1x128x8x1 Y e (ix4 0 r k 0) = Y (ix2 r k) from fun Y e k => by pointwise,
      ValueIdx.hostReduceAdd_apply, sum_outer, show ∀ i, val_main_cst_21 (F := Ideal) i = 0 from fun i => by unfold val_main_cst_21; pointwise,
      show ∀ i, val_main_cst_20 (F := Ideal) i = 0 from fun i => by unfold val_main_cst_20; pointwise, zero_add, zero_add, Finset.sum_comm]
    refine Finset.sum_congr rfl fun x _ => ?_
    rw [mixSum, Finset.sum_range]
    refine Finset.sum_congr rfl fun t _ => ?_
    unfold val_main_v87 val_main_v85
    pointwise
    rw [v25_apply, row_eq, mul_comm]
    show _ = dmix (chunks X D t.val) r (col ⟨h.val, hh⟩ x)
    rw [← col_eq ⟨h.val, hh⟩ x (by dsimp only; omega)]
    rfl
  · rw [dif_neg hh, dif_neg hh]
    show (((0#32 : BitVec 32).toInt : ℝ) : EReal) = 0
    simp

end Cert.SguRefIdeal.Gating
-- ==== Proof.GatingClaim.lean ====
module

public import proofs.«01_k».proof.Defs
public import proofs.«01_k».proof.Proof.Gen.Sgu.Frame
public import proofs.«01_k».proof.Proof.Gen.SguRefIdeal.Run
public import proofs.«01_k».proof.Proof.Index
public import proofs.«01_k».proof.Proof.GatingFinal
public import proofs.«01_k».proof.Proof.GatingRef

@[expose] public section

set_option maxRecDepth 16384

noncomputable section

/-! The five claims about the backward pass of the spatial gating unit. -/

namespace Cert.Gating

open Idealize.ShloMosaic Idealize.ShloMosaic.Tactic Idealize.SL.Sem
open Cert.SguRefIdeal (main_arg0 main_arg1 main_arg2 main_arg3 main_arg4 main_arg5)
open Cert.SguIdeal.Gating (resDz resDg resDb resDw resDs)

attribute [local instance] Cert.Sgu.Gen.facts Cert.SguIdeal.Gen.facts Cert.SguRefIdeal.Gen.facts

/-- The kernel, in its own arithmetic, ends with its arguments unchanged and every counter at zero. -/
theorem frame_kernel : Cert.quiescent_Sgu := fun m ρ _ => Cert.Sgu.Gen.frame m ρ

/-- The same of the kernel over the extended reals. -/
theorem frame_kernelIdeal : Cert.quiescent_SguIdeal := fun m ρ _ => Cert.SguIdeal.Gen.frame m ρ

/-- The same of the reference over the extended reals. -/
theorem frame_referenceIdeal : Cert.quiescent_SguRefIdeal := fun m ρ _ =>
  (θ_run Cert.SguRefIdeal.defs _ _).mono (fun r h => ⟨fun c => (h c).2.2.2.2.2, sem_eq_zero_of_no_sems (by decide) r.2⟩)
    (Cert.SguRefIdeal.Value.run (F := Ideal) m ρ)

/-- From equal arguments the kernel and the reference end with equal gradients at the operand, the gain, the shift, the mixing
    weights and the mixer's bias, over the extended reals, whatever the arguments. -/
theorem value : Cert.algebraic_SguIdeal_SguRefIdeal := by
  intro m g m' g' _ ha
  refine ⟨resDz m, resDg m, resDb m, resDw m, resDs m, ?_, ?_⟩
  · refine (θ_run Cert.SguIdeal.defs _ _).mono (fun r h c => ?_) (Cert.SguIdeal.Value.run_blocks (F := Ideal) m g)
    obtain ⟨h0, h1, h2, h3, _, h5, hk⟩ := h c
    exact ⟨h0.trans (Cert.SguIdeal.Gating.final_dz m c), h1.trans (Cert.SguIdeal.Gating.final_dg m c), h2.trans (Cert.SguIdeal.Gating.final_db m c),
      h3.trans (Cert.SguIdeal.Gating.final_dw m c), h5.trans (Cert.SguIdeal.Gating.final_ds m c), hk⟩
  · refine (θ_run Cert.SguRefIdeal.defs _ _).mono (fun r h c => ?_) (Cert.SguRefIdeal.Value.run (F := Ideal) m' g')
    obtain ⟨h0, h1, h2, h3, h4, hk⟩ := h c
    obtain ⟨a0, a1, a2, a3, a4, a5⟩ := ha c
    refine ⟨h0.trans ?_, h1.trans ?_, h2.trans ?_, h3.trans ?_, h4.trans ?_, hk⟩
    · rw [Cert.SguRefIdeal.Read.val_main_v157_eq]
      show Cert.SguRefIdeal.Read.val_main_v157 (F := Ideal) (m' (c.tc.loc main_arg0)) (m' (c.tc.loc main_arg1)) (m' (c.tc.loc main_arg2)) (m' (c.tc.loc main_arg3)) (m' (c.tc.loc main_arg4)) (m' (c.tc.loc main_arg5)) = _
      rw [a0, a1, a2, a3, a4, a5]
      funext i
      exact (congrArg _ (idx2 i)).trans (Cert.SguRefIdeal.Gating.v157_apply _ _ _ _ _ _ (i 0) (i 1))
    · rw [Cert.SguRefIdeal.Read.val_main_v154_eq]
      show Cert.SguRefIdeal.Read.val_main_v154 (F := Ideal) (m' (c.tc.loc main_arg0)) (m' (c.tc.loc main_arg1)) (m' (c.tc.loc main_arg4)) = _
      rw [a0, a1, a4]
      funext i
      exact (congrArg _ (idx1 i)).trans (Cert.SguRefIdeal.Gating.v154_apply _ _ _ (i 1))
    · rw [Cert.SguRefIdeal.Read.val_main_v153_eq]
      show Cert.SguRefIdeal.Read.val_main_v153 (F := Ideal) (m' (c.tc.loc main_arg0)) (m' (c.tc.loc main_arg1)) (m' (c.tc.loc main_arg4)) = _
      rw [a0, a1, a4]
      funext i
      exact (congrArg _ (idx1 i)).trans (Cert.SguRefIdeal.Gating.v153_apply _ _ _ (i 1))
    · rw [Cert.SguRefIdeal.Read.val_main_v96_eq]
      show Cert.SguRefIdeal.Read.val_main_v96 (F := Ideal) (m' (c.tc.loc main_arg0)) (m' (c.tc.loc main_arg1)) (m' (c.tc.loc main_arg2)) (m' (c.tc.loc main_arg3)) = _
      rw [a0, a1, a2, a3]
      funext i
      exact (congrArg _ (idx3 i)).trans (Cert.SguRefIdeal.Gating.v96_apply _ _ _ _ (i 0) (i 1) (i 2))
    · rw [Cert.SguRefIdeal.Read.val_main_v159_eq]
      show Cert.SguRefIdeal.Read.val_main_v159 (F := Ideal) (m' (c.tc.loc main_arg0)) (m' (c.tc.loc main_arg1)) = _
      rw [a0, a1]
      funext i
      exact (congrArg _ (idx2 i)).trans (Cert.SguRefIdeal.Gating.v159_apply _ _ (i 0) (i 1))

end Cert.Gating
-- ==== Proof.Norm.lean ====
module

public import proofs.«01_k».proof.Proof.Gating

@[expose] public section

noncomputable section

/-! The root-mean-square norm of a row over the extended reals, and its gradients, as the step's norms use them: `x · rsqrt(mean x² + ε)`
    with a gain, with a gain, a scale and a shift, or with a gain and a gate. -/

namespace Cert.Norm

open Idealize.ShloMosaic
open Cert.Gating (cEps cNegHalf)

/-- `2048`. -/
abbrev cWide : EReal := Ideal.ofBits .f32 1157627904#32

section
variable {n : Nat} (w : EReal) (x : Fin n → EReal)

/-- The mean square, with the small constant, of a row whose width is `w`. -/
def ms : EReal := Ideal.div (∑ q, x q * x q) w + cEps
def inv : EReal := Ideal.rsqrt (ms w x)
/-- The normalised row. -/
def unit : Fin n → EReal := fun q => x q * inv w x
/-- The gradient `e` at the normalised row, along the row, carried through the mean square. -/
def slope (e : Fin n → EReal) : EReal := Ideal.div ((∑ q, x q * e q) * (cNegHalf * Ideal.div (inv w x) (ms w x))) w
/-- The gradient at the row from the gradient `e` at the normalised row. -/
def dunit (e : Fin n → EReal) : Fin n → EReal := fun q => e q * inv w x + x q * slope w x e + slope w x e * x q

/-- The gradient at `x` of `(x, norm · (1 + s) + shift)`, with gain `g`, from `d` at the first and `h` at the second. -/
def dresid (d g s h : Fin n → EReal) : Fin n → EReal := fun q => d q + dunit w x (fun q => h q * (1 + s q) * g q) q

/-- The same with the residual's gradient added before the rest. -/
theorem dresid_eq (d g s h : Fin n → EReal) (q : Fin n) :
    d q + h q * (1 + s q) * g q * inv w x + x q * slope w x (fun q => h q * (1 + s q) * g q) + slope w x (fun q => h q * (1 + s q) * g q) * x q
      = dresid w x d g s h q := by
  rw [dresid, dunit, add_assoc, add_assoc, add_assoc]
end

/-! Rows of an array. -/

/-- A row of an array. -/
abbrev rows {a b : Nat} (x : (⟨2, ![a, b]⟩ : Shape).Idx → EReal) (r : Fin a) : Fin b → EReal := fun q => x (ix2 r q)

/-- Row `r` of block `t`, counted from the array's first. -/
abbrev rowOf (t : Nat) (r : Fin 256) : Fin 2048 := ⟨(256 * t + r.val) % 2048, Nat.mod_lt _ (by omega)⟩

/-- A row's place in its block. -/
abbrev place (i : Fin 2048) : Fin 256 := ⟨i.val % 256, Nat.mod_lt _ (by omega)⟩

theorem rowOf_place (i : Fin 2048) : rowOf (i.val / 256) (place i) = i :=
  Fin.ext (by show (256 * (i.val / 256) + i.val % 256) % 2048 = i.val; omega)

/-- The sum, column by column, over the rows of the first `k` blocks. -/
def partSum {n : Nat} (f : Fin 2048 → Fin n → EReal) (k : Nat) (q : Fin n) : EReal := ∑ t ∈ Finset.range k, ∑ r, f (rowOf t r) q

theorem partSum_zero {n : Nat} (f : Fin 2048 → Fin n → EReal) (q : Fin n) : partSum f 0 q = 0 := Finset.sum_range_zero _
theorem partSum_succ {n : Nat} (f : Fin 2048 → Fin n → EReal) (k : Nat) (q : Fin n) :
    partSum f (k + 1) q = partSum f k q + ∑ r, f (rowOf k r) q := Finset.sum_range_succ _ _

/-- Eight blocks are all rows. -/
theorem partSum_all {n : Nat} (f : Fin 2048 → Fin n → EReal) (q : Fin n) : partSum f 8 q = ∑ i, f i q := by
  rw [partSum, Finset.sum_range (n := 8) fun t => ∑ r, f (rowOf t r) q, ← Fintype.sum_prod_type' (f := fun (t : Fin 8) r => f (rowOf t.val r) q)]
  refine Fintype.sum_equiv (finProdFinEquiv (m := 8) (n := 256)) _ _ fun p => ?_
  exact congrArg (fun i => f i q) (Fin.ext (by
    have := p.1.isLt; have := p.2.isLt
    show (256 * p.1.val + p.2.val) % 2048 = p.2.val + 256 * p.1.val; omega))

/-- An entry by its index's coordinates. -/
theorem entry {α : Type} {a b : Nat} (f : (⟨2, ![a, b]⟩ : Shape).Idx → α) {j : (⟨2, ![a, b]⟩ : Shape).Idx} {i : Fin a} {q : Fin b}
    (h0 : (j 0).val = i.val) (h1 : (j 1).val = q.val) : f j = f (ix2 i q) :=
  congrArg f (funext fun k => match k with
    | ⟨0, _⟩ => Fin.ext h0
    | ⟨1, _⟩ => Fin.ext h1)

theorem hz : (![0, 0] : Fin 2 → Nat) = fun _ => 0 := funext fun a => by fin_cases a <;> rfl

end Cert.Norm
-- ==== Proof.NormCat.lean ====
module

public import proofs.«01_k».proof.Proof.Norm
public import proofs.«01_k».proof.Proof.Gen.CatBwdIdeal.Value
public import Idealize.ShloMosaic.Lib.Pipeline.ReadBack

@[expose] public section

set_option maxRecDepth 16384

noncomputable section

/-! The backward pass of the two norms whose results lie side by side: what a grid point of the kernel stores, and the arrays it leaves. -/

namespace Cert.CatBwdIdeal.Norm

open Cert.Norm Cert.CatBwdIdeal Cert.CatBwdIdeal.Gen Cert.CatBwdIdeal.Value Idealize.ShloMosaic Idealize.ShloMosaic.TcCoe Idealize.ShloMosaic.Tactic Idealize.SL.Sem
open Idealize.ShloMosaic.Pipeline (Dat)

open Cert.Gating (cWidth cNegHalf)

section Block
variable (x : Vec Ideal S256x1024 .f32) (g : Vec Ideal S1x1024 .f32) (d : Vec Ideal S256x1024 .f32)

/-! The values of one point, at an index; the second norm's are the first's on other arrays. -/

theorem pay4 (r : Fin 256) : k0_pay4 x (ix2 r 0) = ms cWidth (rows x r) := by
  unfold k0_pay4; pointwise; rfl
theorem pay5 (r : Fin 256) : k0_pay5 x (ix2 r 0) = inv cWidth (rows x r) := by
  unfold k0_pay5; pointwise; rw [pay4]; rfl
theorem pay6_apply (q : Fin 1024) : k0_pay6 x d (ix2 0 q) = ∑ r, unit cWidth (rows x r) q * d (ix2 r q) := by
  unfold k0_pay6; pointwise; simp only [pay5]; rfl
theorem pay10_apply (q : Fin 1024) : k0_pay10 x d (ix2 0 q) = ∑ r, unit cWidth (rows x r) q * d (ix2 r q) := pay6_apply x d q
theorem pay7_apply (r : Fin 256) (q : Fin 1024) :
    k0_pay7 x g d (ix2 r q) = dunit cWidth (rows x r) (fun q => d (ix2 r q) * g (ix2 0 q)) q := by
  unfold k0_pay7; pointwise; simp only [pay4, pay5, Fin.sum_univ_one]; rfl
theorem pay11_apply (r : Fin 256) (q : Fin 1024) :
    k0_pay11 x g d (ix2 r q) = dunit cWidth (rows x r) (fun q => d (ix2 r q) * g (ix2 0 q)) q := pay7_apply x g d r q

theorem pay12_apply (a b : Vec Ideal S1x1024 .f32) (q : Fin 1024) : k0_pay12 a b (ix2 0 q) = b (ix2 0 q) + a (ix2 0 q) := by
  unfold k0_pay12; pointwise
theorem pay1_apply (a b : Vec Ideal S1x1024 .f32) (q : Fin 1024) : k0_pay1 a b (ix2 0 q) = b (ix2 0 q) + a (ix2 0 q) := pay12_apply a b q
theorem pay2_apply (j : S1x1024.Idx) : k0_pay2 (F := Ideal) j = 0 := by unfold k0_pay2; pointwise
theorem pay3_apply (j : S1x1024.Idx) : k0_pay3 (F := Ideal) j = 0 := pay2_apply j

/-- The left half of a block's columns. -/
def left (y : Vec Ideal S256x2048 .f32) : Vec Ideal S256x1024 .f32 := fun j => y (ix2 (j 0) ⟨(j 1).val, Nat.lt_trans (j 1).isLt (by decide)⟩)
/-- The right half. -/
def right (y : Vec Ideal S256x2048 .f32) : Vec Ideal S256x1024 .f32 :=
  fun j => y (ix2 (j 0) ⟨1024 + (j 1).val, by have h : (j 1).val < 1024 := (j 1).isLt; omega⟩)

theorem ld_left (y : Vec Ideal S256x2048 .f32) (h : ∀ a, (![0, 0] : Fin 2 → Nat) a + S256x1024.size a ≤ S256x2048.size a) :
    View.ld y (Rect.unit (s := S256x2048) ![0, 0] ![256, 1024] h) = left y := by
  funext j
  exact entry y (by show 0 + 1 * (j 0).val = (j 0).val; omega) (by show 0 + 1 * (j 1).val = (j 1).val; omega)
theorem ld_right (y : Vec Ideal S256x2048 .f32) (h : ∀ a, (![0, 1024] : Fin 2 → Nat) a + S256x1024.size a ≤ S256x2048.size a) :
    View.ld y (Rect.unit (s := S256x2048) ![0, 1024] ![256, 1024] h) = right y := by
  funext j
  exact entry y (by show 0 + 1 * (j 0).val = (j 0).val; omega) (by show 1024 + 1 * (j 1).val = 1024 + (j 1).val; omega)
end Block

section Stores
variable (c : Dev nD) (i : grid0.Coords)
  (a1 : Memref sig .tc .vmem S256x2048 .f32) (h1 : a1.IsWhole)
  (a2 : Memref sig .tc .vmem S256x1024 .f32) (h2 : a2.IsWhole)
  (a3 : Memref sig .tc .vmem S256x1024 .f32) (h3 : a3.IsWhole)
  (a4 : Memref sig .tc .vmem S1x1024 .f32) (h4 : a4.IsWhole)
  (a5 : Memref sig .tc .vmem S1x1024 .f32) (h5 : a5.IsWhole)
  (a6 : Memref sig .tc .vmem S256x1024 .f32) (h6 : a6.IsWhole)
  (a7 : Memref sig .tc .vmem S256x1024 .f32) (h7 : a7.IsWhole)
  (a8 : Memref sig .tc .vmem S1x1024 .f32) (h8 : a8.IsWhole)
  (a9 : Memref sig .tc .vmem S1x1024 .f32) (h9 : a9.IsWhole)
  (x0 : Vec Ideal S256x2048 .f32) (x1 x2 : Vec Ideal S256x1024 .f32) (x3 x4 xo7 xo8 : Vec Ideal S1x1024 .f32)

/-- The output blocks at the first point. -/
theorem outs_A (hc : cond0_0 i) :
    out0_A_5 (F := Ideal) c i a1 h1 a2 h2 a3 h3 a4 h4 a5 h5 a6 h6 a7 h7 a8 h8 a9 h9 hc x0 x1 x2 x3 x4 = k0_pay7 x1 x3 (left x0) ∧
    out0_A_6 (F := Ideal) c i a1 h1 a2 h2 a3 h3 a4 h4 a5 h5 a6 h6 a7 h7 a8 h8 a9 h9 hc x0 x1 x2 x3 x4 = k0_pay11 x2 x4 (right x0) ∧
    out0_A_7 (F := Ideal) c i a1 h1 a2 h2 a3 h3 a4 h4 a5 h5 a6 h6 a7 h7 a8 h8 a9 h9 hc x0 x1 x2 x3 x4 = k0_pay12 (k0_pay6 x1 (left x0)) (k0_pay2 (F := Ideal)) ∧
    out0_A_8 (F := Ideal) c i a1 h1 a2 h2 a3 h3 a4 h4 a5 h5 a6 h6 a7 h7 a8 h8 a9 h9 hc x0 x1 x2 x3 x4 = k0_pay1 (k0_pay10 x2 (right x0)) (k0_pay3 (F := Ideal)) := by
  refine ⟨(View.read_writes_eq_canon _ _ _ (cover0_A_5 c i a1 h1 a2 h2 a3 h3 a4 h4 a5 h5 a6 h6 a7 h7 a8 h8 a9 h9 hc x0 x1 x2 x3 x4)).trans ?_,
    (View.read_writes_eq_canon _ _ _ (cover0_A_6 c i a1 h1 a2 h2 a3 h3 a4 h4 a5 h5 a6 h6 a7 h7 a8 h8 a9 h9 hc x0 x1 x2 x3 x4)).trans ?_,
    (View.read_writes_eq_canon _ _ _ (cover0_A_7 c i a1 h1 a2 h2 a3 h3 a4 h4 a5 h5 a6 h6 a7 h7 a8 h8 a9 h9 hc x0 x1 x2 x3 x4)).trans ?_,
    (View.read_writes_eq_canon _ _ _ (cover0_A_8 c i a1 h1 a2 h2 a3 h3 a4 h4 a5 h5 a6 h6 a7 h7 a8 h8 a9 h9 hc x0 x1 x2 x3 x4)).trans ?_⟩
  all_goals
    unfold kernelRun0_A
    dsimp only
    sl_unfold_words
    simp only [View.readAt_eq_ld, h1.read_unread, h2.read_unread, h3.read_unread, h4.read_unread, h5.read_unread, h6.read_unread, h7.read_unread, h8.read_unread, h9.read_unread, View.ld_unit_zero (S := S256x1024) hz,
      View.ld_unit_zero (S := S1x1024) hz, shapeCast_self]
  · rw [View.canon_unit_zero hz]
    exact congrArg (k0_pay7 x1 x3) (ld_left x0 _)
  · rw [View.canon_unit_zero hz]
    exact congrArg (k0_pay11 x2 x4) (ld_right x0 _)
  · rw [View.canon_cons_unit_zero (S := S1x1024) hz]
    simp only [View.readCov_unit_zero (S := S1x1024) _ hz]
    exact congrArg (fun d => k0_pay12 (k0_pay6 x1 d) _) (ld_left x0 _)
  · rw [View.canon_cons_unit_zero (S := S1x1024) hz]
    simp only [View.readCov_unit_zero (S := S1x1024) _ hz]
    exact congrArg (fun d => k0_pay1 (k0_pay10 x2 d) _) (ld_right x0 _)

/-- The output blocks at the points after it. -/
theorem outs_B (hc : ¬cond0_0 i) :
    out0_B_5 (F := Ideal) c i a1 h1 a2 h2 a3 h3 a4 h4 a5 h5 a6 h6 a7 h7 a8 h8 a9 h9 hc x0 x1 x2 x3 x4 xo7 xo8 = k0_pay7 x1 x3 (left x0) ∧
    out0_B_6 (F := Ideal) c i a1 h1 a2 h2 a3 h3 a4 h4 a5 h5 a6 h6 a7 h7 a8 h8 a9 h9 hc x0 x1 x2 x3 x4 xo7 xo8 = k0_pay11 x2 x4 (right x0) ∧
    out0_B_7 (F := Ideal) c i a1 h1 a2 h2 a3 h3 a4 h4 a5 h5 a6 h6 a7 h7 a8 h8 a9 h9 hc x0 x1 x2 x3 x4 xo7 xo8 = k0_pay12 (k0_pay6 x1 (left x0)) xo7 ∧
    out0_B_8 (F := Ideal) c i a1 h1 a2 h2 a3 h3 a4 h4 a5 h5 a6 h6 a7 h7 a8 h8 a9 h9 hc x0 x1 x2 x3 x4 xo7 xo8 = k0_pay1 (k0_pay10 x2 (right x0)) xo8 := by
  refine ⟨(View.read_writes_eq_canon _ _ _ (cover0_B_5 c i a1 h1 a2 h2 a3 h3 a4 h4 a5 h5 a6 h6 a7 h7 a8 h8 a9 h9 hc x0 x1 x2 x3 x4 xo7 xo8)).trans ?_,
    (View.read_writes_eq_canon _ _ _ (cover0_B_6 c i a1 h1 a2 h2 a3 h3 a4 h4 a5 h5 a6 h6 a7 h7 a8 h8 a9 h9 hc x0 x1 x2 x3 x4 xo7 xo8)).trans ?_,
    (View.read_writes_eq_canon _ _ _ (cover0_B_7 c i a1 h1 a2 h2 a3 h3 a4 h4 a5 h5 a6 h6 a7 h7 a8 h8 a9 h9 hc x0 x1 x2 x3 x4 xo7 xo8)).trans ?_,
    (View.read_writes_eq_canon _ _ _ (cover0_B_8 c i a1 h1 a2 h2 a3 h3 a4 h4 a5 h5 a6 h6 a7 h7 a8 h8 a9 h9 hc x0 x1 x2 x3 x4 xo7 xo8)).trans ?_⟩
  all_goals
    unfold kernelRun0_B
    dsimp only
    sl_unfold_words
    simp only [View.readAt_eq_ld, h1.read_unread, h2.read_unread, h3.read_unread, h4.read_unread, h5.read_unread, h6.read_unread, h7.read_unread, h8.read_unread, h9.read_unread, View.ld_unit_zero (S := S256x1024) hz,
      View.ld_unit_zero (S := S1x1024) hz, shapeCast_self]
    rw [View.canon_unit_zero hz]
  · exact congrArg (k0_pay7 x1 x3) (ld_left x0 _)
  · exact congrArg (k0_pay11 x2 x4) (ld_right x0 _)
  · exact congrArg (fun d => k0_pay12 (k0_pay6 x1 d) _) (ld_left x0 _)
  · exact congrArg (fun d => k0_pay1 (k0_pay10 x2 d) _) (ld_right x0 _)
end Stores

variable (m : (ℓ : Loc nD τ sig) → Buf (Elt Ideal) ℓ) (c : Dev nD)

/-! The arguments, row by row. -/

abbrev argD (i : Fin 2048) : Fin 2048 → EReal := rows (m (c.tc.loc main_arg0) : Vec Ideal S2048x2048 .f32) i
abbrev argA (i : Fin 2048) : Fin 1024 → EReal := rows (m (c.tc.loc main_arg1) : Vec Ideal S2048x1024 .f32) i
abbrev argB (i : Fin 2048) : Fin 1024 → EReal := rows (m (c.tc.loc main_arg2) : Vec Ideal S2048x1024 .f32) i
abbrev argG : Fin 1024 → EReal := rows (m (c.tc.loc main_arg3) : Vec Ideal S1x1024 .f32) 0
abbrev argE : Fin 1024 → EReal := rows (m (c.tc.loc main_arg4) : Vec Ideal S1x1024 .f32) 0
/-- The halves of a row of the gradient. -/
abbrev argL (i : Fin 2048) : Fin 1024 → EReal := fun q => argD m c i ⟨q.val, by omega⟩
abbrev argR (i : Fin 2048) : Fin 1024 → EReal := fun q => argD m c i ⟨1024 + q.val, by omega⟩

theorem idx_eq : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0)
    ∧ (win0_7.index t 0 = 0 ∧ win0_7.index t 1 = 0)
    ∧ (win0_8.index t 0 = 0 ∧ win0_8.index t 1 = 0) := by
  decide +kernel

theorem t_lt (t : Fin cfg0.N) : t.val < 8 := lt_of_lt_of_eq t.isLt N_0

/-! What a point loads. -/

theorem block0 (t : Fin cfg0.N) (r : Fin 256) (q : Fin 2048) :
    (iblk m c 0 t : Vec Ideal S256x2048 .f32) (ix2 r q) = argD m c (rowOf t.val r) q := by
  have ht := t_lt t
  have e := (idx_eq t).1
  unfold iblk
  rw [View.read_apply]
  show V m c main_arg0 _ = _
  rw [V_main_arg0]
  exact entry _ (by show win0_0.index t 0 * 256 + 1 * r.val = (256 * t.val + r.val) % 2048; omega) (by show win0_0.index t 1 * 2048 + 1 * q.val = q.val; omega)

theorem block1 (t : Fin cfg0.N) (r : Fin 256) (q : Fin 1024) :
    (iblk m c 1 t : Vec Ideal S256x1024 .f32) (ix2 r q) = argA m c (rowOf t.val r) q := by
  have ht := t_lt t
  have e := (idx_eq t).2.1
  unfold iblk
  rw [View.read_apply]
  show V m c main_arg1 _ = _
  rw [V_main_arg1]
  exact entry _ (by show win0_1.index t 0 * 256 + 1 * r.val = (256 * t.val + r.val) % 2048; omega) (by show win0_1.index t 1 * 1024 + 1 * q.val = q.val; omega)

theorem block2 (t : Fin cfg0.N) (r : Fin 256) (q : Fin 1024) :
    (iblk m c 2 t : Vec Ideal S256x1024 .f32) (ix2 r q) = argB m c (rowOf t.val r) q := by
  have ht := t_lt t
  have e := (idx_eq t).2.2.1
  unfold iblk
  rw [View.read_apply]
  show V m c main_arg2 _ = _
  rw [V_main_arg2]
  exact entry _ (by show win0_2.index t 0 * 256 + 1 * r.val = (256 * t.val + r.val) % 2048; omega) (by show win0_2.index t 1 * 1024 + 1 * q.val = q.val; omega)

theorem block3 (t : Fin cfg0.N) (q : Fin 1024) : (iblk m c 3 t : Vec Ideal S1x1024 .f32) (ix2 0 q) = argG m c q := by
  have e := (idx_eq t).2.2.2.1
  unfold iblk
  rw [View.read_apply]
  show V m c main_arg3 _ = _
  rw [V_main_arg3]
  exact entry _ (by show win0_3.index t 0 * 1 + 1 * 0 = 0; omega) (by show win0_3.index t 1 * 1024 + 1 * q.val = q.val; omega)

theorem block4 (t : Fin cfg0.N) (q : Fin 1024) : (iblk m c 4 t : Vec Ideal S1x1024 .f32) (ix2 0 q) = argE m c q := by
  have e := (idx_eq t).2.2.2.2.1
  unfold iblk
  rw [View.read_apply]
  show V m c main_arg4 _ = _
  rw [V_main_arg4]
  exact entry _ (by show win0_4.index t 0 * 1 + 1 * 0 = 0; omega) (by show win0_4.index t 1 * 1024 + 1 * q.val = q.val; omega)

theorem left_block (t : Fin cfg0.N) (r : Fin 256) (q : Fin 1024) : left (iblk m c 0 t) (ix2 r q) = argL m c (rowOf t.val r) q := block0 m c t r _
theorem right_block (t : Fin cfg0.N) (r : Fin 256) (q : Fin 1024) : right (iblk m c 0 t) (ix2 r q) = argR m c (rowOf t.val r) q := block0 m c t r _
theorem rowsA (t : Fin cfg0.N) (r : Fin 256) : rows (iblk m c 1 t : Vec Ideal S256x1024 .f32) r = argA m c (rowOf t.val r) := funext (block1 m c t r)
theorem rowsB (t : Fin cfg0.N) (r : Fin 256) : rows (iblk m c 2 t : Vec Ideal S256x1024 .f32) r = argB m c (rowOf t.val r) := funext (block2 m c t r)

/-! One row of the two gradients, and its part of the two sums. -/

def daRow (i : Fin 2048) (q : Fin 1024) : EReal := dunit cWidth (argA m c i) (fun q => argL m c i q * argG m c q) q
def dbRow (i : Fin 2048) (q : Fin 1024) : EReal := dunit cWidth (argB m c i) (fun q => argR m c i q * argE m c q) q
def gainRow (i : Fin 2048) (q : Fin 1024) : EReal := unit cWidth (argA m c i) q * argL m c i q
def gainRow' (i : Fin 2048) (q : Fin 1024) : EReal := unit cWidth (argB m c i) q * argR m c i q

theorem da_block (t : Fin cfg0.N) (r : Fin 256) (q : Fin 1024) :
    k0_pay7 (F := Ideal) (iblk m c 1 t) (iblk m c 3 t) (left (iblk m c 0 t)) (ix2 r q) = daRow m c (rowOf t.val r) q := by
  rw [pay7_apply, rowsA]
  simp only [left_block, block3]
  rfl
theorem db_block (t : Fin cfg0.N) (r : Fin 256) (q : Fin 1024) :
    k0_pay11 (F := Ideal) (iblk m c 2 t) (iblk m c 4 t) (right (iblk m c 0 t)) (ix2 r q) = dbRow m c (rowOf t.val r) q := by
  rw [pay11_apply, rowsB]
  simp only [right_block, block4]
  rfl
theorem gain_block (t : Fin cfg0.N) (q : Fin 1024) :
    k0_pay6 (F := Ideal) (iblk m c 1 t) (left (iblk m c 0 t)) (ix2 0 q) = ∑ r, gainRow m c (rowOf t.val r) q := by
  rw [pay6_apply]
  refine Finset.sum_congr rfl fun r _ => ?_
  rw [rowsA, left_block]
  rfl
theorem gain_block' (t : Fin cfg0.N) (q : Fin 1024) :
    k0_pay10 (F := Ideal) (iblk m c 2 t) (right (iblk m c 0 t)) (ix2 0 q) = ∑ r, gainRow' m c (rowOf t.val r) q := by
  rw [pay10_apply]
  refine Finset.sum_congr rfl fun r _ => ?_
  rw [rowsB, right_block]
  rfl

/-- What point `n` leaves in the two sums. -/
structure After (n : Nat) (o7 o8 : Vec Ideal S1x1024 .f32) : Prop where
  a7 : ∀ q, o7 (ix2 0 q) = partSum (gainRow m c) (n + 1) q
  a8 : ∀ q, o8 (ix2 0 q) = partSum (gainRow' m c) (n + 1) q

/-- Every point leaves the sums so far. -/
theorem after_eq (n : Nat) : ∀ h : n < cfg0.N, After m c n (outsAt0 m c n h).2.2.1 (outsAt0 m c n h).2.2.2 := by
  induction n with
  | zero =>
    intro h
    rw [outsAt0_A m c ⟨0, h⟩ rfl]
    dsimp only
    obtain ⟨-, -, e7, e8⟩ := outs_A c _ _ _ _ _ _ _ _ _ _ _ _ _ _ _ _ _ _ _ _ _ _ _ _ _
    rw [e7, e8]
    refine ⟨fun q => ?_, fun q => ?_⟩
    · rw [pay12_apply, pay2_apply, gain_block, partSum_succ, partSum_zero]
    · rw [pay1_apply, pay3_apply, gain_block', partSum_succ, partSum_zero]
  | succ n ih =>
    intro h
    have hn : n + 1 < 8 := t_lt ⟨n + 1, h⟩
    obtain ⟨I7, I8⟩ := ih (by omega)
    rw [outsAt0_B m c ⟨n + 1, h⟩ (by dsimp only; omega)]
    dsimp only
    obtain ⟨-, -, e7, e8⟩ := outs_B c _ _ _ _ _ _ _ _ _ _ _ _ _ _ _ _ _ _ _ _ _ _ _ _ _ _ _
    rw [e7, e8]
    refine ⟨fun q => ?_, fun q => ?_⟩
    · rw [pay12_apply, gain_block, partSum_succ]; exact congrArg (· + _) (I7 q)
    · rw [pay1_apply, gain_block', partSum_succ]; exact congrArg (· + _) (I8 q)

/-- Every point leaves its blocks of the two gradients. -/
theorem row_eq (t : Fin cfg0.N) (r : Fin 256) (q : Fin 1024) :
    ((outsAt0 m c t.val t.isLt).1 : Vec Ideal S256x1024 .f32) (ix2 r q) = daRow m c (rowOf t.val r) q
    ∧ ((outsAt0 m c t.val t.isLt).2.1 : Vec Ideal S256x1024 .f32) (ix2 r q) = dbRow m c (rowOf t.val r) q := by
  by_cases h0 : t.val % 8 = 0
  · rw [outsAt0_A m c t h0]
    dsimp only
    obtain ⟨e5, e6, -⟩ := outs_A c _ _ _ _ _ _ _ _ _ _ _ _ _ _ _ _ _ _ _ _ _ _ _ _ _
    rw [e5, e6]
    exact ⟨da_block m c t r q, db_block m c t r q⟩
  · rw [outsAt0_B m c t h0]
    dsimp only
    obtain ⟨e5, e6, -⟩ := outs_B c _ _ _ _ _ _ _ _ _ _ _ _ _ _ _ _ _ _ _ _ _ _ _ _ _ _ _
    rw [e5, e6]
    exact ⟨da_block m c t r q, db_block m c t r q⟩

/-! What the four result arrays end holding. -/

abbrev resA : Buf (Elt Ideal) ((c : Thread nD τ).loc main_v0_0) := fun i : S2048x1024.Idx => daRow m c (i 0) (i 1)
abbrev resB : Buf (Elt Ideal) ((c : Thread nD τ).loc main_v0_1) := fun i : S2048x1024.Idx => dbRow m c (i 0) (i 1)
abbrev resG : Buf (Elt Ideal) ((c : Thread nD τ).loc main_v0_2) := fun i : S1x1024.Idx => (∑ k, gainRow m c k (i 1) : EReal)
abbrev resE : Buf (Elt Ideal) ((c : Thread nD τ).loc main_v0_3) := fun i : S1x1024.Idx => (∑ k, gainRow' m c k (i 1) : EReal)

/-- The first operand's gradient. -/
theorem final_a : (dats m 0 c).arrAt 5 cfg0.N = resA m c := by
  refine (dats m 0 c).arrAt_eq_of_cover 5 (resA m c) (fun t _ => ?_) fun i => ?_
  · rw [flushed5]
    funext j
    rw [View.read_apply]
    have e := (idx_eq t).2.2.2.2.2.1
    have ht := t_lt t
    have h0 : (j 0).val < 256 := (j 0).isLt
    have h1 : (j 1).val < 1024 := (j 1).isLt
    have k : ((cfg0.win 5).blk t).view.emb j = (ix2 (rowOf t.val ⟨(j 0).val, h0⟩) ⟨(j 1).val, h1⟩ : S2048x1024.Idx) := by
      funext a
      apply Fin.ext
      match a with
      | 0 => show win0_5.index t 0 * 256 + 1 * (j 0).val = (256 * t.val + (j 0).val) % 2048; omega
      | 1 => show win0_5.index t 1 * 1024 + 1 * (j 1).val = (j 1).val; omega
    rw [k]
    refine Eq.trans ?_ (row_eq m c t ⟨(j 0).val, h0⟩ ⟨(j 1).val, h1⟩).1
    exact entry (outsAt0 m c t.val t.isLt).1 rfl rfl
  · have h0 : (i 0).val < 2048 := (i 0).isLt
    have h1 : (i 1).val < 1024 := (i 1).isLt
    have ht : (i 0).val / 256 < cfg0.N := by rw [show cfg0.N = 8 from N_0]; omega
    generalize ht' : (⟨(i 0).val / 256, ht⟩ : Fin cfg0.N) = t
    have hv : t.val = (i 0).val / 256 := by rw [← ht']
    have e := (idx_eq t).2.2.2.2.2.1
    refine ⟨t, flush0_5 t, ?_⟩
    show i ∈ ((View.whole main_v0_0).slice (win0_5.rect t)).set
    rw [View.set_slice_whole, Rect.mem_set_unit]
    intro a
    match a with
    | 0 => show win0_5.index t 0 * 256 ≤ (i 0).val ∧ (i 0).val < win0_5.index t 0 * 256 + 256; omega
    | 1 => show win0_5.index t 1 * 1024 ≤ (i 1).val ∧ (i 1).val < win0_5.index t 1 * 1024 + 1024; omega

/-- The second operand's gradient. -/
theorem final_b : (dats m 0 c).arrAt 6 cfg0.N = resB m c := by
  refine (dats m 0 c).arrAt_eq_of_cover 6 (resB m c) (fun t _ => ?_) fun i => ?_
  · rw [flushed6]
    funext j
    rw [View.read_apply]
    have e := (idx_eq t).2.2.2.2.2.2.1
    have ht := t_lt t
    have h0 : (j 0).val < 256 := (j 0).isLt
    have h1 : (j 1).val < 1024 := (j 1).isLt
    have k : ((cfg0.win 6).blk t).view.emb j = (ix2 (rowOf t.val ⟨(j 0).val, h0⟩) ⟨(j 1).val, h1⟩ : S2048x1024.Idx) := by
      funext a
      apply Fin.ext
      match a with
      | 0 => show win0_6.index t 0 * 256 + 1 * (j 0).val = (256 * t.val + (j 0).val) % 2048; omega
      | 1 => show win0_6.index t 1 * 1024 + 1 * (j 1).val = (j 1).val; omega
    rw [k]
    refine Eq.trans ?_ (row_eq m c t ⟨(j 0).val, h0⟩ ⟨(j 1).val, h1⟩).2
    exact entry (outsAt0 m c t.val t.isLt).2.1 rfl rfl
  · have h0 : (i 0).val < 2048 := (i 0).isLt
    have h1 : (i 1).val < 1024 := (i 1).isLt
    have ht : (i 0).val / 256 < cfg0.N := by rw [show cfg0.N = 8 from N_0]; omega
    generalize ht' : (⟨(i 0).val / 256, ht⟩ : Fin cfg0.N) = t
    have hv : t.val = (i 0).val / 256 := by rw [← ht']
    have e := (idx_eq t).2.2.2.2.2.2.1
    refine ⟨t, flush0_6 t, ?_⟩
    show i ∈ ((View.whole main_v0_1).slice (win0_6.rect t)).set
    rw [View.set_slice_whole, Rect.mem_set_unit]
    intro a
    match a with
    | 0 => show win0_6.index t 0 * 256 ≤ (i 0).val ∧ (i 0).val < win0_6.index t 0 * 256 + 256; omega
    | 1 => show win0_6.index t 1 * 1024 ≤ (i 1).val ∧ (i 1).val < win0_6.index t 1 * 1024 + 1024; omega

/-- The last point. -/
abbrev lastPoint : Fin cfg0.N := ⟨7, by rw [show cfg0.N = 8 from N_0]; omega⟩

/-- The first gain's gradient. -/
theorem final_g : (dats m 0 c).arrAt 7 cfg0.N = resG m c := by
  refine (dats m 0 c).arrAt_eq_of_cover 7 (resG m c) (fun t hf => ?_) fun i => ?_
  · rw [flushed7]
    funext j
    rw [View.read_apply]
    have ht := t_lt t
    have hl := (flush0_7 t).mp hf
    have e := (idx_eq t).2.2.2.2.2.2.2.1
    have k : ((cfg0.win 7).blk t).view.emb j = (j : S1x1024.Idx) := by
      funext a
      apply Fin.ext
      match a with
      | 0 => show win0_7.index t 0 * 1 + 1 * (j 0).val = (j 0).val; omega
      | 1 => show win0_7.index t 1 * 1024 + 1 * (j 1).val = (j 1).val; omega
    rw [k]
    have A := ((after_eq m c t.val t.isLt).a7 (j 1)).trans ((congrArg (fun k => partSum _ k _) (show t.val + 1 = 8 by omega)).trans (partSum_all _ _))
    refine Eq.trans ?_ A
    exact congrArg (outsAt0 m c t.val t.isLt).2.2.1 (funext fun a => match a with | 0 => Subsingleton.elim (α := Fin 1) _ _ | 1 => rfl)
  · have e := (idx_eq lastPoint).2.2.2.2.2.2.2.1
    have h0 : (i 0).val < 1 := (i 0).isLt
    have h1 : (i 1).val < 1024 := (i 1).isLt
    refine ⟨lastPoint, (flush0_7 lastPoint).mpr rfl, ?_⟩
    show i ∈ ((View.whole main_v0_2).slice (win0_7.rect lastPoint)).set
    rw [View.set_slice_whole, Rect.mem_set_unit]
    intro a
    match a with
    | 0 => show win0_7.index lastPoint 0 * 1 ≤ (i 0).val ∧ (i 0).val < win0_7.index lastPoint 0 * 1 + 1; omega
    | 1 => show win0_7.index lastPoint 1 * 1024 ≤ (i 1).val ∧ (i 1).val < win0_7.index lastPoint 1 * 1024 + 1024; omega

/-- The second gain's gradient. -/
theorem final_e : (dats m 0 c).arrAt 8 cfg0.N = resE m c := by
  refine (dats m 0 c).arrAt_eq_of_cover 8 (resE m c) (fun t hf => ?_) fun i => ?_
  · rw [flushed8]
    funext j
    rw [View.read_apply]
    have ht := t_lt t
    have hl := (flush0_8 t).mp hf
    have e := (idx_eq t).2.2.2.2.2.2.2.2
    have k : ((cfg0.win 8).blk t).view.emb j = (j : S1x1024.Idx) := by
      funext a
      apply Fin.ext
      match a with
      | 0 => show win0_8.index t 0 * 1 + 1 * (j 0).val = (j 0).val; omega
      | 1 => show win0_8.index t 1 * 1024 + 1 * (j 1).val = (j 1).val; omega
    rw [k]
    have A := ((after_eq m c t.val t.isLt).a8 (j 1)).trans ((congrArg (fun k => partSum _ k _) (show t.val + 1 = 8 by omega)).trans (partSum_all _ _))
    refine Eq.trans ?_ A
    exact congrArg (outsAt0 m c t.val t.isLt).2.2.2 (funext fun a => match a with | 0 => Subsingleton.elim (α := Fin 1) _ _ | 1 => rfl)
  · have e := (idx_eq lastPoint).2.2.2.2.2.2.2.2
    have h0 : (i 0).val < 1 := (i 0).isLt
    have h1 : (i 1).val < 1024 := (i 1).isLt
    refine ⟨lastPoint, (flush0_8 lastPoint).mpr rfl, ?_⟩
    show i ∈ ((View.whole main_v0_3).slice (win0_8.rect lastPoint)).set
    rw [View.set_slice_whole, Rect.mem_set_unit]
    intro a
    match a with
    | 0 => show win0_8.index lastPoint 0 * 1 ≤ (i 0).val ∧ (i 0).val < win0_8.index lastPoint 0 * 1 + 1; omega
    | 1 => show win0_8.index lastPoint 1 * 1024 ≤ (i 1).val ∧ (i 1).val < win0_8.index lastPoint 1 * 1024 + 1024; omega

end Cert.CatBwdIdeal.Norm
-- ==== Proof.NormCatClaim.lean ====
module

public import proofs.«01_k».proof.Defs
public import proofs.«01_k».proof.Proof.Gen.CatBwd.Frame
public import proofs.«01_k».proof.Proof.Gen.CatBwdRefIdeal.Run
public import proofs.«01_k».proof.Proof.Gen.CatBwdRefIdeal.Read
public import proofs.«01_k».proof.Proof.Index
public import proofs.«01_k».proof.Proof.NormCat
public import Idealize.ShloMosaic.Lib.IdealHost

@[expose] public section

set_option maxRecDepth 16384

noncomputable section

/-! The backward pass of the two norms whose results lie side by side: the reference's values at an index, and the five claims. -/

namespace Cert.CatBwdRefIdeal.Norm

open Cert.CatBwdRefIdeal Cert.CatBwdRefIdeal.Read Idealize.ShloMosaic Idealize.ShloMosaic.Tactic Idealize.SL.Sem
open Cert.Norm
open Cert.Gating (cWidth cNegHalf)

variable (D : S2048x2048.Idx → EReal) (X : S2048x1024.Idx → EReal) (G : S1x1024.Idx → EReal)

/-! What the two norms have in common. -/

theorem v6_apply (i : Fin 2048) : val_main_v6 (F := Ideal) X (ix2 i 0) = ms cWidth (rows X i) := by
  unfold val_main_v6 val_main_v5 val_main_v4 val_main_v3 val_main_v2 val_main_v1 val_main_v0 val_main_cst val_main_cst_0 val_main_cst_1
  pointwise
  rfl

theorem v7_apply (i : Fin 2048) : val_main_v7 (F := Ideal) X (ix2 i 0) = inv cWidth (rows X i) := by
  unfold val_main_v7
  pointwise
  rw [v6_apply]
  rfl

theorem v10_apply (i : Fin 2048) :
    val_main_v10 (F := Ideal) X (ix2 i 0) = cNegHalf * Ideal.div (inv cWidth (rows X i)) (ms cWidth (rows X i)) := by
  unfold val_main_v10 val_main_v9 val_main_v8 val_main_cst_2
  pointwise
  rw [v6_apply, v7_apply]

theorem v12_apply (i : Fin 2048) (q : Fin 1024) : val_main_v12 (F := Ideal) X (ix2 i q) = unit cWidth (rows X i) q := by
  unfold val_main_v12 val_main_v11
  pointwise
  rw [v7_apply]
  rfl

/-- The left half of a row of the gradient. -/
abbrev leftRow (i : Fin 2048) : Fin 1024 → EReal := fun q => D (ix2 i ⟨q.val, by omega⟩)
/-- The right half. -/
abbrev rightRow (i : Fin 2048) : Fin 1024 → EReal := fun q => D (ix2 i ⟨1024 + q.val, by omega⟩)

theorem v31_apply (i : Fin 2048) (q : Fin 1024) : val_main_v31 (F := Ideal) D (ix2 i q) = leftRow D i q := by
  unfold val_main_v31
  pointwise

theorem v32_apply (i : Fin 2048) (q : Fin 1024) : val_main_v32 (F := Ideal) D (ix2 i q) = rightRow D i q := by
  unfold val_main_v32
  pointwise

theorem v56_apply (i : Fin 2048) (q : Fin 1024) : val_main_v56 (F := Ideal) D G (ix2 i q) = leftRow D i q * G (ix2 0 q) := by
  unfold val_main_v56 val_main_v55
  pointwise
  rw [v31_apply]

theorem v37_apply (i : Fin 2048) (q : Fin 1024) : val_main_v37 (F := Ideal) D G (ix2 i q) = rightRow D i q * G (ix2 0 q) := by
  unfold val_main_v37 val_main_v36
  pointwise
  rw [v32_apply]

theorem v66_apply (i : Fin 2048) (q : Fin 1024) :
    val_main_v66 (F := Ideal) D X G (ix2 i q) = slope cWidth (rows X i) fun q => leftRow D i q * G (ix2 0 q) := by
  unfold val_main_v66 val_main_v65 val_main_v64 val_main_v63 val_main_v62 val_main_v59 val_main_v58 val_main_v57 val_main_cst_12 val_main_cst_13 val_main_cst_14
  pointwise
  simp only [Fin.sum_univ_one, v10_apply, v56_apply]
  rfl

theorem v47_apply (i : Fin 2048) (q : Fin 1024) :
    val_main_v47 (F := Ideal) D X G (ix2 i q) = slope cWidth (rows X i) fun q => rightRow D i q * G (ix2 0 q) := by
  unfold val_main_v47 val_main_v46 val_main_v45 val_main_v44 val_main_v43 val_main_v40 val_main_v39 val_main_v38 val_main_cst_8 val_main_cst_9 val_main_cst_10
  pointwise
  simp only [Fin.sum_univ_one, v37_apply, show ∀ i : Fin 2048, val_main_v25 (F := Ideal) X (ix2 i 0) = _ from v10_apply X]
  rfl

/-- The first operand's gradient. -/
theorem v70_apply (i : Fin 2048) (q : Fin 1024) :
    val_main_v70 (F := Ideal) D X G (ix2 i q) = dunit cWidth (rows X i) (fun q => leftRow D i q * G (ix2 0 q)) q := by
  unfold val_main_v70 val_main_v69 val_main_v68 val_main_v67 val_main_v61 val_main_v60
  pointwise
  rw [v66_apply, v56_apply, v7_apply]
  rfl

/-- The second operand's gradient. -/
theorem v51_apply (i : Fin 2048) (q : Fin 1024) :
    val_main_v51 (F := Ideal) D X G (ix2 i q) = dunit cWidth (rows X i) (fun q => rightRow D i q * G (ix2 0 q)) q := by
  unfold val_main_v51 val_main_v50 val_main_v49 val_main_v48 val_main_v42 val_main_v41
  pointwise
  rw [v47_apply, v37_apply, show val_main_v22 (F := Ideal) X (ix2 i 0) = _ from v7_apply X i]
  rfl

/-- The first gain's gradient. -/
theorem v54_apply (q : Fin 1024) : val_main_v54 (F := Ideal) D X (ix2 0 q) = ∑ i, unit cWidth (rows X i) q * leftRow D i q := by
  unfold val_main_v54 val_main_v53 val_main_v52 val_main_cst_11
  pointwise
  simp only [v12_apply, v31_apply]

/-- The second gain's gradient. -/
theorem v35_apply (q : Fin 1024) : val_main_v35 (F := Ideal) D X (ix2 0 q) = ∑ i, unit cWidth (rows X i) q * rightRow D i q := by
  unfold val_main_v35 val_main_v34 val_main_v33 val_main_cst_7
  pointwise
  simp only [v32_apply, show ∀ (i : Fin 2048) (q : Fin 1024), val_main_v27 (F := Ideal) X (ix2 i q) = _ from v12_apply X]

end Cert.CatBwdRefIdeal.Norm

namespace Cert.Norm.Cat

open Idealize.ShloMosaic Idealize.ShloMosaic.Tactic Idealize.SL.Sem
open Cert.CatBwdRefIdeal (main_arg0 main_arg1 main_arg2 main_arg3 main_arg4)
open Cert.CatBwdRefIdeal.Read Cert.CatBwdRefIdeal.Norm
open Cert.CatBwdIdeal.Norm (resA resB resG resE)

attribute [local instance] Cert.CatBwd.Gen.facts Cert.CatBwdIdeal.Gen.facts Cert.CatBwdRefIdeal.Gen.facts

/-- The kernel, in its own arithmetic, ends with its arguments unchanged and every counter at zero. -/
theorem frame_kernel : Cert.quiescent_CatBwd := fun m ρ _ => Cert.CatBwd.Gen.frame m ρ

/-- The same of the kernel over the extended reals. -/
theorem frame_kernelIdeal : Cert.quiescent_CatBwdIdeal := fun m ρ _ => Cert.CatBwdIdeal.Gen.frame m ρ

/-- The same of the reference over the extended reals. -/
theorem frame_referenceIdeal : Cert.quiescent_CatBwdRefIdeal := fun m ρ _ =>
  (θ_run Cert.CatBwdRefIdeal.defs _ _).mono (fun r h => ⟨fun c => (h c).2.2.2.2, sem_eq_zero_of_no_sems (by decide) r.2⟩)
    (Cert.CatBwdRefIdeal.Value.run (F := Ideal) m ρ)

/-- From equal arguments the kernel and the reference end with equal gradients at the two operands and the two gains, over the
    extended reals, whatever the arguments. -/
theorem value : Cert.algebraic_CatBwdIdeal_CatBwdRefIdeal := by
  intro m g m' g' _ ha
  refine ⟨resA m, resB m, resG m, resE m, ?_, ?_⟩
  · refine (θ_run Cert.CatBwdIdeal.defs _ _).mono (fun r h c => ?_) (Cert.CatBwdIdeal.Value.run_blocks (F := Ideal) m g)
    obtain ⟨h0, h1, h2, h3, hk⟩ := h c
    exact ⟨h0.trans (Cert.CatBwdIdeal.Norm.final_a m c), h1.trans (Cert.CatBwdIdeal.Norm.final_b m c),
      h2.trans (Cert.CatBwdIdeal.Norm.final_g m c), h3.trans (Cert.CatBwdIdeal.Norm.final_e m c), hk⟩
  · refine (θ_run Cert.CatBwdRefIdeal.defs _ _).mono (fun r h c => ?_) (Cert.CatBwdRefIdeal.Value.run (F := Ideal) m' g')
    obtain ⟨h0, h1, h2, h3, hk⟩ := h c
    obtain ⟨a0, a1, a2, a3, a4⟩ := ha c
    refine ⟨h0.trans ?_, h1.trans ?_, h2.trans ?_, h3.trans ?_, hk⟩
    · refine (val_main_v70_eq _ _ _).trans ?_
      show val_main_v70 (F := Ideal) (m' (c.tc.loc main_arg0)) (m' (c.tc.loc main_arg1)) (m' (c.tc.loc main_arg3)) = _
      rw [a0, a1, a3]
      funext i
      exact (congrArg _ (idx2 i)).trans (v70_apply _ _ _ (i 0) (i 1))
    · refine (val_main_v51_eq _ _ _).trans ?_
      show val_main_v51 (F := Ideal) (m' (c.tc.loc main_arg0)) (m' (c.tc.loc main_arg2)) (m' (c.tc.loc main_arg4)) = _
      rw [a0, a2, a4]
      funext i
      exact (congrArg _ (idx2 i)).trans (v51_apply _ _ _ (i 0) (i 1))
    · refine (val_main_v54_eq _ _).trans ?_
      show val_main_v54 (F := Ideal) (m' (c.tc.loc main_arg0)) (m' (c.tc.loc main_arg1)) = _
      rw [a0, a1]
      funext i
      exact (congrArg _ (idx1 i)).trans (v54_apply _ _ (i 1))
    · refine (val_main_v35_eq _ _).trans ?_
      show val_main_v35 (F := Ideal) (m' (c.tc.loc main_arg0)) (m' (c.tc.loc main_arg2)) = _
      rw [a0, a2]
      funext i
      exact (congrArg _ (idx1 i)).trans (v35_apply _ _ (i 1))

end Cert.Norm.Cat
-- ==== Proof.NormFirst.lean ====
module

public import proofs.«01_k».proof.Proof.Norm
public import proofs.«01_k».proof.Proof.Gen.FirstBwdIdeal.Value
public import Idealize.ShloMosaic.Lib.Pipeline.ReadBack

@[expose] public section

set_option maxRecDepth 16384

noncomputable section

/-! The backward pass of the layer's first norm: what a grid point of the kernel stores, and the arrays it leaves. -/

namespace Cert.FirstBwdIdeal.Norm

open Cert.Norm Cert.FirstBwdIdeal Cert.FirstBwdIdeal.Gen Cert.FirstBwdIdeal.Value Idealize.ShloMosaic Idealize.ShloMosaic.TcCoe Idealize.ShloMosaic.Tactic Idealize.SL.Sem
open Idealize.ShloMosaic.Pipeline (Dat)

section Block
variable (x0 x1 x2 : Vec Ideal S256x2048 .f32) (x3 x4 : Vec Ideal S1x2048 .f32)

/-! The values of one point, at an index. -/

theorem pay8 (x : Vec Ideal S256x2048 .f32) (r : Fin 256) : k0_pay8 x (ix2 r 0) = ms cWide (rows x r) := by
  unfold k0_pay8; pointwise; rfl
theorem pay9 (x : Vec Ideal S256x2048 .f32) (r : Fin 256) : k0_pay9 x (ix2 r 0) = inv cWide (rows x r) := by
  unfold k0_pay9; pointwise; rw [pay8]; rfl
theorem pay10 (x : Vec Ideal S256x2048 .f32) (r : Fin 256) :
    k0_pay10 x (ix2 r 0) = Cert.Gating.cNegHalf * Ideal.div (inv cWide (rows x r)) (ms cWide (rows x r)) := by
  unfold k0_pay10; pointwise; rw [pay8, pay9]
theorem pay11 (x : Vec Ideal S256x2048 .f32) (r : Fin 256) (q : Fin 2048) : k0_pay11 x (ix2 r q) = unit cWide (rows x r) q := by
  unfold k0_pay11; pointwise; rw [pay9]; rfl
theorem pay15 (r : Fin 256) (q : Fin 2048) : k0_pay15 x4 x0 (ix2 r q) = x0 (ix2 r q) * (1 + x4 (ix2 0 q)) := by
  unfold k0_pay15 k0_pay12; pointwise
theorem pay17 (r : Fin 256) (q : Fin 2048) : k0_pay17 x3 x4 x0 (ix2 r q) = x0 (ix2 r q) * (1 + x4 (ix2 0 q)) * x3 (ix2 0 q) := by
  unfold k0_pay17; pointwise; rw [pay15]
theorem pay18 (r : Fin 256) : k0_pay18 x2 x3 x4 x0 (ix1 r) = ∑ q, x2 (ix2 r q) * (x0 (ix2 r q) * (1 + x4 (ix2 0 q)) * x3 (ix2 0 q)) := by
  unfold k0_pay18; pointwise; simp only [pay17]
theorem shift_apply (q : Fin 2048) : k0_pay13 x0 (ix2 0 q) = ∑ r, x0 (ix2 r q) := by
  unfold k0_pay13; pointwise
theorem scale_apply (q : Fin 2048) : k0_pay14 x2 x3 x0 (ix2 0 q) = ∑ r, unit cWide (rows x2 r) q * x3 (ix2 0 q) * x0 (ix2 r q) := by
  unfold k0_pay14 k0_pay12; pointwise; simp only [pay11]
theorem gain_apply (q : Fin 2048) : k0_pay16 x2 x4 x0 (ix2 0 q) = ∑ r, unit cWide (rows x2 r) q * (x0 (ix2 r q) * (1 + x4 (ix2 0 q))) := by
  unfold k0_pay16; pointwise; simp only [pay11, pay15]

/-- The block of the input's gradient. -/
abbrev dxB : Vec Ideal S256x2048 .f32 := k0_pay1 x2 (k0_pay9 x2) (k0_pay10 x2) (k0_pay17 x3 x4 x0) (k0_pay18 x2 x3 x4 x0) x1

theorem dxB_apply (r : Fin 256) (q : Fin 2048) :
    dxB x0 x1 x2 x3 x4 (ix2 r q) = dresid cWide (rows x2 r) (rows x1 r) (rows x3 0) (rows x4 0) (rows x0 r) q := by
  unfold dxB k0_pay1; pointwise
  simp only [pay9, pay10, pay17, pay18, Fin.sum_univ_one]
  rfl

theorem pay2_apply (a b : Vec Ideal S1x2048 .f32) (q : Fin 2048) : k0_pay2 a b (ix2 0 q) = b (ix2 0 q) + a (ix2 0 q) := by
  unfold k0_pay2; pointwise
theorem pay3_apply (a b : Vec Ideal S1x2048 .f32) (q : Fin 2048) : k0_pay3 a b (ix2 0 q) = b (ix2 0 q) + a (ix2 0 q) := by
  unfold k0_pay3; pointwise
theorem pay4_apply (a b : Vec Ideal S1x2048 .f32) (q : Fin 2048) : k0_pay4 a b (ix2 0 q) = b (ix2 0 q) + a (ix2 0 q) := by
  unfold k0_pay4; pointwise
theorem pay5_apply (j : S1x2048.Idx) : k0_pay5 (F := Ideal) j = 0 := by unfold k0_pay5; pointwise
theorem pay6_apply (j : S1x2048.Idx) : k0_pay6 (F := Ideal) j = 0 := by unfold k0_pay6; pointwise
theorem pay7_apply (j : S1x2048.Idx) : k0_pay7 (F := Ideal) j = 0 := by unfold k0_pay7; pointwise
end Block

section Stores
variable (c : Dev nD) (i : grid0.Coords)
  (a1 : Memref sig .tc .vmem S256x2048 .f32) (h1 : a1.IsWhole)
  (a2 : Memref sig .tc .vmem S256x2048 .f32) (h2 : a2.IsWhole)
  (a3 : Memref sig .tc .vmem S256x2048 .f32) (h3 : a3.IsWhole)
  (a4 : Memref sig .tc .vmem S1x2048 .f32) (h4 : a4.IsWhole)
  (a5 : Memref sig .tc .vmem S1x2048 .f32) (h5 : a5.IsWhole)
  (a6 : Memref sig .tc .vmem S1x2048 .f32) (h6 : a6.IsWhole)
  (a7 : Memref sig .tc .vmem S256x2048 .f32) (h7 : a7.IsWhole)
  (a8 : Memref sig .tc .vmem S1x2048 .f32) (h8 : a8.IsWhole)
  (a9 : Memref sig .tc .vmem S1x2048 .f32) (h9 : a9.IsWhole)
  (a10 : Memref sig .tc .vmem S1x2048 .f32) (h10 : a10.IsWhole)
  (x0 x1 x2 : Vec Ideal S256x2048 .f32) (x3 x4 x5 xo7 xo8 xo9 : Vec Ideal S1x2048 .f32)

/-- The output blocks at the first point. -/
theorem outs_A (hc : cond0_0 i) :
    out0_A_6 (F := Ideal) c i a1 h1 a2 h2 a3 h3 a4 h4 a5 h5 a6 h6 a7 h7 a8 h8 a9 h9 a10 h10 hc x0 x1 x2 x3 x4 x5 = dxB x0 x1 x2 x3 x4 ∧
    out0_A_7 (F := Ideal) c i a1 h1 a2 h2 a3 h3 a4 h4 a5 h5 a6 h6 a7 h7 a8 h8 a9 h9 a10 h10 hc x0 x1 x2 x3 x4 x5 = k0_pay2 (k0_pay16 x2 x4 x0) (k0_pay5 (F := Ideal)) ∧
    out0_A_8 (F := Ideal) c i a1 h1 a2 h2 a3 h3 a4 h4 a5 h5 a6 h6 a7 h7 a8 h8 a9 h9 a10 h10 hc x0 x1 x2 x3 x4 x5 = k0_pay3 (k0_pay14 x2 x3 x0) (k0_pay6 (F := Ideal)) ∧
    out0_A_9 (F := Ideal) c i a1 h1 a2 h2 a3 h3 a4 h4 a5 h5 a6 h6 a7 h7 a8 h8 a9 h9 a10 h10 hc x0 x1 x2 x3 x4 x5 = k0_pay4 (k0_pay13 x0) (k0_pay7 (F := Ideal)) := by
  refine ⟨(View.read_writes_eq_canon _ _ _ (cover0_A_6 c i a1 h1 a2 h2 a3 h3 a4 h4 a5 h5 a6 h6 a7 h7 a8 h8 a9 h9 a10 h10 hc x0 x1 x2 x3 x4 x5)).trans ?_,
    (View.read_writes_eq_canon _ _ _ (cover0_A_7 c i a1 h1 a2 h2 a3 h3 a4 h4 a5 h5 a6 h6 a7 h7 a8 h8 a9 h9 a10 h10 hc x0 x1 x2 x3 x4 x5)).trans ?_,
    (View.read_writes_eq_canon _ _ _ (cover0_A_8 c i a1 h1 a2 h2 a3 h3 a4 h4 a5 h5 a6 h6 a7 h7 a8 h8 a9 h9 a10 h10 hc x0 x1 x2 x3 x4 x5)).trans ?_,
    (View.read_writes_eq_canon _ _ _ (cover0_A_9 c i a1 h1 a2 h2 a3 h3 a4 h4 a5 h5 a6 h6 a7 h7 a8 h8 a9 h9 a10 h10 hc x0 x1 x2 x3 x4 x5)).trans ?_⟩
  all_goals
    unfold kernelRun0_A
    dsimp only
    sl_unfold_words
    simp only [View.readAt_eq_ld, h1.read_unread, h2.read_unread, h3.read_unread, h4.read_unread, h5.read_unread, h6.read_unread, h7.read_unread, h8.read_unread, h9.read_unread, h10.read_unread, View.ld_unit_zero (S := S256x2048) hz,
      View.ld_unit_zero (S := S1x2048) hz, shapeCast_self]
  · rw [View.canon_unit_zero hz]
  all_goals
    rw [View.canon_cons_unit_zero (S := S1x2048) hz]
    simp only [View.readCov_unit_zero (S := S1x2048) _ hz]

/-- The output blocks at the points after it. -/
theorem outs_B (hc : ¬cond0_0 i) :
    out0_B_6 (F := Ideal) c i a1 h1 a2 h2 a3 h3 a4 h4 a5 h5 a6 h6 a7 h7 a8 h8 a9 h9 a10 h10 hc x0 x1 x2 x3 x4 x5 xo7 xo8 xo9 = dxB x0 x1 x2 x3 x4 ∧
    out0_B_7 (F := Ideal) c i a1 h1 a2 h2 a3 h3 a4 h4 a5 h5 a6 h6 a7 h7 a8 h8 a9 h9 a10 h10 hc x0 x1 x2 x3 x4 x5 xo7 xo8 xo9 = k0_pay2 (k0_pay16 x2 x4 x0) xo7 ∧
    out0_B_8 (F := Ideal) c i a1 h1 a2 h2 a3 h3 a4 h4 a5 h5 a6 h6 a7 h7 a8 h8 a9 h9 a10 h10 hc x0 x1 x2 x3 x4 x5 xo7 xo8 xo9 = k0_pay3 (k0_pay14 x2 x3 x0) xo8 ∧
    out0_B_9 (F := Ideal) c i a1 h1 a2 h2 a3 h3 a4 h4 a5 h5 a6 h6 a7 h7 a8 h8 a9 h9 a10 h10 hc x0 x1 x2 x3 x4 x5 xo7 xo8 xo9 = k0_pay4 (k0_pay13 x0) xo9 := by
  refine ⟨(View.read_writes_eq_canon _ _ _ (cover0_B_6 c i a1 h1 a2 h2 a3 h3 a4 h4 a5 h5 a6 h6 a7 h7 a8 h8 a9 h9 a10 h10 hc x0 x1 x2 x3 x4 x5 xo7 xo8 xo9)).trans ?_,
    (View.read_writes_eq_canon _ _ _ (cover0_B_7 c i a1 h1 a2 h2 a3 h3 a4 h4 a5 h5 a6 h6 a7 h7 a8 h8 a9 h9 a10 h10 hc x0 x1 x2 x3 x4 x5 xo7 xo8 xo9)).trans ?_,
    (View.read_writes_eq_canon _ _ _ (cover0_B_8 c i a1 h1 a2 h2 a3 h3 a4 h4 a5 h5 a6 h6 a7 h7 a8 h8 a9 h9 a10 h10 hc x0 x1 x2 x3 x4 x5 xo7 xo8 xo9)).trans ?_,
    (View.read_writes_eq_canon _ _ _ (cover0_B_9 c i a1 h1 a2 h2 a3 h3 a4 h4 a5 h5 a6 h6 a7 h7 a8 h8 a9 h9 a10 h10 hc x0 x1 x2 x3 x4 x5 xo7 xo8 xo9)).trans ?_⟩
  all_goals
    unfold kernelRun0_B
    dsimp only
    sl_unfold_words
    simp only [View.readAt_eq_ld, h1.read_unread, h2.read_unread, h3.read_unread, h4.read_unread, h5.read_unread, h6.read_unread, h7.read_unread, h8.read_unread, h9.read_unread, h10.read_unread, View.ld_unit_zero (S := S256x2048) hz,
      View.ld_unit_zero (S := S1x2048) hz, shapeCast_self]
    rw [View.canon_unit_zero hz]
end Stores

variable (m : (ℓ : Loc nD τ sig) → Buf (Elt Ideal) ℓ) (c : Dev nD)

/-! The arguments, row by row. -/

abbrev argH (i : Fin 2048) : Fin 2048 → EReal := rows (m (c.tc.loc main_arg0) : Vec Ideal S2048x2048 .f32) i
abbrev argD (i : Fin 2048) : Fin 2048 → EReal := rows (m (c.tc.loc main_arg1) : Vec Ideal S2048x2048 .f32) i
abbrev argX (i : Fin 2048) : Fin 2048 → EReal := rows (m (c.tc.loc main_arg2) : Vec Ideal S2048x2048 .f32) i
abbrev argG : Fin 2048 → EReal := rows (m (c.tc.loc main_arg3) : Vec Ideal S1x2048 .f32) 0
abbrev argS : Fin 2048 → EReal := rows (m (c.tc.loc main_arg4) : Vec Ideal S1x2048 .f32) 0

theorem idx_eq : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = 0)
    ∧ (win0_4.index t 0 = 0 ∧ win0_4.index t 1 = 0)
    ∧ (win0_6.index t 0 = t.val ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0) := by
  decide +kernel

theorem t_lt (t : Fin cfg0.N) : t.val < 8 := lt_of_lt_of_eq t.isLt N_0

/-! What a point loads. -/

theorem block0 (t : Fin cfg0.N) (r : Fin 256) (q : Fin 2048) :
    (iblk m c 0 t : Vec Ideal S256x2048 .f32) (ix2 r q) = argH m c (rowOf t.val r) q := by
  have ht := t_lt t
  have e := (idx_eq t).1
  unfold iblk
  rw [View.read_apply]
  show V m c main_arg0 _ = _
  rw [V_main_arg0]
  exact entry _ (by show win0_0.index t 0 * 256 + 1 * r.val = (256 * t.val + r.val) % 2048; omega) (by show win0_0.index t 1 * 2048 + 1 * q.val = q.val; omega)

theorem block1 (t : Fin cfg0.N) (r : Fin 256) (q : Fin 2048) :
    (iblk m c 1 t : Vec Ideal S256x2048 .f32) (ix2 r q) = argD m c (rowOf t.val r) q := by
  have ht := t_lt t
  have e := (idx_eq t).2.1
  unfold iblk
  rw [View.read_apply]
  show V m c main_arg1 _ = _
  rw [V_main_arg1]
  exact entry _ (by show win0_1.index t 0 * 256 + 1 * r.val = (256 * t.val + r.val) % 2048; omega) (by show win0_1.index t 1 * 2048 + 1 * q.val = q.val; omega)

theorem block2 (t : Fin cfg0.N) (r : Fin 256) (q : Fin 2048) :
    (iblk m c 2 t : Vec Ideal S256x2048 .f32) (ix2 r q) = argX m c (rowOf t.val r) q := by
  have ht := t_lt t
  have e := (idx_eq t).2.2.1
  unfold iblk
  rw [View.read_apply]
  show V m c main_arg2 _ = _
  rw [V_main_arg2]
  exact entry _ (by show win0_2.index t 0 * 256 + 1 * r.val = (256 * t.val + r.val) % 2048; omega) (by show win0_2.index t 1 * 2048 + 1 * q.val = q.val; omega)

theorem block3 (t : Fin cfg0.N) (q : Fin 2048) : (iblk m c 3 t : Vec Ideal S1x2048 .f32) (ix2 0 q) = argG m c q := by
  have e := (idx_eq t).2.2.2.1
  unfold iblk
  rw [View.read_apply]
  show V m c main_arg3 _ = _
  rw [V_main_arg3]
  exact entry _ (by show win0_3.index t 0 * 1 + 1 * 0 = 0; omega) (by show win0_3.index t 1 * 2048 + 1 * q.val = q.val; omega)

theorem block4 (t : Fin cfg0.N) (q : Fin 2048) : (iblk m c 4 t : Vec Ideal S1x2048 .f32) (ix2 0 q) = argS m c q := by
  have e := (idx_eq t).2.2.2.2.1
  unfold iblk
  rw [View.read_apply]
  show V m c main_arg4 _ = _
  rw [V_main_arg4]
  exact entry _ (by show win0_4.index t 0 * 1 + 1 * 0 = 0; omega) (by show win0_4.index t 1 * 2048 + 1 * q.val = q.val; omega)

/-! One row's part of the gradients at the gain, the scale and the shift. -/

def gainRow (i : Fin 2048) (q : Fin 2048) : EReal := unit cWide (argX m c i) q * (argH m c i q * (1 + argS m c q))
def scaleRow (i : Fin 2048) (q : Fin 2048) : EReal := unit cWide (argX m c i) q * argG m c q * argH m c i q

/-- What point `n` leaves in the three sums. -/
structure After (n : Nat) (o7 o8 o9 : Vec Ideal S1x2048 .f32) : Prop where
  a7 : ∀ q, o7 (ix2 0 q) = partSum (gainRow m c) (n + 1) q
  a8 : ∀ q, o8 (ix2 0 q) = partSum (scaleRow m c) (n + 1) q
  a9 : ∀ q, o9 (ix2 0 q) = partSum (argH m c) (n + 1) q

theorem gain_block (t : Fin cfg0.N) (q : Fin 2048) :
    k0_pay16 (F := Ideal) (iblk m c 2 t) (iblk m c 4 t) (iblk m c 0 t) (ix2 0 q) = ∑ r, gainRow m c (rowOf t.val r) q := by
  rw [gain_apply]
  refine Finset.sum_congr rfl fun r _ => ?_
  rw [show rows (iblk m c 2 t : Vec Ideal S256x2048 .f32) r = argX m c (rowOf t.val r) from funext (block2 m c t r), block0, block4]
  rfl
theorem scale_block (t : Fin cfg0.N) (q : Fin 2048) :
    k0_pay14 (F := Ideal) (iblk m c 2 t) (iblk m c 3 t) (iblk m c 0 t) (ix2 0 q) = ∑ r, scaleRow m c (rowOf t.val r) q := by
  rw [scale_apply]
  refine Finset.sum_congr rfl fun r _ => ?_
  rw [show rows (iblk m c 2 t : Vec Ideal S256x2048 .f32) r = argX m c (rowOf t.val r) from funext (block2 m c t r), block0, block3]
  rfl
theorem shift_block (t : Fin cfg0.N) (q : Fin 2048) : k0_pay13 (F := Ideal) (iblk m c 0 t) (ix2 0 q) = ∑ r, argH m c (rowOf t.val r) q := by
  rw [shift_apply]
  exact Finset.sum_congr rfl fun r _ => block0 m c t r q

/-- Every point leaves the sums so far. -/
theorem after_eq (n : Nat) : ∀ h : n < cfg0.N, After m c n (outsAt0 m c n h).2.1 (outsAt0 m c n h).2.2.1 (outsAt0 m c n h).2.2.2 := by
  induction n with
  | zero =>
    intro h
    rw [outsAt0_A m c ⟨0, h⟩ rfl]
    dsimp only
    obtain ⟨-, e7, e8, e9⟩ := outs_A c _ _ _ _ _ _ _ _ _ _ _ _ _ _ _ _ _ _ _ _ _ _ _ _ _ _ _ _
    rw [e7, e8, e9]
    refine ⟨fun q => ?_, fun q => ?_, fun q => ?_⟩
    · rw [pay2_apply, pay5_apply, gain_block, partSum_succ, partSum_zero]
    · rw [pay3_apply, pay6_apply, scale_block, partSum_succ, partSum_zero]
    · rw [pay4_apply, pay7_apply, shift_block, partSum_succ, partSum_zero]
  | succ n ih =>
    intro h
    have hn : n + 1 < 8 := t_lt ⟨n + 1, h⟩
    obtain ⟨I7, I8, I9⟩ := ih (by omega)
    rw [outsAt0_B m c ⟨n + 1, h⟩ (by dsimp only; omega)]
    dsimp only
    obtain ⟨-, e7, e8, e9⟩ := outs_B c _ _ _ _ _ _ _ _ _ _ _ _ _ _ _ _ _ _ _ _ _ _ _ _ _ _ _ _ _ _ _
    rw [e7, e8, e9]
    refine ⟨fun q => ?_, fun q => ?_, fun q => ?_⟩
    · rw [pay2_apply, gain_block, partSum_succ]; exact congrArg (· + _) (I7 q)
    · rw [pay3_apply, scale_block, partSum_succ]; exact congrArg (· + _) (I8 q)
    · rw [pay4_apply, shift_block, partSum_succ]; exact congrArg (· + _) (I9 q)

/-- Every point leaves its block of the input's gradient. -/
theorem dx_eq (t : Fin cfg0.N) (r : Fin 256) (q : Fin 2048) : ((outsAt0 m c t.val t.isLt).1 : Vec Ideal S256x2048 .f32) (ix2 r q)
    = dresid cWide (argX m c (rowOf t.val r)) (argD m c (rowOf t.val r)) (argG m c) (argS m c) (argH m c (rowOf t.val r)) q := by
  rw [← show rows (iblk m c 2 t : Vec Ideal S256x2048 .f32) r = argX m c (rowOf t.val r) from funext (block2 m c t r),
    ← show rows (iblk m c 1 t : Vec Ideal S256x2048 .f32) r = argD m c (rowOf t.val r) from funext (block1 m c t r),
    ← show rows (iblk m c 0 t : Vec Ideal S256x2048 .f32) r = argH m c (rowOf t.val r) from funext (block0 m c t r),
    ← show rows (iblk m c 3 t : Vec Ideal S1x2048 .f32) 0 = argG m c from funext (block3 m c t),
    ← show rows (iblk m c 4 t : Vec Ideal S1x2048 .f32) 0 = argS m c from funext (block4 m c t), ← dxB_apply]
  by_cases h0 : t.val % 8 = 0
  · rw [outsAt0_A m c t h0]
    dsimp only
    rw [(outs_A c _ _ _ _ _ _ _ _ _ _ _ _ _ _ _ _ _ _ _ _ _ _ _ _ _ _ _ _).1]
  · rw [outsAt0_B m c t h0]
    dsimp only
    rw [(outs_B c _ _ _ _ _ _ _ _ _ _ _ _ _ _ _ _ _ _ _ _ _ _ _ _ _ _ _ _ _ _ _).1]

/-! What the four result arrays end holding. -/

abbrev resX : Buf (Elt Ideal) ((c : Thread nD τ).loc main_v0_0) := fun i : S2048x2048.Idx =>
  dresid cWide (argX m c (i 0)) (argD m c (i 0)) (argG m c) (argS m c) (argH m c (i 0)) (i 1)
abbrev resG : Buf (Elt Ideal) ((c : Thread nD τ).loc main_v0_1) := fun i : S1x2048.Idx => (∑ k, gainRow m c k (i 1) : EReal)
abbrev resS : Buf (Elt Ideal) ((c : Thread nD τ).loc main_v0_2) := fun i : S1x2048.Idx => (∑ k, scaleRow m c k (i 1) : EReal)
abbrev resH : Buf (Elt Ideal) ((c : Thread nD τ).loc main_v0_3) := fun i : S1x2048.Idx => (∑ k, argH m c k (i 1) : EReal)

/-- The input's gradient. -/
theorem final_x : (dats m 0 c).arrAt 6 cfg0.N = resX m c := by
  refine (dats m 0 c).arrAt_eq_of_cover 6 (resX m c) (fun t _ => ?_) fun i => ?_
  · rw [flushed6]
    funext j
    rw [View.read_apply]
    have e := (idx_eq t).2.2.2.2.2.1
    have ht := t_lt t
    have h0 : (j 0).val < 256 := (j 0).isLt
    have h1 : (j 1).val < 2048 := (j 1).isLt
    have k : ((cfg0.win 6).blk t).view.emb j = (ix2 (rowOf t.val ⟨(j 0).val, h0⟩) ⟨(j 1).val, h1⟩ : S2048x2048.Idx) := by
      funext a
      apply Fin.ext
      match a with
      | 0 => show win0_6.index t 0 * 256 + 1 * (j 0).val = (256 * t.val + (j 0).val) % 2048; omega
      | 1 => show win0_6.index t 1 * 2048 + 1 * (j 1).val = (j 1).val; omega
    rw [k]
    refine Eq.trans ?_ (dx_eq m c t ⟨(j 0).val, h0⟩ ⟨(j 1).val, h1⟩)
    exact entry (outsAt0 m c t.val t.isLt).1 rfl rfl
  · have h0 : (i 0).val < 2048 := (i 0).isLt
    have h1 : (i 1).val < 2048 := (i 1).isLt
    have ht : (i 0).val / 256 < cfg0.N := by rw [show cfg0.N = 8 from N_0]; omega
    generalize ht' : (⟨(i 0).val / 256, ht⟩ : Fin cfg0.N) = t
    have hv : t.val = (i 0).val / 256 := by rw [← ht']
    have e := (idx_eq t).2.2.2.2.2.1
    refine ⟨t, flush0_6 t, ?_⟩
    show i ∈ ((View.whole main_v0_0).slice (win0_6.rect t)).set
    rw [View.set_slice_whole, Rect.mem_set_unit]
    intro a
    match a with
    | 0 => show win0_6.index t 0 * 256 ≤ (i 0).val ∧ (i 0).val < win0_6.index t 0 * 256 + 256; omega
    | 1 => show win0_6.index t 1 * 2048 ≤ (i 1).val ∧ (i 1).val < win0_6.index t 1 * 2048 + 2048; omega

/-- The last point. -/
abbrev lastPoint : Fin cfg0.N := ⟨7, by rw [show cfg0.N = 8 from N_0]; omega⟩

/-- The gain's gradient. -/
theorem final_g : (dats m 0 c).arrAt 7 cfg0.N = resG m c := by
  refine (dats m 0 c).arrAt_eq_of_cover 7 (resG m c) (fun t hf => ?_) fun i => ?_
  · rw [flushed7]
    funext j
    rw [View.read_apply]
    have ht := t_lt t
    have hl := (flush0_7 t).mp hf
    have e := (idx_eq t).2.2.2.2.2.2.1
    have k : ((cfg0.win 7).blk t).view.emb j = (j : S1x2048.Idx) := by
      funext a
      apply Fin.ext
      match a with
      | 0 => show win0_7.index t 0 * 1 + 1 * (j 0).val = (j 0).val; omega
      | 1 => show win0_7.index t 1 * 2048 + 1 * (j 1).val = (j 1).val; omega
    rw [k]
    have A := ((after_eq m c t.val t.isLt).a7 (j 1)).trans ((congrArg (fun k => partSum _ k _) (show t.val + 1 = 8 by omega)).trans (partSum_all _ _))
    refine Eq.trans ?_ A
    exact congrArg (outsAt0 m c t.val t.isLt).2.1 (funext fun a => match a with | 0 => Subsingleton.elim (α := Fin 1) _ _ | 1 => rfl)
  · have e := (idx_eq lastPoint).2.2.2.2.2.2.1
    have h0 : (i 0).val < 1 := (i 0).isLt
    have h1 : (i 1).val < 2048 := (i 1).isLt
    refine ⟨lastPoint, (flush0_7 lastPoint).mpr rfl, ?_⟩
    show i ∈ ((View.whole main_v0_1).slice (win0_7.rect lastPoint)).set
    rw [View.set_slice_whole, Rect.mem_set_unit]
    intro a
    match a with
    | 0 => show win0_7.index lastPoint 0 * 1 ≤ (i 0).val ∧ (i 0).val < win0_7.index lastPoint 0 * 1 + 1; omega
    | 1 => show win0_7.index lastPoint 1 * 2048 ≤ (i 1).val ∧ (i 1).val < win0_7.index lastPoint 1 * 2048 + 2048; omega

/-- The scale's gradient. -/
theorem final_s : (dats m 0 c).arrAt 8 cfg0.N = resS m c := by
  refine (dats m 0 c).arrAt_eq_of_cover 8 (resS m c) (fun t hf => ?_) fun i => ?_
  · rw [flushed8]
    funext j
    rw [View.read_apply]
    have ht := t_lt t
    have hl := (flush0_8 t).mp hf
    have e := (idx_eq t).2.2.2.2.2.2.2.1
    have k : ((cfg0.win 8).blk t).view.emb j = (j : S1x2048.Idx) := by
      funext a
      apply Fin.ext
      match a with
      | 0 => show win0_8.index t 0 * 1 + 1 * (j 0).val = (j 0).val; omega
      | 1 => show win0_8.index t 1 * 2048 + 1 * (j 1).val = (j 1).val; omega
    rw [k]
    have A := ((after_eq m c t.val t.isLt).a8 (j 1)).trans ((congrArg (fun k => partSum _ k _) (show t.val + 1 = 8 by omega)).trans (partSum_all _ _))
    refine Eq.trans ?_ A
    exact congrArg (outsAt0 m c t.val t.isLt).2.2.1 (funext fun a => match a with | 0 => Subsingleton.elim (α := Fin 1) _ _ | 1 => rfl)
  · have e := (idx_eq lastPoint).2.2.2.2.2.2.2.1
    have h0 : (i 0).val < 1 := (i 0).isLt
    have h1 : (i 1).val < 2048 := (i 1).isLt
    refine ⟨lastPoint, (flush0_8 lastPoint).mpr rfl, ?_⟩
    show i ∈ ((View.whole main_v0_2).slice (win0_8.rect lastPoint)).set
    rw [View.set_slice_whole, Rect.mem_set_unit]
    intro a
    match a with
    | 0 => show win0_8.index lastPoint 0 * 1 ≤ (i 0).val ∧ (i 0).val < win0_8.index lastPoint 0 * 1 + 1; omega
    | 1 => show win0_8.index lastPoint 1 * 2048 ≤ (i 1).val ∧ (i 1).val < win0_8.index lastPoint 1 * 2048 + 2048; omega

/-- The shift's gradient. -/
theorem final_h : (dats m 0 c).arrAt 9 cfg0.N = resH m c := by
  refine (dats m 0 c).arrAt_eq_of_cover 9 (resH m c) (fun t hf => ?_) fun i => ?_
  · rw [flushed9]
    funext j
    rw [View.read_apply]
    have ht := t_lt t
    have hl := (flush0_9 t).mp hf
    have e := (idx_eq t).2.2.2.2.2.2.2.2
    have k : ((cfg0.win 9).blk t).view.emb j = (j : S1x2048.Idx) := by
      funext a
      apply Fin.ext
      match a with
      | 0 => show win0_9.index t 0 * 1 + 1 * (j 0).val = (j 0).val; omega
      | 1 => show win0_9.index t 1 * 2048 + 1 * (j 1).val = (j 1).val; omega
    rw [k]
    have A := ((after_eq m c t.val t.isLt).a9 (j 1)).trans ((congrArg (fun k => partSum _ k _) (show t.val + 1 = 8 by omega)).trans (partSum_all _ _))
    refine Eq.trans ?_ A
    exact congrArg (outsAt0 m c t.val t.isLt).2.2.2 (funext fun a => match a with | 0 => Subsingleton.elim (α := Fin 1) _ _ | 1 => rfl)
  · have e := (idx_eq lastPoint).2.2.2.2.2.2.2.2
    have h0 : (i 0).val < 1 := (i 0).isLt
    have h1 : (i 1).val < 2048 := (i 1).isLt
    refine ⟨lastPoint, (flush0_9 lastPoint).mpr rfl, ?_⟩
    show i ∈ ((View.whole main_v0_3).slice (win0_9.rect lastPoint)).set
    rw [View.set_slice_whole, Rect.mem_set_unit]
    intro a
    match a with
    | 0 => show win0_9.index lastPoint 0 * 1 ≤ (i 0).val ∧ (i 0).val < win0_9.index lastPoint 0 * 1 + 1; omega
    | 1 => show win0_9.index lastPoint 1 * 2048 ≤ (i 1).val ∧ (i 1).val < win0_9.index lastPoint 1 * 2048 + 2048; omega

end Cert.FirstBwdIdeal.Norm
-- ==== Proof.NormFirstClaim.lean ====
module

public import proofs.«01_k».proof.Defs
public import proofs.«01_k».proof.Proof.Gen.FirstBwd.Frame
public import proofs.«01_k».proof.Proof.Gen.FirstBwdRefIdeal.Run
public import proofs.«01_k».proof.Proof.Gen.FirstBwdRefIdeal.Read
public import proofs.«01_k».proof.Proof.Index
public import proofs.«01_k».proof.Proof.NormFirst
public import Idealize.ShloMosaic.Lib.IdealHost

@[expose] public section

set_option maxRecDepth 16384

noncomputable section

/-! The backward pass of the layer's first norm: the reference's values at an index, and the five claims. -/

namespace Cert.FirstBwdRefIdeal.Norm

open Cert.FirstBwdRefIdeal Cert.FirstBwdRefIdeal.Read Idealize.ShloMosaic Idealize.ShloMosaic.Tactic Idealize.SL.Sem
open Cert.Norm

variable (H D X : S2048x2048.Idx → EReal) (G S : S1x2048.Idx → EReal)

theorem v6_apply (i : Fin 2048) : val_main_v6 (F := Ideal) X (ix2 i 0) = ms cWide (rows X i) := by
  unfold val_main_v6 val_main_v5 val_main_v4 val_main_v3 val_main_v2 val_main_v1 val_main_v0 val_main_cst val_main_cst_0 val_main_cst_1
  pointwise
  rfl

theorem v7_apply (i : Fin 2048) : val_main_v7 (F := Ideal) X (ix2 i 0) = inv cWide (rows X i) := by
  unfold val_main_v7
  pointwise
  rw [v6_apply]
  rfl

theorem v10_apply (i : Fin 2048) :
    val_main_v10 (F := Ideal) X (ix2 i 0) = Cert.Gating.cNegHalf * Ideal.div (inv cWide (rows X i)) (ms cWide (rows X i)) := by
  unfold val_main_v10 val_main_v9 val_main_v8 val_main_cst_2
  pointwise
  rw [v6_apply, v7_apply]

theorem v12_apply (i q : Fin 2048) : val_main_v12 (F := Ideal) X (ix2 i q) = unit cWide (rows X i) q := by
  unfold val_main_v12 val_main_v11
  pointwise
  rw [v7_apply]
  rfl

/-- The gradient at the normed rows times the gain. -/
theorem v28_apply (i q : Fin 2048) : val_main_v28 (F := Ideal) H S (ix2 i q) = H (ix2 i q) * (1 + S (ix2 0 q)) := by
  unfold val_main_v28 val_main_v27 val_main_v21 val_main_v16 val_main_v15 val_main_cst_3
  pointwise

theorem v33_apply (i q : Fin 2048) : val_main_v33 (F := Ideal) H G S (ix2 i q) = H (ix2 i q) * (1 + S (ix2 0 q)) * G (ix2 0 q) := by
  unfold val_main_v33 val_main_v32
  pointwise
  rw [v28_apply]

theorem v42_apply (i : Fin 2048) :
    val_main_v42 (F := Ideal) H X G S (ix2 i 0) = slope cWide (rows X i) fun q => H (ix2 i q) * (1 + S (ix2 0 q)) * G (ix2 0 q) := by
  unfold val_main_v42 val_main_v41 val_main_v40 val_main_v36 val_main_v35 val_main_v34 val_main_cst_7 val_main_cst_8
  pointwise
  simp only [v10_apply, v33_apply]
  rfl

theorem v44_apply (i q : Fin 2048) :
    val_main_v44 (F := Ideal) H X G S (ix2 i q) = slope cWide (rows X i) fun q => H (ix2 i q) * (1 + S (ix2 0 q)) * G (ix2 0 q) := by
  unfold val_main_v44 val_main_v43 val_main_cst_9
  pointwise
  simp only [Fin.sum_univ_one, v42_apply]

/-- The input's gradient. -/
theorem v48_apply (i q : Fin 2048) :
    val_main_v48 (F := Ideal) H D X G S (ix2 i q) = dresid cWide (rows X i) (rows D i) (rows G 0) (rows S 0) (rows H i) q := by
  unfold val_main_v48 val_main_v47 val_main_v46 val_main_v45 val_main_v39 val_main_v38 val_main_v37
  pointwise
  rw [v44_apply, v33_apply, v7_apply]
  exact dresid_eq cWide (rows X i) (rows D i) (rows G 0) (rows S 0) (rows H i) q

/-- The shift's gradient. -/
theorem v23_apply (q : Fin 2048) : val_main_v23 (F := Ideal) H (ix2 0 q) = ∑ i, H (ix2 i q) := by
  unfold val_main_v23 val_main_v22 val_main_cst_4
  pointwise

/-- The scale's gradient. -/
theorem v26_apply (q : Fin 2048) :
    val_main_v26 (F := Ideal) H X G (ix2 0 q) = ∑ i, unit cWide (rows X i) q * G (ix2 0 q) * H (ix2 i q) := by
  unfold val_main_v26 val_main_v25 val_main_v24 val_main_v21 val_main_v14 val_main_v13 val_main_cst_5
  pointwise
  simp only [v12_apply]

/-- The gain's gradient. -/
theorem v31_apply (q : Fin 2048) :
    val_main_v31 (F := Ideal) H X S (ix2 0 q) = ∑ i, unit cWide (rows X i) q * (H (ix2 i q) * (1 + S (ix2 0 q))) := by
  unfold val_main_v31 val_main_v30 val_main_v29 val_main_cst_6
  pointwise
  simp only [v12_apply, v28_apply]

end Cert.FirstBwdRefIdeal.Norm

namespace Cert.Norm.First

open Idealize.ShloMosaic Idealize.ShloMosaic.Tactic Idealize.SL.Sem
open Cert.FirstBwdRefIdeal (main_arg0 main_arg1 main_arg2 main_arg3 main_arg4 main_arg5)
open Cert.FirstBwdRefIdeal.Read Cert.FirstBwdRefIdeal.Norm
open Cert.FirstBwdIdeal.Norm (resX resG resS resH)

attribute [local instance] Cert.FirstBwd.Gen.facts Cert.FirstBwdIdeal.Gen.facts Cert.FirstBwdRefIdeal.Gen.facts

/-- The kernel, in its own arithmetic, ends with its arguments unchanged and every counter at zero. -/
theorem frame_kernel : Cert.quiescent_FirstBwd := fun m ρ _ => Cert.FirstBwd.Gen.frame m ρ

/-- The same of the kernel over the extended reals. -/
theorem frame_kernelIdeal : Cert.quiescent_FirstBwdIdeal := fun m ρ _ => Cert.FirstBwdIdeal.Gen.frame m ρ

/-- The same of the reference over the extended reals. -/
theorem frame_referenceIdeal : Cert.quiescent_FirstBwdRefIdeal := fun m ρ _ =>
  (θ_run Cert.FirstBwdRefIdeal.defs _ _).mono (fun r h => ⟨fun c => (h c).2.2.2.2, sem_eq_zero_of_no_sems (by decide) r.2⟩)
    (Cert.FirstBwdRefIdeal.Value.run (F := Ideal) m ρ)

/-- From equal arguments the kernel and the reference end with equal gradients at the input, the gain, the scale and the shift,
    over the extended reals, whatever the arguments. -/
theorem value : Cert.algebraic_FirstBwdIdeal_FirstBwdRefIdeal := by
  intro m g m' g' _ ha
  refine ⟨resX m, resG m, resS m, resH m, ?_, ?_⟩
  · refine (θ_run Cert.FirstBwdIdeal.defs _ _).mono (fun r h c => ?_) (Cert.FirstBwdIdeal.Value.run_blocks (F := Ideal) m g)
    obtain ⟨h0, h1, h2, h3, hk⟩ := h c
    exact ⟨h0.trans (Cert.FirstBwdIdeal.Norm.final_x m c), h1.trans (Cert.FirstBwdIdeal.Norm.final_g m c),
      h2.trans (Cert.FirstBwdIdeal.Norm.final_s m c), h3.trans (Cert.FirstBwdIdeal.Norm.final_h m c), hk⟩
  · refine (θ_run Cert.FirstBwdRefIdeal.defs _ _).mono (fun r h c => ?_) (Cert.FirstBwdRefIdeal.Value.run (F := Ideal) m' g')
    obtain ⟨h0, h1, h2, h3, hk⟩ := h c
    obtain ⟨a0, a1, a2, a3, a4, a5⟩ := ha c
    refine ⟨h0.trans ?_, h1.trans ?_, h2.trans ?_, h3.trans ?_, hk⟩
    · rw [val_main_v48_eq]
      show val_main_v48 (F := Ideal) (m' (c.tc.loc main_arg0)) (m' (c.tc.loc main_arg1)) (m' (c.tc.loc main_arg2)) (m' (c.tc.loc main_arg3)) (m' (c.tc.loc main_arg4)) = _
      rw [a0, a1, a2, a3, a4]
      funext i
      exact (congrArg _ (idx2 i)).trans (v48_apply _ _ _ _ _ (i 0) (i 1))
    · refine (val_main_v31_eq _ _ _).trans ?_
      show val_main_v31 (F := Ideal) (m' (c.tc.loc main_arg0)) (m' (c.tc.loc main_arg2)) (m' (c.tc.loc main_arg4)) = _
      rw [a0, a2, a4]
      funext i
      exact (congrArg _ (idx1 i)).trans (v31_apply _ _ _ (i 1))
    · refine (val_main_v26_eq _ _ _).trans ?_
      show val_main_v26 (F := Ideal) (m' (c.tc.loc main_arg0)) (m' (c.tc.loc main_arg2)) (m' (c.tc.loc main_arg3)) = _
      rw [a0, a2, a3]
      funext i
      exact (congrArg _ (idx1 i)).trans (v26_apply _ _ _ (i 1))
    · refine (val_main_v23_eq _).trans ?_
      show val_main_v23 (F := Ideal) (m' (c.tc.loc main_arg0)) = _
      rw [a0]
      funext i
      exact (congrArg _ (idx1 i)).trans (v23_apply _ (i 1))

end Cert.Norm.First
-- ==== Proof.NormMid.lean ====
module

public import proofs.«01_k».proof.Proof.NormFirst
public import proofs.«01_k».proof.Proof.Gen.MidBwdIdeal.Value
public import Idealize.ShloMosaic.Lib.Pipeline.ReadBack

@[expose] public section

set_option maxRecDepth 16384

noncomputable section

/-! The backward pass of the norms between the two halves of the layer: what a grid point of the kernel stores, and the arrays it
    leaves. -/

namespace Cert.MidBwdIdeal.Norm

open Cert.Norm Cert.MidBwdIdeal Cert.MidBwdIdeal.Gen Cert.MidBwdIdeal.Value Idealize.ShloMosaic Idealize.ShloMosaic.TcCoe Idealize.ShloMosaic.Tactic Idealize.SL.Sem
open Idealize.ShloMosaic.Pipeline (Dat)

section Block
variable (x0 x1 x2 x3 : Vec Ideal S256x2048 .f32) (x4 x5 x7 x8 : Vec Ideal S1x2048 .f32)

/-! The values of one point, at an index. The first norm of the second half is the layer's first norm on other arrays. -/

/-- The block of the residual's gradient. -/
abbrev dxB : Vec Ideal S256x2048 .f32 := k0_pay18 x2 (k0_pay8 x2) (k0_pay9 x2) (k0_pay16 x4 x5 x0) (k0_pay17 x2 x4 x5 x0) x1

theorem dxB_apply (r : Fin 256) (q : Fin 2048) :
    dxB x0 x1 x2 x4 x5 (ix2 r q) = dresid cWide (rows x2 r) (rows x1 r) (rows x4 0) (rows x5 0) (rows x0 r) q :=
  Cert.FirstBwdIdeal.Norm.dxB_apply x0 x1 x2 x4 x5 r q
theorem shift_apply (q : Fin 2048) : k0_pay12 x0 (ix2 0 q) = ∑ r, x0 (ix2 r q) := Cert.FirstBwdIdeal.Norm.shift_apply x0 q
theorem scale_apply (q : Fin 2048) : k0_pay13 x2 x4 x0 (ix2 0 q) = ∑ r, unit cWide (rows x2 r) q * x4 (ix2 0 q) * x0 (ix2 r q) :=
  Cert.FirstBwdIdeal.Norm.scale_apply x0 x2 x4 q
theorem gain_apply (q : Fin 2048) : k0_pay15 x2 x5 x0 (ix2 0 q) = ∑ r, unit cWide (rows x2 r) q * (x0 (ix2 r q) * (1 + x5 (ix2 0 q))) :=
  Cert.FirstBwdIdeal.Norm.gain_apply x0 x2 x5 q

theorem pay20 (r : Fin 256) : k0_pay20 x3 (ix2 r 0) = inv cWide (rows x3 r) := Cert.FirstBwdIdeal.Norm.pay9 x3 r
theorem pay21 (r : Fin 256) : k0_pay21 x3 (ix2 r 0) = Cert.Gating.cNegHalf * Ideal.div (inv cWide (rows x3 r)) (ms cWide (rows x3 r)) :=
  Cert.FirstBwdIdeal.Norm.pay10 x3 r
theorem pay22 (r : Fin 256) (q : Fin 2048) : k0_pay22 x3 (ix2 r q) = unit cWide (rows x3 r) q := Cert.FirstBwdIdeal.Norm.pay11 x3 r q

theorem pay23 (r : Fin 256) (q : Fin 2048) : k0_pay23 x2 (k0_pay8 x2) (k0_pay9 x2) (k0_pay16 x4 x5 x0) (k0_pay17 x2 x4 x5 x0) x1 x8 (ix2 r q) = x8 (ix2 0 q) * dxB x0 x1 x2 x4 x5 (ix2 r q) := by
  unfold k0_pay23; pointwise
theorem pay26 (r : Fin 256) (q : Fin 2048) :
    k0_pay26 x2 (k0_pay8 x2) (k0_pay9 x2) (k0_pay16 x4 x5 x0) (k0_pay17 x2 x4 x5 x0) x1 x7 x8 (ix2 r q) = x8 (ix2 0 q) * dxB x0 x1 x2 x4 x5 (ix2 r q) * x7 (ix2 0 q) := by
  unfold k0_pay26; pointwise; rw [pay23]
theorem pay27 (r : Fin 256) (q : Fin 2048) :
    k0_pay27 x2 (k0_pay8 x2) (k0_pay9 x2) (k0_pay16 x4 x5 x0) (k0_pay17 x2 x4 x5 x0) x1 x3 x7 x8 (ix2 r q) = x3 (ix2 r q) * (x8 (ix2 0 q) * dxB x0 x1 x2 x4 x5 (ix2 r q) * x7 (ix2 0 q)) := by
  unfold k0_pay27; pointwise; rw [pay26]

/-- The gate's part of a block. -/
theorem gate_apply (q : Fin 2048) :
    k0_pay24 x2 (k0_pay8 x2) (k0_pay9 x2) (k0_pay16 x4 x5 x0) (k0_pay17 x2 x4 x5 x0) x1 x3 x7 (ix2 0 q) = ∑ r, dxB x0 x1 x2 x4 x5 (ix2 r q) * (unit cWide (rows x3 r) q * x7 (ix2 0 q)) := by
  unfold k0_pay24; pointwise; simp only [pay22]
/-- The second gain's part of a block. -/
theorem post_apply (q : Fin 2048) :
    k0_pay25 x2 (k0_pay8 x2) (k0_pay9 x2) (k0_pay16 x4 x5 x0) (k0_pay17 x2 x4 x5 x0) x1 x3 x8 (ix2 0 q) = ∑ r, unit cWide (rows x3 r) q * (x8 (ix2 0 q) * dxB x0 x1 x2 x4 x5 (ix2 r q)) := by
  unfold k0_pay25; pointwise; simp only [pay22, pay23]

/-- The block of the sublayer's gradient. -/
abbrev dyB : Vec Ideal S256x2048 .bf16 := k0_pay28 x3 (k0_pay20 x3) (k0_pay21 x3) (k0_pay26 x2 (k0_pay8 x2) (k0_pay9 x2) (k0_pay16 x4 x5 x0) (k0_pay17 x2 x4 x5 x0) x1 x7 x8) (k0_pay27 x2 (k0_pay8 x2) (k0_pay9 x2) (k0_pay16 x4 x5 x0) (k0_pay17 x2 x4 x5 x0) x1 x3 x7 x8)

theorem dyB_apply (r : Fin 256) (q : Fin 2048) : dyB x0 x1 x2 x3 x4 x5 x7 x8 (ix2 r q)
    = dunit cWide (rows x3 r) (fun q => x8 (ix2 0 q) * dxB x0 x1 x2 x4 x5 (ix2 r q) * x7 (ix2 0 q)) q := by
  unfold dyB k0_pay28; pointwise
  simp only [pay20, pay21, pay26, pay27, Fin.sum_univ_one]
  rfl

theorem pay29_apply (a b : Vec Ideal S1x2048 .f32) (q : Fin 2048) : k0_pay29 a b (ix2 0 q) = b (ix2 0 q) + a (ix2 0 q) := by
  unfold k0_pay29; pointwise
theorem pay30_apply (a b : Vec Ideal S1x2048 .f32) (q : Fin 2048) : k0_pay30 a b (ix2 0 q) = b (ix2 0 q) + a (ix2 0 q) := pay29_apply a b q
theorem pay31_apply (a b : Vec Ideal S1x2048 .f32) (q : Fin 2048) : k0_pay31 a b (ix2 0 q) = b (ix2 0 q) + a (ix2 0 q) := pay29_apply a b q
theorem pay32_apply (a b : Vec Ideal S1x2048 .f32) (q : Fin 2048) : k0_pay32 a b (ix2 0 q) = b (ix2 0 q) + a (ix2 0 q) := pay29_apply a b q
theorem pay1_apply (a b : Vec Ideal S1x2048 .f32) (q : Fin 2048) : k0_pay1 a b (ix2 0 q) = b (ix2 0 q) + a (ix2 0 q) := pay29_apply a b q
theorem pay2_apply (j : S1x2048.Idx) : k0_pay2 (F := Ideal) j = 0 := by unfold k0_pay2; pointwise
theorem pay3_apply (j : S1x2048.Idx) : k0_pay3 (F := Ideal) j = 0 := pay2_apply j
theorem pay4_apply (j : S1x2048.Idx) : k0_pay4 (F := Ideal) j = 0 := pay2_apply j
theorem pay5_apply (j : S1x2048.Idx) : k0_pay5 (F := Ideal) j = 0 := pay2_apply j
theorem pay6_apply (j : S1x2048.Idx) : k0_pay6 (F := Ideal) j = 0 := pay2_apply j
end Block

section Stores
variable (c : Dev nD) (i : grid0.Coords)
  (a1 : Memref sig .tc .vmem S256x2048 .f32) (h1 : a1.IsWhole)
  (a2 : Memref sig .tc .vmem S256x2048 .f32) (h2 : a2.IsWhole)
  (a3 : Memref sig .tc .vmem S256x2048 .f32) (h3 : a3.IsWhole)
  (a4 : Memref sig .tc .vmem S256x2048 .f32) (h4 : a4.IsWhole)
  (a5 : Memref sig .tc .vmem S1x2048 .f32) (h5 : a5.IsWhole)
  (a6 : Memref sig .tc .vmem S1x2048 .f32) (h6 : a6.IsWhole)
  (a7 : Memref sig .tc .vmem S1x2048 .f32) (h7 : a7.IsWhole)
  (a8 : Memref sig .tc .vmem S1x2048 .f32) (h8 : a8.IsWhole)
  (a9 : Memref sig .tc .vmem S1x2048 .f32) (h9 : a9.IsWhole)
  (a10 : Memref sig .tc .vmem S256x2048 .f32) (h10 : a10.IsWhole)
  (a11 : Memref sig .tc .vmem S256x2048 .bf16) (h11 : a11.IsWhole)
  (a12 : Memref sig .tc .vmem S1x2048 .f32) (h12 : a12.IsWhole)
  (a13 : Memref sig .tc .vmem S1x2048 .f32) (h13 : a13.IsWhole)
  (a14 : Memref sig .tc .vmem S1x2048 .f32) (h14 : a14.IsWhole)
  (a15 : Memref sig .tc .vmem S1x2048 .f32) (h15 : a15.IsWhole)
  (a16 : Memref sig .tc .vmem S1x2048 .f32) (h16 : a16.IsWhole)
  (x0 x1 x2 x3 : Vec Ideal S256x2048 .f32) (x4 x5 x6 x7 x8 xo11 xo12 xo13 xo14 xo15 : Vec Ideal S1x2048 .f32)

/-- The output blocks at the first point. -/
theorem outs_A (hc : cond0_0 i) :
    out0_A_9 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 = dxB x0 x1 x2 x4 x5 ∧
    out0_A_10 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 = k0_pay28 x3 (k0_pay20 x3) (k0_pay21 x3) (k0_pay26 x2 (k0_pay8 x2) (k0_pay9 x2) (k0_pay16 x4 x5 x0) (k0_pay17 x2 x4 x5 x0) x1 x7 x8) (k0_pay27 x2 (k0_pay8 x2) (k0_pay9 x2) (k0_pay16 x4 x5 x0) (k0_pay17 x2 x4 x5 x0) x1 x3 x7 x8) ∧
    out0_A_11 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 = k0_pay29 (k0_pay15 x2 x5 x0) (k0_pay2 (F := Ideal)) ∧
    out0_A_12 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 = k0_pay30 (k0_pay13 x2 x4 x0) (k0_pay3 (F := Ideal)) ∧
    out0_A_13 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 = k0_pay31 (k0_pay12 x0) (k0_pay4 (F := Ideal)) ∧
    out0_A_14 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 = k0_pay32 (k0_pay25 x2 (k0_pay8 x2) (k0_pay9 x2) (k0_pay16 x4 x5 x0) (k0_pay17 x2 x4 x5 x0) x1 x3 x8) (k0_pay5 (F := Ideal)) ∧
    out0_A_15 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 = k0_pay1 (k0_pay24 x2 (k0_pay8 x2) (k0_pay9 x2) (k0_pay16 x4 x5 x0) (k0_pay17 x2 x4 x5 x0) x1 x3 x7) (k0_pay6 (F := Ideal)) := by
  refine ⟨(View.read_writes_eq_canon _ _ _ (cover0_A_9 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8)).trans ?_,
    (View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8)).trans ?_,
    (View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8)).trans ?_,
    (View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8)).trans ?_,
    (View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8)).trans ?_,
    (View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8)).trans ?_,
    (View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8)).trans ?_⟩
  all_goals
    unfold kernelRun0_A
    dsimp only
    sl_unfold_words
    simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S256x2048) hz,
      View.ld_unit_zero (S := S1x2048) hz, shapeCast_self]
  · rw [View.canon_unit_zero hz]
  · rw [View.canon_unit_zero hz]
  all_goals
    rw [View.canon_cons_unit_zero (S := S1x2048) hz]
    simp only [View.readCov_unit_zero (S := S1x2048) _ hz]

/-- The output blocks at the points after it. -/
theorem outs_B (hc : ¬cond0_0 i) :
    out0_B_9 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 xo11 xo12 xo13 xo14 xo15 = dxB x0 x1 x2 x4 x5 ∧
    out0_B_10 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 xo11 xo12 xo13 xo14 xo15 = k0_pay28 x3 (k0_pay20 x3) (k0_pay21 x3) (k0_pay26 x2 (k0_pay8 x2) (k0_pay9 x2) (k0_pay16 x4 x5 x0) (k0_pay17 x2 x4 x5 x0) x1 x7 x8) (k0_pay27 x2 (k0_pay8 x2) (k0_pay9 x2) (k0_pay16 x4 x5 x0) (k0_pay17 x2 x4 x5 x0) x1 x3 x7 x8) ∧
    out0_B_11 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 xo11 xo12 xo13 xo14 xo15 = k0_pay29 (k0_pay15 x2 x5 x0) xo11 ∧
    out0_B_12 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 xo11 xo12 xo13 xo14 xo15 = k0_pay30 (k0_pay13 x2 x4 x0) xo12 ∧
    out0_B_13 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 xo11 xo12 xo13 xo14 xo15 = k0_pay31 (k0_pay12 x0) xo13 ∧
    out0_B_14 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 xo11 xo12 xo13 xo14 xo15 = k0_pay32 (k0_pay25 x2 (k0_pay8 x2) (k0_pay9 x2) (k0_pay16 x4 x5 x0) (k0_pay17 x2 x4 x5 x0) x1 x3 x8) xo14 ∧
    out0_B_15 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 xo11 xo12 xo13 xo14 xo15 = k0_pay1 (k0_pay24 x2 (k0_pay8 x2) (k0_pay9 x2) (k0_pay16 x4 x5 x0) (k0_pay17 x2 x4 x5 x0) x1 x3 x7) xo15 := by
  refine ⟨(View.read_writes_eq_canon _ _ _ (cover0_B_9 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 xo11 xo12 xo13 xo14 xo15)).trans ?_,
    (View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 xo11 xo12 xo13 xo14 xo15)).trans ?_,
    (View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 xo11 xo12 xo13 xo14 xo15)).trans ?_,
    (View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 xo11 xo12 xo13 xo14 xo15)).trans ?_,
    (View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 xo11 xo12 xo13 xo14 xo15)).trans ?_,
    (View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 xo11 xo12 xo13 xo14 xo15)).trans ?_,
    (View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 xo11 xo12 xo13 xo14 xo15)).trans ?_⟩
  all_goals
    unfold kernelRun0_B
    dsimp only
    sl_unfold_words
    simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S256x2048) hz,
      View.ld_unit_zero (S := S1x2048) hz, shapeCast_self]
    rw [View.canon_unit_zero hz]
end Stores

variable (m : (ℓ : Loc nD τ sig) → Buf (Elt Ideal) ℓ) (c : Dev nD)

/-! The arguments, row by row. -/

abbrev argH (i : Fin 2048) : Fin 2048 → EReal := rows (m (c.tc.loc main_arg0) : Vec Ideal S2048x2048 .f32) i
abbrev argD (i : Fin 2048) : Fin 2048 → EReal := rows (m (c.tc.loc main_arg1) : Vec Ideal S2048x2048 .f32) i
abbrev argX (i : Fin 2048) : Fin 2048 → EReal := rows (m (c.tc.loc main_arg2) : Vec Ideal S2048x2048 .f32) i
abbrev argY (i : Fin 2048) : Fin 2048 → EReal := rows (m (c.tc.loc main_arg3) : Vec Ideal S2048x2048 .f32) i
abbrev argG : Fin 2048 → EReal := rows (m (c.tc.loc main_arg4) : Vec Ideal S1x2048 .f32) 0
abbrev argS : Fin 2048 → EReal := rows (m (c.tc.loc main_arg5) : Vec Ideal S1x2048 .f32) 0
abbrev argP : Fin 2048 → EReal := rows (m (c.tc.loc main_arg7) : Vec Ideal S1x2048 .f32) 0
abbrev argT : Fin 2048 → EReal := rows (m (c.tc.loc main_arg8) : Vec Ideal S1x2048 .f32) 0

theorem idx_eq : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = 0 ∧ win0_4.index t 1 = 0)
    ∧ (win0_5.index t 0 = 0 ∧ win0_5.index t 1 = 0)
    ∧ (win0_7.index t 0 = 0 ∧ win0_7.index t 1 = 0)
    ∧ (win0_8.index t 0 = 0 ∧ win0_8.index t 1 = 0)
    ∧ (win0_9.index t 0 = t.val ∧ win0_9.index t 1 = 0)
    ∧ (win0_10.index t 0 = t.val ∧ win0_10.index t 1 = 0)
    ∧ (win0_11.index t 0 = 0 ∧ win0_11.index t 1 = 0)
    ∧ (win0_12.index t 0 = 0 ∧ win0_12.index t 1 = 0)
    ∧ (win0_13.index t 0 = 0 ∧ win0_13.index t 1 = 0)
    ∧ (win0_14.index t 0 = 0 ∧ win0_14.index t 1 = 0)
    ∧ (win0_15.index t 0 = 0 ∧ win0_15.index t 1 = 0) := by
  decide +kernel

theorem t_lt (t : Fin cfg0.N) : t.val < 8 := lt_of_lt_of_eq t.isLt N_0

/-! What a point loads. -/

theorem block0 (t : Fin cfg0.N) (r : Fin 256) (q : Fin 2048) :
    (iblk m c 0 t : Vec Ideal S256x2048 .f32) (ix2 r q) = argH m c (rowOf t.val r) q := by
  have ht := t_lt t
  have e := (idx_eq t).1
  unfold iblk
  rw [View.read_apply]
  show V m c main_arg0 _ = _
  rw [V_main_arg0]
  exact entry _ (by show win0_0.index t 0 * 256 + 1 * r.val = (256 * t.val + r.val) % 2048; omega) (by show win0_0.index t 1 * 2048 + 1 * q.val = q.val; omega)

theorem block1 (t : Fin cfg0.N) (r : Fin 256) (q : Fin 2048) :
    (iblk m c 1 t : Vec Ideal S256x2048 .f32) (ix2 r q) = argD m c (rowOf t.val r) q := by
  have ht := t_lt t
  have e := (idx_eq t).2.1
  unfold iblk
  rw [View.read_apply]
  show V m c main_arg1 _ = _
  rw [V_main_arg1]
  exact entry _ (by show win0_1.index t 0 * 256 + 1 * r.val = (256 * t.val + r.val) % 2048; omega) (by show win0_1.index t 1 * 2048 + 1 * q.val = q.val; omega)

theorem block2 (t : Fin cfg0.N) (r : Fin 256) (q : Fin 2048) :
    (iblk m c 2 t : Vec Ideal S256x2048 .f32) (ix2 r q) = argX m c (rowOf t.val r) q := by
  have ht := t_lt t
  have e := (idx_eq t).2.2.1
  unfold iblk
  rw [View.read_apply]
  show V m c main_arg2 _ = _
  rw [V_main_arg2]
  exact entry _ (by show win0_2.index t 0 * 256 + 1 * r.val = (256 * t.val + r.val) % 2048; omega) (by show win0_2.index t 1 * 2048 + 1 * q.val = q.val; omega)

theorem block3 (t : Fin cfg0.N) (r : Fin 256) (q : Fin 2048) :
    (iblk m c 3 t : Vec Ideal S256x2048 .f32) (ix2 r q) = argY m c (rowOf t.val r) q := by
  have ht := t_lt t
  have e := (idx_eq t).2.2.2.1
  unfold iblk
  rw [View.read_apply]
  show V m c main_arg3 _ = _
  rw [V_main_arg3]
  exact entry _ (by show win0_3.index t 0 * 256 + 1 * r.val = (256 * t.val + r.val) % 2048; omega) (by show win0_3.index t 1 * 2048 + 1 * q.val = q.val; omega)

theorem block4 (t : Fin cfg0.N) (q : Fin 2048) : (iblk m c 4 t : Vec Ideal S1x2048 .f32) (ix2 0 q) = argG m c q := by
  have e := (idx_eq t).2.2.2.2.1
  unfold iblk
  rw [View.read_apply]
  show V m c main_arg4 _ = _
  rw [V_main_arg4]
  exact entry _ (by show win0_4.index t 0 * 1 + 1 * 0 = 0; omega) (by show win0_4.index t 1 * 2048 + 1 * q.val = q.val; omega)

theorem block5 (t : Fin cfg0.N) (q : Fin 2048) : (iblk m c 5 t : Vec Ideal S1x2048 .f32) (ix2 0 q) = argS m c q := by
  have e := (idx_eq t).2.2.2.2.2.1
  unfold iblk
  rw [View.read_apply]
  show V m c main_arg5 _ = _
  rw [V_main_arg5]
  exact entry _ (by show win0_5.index t 0 * 1 + 1 * 0 = 0; omega) (by show win0_5.index t 1 * 2048 + 1 * q.val = q.val; omega)

theorem block7 (t : Fin cfg0.N) (q : Fin 2048) : (iblk m c 7 t : Vec Ideal S1x2048 .f32) (ix2 0 q) = argP m c q := by
  have e := (idx_eq t).2.2.2.2.2.2.1
  unfold iblk
  rw [View.read_apply]
  show V m c main_arg7 _ = _
  rw [V_main_arg7]
  exact entry _ (by show win0_7.index t 0 * 1 + 1 * 0 = 0; omega) (by show win0_7.index t 1 * 2048 + 1 * q.val = q.val; omega)

theorem block8 (t : Fin cfg0.N) (q : Fin 2048) : (iblk m c 8 t : Vec Ideal S1x2048 .f32) (ix2 0 q) = argT m c q := by
  have e := (idx_eq t).2.2.2.2.2.2.2.1
  unfold iblk
  rw [View.read_apply]
  show V m c main_arg8 _ = _
  rw [V_main_arg8]
  exact entry _ (by show win0_8.index t 0 * 1 + 1 * 0 = 0; omega) (by show win0_8.index t 1 * 2048 + 1 * q.val = q.val; omega)

/-! One row of the two gradients, and its part of the five sums. -/

def dxRow (i : Fin 2048) (q : Fin 2048) : EReal := dresid cWide (argX m c i) (argD m c i) (argG m c) (argS m c) (argH m c i) q
def dyRow (i : Fin 2048) (q : Fin 2048) : EReal := dunit cWide (argY m c i) (fun q => argT m c q * dxRow m c i q * argP m c q) q
def gainRow (i : Fin 2048) (q : Fin 2048) : EReal := unit cWide (argX m c i) q * (argH m c i q * (1 + argS m c q))
def scaleRow (i : Fin 2048) (q : Fin 2048) : EReal := unit cWide (argX m c i) q * argG m c q * argH m c i q
def postRow (i : Fin 2048) (q : Fin 2048) : EReal := unit cWide (argY m c i) q * (argT m c q * dxRow m c i q)
def gateRow (i : Fin 2048) (q : Fin 2048) : EReal := dxRow m c i q * (unit cWide (argY m c i) q * argP m c q)

/-- What point `n` leaves in the five sums. -/
structure After (n : Nat) (o11 o12 o13 o14 o15 : Vec Ideal S1x2048 .f32) : Prop where
  a11 : ∀ q, o11 (ix2 0 q) = partSum (gainRow m c) (n + 1) q
  a12 : ∀ q, o12 (ix2 0 q) = partSum (scaleRow m c) (n + 1) q
  a13 : ∀ q, o13 (ix2 0 q) = partSum (argH m c) (n + 1) q
  a14 : ∀ q, o14 (ix2 0 q) = partSum (postRow m c) (n + 1) q
  a15 : ∀ q, o15 (ix2 0 q) = partSum (gateRow m c) (n + 1) q

theorem rowsX (t : Fin cfg0.N) (r : Fin 256) : rows (iblk m c 2 t : Vec Ideal S256x2048 .f32) r = argX m c (rowOf t.val r) := funext (block2 m c t r)
theorem rowsY (t : Fin cfg0.N) (r : Fin 256) : rows (iblk m c 3 t : Vec Ideal S256x2048 .f32) r = argY m c (rowOf t.val r) := funext (block3 m c t r)

theorem dx_block (t : Fin cfg0.N) (r : Fin 256) (q : Fin 2048) :
    dxB (iblk m c 0 t) (iblk m c 1 t) (iblk m c 2 t) (iblk m c 4 t) (iblk m c 5 t) (ix2 r q) = dxRow m c (rowOf t.val r) q := by
  rw [dxB_apply, rowsX, show rows (iblk m c 1 t : Vec Ideal S256x2048 .f32) r = argD m c (rowOf t.val r) from funext (block1 m c t r),
    show rows (iblk m c 0 t : Vec Ideal S256x2048 .f32) r = argH m c (rowOf t.val r) from funext (block0 m c t r),
    show rows (iblk m c 4 t : Vec Ideal S1x2048 .f32) 0 = argG m c from funext (block4 m c t),
    show rows (iblk m c 5 t : Vec Ideal S1x2048 .f32) 0 = argS m c from funext (block5 m c t)]
  rfl
theorem dy_block (t : Fin cfg0.N) (r : Fin 256) (q : Fin 2048) :
    dyB (iblk m c 0 t) (iblk m c 1 t) (iblk m c 2 t) (iblk m c 3 t) (iblk m c 4 t) (iblk m c 5 t) (iblk m c 7 t) (iblk m c 8 t) (ix2 r q)
      = dyRow m c (rowOf t.val r) q := by
  rw [dyB_apply, rowsY]
  simp only [dx_block, block7, block8]
  rfl
theorem gain_block (t : Fin cfg0.N) (q : Fin 2048) :
    k0_pay15 (F := Ideal) (iblk m c 2 t) (iblk m c 5 t) (iblk m c 0 t) (ix2 0 q) = ∑ r, gainRow m c (rowOf t.val r) q := by
  rw [gain_apply]
  refine Finset.sum_congr rfl fun r _ => ?_
  rw [rowsX, block0, block5]
  rfl
theorem scale_block (t : Fin cfg0.N) (q : Fin 2048) :
    k0_pay13 (F := Ideal) (iblk m c 2 t) (iblk m c 4 t) (iblk m c 0 t) (ix2 0 q) = ∑ r, scaleRow m c (rowOf t.val r) q := by
  rw [scale_apply]
  refine Finset.sum_congr rfl fun r _ => ?_
  rw [rowsX, block0, block4]
  rfl
theorem shift_block (t : Fin cfg0.N) (q : Fin 2048) : k0_pay12 (F := Ideal) (iblk m c 0 t) (ix2 0 q) = ∑ r, argH m c (rowOf t.val r) q := by
  rw [shift_apply]
  exact Finset.sum_congr rfl fun r _ => block0 m c t r q
theorem post_block (t : Fin cfg0.N) (q : Fin 2048) : k0_pay25 (F := Ideal) (iblk m c 2 t) (k0_pay8 (iblk m c 2 t)) (k0_pay9 (iblk m c 2 t)) (k0_pay16 (iblk m c 4 t) (iblk m c 5 t) (iblk m c 0 t))
    (k0_pay17 (iblk m c 2 t) (iblk m c 4 t) (iblk m c 5 t) (iblk m c 0 t)) (iblk m c 1 t) (iblk m c 3 t) (iblk m c 8 t) (ix2 0 q)
    = ∑ r, postRow m c (rowOf t.val r) q := by
  rw [post_apply]
  refine Finset.sum_congr rfl fun r _ => ?_
  rw [rowsY, dx_block, block8]
  rfl
theorem gate_block (t : Fin cfg0.N) (q : Fin 2048) : k0_pay24 (F := Ideal) (iblk m c 2 t) (k0_pay8 (iblk m c 2 t)) (k0_pay9 (iblk m c 2 t)) (k0_pay16 (iblk m c 4 t) (iblk m c 5 t) (iblk m c 0 t))
    (k0_pay17 (iblk m c 2 t) (iblk m c 4 t) (iblk m c 5 t) (iblk m c 0 t)) (iblk m c 1 t) (iblk m c 3 t) (iblk m c 7 t) (ix2 0 q)
    = ∑ r, gateRow m c (rowOf t.val r) q := by
  rw [gate_apply]
  refine Finset.sum_congr rfl fun r _ => ?_
  rw [rowsY, dx_block, block7]
  rfl

/-- Every point leaves the sums so far. -/
theorem after_eq (n : Nat) : ∀ h : n < cfg0.N, After m c n (outsAt0 m c n h).2.2.1 (outsAt0 m c n h).2.2.2.1 (outsAt0 m c n h).2.2.2.2.1
    (outsAt0 m c n h).2.2.2.2.2.1 (outsAt0 m c n h).2.2.2.2.2.2 := by
  induction n with
  | zero =>
    intro h
    rw [outsAt0_A m c ⟨0, h⟩ rfl]
    dsimp only
    obtain ⟨-, -, e11, e12, e13, e14, e15⟩ := outs_A c _ _ _ _ _ _ _ _ _ _ _ _ _ _ _ _ _ _ _ _ _ _ _ _ _ _ _ _ _ _ _ _ _ _ _ _ _ _ _ _ _ _ _
    rw [e11, e12, e13, e14, e15]
    refine ⟨fun q => ?_, fun q => ?_, fun q => ?_, fun q => ?_, fun q => ?_⟩
    · rw [pay29_apply, pay2_apply, gain_block, partSum_succ, partSum_zero]
    · rw [pay30_apply, pay3_apply, scale_block, partSum_succ, partSum_zero]
    · rw [pay31_apply, pay4_apply, shift_block, partSum_succ, partSum_zero]
    · rw [pay32_apply, pay5_apply, post_block, partSum_succ, partSum_zero]
    · rw [pay1_apply, pay6_apply, gate_block, partSum_succ, partSum_zero]
  | succ n ih =>
    intro h
    have hn : n + 1 < 8 := t_lt ⟨n + 1, h⟩
    obtain ⟨I11, I12, I13, I14, I15⟩ := ih (by omega)
    rw [outsAt0_B m c ⟨n + 1, h⟩ (by dsimp only; omega)]
    dsimp only
    obtain ⟨-, -, e11, e12, e13, e14, e15⟩ := outs_B c _ _ _ _ _ _ _ _ _ _ _ _ _ _ _ _ _ _ _ _ _ _ _ _ _ _ _ _ _ _ _ _ _ _ _ _ _ _ _ _ _ _ _ _ _ _ _ _
    rw [e11, e12, e13, e14, e15]
    refine ⟨fun q => ?_, fun q => ?_, fun q => ?_, fun q => ?_, fun q => ?_⟩
    · rw [pay29_apply, gain_block, partSum_succ]; exact congrArg (· + _) (I11 q)
    · rw [pay30_apply, scale_block, partSum_succ]; exact congrArg (· + _) (I12 q)
    · rw [pay31_apply, shift_block, partSum_succ]; exact congrArg (· + _) (I13 q)
    · rw [pay32_apply, post_block, partSum_succ]; exact congrArg (· + _) (I14 q)
    · rw [pay1_apply, gate_block, partSum_succ]; exact congrArg (· + _) (I15 q)

/-- Every point leaves its blocks of the two gradients. -/
theorem row_eq (t : Fin cfg0.N) (r : Fin 256) (q : Fin 2048) :
    ((outsAt0 m c t.val t.isLt).1 : Vec Ideal S256x2048 .f32) (ix2 r q) = dxRow m c (rowOf t.val r) q
    ∧ ((outsAt0 m c t.val t.isLt).2.1 : Vec Ideal S256x2048 .bf16) (ix2 r q) = dyRow m c (rowOf t.val r) q := by
  by_cases h0 : t.val % 8 = 0
  · rw [outsAt0_A m c t h0]
    dsimp only
    obtain ⟨e9, e10, -⟩ := outs_A c _ _ _ _ _ _ _ _ _ _ _ _ _ _ _ _ _ _ _ _ _ _ _ _ _ _ _ _ _ _ _ _ _ _ _ _ _ _ _ _ _ _ _
    rw [e9, e10]
    exact ⟨dx_block m c t r q, dy_block m c t r q⟩
  · rw [outsAt0_B m c t h0]
    dsimp only
    obtain ⟨e9, e10, -⟩ := outs_B c _ _ _ _ _ _ _ _ _ _ _ _ _ _ _ _ _ _ _ _ _ _ _ _ _ _ _ _ _ _ _ _ _ _ _ _ _ _ _ _ _ _ _ _ _ _ _ _
    rw [e9, e10]
    exact ⟨dx_block m c t r q, dy_block m c t r q⟩

/-! What the seven result arrays end holding. -/

abbrev resX : Buf (Elt Ideal) ((c : Thread nD τ).loc main_v0_0) := fun i : S2048x2048.Idx => dxRow m c (i 0) (i 1)
abbrev resY : Buf (Elt Ideal) ((c : Thread nD τ).loc main_v0_1) := fun i : S2048x2048.Idx => dyRow m c (i 0) (i 1)
abbrev resG : Buf (Elt Ideal) ((c : Thread nD τ).loc main_v0_2) := fun i : S1x2048.Idx => (∑ k, gainRow m c k (i 1) : EReal)
abbrev resS : Buf (Elt Ideal) ((c : Thread nD τ).loc main_v0_3) := fun i : S1x2048.Idx => (∑ k, scaleRow m c k (i 1) : EReal)
abbrev resH : Buf (Elt Ideal) ((c : Thread nD τ).loc main_v0_4) := fun i : S1x2048.Idx => (∑ k, argH m c k (i 1) : EReal)
abbrev resP : Buf (Elt Ideal) ((c : Thread nD τ).loc main_v0_5) := fun i : S1x2048.Idx => (∑ k, postRow m c k (i 1) : EReal)
abbrev resT : Buf (Elt Ideal) ((c : Thread nD τ).loc main_v0_6) := fun i : S1x2048.Idx => (∑ k, gateRow m c k (i 1) : EReal)

/-- The residual's gradient. -/
theorem final_x : (dats m 0 c).arrAt 9 cfg0.N = resX m c := by
  refine (dats m 0 c).arrAt_eq_of_cover 9 (resX m c) (fun t _ => ?_) fun i => ?_
  · rw [flushed9]
    funext j
    rw [View.read_apply]
    have e := (idx_eq t).2.2.2.2.2.2.2.2.1
    have ht := t_lt t
    have h0 : (j 0).val < 256 := (j 0).isLt
    have h1 : (j 1).val < 2048 := (j 1).isLt
    have k : ((cfg0.win 9).blk t).view.emb j = (ix2 (rowOf t.val ⟨(j 0).val, h0⟩) ⟨(j 1).val, h1⟩ : S2048x2048.Idx) := by
      funext a
      apply Fin.ext
      match a with
      | 0 => show win0_9.index t 0 * 256 + 1 * (j 0).val = (256 * t.val + (j 0).val) % 2048; omega
      | 1 => show win0_9.index t 1 * 2048 + 1 * (j 1).val = (j 1).val; omega
    rw [k]
    refine Eq.trans ?_ (row_eq m c t ⟨(j 0).val, h0⟩ ⟨(j 1).val, h1⟩).1
    exact entry (outsAt0 m c t.val t.isLt).1 rfl rfl
  · have h0 : (i 0).val < 2048 := (i 0).isLt
    have h1 : (i 1).val < 2048 := (i 1).isLt
    have ht : (i 0).val / 256 < cfg0.N := by rw [show cfg0.N = 8 from N_0]; omega
    generalize ht' : (⟨(i 0).val / 256, ht⟩ : Fin cfg0.N) = t
    have hv : t.val = (i 0).val / 256 := by rw [← ht']
    have e := (idx_eq t).2.2.2.2.2.2.2.2.1
    refine ⟨t, flush0_9 t, ?_⟩
    show i ∈ ((View.whole main_v0_0).slice (win0_9.rect t)).set
    rw [View.set_slice_whole, Rect.mem_set_unit]
    intro a
    match a with
    | 0 => show win0_9.index t 0 * 256 ≤ (i 0).val ∧ (i 0).val < win0_9.index t 0 * 256 + 256; omega
    | 1 => show win0_9.index t 1 * 2048 ≤ (i 1).val ∧ (i 1).val < win0_9.index t 1 * 2048 + 2048; omega

/-- The sublayer's gradient. -/
theorem final_y : (dats m 0 c).arrAt 10 cfg0.N = resY m c := by
  refine (dats m 0 c).arrAt_eq_of_cover 10 (resY m c) (fun t _ => ?_) fun i => ?_
  · rw [flushed10]
    funext j
    rw [View.read_apply]
    have e := (idx_eq t).2.2.2.2.2.2.2.2.2.1
    have ht := t_lt t
    have h0 : (j 0).val < 256 := (j 0).isLt
    have h1 : (j 1).val < 2048 := (j 1).isLt
    have k : ((cfg0.win 10).blk t).view.emb j = (ix2 (rowOf t.val ⟨(j 0).val, h0⟩) ⟨(j 1).val, h1⟩ : S2048x2048.Idx) := by
      funext a
      apply Fin.ext
      match a with
      | 0 => show win0_10.index t 0 * 256 + 1 * (j 0).val = (256 * t.val + (j 0).val) % 2048; omega
      | 1 => show win0_10.index t 1 * 2048 + 1 * (j 1).val = (j 1).val; omega
    rw [k]
    refine Eq.trans ?_ (row_eq m c t ⟨(j 0).val, h0⟩ ⟨(j 1).val, h1⟩).2
    exact entry (outsAt0 m c t.val t.isLt).2.1 rfl rfl
  · have h0 : (i 0).val < 2048 := (i 0).isLt
    have h1 : (i 1).val < 2048 := (i 1).isLt
    have ht : (i 0).val / 256 < cfg0.N := by rw [show cfg0.N = 8 from N_0]; omega
    generalize ht' : (⟨(i 0).val / 256, ht⟩ : Fin cfg0.N) = t
    have hv : t.val = (i 0).val / 256 := by rw [← ht']
    have e := (idx_eq t).2.2.2.2.2.2.2.2.2.1
    refine ⟨t, flush0_10 t, ?_⟩
    show i ∈ ((View.whole main_v0_1).slice (win0_10.rect t)).set
    rw [View.set_slice_whole, Rect.mem_set_unit]
    intro a
    match a with
    | 0 => show win0_10.index t 0 * 256 ≤ (i 0).val ∧ (i 0).val < win0_10.index t 0 * 256 + 256; omega
    | 1 => show win0_10.index t 1 * 2048 ≤ (i 1).val ∧ (i 1).val < win0_10.index t 1 * 2048 + 2048; omega

/-- The last point. -/
abbrev lastPoint : Fin cfg0.N := ⟨7, by rw [show cfg0.N = 8 from N_0]; omega⟩

/-- The first gain's gradient. -/
theorem final_g : (dats m 0 c).arrAt 11 cfg0.N = resG m c := by
  refine (dats m 0 c).arrAt_eq_of_cover 11 (resG m c) (fun t hf => ?_) fun i => ?_
  · rw [flushed11]
    funext j
    rw [View.read_apply]
    have ht := t_lt t
    have hl := (flush0_11 t).mp hf
    have e := (idx_eq t).2.2.2.2.2.2.2.2.2.2.1
    have k : ((cfg0.win 11).blk t).view.emb j = (j : S1x2048.Idx) := by
      funext a
      apply Fin.ext
      match a with
      | 0 => show win0_11.index t 0 * 1 + 1 * (j 0).val = (j 0).val; omega
      | 1 => show win0_11.index t 1 * 2048 + 1 * (j 1).val = (j 1).val; omega
    rw [k]
    have A := ((after_eq m c t.val t.isLt).a11 (j 1)).trans ((congrArg (fun k => partSum _ k _) (show t.val + 1 = 8 by omega)).trans (partSum_all _ _))
    refine Eq.trans ?_ A
    exact congrArg (outsAt0 m c t.val t.isLt).2.2.1 (funext fun a => match a with | 0 => Subsingleton.elim (α := Fin 1) _ _ | 1 => rfl)
  · have e := (idx_eq lastPoint).2.2.2.2.2.2.2.2.2.2.1
    have h0 : (i 0).val < 1 := (i 0).isLt
    have h1 : (i 1).val < 2048 := (i 1).isLt
    refine ⟨lastPoint, (flush0_11 lastPoint).mpr rfl, ?_⟩
    show i ∈ ((View.whole main_v0_2).slice (win0_11.rect lastPoint)).set
    rw [View.set_slice_whole, Rect.mem_set_unit]
    intro a
    match a with
    | 0 => show win0_11.index lastPoint 0 * 1 ≤ (i 0).val ∧ (i 0).val < win0_11.index lastPoint 0 * 1 + 1; omega
    | 1 => show win0_11.index lastPoint 1 * 2048 ≤ (i 1).val ∧ (i 1).val < win0_11.index lastPoint 1 * 2048 + 2048; omega

/-- The scale's gradient. -/
theorem final_s : (dats m 0 c).arrAt 12 cfg0.N = resS m c := by
  refine (dats m 0 c).arrAt_eq_of_cover 12 (resS m c) (fun t hf => ?_) fun i => ?_
  · rw [flushed12]
    funext j
    rw [View.read_apply]
    have ht := t_lt t
    have hl := (flush0_12 t).mp hf
    have e := (idx_eq t).2.2.2.2.2.2.2.2.2.2.2.1
    have k : ((cfg0.win 12).blk t).view.emb j = (j : S1x2048.Idx) := by
      funext a
      apply Fin.ext
      match a with
      | 0 => show win0_12.index t 0 * 1 + 1 * (j 0).val = (j 0).val; omega
      | 1 => show win0_12.index t 1 * 2048 + 1 * (j 1).val = (j 1).val; omega
    rw [k]
    have A := ((after_eq m c t.val t.isLt).a12 (j 1)).trans ((congrArg (fun k => partSum _ k _) (show t.val + 1 = 8 by omega)).trans (partSum_all _ _))
    refine Eq.trans ?_ A
    exact congrArg (outsAt0 m c t.val t.isLt).2.2.2.1 (funext fun a => match a with | 0 => Subsingleton.elim (α := Fin 1) _ _ | 1 => rfl)
  · have e := (idx_eq lastPoint).2.2.2.2.2.2.2.2.2.2.2.1
    have h0 : (i 0).val < 1 := (i 0).isLt
    have h1 : (i 1).val < 2048 := (i 1).isLt
    refine ⟨lastPoint, (flush0_12 lastPoint).mpr rfl, ?_⟩
    show i ∈ ((View.whole main_v0_3).slice (win0_12.rect lastPoint)).set
    rw [View.set_slice_whole, Rect.mem_set_unit]
    intro a
    match a with
    | 0 => show win0_12.index lastPoint 0 * 1 ≤ (i 0).val ∧ (i 0).val < win0_12.index lastPoint 0 * 1 + 1; omega
    | 1 => show win0_12.index lastPoint 1 * 2048 ≤ (i 1).val ∧ (i 1).val < win0_12.index lastPoint 1 * 2048 + 2048; omega

/-- The shift's gradient. -/
theorem final_h : (dats m 0 c).arrAt 13 cfg0.N = resH m c := by
  refine (dats m 0 c).arrAt_eq_of_cover 13 (resH m c) (fun t hf => ?_) fun i => ?_
  · rw [flushed13]
    funext j
    rw [View.read_apply]
    have ht := t_lt t
    have hl := (flush0_13 t).mp hf
    have e := (idx_eq t).2.2.2.2.2.2.2.2.2.2.2.2.1
    have k : ((cfg0.win 13).blk t).view.emb j = (j : S1x2048.Idx) := by
      funext a
      apply Fin.ext
      match a with
      | 0 => show win0_13.index t 0 * 1 + 1 * (j 0).val = (j 0).val; omega
      | 1 => show win0_13.index t 1 * 2048 + 1 * (j 1).val = (j 1).val; omega
    rw [k]
    have A := ((after_eq m c t.val t.isLt).a13 (j 1)).trans ((congrArg (fun k => partSum _ k _) (show t.val + 1 = 8 by omega)).trans (partSum_all _ _))
    refine Eq.trans ?_ A
    exact congrArg (outsAt0 m c t.val t.isLt).2.2.2.2.1 (funext fun a => match a with | 0 => Subsingleton.elim (α := Fin 1) _ _ | 1 => rfl)
  · have e := (idx_eq lastPoint).2.2.2.2.2.2.2.2.2.2.2.2.1
    have h0 : (i 0).val < 1 := (i 0).isLt
    have h1 : (i 1).val < 2048 := (i 1).isLt
    refine ⟨lastPoint, (flush0_13 lastPoint).mpr rfl, ?_⟩
    show i ∈ ((View.whole main_v0_4).slice (win0_13.rect lastPoint)).set
    rw [View.set_slice_whole, Rect.mem_set_unit]
    intro a
    match a with
    | 0 => show win0_13.index lastPoint 0 * 1 ≤ (i 0).val ∧ (i 0).val < win0_13.index lastPoint 0 * 1 + 1; omega
    | 1 => show win0_13.index lastPoint 1 * 2048 ≤ (i 1).val ∧ (i 1).val < win0_13.index lastPoint 1 * 2048 + 2048; omega

/-- The second gain's gradient. -/
theorem final_p : (dats m 0 c).arrAt 14 cfg0.N = resP m c := by
  refine (dats m 0 c).arrAt_eq_of_cover 14 (resP m c) (fun t hf => ?_) fun i => ?_
  · rw [flushed14]
    funext j
    rw [View.read_apply]
    have ht := t_lt t
    have hl := (flush0_14 t).mp hf
    have e := (idx_eq t).2.2.2.2.2.2.2.2.2.2.2.2.2.1
    have k : ((cfg0.win 14).blk t).view.emb j = (j : S1x2048.Idx) := by
      funext a
      apply Fin.ext
      match a with
      | 0 => show win0_14.index t 0 * 1 + 1 * (j 0).val = (j 0).val; omega
      | 1 => show win0_14.index t 1 * 2048 + 1 * (j 1).val = (j 1).val; omega
    rw [k]
    have A := ((after_eq m c t.val t.isLt).a14 (j 1)).trans ((congrArg (fun k => partSum _ k _) (show t.val + 1 = 8 by omega)).trans (partSum_all _ _))
    refine Eq.trans ?_ A
    exact congrArg (outsAt0 m c t.val t.isLt).2.2.2.2.2.1 (funext fun a => match a with | 0 => Subsingleton.elim (α := Fin 1) _ _ | 1 => rfl)
  · have e := (idx_eq lastPoint).2.2.2.2.2.2.2.2.2.2.2.2.2.1
    have h0 : (i 0).val < 1 := (i 0).isLt
    have h1 : (i 1).val < 2048 := (i 1).isLt
    refine ⟨lastPoint, (flush0_14 lastPoint).mpr rfl, ?_⟩
    show i ∈ ((View.whole main_v0_5).slice (win0_14.rect lastPoint)).set
    rw [View.set_slice_whole, Rect.mem_set_unit]
    intro a
    match a with
    | 0 => show win0_14.index lastPoint 0 * 1 ≤ (i 0).val ∧ (i 0).val < win0_14.index lastPoint 0 * 1 + 1; omega
    | 1 => show win0_14.index lastPoint 1 * 2048 ≤ (i 1).val ∧ (i 1).val < win0_14.index lastPoint 1 * 2048 + 2048; omega

/-- The gate's gradient. -/
theorem final_t : (dats m 0 c).arrAt 15 cfg0.N = resT m c := by
  refine (dats m 0 c).arrAt_eq_of_cover 15 (resT m c) (fun t hf => ?_) fun i => ?_
  · rw [flushed15]
    funext j
    rw [View.read_apply]
    have ht := t_lt t
    have hl := (flush0_15 t).mp hf
    have e := (idx_eq t).2.2.2.2.2.2.2.2.2.2.2.2.2.2
    have k : ((cfg0.win 15).blk t).view.emb j = (j : S1x2048.Idx) := by
      funext a
      apply Fin.ext
      match a with
      | 0 => show win0_15.index t 0 * 1 + 1 * (j 0).val = (j 0).val; omega
      | 1 => show win0_15.index t 1 * 2048 + 1 * (j 1).val = (j 1).val; omega
    rw [k]
    have A := ((after_eq m c t.val t.isLt).a15 (j 1)).trans ((congrArg (fun k => partSum _ k _) (show t.val + 1 = 8 by omega)).trans (partSum_all _ _))
    refine Eq.trans ?_ A
    exact congrArg (outsAt0 m c t.val t.isLt).2.2.2.2.2.2 (funext fun a => match a with | 0 => Subsingleton.elim (α := Fin 1) _ _ | 1 => rfl)
  · have e := (idx_eq lastPoint).2.2.2.2.2.2.2.2.2.2.2.2.2.2
    have h0 : (i 0).val < 1 := (i 0).isLt
    have h1 : (i 1).val < 2048 := (i 1).isLt
    refine ⟨lastPoint, (flush0_15 lastPoint).mpr rfl, ?_⟩
    show i ∈ ((View.whole main_v0_6).slice (win0_15.rect lastPoint)).set
    rw [View.set_slice_whole, Rect.mem_set_unit]
    intro a
    match a with
    | 0 => show win0_15.index lastPoint 0 * 1 ≤ (i 0).val ∧ (i 0).val < win0_15.index lastPoint 0 * 1 + 1; omega
    | 1 => show win0_15.index lastPoint 1 * 2048 ≤ (i 1).val ∧ (i 1).val < win0_15.index lastPoint 1 * 2048 + 2048; omega

end Cert.MidBwdIdeal.Norm
-- ==== Proof.NormMidClaim.lean ====
module

public import proofs.«01_k».proof.Defs
public import proofs.«01_k».proof.Proof.Gen.MidBwd.Frame
public import proofs.«01_k».proof.Proof.Gen.MidBwdRefIdeal.Run
public import proofs.«01_k».proof.Proof.Gen.MidBwdRefIdeal.Read
public import proofs.«01_k».proof.Proof.NormFirstClaim
public import proofs.«01_k».proof.Proof.NormMid

@[expose] public section

set_option maxRecDepth 16384

noncomputable section

/-! The backward pass of the norms between the two halves of the layer: the reference's values at an index, and the five claims. -/

namespace Cert.MidBwdRefIdeal.Norm

open Cert.MidBwdRefIdeal Cert.MidBwdRefIdeal.Read Idealize.ShloMosaic Idealize.ShloMosaic.Tactic Idealize.SL.Sem
open Cert.Norm

variable (H D X Y : S2048x2048.Idx → EReal) (G S P T : S1x2048.Idx → EReal)

/-! The first norm of the second half is the layer's first norm on other arrays. -/

/-- The residual's gradient. -/
theorem v48_apply (i q : Fin 2048) :
    val_main_v48 (F := Ideal) H D X G S (ix2 i q) = dresid cWide (rows X i) (rows D i) (rows G 0) (rows S 0) (rows H i) q :=
  Cert.FirstBwdRefIdeal.Norm.v48_apply H D X G S i q
theorem v56_apply (i : Fin 2048) : val_main_v56 (F := Ideal) Y (ix2 i 0) = inv cWide (rows Y i) := Cert.FirstBwdRefIdeal.Norm.v7_apply Y i
theorem v59_apply (i : Fin 2048) :
    val_main_v59 (F := Ideal) Y (ix2 i 0) = Cert.Gating.cNegHalf * Ideal.div (inv cWide (rows Y i)) (ms cWide (rows Y i)) :=
  Cert.FirstBwdRefIdeal.Norm.v10_apply Y i
theorem v61_apply (i q : Fin 2048) : val_main_v61 (F := Ideal) Y (ix2 i q) = unit cWide (rows Y i) q := Cert.FirstBwdRefIdeal.Norm.v12_apply Y i q

theorem v67_apply (i q : Fin 2048) :
    val_main_v67 (F := Ideal) H D X G S T (ix2 i q) = T (ix2 0 q) * val_main_v48 (F := Ideal) H D X G S (ix2 i q) := by
  unfold val_main_v67 val_main_v66
  pointwise

theorem v75_apply (i q : Fin 2048) :
    val_main_v75 (F := Ideal) H D X G S P T (ix2 i q) = T (ix2 0 q) * val_main_v48 (F := Ideal) H D X G S (ix2 i q) * P (ix2 0 q) := by
  unfold val_main_v75 val_main_v74
  pointwise
  rw [v67_apply]

/-- The gate's gradient. -/
theorem v70_apply (q : Fin 2048) : val_main_v70 (F := Ideal) H D X Y G S P (ix2 0 q)
    = ∑ i, val_main_v48 (F := Ideal) H D X G S (ix2 i q) * (unit cWide (rows Y i) q * P (ix2 0 q)) := by
  unfold val_main_v70 val_main_v69 val_main_v68 val_main_v63 val_main_v62 val_main_cst_14
  pointwise
  simp only [v61_apply]

/-- The second gain's gradient. -/
theorem v73_apply (q : Fin 2048) : val_main_v73 (F := Ideal) H D X Y G S T (ix2 0 q)
    = ∑ i, unit cWide (rows Y i) q * (T (ix2 0 q) * val_main_v48 (F := Ideal) H D X G S (ix2 i q)) := by
  unfold val_main_v73 val_main_v72 val_main_v71 val_main_cst_15
  pointwise
  simp only [v61_apply, v67_apply]

theorem v85_apply (i q : Fin 2048) : val_main_v85 (F := Ideal) H D X Y G S P T (ix2 i q)
    = slope cWide (rows Y i) fun q => T (ix2 0 q) * val_main_v48 (F := Ideal) H D X G S (ix2 i q) * P (ix2 0 q) := by
  unfold val_main_v85 val_main_v84 val_main_v83 val_main_v82 val_main_v81 val_main_v78 val_main_v77 val_main_v76 val_main_cst_16 val_main_cst_17 val_main_cst_18
  pointwise
  simp only [Fin.sum_univ_one, v59_apply, v75_apply]
  rfl

/-- The sublayer's gradient. -/
theorem v90_apply (i q : Fin 2048) : val_main_v90 (F := Ideal) H D X Y G S P T (ix2 i q)
    = dunit cWide (rows Y i) (fun q => T (ix2 0 q) * val_main_v48 (F := Ideal) H D X G S (ix2 i q) * P (ix2 0 q)) q := by
  unfold val_main_v90 val_main_v89 val_main_v88 val_main_v87 val_main_v86 val_main_v80 val_main_v79
  pointwise
  rw [v85_apply, v75_apply, v56_apply]
  rfl

end Cert.MidBwdRefIdeal.Norm

namespace Cert.Norm.Mid

open Idealize.ShloMosaic Idealize.ShloMosaic.Tactic Idealize.SL.Sem
open Cert.MidBwdRefIdeal (main_arg0 main_arg1 main_arg2 main_arg3 main_arg4 main_arg5 main_arg7 main_arg8)
open Cert.MidBwdRefIdeal.Read Cert.MidBwdRefIdeal.Norm
open Cert.MidBwdIdeal.Norm (dxRow argT argP argY resX resY resG resS resH resP resT)

attribute [local instance] Cert.MidBwd.Gen.facts Cert.MidBwdIdeal.Gen.facts Cert.MidBwdRefIdeal.Gen.facts

/-- The kernel, in its own arithmetic, ends with its arguments unchanged and every counter at zero. -/
theorem frame_kernel : Cert.quiescent_MidBwd := fun m ρ _ => Cert.MidBwd.Gen.frame m ρ

/-- The same of the kernel over the extended reals. -/
theorem frame_kernelIdeal : Cert.quiescent_MidBwdIdeal := fun m ρ _ => Cert.MidBwdIdeal.Gen.frame m ρ

/-- The same of the reference over the extended reals. -/
theorem frame_referenceIdeal : Cert.quiescent_MidBwdRefIdeal := fun m ρ _ =>
  (θ_run Cert.MidBwdRefIdeal.defs _ _).mono (fun r h => ⟨fun c => (h c).2.2.2.2.2.2.2, sem_eq_zero_of_no_sems (by decide) r.2⟩)
    (Cert.MidBwdRefIdeal.Value.run (F := Ideal) m ρ)

/-- From equal arguments the kernel and the reference end with equal gradients at the residual, at the sublayer's result, at the two
    gains, the scale, the shift and the gate, over the extended reals, whatever the arguments. -/
theorem value : Cert.algebraic_MidBwdIdeal_MidBwdRefIdeal := by
  intro m g m' g' _ ha
  refine ⟨resX m, resY m, resG m, resS m, resH m, resP m, resT m, ?_, ?_⟩
  · refine (θ_run Cert.MidBwdIdeal.defs _ _).mono (fun r h c => ?_) (Cert.MidBwdIdeal.Value.run_blocks (F := Ideal) m g)
    obtain ⟨h0, h1, h2, h3, h4, h5, h6, hk⟩ := h c
    exact ⟨h0.trans (Cert.MidBwdIdeal.Norm.final_x m c), h1.trans (Cert.MidBwdIdeal.Norm.final_y m c), h2.trans (Cert.MidBwdIdeal.Norm.final_g m c),
      h3.trans (Cert.MidBwdIdeal.Norm.final_s m c), h4.trans (Cert.MidBwdIdeal.Norm.final_h m c), h5.trans (Cert.MidBwdIdeal.Norm.final_p m c),
      h6.trans (Cert.MidBwdIdeal.Norm.final_t m c), hk⟩
  · refine (θ_run Cert.MidBwdRefIdeal.defs _ _).mono (fun r h c => ?_) (Cert.MidBwdRefIdeal.Value.run (F := Ideal) m' g')
    obtain ⟨h0, h1, h2, h3, h4, h5, h6, hk⟩ := h c
    obtain ⟨a0, a1, a2, a3, a4, a5, a6, a7, a8⟩ := ha c
    have dx : ∀ i q, val_main_v48 (F := Ideal) (m (c.tc.loc Cert.MidBwdIdeal.main_arg0)) (m (c.tc.loc Cert.MidBwdIdeal.main_arg1)) (m (c.tc.loc Cert.MidBwdIdeal.main_arg2)) (m (c.tc.loc Cert.MidBwdIdeal.main_arg4))
        (m (c.tc.loc Cert.MidBwdIdeal.main_arg5)) (ix2 i q) = dxRow m c i q := fun i q => v48_apply _ _ _ _ _ i q
    refine ⟨h0.trans ?_, h1.trans ?_, h2.trans ?_, h3.trans ?_, h4.trans ?_, h5.trans ?_, h6.trans ?_, hk⟩
    · rw [val_main_v48_eq]
      show val_main_v48 (F := Ideal) (m' (c.tc.loc main_arg0)) (m' (c.tc.loc main_arg1)) (m' (c.tc.loc main_arg2)) (m' (c.tc.loc main_arg4)) (m' (c.tc.loc main_arg5)) = _
      rw [a0, a1, a2, a4, a5]
      funext i
      exact (congrArg _ (idx2 i)).trans (dx (i 0) (i 1))
    · rw [val_main_v90_eq]
      show val_main_v90 (F := Ideal) (m' (c.tc.loc main_arg0)) (m' (c.tc.loc main_arg1)) (m' (c.tc.loc main_arg2)) (m' (c.tc.loc main_arg3))
        (m' (c.tc.loc main_arg4)) (m' (c.tc.loc main_arg5)) (m' (c.tc.loc main_arg7)) (m' (c.tc.loc main_arg8)) = _
      rw [a0, a1, a2, a3, a4, a5, a7, a8]
      funext i
      refine ((congrArg _ (idx2 i)).trans (v90_apply _ _ _ _ _ _ _ _ (i 0) (i 1))).trans ?_
      exact congrFun (congrArg (dunit cWide _) (funext fun q => congrArg (fun z => argT m c q * z * argP m c q) (dx (i 0) q))) (i 1)
    · refine (val_main_v31_eq _ _ _).trans ?_
      show val_main_v31 (F := Ideal) (m' (c.tc.loc main_arg0)) (m' (c.tc.loc main_arg2)) (m' (c.tc.loc main_arg5)) = _
      rw [a0, a2, a5]
      funext i
      exact (congrArg _ (idx1 i)).trans (Cert.FirstBwdRefIdeal.Norm.v31_apply _ _ _ (i 1))
    · refine (val_main_v26_eq _ _ _).trans ?_
      show val_main_v26 (F := Ideal) (m' (c.tc.loc main_arg0)) (m' (c.tc.loc main_arg2)) (m' (c.tc.loc main_arg4)) = _
      rw [a0, a2, a4]
      funext i
      exact (congrArg _ (idx1 i)).trans (Cert.FirstBwdRefIdeal.Norm.v26_apply _ _ _ (i 1))
    · refine (val_main_v23_eq _).trans ?_
      show val_main_v23 (F := Ideal) (m' (c.tc.loc main_arg0)) = _
      rw [a0]
      funext i
      exact (congrArg _ (idx1 i)).trans (Cert.FirstBwdRefIdeal.Norm.v23_apply _ (i 1))
    · rw [val_main_v73_eq]
      show val_main_v73 (F := Ideal) (m' (c.tc.loc main_arg0)) (m' (c.tc.loc main_arg1)) (m' (c.tc.loc main_arg2)) (m' (c.tc.loc main_arg3))
        (m' (c.tc.loc main_arg4)) (m' (c.tc.loc main_arg5)) (m' (c.tc.loc main_arg8)) = _
      rw [a0, a1, a2, a3, a4, a5, a8]
      funext i
      refine ((congrArg _ (idx1 i)).trans (v73_apply _ _ _ _ _ _ _ (i 1))).trans ?_
      exact Finset.sum_congr rfl fun k _ => congrArg (fun z => unit cWide (argY m c k) (i 1) * (argT m c (i 1) * z)) (dx k (i 1))
    · rw [val_main_v70_eq]
      show val_main_v70 (F := Ideal) (m' (c.tc.loc main_arg0)) (m' (c.tc.loc main_arg1)) (m' (c.tc.loc main_arg2)) (m' (c.tc.loc main_arg3))
        (m' (c.tc.loc main_arg4)) (m' (c.tc.loc main_arg5)) (m' (c.tc.loc main_arg7)) = _
      rw [a0, a1, a2, a3, a4, a5, a7]
      funext i
      refine ((congrArg _ (idx1 i)).trans (v70_apply _ _ _ _ _ _ _ (i 1))).trans ?_
      exact Finset.sum_congr rfl fun k _ => congrArg (fun z => z * (unit cWide (argY m c k) (i 1) * argP m c (i 1))) (dx k (i 1))

end Cert.Norm.Mid
-- ==== Proof.Adam.lean ====
module

public import proofs.«01_k».proof.Proof.Index
public import Idealize.ShloMosaic.Lib.IdealHost

@[expose] public section

noncomputable section

/-! One AdamW step of an array, entry by entry, over the extended reals. -/

namespace Cert.Adam

open Idealize.ShloMosaic

/-- The share of the first moment that is kept, 0.9 in 32 bits, and the share of the gradient that is taken, 0.1. -/
abbrev keepM : EReal := Ideal.ofBits .f32 0x3F666666#32
abbrev takeM : EReal := Ideal.ofBits .f32 0x3DCCCCCD#32
/-- The share of the second moment that is kept, 0.999, and the share of the squared gradient that is taken, 0.001. -/
abbrev keepV : EReal := Ideal.ofBits .f32 0x3F7FBE77#32
abbrev takeV : EReal := Ideal.ofBits .f32 0x3A83126F#32
/-- What the moments of the tenth step are divided by, 1 - 0.9 ^ 10 and 1 - 0.999 ^ 10. -/
abbrev biasM : EReal := Ideal.ofBits .f32 0x3F26BD02#32
abbrev biasV : EReal := Ideal.ofBits .f32 0x3C231ACC#32
/-- The term of the denominator, the weight decay, and the step size with its sign. -/
abbrev eps : EReal := Ideal.ofBits .f32 0x322BCC77#32
abbrev decay : EReal := Ideal.ofBits .f32 0x3C23D70A#32
abbrev rate : EReal := Ideal.ofBits .f32 0xBA83126F#32

variable {S : Shape}

/-- The new first moment. -/
def newM (g m : S.Idx → EReal) : S.Idx → EReal := fun i => keepM * m i + takeM * g i

/-- The new second moment. -/
def newV (g v : S.Idx → EReal) : S.Idx → EReal := fun i => keepV * v i + takeV * (g i * g i)

/-- What is added to the weight. -/
def delta (g w m v : S.Idx → EReal) : S.Idx → EReal := fun i =>
  rate * (Ideal.div (Ideal.div (newM g m i) biasM) (Ideal.sqrt (Ideal.div (newV g v i) biasV) + eps) + decay * w i)

/-- The sum of four parts of a gradient: the first of `p` and the three of `q`. -/
def parts {k r n : Nat} (p : (⟨3, ![k + 1, r, n]⟩ : Shape).Idx → EReal) (q : (⟨3, ![3, r, n]⟩ : Shape).Idx → EReal) :
    (⟨2, ![r, n]⟩ : Shape).Idx → EReal := fun i =>
  p (ix3 0 (i 0) (i 1)) + q (ix3 0 (i 0) (i 1)) + q (ix3 1 (i 0) (i 1)) + q (ix3 2 (i 0) (i 1))

variable {S' : Shape} {g w m v : S.Idx → EReal} {g' w' m' v' : S'.Idx → EReal} {i : S.Idx} {i' : S'.Idx}

/-- The step of a block is the block of the step. -/
theorem newM_congr (hg : g i = g' i') (hm : m i = m' i') : newM g m i = newM g' m' i' := by unfold newM; rw [hg, hm]
theorem newV_congr (hg : g i = g' i') (hv : v i = v' i') : newV g v i = newV g' v' i' := by unfold newV; rw [hg, hv]
theorem delta_congr (hg : g i = g' i') (hw : w i = w' i') (hm : m i = m' i') (hv : v i = v' i') :
    delta g w m v i = delta g' w' m' v' i' := by
  unfold delta; rw [newM_congr hg hm, newV_congr hg hv, hw]

/-- The sum of the parts of a block is the block of the sum. -/
theorem parts_congr {k k' r n r' n' : Nat} {p : (⟨3, ![k + 1, r, n]⟩ : Shape).Idx → EReal} {q : (⟨3, ![3, r, n]⟩ : Shape).Idx → EReal}
    {p' : (⟨3, ![k' + 1, r', n']⟩ : Shape).Idx → EReal} {q' : (⟨3, ![3, r', n']⟩ : Shape).Idx → EReal}
    {i : (⟨2, ![r, n]⟩ : Shape).Idx} {i' : (⟨2, ![r', n']⟩ : Shape).Idx}
    (hp : p (ix3 0 (i 0) (i 1)) = p' (ix3 0 (i' 0) (i' 1))) (hq : ∀ j, q (ix3 j (i 0) (i 1)) = q' (ix3 j (i' 0) (i' 1))) :
    parts p q i = parts p' q' i' := by
  unfold parts; rw [hp, hq, hq, hq]

end Cert.Adam

end
-- ==== Proof.AdamAda.lean ====
module

public import proofs.«01_k».proof.Defs
public import proofs.«01_k».proof.Proof.Gen.AdamAdaIdeal.Value
public import proofs.«01_k».proof.Proof.Gen.AdamAdaRefIdeal.Run
public import proofs.«01_k».proof.Proof.Gen.AdamAdaRefIdeal.Read
public import proofs.«01_k».proof.Proof.Adam
public import Idealize.ShloMosaic.Lib.Pipeline.ValueKit

@[expose] public section

set_option maxRecDepth 16384

noncomputable section

/-! The AdamW step of the modulation's weight, whose gradient comes as one array: what a point stores, the four result arrays,
    the reference. -/

namespace Cert.AdamAdaIdeal.Adam

open Cert.AdamAdaIdeal Cert.AdamAdaIdeal.Gen Cert.AdamAdaIdeal.Value Idealize.ShloMosaic Idealize.ShloMosaic.TcCoe Idealize.ShloMosaic.Tactic Idealize.SL.Sem
open Cert.Adam
open Idealize.ShloMosaic.Pipeline (Dat)

variable (m : (ℓ : Loc nD τ sig) → Buf (Elt Ideal) ℓ) (c : Dev nD)

abbrev argG : S2048x1536.Idx → EReal := m ((c : Thread nD τ).loc main_arg0)
abbrev argW : S2048x1536.Idx → EReal := m ((c : Thread nD τ).loc main_arg1)
abbrev argM : S2048x1536.Idx → EReal := m ((c : Thread nD τ).loc main_arg2)
abbrev argV : S2048x1536.Idx → EReal := m ((c : Thread nD τ).loc main_arg3)
abbrev resG : Buf (Elt Ideal) ((c : Thread nD τ).loc main_v0_0) := argG m c
abbrev resD : Buf (Elt Ideal) ((c : Thread nD τ).loc main_v0_1) := delta (argG m c) (argW m c) (argM m c) (argV m c)
abbrev resM : Buf (Elt Ideal) ((c : Thread nD τ).loc main_v0_2) := newM (argG m c) (argM m c)
abbrev resV : Buf (Elt Ideal) ((c : Thread nD τ).loc main_v0_3) := newV (argG m c) (argV m c)

/-- The first result array is the gradient. -/
theorem final_g : (dats m 0 c).arrAt 4 cfg0.N = resG m c := by
  refine (dats m 0 c).arrAt_eq_of_covers 4 _ (by decide +kernel) fun t hf y => ?_
  rw [after0_4]
  frame_out
  rfl

/-- The second is what is added to the weight. -/
theorem final_d : (dats m 0 c).arrAt 5 cfg0.N = resD m c := by
  refine (dats m 0 c).arrAt_eq_of_covers 5 _ (by decide +kernel) fun t hf y => ?_
  rw [after0_5]
  frame_out
  exact delta_congr (g := iblk m c 0 t) (w := iblk m c 1 t) (m := iblk m c 2 t) (v := iblk m c 3 t) rfl rfl rfl rfl

/-- The third is the new first moment. -/
theorem final_m : (dats m 0 c).arrAt 6 cfg0.N = resM m c := by
  refine (dats m 0 c).arrAt_eq_of_covers 6 _ (by decide +kernel) fun t hf y => ?_
  rw [after0_6]
  frame_out
  exact newM_congr (g := iblk m c 0 t) (m := iblk m c 2 t) rfl rfl

/-- The fourth is the new second moment. -/
theorem final_v : (dats m 0 c).arrAt 7 cfg0.N = resV m c := by
  refine (dats m 0 c).arrAt_eq_of_covers 7 _ (by decide +kernel) fun t hf y => ?_
  rw [after0_7]
  frame_out
  exact newV_congr (g := iblk m c 0 t) (v := iblk m c 3 t) rfl rfl

end Cert.AdamAdaIdeal.Adam

namespace Cert.AdamAdaRefIdeal.Adam

open Cert.AdamAdaRefIdeal Cert.AdamAdaRefIdeal.Gen Cert.AdamAdaRefIdeal.Read Idealize.ShloMosaic Idealize.ShloMosaic.Tactic
open Cert.Adam

variable (g w m v : Vec Ideal S2048x1536 .f32)

/-- The reference's three results that it computes are the same functions of its arguments. -/
theorem ref_m : val_main_v4 g m = newM g m := rfl

theorem ref_v : val_main_v10 g v = newV g v := rfl

theorem ref_d : val_main_v23 g w m v = delta g w m v := rfl

end Cert.AdamAdaRefIdeal.Adam

end
-- ==== Proof.AdamIn.lean ====
module

public import proofs.«01_k».proof.Defs
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Adam
public import Idealize.ShloMosaic.Lib.Pipeline.ValueKit

@[expose] public section

set_option maxRecDepth 16384

noncomputable section

/-! The AdamW step of the input projection's weight: what a point stores, the four result arrays, the reference. -/

namespace Cert.AdamInIdeal.Adam

open Cert.AdamInIdeal Cert.AdamInIdeal.Gen Cert.AdamInIdeal.Value Idealize.ShloMosaic Idealize.ShloMosaic.TcCoe Idealize.ShloMosaic.Tactic Idealize.SL.Sem
open Cert.Adam
open Idealize.ShloMosaic.Pipeline (Dat)

variable (m : (ℓ : Loc nD τ sig) → Buf (Elt Ideal) ℓ) (c : Dev nD)

abbrev argP : S4x2048x384.Idx → EReal := m ((c : Thread nD τ).loc main_arg0)
abbrev argQ : S3x2048x384.Idx → EReal := m ((c : Thread nD τ).loc main_arg1)
abbrev argW : S2048x384.Idx → EReal := m ((c : Thread nD τ).loc main_arg2)
abbrev argM : S2048x384.Idx → EReal := m ((c : Thread nD τ).loc main_arg3)
abbrev argV : S2048x384.Idx → EReal := m ((c : Thread nD τ).loc main_arg4)
abbrev resG : Buf (Elt Ideal) ((c : Thread nD τ).loc main_v0_0) := parts (argP m c) (argQ m c)
abbrev resD : Buf (Elt Ideal) ((c : Thread nD τ).loc main_v0_1) := delta (parts (argP m c) (argQ m c)) (argW m c) (argM m c) (argV m c)
abbrev resM : Buf (Elt Ideal) ((c : Thread nD τ).loc main_v0_2) := newM (parts (argP m c) (argQ m c)) (argM m c)
abbrev resV : Buf (Elt Ideal) ((c : Thread nD τ).loc main_v0_3) := newV (parts (argP m c) (argQ m c)) (argV m c)

/-- A point's gradient is the sum of its blocks of the four parts. -/
theorem pay (p : Vec Ideal S1x256x384 .bf16) (q : Vec Ideal S3x256x384 .bf16) :
    k0_pay2 (View.ld p r0_0) (View.ld q r0_1) (View.ld q r0_2) (View.ld q r0_3) = parts (k := 0) p q := by
  funext i
  refine (congrArg _ (idx2 i)).trans ?_
  unfold k0_pay2
  pointwise
  rfl

/-- A block of the parts is a block of rows of each of them. -/
theorem block (t : Fin cfg0.N) (y : S256x384.Idx) :
    parts (k := 0) (iblk m c 0 t) (iblk m c 1 t) y = parts (argP m c) (argQ m c) (((cfg0.win 5).blk t).view.emb y) :=
  parts_congr (congrArg (argP m c) (funext fun a => Fin.ext (match a with | ⟨0, _⟩ => rfl | ⟨1, _⟩ => rfl | ⟨2, _⟩ => rfl)))
    fun j => congrArg (argQ m c) (funext fun a => Fin.ext (match a with
      | ⟨0, _⟩ => (by show 0 * 3 + 1 * j.val = j.val; omega)
      | ⟨1, _⟩ => rfl
      | ⟨2, _⟩ => rfl))

/-- The first result array is the gradient, the sum of its four parts. -/
theorem final_g : (dats m 0 c).arrAt 5 cfg0.N = resG m c := by
  refine (dats m 0 c).arrAt_eq_of_covers 5 _ (by decide +kernel) fun t hf y => ?_
  rw [after0_5]
  unfold out0_5
  rw [pay]
  frame_out
  exact block m c t y

/-- The second is what is added to the weight. -/
theorem final_d : (dats m 0 c).arrAt 6 cfg0.N = resD m c := by
  refine (dats m 0 c).arrAt_eq_of_covers 6 _ (by decide +kernel) fun t hf y => ?_
  rw [after0_6]
  unfold out0_6 k0_pay5 k0_pay6 k0_pay3 k0_pay4
  rw [pay]
  frame_out
  exact delta_congr (g := parts (k := 0) (iblk m c 0 t) (iblk m c 1 t)) (w := iblk m c 2 t) (m := iblk m c 3 t) (v := iblk m c 4 t)
    (block m c t y) rfl rfl rfl

/-- The third is the new first moment. -/
theorem final_m : (dats m 0 c).arrAt 7 cfg0.N = resM m c := by
  refine (dats m 0 c).arrAt_eq_of_covers 7 _ (by decide +kernel) fun t hf y => ?_
  rw [after0_7]
  unfold out0_7 k0_pay3
  rw [pay]
  frame_out
  exact newM_congr (g := parts (k := 0) (iblk m c 0 t) (iblk m c 1 t)) (m := iblk m c 3 t) (block m c t y) rfl

/-- The fourth is the new second moment. -/
theorem final_v : (dats m 0 c).arrAt 8 cfg0.N = resV m c := by
  refine (dats m 0 c).arrAt_eq_of_covers 8 _ (by decide +kernel) fun t hf y => ?_
  rw [after0_8]
  unfold out0_8 k0_pay4
  rw [pay]
  frame_out
  exact newV_congr (g := parts (k := 0) (iblk m c 0 t) (iblk m c 1 t)) (v := iblk m c 4 t) (block m c t y) rfl

end Cert.AdamInIdeal.Adam

namespace Cert.AdamInRefIdeal.Adam

open Cert.AdamInRefIdeal Cert.AdamInRefIdeal.Gen Cert.AdamInRefIdeal.Read Idealize.ShloMosaic Idealize.ShloMosaic.Tactic
open Cert.Adam

variable (p : Vec Ideal S4x2048x384 .bf16) (q : Vec Ideal S3x2048x384 .bf16) (w m v : Vec Ideal S2048x384 .f32)

/-- The reference's four results are the same functions of its arguments. -/
theorem ref_g : val_main_v5 p q = parts (k := 3) p q := by
  funext i
  refine (congrArg _ (idx2 i)).trans ?_
  unfold val_main_v5 val_main_v4 val_main_v3 val_main_v2 val_main_v1 val_main_v0 val_main_cst
  pointwise
  rw [Fin.sum_univ_three]
  unfold parts
  rw [add_assoc, add_assoc, add_assoc]

theorem ref_m : val_main_v10 p q m = newM (parts (k := 3) p q) m := by
  rw [← ref_g]
  rfl

theorem ref_v : val_main_v16 p q v = newV (parts (k := 3) p q) v := by
  rw [← ref_g]
  rfl

theorem ref_d : val_main_v29 p q w m v = delta (parts (k := 3) p q) w m v := by
  rw [← ref_g]
  rfl

end Cert.AdamInRefIdeal.Adam

end
-- ==== Proof.AdamUp.lean ====
module

public import proofs.«01_k».proof.Defs
public import proofs.«01_k».proof.Proof.Gen.AdamUpIdeal.Value
public import proofs.«01_k».proof.Proof.Gen.AdamUpRefIdeal.Run
public import proofs.«01_k».proof.Proof.Gen.AdamUpRefIdeal.Read
public import proofs.«01_k».proof.Proof.Adam
public import Idealize.ShloMosaic.Lib.Pipeline.ValueKit

@[expose] public section

set_option maxRecDepth 16384

noncomputable section

/-! The AdamW step of the up projection's weight: what a point stores, the four result arrays, the reference. -/

namespace Cert.AdamUpIdeal.Adam

open Cert.AdamUpIdeal Cert.AdamUpIdeal.Gen Cert.AdamUpIdeal.Value Idealize.ShloMosaic Idealize.ShloMosaic.TcCoe Idealize.ShloMosaic.Tactic Idealize.SL.Sem
open Cert.Adam
open Idealize.ShloMosaic.Pipeline (Dat)

variable (m : (ℓ : Loc nD τ sig) → Buf (Elt Ideal) ℓ) (c : Dev nD)

abbrev argP : S4x2048x1408.Idx → EReal := m ((c : Thread nD τ).loc main_arg0)
abbrev argQ : S3x2048x1408.Idx → EReal := m ((c : Thread nD τ).loc main_arg1)
abbrev argW : S2048x1408.Idx → EReal := m ((c : Thread nD τ).loc main_arg2)
abbrev argM : S2048x1408.Idx → EReal := m ((c : Thread nD τ).loc main_arg3)
abbrev argV : S2048x1408.Idx → EReal := m ((c : Thread nD τ).loc main_arg4)
abbrev resG : Buf (Elt Ideal) ((c : Thread nD τ).loc main_v0_0) := parts (argP m c) (argQ m c)
abbrev resD : Buf (Elt Ideal) ((c : Thread nD τ).loc main_v0_1) := delta (parts (argP m c) (argQ m c)) (argW m c) (argM m c) (argV m c)
abbrev resM : Buf (Elt Ideal) ((c : Thread nD τ).loc main_v0_2) := newM (parts (argP m c) (argQ m c)) (argM m c)
abbrev resV : Buf (Elt Ideal) ((c : Thread nD τ).loc main_v0_3) := newV (parts (argP m c) (argQ m c)) (argV m c)

/-- A point's gradient is the sum of its blocks of the four parts. -/
theorem pay (p : Vec Ideal S1x256x1408 .bf16) (q : Vec Ideal S3x256x1408 .bf16) :
    k0_pay2 (View.ld p r0_0) (View.ld q r0_1) (View.ld q r0_2) (View.ld q r0_3) = parts (k := 0) p q := by
  funext i
  refine (congrArg _ (idx2 i)).trans ?_
  unfold k0_pay2
  pointwise
  rfl

/-- A block of the parts is a block of rows of each of them. -/
theorem block (t : Fin cfg0.N) (y : S256x1408.Idx) :
    parts (k := 0) (iblk m c 0 t) (iblk m c 1 t) y = parts (argP m c) (argQ m c) (((cfg0.win 5).blk t).view.emb y) :=
  parts_congr (congrArg (argP m c) (funext fun a => Fin.ext (match a with | ⟨0, _⟩ => rfl | ⟨1, _⟩ => rfl | ⟨2, _⟩ => rfl)))
    fun j => congrArg (argQ m c) (funext fun a => Fin.ext (match a with
      | ⟨0, _⟩ => (by show 0 * 3 + 1 * j.val = j.val; omega)
      | ⟨1, _⟩ => rfl
      | ⟨2, _⟩ => rfl))

/-- The first result array is the gradient, the sum of its four parts. -/
theorem final_g : (dats m 0 c).arrAt 5 cfg0.N = resG m c := by
  refine (dats m 0 c).arrAt_eq_of_covers 5 _ (by decide +kernel) fun t hf y => ?_
  rw [after0_5]
  unfold out0_5
  rw [pay]
  frame_out
  exact block m c t y

/-- The second is what is added to the weight. -/
theorem final_d : (dats m 0 c).arrAt 6 cfg0.N = resD m c := by
  refine (dats m 0 c).arrAt_eq_of_covers 6 _ (by decide +kernel) fun t hf y => ?_
  rw [after0_6]
  unfold out0_6 k0_pay5 k0_pay6 k0_pay3 k0_pay4
  rw [pay]
  frame_out
  exact delta_congr (g := parts (k := 0) (iblk m c 0 t) (iblk m c 1 t)) (w := iblk m c 2 t) (m := iblk m c 3 t) (v := iblk m c 4 t)
    (block m c t y) rfl rfl rfl

/-- The third is the new first moment. -/
theorem final_m : (dats m 0 c).arrAt 7 cfg0.N = resM m c := by
  refine (dats m 0 c).arrAt_eq_of_covers 7 _ (by decide +kernel) fun t hf y => ?_
  rw [after0_7]
  unfold out0_7 k0_pay3
  rw [pay]
  frame_out
  exact newM_congr (g := parts (k := 0) (iblk m c 0 t) (iblk m c 1 t)) (m := iblk m c 3 t) (block m c t y) rfl

/-- The fourth is the new second moment. -/
theorem final_v : (dats m 0 c).arrAt 8 cfg0.N = resV m c := by
  refine (dats m 0 c).arrAt_eq_of_covers 8 _ (by decide +kernel) fun t hf y => ?_
  rw [after0_8]
  unfold out0_8 k0_pay4
  rw [pay]
  frame_out
  exact newV_congr (g := parts (k := 0) (iblk m c 0 t) (iblk m c 1 t)) (v := iblk m c 4 t) (block m c t y) rfl

end Cert.AdamUpIdeal.Adam

namespace Cert.AdamUpRefIdeal.Adam

open Cert.AdamUpRefIdeal Cert.AdamUpRefIdeal.Gen Cert.AdamUpRefIdeal.Read Idealize.ShloMosaic Idealize.ShloMosaic.Tactic
open Cert.Adam

variable (p : Vec Ideal S4x2048x1408 .bf16) (q : Vec Ideal S3x2048x1408 .bf16) (w m v : Vec Ideal S2048x1408 .f32)

/-- The reference's four results are the same functions of its arguments. -/
theorem ref_g : val_main_v5 p q = parts (k := 3) p q := by
  funext i
  refine (congrArg _ (idx2 i)).trans ?_
  unfold val_main_v5 val_main_v4 val_main_v3 val_main_v2 val_main_v1 val_main_v0 val_main_cst
  pointwise
  rw [Fin.sum_univ_three]
  unfold parts
  rw [add_assoc, add_assoc, add_assoc]

theorem ref_m : val_main_v10 p q m = newM (parts (k := 3) p q) m := by
  rw [← ref_g]
  rfl

theorem ref_v : val_main_v16 p q v = newV (parts (k := 3) p q) v := by
  rw [← ref_g]
  rfl

theorem ref_d : val_main_v29 p q w m v = delta (parts (k := 3) p q) w m v := by
  rw [← ref_g]
  rfl

end Cert.AdamUpRefIdeal.Adam

end
-- ==== Proof.AdamOut.lean ====
module

public import proofs.«01_k».proof.Defs
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Adam
public import Idealize.ShloMosaic.Lib.Pipeline.ValueKit

@[expose] public section

set_option maxRecDepth 16384

noncomputable section

/-! The AdamW step of the output projection's weight: what a point stores, the four result arrays, the reference. -/

namespace Cert.AdamOutIdeal.Adam

open Cert.AdamOutIdeal Cert.AdamOutIdeal.Gen Cert.AdamOutIdeal.Value Idealize.ShloMosaic Idealize.ShloMosaic.TcCoe Idealize.ShloMosaic.Tactic Idealize.SL.Sem
open Cert.Adam
open Idealize.ShloMosaic.Pipeline (Dat)

variable (m : (ℓ : Loc nD τ sig) → Buf (Elt Ideal) ℓ) (c : Dev nD)

abbrev argP : S4x256x2048.Idx → EReal := m ((c : Thread nD τ).loc main_arg0)
abbrev argQ : S3x256x2048.Idx → EReal := m ((c : Thread nD τ).loc main_arg1)
abbrev argW : S256x2048.Idx → EReal := m ((c : Thread nD τ).loc main_arg2)
abbrev argM : S256x2048.Idx → EReal := m ((c : Thread nD τ).loc main_arg3)
abbrev argV : S256x2048.Idx → EReal := m ((c : Thread nD τ).loc main_arg4)
abbrev resG : Buf (Elt Ideal) ((c : Thread nD τ).loc main_v0_0) := parts (argP m c) (argQ m c)
abbrev resD : Buf (Elt Ideal) ((c : Thread nD τ).loc main_v0_1) := delta (parts (argP m c) (argQ m c)) (argW m c) (argM m c) (argV m c)
abbrev resM : Buf (Elt Ideal) ((c : Thread nD τ).loc main_v0_2) := newM (parts (argP m c) (argQ m c)) (argM m c)
abbrev resV : Buf (Elt Ideal) ((c : Thread nD τ).loc main_v0_3) := newV (parts (argP m c) (argQ m c)) (argV m c)

/-- A point's gradient is the sum of its blocks of the four parts. -/
theorem pay (p : Vec Ideal S1x256x2048 .bf16) (q : Vec Ideal S3x256x2048 .bf16) :
    k0_pay2 (View.ld p r0_0) (View.ld q r0_1) (View.ld q r0_2) (View.ld q r0_3) = parts (k := 0) p q := by
  funext i
  refine (congrArg _ (idx2 i)).trans ?_
  unfold k0_pay2
  pointwise
  rfl

/-- A block of the parts is a block of rows of each of them. -/
theorem block (t : Fin cfg0.N) (y : S256x2048.Idx) :
    parts (k := 0) (iblk m c 0 t) (iblk m c 1 t) y = parts (argP m c) (argQ m c) (((cfg0.win 5).blk t).view.emb y) :=
  parts_congr (congrArg (argP m c) (funext fun a => Fin.ext (match a with | ⟨0, _⟩ => rfl | ⟨1, _⟩ => rfl | ⟨2, _⟩ => rfl)))
    fun j => congrArg (argQ m c) (funext fun a => Fin.ext (match a with
      | ⟨0, _⟩ => (by show 0 * 3 + 1 * j.val = j.val; omega)
      | ⟨1, _⟩ => rfl
      | ⟨2, _⟩ => rfl))

/-- The first result array is the gradient, the sum of its four parts. -/
theorem final_g : (dats m 0 c).arrAt 5 cfg0.N = resG m c := by
  refine (dats m 0 c).arrAt_eq_of_covers 5 _ (by decide +kernel) fun t hf y => ?_
  rw [after0_5]
  unfold out0_5
  rw [pay]
  frame_out
  exact block m c t y

/-- The second is what is added to the weight. -/
theorem final_d : (dats m 0 c).arrAt 6 cfg0.N = resD m c := by
  refine (dats m 0 c).arrAt_eq_of_covers 6 _ (by decide +kernel) fun t hf y => ?_
  rw [after0_6]
  unfold out0_6 k0_pay5 k0_pay6 k0_pay3 k0_pay4
  rw [pay]
  frame_out
  exact delta_congr (g := parts (k := 0) (iblk m c 0 t) (iblk m c 1 t)) (w := iblk m c 2 t) (m := iblk m c 3 t) (v := iblk m c 4 t)
    (block m c t y) rfl rfl rfl

/-- The third is the new first moment. -/
theorem final_m : (dats m 0 c).arrAt 7 cfg0.N = resM m c := by
  refine (dats m 0 c).arrAt_eq_of_covers 7 _ (by decide +kernel) fun t hf y => ?_
  rw [after0_7]
  unfold out0_7 k0_pay3
  rw [pay]
  frame_out
  exact newM_congr (g := parts (k := 0) (iblk m c 0 t) (iblk m c 1 t)) (m := iblk m c 3 t) (block m c t y) rfl

/-- The fourth is the new second moment. -/
theorem final_v : (dats m 0 c).arrAt 8 cfg0.N = resV m c := by
  refine (dats m 0 c).arrAt_eq_of_covers 8 _ (by decide +kernel) fun t hf y => ?_
  rw [after0_8]
  unfold out0_8 k0_pay4
  rw [pay]
  frame_out
  exact newV_congr (g := parts (k := 0) (iblk m c 0 t) (iblk m c 1 t)) (v := iblk m c 4 t) (block m c t y) rfl

end Cert.AdamOutIdeal.Adam

namespace Cert.AdamOutRefIdeal.Adam

open Cert.AdamOutRefIdeal Cert.AdamOutRefIdeal.Gen Cert.AdamOutRefIdeal.Read Idealize.ShloMosaic Idealize.ShloMosaic.Tactic
open Cert.Adam

variable (p : Vec Ideal S4x256x2048 .bf16) (q : Vec Ideal S3x256x2048 .bf16) (w m v : Vec Ideal S256x2048 .f32)

/-- The reference's four results are the same functions of its arguments. -/
theorem ref_g : val_main_v5 p q = parts (k := 3) p q := by
  funext i
  refine (congrArg _ (idx2 i)).trans ?_
  unfold val_main_v5 val_main_v4 val_main_v3 val_main_v2 val_main_v1 val_main_v0 val_main_cst
  pointwise
  rw [Fin.sum_univ_three]
  unfold parts
  rw [add_assoc, add_assoc, add_assoc]

theorem ref_m : val_main_v10 p q m = newM (parts (k := 3) p q) m := by
  rw [← ref_g]
  rfl

theorem ref_v : val_main_v16 p q v = newV (parts (k := 3) p q) v := by
  rw [← ref_g]
  rfl

theorem ref_d : val_main_v29 p q w m v = delta (parts (k := 3) p q) w m v := by
  rw [← ref_g]
  rfl

end Cert.AdamOutRefIdeal.Adam

end
-- ==== Proof.AdamDown.lean ====
module

public import proofs.«01_k».proof.Defs
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Proof.Adam
public import Idealize.ShloMosaic.Lib.Pipeline.ValueKit

@[expose] public section

set_option maxRecDepth 16384

noncomputable section

/-! The AdamW step of the down projection's weight: what a point stores, the four result arrays, the reference. -/

namespace Cert.AdamDownIdeal.Adam

open Cert.AdamDownIdeal Cert.AdamDownIdeal.Gen Cert.AdamDownIdeal.Value Idealize.ShloMosaic Idealize.ShloMosaic.TcCoe Idealize.ShloMosaic.Tactic Idealize.SL.Sem
open Cert.Adam
open Idealize.ShloMosaic.Pipeline (Dat)

variable (m : (ℓ : Loc nD τ sig) → Buf (Elt Ideal) ℓ) (c : Dev nD)

abbrev argP : S4x704x2048.Idx → EReal := m ((c : Thread nD τ).loc main_arg0)
abbrev argQ : S3x704x2048.Idx → EReal := m ((c : Thread nD τ).loc main_arg1)
abbrev argW : S704x2048.Idx → EReal := m ((c : Thread nD τ).loc main_arg2)
abbrev argM : S704x2048.Idx → EReal := m ((c : Thread nD τ).loc main_arg3)
abbrev argV : S704x2048.Idx → EReal := m ((c : Thread nD τ).loc main_arg4)
abbrev resG : Buf (Elt Ideal) ((c : Thread nD τ).loc main_v0_0) := parts (argP m c) (argQ m c)
abbrev resD : Buf (Elt Ideal) ((c : Thread nD τ).loc main_v0_1) := delta (parts (argP m c) (argQ m c)) (argW m c) (argM m c) (argV m c)
abbrev resM : Buf (Elt Ideal) ((c : Thread nD τ).loc main_v0_2) := newM (parts (argP m c) (argQ m c)) (argM m c)
abbrev resV : Buf (Elt Ideal) ((c : Thread nD τ).loc main_v0_3) := newV (parts (argP m c) (argQ m c)) (argV m c)

/-- A point's gradient is the sum of its blocks of the four parts. -/
theorem pay (p : Vec Ideal S1x176x2048 .bf16) (q : Vec Ideal S3x176x2048 .bf16) :
    k0_pay2 (View.ld p r0_0) (View.ld q r0_1) (View.ld q r0_2) (View.ld q r0_3) = parts (k := 0) p q := by
  funext i
  refine (congrArg _ (idx2 i)).trans ?_
  unfold k0_pay2
  pointwise
  rfl

/-- A block of the parts is a block of rows of each of them. -/
theorem block (t : Fin cfg0.N) (y : S176x2048.Idx) :
    parts (k := 0) (iblk m c 0 t) (iblk m c 1 t) y = parts (argP m c) (argQ m c) (((cfg0.win 5).blk t).view.emb y) :=
  parts_congr (congrArg (argP m c) (funext fun a => Fin.ext (match a with | ⟨0, _⟩ => rfl | ⟨1, _⟩ => rfl | ⟨2, _⟩ => rfl)))
    fun j => congrArg (argQ m c) (funext fun a => Fin.ext (match a with
      | ⟨0, _⟩ => (by show 0 * 3 + 1 * j.val = j.val; omega)
      | ⟨1, _⟩ => rfl
      | ⟨2, _⟩ => rfl))

/-- The first result array is the gradient, the sum of its four parts. -/
theorem final_g : (dats m 0 c).arrAt 5 cfg0.N = resG m c := by
  refine (dats m 0 c).arrAt_eq_of_covers 5 _ (by decide +kernel) fun t hf y => ?_
  rw [after0_5]
  unfold out0_5
  rw [pay]
  frame_out
  exact block m c t y

/-- The second is what is added to the weight. -/
theorem final_d : (dats m 0 c).arrAt 6 cfg0.N = resD m c := by
  refine (dats m 0 c).arrAt_eq_of_covers 6 _ (by decide +kernel) fun t hf y => ?_
  rw [after0_6]
  unfold out0_6 k0_pay5 k0_pay6 k0_pay3 k0_pay4
  rw [pay]
  frame_out
  exact delta_congr (g := parts (k := 0) (iblk m c 0 t) (iblk m c 1 t)) (w := iblk m c 2 t) (m := iblk m c 3 t) (v := iblk m c 4 t)
    (block m c t y) rfl rfl rfl

/-- The third is the new first moment. -/
theorem final_m : (dats m 0 c).arrAt 7 cfg0.N = resM m c := by
  refine (dats m 0 c).arrAt_eq_of_covers 7 _ (by decide +kernel) fun t hf y => ?_
  rw [after0_7]
  unfold out0_7 k0_pay3
  rw [pay]
  frame_out
  exact newM_congr (g := parts (k := 0) (iblk m c 0 t) (iblk m c 1 t)) (m := iblk m c 3 t) (block m c t y) rfl

/-- The fourth is the new second moment. -/
theorem final_v : (dats m 0 c).arrAt 8 cfg0.N = resV m c := by
  refine (dats m 0 c).arrAt_eq_of_covers 8 _ (by decide +kernel) fun t hf y => ?_
  rw [after0_8]
  unfold out0_8 k0_pay4
  rw [pay]
  frame_out
  exact newV_congr (g := parts (k := 0) (iblk m c 0 t) (iblk m c 1 t)) (v := iblk m c 4 t) (block m c t y) rfl

end Cert.AdamDownIdeal.Adam

namespace Cert.AdamDownRefIdeal.Adam

open Cert.AdamDownRefIdeal Cert.AdamDownRefIdeal.Gen Cert.AdamDownRefIdeal.Read Idealize.ShloMosaic Idealize.ShloMosaic.Tactic
open Cert.Adam

variable (p : Vec Ideal S4x704x2048 .bf16) (q : Vec Ideal S3x704x2048 .bf16) (w m v : Vec Ideal S704x2048 .f32)

/-- The reference's four results are the same functions of its arguments. -/
theorem ref_g : val_main_v5 p q = parts (k := 3) p q := by
  funext i
  refine (congrArg _ (idx2 i)).trans ?_
  unfold val_main_v5 val_main_v4 val_main_v3 val_main_v2 val_main_v1 val_main_v0 val_main_cst
  pointwise
  rw [Fin.sum_univ_three]
  unfold parts
  rw [add_assoc, add_assoc, add_assoc]

theorem ref_m : val_main_v10 p q m = newM (parts (k := 3) p q) m := by
  rw [← ref_g]
  rfl

theorem ref_v : val_main_v16 p q v = newV (parts (k := 3) p q) v := by
  rw [← ref_g]
  rfl

theorem ref_d : val_main_v29 p q w m v = delta (parts (k := 3) p q) w m v := by
  rw [← ref_g]
  rfl

end Cert.AdamDownRefIdeal.Adam

end
-- ==== Proof.AdamClaims.lean ====
module

public import proofs.«01_k».proof.Defs
public import proofs.«01_k».proof.Proof.Gen.AdamAda.Frame
public import proofs.«01_k».proof.Proof.AdamAda
public import proofs.«01_k».proof.Proof.Gen.AdamIn.Frame
public import proofs.«01_k».proof.Proof.AdamIn
public import proofs.«01_k».proof.Proof.Gen.AdamUp.Frame
public import proofs.«01_k».proof.Proof.AdamUp
public import proofs.«01_k».proof.Proof.Gen.AdamOut.Frame
public import proofs.«01_k».proof.Proof.AdamOut
public import proofs.«01_k».proof.Proof.Gen.AdamDown.Frame
public import proofs.«01_k».proof.Proof.AdamDown

@[expose] public section

set_option maxRecDepth 16384

noncomputable section

/-! The claims about the AdamW steps of the five large weights: the references' frames, and the values. From equal arguments
    each kernel and its reference end with equal gradients, steps and moments over the extended reals, whatever the arguments. -/

namespace Cert.Adam

open Idealize.ShloMosaic Idealize.ShloMosaic.Tactic Idealize.SL.Sem

attribute [local instance]
  Cert.AdamAda.Gen.facts Cert.AdamAdaIdeal.Gen.facts Cert.AdamAdaRefIdeal.Gen.facts
  Cert.AdamIn.Gen.facts Cert.AdamInIdeal.Gen.facts Cert.AdamInRefIdeal.Gen.facts
  Cert.AdamUp.Gen.facts Cert.AdamUpIdeal.Gen.facts Cert.AdamUpRefIdeal.Gen.facts
  Cert.AdamOut.Gen.facts Cert.AdamOutIdeal.Gen.facts Cert.AdamOutRefIdeal.Gen.facts
  Cert.AdamDown.Gen.facts Cert.AdamDownIdeal.Gen.facts Cert.AdamDownRefIdeal.Gen.facts

theorem frame_Ada : Cert.quiescent_AdamAdaRefIdeal := fun m ρ _ =>
  (θ_run Cert.AdamAdaRefIdeal.defs _ _).mono (fun r h => ⟨fun c => (h c).2.2.2.2, sem_eq_zero_of_no_sems (by decide) r.2⟩)
    (Cert.AdamAdaRefIdeal.Value.run (F := Ideal) m ρ)

theorem value_Ada : Cert.algebraic_AdamAdaIdeal_AdamAdaRefIdeal := by
  open Cert.AdamAdaIdeal.Adam Cert.AdamAdaRefIdeal.Adam Cert.AdamAdaRefIdeal.Read in
  intro m g m' g' _ ha
  refine ⟨resG m, resD m, resM m, resV m, ?_, ?_⟩
  · refine (θ_run Cert.AdamAdaIdeal.defs _ _).mono (fun r h c => ?_) (Cert.AdamAdaIdeal.Value.run_blocks (F := Ideal) m g)
    obtain ⟨h0, h1, h2, h3, hk⟩ := h c
    exact ⟨h0.trans (final_g m c), h1.trans (final_d m c), h2.trans (final_m m c), h3.trans (final_v m c), hk⟩
  · refine (θ_run Cert.AdamAdaRefIdeal.defs _ _).mono (fun r h c => ?_) (Cert.AdamAdaRefIdeal.Value.run (F := Ideal) m' g')
    obtain ⟨h0, h1, h2, h3, hk⟩ := h c
    obtain ⟨a0, a1, a2, a3⟩ := ha c
    rw [a0] at h0
    rw [a0, a1, a2, a3] at h1
    rw [a0, a2] at h2
    rw [a0, a3] at h3
    exact ⟨h0, h1.trans (ref_d _ _ _ _), h2.trans (ref_m _ _), h3.trans (ref_v _ _), hk⟩

theorem frame_In : Cert.quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run (F := Ideal) m ρ)

theorem value_In : Cert.algebraic_AdamInIdeal_AdamInRefIdeal := by
  open Cert.AdamInIdeal.Adam Cert.AdamInRefIdeal.Adam Cert.AdamInRefIdeal.Read in
  intro m g m' g' _ ha
  refine ⟨resG m, resD m, resM m, resV m, ?_, ?_⟩
  · refine (θ_run Cert.AdamInIdeal.defs _ _).mono (fun r h c => ?_) (Cert.AdamInIdeal.Value.run_blocks (F := Ideal) m g)
    obtain ⟨h0, h1, h2, h3, hk⟩ := h c
    exact ⟨h0.trans (final_g m c), h1.trans (final_d m c), h2.trans (final_m m c), h3.trans (final_v m c), hk⟩
  · refine (θ_run Cert.AdamInRefIdeal.defs _ _).mono (fun r h c => ?_) (Cert.AdamInRefIdeal.Value.run (F := Ideal) m' g')
    obtain ⟨h0, h1, h2, h3, hk⟩ := h c
    obtain ⟨a0, a1, a2, a3, a4⟩ := ha c
    rw [a0, a1] at h0
    rw [a0, a1, a2, a3, a4] at h1
    rw [a0, a1, a3] at h2
    rw [a0, a1, a4] at h3
    exact ⟨h0.trans (ref_g _ _), h1.trans (ref_d _ _ _ _ _), h2.trans (ref_m _ _ _), h3.trans (ref_v _ _ _), hk⟩

theorem frame_Up : Cert.quiescent_AdamUpRefIdeal := fun m ρ _ =>
  (θ_run Cert.AdamUpRefIdeal.defs _ _).mono (fun r h => ⟨fun c => (h c).2.2.2.2, sem_eq_zero_of_no_sems (by decide) r.2⟩)
    (Cert.AdamUpRefIdeal.Value.run (F := Ideal) m ρ)

theorem value_Up : Cert.algebraic_AdamUpIdeal_AdamUpRefIdeal := by
  open Cert.AdamUpIdeal.Adam Cert.AdamUpRefIdeal.Adam Cert.AdamUpRefIdeal.Read in
  intro m g m' g' _ ha
  refine ⟨resG m, resD m, resM m, resV m, ?_, ?_⟩
  · refine (θ_run Cert.AdamUpIdeal.defs _ _).mono (fun r h c => ?_) (Cert.AdamUpIdeal.Value.run_blocks (F := Ideal) m g)
    obtain ⟨h0, h1, h2, h3, hk⟩ := h c
    exact ⟨h0.trans (final_g m c), h1.trans (final_d m c), h2.trans (final_m m c), h3.trans (final_v m c), hk⟩
  · refine (θ_run Cert.AdamUpRefIdeal.defs _ _).mono (fun r h c => ?_) (Cert.AdamUpRefIdeal.Value.run (F := Ideal) m' g')
    obtain ⟨h0, h1, h2, h3, hk⟩ := h c
    obtain ⟨a0, a1, a2, a3, a4⟩ := ha c
    rw [a0, a1] at h0
    rw [a0, a1, a2, a3, a4] at h1
    rw [a0, a1, a3] at h2
    rw [a0, a1, a4] at h3
    exact ⟨h0.trans (ref_g _ _), h1.trans (ref_d _ _ _ _ _), h2.trans (ref_m _ _ _), h3.trans (ref_v _ _ _), hk⟩

theorem frame_Out : Cert.quiescent_AdamOutRefIdeal := fun m ρ _ =>
  (θ_run Cert.AdamOutRefIdeal.defs _ _).mono (fun r h => ⟨fun c => (h c).2.2.2.2, sem_eq_zero_of_no_sems (by decide) r.2⟩)
    (Cert.AdamOutRefIdeal.Value.run (F := Ideal) m ρ)

theorem value_Out : Cert.algebraic_AdamOutIdeal_AdamOutRefIdeal := by
  open Cert.AdamOutIdeal.Adam Cert.AdamOutRefIdeal.Adam Cert.AdamOutRefIdeal.Read in
  intro m g m' g' _ ha
  refine ⟨resG m, resD m, resM m, resV m, ?_, ?_⟩
  · refine (θ_run Cert.AdamOutIdeal.defs _ _).mono (fun r h c => ?_) (Cert.AdamOutIdeal.Value.run_blocks (F := Ideal) m g)
    obtain ⟨h0, h1, h2, h3, hk⟩ := h c
    exact ⟨h0.trans (final_g m c), h1.trans (final_d m c), h2.trans (final_m m c), h3.trans (final_v m c), hk⟩
  · refine (θ_run Cert.AdamOutRefIdeal.defs _ _).mono (fun r h c => ?_) (Cert.AdamOutRefIdeal.Value.run (F := Ideal) m' g')
    obtain ⟨h0, h1, h2, h3, hk⟩ := h c
    obtain ⟨a0, a1, a2, a3, a4⟩ := ha c
    rw [a0, a1] at h0
    rw [a0, a1, a2, a3, a4] at h1
    rw [a0, a1, a3] at h2
    rw [a0, a1, a4] at h3
    exact ⟨h0.trans (ref_g _ _), h1.trans (ref_d _ _ _ _ _), h2.trans (ref_m _ _ _), h3.trans (ref_v _ _ _), hk⟩

theorem frame_Down : Cert.quiescent_AdamDownRefIdeal := fun m ρ _ =>
  (θ_run Cert.AdamDownRefIdeal.defs _ _).mono (fun r h => ⟨fun c => (h c).2.2.2.2, sem_eq_zero_of_no_sems (by decide) r.2⟩)
    (Cert.AdamDownRefIdeal.Value.run (F := Ideal) m ρ)

theorem value_Down : Cert.algebraic_AdamDownIdeal_AdamDownRefIdeal := by
  open Cert.AdamDownIdeal.Adam Cert.AdamDownRefIdeal.Adam Cert.AdamDownRefIdeal.Read in
  intro m g m' g' _ ha
  refine ⟨resG m, resD m, resM m, resV m, ?_, ?_⟩
  · refine (θ_run Cert.AdamDownIdeal.defs _ _).mono (fun r h c => ?_) (Cert.AdamDownIdeal.Value.run_blocks (F := Ideal) m g)
    obtain ⟨h0, h1, h2, h3, hk⟩ := h c
    exact ⟨h0.trans (final_g m c), h1.trans (final_d m c), h2.trans (final_m m c), h3.trans (final_v m c), hk⟩
  · refine (θ_run Cert.AdamDownRefIdeal.defs _ _).mono (fun r h c => ?_) (Cert.AdamDownRefIdeal.Value.run (F := Ideal) m' g')
    obtain ⟨h0, h1, h2, h3, hk⟩ := h c
    obtain ⟨a0, a1, a2, a3, a4⟩ := ha c
    rw [a0, a1] at h0
    rw [a0, a1, a2, a3, a4] at h1
    rw [a0, a1, a3] at h2
    rw [a0, a1, a4] at h3
    exact ⟨h0.trans (ref_g _ _), h1.trans (ref_d _ _ _ _ _), h2.trans (ref_m _ _ _), h3.trans (ref_v _ _ _), hk⟩

end Cert.Adam

end
-- ==== Proof.AdamWide.lean ====
module

public import proofs.«01_k».proof.Defs
public import proofs.«01_k».proof.Proof.Gen.AdamWide.Frame
public import proofs.«01_k».proof.Proof.Gen.AdamWideIdeal.Value
public import proofs.«01_k».proof.Proof.Gen.AdamWideRefIdeal.Run
public import proofs.«01_k».proof.Proof.Adam

@[expose] public section

set_option maxRecDepth 16384

noncomputable section

/-! The claims about the AdamW step of a weight of the state-space mixer's input (its real part and its imaginary part are two
    calls of the same program): the reference's frame, and the value. -/

namespace Cert.Adam.Wide

open Idealize.ShloMosaic Idealize.ShloMosaic.TcCoe Idealize.ShloMosaic.Tactic Idealize.SL.Sem

attribute [local instance] Cert.AdamWide.Gen.facts Cert.AdamWideIdeal.Gen.facts Cert.AdamWideRefIdeal.Gen.facts

theorem frame : Cert.quiescent_AdamWideRefIdeal := fun m ρ _ =>
  (θ_run Cert.AdamWideRefIdeal.defs _ _).mono (fun r h => ⟨fun c => (h c).2.2.2.2, sem_eq_zero_of_no_sems (by decide) r.2⟩)
    (Cert.AdamWideRefIdeal.Value.run (F := Ideal) m ρ)

section

open Cert.AdamWideIdeal

variable (m : (ℓ : Loc nD τ sig) → Buf (Elt Ideal) ℓ) (c : Dev nD)

abbrev argG : S4096x16.Idx → EReal := m ((c : Thread nD τ).loc main_arg0)
abbrev argW : S4096x16.Idx → EReal := m ((c : Thread nD τ).loc main_arg1)
abbrev argM : S4096x16.Idx → EReal := m ((c : Thread nD τ).loc main_arg2)
abbrev argV : S4096x16.Idx → EReal := m ((c : Thread nD τ).loc main_arg3)

end

/-- From equal arguments the kernel and the reference end with the same gradient, the same step `delta` and the same moments
    `newM` and `newV`, over the extended reals, whatever the arguments. -/
theorem value : Cert.algebraic_AdamWideIdeal_AdamWideRefIdeal := by
  intro m g m' g' _ ha
  refine ⟨fun c => argG m c, fun c => delta (argG m c) (argW m c) (argM m c) (argV m c), fun c => newM (argG m c) (argM m c),
    fun c => newV (argG m c) (argV m c), Cert.AdamWideIdeal.Value.run (F := Ideal) m g, ?_⟩
  refine (θ_run Cert.AdamWideRefIdeal.defs _ _).mono (fun r h c => ?_) (Cert.AdamWideRefIdeal.Value.run (F := Ideal) m' g')
  obtain ⟨h0, h1, h2, h3, hk⟩ := h c
  obtain ⟨a0, a1, a2, a3⟩ := ha c
  rw [a0, a1, a2, a3] at h1
  rw [a0, a2] at h2
  rw [a0, a3] at h3
  exact ⟨h0.trans a0, h1.trans rfl, h2.trans rfl, h3.trans rfl, hk⟩

end Cert.Adam.Wide

end
-- ==== Proof.NormLoss.lean ====
module

public import proofs.«01_k».proof.Proof.Norm
public import proofs.«01_k».proof.Proof.Gen.FinalIdeal.Value
public import Idealize.ShloMosaic.Lib.Pipeline.ReadBack

@[expose] public section

set_option maxRecDepth 16384

noncomputable section

/-! The layer's last sum, the loss and the loss's gradient: what a grid point of the kernel stores, and the arrays it leaves. -/

namespace Cert.Norm

open Idealize.ShloMosaic

/-- `1/2` and `1/2048`. -/
abbrev cHalf : EReal := Ideal.ofBits .f32 1056964608#32
abbrev cStep : EReal := Ideal.ofBits .f32 973078528#32

theorem cHalf_eq : cHalf = (((1 : ℝ) / 2 : ℝ) : EReal) := by simp [cHalf, Ideal.ofBits, Ideal.ieee, -EReal.coe_mul]; norm_num
theorem cStep_eq : cStep = (((1 : ℝ) / 2048 : ℝ) : EReal) := by simp [cStep, Ideal.ofBits, Ideal.ieee, -EReal.coe_mul]; norm_num
theorem cWide_eq : cWide = ((2048 : ℝ) : EReal) := by simp [cWide, Ideal.ofBits, Ideal.ieee, -EReal.coe_mul]; norm_num

/-- Half a sum is the sum of the halves. -/
theorem half_add (a b : EReal) : cHalf * (a + b) = cHalf * a + cHalf * b := by
  rw [cHalf_eq]
  exact EReal.left_distrib_of_nonneg_of_ne_top (by exact_mod_cast (by norm_num : (0 : ℝ) ≤ 1 / 2)) (EReal.coe_ne_top _) a b

section
variable (f x g s t : Fin 2048 → EReal)

/-- A row's error: the residual and the gated, normalised sublayer, less the target. -/
def err : Fin 2048 → EReal := fun q => x q + s q * (unit cWide f q * g q) - t q
/-- A row's mean squared error. -/
def mse : EReal := Ideal.div (∑ q, err f x g s t q * err f x g s t q) cWide
/-- The loss's gradient at a row of the residual. -/
def derr : Fin 2048 → EReal := fun q => err f x g s t q * cStep
/-- The loss's gradient at a row of the sublayer. -/
def dsub : Fin 2048 → EReal := dunit cWide f fun q => s q * derr f x g s t q * g q
end

end Cert.Norm

namespace Cert.FinalIdeal.Norm

open Cert.Norm Cert.FinalIdeal Cert.FinalIdeal.Gen Cert.FinalIdeal.Value Idealize.ShloMosaic Idealize.ShloMosaic.TcCoe Idealize.ShloMosaic.Tactic Idealize.SL.Sem
open Idealize.ShloMosaic.Pipeline (Dat)

section Block
variable (x0 x1 x4 : Vec Ideal S256x2048 .f32) (x2 x3 : Vec Ideal S1x2048 .f32)

/-! The values of one point, at an index. -/

theorem pay5 (r : Fin 256) : k0_pay5 x0 (ix2 r 0) = ms cWide (rows x0 r) := by
  unfold k0_pay5; pointwise; rfl
theorem pay6 (r : Fin 256) : k0_pay6 x0 (ix2 r 0) = inv cWide (rows x0 r) := by
  unfold k0_pay6; pointwise; rw [pay5]; rfl
theorem pay7 (r : Fin 256) : k0_pay7 x0 (ix2 r 0) = Cert.Gating.cNegHalf * Ideal.div (inv cWide (rows x0 r)) (ms cWide (rows x0 r)) := by
  unfold k0_pay7; pointwise; rw [pay5, pay6]
theorem pay8 (r : Fin 256) (q : Fin 2048) : k0_pay8 x0 (ix2 r q) = unit cWide (rows x0 r) q := by
  unfold k0_pay8; pointwise; rw [pay6]; rfl
theorem pay9 (r : Fin 256) (q : Fin 2048) : k0_pay9 x0 x2 (ix2 r q) = unit cWide (rows x0 r) q * x2 (ix2 0 q) := by
  unfold k0_pay9; pointwise; rw [pay8]

/-- The block of the errors. -/
abbrev errB : Vec Ideal S256x2048 .f32 := k0_pay10 x0 x2 x3 x1 x4

theorem errB_apply (r : Fin 256) (q : Fin 2048) :
    errB x0 x1 x4 x2 x3 (ix2 r q) = err (rows x0 r) (rows x1 r) (rows x2 0) (rows x3 0) (rows x4 r) q := by
  unfold errB k0_pay10; pointwise; rw [pay9]; rfl

theorem pay14_apply (r : Fin 256) (q : Fin 2048) :
    k0_pay14 (F := Ideal) (errB x0 x1 x4 x2 x3) (ix2 r q) = derr (rows x0 r) (rows x1 r) (rows x2 0) (rows x3 0) (rows x4 r) q := by
  unfold k0_pay14; pointwise; rw [errB_apply]; rfl

theorem pay15_apply (r : Fin 256) (q : Fin 2048) :
    k0_pay15 x3 (errB x0 x1 x4 x2 x3) (ix2 r q) = x3 (ix2 0 q) * derr (rows x0 r) (rows x1 r) (rows x2 0) (rows x3 0) (rows x4 r) q := by
  unfold k0_pay15; pointwise; rw [pay14_apply]

/-- The loss, with a block's part added. -/
theorem loss_apply (a : Vec Ideal S1x1 .f32) : k0_pay13 (k0_pay11 a) (k0_pay12 x0 x2 x3 x1 x4) (Scalar.ofBits .f32 1056964608#32) (ix2 0 0)
    = a (ix2 0 0) + cHalf * ∑ r, mse (rows x0 r) (rows x1 r) (rows x2 0) (rows x3 0) (rows x4 r) := by
  unfold k0_pay13 k0_pay11 k0_pay12; pointwise
  simp only [errB_apply]
  rfl

/-- The gate's part of a block. -/
theorem gate_apply (q : Fin 2048) : k0_pay16 (k0_pay9 x0 x2) (errB x0 x1 x4 x2 x3) (ix2 0 q)
    = ∑ r, derr (rows x0 r) (rows x1 r) (rows x2 0) (rows x3 0) (rows x4 r) q * (unit cWide (rows x0 r) q * x2 (ix2 0 q)) := by
  unfold k0_pay16; pointwise
  simp only [pay14_apply, pay9]

/-- The gain's gradient, with a block's part added. -/
theorem gain_apply (a : Vec Ideal S1x2048 .f32) (q : Fin 2048) : k0_pay18 x3 (k0_pay8 x0) (errB x0 x1 x4 x2 x3) a (ix2 0 q)
    = a (ix2 0 q) + ∑ r, unit cWide (rows x0 r) q * (x3 (ix2 0 q) * derr (rows x0 r) (rows x1 r) (rows x2 0) (rows x3 0) (rows x4 r) q) := by
  unfold k0_pay18; pointwise
  simp only [pay15_apply, pay8]

/-- The block of the sublayer's gradient. -/
abbrev dsubB : Vec Ideal S256x2048 .bf16 := k0_pay17 x0 x2 x3 (k0_pay6 x0) (k0_pay7 x0) (errB x0 x1 x4 x2 x3)

theorem dsubB_apply (r : Fin 256) (q : Fin 2048) :
    dsubB x0 x1 x4 x2 x3 (ix2 r q) = dsub (rows x0 r) (rows x1 r) (rows x2 0) (rows x3 0) (rows x4 r) q := by
  unfold dsubB k0_pay17; pointwise
  simp only [pay6, pay7, pay15_apply, Fin.sum_univ_one]
  rfl

theorem pay1_apply (a b : Vec Ideal S1x2048 .f32) (q : Fin 2048) : k0_pay1 a b (ix2 0 q) = b (ix2 0 q) + a (ix2 0 q) := by
  unfold k0_pay1; pointwise
theorem pay2_apply (j : S1x1.Idx) : k0_pay2 (F := Ideal) j = 0 := by unfold k0_pay2; pointwise
theorem pay3_apply (j : S1x2048.Idx) : k0_pay3 (F := Ideal) j = 0 := by unfold k0_pay3; pointwise
theorem pay4_apply (j : S1x2048.Idx) : k0_pay4 (F := Ideal) j = 0 := by unfold k0_pay4; pointwise
end Block

section Stores
variable (c : Dev nD) (i : grid0.Coords)
  (a1 : Memref sig .tc .vmem S256x2048 .f32) (h1 : a1.IsWhole)
  (a2 : Memref sig .tc .vmem S256x2048 .f32) (h2 : a2.IsWhole)
  (a3 : Memref sig .tc .vmem S1x2048 .f32) (h3 : a3.IsWhole)
  (a4 : Memref sig .tc .vmem S1x2048 .f32) (h4 : a4.IsWhole)
  (a5 : Memref sig .tc .vmem S256x2048 .f32) (h5 : a5.IsWhole)
  (a6 : Memref sig .tc .vmem S1x1 .f32) (h6 : a6.IsWhole)
  (a7 : Memref sig .tc .vmem S256x2048 .f32) (h7 : a7.IsWhole)
  (a8 : Memref sig .tc .vmem S256x2048 .bf16) (h8 : a8.IsWhole)
  (a9 : Memref sig .tc .vmem S1x2048 .f32) (h9 : a9.IsWhole)
  (a10 : Memref sig .tc .vmem S1x2048 .f32) (h10 : a10.IsWhole)
  (x0 x1 x4 : Vec Ideal S256x2048 .f32) (x2 x3 xo8 xo9 : Vec Ideal S1x2048 .f32) (xo5 : Vec Ideal S1x1 .f32)

/-- The output blocks at the first point. -/
theorem outs_A (hc : cond0_0 i) :
    out0_A_5 (F := Ideal) c i a1 h1 a2 h2 a3 h3 a4 h4 a5 h5 a6 h6 a7 h7 a8 h8 a9 h9 a10 h10 hc x0 x1 x2 x3 x4 = k0_pay13 (k0_pay11 (k0_pay2 (F := Ideal))) (k0_pay12 x0 x2 x3 x1 x4) (Scalar.ofBits .f32 1056964608#32) ∧
    out0_A_6 (F := Ideal) c i a1 h1 a2 h2 a3 h3 a4 h4 a5 h5 a6 h6 a7 h7 a8 h8 a9 h9 a10 h10 hc x0 x1 x2 x3 x4 = k0_pay14 (F := Ideal) (errB x0 x1 x4 x2 x3) ∧
    out0_A_7 (F := Ideal) c i a1 h1 a2 h2 a3 h3 a4 h4 a5 h5 a6 h6 a7 h7 a8 h8 a9 h9 a10 h10 hc x0 x1 x2 x3 x4 = dsubB x0 x1 x4 x2 x3 ∧
    out0_A_8 (F := Ideal) c i a1 h1 a2 h2 a3 h3 a4 h4 a5 h5 a6 h6 a7 h7 a8 h8 a9 h9 a10 h10 hc x0 x1 x2 x3 x4 = k0_pay18 x3 (k0_pay8 x0) (errB x0 x1 x4 x2 x3) (k0_pay3 (F := Ideal)) ∧
    out0_A_9 (F := Ideal) c i a1 h1 a2 h2 a3 h3 a4 h4 a5 h5 a6 h6 a7 h7 a8 h8 a9 h9 a10 h10 hc x0 x1 x2 x3 x4 = k0_pay1 (k0_pay16 (k0_pay9 x0 x2) (errB x0 x1 x4 x2 x3)) (k0_pay4 (F := Ideal)) := by
  refine ⟨(View.read_writes_eq_canon _ _ _ (cover0_A_5 c i a1 h1 a2 h2 a3 h3 a4 h4 a5 h5 a6 h6 a7 h7 a8 h8 a9 h9 a10 h10 hc x0 x1 x2 x3 x4)).trans ?_,
    (View.read_writes_eq_canon _ _ _ (cover0_A_6 c i a1 h1 a2 h2 a3 h3 a4 h4 a5 h5 a6 h6 a7 h7 a8 h8 a9 h9 a10 h10 hc x0 x1 x2 x3 x4)).trans ?_,
    (View.read_writes_eq_canon _ _ _ (cover0_A_7 c i a1 h1 a2 h2 a3 h3 a4 h4 a5 h5 a6 h6 a7 h7 a8 h8 a9 h9 a10 h10 hc x0 x1 x2 x3 x4)).trans ?_,
    (View.read_writes_eq_canon _ _ _ (cover0_A_8 c i a1 h1 a2 h2 a3 h3 a4 h4 a5 h5 a6 h6 a7 h7 a8 h8 a9 h9 a10 h10 hc x0 x1 x2 x3 x4)).trans ?_,
    (View.read_writes_eq_canon _ _ _ (cover0_A_9 c i a1 h1 a2 h2 a3 h3 a4 h4 a5 h5 a6 h6 a7 h7 a8 h8 a9 h9 a10 h10 hc x0 x1 x2 x3 x4)).trans ?_⟩
  all_goals
    unfold kernelRun0_A
    dsimp only
    sl_unfold_words
    simp only [View.readAt_eq_ld, h1.read_unread, h2.read_unread, h3.read_unread, h4.read_unread, h5.read_unread, h6.read_unread, h7.read_unread, h8.read_unread, h9.read_unread, h10.read_unread, View.ld_unit_zero (S := S256x2048) hz,
      View.ld_unit_zero (S := S1x2048) hz, View.ld_unit_zero (S := S1x1) hz, shapeCast_self]
  · rw [View.canon_cons_unit_zero (S := S1x1) hz]
    simp only [View.readCov_unit_zero (S := S1x1) _ hz]
  · rw [View.canon_unit_zero hz]
  · rw [View.canon_unit_zero hz]
  all_goals
    rw [View.canon_cons_unit_zero (S := S1x2048) hz]
    simp only [View.readCov_unit_zero (S := S1x2048) _ hz]

/-- The output blocks at the points after it. -/
theorem outs_B (hc : ¬cond0_0 i) :
    out0_B_5 (F := Ideal) c i a1 h1 a2 h2 a3 h3 a4 h4 a5 h5 a6 h6 a7 h7 a8 h8 a9 h9 a10 h10 hc x0 x1 x2 x3 x4 xo5 xo8 xo9 = k0_pay13 (k0_pay11 xo5) (k0_pay12 x0 x2 x3 x1 x4) (Scalar.ofBits .f32 1056964608#32) ∧
    out0_B_6 (F := Ideal) c i a1 h1 a2 h2 a3 h3 a4 h4 a5 h5 a6 h6 a7 h7 a8 h8 a9 h9 a10 h10 hc x0 x1 x2 x3 x4 xo5 xo8 xo9 = k0_pay14 (F := Ideal) (errB x0 x1 x4 x2 x3) ∧
    out0_B_7 (F := Ideal) c i a1 h1 a2 h2 a3 h3 a4 h4 a5 h5 a6 h6 a7 h7 a8 h8 a9 h9 a10 h10 hc x0 x1 x2 x3 x4 xo5 xo8 xo9 = dsubB x0 x1 x4 x2 x3 ∧
    out0_B_8 (F := Ideal) c i a1 h1 a2 h2 a3 h3 a4 h4 a5 h5 a6 h6 a7 h7 a8 h8 a9 h9 a10 h10 hc x0 x1 x2 x3 x4 xo5 xo8 xo9 = k0_pay18 x3 (k0_pay8 x0) (errB x0 x1 x4 x2 x3) xo8 ∧
    out0_B_9 (F := Ideal) c i a1 h1 a2 h2 a3 h3 a4 h4 a5 h5 a6 h6 a7 h7 a8 h8 a9 h9 a10 h10 hc x0 x1 x2 x3 x4 xo5 xo8 xo9 = k0_pay1 (k0_pay16 (k0_pay9 x0 x2) (errB x0 x1 x4 x2 x3)) xo9 := by
  refine ⟨(View.read_writes_eq_canon _ _ _ (cover0_B_5 c i a1 h1 a2 h2 a3 h3 a4 h4 a5 h5 a6 h6 a7 h7 a8 h8 a9 h9 a10 h10 hc x0 x1 x2 x3 x4 xo5 xo8 xo9)).trans ?_,
    (View.read_writes_eq_canon _ _ _ (cover0_B_6 c i a1 h1 a2 h2 a3 h3 a4 h4 a5 h5 a6 h6 a7 h7 a8 h8 a9 h9 a10 h10 hc x0 x1 x2 x3 x4 xo5 xo8 xo9)).trans ?_,
    (View.read_writes_eq_canon _ _ _ (cover0_B_7 c i a1 h1 a2 h2 a3 h3 a4 h4 a5 h5 a6 h6 a7 h7 a8 h8 a9 h9 a10 h10 hc x0 x1 x2 x3 x4 xo5 xo8 xo9)).trans ?_,
    (View.read_writes_eq_canon _ _ _ (cover0_B_8 c i a1 h1 a2 h2 a3 h3 a4 h4 a5 h5 a6 h6 a7 h7 a8 h8 a9 h9 a10 h10 hc x0 x1 x2 x3 x4 xo5 xo8 xo9)).trans ?_,
    (View.read_writes_eq_canon _ _ _ (cover0_B_9 c i a1 h1 a2 h2 a3 h3 a4 h4 a5 h5 a6 h6 a7 h7 a8 h8 a9 h9 a10 h10 hc x0 x1 x2 x3 x4 xo5 xo8 xo9)).trans ?_⟩
  all_goals
    unfold kernelRun0_B
    dsimp only
    sl_unfold_words
    simp only [View.readAt_eq_ld, h1.read_unread, h2.read_unread, h3.read_unread, h4.read_unread, h5.read_unread, h6.read_unread, h7.read_unread, h8.read_unread, h9.read_unread, h10.read_unread, View.ld_unit_zero (S := S256x2048) hz,
      View.ld_unit_zero (S := S1x2048) hz, View.ld_unit_zero (S := S1x1) hz, shapeCast_self]
    rw [View.canon_unit_zero hz]
end Stores

variable (m : (ℓ : Loc nD τ sig) → Buf (Elt Ideal) ℓ) (c : Dev nD)

/-! The arguments, row by row. -/

abbrev argF (i : Fin 2048) : Fin 2048 → EReal := rows (m (c.tc.loc main_arg0) : Vec Ideal S2048x2048 .f32) i
abbrev argX (i : Fin 2048) : Fin 2048 → EReal := rows (m (c.tc.loc main_arg1) : Vec Ideal S2048x2048 .f32) i
abbrev argG : Fin 2048 → EReal := rows (m (c.tc.loc main_arg2) : Vec Ideal S1x2048 .f32) 0
abbrev argS : Fin 2048 → EReal := rows (m (c.tc.loc main_arg3) : Vec Ideal S1x2048 .f32) 0
abbrev argT (i : Fin 2048) : Fin 2048 → EReal := rows (m (c.tc.loc main_arg4) : Vec Ideal S2048x2048 .f32) i

theorem idx_eq : ∀ t : Fin grid0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = 0 ∧ win0_5.index t 1 = 0)
    ∧ (win0_6.index t 0 = t.val ∧ win0_6.index t 1 = 0)
    ∧ (win0_7.index t 0 = t.val ∧ win0_7.index t 1 = 0)
    ∧ (win0_8.index t 0 = 0 ∧ win0_8.index t 1 = 0)
    ∧ (win0_9.index t 0 = 0 ∧ win0_9.index t 1 = 0) := by
  decide +kernel

theorem t_lt (t : Fin cfg0.N) : t.val < 8 := lt_of_lt_of_eq t.isLt N_0

/-! What a point loads. -/

theorem block0 (t : Fin cfg0.N) (r : Fin 256) : rows (iblk m c 0 t : Vec Ideal S256x2048 .f32) r = argF m c (rowOf t.val r) := by
  have ht := t_lt t
  have e := (idx_eq t).1
  funext q
  show (iblk m c 0 t : Vec Ideal S256x2048 .f32) (ix2 r q) = _
  unfold iblk
  rw [View.read_apply]
  show V m c main_arg0 _ = _
  rw [V_main_arg0]
  exact entry _ (by show win0_0.index t 0 * 256 + 1 * r.val = (256 * t.val + r.val) % 2048; omega) (by show win0_0.index t 1 * 2048 + 1 * q.val = q.val; omega)

theorem block1 (t : Fin cfg0.N) (r : Fin 256) : rows (iblk m c 1 t : Vec Ideal S256x2048 .f32) r = argX m c (rowOf t.val r) := by
  have ht := t_lt t
  have e := (idx_eq t).2.1
  funext q
  show (iblk m c 1 t : Vec Ideal S256x2048 .f32) (ix2 r q) = _
  unfold iblk
  rw [View.read_apply]
  show V m c main_arg1 _ = _
  rw [V_main_arg1]
  exact entry _ (by show win0_1.index t 0 * 256 + 1 * r.val = (256 * t.val + r.val) % 2048; omega) (by show win0_1.index t 1 * 2048 + 1 * q.val = q.val; omega)

theorem block4 (t : Fin cfg0.N) (r : Fin 256) : rows (iblk m c 4 t : Vec Ideal S256x2048 .f32) r = argT m c (rowOf t.val r) := by
  have ht := t_lt t
  have e := (idx_eq t).2.2.2.2.1
  funext q
  show (iblk m c 4 t : Vec Ideal S256x2048 .f32) (ix2 r q) = _
  unfold iblk
  rw [View.read_apply]
  show V m c main_arg4 _ = _
  rw [V_main_arg4]
  exact entry _ (by show win0_4.index t 0 * 256 + 1 * r.val = (256 * t.val + r.val) % 2048; omega) (by show win0_4.index t 1 * 2048 + 1 * q.val = q.val; omega)

theorem block2 (t : Fin cfg0.N) : rows (iblk m c 2 t : Vec Ideal S1x2048 .f32) 0 = argG m c := by
  have e := (idx_eq t).2.2.1
  funext q
  show (iblk m c 2 t : Vec Ideal S1x2048 .f32) (ix2 0 q) = _
  unfold iblk
  rw [View.read_apply]
  show V m c main_arg2 _ = _
  rw [V_main_arg2]
  exact entry _ (by show win0_2.index t 0 * 1 + 1 * 0 = 0; omega) (by show win0_2.index t 1 * 2048 + 1 * q.val = q.val; omega)

theorem block3 (t : Fin cfg0.N) : rows (iblk m c 3 t : Vec Ideal S1x2048 .f32) 0 = argS m c := by
  have e := (idx_eq t).2.2.2.1
  funext q
  show (iblk m c 3 t : Vec Ideal S1x2048 .f32) (ix2 0 q) = _
  unfold iblk
  rw [View.read_apply]
  show V m c main_arg3 _ = _
  rw [V_main_arg3]
  exact entry _ (by show win0_3.index t 0 * 1 + 1 * 0 = 0; omega) (by show win0_3.index t 1 * 2048 + 1 * q.val = q.val; omega)

/-! A row's gradients, and its part of the three sums. -/

def dxRow (i : Fin 2048) : Fin 2048 → EReal := derr (argF m c i) (argX m c i) (argG m c) (argS m c) (argT m c i)
def dfRow (i : Fin 2048) : Fin 2048 → EReal := dsub (argF m c i) (argX m c i) (argG m c) (argS m c) (argT m c i)
def lossRow (i : Fin 2048) (_ : Fin 1) : EReal := mse (argF m c i) (argX m c i) (argG m c) (argS m c) (argT m c i)
def gainRow (i : Fin 2048) (q : Fin 2048) : EReal := unit cWide (argF m c i) q * (argS m c q * dxRow m c i q)
def gateRow (i : Fin 2048) (q : Fin 2048) : EReal := dxRow m c i q * (unit cWide (argF m c i) q * argG m c q)

theorem loss_block (t : Fin cfg0.N) (a : Vec Ideal S1x1 .f32) :
    k0_pay13 (k0_pay11 a) (k0_pay12 (iblk m c 0 t) (iblk m c 2 t) (iblk m c 3 t) (iblk m c 1 t) (iblk m c 4 t)) (Scalar.ofBits .f32 1056964608#32) (ix2 0 0)
      = a (ix2 0 0) + cHalf * ∑ r, lossRow m c (rowOf t.val r) 0 := by
  rw [loss_apply]
  simp only [block0, block1, block2, block3, block4]
  rfl
theorem gain_block (t : Fin cfg0.N) (a : Vec Ideal S1x2048 .f32) (q : Fin 2048) :
    k0_pay18 (iblk m c 3 t) (k0_pay8 (iblk m c 0 t)) (errB (iblk m c 0 t) (iblk m c 1 t) (iblk m c 4 t) (iblk m c 2 t) (iblk m c 3 t)) a (ix2 0 q)
      = a (ix2 0 q) + ∑ r, gainRow m c (rowOf t.val r) q := by
  rw [gain_apply]
  simp only [block0, block1, block2, block3, block4]
  rw [show (iblk m c 3 t : Vec Ideal S1x2048 .f32) (ix2 0 q) = argS m c q from congrFun (block3 m c t) q]
  rfl
theorem gate_block (t : Fin cfg0.N) (a : Vec Ideal S1x2048 .f32) (q : Fin 2048) :
    k0_pay1 (k0_pay16 (k0_pay9 (iblk m c 0 t) (iblk m c 2 t)) (errB (iblk m c 0 t) (iblk m c 1 t) (iblk m c 4 t) (iblk m c 2 t) (iblk m c 3 t))) a (ix2 0 q)
      = a (ix2 0 q) + ∑ r, gateRow m c (rowOf t.val r) q := by
  rw [pay1_apply, gate_apply]
  simp only [block0, block1, block2, block3, block4]
  rw [show (iblk m c 2 t : Vec Ideal S1x2048 .f32) (ix2 0 q) = argG m c q from congrFun (block2 m c t) q]
  rfl
theorem dx_block (t : Fin cfg0.N) (r : Fin 256) (q : Fin 2048) :
    k0_pay14 (F := Ideal) (errB (iblk m c 0 t) (iblk m c 1 t) (iblk m c 4 t) (iblk m c 2 t) (iblk m c 3 t)) (ix2 r q) = dxRow m c (rowOf t.val r) q := by
  rw [pay14_apply, block0, block1, block2, block3, block4]
  rfl
theorem df_block (t : Fin cfg0.N) (r : Fin 256) (q : Fin 2048) :
    dsubB (iblk m c 0 t) (iblk m c 1 t) (iblk m c 4 t) (iblk m c 2 t) (iblk m c 3 t) (ix2 r q) = dfRow m c (rowOf t.val r) q := by
  rw [dsubB_apply, block0, block1, block2, block3, block4]
  rfl

/-- What point `n` leaves in the three sums. -/
structure After (n : Nat) (o5 : Vec Ideal S1x1 .f32) (o8 o9 : Vec Ideal S1x2048 .f32) : Prop where
  a5 : o5 (ix2 0 0) = cHalf * partSum (lossRow m c) (n + 1) 0
  a8 : ∀ q, o8 (ix2 0 q) = partSum (gainRow m c) (n + 1) q
  a9 : ∀ q, o9 (ix2 0 q) = partSum (gateRow m c) (n + 1) q

/-- Every point leaves the sums so far. -/
theorem after_eq (n : Nat) : ∀ h : n < cfg0.N, After m c n (outsAt0 m c n h).1 (outsAt0 m c n h).2.2.2.1 (outsAt0 m c n h).2.2.2.2 := by
  induction n with
  | zero =>
    intro h
    rw [outsAt0_A m c ⟨0, h⟩ rfl]
    dsimp only
    obtain ⟨e5, -, -, e8, e9⟩ := outs_A c _ _ _ _ _ _ _ _ _ _ _ _ _ _ _ _ _ _ _ _ _ _ _ _ _ _ _
    rw [e5, e8, e9]
    refine ⟨?_, fun q => ?_, fun q => ?_⟩
    · rw [loss_block, pay2_apply, partSum_succ, partSum_zero, zero_add, zero_add]
    · rw [gain_block, pay3_apply, partSum_succ, partSum_zero]
    · rw [gate_block, pay4_apply, partSum_succ, partSum_zero]
  | succ n ih =>
    intro h
    have hn : n + 1 < 8 := t_lt ⟨n + 1, h⟩
    obtain ⟨I5, I8, I9⟩ := ih (by omega)
    rw [outsAt0_B m c ⟨n + 1, h⟩ (by dsimp only; omega)]
    dsimp only
    obtain ⟨e5, -, -, e8, e9⟩ := outs_B c _ _ _ _ _ _ _ _ _ _ _ _ _ _ _ _ _ _ _ _ _ _ _ _ _ _ _ _ _ _
    rw [e5, e8, e9]
    refine ⟨?_, fun q => ?_, fun q => ?_⟩
    · rw [loss_block, partSum_succ, half_add]; exact congrArg (· + _) I5
    · rw [gain_block, partSum_succ]; exact congrArg (· + _) (I8 q)
    · rw [gate_block, partSum_succ]; exact congrArg (· + _) (I9 q)

/-- Every point leaves its blocks of the two gradients. -/
theorem row_eq (t : Fin cfg0.N) (r : Fin 256) (q : Fin 2048) :
    ((outsAt0 m c t.val t.isLt).2.1 : Vec Ideal S256x2048 .f32) (ix2 r q) = dxRow m c (rowOf t.val r) q
    ∧ ((outsAt0 m c t.val t.isLt).2.2.1 : Vec Ideal S256x2048 .bf16) (ix2 r q) = dfRow m c (rowOf t.val r) q := by
  by_cases h0 : t.val % 8 = 0
  · rw [outsAt0_A m c t h0]
    dsimp only
    obtain ⟨-, e6, e7, -⟩ := outs_A c _ _ _ _ _ _ _ _ _ _ _ _ _ _ _ _ _ _ _ _ _ _ _ _ _ _ _
    rw [e6, e7]
    exact ⟨dx_block m c t r q, df_block m c t r q⟩
  · rw [outsAt0_B m c t h0]
    dsimp only
    obtain ⟨-, e6, e7, -⟩ := outs_B c _ _ _ _ _ _ _ _ _ _ _ _ _ _ _ _ _ _ _ _ _ _ _ _ _ _ _ _ _ _
    rw [e6, e7]
    exact ⟨dx_block m c t r q, df_block m c t r q⟩

/-! What the five result arrays end holding. -/

abbrev resL : Buf (Elt Ideal) ((c : Thread nD τ).loc main_v0_0) := fun _ : S1x1.Idx => (cHalf * ∑ k, lossRow m c k 0 : EReal)
abbrev resX : Buf (Elt Ideal) ((c : Thread nD τ).loc main_v0_1) := fun i : S2048x2048.Idx => dxRow m c (i 0) (i 1)
abbrev resF : Buf (Elt Ideal) ((c : Thread nD τ).loc main_v0_2) := fun i : S2048x2048.Idx => dfRow m c (i 0) (i 1)
abbrev resG : Buf (Elt Ideal) ((c : Thread nD τ).loc main_v0_3) := fun i : S1x2048.Idx => (∑ k, gainRow m c k (i 1) : EReal)
abbrev resS : Buf (Elt Ideal) ((c : Thread nD τ).loc main_v0_4) := fun i : S1x2048.Idx => (∑ k, gateRow m c k (i 1) : EReal)

/-- The last point. -/
abbrev lastPoint : Fin cfg0.N := ⟨7, by rw [show cfg0.N = 8 from N_0]; omega⟩

/-- The residual's gradient. -/
theorem final_x : (dats m 0 c).arrAt 6 cfg0.N = resX m c := by
  refine (dats m 0 c).arrAt_eq_of_cover 6 (resX m c) (fun t _ => ?_) fun i => ?_
  · rw [flushed6]
    funext j
    rw [View.read_apply]
    have e := (idx_eq t).2.2.2.2.2.2.1
    have ht := t_lt t
    have h0 : (j 0).val < 256 := (j 0).isLt
    have h1 : (j 1).val < 2048 := (j 1).isLt
    have k : ((cfg0.win 6).blk t).view.emb j = (ix2 (rowOf t.val ⟨(j 0).val, h0⟩) ⟨(j 1).val, h1⟩ : S2048x2048.Idx) := by
      funext a
      apply Fin.ext
      match a with
      | 0 => show win0_6.index t 0 * 256 + 1 * (j 0).val = (256 * t.val + (j 0).val) % 2048; omega
      | 1 => show win0_6.index t 1 * 2048 + 1 * (j 1).val = (j 1).val; omega
    rw [k]
    refine Eq.trans ?_ (row_eq m c t ⟨(j 0).val, h0⟩ ⟨(j 1).val, h1⟩).1
    exact entry (outsAt0 m c t.val t.isLt).2.1 rfl rfl
  · have h0 : (i 0).val < 2048 := (i 0).isLt
    have h1 : (i 1).val < 2048 := (i 1).isLt
    have ht : (i 0).val / 256 < cfg0.N := by rw [show cfg0.N = 8 from N_0]; omega
    generalize ht' : (⟨(i 0).val / 256, ht⟩ : Fin cfg0.N) = t
    have hv : t.val = (i 0).val / 256 := by rw [← ht']
    have e := (idx_eq t).2.2.2.2.2.2.1
    refine ⟨t, flush0_6 t, ?_⟩
    show i ∈ ((View.whole main_v0_1).slice (win0_6.rect t)).set
    rw [View.set_slice_whole, Rect.mem_set_unit]
    intro a
    match a with
    | 0 => show win0_6.index t 0 * 256 ≤ (i 0).val ∧ (i 0).val < win0_6.index t 0 * 256 + 256; omega
    | 1 => show win0_6.index t 1 * 2048 ≤ (i 1).val ∧ (i 1).val < win0_6.index t 1 * 2048 + 2048; omega

/-- The sublayer's gradient. -/
theorem final_f : (dats m 0 c).arrAt 7 cfg0.N = resF m c := by
  refine (dats m 0 c).arrAt_eq_of_cover 7 (resF m c) (fun t _ => ?_) fun i => ?_
  · rw [flushed7]
    funext j
    rw [View.read_apply]
    have e := (idx_eq t).2.2.2.2.2.2.2.1
    have ht := t_lt t
    have h0 : (j 0).val < 256 := (j 0).isLt
    have h1 : (j 1).val < 2048 := (j 1).isLt
    have k : ((cfg0.win 7).blk t).view.emb j = (ix2 (rowOf t.val ⟨(j 0).val, h0⟩) ⟨(j 1).val, h1⟩ : S2048x2048.Idx) := by
      funext a
      apply Fin.ext
      match a with
      | 0 => show win0_7.index t 0 * 256 + 1 * (j 0).val = (256 * t.val + (j 0).val) % 2048; omega
      | 1 => show win0_7.index t 1 * 2048 + 1 * (j 1).val = (j 1).val; omega
    rw [k]
    refine Eq.trans ?_ (row_eq m c t ⟨(j 0).val, h0⟩ ⟨(j 1).val, h1⟩).2
    exact entry (outsAt0 m c t.val t.isLt).2.2.1 rfl rfl
  · have h0 : (i 0).val < 2048 := (i 0).isLt
    have h1 : (i 1).val < 2048 := (i 1).isLt
    have ht : (i 0).val / 256 < cfg0.N := by rw [show cfg0.N = 8 from N_0]; omega
    generalize ht' : (⟨(i 0).val / 256, ht⟩ : Fin cfg0.N) = t
    have hv : t.val = (i 0).val / 256 := by rw [← ht']
    have e := (idx_eq t).2.2.2.2.2.2.2.1
    refine ⟨t, flush0_7 t, ?_⟩
    show i ∈ ((View.whole main_v0_2).slice (win0_7.rect t)).set
    rw [View.set_slice_whole, Rect.mem_set_unit]
    intro a
    match a with
    | 0 => show win0_7.index t 0 * 256 ≤ (i 0).val ∧ (i 0).val < win0_7.index t 0 * 256 + 256; omega
    | 1 => show win0_7.index t 1 * 2048 ≤ (i 1).val ∧ (i 1).val < win0_7.index t 1 * 2048 + 2048; omega

/-- The loss. -/
theorem final_l : (dats m 0 c).arrAt 5 cfg0.N = resL m c := by
  refine (dats m 0 c).arrAt_eq_of_cover 5 (resL m c) (fun t hf => ?_) fun i => ?_
  · rw [flushed5]
    funext j
    rw [View.read_apply]
    have ht := t_lt t
    have hl := (flush0_5 t).mp hf
    have A := (after_eq m c t.val t.isLt).a5.trans (congrArg (cHalf * ·) ((congrArg (fun k => partSum _ k _) (show t.val + 1 = 8 by omega)).trans (partSum_all _ _)))
    refine Eq.trans ?_ A
    exact congrArg (outsAt0 m c t.val t.isLt).1 (funext fun a => match a with | 0 => Subsingleton.elim (α := Fin 1) _ _ | 1 => Subsingleton.elim (α := Fin 1) _ _)
  · have e := (idx_eq lastPoint).2.2.2.2.2.1
    have h0 : (i 0).val < 1 := (i 0).isLt
    have h1 : (i 1).val < 1 := (i 1).isLt
    refine ⟨lastPoint, (flush0_5 lastPoint).mpr rfl, ?_⟩
    show i ∈ ((View.whole main_v0_0).slice (win0_5.rect lastPoint)).set
    rw [View.set_slice_whole, Rect.mem_set_unit]
    intro a
    match a with
    | 0 => show win0_5.index lastPoint 0 * 1 ≤ (i 0).val ∧ (i 0).val < win0_5.index lastPoint 0 * 1 + 1; omega
    | 1 => show win0_5.index lastPoint 1 * 1 ≤ (i 1).val ∧ (i 1).val < win0_5.index lastPoint 1 * 1 + 1; omega

/-- The gain's gradient. -/
theorem final_g : (dats m 0 c).arrAt 8 cfg0.N = resG m c := by
  refine (dats m 0 c).arrAt_eq_of_cover 8 (resG m c) (fun t hf => ?_) fun i => ?_
  · rw [flushed8]
    funext j
    rw [View.read_apply]
    have ht := t_lt t
    have hl := (flush0_8 t).mp hf
    have e := (idx_eq t).2.2.2.2.2.2.2.2.1
    have k : ((cfg0.win 8).blk t).view.emb j = (j : S1x2048.Idx) := by
      funext a
      apply Fin.ext
      match a with
      | 0 => show win0_8.index t 0 * 1 + 1 * (j 0).val = (j 0).val; omega
      | 1 => show win0_8.index t 1 * 2048 + 1 * (j 1).val = (j 1).val; omega
    rw [k]
    have A := ((after_eq m c t.val t.isLt).a8 (j 1)).trans ((congrArg (fun k => partSum _ k _) (show t.val + 1 = 8 by omega)).trans (partSum_all _ _))
    refine Eq.trans ?_ A
    exact congrArg (outsAt0 m c t.val t.isLt).2.2.2.1 (funext fun a => match a with | 0 => Subsingleton.elim (α := Fin 1) _ _ | 1 => rfl)
  · have e := (idx_eq lastPoint).2.2.2.2.2.2.2.2.1
    have h0 : (i 0).val < 1 := (i 0).isLt
    have h1 : (i 1).val < 2048 := (i 1).isLt
    refine ⟨lastPoint, (flush0_8 lastPoint).mpr rfl, ?_⟩
    show i ∈ ((View.whole main_v0_3).slice (win0_8.rect lastPoint)).set
    rw [View.set_slice_whole, Rect.mem_set_unit]
    intro a
    match a with
    | 0 => show win0_8.index lastPoint 0 * 1 ≤ (i 0).val ∧ (i 0).val < win0_8.index lastPoint 0 * 1 + 1; omega
    | 1 => show win0_8.index lastPoint 1 * 2048 ≤ (i 1).val ∧ (i 1).val < win0_8.index lastPoint 1 * 2048 + 2048; omega

/-- The gate's gradient. -/
theorem final_s : (dats m 0 c).arrAt 9 cfg0.N = resS m c := by
  refine (dats m 0 c).arrAt_eq_of_cover 9 (resS m c) (fun t hf => ?_) fun i => ?_
  · rw [flushed9]
    funext j
    rw [View.read_apply]
    have ht := t_lt t
    have hl := (flush0_9 t).mp hf
    have e := (idx_eq t).2.2.2.2.2.2.2.2.2
    have k : ((cfg0.win 9).blk t).view.emb j = (j : S1x2048.Idx) := by
      funext a
      apply Fin.ext
      match a with
      | 0 => show win0_9.index t 0 * 1 + 1 * (j 0).val = (j 0).val; omega
      | 1 => show win0_9.index t 1 * 2048 + 1 * (j 1).val = (j 1).val; omega
    rw [k]
    have A := ((after_eq m c t.val t.isLt).a9 (j 1)).trans ((congrArg (fun k => partSum _ k _) (show t.val + 1 = 8 by omega)).trans (partSum_all _ _))
    refine Eq.trans ?_ A
    exact congrArg (outsAt0 m c t.val t.isLt).2.2.2.2 (funext fun a => match a with | 0 => Subsingleton.elim (α := Fin 1) _ _ | 1 => rfl)
  · have e := (idx_eq lastPoint).2.2.2.2.2.2.2.2.2
    have h0 : (i 0).val < 1 := (i 0).isLt
    have h1 : (i 1).val < 2048 := (i 1).isLt
    refine ⟨lastPoint, (flush0_9 lastPoint).mpr rfl, ?_⟩
    show i ∈ ((View.whole main_v0_4).slice (win0_9.rect lastPoint)).set
    rw [View.set_slice_whole, Rect.mem_set_unit]
    intro a
    match a with
    | 0 => show win0_9.index lastPoint 0 * 1 ≤ (i 0).val ∧ (i 0).val < win0_9.index lastPoint 0 * 1 + 1; omega
    | 1 => show win0_9.index lastPoint 1 * 2048 ≤ (i 1).val ∧ (i 1).val < win0_9.index lastPoint 1 * 2048 + 2048; omega

end Cert.FinalIdeal.Norm
-- ==== Proof.NormLossClaim.lean ====
module

public import proofs.«01_k».proof.Defs
public import proofs.«01_k».proof.Proof.Gen.Final.Frame
public import proofs.«01_k».proof.Proof.Gen.FinalRefIdeal.Run
public import proofs.«01_k».proof.Proof.Gen.FinalRefIdeal.Read
public import proofs.«01_k».proof.Proof.Index
public import proofs.«01_k».proof.Proof.NormLoss
public import Idealize.ShloMosaic.Lib.IdealHost

@[expose] public section

set_option maxRecDepth 16384

noncomputable section

/-! The layer's last sum, the loss and the loss's gradient: the reference's values at an index, and the five claims. -/

namespace Cert.FinalRefIdeal.Norm

open Cert.FinalRefIdeal Cert.FinalRefIdeal.Read Idealize.ShloMosaic Idealize.ShloMosaic.Tactic Idealize.SL.Sem
open Cert.Norm

variable (f x t : S2048x2048.Idx → EReal) (g s : S1x2048.Idx → EReal)

theorem v6_apply (i : Fin 2048) : val_main_v6 (F := Ideal) f (ix2 i 0) = ms cWide (rows f i) := by
  unfold val_main_v6 val_main_v5 val_main_v4 val_main_v3 val_main_v2 val_main_v1 val_main_v0 val_main_cst val_main_cst_0 val_main_cst_1
  pointwise
  rfl

theorem v7_apply (i : Fin 2048) : val_main_v7 (F := Ideal) f (ix2 i 0) = inv cWide (rows f i) := by
  unfold val_main_v7
  pointwise
  rw [v6_apply]
  rfl

theorem v10_apply (i : Fin 2048) :
    val_main_v10 (F := Ideal) f (ix2 i 0) = Cert.Gating.cNegHalf * Ideal.div (inv cWide (rows f i)) (ms cWide (rows f i)) := by
  unfold val_main_v10 val_main_v9 val_main_v8 val_main_cst_2
  pointwise
  rw [v6_apply, v7_apply]

theorem v12_apply (i q : Fin 2048) : val_main_v12 (F := Ideal) f (ix2 i q) = unit cWide (rows f i) q := by
  unfold val_main_v12 val_main_v11
  pointwise
  rw [v7_apply]
  rfl

theorem v14_apply (i q : Fin 2048) : val_main_v14 (F := Ideal) f g (ix2 i q) = unit cWide (rows f i) q * g (ix2 0 q) := by
  unfold val_main_v14 val_main_v13
  pointwise
  rw [v12_apply]

theorem v18_apply (i q : Fin 2048) :
    val_main_v18 (F := Ideal) f x g s t (ix2 i q) = err (rows f i) (rows x i) (rows g 0) (rows s 0) (rows t i) q := by
  unfold val_main_v18 val_main_v17 val_main_v16 val_main_v15
  pointwise
  rw [v14_apply]
  rfl

/-- The gradient of half a mean square is the error over the width. -/
theorem step_eq (a : EReal) : Ideal.div cHalf cWide * (Ideal.ofBits .f32 1073741824#32 * a) = a * cStep := by
  have h2 : Ideal.ofBits .f32 1073741824#32 = ((2 : ℝ) : EReal) := by simp [Ideal.ofBits, Ideal.ieee, -EReal.coe_mul]; norm_num
  have h : Ideal.div cHalf cWide * ((2 : ℝ) : EReal) = cStep := by
    rw [cHalf_eq, cWide_eq, cStep_eq, Ideal.div, if_neg (by exact_mod_cast (by norm_num : (2048 : ℝ) ≠ 0)), ← EReal.coe_inv, ← EReal.coe_mul, ← EReal.coe_mul]
    norm_num
  rw [h2, ← mul_assoc, h, mul_comm]

/-- The gradient at the residual. -/
theorem v32_apply (i q : Fin 2048) :
    val_main_v32 (F := Ideal) f x g s t (ix2 i q) = derr (rows f i) (rows x i) (rows g 0) (rows s 0) (rows t i) q := by
  unfold val_main_v32 val_main_v31 val_main_v30 val_main_v29 val_main_v28 val_main_v27 val_main_v21 val_main_v20 val_main_cst_3 val_main_cst_8 val_main_cst_9 val_main_cst_10
  pointwise
  rw [v18_apply]
  exact step_eq _

/-- The loss. -/
theorem v26_apply (j : S_.Idx) : val_main_v26 (F := Ideal) f x g s t j
    = cHalf * ∑ i, mse (rows f i) (rows x i) (rows g 0) (rows s 0) (rows t i) := by
  unfold val_main_v26 val_main_v25 val_main_v24 val_main_v23 val_main_v22 val_main_v19 val_main_cst_4 val_main_cst_5 val_main_cst_6 val_main_cst_7
  pointwise
  simp only [v18_apply]
  rfl

theorem v34_apply (i q : Fin 2048) : val_main_v34 (F := Ideal) f x g s t (ix2 i q)
    = s (ix2 0 q) * derr (rows f i) (rows x i) (rows g 0) (rows s 0) (rows t i) q := by
  unfold val_main_v34 val_main_v33
  pointwise
  rw [v32_apply]

/-- The gate's gradient. -/
theorem v37_apply (q : Fin 2048) : val_main_v37 (F := Ideal) f x g s t (ix2 0 q)
    = ∑ i, derr (rows f i) (rows x i) (rows g 0) (rows s 0) (rows t i) q * (unit cWide (rows f i) q * g (ix2 0 q)) := by
  unfold val_main_v37 val_main_v36 val_main_v35 val_main_cst_11
  pointwise
  simp only [v32_apply, v14_apply]

/-- The gain's gradient. -/
theorem v40_apply (q : Fin 2048) : val_main_v40 (F := Ideal) f x g s t (ix2 0 q)
    = ∑ i, unit cWide (rows f i) q * (s (ix2 0 q) * derr (rows f i) (rows x i) (rows g 0) (rows s 0) (rows t i) q) := by
  unfold val_main_v40 val_main_v39 val_main_v38 val_main_cst_12
  pointwise
  simp only [v34_apply, v12_apply]

theorem v42_apply (i q : Fin 2048) : val_main_v42 (F := Ideal) f x g s t (ix2 i q)
    = s (ix2 0 q) * derr (rows f i) (rows x i) (rows g 0) (rows s 0) (rows t i) q * g (ix2 0 q) := by
  unfold val_main_v42 val_main_v41
  pointwise
  rw [v34_apply]

theorem v52_apply (i q : Fin 2048) : val_main_v52 (F := Ideal) f x g s t (ix2 i q)
    = slope cWide (rows f i) fun q => s (ix2 0 q) * derr (rows f i) (rows x i) (rows g 0) (rows s 0) (rows t i) q * g (ix2 0 q) := by
  unfold val_main_v52 val_main_v51 val_main_v50 val_main_v49 val_main_v48 val_main_v45 val_main_v44 val_main_v43 val_main_cst_13 val_main_cst_14 val_main_cst_15
  pointwise
  simp only [Fin.sum_univ_one, v10_apply, v42_apply]
  rfl

/-- The gradient at the sublayer. -/
theorem v58_apply (i q : Fin 2048) :
    val_main_v58 (F := Ideal) f x g s t (ix2 i q) = dsub (rows f i) (rows x i) (rows g 0) (rows s 0) (rows t i) q := by
  unfold val_main_v58 val_main_v56 val_main_v55 val_main_v54 val_main_v53 val_main_v47 val_main_v46
  pointwise
  rw [v52_apply, v42_apply, v7_apply]
  rfl

end Cert.FinalRefIdeal.Norm

namespace Cert.Norm.Loss

open Idealize.ShloMosaic Idealize.ShloMosaic.Tactic Idealize.SL.Sem
open Cert.FinalRefIdeal (main_arg0 main_arg1 main_arg2 main_arg3 main_arg4)
open Cert.FinalRefIdeal.Read Cert.FinalRefIdeal.Norm
open Cert.FinalIdeal.Norm (resL resX resF resG resS)

attribute [local instance] Cert.Final.Gen.facts Cert.FinalIdeal.Gen.facts Cert.FinalRefIdeal.Gen.facts

/-- The kernel, in its own arithmetic, ends with its arguments unchanged and every counter at zero. -/
theorem frame_kernel : Cert.quiescent_Final := fun m ρ _ => Cert.Final.Gen.frame m ρ

/-- The same of the kernel over the extended reals. -/
theorem frame_kernelIdeal : Cert.quiescent_FinalIdeal := fun m ρ _ => Cert.FinalIdeal.Gen.frame m ρ

/-- The same of the reference over the extended reals. -/
theorem frame_referenceIdeal : Cert.quiescent_FinalRefIdeal := fun m ρ _ =>
  (θ_run Cert.FinalRefIdeal.defs _ _).mono (fun r h => ⟨fun c => (h c).2.2.2.2.2, sem_eq_zero_of_no_sems (by decide) r.2⟩)
    (Cert.FinalRefIdeal.Value.run (F := Ideal) m ρ)

/-- From equal arguments the kernel and the reference end with the same loss and equal gradients at the residual, at the sublayer's
    result, at the gain and at the gate, over the extended reals, whatever the arguments. -/
theorem value : Cert.algebraic_FinalIdeal_FinalRefIdeal := by
  intro m g m' g' _ ha
  refine ⟨resL m, resX m, resF m, resG m, resS m, ?_, ?_⟩
  · refine (θ_run Cert.FinalIdeal.defs _ _).mono (fun r h c => ?_) (Cert.FinalIdeal.Value.run_blocks (F := Ideal) m g)
    obtain ⟨h0, h1, h2, h3, h4, hk⟩ := h c
    exact ⟨h0.trans (Cert.FinalIdeal.Norm.final_l m c), h1.trans (Cert.FinalIdeal.Norm.final_x m c), h2.trans (Cert.FinalIdeal.Norm.final_f m c),
      h3.trans (Cert.FinalIdeal.Norm.final_g m c), h4.trans (Cert.FinalIdeal.Norm.final_s m c), hk⟩
  · refine (θ_run Cert.FinalRefIdeal.defs _ _).mono (fun r h c => ?_) (Cert.FinalRefIdeal.Value.run (F := Ideal) m' g')
    obtain ⟨h0, h1, h2, h3, h4, hk⟩ := h c
    obtain ⟨a0, a1, a2, a3, a4⟩ := ha c
    refine ⟨h0.trans ?_, h1.trans ?_, h2.trans ?_, h3.trans ?_, h4.trans ?_, hk⟩
    · refine (val_main_v57_eq _ _ _ _ _).trans ?_
      show val_main_v57 (F := Ideal) (m' (c.tc.loc main_arg0)) (m' (c.tc.loc main_arg1)) (m' (c.tc.loc main_arg2)) (m' (c.tc.loc main_arg3)) (m' (c.tc.loc main_arg4)) = _
      rw [a0, a1, a2, a3, a4]
      funext i
      exact v26_apply _ _ _ _ _ _
    · refine (val_main_v32_eq _ _ _ _ _).trans ?_
      show val_main_v32 (F := Ideal) (m' (c.tc.loc main_arg0)) (m' (c.tc.loc main_arg1)) (m' (c.tc.loc main_arg2)) (m' (c.tc.loc main_arg3)) (m' (c.tc.loc main_arg4)) = _
      rw [a0, a1, a2, a3, a4]
      funext i
      exact (congrArg _ (idx2 i)).trans (v32_apply _ _ _ _ _ (i 0) (i 1))
    · rw [val_main_v58_eq]
      show val_main_v58 (F := Ideal) (m' (c.tc.loc main_arg0)) (m' (c.tc.loc main_arg1)) (m' (c.tc.loc main_arg2)) (m' (c.tc.loc main_arg3)) (m' (c.tc.loc main_arg4)) = _
      rw [a0, a1, a2, a3, a4]
      funext i
      exact (congrArg _ (idx2 i)).trans (v58_apply _ _ _ _ _ (i 0) (i 1))
    · refine (val_main_v40_eq _ _ _ _ _).trans ?_
      show val_main_v40 (F := Ideal) (m' (c.tc.loc main_arg0)) (m' (c.tc.loc main_arg1)) (m' (c.tc.loc main_arg2)) (m' (c.tc.loc main_arg3)) (m' (c.tc.loc main_arg4)) = _
      rw [a0, a1, a2, a3, a4]
      funext i
      exact (congrArg _ (idx1 i)).trans (v40_apply _ _ _ _ _ (i 1))
    · refine (val_main_v37_eq _ _ _ _ _).trans ?_
      show val_main_v37 (F := Ideal) (m' (c.tc.loc main_arg0)) (m' (c.tc.loc main_arg1)) (m' (c.tc.loc main_arg2)) (m' (c.tc.loc main_arg3)) (m' (c.tc.loc main_arg4)) = _
      rw [a0, a1, a2, a3, a4]
      funext i
      exact (congrArg _ (idx1 i)).trans (v37_apply _ _ _ _ _ (i 1))

end Cert.Norm.Loss
-- ==== Proof.NormFwd.lean ====
module

public import proofs.«01_k».proof.Defs
public import proofs.«01_k».proof.Proof.Gen.PreNorm.Frame
public import proofs.«01_k».proof.Proof.Gen.PreNormIdeal.Value
public import proofs.«01_k».proof.Proof.Gen.PreNormRefIdeal.Run
public import proofs.«01_k».proof.Proof.Gen.PreNormRefIdeal.Read
public import proofs.«01_k».proof.Proof.Gen.CatNorm.Frame
public import proofs.«01_k».proof.Proof.Gen.CatNormIdeal.Value
public import proofs.«01_k».proof.Proof.Gen.CatNormRefIdeal.Run
public import proofs.«01_k».proof.Proof.Gen.CatNormRefIdeal.Read
public import proofs.«01_k».proof.Proof.Gen.MidFwd.Frame
public import proofs.«01_k».proof.Proof.Gen.MidFwdIdeal.Value
public import proofs.«01_k».proof.Proof.Gen.MidFwdRefIdeal.Run
public import proofs.«01_k».proof.Proof.Gen.MidFwdRefIdeal.Read
public import proofs.«01_k».proof.Proof.Norm
public import proofs.«01_k».proof.Proof.Index
public import Idealize.ShloMosaic.Lib.IdealHost
public import Idealize.ShloMosaic.Lib.Pipeline.ValueKit

@[expose] public section

set_option maxRecDepth 16384

noncomputable section

/-! The forward calls of the norms: what a point stores, the result arrays, the references, and the claims. -/

namespace Cert.Norm

open Idealize.ShloMosaic

variable {n : Nat} (w : EReal) (x : Fin n → EReal)

/-- The normalised row with a gain, a scale and a shift. -/
def modRow (g s h : Fin n → EReal) : Fin n → EReal := fun q => unit w x q * g q * (1 + s q) + h q

/-- `x` and the normalised row of `y` with a gain and a gate. -/
def midRow (y g t : Fin n → EReal) : Fin n → EReal := fun q => x q + t q * (unit w y q * g q)

/-- Two rows side by side, each normalised and with a gain. -/
def catRow (x y g h : Fin 1024 → EReal) : Fin 2048 → EReal := fun q =>
  if hq : q.val < 1024 then unit Cert.Gating.cWidth x ⟨q.val, hq⟩ * g ⟨q.val, hq⟩
  else unit Cert.Gating.cWidth y ⟨q.val - 1024, by omega⟩ * h ⟨q.val - 1024, by omega⟩

end Cert.Norm

namespace Cert.PreNormIdeal.Norm

open Cert.PreNormIdeal Cert.PreNormIdeal.Gen Cert.PreNormIdeal.Value Idealize.ShloMosaic Idealize.ShloMosaic.TcCoe Idealize.ShloMosaic.Tactic Idealize.SL.Sem
open Cert.Norm
open Idealize.ShloMosaic.Pipeline (Dat)

/-- What a point stores. -/
theorem pay1_apply (x : Vec Ideal S256x2048 .f32) (g s h : Vec Ideal S1x2048 .f32) (r : Fin 256) (q : Fin 2048) :
    k0_pay1 (F := Ideal) x g s h (ix2 r q) = modRow cWide (rows x r) (rows g 0) (rows s 0) (rows h 0) q := by
  unfold k0_pay1
  pointwise
  rfl

variable (m : (ℓ : Loc nD τ sig) → Buf (Elt Ideal) ℓ) (c : Dev nD)

abbrev argX : S2048x2048.Idx → EReal := m ((c : Thread nD τ).loc main_arg0)
abbrev argG : S1x2048.Idx → EReal := m ((c : Thread nD τ).loc main_arg1)
abbrev argS : S1x2048.Idx → EReal := m ((c : Thread nD τ).loc main_arg2)
abbrev argH : S1x2048.Idx → EReal := m ((c : Thread nD τ).loc main_arg3)
abbrev res : Buf (Elt Ideal) ((c : Thread nD τ).loc main_v0) := fun j =>
  modRow cWide (rows (argX m c) (j 0)) (rows (argG m c) 0) (rows (argS m c) 0) (rows (argH m c) 0) (j 1)

theorem idx_eq : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) := by
  decide +kernel

/-- The result array is the normed and modulated rows. -/
theorem final : (dats m 0 c).arrAt 4 cfg0.N = res m c := by
  refine (dats m 0 c).arrAt_eq_of_covers 4 _ (by decide +kernel) fun t hf y => ?_
  rw [after0_4]
  frame_out
  have ht : t.val < 8 := lt_of_lt_of_eq t.isLt N_0
  obtain ⟨e0, e1, e2, e3, e4⟩ := idx_eq t
  obtain ⟨r, hr⟩ : ∃ r : Fin 256, r.val = (y 0).val := ⟨⟨(y 0).val, (y 0).isLt⟩, rfl⟩
  obtain ⟨q, hq⟩ : ∃ q : Fin 2048, q.val = (y 1).val := ⟨⟨(y 1).val, (y 1).isLt⟩, rfl⟩
  have X : rows (iblk m c 0 t : Vec Ideal S256x2048 .f32) r = rows (argX m c) (rowOf t.val r) := funext fun x => entry (argX m c)
    (by show win0_0.index t 0 * 256 + 1 * r.val = (256 * t.val + r.val) % 2048; omega) (by show win0_0.index t 1 * 2048 + 1 * x.val = x.val; omega)
  have G : rows (iblk m c 1 t : Vec Ideal S1x2048 .f32) 0 = rows (argG m c) 0 := funext fun x => entry (argG m c)
    (by show win0_1.index t 0 * 1 + 1 * 0 = 0; omega) (by show win0_1.index t 1 * 2048 + 1 * x.val = x.val; omega)
  have S : rows (iblk m c 2 t : Vec Ideal S1x2048 .f32) 0 = rows (argS m c) 0 := funext fun x => entry (argS m c)
    (by show win0_2.index t 0 * 1 + 1 * 0 = 0; omega) (by show win0_2.index t 1 * 2048 + 1 * x.val = x.val; omega)
  have H : rows (iblk m c 3 t : Vec Ideal S1x2048 .f32) 0 = rows (argH m c) 0 := funext fun x => entry (argH m c)
    (by show win0_3.index t 0 * 1 + 1 * 0 = 0; omega) (by show win0_3.index t 1 * 2048 + 1 * x.val = x.val; omega)
  refine ((entry _ hr.symm hq.symm).trans (pay1_apply _ _ _ _ r q)).trans ?_
  rw [X, G, S, H]
  refine (entry (res m c) (i := rowOf t.val r) (q := q) ?_ ?_).symm
  · show win0_4.index t 0 * 256 + 1 * (y 0).val = (256 * t.val + r.val) % 2048; omega
  · show win0_4.index t 1 * 2048 + 1 * (y 1).val = q.val; omega

end Cert.PreNormIdeal.Norm

namespace Cert.PreNormRefIdeal.Norm

open Cert.PreNormRefIdeal Cert.PreNormRefIdeal.Read Idealize.ShloMosaic Idealize.ShloMosaic.Tactic
open Cert.Norm

variable (X : S2048x2048.Idx → EReal) (G S H : S1x2048.Idx → EReal)

theorem v7_apply (i : Fin 2048) : val_main_v7 (F := Ideal) X (ix2 i 0) = inv cWide (rows X i) := by
  unfold val_main_v7 val_main_v6 val_main_v5 val_main_v4 val_main_v3 val_main_v2 val_main_v1 val_main_v0 val_main_cst val_main_cst_0 val_main_cst_1
  pointwise
  rfl

/-- The reference's result. -/
theorem v18_apply (i q : Fin 2048) : val_main_v18 (F := Ideal) X G S H (ix2 i q) = modRow cWide (rows X i) (rows G 0) (rows S 0) (rows H 0) q := by
  unfold val_main_v18 val_main_v17 val_main_v16 val_main_v15 val_main_v14 val_main_v13 val_main_v12 val_main_v11 val_main_v10 val_main_v9 val_main_v8 val_main_cst_2
  pointwise
  rw [v7_apply]
  rfl

end Cert.PreNormRefIdeal.Norm

namespace Cert.MidFwdIdeal.Norm

open Cert.MidFwdIdeal Cert.MidFwdIdeal.Gen Cert.MidFwdIdeal.Value Idealize.ShloMosaic Idealize.ShloMosaic.TcCoe Idealize.ShloMosaic.Tactic Idealize.SL.Sem
open Cert.Norm
open Idealize.ShloMosaic.Pipeline (Dat)

section
variable (y x : Vec Ideal S256x2048 .f32) (gp gt g s h : Vec Ideal S1x2048 .f32)

/-- The residual that a point stores. -/
theorem pay2_apply (r : Fin 256) (q : Fin 2048) :
    k0_pay2 (F := Ideal) x y gp gt (ix2 r q) = midRow cWide (rows x r) (rows y r) (rows gp 0) (rows gt 0) q := by
  unfold k0_pay2
  pointwise
  rfl

theorem pay3_apply (r : Fin 256) (q : Fin 2048) : k0_pay3 (F := Ideal) x y gp gt g (ix2 r q)
    = unit cWide (midRow cWide (rows x r) (rows y r) (rows gp 0) (rows gt 0)) q * g (ix2 0 q) := by
  unfold k0_pay3
  pointwise
  simp only [pay2_apply]
  rfl

/-- The normed and modulated rows that it stores. -/
theorem pay1_apply (r : Fin 256) (q : Fin 2048) :
    k0_pay1 (F := Ideal) s h (k0_pay3 (F := Ideal) x y gp gt g) (Scalar.ofBits .f32 0x3F800000#32) (ix2 r q)
      = modRow cWide (midRow cWide (rows x r) (rows y r) (rows gp 0) (rows gt 0)) (rows g 0) (rows s 0) (rows h 0) q := by
  unfold k0_pay1
  pointwise
  rw [pay3_apply]
  rfl
end

variable (m : (ℓ : Loc nD τ sig) → Buf (Elt Ideal) ℓ) (c : Dev nD)

abbrev argY : S2048x2048.Idx → EReal := m ((c : Thread nD τ).loc main_arg0)
abbrev argX : S2048x2048.Idx → EReal := m ((c : Thread nD τ).loc main_arg1)
abbrev argP : S1x2048.Idx → EReal := m ((c : Thread nD τ).loc main_arg2)
abbrev argT : S1x2048.Idx → EReal := m ((c : Thread nD τ).loc main_arg3)
abbrev argG : S1x2048.Idx → EReal := m ((c : Thread nD τ).loc main_arg4)
abbrev argS : S1x2048.Idx → EReal := m ((c : Thread nD τ).loc main_arg5)
abbrev argH : S1x2048.Idx → EReal := m ((c : Thread nD τ).loc main_arg6)
/-- A row of the residual. -/
abbrev resRow (i : Fin 2048) : Fin 2048 → EReal := midRow cWide (rows (argX m c) i) (rows (argY m c) i) (rows (argP m c) 0) (rows (argT m c) 0)
abbrev resX : Buf (Elt Ideal) ((c : Thread nD τ).loc main_v0_0) := fun j : S2048x2048.Idx => resRow m c (j 0) (j 1)
abbrev resN : Buf (Elt Ideal) ((c : Thread nD τ).loc main_v0_1) := fun j : S2048x2048.Idx =>
  modRow cWide (resRow m c (j 0)) (rows (argG m c) 0) (rows (argS m c) 0) (rows (argH m c) 0) (j 1)

theorem idx_rows : ∀ t : Fin grid0.N, (win0_0.index t 0 = t.val ∧ win0_0.index t 1 = 0) ∧ (win0_1.index t 0 = t.val ∧ win0_1.index t 1 = 0)
    ∧ (win0_7.index t 0 = t.val ∧ win0_7.index t 1 = 0) ∧ (win0_8.index t 0 = t.val ∧ win0_8.index t 1 = 0) := by
  decide +kernel
theorem idx_vecs : ∀ t : Fin grid0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) := by
  decide +kernel

/-- A row of the residual, from what a point loads. -/
theorem row_eq (t : Fin cfg0.N) (r : Fin 256) : midRow cWide (rows (iblk m c 1 t : Vec Ideal S256x2048 .f32) r) (rows (iblk m c 0 t : Vec Ideal S256x2048 .f32) r)
    (rows (iblk m c 2 t : Vec Ideal S1x2048 .f32) 0) (rows (iblk m c 3 t : Vec Ideal S1x2048 .f32) 0) = resRow m c (rowOf t.val r) := by
  have ht : t.val < 8 := lt_of_lt_of_eq t.isLt N_0
  obtain ⟨e0, e1, -, -⟩ := idx_rows t
  obtain ⟨e2, e3, -, -, -⟩ := idx_vecs t
  have Y : rows (iblk m c 0 t : Vec Ideal S256x2048 .f32) r = rows (argY m c) (rowOf t.val r) := funext fun x => entry (argY m c)
    (by show win0_0.index t 0 * 256 + 1 * r.val = (256 * t.val + r.val) % 2048; omega) (by show win0_0.index t 1 * 2048 + 1 * x.val = x.val; omega)
  have X : rows (iblk m c 1 t : Vec Ideal S256x2048 .f32) r = rows (argX m c) (rowOf t.val r) := funext fun x => entry (argX m c)
    (by show win0_1.index t 0 * 256 + 1 * r.val = (256 * t.val + r.val) % 2048; omega) (by show win0_1.index t 1 * 2048 + 1 * x.val = x.val; omega)
  have P : rows (iblk m c 2 t : Vec Ideal S1x2048 .f32) 0 = rows (argP m c) 0 := funext fun x => entry (argP m c)
    (by show win0_2.index t 0 * 1 + 1 * 0 = 0; omega) (by show win0_2.index t 1 * 2048 + 1 * x.val = x.val; omega)
  have T : rows (iblk m c 3 t : Vec Ideal S1x2048 .f32) 0 = rows (argT m c) 0 := funext fun x => entry (argT m c)
    (by show win0_3.index t 0 * 1 + 1 * 0 = 0; omega) (by show win0_3.index t 1 * 2048 + 1 * x.val = x.val; omega)
  rw [X, Y, P, T]

/-- The first result array is the residual. -/
theorem final_x : (dats m 0 c).arrAt 7 cfg0.N = resX m c := by
  refine (dats m 0 c).arrAt_eq_of_covers 7 _ (by decide +kernel) fun t hf y => ?_
  rw [after0_7]
  frame_out
  have ht : t.val < 8 := lt_of_lt_of_eq t.isLt N_0
  obtain ⟨-, -, e, -⟩ := idx_rows t
  obtain ⟨r, hr⟩ : ∃ r : Fin 256, r.val = (y 0).val := ⟨⟨(y 0).val, (y 0).isLt⟩, rfl⟩
  obtain ⟨q, hq⟩ : ∃ q : Fin 2048, q.val = (y 1).val := ⟨⟨(y 1).val, (y 1).isLt⟩, rfl⟩
  refine ((entry _ hr.symm hq.symm).trans (pay2_apply _ _ _ _ r q)).trans ?_
  rw [row_eq]
  refine (entry (resX m c) (i := rowOf t.val r) (q := q) ?_ ?_).symm
  · show win0_7.index t 0 * 256 + 1 * (y 0).val = (256 * t.val + r.val) % 2048; omega
  · show win0_7.index t 1 * 2048 + 1 * (y 1).val = q.val; omega

/-- The second is its rows, normed and modulated. -/
theorem final_n : (dats m 0 c).arrAt 8 cfg0.N = resN m c := by
  refine (dats m 0 c).arrAt_eq_of_covers 8 _ (by decide +kernel) fun t hf y => ?_
  rw [after0_8]
  frame_out
  have ht : t.val < 8 := lt_of_lt_of_eq t.isLt N_0
  obtain ⟨-, -, -, e⟩ := idx_rows t
  obtain ⟨-, -, e4, e5, e6⟩ := idx_vecs t
  obtain ⟨r, hr⟩ : ∃ r : Fin 256, r.val = (y 0).val := ⟨⟨(y 0).val, (y 0).isLt⟩, rfl⟩
  obtain ⟨q, hq⟩ : ∃ q : Fin 2048, q.val = (y 1).val := ⟨⟨(y 1).val, (y 1).isLt⟩, rfl⟩
  have G : rows (iblk m c 4 t : Vec Ideal S1x2048 .f32) 0 = rows (argG m c) 0 := funext fun x => entry (argG m c)
    (by show win0_4.index t 0 * 1 + 1 * 0 = 0; omega) (by show win0_4.index t 1 * 2048 + 1 * x.val = x.val; omega)
  have S : rows (iblk m c 5 t : Vec Ideal S1x2048 .f32) 0 = rows (argS m c) 0 := funext fun x => entry (argS m c)
    (by show win0_5.index t 0 * 1 + 1 * 0 = 0; omega) (by show win0_5.index t 1 * 2048 + 1 * x.val = x.val; omega)
  have H : rows (iblk m c 6 t : Vec Ideal S1x2048 .f32) 0 = rows (argH m c) 0 := funext fun x => entry (argH m c)
    (by show win0_6.index t 0 * 1 + 1 * 0 = 0; omega) (by show win0_6.index t 1 * 2048 + 1 * x.val = x.val; omega)
  refine ((entry _ hr.symm hq.symm).trans (pay1_apply _ _ _ _ _ _ _ r q)).trans ?_
  rw [row_eq, G, S, H]
  refine (entry (resN m c) (i := rowOf t.val r) (q := q) ?_ ?_).symm
  · show win0_8.index t 0 * 256 + 1 * (y 0).val = (256 * t.val + r.val) % 2048; omega
  · show win0_8.index t 1 * 2048 + 1 * (y 1).val = q.val; omega

end Cert.MidFwdIdeal.Norm

namespace Cert.MidFwdRefIdeal.Norm

open Cert.MidFwdRefIdeal Cert.MidFwdRefIdeal.Read Idealize.ShloMosaic Idealize.ShloMosaic.Tactic
open Cert.Norm

variable (Y X : S2048x2048.Idx → EReal) (P T G S H : S1x2048.Idx → EReal)

theorem v7_apply (i : Fin 2048) : val_main_v7 (F := Ideal) Y (ix2 i 0) = inv cWide (rows Y i) := Cert.PreNormRefIdeal.Norm.v7_apply Y i

/-- The reference's residual. -/
theorem v14_apply (i q : Fin 2048) : val_main_v14 (F := Ideal) Y X P T (ix2 i q) = midRow cWide (rows X i) (rows Y i) (rows P 0) (rows T 0) q := by
  unfold val_main_v14 val_main_v13 val_main_v12 val_main_v11 val_main_v10 val_main_v9 val_main_v8
  pointwise
  rw [v7_apply]
  rfl

theorem v22_apply (i : Fin 2048) : val_main_v22 (F := Ideal) Y X P T (ix2 i 0) = inv cWide (midRow cWide (rows X i) (rows Y i) (rows P 0) (rows T 0)) := by
  unfold val_main_v22 val_main_v21 val_main_v20 val_main_v19 val_main_v18 val_main_v17 val_main_v16 val_main_v15 val_main_cst_2 val_main_cst_3 val_main_cst_4
  pointwise
  simp only [v14_apply]
  rfl

/-- The reference's normed and modulated rows. -/
theorem v33_apply (i q : Fin 2048) : val_main_v33 (F := Ideal) Y X P T G S H (ix2 i q)
    = modRow cWide (midRow cWide (rows X i) (rows Y i) (rows P 0) (rows T 0)) (rows G 0) (rows S 0) (rows H 0) q := by
  unfold val_main_v33 val_main_v32 val_main_v31 val_main_v30 val_main_v29 val_main_v28 val_main_v27 val_main_v26 val_main_v25 val_main_v24 val_main_v23 val_main_cst_5
  pointwise
  rw [v14_apply, v22_apply]
  rfl

end Cert.MidFwdRefIdeal.Norm

namespace Cert.CatNormIdeal.Norm

open Cert.CatNormIdeal Cert.CatNormIdeal.Gen Cert.CatNormIdeal.Value Idealize.ShloMosaic Idealize.ShloMosaic.TcCoe Idealize.ShloMosaic.Tactic Idealize.SL.Sem
open Cert.Norm
open Idealize.ShloMosaic.Pipeline (Dat)

/-- What a point stores on the left. -/
theorem pay1_apply (x : Vec Ideal S256x1024 .f32) (g : Vec Ideal S1x1024 .f32) (r : Fin 256) (q : Fin 1024) :
    k0_pay1 (F := Ideal) x g (ix2 r q) = unit Cert.Gating.cWidth (rows x r) q * g (ix2 0 q) := by
  unfold k0_pay1
  pointwise
  rfl

/-- What it stores on the right. -/
theorem pay2_apply (x : Vec Ideal S256x1024 .f32) (g : Vec Ideal S1x1024 .f32) (r : Fin 256) (q : Fin 1024) :
    k0_pay2 (F := Ideal) x g (ix2 r q) = unit Cert.Gating.cWidth (rows x r) q * g (ix2 0 q) := pay1_apply x g r q

variable (m : (ℓ : Loc nD τ sig) → Buf (Elt Ideal) ℓ) (c : Dev nD)

abbrev argL : S2048x1024.Idx → EReal := m ((c : Thread nD τ).loc main_arg0)
abbrev argR : S2048x1024.Idx → EReal := m ((c : Thread nD τ).loc main_arg1)
abbrev gainL : S1x1024.Idx → EReal := m ((c : Thread nD τ).loc main_arg2)
abbrev gainR : S1x1024.Idx → EReal := m ((c : Thread nD τ).loc main_arg3)
abbrev res : Buf (Elt Ideal) ((c : Thread nD τ).loc main_v0) := fun j : S2048x2048.Idx =>
  catRow (rows (argL m c) (j 0)) (rows (argR m c) (j 0)) (rows (gainL m c) 0) (rows (gainR m c) 0) (j 1)

/-- A point stores two blocks of columns side by side. -/
theorem sides (x y : Vec Ideal S256x1024 .f32) (g h : Vec Ideal S1x1024 .f32) (r : Fin 256) (q : Fin 2048) :
    View.canon ([⟨r0_3, k0_pay2 y h⟩, ⟨r0_2, k0_pay1 x g⟩] : List (View.Piece (Elt Ideal) S256x2048 .bf16)) (ix2 r q)
      = catRow (rows x r) (rows y r) (rows g 0) (rows h 0) q := by
  refine View.canon_apply_of_pieces (Val := Elt Ideal) (e := .bf16)
    (fun j : S256x2048.Idx => catRow (rows x (j 0)) (rows y (j 0)) (rows g 0) (rows h 0) (j 1)) _ (fun p hp => ?_) (ix2 r q) (cover0_4 _ _ _)
  simp only [List.mem_cons, List.not_mem_nil, or_false] at hp
  rcases hp with rfl | rfl
  · intro z
    have hz : (z 1).val < 1024 := (z 1).isLt
    have a : (r0_3.emb z 0 : Fin 256) = z 0 := Fin.ext (by show 0 + 1 * (z 0).val = (z 0).val; omega)
    have b : (r0_3.emb z 1 : Fin 2048).val = 1024 + (z 1).val := by show 1024 + 1 * (z 1).val = _; omega
    have e : (⟨(r0_3.emb z 1 : Fin 2048).val - 1024, by omega⟩ : Fin 1024) = z 1 := Fin.ext (by dsimp only; omega)
    refine ((congrArg _ (idx2 z)).trans (pay2_apply y h (z 0) (z 1))).trans ?_
    simp only [catRow]
    rw [dif_neg (by omega), a, e]
  · intro z
    have hz : (z 1).val < 1024 := (z 1).isLt
    have a : (r0_2.emb z 0 : Fin 256) = z 0 := Fin.ext (by show 0 + 1 * (z 0).val = (z 0).val; omega)
    have b : (r0_2.emb z 1 : Fin 2048).val = (z 1).val := by show 0 + 1 * (z 1).val = _; omega
    have e : ∀ hq, (⟨(r0_2.emb z 1 : Fin 2048).val, hq⟩ : Fin 1024) = z 1 := fun _ => Fin.ext b
    refine ((congrArg _ (idx2 z)).trans (pay1_apply x g (z 0) (z 1))).trans ?_
    simp only [catRow]
    rw [dif_pos (by omega), a, e]

theorem idx_eq : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) := by
  decide +kernel

/-- The result array is the two arrays' rows side by side, each normed. -/
theorem final : (dats m 0 c).arrAt 4 cfg0.N = res m c := by
  refine (dats m 0 c).arrAt_eq_of_covers 4 _ (by decide +kernel) fun t hf y => ?_
  rw [after0_4]
  frame_out
  have ht : t.val < 8 := lt_of_lt_of_eq t.isLt N_0
  obtain ⟨e0, e1, e2, e3, e4⟩ := idx_eq t
  obtain ⟨r, hr⟩ : ∃ r : Fin 256, r.val = (y 0).val := ⟨⟨(y 0).val, (y 0).isLt⟩, rfl⟩
  obtain ⟨q, hq⟩ : ∃ q : Fin 2048, q.val = (y 1).val := ⟨⟨(y 1).val, (y 1).isLt⟩, rfl⟩
  have L : rows (iblk m c 0 t : Vec Ideal S256x1024 .f32) r = rows (argL m c) (rowOf t.val r) := funext fun x => entry (argL m c)
    (by show win0_0.index t 0 * 256 + 1 * r.val = (256 * t.val + r.val) % 2048; omega) (by show win0_0.index t 1 * 1024 + 1 * x.val = x.val; omega)
  have R : rows (iblk m c 1 t : Vec Ideal S256x1024 .f32) r = rows (argR m c) (rowOf t.val r) := funext fun x => entry (argR m c)
    (by show win0_1.index t 0 * 256 + 1 * r.val = (256 * t.val + r.val) % 2048; omega) (by show win0_1.index t 1 * 1024 + 1 * x.val = x.val; omega)
  have G : rows (iblk m c 2 t : Vec Ideal S1x1024 .f32) 0 = rows (gainL m c) 0 := funext fun x => entry (gainL m c)
    (by show win0_2.index t 0 * 1 + 1 * 0 = 0; omega) (by show win0_2.index t 1 * 1024 + 1 * x.val = x.val; omega)
  have H : rows (iblk m c 3 t : Vec Ideal S1x1024 .f32) 0 = rows (gainR m c) 0 := funext fun x => entry (gainR m c)
    (by show win0_3.index t 0 * 1 + 1 * 0 = 0; omega) (by show win0_3.index t 1 * 1024 + 1 * x.val = x.val; omega)
  have K := (entry (View.canon ([⟨r0_3, k0_pay2 (F := Ideal) (iblk m c 1 t) (iblk m c 3 t)⟩, ⟨r0_2, k0_pay1 (F := Ideal) (iblk m c 0 t) (iblk m c 2 t)⟩] :
    List (View.Piece (Elt Ideal) S256x2048 .bf16))) (j := (win0 4).xinj (grid0.coords t) y) hr.symm hq.symm).trans (sides _ _ _ _ r q)
  rw [L, R, G, H] at K
  rw [cast_eq]
  refine Eq.trans K ?_
  refine (entry (res m c) (i := rowOf t.val r) (q := q) ?_ ?_).symm
  · show win0_4.index t 0 * 256 + 1 * (y 0).val = (256 * t.val + r.val) % 2048; omega
  · show win0_4.index t 1 * 2048 + 1 * (y 1).val = q.val; omega

end Cert.CatNormIdeal.Norm

namespace Cert.CatNormRefIdeal.Norm

open Cert.CatNormRefIdeal Cert.CatNormRefIdeal.Read Idealize.ShloMosaic Idealize.ShloMosaic.Tactic
open Cert.Norm

variable (X Y : S2048x1024.Idx → EReal) (G H : S1x1024.Idx → EReal)

/-- The rows that the reference joins. -/
theorem v11_apply (i : Fin 2048) (q : Fin 1024) : val_main_v11 (F := Ideal) X G (ix2 i q) = unit Cert.Gating.cWidth (rows X i) q * G (ix2 0 q) := by
  unfold val_main_v11 val_main_v10 val_main_v9 val_main_v8 val_main_v7 val_main_v6 val_main_v5 val_main_v4 val_main_v3 val_main_v2 val_main_v1 val_main_v0
    val_main_cst val_main_cst_0 val_main_cst_1
  pointwise
  rfl

theorem v23_apply (i : Fin 2048) (q : Fin 1024) : val_main_v23 (F := Ideal) Y H (ix2 i q) = unit Cert.Gating.cWidth (rows Y i) q * H (ix2 0 q) :=
  v11_apply Y H i q

/-- The reference's result. -/
theorem v25_apply (i q : Fin 2048) : val_main_v25 (F := Ideal) X Y G H (ix2 i q) = catRow (rows X i) (rows Y i) (rows G 0) (rows H 0) q := by
  unfold val_main_v25 val_main_v24
  pointwise
  simp only [v11_apply, v23_apply]
  rfl

end Cert.CatNormRefIdeal.Norm

namespace Cert.Norm.PreForward

open Idealize.ShloMosaic Idealize.ShloMosaic.Tactic Idealize.SL.Sem
open Cert.PreNormRefIdeal (main_arg0 main_arg1 main_arg2 main_arg3)
open Cert.PreNormRefIdeal.Read Cert.PreNormRefIdeal.Norm

attribute [local instance] Cert.PreNorm.Gen.facts Cert.PreNormIdeal.Gen.facts Cert.PreNormRefIdeal.Gen.facts

/-- The kernel, in its own arithmetic, ends with its arguments unchanged and every counter at zero. -/
theorem frame_kernel : Cert.quiescent_PreNorm := fun m ρ _ => Cert.PreNorm.Gen.frame m ρ

/-- The same of the kernel over the extended reals. -/
theorem frame_kernelIdeal : Cert.quiescent_PreNormIdeal := fun m ρ _ => Cert.PreNormIdeal.Gen.frame m ρ

/-- The same of the reference over the extended reals. -/
theorem frame_referenceIdeal : Cert.quiescent_PreNormRefIdeal := fun m ρ _ =>
  (θ_run Cert.PreNormRefIdeal.defs _ _).mono (fun r h => ⟨fun c => (h c).2, sem_eq_zero_of_no_sems (by decide) r.2⟩)
    (Cert.PreNormRefIdeal.Value.run (F := Ideal) m ρ)

/-- From equal arguments the kernel and the reference end with equal normed and modulated rows, over the extended reals, whatever the
    arguments. -/
theorem value : Cert.algebraic_PreNormIdeal_PreNormRefIdeal := by
  intro m g m' g' _ ha
  refine ⟨Cert.PreNormIdeal.Norm.res m, ?_, ?_⟩
  · refine (θ_run Cert.PreNormIdeal.defs _ _).mono (fun r h c => ?_) (Cert.PreNormIdeal.Value.run_blocks (F := Ideal) m g)
    obtain ⟨h0, hk⟩ := h c
    exact ⟨h0.trans (Cert.PreNormIdeal.Norm.final m c), hk⟩
  · refine (θ_run Cert.PreNormRefIdeal.defs _ _).mono (fun r h c => ?_) (Cert.PreNormRefIdeal.Value.run (F := Ideal) m' g')
    obtain ⟨h0, hk⟩ := h c
    obtain ⟨a0, a1, a2, a3⟩ := ha c
    refine ⟨h0.trans ?_, hk⟩
    · refine (val_main_v18_eq _ _ _ _).trans ?_
      show val_main_v18 (F := Ideal) (m' (c.tc.loc main_arg0)) (m' (c.tc.loc main_arg1)) (m' (c.tc.loc main_arg2)) (m' (c.tc.loc main_arg3)) = _
      rw [a0, a1, a2, a3]
      funext i
      exact (congrArg _ (idx2 i)).trans (v18_apply _ _ _ _ (i 0) (i 1))

end Cert.Norm.PreForward

namespace Cert.Norm.MidForward

open Idealize.ShloMosaic Idealize.ShloMosaic.Tactic Idealize.SL.Sem
open Cert.MidFwdRefIdeal (main_arg0 main_arg1 main_arg2 main_arg3 main_arg4 main_arg5 main_arg6)
open Cert.MidFwdRefIdeal.Read Cert.MidFwdRefIdeal.Norm

attribute [local instance] Cert.MidFwd.Gen.facts Cert.MidFwdIdeal.Gen.facts Cert.MidFwdRefIdeal.Gen.facts

/-- The kernel, in its own arithmetic, ends with its arguments unchanged and every counter at zero. -/
theorem frame_kernel : Cert.quiescent_MidFwd := fun m ρ _ => Cert.MidFwd.Gen.frame m ρ

/-- The same of the kernel over the extended reals. -/
theorem frame_kernelIdeal : Cert.quiescent_MidFwdIdeal := fun m ρ _ => Cert.MidFwdIdeal.Gen.frame m ρ

/-- The same of the reference over the extended reals. -/
theorem frame_referenceIdeal : Cert.quiescent_MidFwdRefIdeal := fun m ρ _ =>
  (θ_run Cert.MidFwdRefIdeal.defs _ _).mono (fun r h => ⟨fun c => (h c).2.2, sem_eq_zero_of_no_sems (by decide) r.2⟩)
    (Cert.MidFwdRefIdeal.Value.run (F := Ideal) m ρ)

/-- From equal arguments the kernel and the reference end with equal residuals and equal normed and modulated rows, over the extended
    reals, whatever the arguments. -/
theorem value : Cert.algebraic_MidFwdIdeal_MidFwdRefIdeal := by
  intro m g m' g' _ ha
  refine ⟨Cert.MidFwdIdeal.Norm.resX m, Cert.MidFwdIdeal.Norm.resN m, ?_, ?_⟩
  · refine (θ_run Cert.MidFwdIdeal.defs _ _).mono (fun r h c => ?_) (Cert.MidFwdIdeal.Value.run_blocks (F := Ideal) m g)
    obtain ⟨h0, h1, hk⟩ := h c
    exact ⟨h0.trans (Cert.MidFwdIdeal.Norm.final_x m c), h1.trans (Cert.MidFwdIdeal.Norm.final_n m c), hk⟩
  · refine (θ_run Cert.MidFwdRefIdeal.defs _ _).mono (fun r h c => ?_) (Cert.MidFwdRefIdeal.Value.run (F := Ideal) m' g')
    obtain ⟨h0, h1, hk⟩ := h c
    obtain ⟨a0, a1, a2, a3, a4, a5, a6⟩ := ha c
    refine ⟨h0.trans ?_, h1.trans ?_, hk⟩
    · refine (val_main_v14_eq _ _ _ _).trans ?_
      show val_main_v14 (F := Ideal) (m' (c.tc.loc main_arg0)) (m' (c.tc.loc main_arg1)) (m' (c.tc.loc main_arg2)) (m' (c.tc.loc main_arg3)) = _
      rw [a0, a1, a2, a3]
      funext i
      exact (congrArg _ (idx2 i)).trans (v14_apply _ _ _ _ (i 0) (i 1))
    · refine (val_main_v33_eq _ _ _ _ _ _ _).trans ?_
      show val_main_v33 (F := Ideal) (m' (c.tc.loc main_arg0)) (m' (c.tc.loc main_arg1)) (m' (c.tc.loc main_arg2)) (m' (c.tc.loc main_arg3)) (m' (c.tc.loc main_arg4)) (m' (c.tc.loc main_arg5)) (m' (c.tc.loc main_arg6)) = _
      rw [a0, a1, a2, a3, a4, a5, a6]
      funext i
      exact (congrArg _ (idx2 i)).trans (v33_apply _ _ _ _ _ _ _ (i 0) (i 1))

end Cert.Norm.MidForward

namespace Cert.Norm.CatForward

open Idealize.ShloMosaic Idealize.ShloMosaic.Tactic Idealize.SL.Sem
open Cert.CatNormRefIdeal (main_arg0 main_arg1 main_arg2 main_arg3)
open Cert.CatNormRefIdeal.Read Cert.CatNormRefIdeal.Norm

attribute [local instance] Cert.CatNorm.Gen.facts Cert.CatNormIdeal.Gen.facts Cert.CatNormRefIdeal.Gen.facts

/-- The kernel, in its own arithmetic, ends with its arguments unchanged and every counter at zero. -/
theorem frame_kernel : Cert.quiescent_CatNorm := fun m ρ _ => Cert.CatNorm.Gen.frame m ρ

/-- The same of the kernel over the extended reals. -/
theorem frame_kernelIdeal : Cert.quiescent_CatNormIdeal := fun m ρ _ => Cert.CatNormIdeal.Gen.frame m ρ

/-- The same of the reference over the extended reals. -/
theorem frame_referenceIdeal : Cert.quiescent_CatNormRefIdeal := fun m ρ _ =>
  (θ_run Cert.CatNormRefIdeal.defs _ _).mono (fun r h => ⟨fun c => (h c).2, sem_eq_zero_of_no_sems (by decide) r.2⟩)
    (Cert.CatNormRefIdeal.Value.run (F := Ideal) m ρ)

/-- From equal arguments the kernel and the reference end with equal rows, two normed arrays side by side, over the extended reals,
    whatever the arguments. -/
theorem value : Cert.algebraic_CatNormIdeal_CatNormRefIdeal := by
  intro m g m' g' _ ha
  refine ⟨Cert.CatNormIdeal.Norm.res m, ?_, ?_⟩
  · refine (θ_run Cert.CatNormIdeal.defs _ _).mono (fun r h c => ?_) (Cert.CatNormIdeal.Value.run_blocks (F := Ideal) m g)
    obtain ⟨h0, hk⟩ := h c
    exact ⟨h0.trans (Cert.CatNormIdeal.Norm.final m c), hk⟩
  · refine (θ_run Cert.CatNormRefIdeal.defs _ _).mono (fun r h c => ?_) (Cert.CatNormRefIdeal.Value.run (F := Ideal) m' g')
    obtain ⟨h0, hk⟩ := h c
    obtain ⟨a0, a1, a2, a3⟩ := ha c
    refine ⟨h0.trans ?_, hk⟩
    · refine (val_main_v25_eq _ _ _ _).trans ?_
      show val_main_v25 (F := Ideal) (m' (c.tc.loc main_arg0)) (m' (c.tc.loc main_arg1)) (m' (c.tc.loc main_arg2)) (m' (c.tc.loc main_arg3)) = _
      rw [a0, a1, a2, a3]
      funext i
      exact (congrArg _ (idx2 i)).trans (v25_apply _ _ _ _ (i 0) (i 1))

end Cert.Norm.CatForward

end
-- ==== Proof.GatingFwd.lean ====
module

public import proofs.«01_k».proof.Defs
public import proofs.«01_k».proof.Proof.Gen.SguFwd.Frame
public import proofs.«01_k».proof.Proof.Gen.SguFwdIdeal.Value
public import proofs.«01_k».proof.Proof.Gen.SguFwdRefIdeal.Run
public import proofs.«01_k».proof.Proof.Gen.SguFwdRefIdeal.Read
public import proofs.«01_k».proof.Proof.GatingArrays
public import proofs.«01_k».proof.Proof.GatingRef
public import proofs.«01_k».proof.Proof.Norm
public import proofs.«01_k».proof.Proof.Index
public import Idealize.ShloMosaic.Lib.Pipeline.ValueKit

@[expose] public section

set_option maxRecDepth 16384

noncomputable section

/-! The forward pass of the spatial gating unit: what the kernel stores and the reference returns, at an index, and the five claims.
    The lines of both are lines of the backward pass as well, whose lemmas are used here. -/

namespace Cert.SguRefIdeal.Gating

open Cert.SguRefIdeal Idealize.ShloMosaic
open Cert.Gating

/-- Row `i` of the unit's result: the gate times the mixed rows. -/
def gated (X : S2048x3072.Idx → EReal) (G B : S1x1024.Idx → EReal) (W : S8x128x128.Idx → EReal) (S : S8x128.Idx → EReal) (i : Fin 2048) : Row := fun q =>
  gelu (uRow X i q) * mixed (chunks X (fun _ => 0) (i.val / 128)) (one G) (one B) (mix W) (bias S) (place i) q

end Cert.SguRefIdeal.Gating

namespace Cert.SguFwdIdeal.Gating

open Cert.SguFwdIdeal Cert.SguFwdIdeal.Gen Cert.SguFwdIdeal.Value Idealize.ShloMosaic Idealize.ShloMosaic.TcCoe Idealize.ShloMosaic.Tactic Idealize.SL.Sem
open Cert.Gating
open Cert.Norm (entry hz)
open Cert.SguIdeal.Gating (rows row1 mix chunk mixB mixB_apply wh ld_head)
open Cert.SguRefIdeal.Gating (gated at_row chunks)
open Idealize.ShloMosaic.Pipeline (Dat)

/-- What a point stores, over the blocks it loaded. -/
def outB (u v : Vec Ideal S128x1024 .f32) (g b : Vec Ideal S1x1024 .f32) (w : Vec Ideal S8x128x128 .f32) (s : Vec Ideal S128x1024 .f32) : Vec Ideal S128x1024 .f32 :=
  k0_pay8 (k0_pay1 v g b) k0_pay2 (k0_pay3 (k0_pay1 v g b) k0_pay2 (View.ld w r0_2)) (k0_pay4 (k0_pay1 v g b) k0_pay2 (View.ld w r0_3))
    (k0_pay5 (k0_pay1 v g b) k0_pay2 (View.ld w r0_4)) (k0_pay6 (k0_pay1 v g b) k0_pay2 (View.ld w r0_5)) (k0_pay7 (k0_pay1 v g b) k0_pay2 (View.ld w r0_6))
    (View.ld w r0_7) (View.ld w r0_8) (View.ld w r0_9) s u

theorem outB_apply (u v : Vec Ideal S128x1024 .f32) (g b : Vec Ideal S1x1024 .f32) (w : Vec Ideal S8x128x128 .f32) (s : Vec Ideal S128x1024 .f32)
    (r : Fin 128) (q : Fin 1024) :
    outB u v g b w s (ix2 r q) = gelu (u (ix2 r q)) * mixed (chunk u v u) (row1 g) (row1 b) (mix w) (rows s) r q := by
  have h0 : View.ld w r0_2 = wh w 0 := ld_head w 0 _
  have h1 : View.ld w r0_3 = wh w 1 := ld_head w 1 _
  have h2 : View.ld w r0_4 = wh w 2 := ld_head w 2 _
  have h3 : View.ld w r0_5 = wh w 3 := ld_head w 3 _
  have h4 : View.ld w r0_6 = wh w 4 := ld_head w 4 _
  have h5 : View.ld w r0_7 = wh w 5 := ld_head w 5 _
  have h6 : View.ld w r0_8 = wh w 6 := ld_head w 6 _
  have h7 : View.ld w r0_9 = wh w 7 := ld_head w 7 _
  rw [← mixB_apply u v u s g b w r q, ← Cert.SguIdeal.Gating.pay34 u r q, outB, h0, h1, h2, h3, h4, h5, h6, h7]
  rfl

variable (m : (ℓ : Loc nD τ sig) → Buf (Elt Ideal) ℓ) (c : Dev nD)

abbrev argZ : S2048x3072.Idx → EReal := m ((c : Thread nD τ).loc main_arg0)
abbrev argG : S1x1024.Idx → EReal := m ((c : Thread nD τ).loc main_arg1)
abbrev argB : S1x1024.Idx → EReal := m ((c : Thread nD τ).loc main_arg2)
abbrev argW : S8x128x128.Idx → EReal := m ((c : Thread nD τ).loc main_arg3)
abbrev argS : S8x128.Idx → EReal := m ((c : Thread nD τ).loc main_arg4)
abbrev res : Buf (Elt Ideal) ((c : Thread nD τ).loc main_v3) := fun j =>
  gated (argZ m c) (argG m c) (argB m c) (argW m c) (argS m c) (j 0) (j 1)

theorem idx_eq : ∀ t : Fin grid0.N, (win0_0.index t 0 = t.val ∧ win0_0.index t 1 = 1) ∧ (win0_1.index t 0 = t.val ∧ win0_1.index t 1 = 2)
    ∧ (win0_2.index t 0 = 0 ∧ win0_2.index t 1 = 0) ∧ (win0_3.index t 0 = 0 ∧ win0_3.index t 1 = 0)
    ∧ (win0_4.index t 0 = 0 ∧ win0_4.index t 1 = 0 ∧ win0_4.index t 2 = 0) ∧ (win0_5.index t 0 = 0 ∧ win0_5.index t 1 = 0)
    ∧ (win0_6.index t 0 = t.val ∧ win0_6.index t 1 = 0) := by
  decide +kernel

theorem V_bias (r : Fin 128) (q : Fin 1024) :
    (V m c main_v2 : Vec Ideal S128x1024 .f32) (ix2 r q) = Cert.SguRefIdeal.Gating.bias (argS m c) r q := by
  show StableHlo.after hostOps0 _ (Proc.devRef .tc main_v2) _ = _
  after_results
  pointwise
  rfl

/-- Each point's blocks are its chunk's two operands and the whole of the parameters. -/
theorem blocks_eq (t : Fin cfg0.N) :
    (rows (iblk m c 0 t) = (chunks (argZ m c) (fun _ => 0) t.val).u ∧ rows (iblk m c 1 t) = (chunks (argZ m c) (fun _ => 0) t.val).v)
    ∧ (row1 (iblk m c 2 t) = Cert.SguRefIdeal.Gating.one (argG m c) ∧ row1 (iblk m c 3 t) = Cert.SguRefIdeal.Gating.one (argB m c))
    ∧ mix (iblk m c 4 t) = Cert.SguRefIdeal.Gating.mix (argW m c) ∧ rows (iblk m c 5 t) = Cert.SguRefIdeal.Gating.bias (argS m c) := by
  have ht : t.val < 16 := lt_of_lt_of_eq t.isLt N_0
  obtain ⟨e0, e1, e2, e3, e4, e5, -⟩ := idx_eq t
  refine ⟨⟨funext fun r => funext fun q => entry (argZ m c) ?_ ?_, funext fun r => funext fun q => entry (argZ m c) ?_ ?_⟩,
    ⟨funext fun q => entry (argG m c) ?_ ?_, funext fun q => entry (argB m c) ?_ ?_⟩, funext fun h => funext fun i => funext fun j => ?_,
    funext fun r => funext fun q => ((entry (V m c main_v2 : Vec Ideal S128x1024 .f32) (i := r) (q := q) ?_ ?_).trans (V_bias m c r q))⟩
  · show win0_0.index t 0 * 128 + 1 * r.val = (128 * t.val + r.val) % 2048; omega
  · show win0_0.index t 1 * 1024 + 1 * q.val = 1024 + q.val; omega
  · show win0_1.index t 0 * 128 + 1 * r.val = (128 * t.val + r.val) % 2048; omega
  · show win0_1.index t 1 * 1024 + 1 * q.val = 2048 + q.val; omega
  · show win0_2.index t 0 * 1 + 1 * 0 = 0; omega
  · show win0_2.index t 1 * 1024 + 1 * q.val = q.val; omega
  · show win0_3.index t 0 * 1 + 1 * 0 = 0; omega
  · show win0_3.index t 1 * 1024 + 1 * q.val = q.val; omega
  · refine congrArg (argW m c) (funext fun a => Fin.ext ?_)
    match a with
    | 0 => show win0_4.index t 0 * 8 + 1 * h.val = h.val; omega
    | 1 => show win0_4.index t 1 * 128 + 1 * i.val = i.val; omega
    | 2 => show win0_4.index t 2 * 128 + 1 * j.val = j.val; omega
  · show win0_5.index t 0 * 128 + 1 * r.val = r.val; omega
  · show win0_5.index t 1 * 1024 + 1 * q.val = q.val; omega

/-- What point `t` stores is the rows of its chunk. -/
theorem stored (t : Fin cfg0.N) (r : Fin 128) (q : Fin 1024) :
    outB (iblk m c 0 t) (iblk m c 1 t) (iblk m c 2 t) (iblk m c 3 t) (iblk m c 4 t) (iblk m c 5 t) (ix2 r q)
      = gated (argZ m c) (argG m c) (argB m c) (argW m c) (argS m c) (Cert.Gating.rowAt t.val r) q := by
  have ht : t.val < 16 := lt_of_lt_of_eq t.isLt N_0
  obtain ⟨⟨U, X⟩, ⟨G, B⟩, W, S⟩ := blocks_eq m c t
  refine (outB_apply _ _ _ _ _ _ r q).trans ?_
  rw [chunk, X, G, B, W, S, gated, at_row (fun t r => mixed (chunks (argZ m c) (fun _ => 0) t) _ _ _ _ r q) t.val ht r]
  exact congrArg (fun a : EReal => gelu a * _) (congrFun (congrFun U r) q)

/-- The result array is the gate times the mixed rows. -/
theorem final : (dats m 0 c).arrAt 6 cfg0.N = res m c := by
  refine (dats m 0 c).arrAt_eq_of_covers 6 _ (by decide +kernel) fun t hf y => ?_
  rw [after0_6]
  frame_out
  have ht : t.val < 16 := lt_of_lt_of_eq t.isLt N_0
  obtain ⟨-, -, -, -, -, -, e6⟩ := idx_eq t
  obtain ⟨r, hr⟩ : ∃ r : Fin 128, r.val = (y 0).val := ⟨⟨(y 0).val, (y 0).isLt⟩, rfl⟩
  obtain ⟨q, hq⟩ : ∃ q : Fin 1024, q.val = (y 1).val := ⟨⟨(y 1).val, (y 1).isLt⟩, rfl⟩
  have K := (entry (outB (iblk m c 0 t) (iblk m c 1 t) (iblk m c 2 t) (iblk m c 3 t) (iblk m c 4 t) (iblk m c 5 t)) (j := (win0 6).xinj (grid0.coords t) y)
    hr.symm hq.symm).trans (stored m c t r q)
  rw [cast_eq]
  unfold k0_pay9 k0_pay10
  rw [View.ld_unit_zero (S := S128x1024) hz, View.ld_unit_zero (S := S1x1024) hz, View.ld_unit_zero (S := S1x1024) hz]
  refine Eq.trans K ?_
  refine (entry (res m c) (i := Cert.Gating.rowAt t.val r) (q := q) ?_ ?_).symm
  · show win0_6.index t 0 * 128 + 1 * (y 0).val = (128 * t.val + r.val) % 2048; omega
  · show win0_6.index t 1 * 1024 + 1 * (y 1).val = q.val; omega

end Cert.SguFwdIdeal.Gating

namespace Cert.SguFwdRefIdeal.Gating

open Cert.SguFwdRefIdeal Cert.SguFwdRefIdeal.Read Idealize.ShloMosaic Idealize.ShloMosaic.Tactic
open Cert.Gating
open Cert.SguRefIdeal.Gating (gated)

variable (X : S2048x3072.Idx → EReal) (G B : S1x1024.Idx → EReal) (W : S8x128x128.Idx → EReal) (S : S8x128.Idx → EReal)

/-- The reference's result. -/
theorem v65_apply (i : Fin 2048) (q : Fin 1024) : val_main_v65 (F := Ideal) X G B W S (ix2 i q) = gated X G B W S i q := by
  have hu : val_main_v17 (F := Ideal) X (ix2 i q) = _ := Cert.SguRefIdeal.Gating.v25_apply X i q
  have hv : val_main_v64 (F := Ideal) X G B W S (ix2 i q) = _ := Cert.SguRefIdeal.Gating.v83_apply X (fun _ => 0) G B W S i q
  unfold val_main_v65
  pointwise
  rw [hu, hv]
  rfl

end Cert.SguFwdRefIdeal.Gating

namespace Cert.Gating.Forward

open Idealize.ShloMosaic Idealize.ShloMosaic.Tactic Idealize.SL.Sem
open Cert.SguFwdRefIdeal (main_arg0 main_arg1 main_arg2 main_arg3 main_arg4)
open Cert.SguFwdRefIdeal.Read Cert.SguFwdRefIdeal.Gating

attribute [local instance] Cert.SguFwd.Gen.facts Cert.SguFwdIdeal.Gen.facts Cert.SguFwdRefIdeal.Gen.facts

/-- The kernel, in its own arithmetic, ends with its arguments unchanged and every counter at zero. -/
theorem frame_kernel : Cert.quiescent_SguFwd := fun m ρ _ => Cert.SguFwd.Gen.frame m ρ

/-- The same of the kernel over the extended reals. -/
theorem frame_kernelIdeal : Cert.quiescent_SguFwdIdeal := fun m ρ _ => Cert.SguFwdIdeal.Gen.frame m ρ

/-- The same of the reference over the extended reals. -/
theorem frame_referenceIdeal : Cert.quiescent_SguFwdRefIdeal := fun m ρ _ =>
  (θ_run Cert.SguFwdRefIdeal.defs _ _).mono (fun r h => ⟨fun c => (h c).2, sem_eq_zero_of_no_sems (by decide) r.2⟩)
    (Cert.SguFwdRefIdeal.Value.run (F := Ideal) m ρ)

/-- From equal arguments the kernel and the reference end with equal gated rows, over the extended reals, whatever the arguments. -/
theorem value : Cert.algebraic_SguFwdIdeal_SguFwdRefIdeal := by
  intro m g m' g' _ ha
  refine ⟨Cert.SguFwdIdeal.Gating.res m, ?_, ?_⟩
  · refine (θ_run Cert.SguFwdIdeal.defs _ _).mono (fun r h c => ?_) (Cert.SguFwdIdeal.Value.run_blocks (F := Ideal) m g)
    obtain ⟨h0, hk⟩ := h c
    exact ⟨h0.trans (Cert.SguFwdIdeal.Gating.final m c), hk⟩
  · refine (θ_run Cert.SguFwdRefIdeal.defs _ _).mono (fun r h c => ?_) (Cert.SguFwdRefIdeal.Value.run (F := Ideal) m' g')
    obtain ⟨h0, hk⟩ := h c
    obtain ⟨a0, a1, a2, a3, a4⟩ := ha c
    refine ⟨h0.trans ?_, hk⟩
    · refine (val_main_v65_eq _ _).trans ?_
      show val_main_v65 (F := Ideal) (m' (c.tc.loc main_arg0)) (m' (c.tc.loc main_arg1)) (m' (c.tc.loc main_arg2)) (m' (c.tc.loc main_arg3)) (m' (c.tc.loc main_arg4)) = _
      rw [a0, a1, a2, a3, a4]
      funext i
      exact (congrArg _ (idx2 i)).trans (v65_apply _ _ _ _ _ (i 0) (i 1))

end Cert.Gating.Forward
-- ==== Proof.lean ====
module

public import proofs.«01_k».proof.Defs
public import proofs.«01_k».proof.Proof.ConvClaim
public import proofs.«01_k».proof.Proof.ProductClaims
public import proofs.«01_k».proof.Proof.GatingClaim
public import proofs.«01_k».proof.Proof.NormCatClaim
public import proofs.«01_k».proof.Proof.NormMidClaim
public import proofs.«01_k».proof.Proof.NormFirstClaim
public import Idealize.ShloMosaic.Adequacy
public import Idealize.ShloMosaic.Init
public import proofs.«01_k».proof.Proof.AdamClaims
public import proofs.«01_k».proof.Proof.AdamWide
public import proofs.«01_k».proof.Proof.NormLossClaim
public import proofs.«01_k».proof.Proof.NormFwd
public import proofs.«01_k».proof.Proof.GatingFwd

@[expose] public section

noncomputable section

namespace Cert.Proof

open Idealize.ShloMosaic Idealize.ShloMosaic.Tactic Idealize.SL.Sem

/-- Everything the certificate claims. -/
theorem claim : Cert.Claim := ⟨Cert.Kernel.Gen.facts, Cert.KernelIdeal.Gen.facts, Cert.ReferenceIdeal.Gen.facts,
  Cert.DownDw.Gen.facts, Cert.DownDwIdeal.Gen.facts, Cert.DownDwRefIdeal.Gen.facts,
  Cert.DownDx.Gen.facts, Cert.DownDxIdeal.Gen.facts, Cert.DownDxRefIdeal.Gen.facts,
  Cert.UpDw.Gen.facts, Cert.UpDwIdeal.Gen.facts, Cert.UpDwRefIdeal.Gen.facts,
  Cert.UpDx.Gen.facts, Cert.UpDxIdeal.Gen.facts, Cert.UpDxRefIdeal.Gen.facts,
  Cert.OutDw.Gen.facts, Cert.OutDwIdeal.Gen.facts, Cert.OutDwRefIdeal.Gen.facts,
  Cert.OutDx.Gen.facts, Cert.OutDxIdeal.Gen.facts, Cert.OutDxRefIdeal.Gen.facts,
  Cert.InDw.Gen.facts, Cert.InDwIdeal.Gen.facts, Cert.InDwRefIdeal.Gen.facts,
  Cert.InDx.Gen.facts, Cert.InDxIdeal.Gen.facts, Cert.InDxRefIdeal.Gen.facts,
  Cert.In.Gen.facts, Cert.InIdeal.Gen.facts, Cert.InRefIdeal.Gen.facts,
  Cert.Out.Gen.facts, Cert.OutIdeal.Gen.facts, Cert.OutRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Sgu.Gen.facts, Cert.SguIdeal.Gen.facts, Cert.SguRefIdeal.Gen.facts,
  Cert.CatBwd.Gen.facts, Cert.CatBwdIdeal.Gen.facts, Cert.CatBwdRefIdeal.Gen.facts,
  Cert.MidBwd.Gen.facts, Cert.MidBwdIdeal.Gen.facts, Cert.MidBwdRefIdeal.Gen.facts,
  Cert.FirstBwd.Gen.facts, Cert.FirstBwdIdeal.Gen.facts, Cert.FirstBwdRefIdeal.Gen.facts,
  Cert.AdamAda.Gen.facts, Cert.AdamAdaIdeal.Gen.facts, Cert.AdamAdaRefIdeal.Gen.facts,
  Cert.AdamIn.Gen.facts, Cert.AdamInIdeal.Gen.facts, Cert.AdamInRefIdeal.Gen.facts,
  Cert.AdamUp.Gen.facts, Cert.AdamUpIdeal.Gen.facts, Cert.AdamUpRefIdeal.Gen.facts,
  Cert.AdamOut.Gen.facts, Cert.AdamOutIdeal.Gen.facts, Cert.AdamOutRefIdeal.Gen.facts,
  Cert.AdamDown.Gen.facts, Cert.AdamDownIdeal.Gen.facts, Cert.AdamDownRefIdeal.Gen.facts,
  Cert.AdamWide.Gen.facts, Cert.AdamWideIdeal.Gen.facts, Cert.AdamWideRefIdeal.Gen.facts,
  Cert.Final.Gen.facts, Cert.FinalIdeal.Gen.facts, Cert.FinalRefIdeal.Gen.facts,
  Cert.PreNorm.Gen.facts, Cert.PreNormIdeal.Gen.facts, Cert.PreNormRefIdeal.Gen.facts,
  Cert.CatNorm.Gen.facts, Cert.CatNormIdeal.Gen.facts, Cert.CatNormRefIdeal.Gen.facts,
  Cert.MidFwd.Gen.facts, Cert.MidFwdIdeal.Gen.facts, Cert.MidFwdRefIdeal.Gen.facts,
  Cert.SguFwd.Gen.facts, Cert.SguFwdIdeal.Gen.facts, Cert.SguFwdRefIdeal.Gen.facts,
  Cert.Conv.frame_kernel, Cert.Conv.frame_kernelIdeal, Cert.Conv.frame_referenceIdeal,
  fun m ρ _ => Cert.DownDw.Gen.frame m ρ, fun m ρ _ => Cert.DownDwIdeal.Gen.frame m ρ, Cert.Product.frameDownDwRef,
  fun m ρ _ => Cert.DownDx.Gen.frame m ρ, fun m ρ _ => Cert.DownDxIdeal.Gen.frame m ρ, Cert.Product.frameDownDxRef,
  fun m ρ _ => Cert.UpDw.Gen.frame m ρ, fun m ρ _ => Cert.UpDwIdeal.Gen.frame m ρ, Cert.Product.frameUpDwRef,
  fun m ρ _ => Cert.UpDx.Gen.frame m ρ, fun m ρ _ => Cert.UpDxIdeal.Gen.frame m ρ, Cert.Product.frameUpDxRef,
  fun m ρ _ => Cert.OutDw.Gen.frame m ρ, fun m ρ _ => Cert.OutDwIdeal.Gen.frame m ρ, Cert.Product.frameOutDwRef,
  fun m ρ _ => Cert.OutDx.Gen.frame m ρ, fun m ρ _ => Cert.OutDxIdeal.Gen.frame m ρ, Cert.Product.frameOutDxRef,
  fun m ρ _ => Cert.InDw.Gen.frame m ρ, fun m ρ _ => Cert.InDwIdeal.Gen.frame m ρ, Cert.Product.frameInDwRef,
  fun m ρ _ => Cert.InDx.Gen.frame m ρ, fun m ρ _ => Cert.InDxIdeal.Gen.frame m ρ, Cert.Product.frameInDxRef,
  fun m ρ _ => Cert.In.Gen.frame m ρ, fun m ρ _ => Cert.InIdeal.Gen.frame m ρ, Cert.Product.frameInRef,
  fun m ρ _ => Cert.Out.Gen.frame m ρ, fun m ρ _ => Cert.OutIdeal.Gen.frame m ρ, Cert.Product.frameOutRef,
  fun m ρ _ => Cert.Up.Gen.frame m ρ, fun m ρ _ => Cert.UpIdeal.Gen.frame m ρ, Cert.Product.frameUpRef,
  fun m ρ _ => Cert.Down.Gen.frame m ρ, fun m ρ _ => Cert.DownIdeal.Gen.frame m ρ, Cert.Product.frameDownRef,
  Cert.Gating.frame_kernel, Cert.Gating.frame_kernelIdeal, Cert.Gating.frame_referenceIdeal,
  Cert.Norm.Cat.frame_kernel, Cert.Norm.Cat.frame_kernelIdeal, Cert.Norm.Cat.frame_referenceIdeal,
  Cert.Norm.Mid.frame_kernel, Cert.Norm.Mid.frame_kernelIdeal, Cert.Norm.Mid.frame_referenceIdeal,
  Cert.Norm.First.frame_kernel, Cert.Norm.First.frame_kernelIdeal, Cert.Norm.First.frame_referenceIdeal,
  fun m ρ _ => Cert.AdamAda.Gen.frame m ρ, fun m ρ _ => Cert.AdamAdaIdeal.Gen.frame m ρ, Cert.Adam.frame_Ada,
  fun m ρ _ => Cert.AdamIn.Gen.frame m ρ, fun m ρ _ => Cert.AdamInIdeal.Gen.frame m ρ, Cert.Adam.frame_In,
  fun m ρ _ => Cert.AdamUp.Gen.frame m ρ, fun m ρ _ => Cert.AdamUpIdeal.Gen.frame m ρ, Cert.Adam.frame_Up,
  fun m ρ _ => Cert.AdamOut.Gen.frame m ρ, fun m ρ _ => Cert.AdamOutIdeal.Gen.frame m ρ, Cert.Adam.frame_Out,
  fun m ρ _ => Cert.AdamDown.Gen.frame m ρ, fun m ρ _ => Cert.AdamDownIdeal.Gen.frame m ρ, Cert.Adam.frame_Down,
  fun m ρ _ => Cert.AdamWide.Gen.frame m ρ, fun m ρ _ => Cert.AdamWideIdeal.Gen.frame m ρ, Cert.Adam.Wide.frame,
  Cert.Norm.Loss.frame_kernel, Cert.Norm.Loss.frame_kernelIdeal, Cert.Norm.Loss.frame_referenceIdeal,
  Cert.Norm.PreForward.frame_kernel, Cert.Norm.PreForward.frame_kernelIdeal, Cert.Norm.PreForward.frame_referenceIdeal,
  Cert.Norm.CatForward.frame_kernel, Cert.Norm.CatForward.frame_kernelIdeal, Cert.Norm.CatForward.frame_referenceIdeal,
  Cert.Norm.MidForward.frame_kernel, Cert.Norm.MidForward.frame_kernelIdeal, Cert.Norm.MidForward.frame_referenceIdeal,
  Cert.Gating.Forward.frame_kernel, Cert.Gating.Forward.frame_kernelIdeal, Cert.Gating.Forward.frame_referenceIdeal,
  trivial, Cert.Conv.value, trivial, Cert.Product.valueDownDw, trivial, Cert.Product.valueDownDx, trivial, Cert.Product.valueUpDw, trivial, Cert.Product.valueUpDx, trivial, Cert.Product.valueOutDw, trivial, Cert.Product.valueOutDx, trivial, Cert.Product.valueInDw, trivial, Cert.Product.valueInDx, trivial, Cert.Product.valueIn, trivial, Cert.Product.valueOut, trivial, Cert.Product.valueUp, trivial, Cert.Product.valueDown, trivial, Cert.Gating.value, trivial, Cert.Norm.Cat.value, trivial, Cert.Norm.Mid.value, trivial, Cert.Norm.First.value,
  trivial, Cert.Adam.value_Ada, trivial, Cert.Adam.value_In, trivial, Cert.Adam.value_Up, trivial, Cert.Adam.value_Out, trivial, Cert.Adam.value_Down, trivial, Cert.Adam.Wide.value,
  trivial, Cert.Norm.Loss.value, trivial, Cert.Norm.PreForward.value, trivial, Cert.Norm.CatForward.value, trivial, Cert.Norm.MidForward.value, trivial, Cert.Gating.Forward.value⟩

end Cert.Proof

end
